-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "start" .f32 0xFCF0BDC2#32 ⊥
  ∧ IdealRules.named_const.Statement Cert.KernelIdeal.κ "scale_log2" .f32 0x3E16C740#32 (((3424635 / 33554432) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v52)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v61_0)) (v1 : (c : Dev Cert.Kernel5Ideal.nD) → Buf (Elt Ideal) ((c.tc : Thread Cert.Kernel5Ideal.nD Cert.Kernel5Ideal.τ).loc Cert.Kernel5Ideal.main_v61_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v61_0) = v0 c
          ∧ r.2.mem ((c.tc : Thread Cert.Kernel5Ideal.nD Cert.Kernel5Ideal.τ).loc Cert.Kernel5Ideal.main_v61_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_v105) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v56)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v56) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v33)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v33) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4x8x8192x96 : Shape := ⟨4, ![4, 8, 8192, 96]⟩
abbrev S4x8x8192x64 : Shape := ⟨4, ![4, 8, 8192, 64]⟩
abbrev S_ : Shape := ⟨0, ![]⟩
abbrev S4x8x8192x128 : Shape := ⟨4, ![4, 8, 8192, 128]⟩
abbrev S4x8192x8x128 : Shape := ⟨4, ![4, 8192, 8, 128]⟩
abbrev S4x8192x1024 : Shape := ⟨3, ![4, 8192, 1024]⟩
abbrev S4x8192x8x64 : Shape := ⟨4, ![4, 8192, 8, 64]⟩
abbrev S4x8192x512 : Shape := ⟨3, ![4, 8192, 512]⟩
abbrev S4x8192x1536 : Shape := ⟨3, ![4, 8192, 1536]⟩
abbrev S1 : Shape := ⟨1, ![1]⟩
abbrev S1x1x1 : Shape := ⟨3, ![1, 1, 1]⟩
abbrev S512 : Shape := ⟨1, ![512]⟩
abbrev S1x512x1 : Shape := ⟨3, ![1, 512, 1]⟩
abbrev S1x1x512 : Shape := ⟨3, ![1, 1, 512]⟩
abbrev S1x512x512 : Shape := ⟨3, ![1, 512, 512]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1x1024x128 : Shape := ⟨3, ![1, 1024, 128]⟩
abbrev S16x512x1024 : Shape := ⟨3, ![16, 512, 1024]⟩
abbrev S16x128x512 : Shape := ⟨3, ![16, 128, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1024x256 : Shape := ⟨2, ![1024, 256]⟩
abbrev S8x1024 : Shape := ⟨2, ![8, 1024]⟩
abbrev S64x1024 : Shape := ⟨2, ![64, 1024]⟩
abbrev S1x4096x256 : Shape := ⟨3, ![1, 4096, 256]⟩
abbrev S4096x256 : Shape := ⟨2, ![4096, 256]⟩
abbrev S4096x1024 : Shape := ⟨2, ![4096, 1024]⟩
abbrev S512x1024 : Shape := ⟨2, ![512, 1024]⟩
abbrev S1x512x1024 : Shape := ⟨3, ![1, 512, 1024]⟩
abbrev S64x8x1024 : Shape := ⟨3, ![64, 8, 1024]⟩
abbrev S1x3584x256 : Shape := ⟨3, ![1, 3584, 256]⟩
abbrev S3584x256 : Shape := ⟨2, ![3584, 256]⟩
abbrev S3584x1024 : Shape := ⟨2, ![3584, 1024]⟩
abbrev S512x512 : Shape := ⟨2, ![512, 512]⟩
abbrev S1x512x256 : Shape := ⟨3, ![1, 512, 256]⟩
abbrev S512x256 : Shape := ⟨2, ![512, 256]⟩
abbrev S8x512 : Shape := ⟨2, ![8, 512]⟩
abbrev S64x8x512 : Shape := ⟨3, ![64, 8, 512]⟩
abbrev S1x2560x256 : Shape := ⟨3, ![1, 2560, 256]⟩
abbrev S2560x256 : Shape := ⟨2, ![2560, 256]⟩
abbrev S2560x1024 : Shape := ⟨2, ![2560, 1024]⟩
abbrev S1x1536x256 : Shape := ⟨3, ![1, 1536, 256]⟩
abbrev S1536x256 : Shape := ⟨2, ![1536, 256]⟩
abbrev S1536x1024 : Shape := ⟨2, ![1536, 1024]⟩
abbrev S1024 : Shape := ⟨1, ![1024]⟩
abbrev S1x1024 : Shape := ⟨2, ![1, 1024]⟩
abbrev S1x64x512 : Shape := ⟨3, ![1, 64, 512]⟩
abbrev S64x512 : Shape := ⟨2, ![64, 512]⟩
abbrev S1x512 : Shape := ⟨2, ![1, 512]⟩
abbrev S128x1024 : Shape := ⟨2, ![128, 1024]⟩
abbrev S1024x128 : Shape := ⟨2, ![1024, 128]⟩

abbrev nBuf : Space → Nat
  | .hbm => 39
  | .vmem => 11
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x64, .f32⟩
  | .hbm, ⟨3, _⟩ => ⟨S_, .i32⟩
  | .hbm, ⟨4, _⟩ => ⟨S_, .f32⟩
  | .hbm, ⟨5, _⟩ => ⟨S4x8x8192x128, .f32⟩
  | .hbm, ⟨6, _⟩ => ⟨S4x8192x8x128, .f32⟩
  | .hbm, ⟨7, _⟩ => ⟨S4x8192x1024, .f32⟩
  | .hbm, ⟨8, _⟩ => ⟨S4x8192x1024, .bf16⟩
  | .hbm, ⟨9, _⟩ => ⟨S_, .i32⟩
  | .hbm, ⟨10, _⟩ => ⟨S_, .f32⟩
  | .hbm, ⟨11, _⟩ => ⟨S4x8x8192x128, .f32⟩
  | .hbm, ⟨12, _⟩ => ⟨S4x8192x8x128, .f32⟩
  | .hbm, ⟨13, _⟩ => ⟨S4x8192x1024, .f32⟩
  | .hbm, ⟨14, _⟩ => ⟨S4x8192x8x64, .f32⟩
  | .hbm, ⟨15, _⟩ => ⟨S4x8192x512, .f32⟩
  | .hbm, ⟨16, _⟩ => ⟨S4x8192x1536, .f32⟩
  | .hbm, ⟨17, _⟩ => ⟨S4x8192x1536, .bf16⟩
  | .hbm, ⟨18, _⟩ => ⟨S1, .i32⟩
  | .hbm, ⟨19, _⟩ => ⟨S1x1x1, .i32⟩
  | .hbm, ⟨20, _⟩ => ⟨S512, .i32⟩
  | .hbm, ⟨21, _⟩ => ⟨S1x512x1, .i32⟩
  | .hbm, ⟨22, _⟩ => ⟨S512, .i32⟩
  | .hbm, ⟨23, _⟩ => ⟨S1x1x512, .i32⟩
  | .hbm, ⟨24, _⟩ => ⟨S_, .i32⟩
  | .hbm, ⟨25, _⟩ => ⟨S1x1x1, .i32⟩
  | .hbm, ⟨26, _⟩ => ⟨S1x1x1, .i32⟩
  | .hbm, ⟨27, _⟩ => ⟨S1x1x512, .i32⟩
  | .hbm, ⟨28, _⟩ => ⟨S1x1x512, .i32⟩
  | .hbm, ⟨29, _⟩ => ⟨S1x512x512, .i32⟩
  | .hbm, ⟨30, _⟩ => ⟨S1x512x512, .i32⟩
  | .hbm, ⟨31, _⟩ => ⟨S1x512x512, .i1⟩
  | .hbm, ⟨32, _⟩ => ⟨S_, .f32⟩
  | .hbm, ⟨33, _⟩ => ⟨S_, .f32⟩
  | .hbm, ⟨34, _⟩ => ⟨S1x512x512, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S4x8192x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x512, .f32⟩
  | .local _ .vmem, ⟨7, _⟩ => ⟨S1x1024x128, .bf16⟩
  | .local _ .vmem, ⟨8, _⟩ => ⟨S1x1024x128, .bf16⟩
  | .local _ .vmem, ⟨9, _⟩ => ⟨S16x512x1024, .f32⟩
  | .local _ .vmem, ⟨10, _⟩ => ⟨S16x128x512, .bf16⟩
  | _, _ => ⟨S4x8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_20 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v54 : BitVec 32 := Scalar.subi v50 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_22 : BitVec 32 := 1#32
  ⟨c0_i32_20, v58, c1_i32_22⟩
def k0_mult1 (i : grid0.Coords) (k0_t1 : Fin (k0_t1_loop i).trips) : BitVec 32 :=
  let c8_i32_105 : BitVec 32 := 8#32
  let c0_i32_20 : BitVec 32 := 0#32
  let c1_i32_22 : BitVec 32 := 1#32
  let arg9 : BitVec 32 := Scf.iv c0_i32_20 c1_i32_22 k0_t1
  let v236 : BitVec 32 := Scalar.muli c8_i32_105 arg9
  let c512_i32_106 : BitVec 32 := 512#32
  let v237 : BitVec 32 := Scalar.muli v236 c512_i32_106
  v237
def k0_off1 (i : grid0.Coords) (k0_t1 : Fin (k0_t1_loop i).trips) : Fin 3 → Nat :=
  let c0_107 : Index := 0#32
  let c8_i32_105 : BitVec 32 := 8#32
  let c0_i32_20 : BitVec 32 := 0#32
  let c1_i32_22 : BitVec 32 := 1#32
  let arg9 : BitVec 32 := Scf.iv c0_i32_20 c1_i32_22 k0_t1
  let v236 : BitVec 32 := Scalar.muli c8_i32_105 arg9
  let c512_i32_106 : BitVec 32 := 512#32
  let v237 : BitVec 32 := Scalar.muli v236 c512_i32_106
  let v238 : BitVec 32 := v237
  let v239 : Index := Scalar.indexCast v238
  let c0_108 : Index := 0#32
  ![0, v239.toNat, 0]
def k0_off2 (i : grid0.Coords) (k0_t1 : Fin (k0_t1_loop i).trips) (c0_i32_111 : BitVec 32) : Fin 3 → Nat :=
  let c8_i32_105 : BitVec 32 := 8#32
  let c0_i32_20 : BitVec 32 := 0#32
  let c1_i32_22 : BitVec 32 := 1#32
  let arg9 : BitVec 32 := Scf.iv c0_i32_20 c1_i32_22 k0_t1
  let v236 : BitVec 32 := Scalar.muli c8_i32_105 arg9
  let v246 : BitVec 32 := Scalar.addi v236 c0_i32_111
  let v247 : Index := Scalar.indexCast v246
  let c0_112 : Index := 0#32
  let c0_113 : Index := 0#32
  ![v247.toNat, 0, 0]
@[reducible] def k0_t2_loop (i : grid0.Coords) : Scf.Loop 32 :=
  let c0_i32_20 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v54 : BitVec 32 := Scalar.subi v50 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let v55 : BitVec 32 := Scalar.addi c0_i32_20 v54
  let c1_i32_23 : BitVec 32 := 1#32
  ⟨v58, v55, c1_i32_23⟩
def k0_mult2 (i : grid0.Coords) (k0_t2 : Fin (k0_t2_loop i).trips) : BitVec 32 :=
  let c8_i32_105 : BitVec 32 := 8#32
  let c0_i32_20 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v54 : BitVec 32 := Scalar.subi v50 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg9 : BitVec 32 := Scf.iv v58 c1_i32_23 k0_t2
  let v236 : BitVec 32 := Scalar.muli c8_i32_105 arg9
  let c512_i32_106 : BitVec 32 := 512#32
  let v237 : BitVec 32 := Scalar.muli v236 c512_i32_106
  v237
def k0_off3 (i : grid0.Coords) (k0_t2 : Fin (k0_t2_loop i).trips) : Fin 3 → Nat :=
  let c0_107 : Index := 0#32
  let c8_i32_105 : BitVec 32 := 8#32
  let c0_i32_20 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v54 : BitVec 32 := Scalar.subi v50 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg9 : BitVec 32 := Scf.iv v58 c1_i32_23 k0_t2
  let v236 : BitVec 32 := Scalar.muli c8_i32_105 arg9
  let c512_i32_106 : BitVec 32 := 512#32
  let v237 : BitVec 32 := Scalar.muli v236 c512_i32_106
  let v238 : BitVec 32 := v237
  let v239 : Index := Scalar.indexCast v238
  let c0_108 : Index := 0#32
  ![0, v239.toNat, 0]
def k0_off4 (i : grid0.Coords) (k0_t2 : Fin (k0_t2_loop i).trips) (c0_i32_111 : BitVec 32) : Fin 3 → Nat :=
  let c8_i32_105 : BitVec 32 := 8#32
  let c0_i32_20 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v54 : BitVec 32 := Scalar.subi v50 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg9 : BitVec 32 := Scf.iv v58 c1_i32_23 k0_t2
  let v236 : BitVec 32 := Scalar.muli c8_i32_105 arg9
  let v246 : BitVec 32 := Scalar.addi v236 c0_i32_111
  let v247 : Index := Scalar.indexCast v246
  let c0_112 : Index := 0#32
  let c0_113 : Index := 0#32
  ![v247.toNat, 0, 0]
def k0_cond2 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_24 : BitVec 32 := 0#32
  let v62 : BitVec 1 := Scalar.cmpi .sgt v52 c0_i32_24
  let v63 : BitVec 32 := Scalar.extui v62
  let c0_i32_25 : BitVec 32 := 0#32
  let v64 : BitVec 1 := Scalar.cmpi .slt v52 c0_i32_25
  let v65 : BitVec 32 := Scalar.extui v64
  let v66 : BitVec 32 := Scalar.subi v63 v65
  let c2_i32 : BitVec 32 := 2#32
  let c0_i32_26 : BitVec 32 := 0#32
  let v67 : BitVec 1 := Scalar.cmpi .sgt c2_i32 c0_i32_26
  let v68 : BitVec 32 := Scalar.extui v67
  let c0_i32_27 : BitVec 32 := 0#32
  let v69 : BitVec 1 := Scalar.cmpi .slt c2_i32 c0_i32_27
  let v70 : BitVec 32 := Scalar.extui v69
  let v71 : BitVec 32 := Scalar.subi v68 v70
  let v72 : BitVec 1 := Scalar.cmpi .ne v66 v71
  let v73 : BitVec 32 := Scalar.remsi v52 c2_i32
  let c0_i32_28 : BitVec 32 := 0#32
  let v74 : BitVec 1 := Scalar.cmpi .ne v73 c0_i32_28
  let v75 : BitVec 1 := Scalar.andi v72 v74
  let v61 : BitVec 32 := Scalar.divsi v52 c2_i32
  let c1_i32_29 : BitVec 32 := 1#32
  let v76 : BitVec 32 := Scalar.subi v61 c1_i32_29
  let v77 : BitVec 32 := Scalar.select v75 v76 v61
  let c0_i32_30 : BitVec 32 := 0#32
  let v78 : BitVec 32 := Scalar.maxsi v77 c0_i32_30
  let c3_i32 : BitVec 32 := 3#32
  let v79 : BitVec 32 := Scalar.minsi v78 c3_i32
  let c0_i32_31 : BitVec 32 := 0#32
  let v80 : BitVec 1 := Scalar.cmpi .ne v79 c0_i32_31
  v80

def k0_cond3 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_24 : BitVec 32 := 0#32
  let v62 : BitVec 1 := Scalar.cmpi .sgt v52 c0_i32_24
  let v63 : BitVec 32 := Scalar.extui v62
  let c0_i32_25 : BitVec 32 := 0#32
  let v64 : BitVec 1 := Scalar.cmpi .slt v52 c0_i32_25
  let v65 : BitVec 32 := Scalar.extui v64
  let v66 : BitVec 32 := Scalar.subi v63 v65
  let c2_i32 : BitVec 32 := 2#32
  let c0_i32_26 : BitVec 32 := 0#32
  let v67 : BitVec 1 := Scalar.cmpi .sgt c2_i32 c0_i32_26
  let v68 : BitVec 32 := Scalar.extui v67
  let c0_i32_27 : BitVec 32 := 0#32
  let v69 : BitVec 1 := Scalar.cmpi .slt c2_i32 c0_i32_27
  let v70 : BitVec 32 := Scalar.extui v69
  let v71 : BitVec 32 := Scalar.subi v68 v70
  let v72 : BitVec 1 := Scalar.cmpi .ne v66 v71
  let v73 : BitVec 32 := Scalar.remsi v52 c2_i32
  let c0_i32_28 : BitVec 32 := 0#32
  let v74 : BitVec 1 := Scalar.cmpi .ne v73 c0_i32_28
  let v75 : BitVec 1 := Scalar.andi v72 v74
  let v61 : BitVec 32 := Scalar.divsi v52 c2_i32
  let c1_i32_29 : BitVec 32 := 1#32
  let v76 : BitVec 32 := Scalar.subi v61 c1_i32_29
  let v77 : BitVec 32 := Scalar.select v75 v76 v61
  let c0_i32_30 : BitVec 32 := 0#32
  let v78 : BitVec 32 := Scalar.maxsi v77 c0_i32_30
  let c3_i32 : BitVec 32 := 3#32
  let v79 : BitVec 32 := Scalar.minsi v78 c3_i32
  let c1_i32_105 : BitVec 32 := 1#32
  let v236 : BitVec 32 := Scalar.subi v79 c1_i32_105
  let c0_i32_106 : BitVec 32 := 0#32
  let v237 : BitVec 1 := Scalar.cmpi .ne v236 c0_i32_106
  v237

def k0_cond4 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_24 : BitVec 32 := 0#32
  let v62 : BitVec 1 := Scalar.cmpi .sgt v52 c0_i32_24
  let v63 : BitVec 32 := Scalar.extui v62
  let c0_i32_25 : BitVec 32 := 0#32
  let v64 : BitVec 1 := Scalar.cmpi .slt v52 c0_i32_25
  let v65 : BitVec 32 := Scalar.extui v64
  let v66 : BitVec 32 := Scalar.subi v63 v65
  let c2_i32 : BitVec 32 := 2#32
  let c0_i32_26 : BitVec 32 := 0#32
  let v67 : BitVec 1 := Scalar.cmpi .sgt c2_i32 c0_i32_26
  let v68 : BitVec 32 := Scalar.extui v67
  let c0_i32_27 : BitVec 32 := 0#32
  let v69 : BitVec 1 := Scalar.cmpi .slt c2_i32 c0_i32_27
  let v70 : BitVec 32 := Scalar.extui v69
  let v71 : BitVec 32 := Scalar.subi v68 v70
  let v72 : BitVec 1 := Scalar.cmpi .ne v66 v71
  let v73 : BitVec 32 := Scalar.remsi v52 c2_i32
  let c0_i32_28 : BitVec 32 := 0#32
  let v74 : BitVec 1 := Scalar.cmpi .ne v73 c0_i32_28
  let v75 : BitVec 1 := Scalar.andi v72 v74
  let v61 : BitVec 32 := Scalar.divsi v52 c2_i32
  let c1_i32_29 : BitVec 32 := 1#32
  let v76 : BitVec 32 := Scalar.subi v61 c1_i32_29
  let v77 : BitVec 32 := Scalar.select v75 v76 v61
  let c0_i32_30 : BitVec 32 := 0#32
  let v78 : BitVec 32 := Scalar.maxsi v77 c0_i32_30
  let c3_i32 : BitVec 32 := 3#32
  let v79 : BitVec 32 := Scalar.minsi v78 c3_i32
  let c1_i32_105 : BitVec 32 := 1#32
  let v236 : BitVec 32 := Scalar.subi v79 c1_i32_105
  let c1_i32_107 : BitVec 32 := 1#32
  let v239 : BitVec 32 := Scalar.subi v236 c1_i32_107
  let c0_i32_108 : BitVec 32 := 0#32
  let v240 : BitVec 1 := Scalar.cmpi .ne v239 c0_i32_108
  v240

def k0_mult3 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  v242
def k0_off5 (i : grid0.Coords) : Fin 3 → Nat :=
  let c0_110 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let v244 : Index := Scalar.indexCast v243
  let c0_111 : Index := 0#32
  ![0, v244.toNat, 0]
def k0_off6 (i : grid0.Coords) (c0_i32_114 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v251 : BitVec 32 := Scalar.addi v53 c0_i32_114
  let v252 : Index := Scalar.indexCast v251
  let c0_115 : Index := 0#32
  let c0_116 : Index := 0#32
  ![v252.toNat, 0, 0]
def k0_mult4 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let c3584_i32 : BitVec 32 := 3584#32
  let v319 : BitVec 32 := Scalar.addi v243 c3584_i32
  v319
def k0_off7 (i : grid0.Coords) : Fin 3 → Nat :=
  let c0_142 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let c3584_i32 : BitVec 32 := 3584#32
  let v319 : BitVec 32 := Scalar.addi v243 c3584_i32
  let v320 : BitVec 32 := v319
  let v321 : Index := Scalar.indexCast v320
  let c0_143 : Index := 0#32
  ![0, v321.toNat, 0]
def k0_off8 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c7_i32 : BitVec 32 := 7#32
  let v331 : BitVec 32 := Scalar.addi v53 c7_i32
  let v332 : Index := Scalar.indexCast v331
  let c0_149 : Index := 0#32
  let c512 : Index := 512#32
  ![v332.toNat, 0, 512]
def k0_mult5 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  v242
def k0_off9 (i : grid0.Coords) : Fin 3 → Nat :=
  let c0_110 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let v244 : Index := Scalar.indexCast v243
  let c0_111 : Index := 0#32
  ![0, v244.toNat, 0]
def k0_off10 (i : grid0.Coords) (c0_i32_114 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v251 : BitVec 32 := Scalar.addi v53 c0_i32_114
  let v252 : Index := Scalar.indexCast v251
  let c0_115 : Index := 0#32
  let c0_116 : Index := 0#32
  ![v252.toNat, 0, 0]
def k0_mult6 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let c2560_i32 : BitVec 32 := 2560#32
  let v301 : BitVec 32 := Scalar.addi v243 c2560_i32
  v301
def k0_off11 (i : grid0.Coords) : Fin 3 → Nat :=
  let c0_136 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_109 : BitVec 32 := 512#32
  let v242 : BitVec 32 := Scalar.muli v53 c512_i32_109
  let v243 : BitVec 32 := v242
  let c2560_i32 : BitVec 32 := 2560#32
  let v301 : BitVec 32 := Scalar.addi v243 c2560_i32
  let v302 : BitVec 32 := v301
  let v303 : Index := Scalar.indexCast v302
  let c0_137 : Index := 0#32
  ![0, v303.toNat, 0]
def k0_off12 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c5_i32 : BitVec 32 := 5#32
  let v313 : BitVec 32 := Scalar.addi v53 c5_i32
  let v314 : Index := Scalar.indexCast v313
  let c0_143 : Index := 0#32
  let c512 : Index := 512#32
  ![v314.toNat, 0, 512]
def k0_mult7 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_107 : BitVec 32 := 512#32
  let v239 : BitVec 32 := Scalar.muli v53 c512_i32_107
  v239
def k0_off13 (i : grid0.Coords) : Fin 3 → Nat :=
  let c0_108 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_107 : BitVec 32 := 512#32
  let v239 : BitVec 32 := Scalar.muli v53 c512_i32_107
  let v240 : BitVec 32 := v239
  let v241 : Index := Scalar.indexCast v240
  let c0_109 : Index := 0#32
  ![0, v241.toNat, 0]
def k0_off14 (i : grid0.Coords) (c0_i32_112 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v248 : BitVec 32 := Scalar.addi v53 c0_i32_112
  let v249 : Index := Scalar.indexCast v248
  let c0_113 : Index := 0#32
  let c0_114 : Index := 0#32
  ![v249.toNat, 0, 0]
def k0_mult8 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_107 : BitVec 32 := 512#32
  let v239 : BitVec 32 := Scalar.muli v53 c512_i32_107
  let v240 : BitVec 32 := v239
  let c1536_i32 : BitVec 32 := 1536#32
  let v280 : BitVec 32 := Scalar.addi v240 c1536_i32
  v280
def k0_off15 (i : grid0.Coords) : Fin 3 → Nat :=
  let c0_127 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_107 : BitVec 32 := 512#32
  let v239 : BitVec 32 := Scalar.muli v53 c512_i32_107
  let v240 : BitVec 32 := v239
  let c1536_i32 : BitVec 32 := 1536#32
  let v280 : BitVec 32 := Scalar.addi v240 c1536_i32
  let v281 : BitVec 32 := v280
  let v282 : Index := Scalar.indexCast v281
  let c0_128 : Index := 0#32
  ![0, v282.toNat, 0]
def k0_off16 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c3_i32_134 : BitVec 32 := 3#32
  let v292 : BitVec 32 := Scalar.addi v53 c3_i32_134
  let v293 : Index := Scalar.indexCast v292
  let c0_135 : Index := 0#32
  let c512 : Index := 512#32
  ![v293.toNat, 0, 512]
def k0_mult9 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_105 : BitVec 32 := 512#32
  let v236 : BitVec 32 := Scalar.muli v53 c512_i32_105
  v236
def k0_off17 (i : grid0.Coords) : Fin 3 → Nat :=
  let c0_106 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_105 : BitVec 32 := 512#32
  let v236 : BitVec 32 := Scalar.muli v53 c512_i32_105
  let v237 : BitVec 32 := v236
  let v238 : Index := Scalar.indexCast v237
  let c0_107 : Index := 0#32
  ![0, v238.toNat, 0]
def k0_off18 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c0_i32_113 : BitVec 32 := 0#32
  let v250 : BitVec 32 := Scalar.addi v53 c0_i32_113
  let v251 : Index := Scalar.indexCast v250
  let c0_114 : Index := 0#32
  let c0_115 : Index := 0#32
  ![v251.toNat, 0, 0]
def k0_mult10 (i : grid0.Coords) : BitVec 32 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_105 : BitVec 32 := 512#32
  let v236 : BitVec 32 := Scalar.muli v53 c512_i32_105
  let v237 : BitVec 32 := v236
  let c512_i32_117 : BitVec 32 := 512#32
  let v258 : BitVec 32 := Scalar.addi v237 c512_i32_117
  v258
def k0_off19 (i : grid0.Coords) : Fin 3 → Nat :=
  let c0_118 : Index := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c512_i32_105 : BitVec 32 := 512#32
  let v236 : BitVec 32 := Scalar.muli v53 c512_i32_105
  let v237 : BitVec 32 := v236
  let c512_i32_117 : BitVec 32 := 512#32
  let v258 : BitVec 32 := Scalar.addi v237 c512_i32_117
  let v259 : BitVec 32 := v258
  let v260 : Index := Scalar.indexCast v259
  let c0_119 : Index := 0#32
  ![0, v260.toNat, 0]
def k0_off20 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c1_i32_125 : BitVec 32 := 1#32
  let v270 : BitVec 32 := Scalar.addi v53 c1_i32_125
  let v271 : Index := Scalar.indexCast v270
  let c0_126 : Index := 0#32
  let c512 : Index := 512#32
  ![v271.toNat, 0, 512]
@[reducible] def k0_t3_loop (i : grid0.Coords) : Scf.Loop 32 :=
  let c0_i32_33 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v84 : BitVec 32 := Scalar.subi v50 c0_i32_33
  let c1_i32_34 : BitVec 32 := 1#32
  let v86 : BitVec 32 := Scalar.divsi v84 c1_i32_34
  let v87 : BitVec 32 := Scalar.muli v86 c1_i32_34
  let v88 : BitVec 32 := Scalar.addi c0_i32_33 v87
  let c1_i32_35 : BitVec 32 := 1#32
  ⟨c0_i32_33, v88, c1_i32_35⟩
def k0_off21 (i : grid0.Coords) (k0_t3 : Fin (k0_t3_loop i).trips) (c0_i32_106 : BitVec 32) : Fin 3 → Nat :=
  let c8_i32_105 : BitVec 32 := 8#32
  let c0_i32_33 : BitVec 32 := 0#32
  let c1_i32_35 : BitVec 32 := 1#32
  let arg9 : BitVec 32 := Scf.iv c0_i32_33 c1_i32_35 k0_t3
  let v236 : BitVec 32 := Scalar.muli c8_i32_105 arg9
  let v237 : BitVec 32 := Scalar.addi v236 c0_i32_106
  let v238 : Index := Scalar.indexCast v237
  let c0_107 : Index := 0#32
  let c0_108 : Index := 0#32
  ![v238.toNat, 0, 0]
def k0_off22 (i : grid0.Coords) (k0_t3 : Fin (k0_t3_loop i).trips) (c0_i32_110 : BitVec 32) : Fin 3 → Nat :=
  let c8_i32_105 : BitVec 32 := 8#32
  let c0_i32_33 : BitVec 32 := 0#32
  let c1_i32_35 : BitVec 32 := 1#32
  let arg9 : BitVec 32 := Scf.iv c0_i32_33 c1_i32_35 k0_t3
  let v236 : BitVec 32 := Scalar.muli c8_i32_105 arg9
  let v247 : BitVec 32 := Scalar.addi v236 c0_i32_110
  let v248 : Index := Scalar.indexCast v247
  let c0_111 : Index := 0#32
  let c0_112 : Index := 0#32
  ![v248.toNat, 0, 0]
@[reducible] def k0_t4_loop (i : grid0.Coords) : Scf.Loop 32 :=
  let c0_i32_33 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v84 : BitVec 32 := Scalar.subi v50 c0_i32_33
  let c1_i32_34 : BitVec 32 := 1#32
  let v86 : BitVec 32 := Scalar.divsi v84 c1_i32_34
  let v87 : BitVec 32 := Scalar.muli v86 c1_i32_34
  let v88 : BitVec 32 := Scalar.addi c0_i32_33 v87
  let v85 : BitVec 32 := Scalar.addi c0_i32_33 v84
  let c1_i32_36 : BitVec 32 := 1#32
  ⟨v88, v85, c1_i32_36⟩
def k0_off23 (i : grid0.Coords) (k0_t4 : Fin (k0_t4_loop i).trips) (c0_i32_106 : BitVec 32) : Fin 3 → Nat :=
  let c8_i32_105 : BitVec 32 := 8#32
  let c0_i32_33 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v84 : BitVec 32 := Scalar.subi v50 c0_i32_33
  let c1_i32_34 : BitVec 32 := 1#32
  let v86 : BitVec 32 := Scalar.divsi v84 c1_i32_34
  let v87 : BitVec 32 := Scalar.muli v86 c1_i32_34
  let v88 : BitVec 32 := Scalar.addi c0_i32_33 v87
  let c1_i32_36 : BitVec 32 := 1#32
  let arg9 : BitVec 32 := Scf.iv v88 c1_i32_36 k0_t4
  let v236 : BitVec 32 := Scalar.muli c8_i32_105 arg9
  let v237 : BitVec 32 := Scalar.addi v236 c0_i32_106
  let v238 : Index := Scalar.indexCast v237
  let c0_107 : Index := 0#32
  let c0_108 : Index := 0#32
  ![v238.toNat, 0, 0]
def k0_off24 (i : grid0.Coords) (k0_t4 : Fin (k0_t4_loop i).trips) (c0_i32_110 : BitVec 32) : Fin 3 → Nat :=
  let c8_i32_105 : BitVec 32 := 8#32
  let c0_i32_33 : BitVec 32 := 0#32
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let v84 : BitVec 32 := Scalar.subi v50 c0_i32_33
  let c1_i32_34 : BitVec 32 := 1#32
  let v86 : BitVec 32 := Scalar.divsi v84 c1_i32_34
  let v87 : BitVec 32 := Scalar.muli v86 c1_i32_34
  let v88 : BitVec 32 := Scalar.addi c0_i32_33 v87
  let c1_i32_36 : BitVec 32 := 1#32
  let arg9 : BitVec 32 := Scf.iv v88 c1_i32_36 k0_t4
  let v236 : BitVec 32 := Scalar.muli c8_i32_105 arg9
  let v247 : BitVec 32 := Scalar.addi v236 c0_i32_110
  let v248 : Index := Scalar.indexCast v247
  let c0_111 : Index := 0#32
  let c0_112 : Index := 0#32
  ![v248.toNat, 0, 0]
def k0_cond5 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_38 : BitVec 32 := 0#32
  let v92 : BitVec 1 := Scalar.cmpi .sgt v52 c0_i32_38
  let v93 : BitVec 32 := Scalar.extui v92
  let c0_i32_39 : BitVec 32 := 0#32
  let v94 : BitVec 1 := Scalar.cmpi .slt v52 c0_i32_39
  let v95 : BitVec 32 := Scalar.extui v94
  let v96 : BitVec 32 := Scalar.subi v93 v95
  let c2_i32_37 : BitVec 32 := 2#32
  let c0_i32_40 : BitVec 32 := 0#32
  let v97 : BitVec 1 := Scalar.cmpi .sgt c2_i32_37 c0_i32_40
  let v98 : BitVec 32 := Scalar.extui v97
  let c0_i32_41 : BitVec 32 := 0#32
  let v99 : BitVec 1 := Scalar.cmpi .slt c2_i32_37 c0_i32_41
  let v100 : BitVec 32 := Scalar.extui v99
  let v101 : BitVec 32 := Scalar.subi v98 v100
  let v102 : BitVec 1 := Scalar.cmpi .ne v96 v101
  let v103 : BitVec 32 := Scalar.remsi v52 c2_i32_37
  let c0_i32_42 : BitVec 32 := 0#32
  let v104 : BitVec 1 := Scalar.cmpi .ne v103 c0_i32_42
  let v105 : BitVec 1 := Scalar.andi v102 v104
  let v91 : BitVec 32 := Scalar.divsi v52 c2_i32_37
  let c1_i32_43 : BitVec 32 := 1#32
  let v106 : BitVec 32 := Scalar.subi v91 c1_i32_43
  let v107 : BitVec 32 := Scalar.select v105 v106 v91
  let c0_i32_44 : BitVec 32 := 0#32
  let v108 : BitVec 32 := Scalar.maxsi v107 c0_i32_44
  let c3_i32_45 : BitVec 32 := 3#32
  let v109 : BitVec 32 := Scalar.minsi v108 c3_i32_45
  let c0_i32_46 : BitVec 32 := 0#32
  let v110 : BitVec 1 := Scalar.cmpi .ne v109 c0_i32_46
  v110

def k0_cond6 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_38 : BitVec 32 := 0#32
  let v92 : BitVec 1 := Scalar.cmpi .sgt v52 c0_i32_38
  let v93 : BitVec 32 := Scalar.extui v92
  let c0_i32_39 : BitVec 32 := 0#32
  let v94 : BitVec 1 := Scalar.cmpi .slt v52 c0_i32_39
  let v95 : BitVec 32 := Scalar.extui v94
  let v96 : BitVec 32 := Scalar.subi v93 v95
  let c2_i32_37 : BitVec 32 := 2#32
  let c0_i32_40 : BitVec 32 := 0#32
  let v97 : BitVec 1 := Scalar.cmpi .sgt c2_i32_37 c0_i32_40
  let v98 : BitVec 32 := Scalar.extui v97
  let c0_i32_41 : BitVec 32 := 0#32
  let v99 : BitVec 1 := Scalar.cmpi .slt c2_i32_37 c0_i32_41
  let v100 : BitVec 32 := Scalar.extui v99
  let v101 : BitVec 32 := Scalar.subi v98 v100
  let v102 : BitVec 1 := Scalar.cmpi .ne v96 v101
  let v103 : BitVec 32 := Scalar.remsi v52 c2_i32_37
  let c0_i32_42 : BitVec 32 := 0#32
  let v104 : BitVec 1 := Scalar.cmpi .ne v103 c0_i32_42
  let v105 : BitVec 1 := Scalar.andi v102 v104
  let v91 : BitVec 32 := Scalar.divsi v52 c2_i32_37
  let c1_i32_43 : BitVec 32 := 1#32
  let v106 : BitVec 32 := Scalar.subi v91 c1_i32_43
  let v107 : BitVec 32 := Scalar.select v105 v106 v91
  let c0_i32_44 : BitVec 32 := 0#32
  let v108 : BitVec 32 := Scalar.maxsi v107 c0_i32_44
  let c3_i32_45 : BitVec 32 := 3#32
  let v109 : BitVec 32 := Scalar.minsi v108 c3_i32_45
  let c1_i32_105 : BitVec 32 := 1#32
  let v236 : BitVec 32 := Scalar.subi v109 c1_i32_105
  let c0_i32_106 : BitVec 32 := 0#32
  let v237 : BitVec 1 := Scalar.cmpi .ne v236 c0_i32_106
  v237

def k0_cond7 (i : grid0.Coords) : BitVec 1 :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_18 : BitVec 32 := 8#32
  let v51 : BitVec 32 := Scalar.muli v50 c8_i32_18
  let v52 : BitVec 32 := Scalar.subi v33 v51
  let c0_i32_38 : BitVec 32 := 0#32
  let v92 : BitVec 1 := Scalar.cmpi .sgt v52 c0_i32_38
  let v93 : BitVec 32 := Scalar.extui v92
  let c0_i32_39 : BitVec 32 := 0#32
  let v94 : BitVec 1 := Scalar.cmpi .slt v52 c0_i32_39
  let v95 : BitVec 32 := Scalar.extui v94
  let v96 : BitVec 32 := Scalar.subi v93 v95
  let c2_i32_37 : BitVec 32 := 2#32
  let c0_i32_40 : BitVec 32 := 0#32
  let v97 : BitVec 1 := Scalar.cmpi .sgt c2_i32_37 c0_i32_40
  let v98 : BitVec 32 := Scalar.extui v97
  let c0_i32_41 : BitVec 32 := 0#32
  let v99 : BitVec 1 := Scalar.cmpi .slt c2_i32_37 c0_i32_41
  let v100 : BitVec 32 := Scalar.extui v99
  let v101 : BitVec 32 := Scalar.subi v98 v100
  let v102 : BitVec 1 := Scalar.cmpi .ne v96 v101
  let v103 : BitVec 32 := Scalar.remsi v52 c2_i32_37
  let c0_i32_42 : BitVec 32 := 0#32
  let v104 : BitVec 1 := Scalar.cmpi .ne v103 c0_i32_42
  let v105 : BitVec 1 := Scalar.andi v102 v104
  let v91 : BitVec 32 := Scalar.divsi v52 c2_i32_37
  let c1_i32_43 : BitVec 32 := 1#32
  let v106 : BitVec 32 := Scalar.subi v91 c1_i32_43
  let v107 : BitVec 32 := Scalar.select v105 v106 v91
  let c0_i32_44 : BitVec 32 := 0#32
  let v108 : BitVec 32 := Scalar.maxsi v107 c0_i32_44
  let c3_i32_45 : BitVec 32 := 3#32
  let v109 : BitVec 32 := Scalar.minsi v108 c3_i32_45
  let c1_i32_105 : BitVec 32 := 1#32
  let v236 : BitVec 32 := Scalar.subi v109 c1_i32_105
  let c1_i32_107 : BitVec 32 := 1#32
  let v239 : BitVec 32 := Scalar.subi v236 c1_i32_107
  let c0_i32_108 : BitVec 32 := 0#32
  let v240 : BitVec 1 := Scalar.cmpi .ne v239 c0_i32_108
  v240

def k0_off25 (i : grid0.Coords) (c0_i32_109 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v242 : BitVec 32 := Scalar.addi v53 c0_i32_109
  let v243 : Index := Scalar.indexCast v242
  let c0_110 : Index := 0#32
  let c0_111 : Index := 0#32
  ![v243.toNat, 0, 0]
def k0_off26 (i : grid0.Coords) (c0_i32_113 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v252 : BitVec 32 := Scalar.addi v53 c0_i32_113
  let v253 : Index := Scalar.indexCast v252
  let c0_114 : Index := 0#32
  let c0_115 : Index := 0#32
  ![v253.toNat, 0, 0]
def k0_off27 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c7_i32 : BitVec 32 := 7#32
  let v361 : BitVec 32 := Scalar.addi v53 c7_i32
  let v362 : Index := Scalar.indexCast v361
  let c0_162 : Index := 0#32
  let c512 : Index := 512#32
  ![v362.toNat, 0, 512]
def k0_off28 (i : grid0.Coords) (c0_i32_109 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v242 : BitVec 32 := Scalar.addi v53 c0_i32_109
  let v243 : Index := Scalar.indexCast v242
  let c0_110 : Index := 0#32
  let c0_111 : Index := 0#32
  ![v243.toNat, 0, 0]
def k0_off29 (i : grid0.Coords) (c0_i32_113 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v252 : BitVec 32 := Scalar.addi v53 c0_i32_113
  let v253 : Index := Scalar.indexCast v252
  let c0_114 : Index := 0#32
  let c0_115 : Index := 0#32
  ![v253.toNat, 0, 0]
def k0_off30 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c5_i32 : BitVec 32 := 5#32
  let v327 : BitVec 32 := Scalar.addi v53 c5_i32
  let v328 : Index := Scalar.indexCast v327
  let c0_148 : Index := 0#32
  let c512 : Index := 512#32
  ![v328.toNat, 0, 512]
def k0_off31 (i : grid0.Coords) (c0_i32_107 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v239 : BitVec 32 := Scalar.addi v53 c0_i32_107
  let v240 : Index := Scalar.indexCast v239
  let c0_108 : Index := 0#32
  let c0_109 : Index := 0#32
  ![v240.toNat, 0, 0]
def k0_off32 (i : grid0.Coords) (c0_i32_111 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v249 : BitVec 32 := Scalar.addi v53 c0_i32_111
  let v250 : Index := Scalar.indexCast v249
  let c0_112 : Index := 0#32
  let c0_113 : Index := 0#32
  ![v250.toNat, 0, 0]
def k0_off33 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c3_i32_131 : BitVec 32 := 3#32
  let v290 : BitVec 32 := Scalar.addi v53 c3_i32_131
  let v291 : Index := Scalar.indexCast v290
  let c0_132 : Index := 0#32
  let c512 : Index := 512#32
  ![v291.toNat, 0, 512]
def k0_off34 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c0_i32_105 : BitVec 32 := 0#32
  let v236 : BitVec 32 := Scalar.addi v53 c0_i32_105
  let v237 : Index := Scalar.indexCast v236
  let c0_106 : Index := 0#32
  let c0_107 : Index := 0#32
  ![v237.toNat, 0, 0]
def k0_off35 (i : grid0.Coords) (c0_i32_109 : BitVec 32) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let v246 : BitVec 32 := Scalar.addi v53 c0_i32_109
  let v247 : Index := Scalar.indexCast v246
  let c0_110 : Index := 0#32
  let c0_111 : Index := 0#32
  ![v247.toNat, 0, 0]
def k0_off36 (i : grid0.Coords) : Fin 3 → Nat :=
  let arg1 : BitVec 32 := BitVec.ofNat 32 (i 1).val
  let c1024_i32 : BitVec 32 := 1024#32
  let v13 : BitVec 32 := Scalar.muli arg1 c1024_i32
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .slt v13 c0_i32_8
  let v21 : BitVec 32 := Scalar.extui v20
  let v22 : BitVec 32 := Scalar.subi v19 v21
  let c512_i32 : BitVec 32 := 512#32
  let c0_i32_9 : BitVec 32 := 0#32
  let v23 : BitVec 1 := Scalar.cmpi .sgt c512_i32 c0_i32_9
  let v24 : BitVec 32 := Scalar.extui v23
  let c0_i32_10 : BitVec 32 := 0#32
  let v25 : BitVec 1 := Scalar.cmpi .slt c512_i32 c0_i32_10
  let v26 : BitVec 32 := Scalar.extui v25
  let v27 : BitVec 32 := Scalar.subi v24 v26
  let v28 : BitVec 1 := Scalar.cmpi .ne v22 v27
  let v29 : BitVec 32 := Scalar.remsi v13 c512_i32
  let c0_i32_11 : BitVec 32 := 0#32
  let v30 : BitVec 1 := Scalar.cmpi .ne v29 c0_i32_11
  let v31 : BitVec 1 := Scalar.andi v28 v30
  let v17 : BitVec 32 := Scalar.divsi v13 c512_i32
  let c1_i32 : BitVec 32 := 1#32
  let v32 : BitVec 32 := Scalar.subi v17 c1_i32
  let v33 : BitVec 32 := Scalar.select v31 v32 v17
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c8_i32 : BitVec 32 := 8#32
  let c0_i32_14 : BitVec 32 := 0#32
  let v40 : BitVec 1 := Scalar.cmpi .sgt c8_i32 c0_i32_14
  let v41 : BitVec 32 := Scalar.extui v40
  let c0_i32_15 : BitVec 32 := 0#32
  let v42 : BitVec 1 := Scalar.cmpi .slt c8_i32 c0_i32_15
  let v43 : BitVec 32 := Scalar.extui v42
  let v44 : BitVec 32 := Scalar.subi v41 v43
  let v45 : BitVec 1 := Scalar.cmpi .ne v39 v44
  let v46 : BitVec 32 := Scalar.remsi v33 c8_i32
  let c0_i32_16 : BitVec 32 := 0#32
  let v47 : BitVec 1 := Scalar.cmpi .ne v46 c0_i32_16
  let v48 : BitVec 1 := Scalar.andi v45 v47
  let v34 : BitVec 32 := Scalar.divsi v33 c8_i32
  let c1_i32_17 : BitVec 32 := 1#32
  let v49 : BitVec 32 := Scalar.subi v34 c1_i32_17
  let v50 : BitVec 32 := Scalar.select v48 v49 v34
  let c8_i32_19 : BitVec 32 := 8#32
  let v53 : BitVec 32 := Scalar.muli v50 c8_i32_19
  let c1_i32_113 : BitVec 32 := 1#32
  let v253 : BitVec 32 := Scalar.addi v53 c1_i32_113
  let v254 : Index := Scalar.indexCast v253
  let c0_114 : Index := 0#32
  let c512 : Index := 512#32
  ![v254.toNat, 0, 512]
@[reducible] def k0_t5_loop (i : grid0.Coords) : Scf.Loop 32 :=
  let c0_i32_71 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v166 : BitVec 32 := Scalar.subi v162 c0_i32_71
  let c1_i32_72 : BitVec 32 := 1#32
  let v168 : BitVec 32 := Scalar.divsi v166 c1_i32_72
  let v169 : BitVec 32 := Scalar.muli v168 c1_i32_72
  let v170 : BitVec 32 := Scalar.addi c0_i32_71 v169
  let c1_i32_73 : BitVec 32 := 1#32
  ⟨c0_i32_71, v170, c1_i32_73⟩
def k0_mult11 (i : grid0.Coords) (k0_t5 : Fin (k0_t5_loop i).trips) : BitVec 32 :=
  let c8_i32_105 : BitVec 32 := 8#32
  let c0_i32_71 : BitVec 32 := 0#32
  let c1_i32_73 : BitVec 32 := 1#32
  let arg9 : BitVec 32 := Scf.iv c0_i32_71 c1_i32_73 k0_t5
  let v236 : BitVec 32 := Scalar.muli c8_i32_105 arg9
  let c512_i32_106 : BitVec 32 := 512#32
  let v237 : BitVec 32 := Scalar.muli v236 c512_i32_106
  v237
def k0_off37 (i : grid0.Coords) (k0_t5 : Fin (k0_t5_loop i).trips) : Fin 3 → Nat :=
  let c0_107 : Index := 0#32
  let c8_i32_105 : BitVec 32 := 8#32
  let c0_i32_71 : BitVec 32 := 0#32
  let c1_i32_73 : BitVec 32 := 1#32
  let arg9 : BitVec 32 := Scf.iv c0_i32_71 c1_i32_73 k0_t5
  let v236 : BitVec 32 := Scalar.muli c8_i32_105 arg9
  let c512_i32_106 : BitVec 32 := 512#32
  let v237 : BitVec 32 := Scalar.muli v236 c512_i32_106
  let v238 : BitVec 32 := v237
  let v239 : Index := Scalar.indexCast v238
  let c0_108 : Index := 0#32
  ![0, v239.toNat, 0]
def k0_off38 (i : grid0.Coords) (k0_t5 : Fin (k0_t5_loop i).trips) (c0_i32_111 : BitVec 32) : Fin 3 → Nat :=
  let c8_i32_105 : BitVec 32 := 8#32
  let c0_i32_71 : BitVec 32 := 0#32
  let c1_i32_73 : BitVec 32 := 1#32
  let arg9 : BitVec 32 := Scf.iv c0_i32_71 c1_i32_73 k0_t5
  let v236 : BitVec 32 := Scalar.muli c8_i32_105 arg9
  let v246 : BitVec 32 := Scalar.addi v236 c0_i32_111
  let v247 : Index := Scalar.indexCast v246
  let c0_112 : Index := 0#32
  let c0_113 : Index := 0#32
  ![v247.toNat, 0, 0]
@[reducible] def k0_t6_loop (i : grid0.Coords) : Scf.Loop 32 :=
  let c0_i32_71 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v166 : BitVec 32 := Scalar.subi v162 c0_i32_71
  let c1_i32_72 : BitVec 32 := 1#32
  let v168 : BitVec 32 := Scalar.divsi v166 c1_i32_72
  let v169 : BitVec 32 := Scalar.muli v168 c1_i32_72
  let v170 : BitVec 32 := Scalar.addi c0_i32_71 v169
  let v167 : BitVec 32 := Scalar.addi c0_i32_71 v166
  let c1_i32_74 : BitVec 32 := 1#32
  ⟨v170, v167, c1_i32_74⟩
def k0_mult12 (i : grid0.Coords) (k0_t6 : Fin (k0_t6_loop i).trips) : BitVec 32 :=
  let c8_i32_105 : BitVec 32 := 8#32
  let c0_i32_71 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v166 : BitVec 32 := Scalar.subi v162 c0_i32_71
  let c1_i32_72 : BitVec 32 := 1#32
  let v168 : BitVec 32 := Scalar.divsi v166 c1_i32_72
  let v169 : BitVec 32 := Scalar.muli v168 c1_i32_72
  let v170 : BitVec 32 := Scalar.addi c0_i32_71 v169
  let c1_i32_74 : BitVec 32 := 1#32
  let arg9 : BitVec 32 := Scf.iv v170 c1_i32_74 k0_t6
  let v236 : BitVec 32 := Scalar.muli c8_i32_105 arg9
  let c512_i32_106 : BitVec 32 := 512#32
  let v237 : BitVec 32 := Scalar.muli v236 c512_i32_106
  v237
def k0_off39 (i : grid0.Coords) (k0_t6 : Fin (k0_t6_loop i).trips) : Fin 3 → Nat :=
  let c0_107 : Index := 0#32
  let c8_i32_105 : BitVec 32 := 8#32
  let c0_i32_71 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v166 : BitVec 32 := Scalar.subi v162 c0_i32_71
  let c1_i32_72 : BitVec 32 := 1#32
  let v168 : BitVec 32 := Scalar.divsi v166 c1_i32_72
  let v169 : BitVec 32 := Scalar.muli v168 c1_i32_72
  let v170 : BitVec 32 := Scalar.addi c0_i32_71 v169
  let c1_i32_74 : BitVec 32 := 1#32
  let arg9 : BitVec 32 := Scf.iv v170 c1_i32_74 k0_t6
  let v236 : BitVec 32 := Scalar.muli c8_i32_105 arg9
  let c512_i32_106 : BitVec 32 := 512#32
  let v237 : BitVec 32 := Scalar.muli v236 c512_i32_106
  let v238 : BitVec 32 := v237
  let v239 : Index := Scalar.indexCast v238
  let c0_108 : Index := 0#32
  ![0, v239.toNat, 0]
def k0_off40 (i : grid0.Coords) (k0_t6 : Fin (k0_t6_loop i).trips) (c0_i32_111 : BitVec 32) : Fin 3 → Nat :=
  let c8_i32_105 : BitVec 32 := 8#32
  let c0_i32_71 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v166 : BitVec 32 := Scalar.subi v162 c0_i32_71
  let c1_i32_72 : BitVec 32 := 1#32
  let v168 : BitVec 32 := Scalar.divsi v166 c1_i32_72
  let v169 : BitVec 32 := Scalar.muli v168 c1_i32_72
  let v170 : BitVec 32 := Scalar.addi c0_i32_71 v169
  let c1_i32_74 : BitVec 32 := 1#32
  let arg9 : BitVec 32 := Scf.iv v170 c1_i32_74 k0_t6
  let v236 : BitVec 32 := Scalar.muli c8_i32_105 arg9
  let v246 : BitVec 32 := Scalar.addi v236 c0_i32_111
  let v247 : Index := Scalar.indexCast v246
  let c0_112 : Index := 0#32
  let c0_113 : Index := 0#32
  ![v247.toNat, 0, 0]
def k0_cond8 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_76 : BitVec 32 := 0#32
  let v174 : BitVec 1 := Scalar.cmpi .sgt v164 c0_i32_76
  let v175 : BitVec 32 := Scalar.extui v174
  let c0_i32_77 : BitVec 32 := 0#32
  let v176 : BitVec 1 := Scalar.cmpi .slt v164 c0_i32_77
  let v177 : BitVec 32 := Scalar.extui v176
  let v178 : BitVec 32 := Scalar.subi v175 v177
  let c2_i32_75 : BitVec 32 := 2#32
  let c0_i32_78 : BitVec 32 := 0#32
  let v179 : BitVec 1 := Scalar.cmpi .sgt c2_i32_75 c0_i32_78
  let v180 : BitVec 32 := Scalar.extui v179
  let c0_i32_79 : BitVec 32 := 0#32
  let v181 : BitVec 1 := Scalar.cmpi .slt c2_i32_75 c0_i32_79
  let v182 : BitVec 32 := Scalar.extui v181
  let v183 : BitVec 32 := Scalar.subi v180 v182
  let v184 : BitVec 1 := Scalar.cmpi .ne v178 v183
  let v185 : BitVec 32 := Scalar.remsi v164 c2_i32_75
  let c0_i32_80 : BitVec 32 := 0#32
  let v186 : BitVec 1 := Scalar.cmpi .ne v185 c0_i32_80
  let v187 : BitVec 1 := Scalar.andi v184 v186
  let v173 : BitVec 32 := Scalar.divsi v164 c2_i32_75
  let c1_i32_81 : BitVec 32 := 1#32
  let v188 : BitVec 32 := Scalar.subi v173 c1_i32_81
  let v189 : BitVec 32 := Scalar.select v187 v188 v173
  let c0_i32_82 : BitVec 32 := 0#32
  let v190 : BitVec 32 := Scalar.maxsi v189 c0_i32_82
  let c3_i32_83 : BitVec 32 := 3#32
  let v191 : BitVec 32 := Scalar.minsi v190 c3_i32_83
  let c0_i32_84 : BitVec 32 := 0#32
  let v192 : BitVec 1 := Scalar.cmpi .ne v191 c0_i32_84
  v192

def k0_cond9 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_76 : BitVec 32 := 0#32
  let v174 : BitVec 1 := Scalar.cmpi .sgt v164 c0_i32_76
  let v175 : BitVec 32 := Scalar.extui v174
  let c0_i32_77 : BitVec 32 := 0#32
  let v176 : BitVec 1 := Scalar.cmpi .slt v164 c0_i32_77
  let v177 : BitVec 32 := Scalar.extui v176
  let v178 : BitVec 32 := Scalar.subi v175 v177
  let c2_i32_75 : BitVec 32 := 2#32
  let c0_i32_78 : BitVec 32 := 0#32
  let v179 : BitVec 1 := Scalar.cmpi .sgt c2_i32_75 c0_i32_78
  let v180 : BitVec 32 := Scalar.extui v179
  let c0_i32_79 : BitVec 32 := 0#32
  let v181 : BitVec 1 := Scalar.cmpi .slt c2_i32_75 c0_i32_79
  let v182 : BitVec 32 := Scalar.extui v181
  let v183 : BitVec 32 := Scalar.subi v180 v182
  let v184 : BitVec 1 := Scalar.cmpi .ne v178 v183
  let v185 : BitVec 32 := Scalar.remsi v164 c2_i32_75
  let c0_i32_80 : BitVec 32 := 0#32
  let v186 : BitVec 1 := Scalar.cmpi .ne v185 c0_i32_80
  let v187 : BitVec 1 := Scalar.andi v184 v186
  let v173 : BitVec 32 := Scalar.divsi v164 c2_i32_75
  let c1_i32_81 : BitVec 32 := 1#32
  let v188 : BitVec 32 := Scalar.subi v173 c1_i32_81
  let v189 : BitVec 32 := Scalar.select v187 v188 v173
  let c0_i32_82 : BitVec 32 := 0#32
  let v190 : BitVec 32 := Scalar.maxsi v189 c0_i32_82
  let c3_i32_83 : BitVec 32 := 3#32
  let v191 : BitVec 32 := Scalar.minsi v190 c3_i32_83
  let c1_i32_105 : BitVec 32 := 1#32
  let v236 : BitVec 32 := Scalar.subi v191 c1_i32_105
  let c0_i32_106 : BitVec 32 := 0#32
  let v237 : BitVec 1 := Scalar.cmpi .ne v236 c0_i32_106
  v237

def k0_cond10 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_76 : BitVec 32 := 0#32
  let v174 : BitVec 1 := Scalar.cmpi .sgt v164 c0_i32_76
  let v175 : BitVec 32 := Scalar.extui v174
  let c0_i32_77 : BitVec 32 := 0#32
  let v176 : BitVec 1 := Scalar.cmpi .slt v164 c0_i32_77
  let v177 : BitVec 32 := Scalar.extui v176
  let v178 : BitVec 32 := Scalar.subi v175 v177
  let c2_i32_75 : BitVec 32 := 2#32
  let c0_i32_78 : BitVec 32 := 0#32
  let v179 : BitVec 1 := Scalar.cmpi .sgt c2_i32_75 c0_i32_78
  let v180 : BitVec 32 := Scalar.extui v179
  let c0_i32_79 : BitVec 32 := 0#32
  let v181 : BitVec 1 := Scalar.cmpi .slt c2_i32_75 c0_i32_79
  let v182 : BitVec 32 := Scalar.extui v181
  let v183 : BitVec 32 := Scalar.subi v180 v182
  let v184 : BitVec 1 := Scalar.cmpi .ne v178 v183
  let v185 : BitVec 32 := Scalar.remsi v164 c2_i32_75
  let c0_i32_80 : BitVec 32 := 0#32
  let v186 : BitVec 1 := Scalar.cmpi .ne v185 c0_i32_80
  let v187 : BitVec 1 := Scalar.andi v184 v186
  let v173 : BitVec 32 := Scalar.divsi v164 c2_i32_75
  let c1_i32_81 : BitVec 32 := 1#32
  let v188 : BitVec 32 := Scalar.subi v173 c1_i32_81
  let v189 : BitVec 32 := Scalar.select v187 v188 v173
  let c0_i32_82 : BitVec 32 := 0#32
  let v190 : BitVec 32 := Scalar.maxsi v189 c0_i32_82
  let c3_i32_83 : BitVec 32 := 3#32
  let v191 : BitVec 32 := Scalar.minsi v190 c3_i32_83
  let c1_i32_105 : BitVec 32 := 1#32
  let v236 : BitVec 32 := Scalar.subi v191 c1_i32_105
  let c1_i32_107 : BitVec 32 := 1#32
  let v239 : BitVec 32 := Scalar.subi v236 c1_i32_107
  let c0_i32_108 : BitVec 32 := 0#32
  let v240 : BitVec 1 := Scalar.cmpi .ne v239 c0_i32_108
  v240

def k0_mult13 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  v242
def k0_off41 (i : grid0.Coords) : Fin 3 → Nat :=
  let c0_110 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let v244 : Index := Scalar.indexCast v243
  let c0_111 : Index := 0#32
  ![0, v244.toNat, 0]
def k0_off42 (i : grid0.Coords) (c0_i32_114 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v251 : BitVec 32 := Scalar.addi v165 c0_i32_114
  let v252 : Index := Scalar.indexCast v251
  let c0_115 : Index := 0#32
  let c0_116 : Index := 0#32
  ![v252.toNat, 0, 0]
def k0_mult14 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let c3584_i32 : BitVec 32 := 3584#32
  let v319 : BitVec 32 := Scalar.addi v243 c3584_i32
  v319
def k0_off43 (i : grid0.Coords) : Fin 3 → Nat :=
  let c0_142 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let c3584_i32 : BitVec 32 := 3584#32
  let v319 : BitVec 32 := Scalar.addi v243 c3584_i32
  let v320 : BitVec 32 := v319
  let v321 : Index := Scalar.indexCast v320
  let c0_143 : Index := 0#32
  ![0, v321.toNat, 0]
def k0_off44 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c7_i32 : BitVec 32 := 7#32
  let v331 : BitVec 32 := Scalar.addi v165 c7_i32
  let v332 : Index := Scalar.indexCast v331
  let c0_149 : Index := 0#32
  let c512 : Index := 512#32
  ![v332.toNat, 0, 512]
def k0_mult15 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  v242
def k0_off45 (i : grid0.Coords) : Fin 3 → Nat :=
  let c0_110 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let v244 : Index := Scalar.indexCast v243
  let c0_111 : Index := 0#32
  ![0, v244.toNat, 0]
def k0_off46 (i : grid0.Coords) (c0_i32_114 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v251 : BitVec 32 := Scalar.addi v165 c0_i32_114
  let v252 : Index := Scalar.indexCast v251
  let c0_115 : Index := 0#32
  let c0_116 : Index := 0#32
  ![v252.toNat, 0, 0]
def k0_mult16 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let c2560_i32 : BitVec 32 := 2560#32
  let v301 : BitVec 32 := Scalar.addi v243 c2560_i32
  v301
def k0_off47 (i : grid0.Coords) : Fin 3 → Nat :=
  let c0_136 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_109 : BitVec 32 := 512#32
  let v242 : BitVec 32 := Scalar.muli v165 c512_i32_109
  let v243 : BitVec 32 := v242
  let c2560_i32 : BitVec 32 := 2560#32
  let v301 : BitVec 32 := Scalar.addi v243 c2560_i32
  let v302 : BitVec 32 := v301
  let v303 : Index := Scalar.indexCast v302
  let c0_137 : Index := 0#32
  ![0, v303.toNat, 0]
def k0_off48 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c5_i32 : BitVec 32 := 5#32
  let v313 : BitVec 32 := Scalar.addi v165 c5_i32
  let v314 : Index := Scalar.indexCast v313
  let c0_143 : Index := 0#32
  let c512 : Index := 512#32
  ![v314.toNat, 0, 512]
def k0_mult17 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_107 : BitVec 32 := 512#32
  let v239 : BitVec 32 := Scalar.muli v165 c512_i32_107
  v239
def k0_off49 (i : grid0.Coords) : Fin 3 → Nat :=
  let c0_108 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_107 : BitVec 32 := 512#32
  let v239 : BitVec 32 := Scalar.muli v165 c512_i32_107
  let v240 : BitVec 32 := v239
  let v241 : Index := Scalar.indexCast v240
  let c0_109 : Index := 0#32
  ![0, v241.toNat, 0]
def k0_off50 (i : grid0.Coords) (c0_i32_112 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v248 : BitVec 32 := Scalar.addi v165 c0_i32_112
  let v249 : Index := Scalar.indexCast v248
  let c0_113 : Index := 0#32
  let c0_114 : Index := 0#32
  ![v249.toNat, 0, 0]
def k0_mult18 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_107 : BitVec 32 := 512#32
  let v239 : BitVec 32 := Scalar.muli v165 c512_i32_107
  let v240 : BitVec 32 := v239
  let c1536_i32 : BitVec 32 := 1536#32
  let v280 : BitVec 32 := Scalar.addi v240 c1536_i32
  v280
def k0_off51 (i : grid0.Coords) : Fin 3 → Nat :=
  let c0_127 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_107 : BitVec 32 := 512#32
  let v239 : BitVec 32 := Scalar.muli v165 c512_i32_107
  let v240 : BitVec 32 := v239
  let c1536_i32 : BitVec 32 := 1536#32
  let v280 : BitVec 32 := Scalar.addi v240 c1536_i32
  let v281 : BitVec 32 := v280
  let v282 : Index := Scalar.indexCast v281
  let c0_128 : Index := 0#32
  ![0, v282.toNat, 0]
def k0_off52 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c3_i32_134 : BitVec 32 := 3#32
  let v292 : BitVec 32 := Scalar.addi v165 c3_i32_134
  let v293 : Index := Scalar.indexCast v292
  let c0_135 : Index := 0#32
  let c512 : Index := 512#32
  ![v293.toNat, 0, 512]
def k0_mult19 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_105 : BitVec 32 := 512#32
  let v236 : BitVec 32 := Scalar.muli v165 c512_i32_105
  v236
def k0_off53 (i : grid0.Coords) : Fin 3 → Nat :=
  let c0_106 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_105 : BitVec 32 := 512#32
  let v236 : BitVec 32 := Scalar.muli v165 c512_i32_105
  let v237 : BitVec 32 := v236
  let v238 : Index := Scalar.indexCast v237
  let c0_107 : Index := 0#32
  ![0, v238.toNat, 0]
def k0_off54 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c0_i32_113 : BitVec 32 := 0#32
  let v250 : BitVec 32 := Scalar.addi v165 c0_i32_113
  let v251 : Index := Scalar.indexCast v250
  let c0_114 : Index := 0#32
  let c0_115 : Index := 0#32
  ![v251.toNat, 0, 0]
def k0_mult20 (i : grid0.Coords) : BitVec 32 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_105 : BitVec 32 := 512#32
  let v236 : BitVec 32 := Scalar.muli v165 c512_i32_105
  let v237 : BitVec 32 := v236
  let c512_i32_117 : BitVec 32 := 512#32
  let v258 : BitVec 32 := Scalar.addi v237 c512_i32_117
  v258
def k0_off55 (i : grid0.Coords) : Fin 3 → Nat :=
  let c0_118 : Index := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c512_i32_105 : BitVec 32 := 512#32
  let v236 : BitVec 32 := Scalar.muli v165 c512_i32_105
  let v237 : BitVec 32 := v236
  let c512_i32_117 : BitVec 32 := 512#32
  let v258 : BitVec 32 := Scalar.addi v237 c512_i32_117
  let v259 : BitVec 32 := v258
  let v260 : Index := Scalar.indexCast v259
  let c0_119 : Index := 0#32
  ![0, v260.toNat, 0]
def k0_off56 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c1_i32_125 : BitVec 32 := 1#32
  let v270 : BitVec 32 := Scalar.addi v165 c1_i32_125
  let v271 : Index := Scalar.indexCast v270
  let c0_126 : Index := 0#32
  let c512 : Index := 512#32
  ![v271.toNat, 0, 512]
@[reducible] def k0_t7_loop (i : grid0.Coords) : Scf.Loop 32 :=
  let c0_i32_86 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v196 : BitVec 32 := Scalar.subi v162 c0_i32_86
  let c1_i32_87 : BitVec 32 := 1#32
  let v198 : BitVec 32 := Scalar.divsi v196 c1_i32_87
  let v199 : BitVec 32 := Scalar.muli v198 c1_i32_87
  let v200 : BitVec 32 := Scalar.addi c0_i32_86 v199
  let c1_i32_88 : BitVec 32 := 1#32
  ⟨c0_i32_86, v200, c1_i32_88⟩
def k0_off57 (i : grid0.Coords) (k0_t7 : Fin (k0_t7_loop i).trips) (c0_i32_106 : BitVec 32) : Fin 3 → Nat :=
  let c8_i32_105 : BitVec 32 := 8#32
  let c0_i32_86 : BitVec 32 := 0#32
  let c1_i32_88 : BitVec 32 := 1#32
  let arg9 : BitVec 32 := Scf.iv c0_i32_86 c1_i32_88 k0_t7
  let v236 : BitVec 32 := Scalar.muli c8_i32_105 arg9
  let v237 : BitVec 32 := Scalar.addi v236 c0_i32_106
  let v238 : Index := Scalar.indexCast v237
  let c0_107 : Index := 0#32
  let c0_108 : Index := 0#32
  ![v238.toNat, 0, 0]
def k0_off58 (i : grid0.Coords) (k0_t7 : Fin (k0_t7_loop i).trips) (c0_i32_110 : BitVec 32) : Fin 3 → Nat :=
  let c8_i32_105 : BitVec 32 := 8#32
  let c0_i32_86 : BitVec 32 := 0#32
  let c1_i32_88 : BitVec 32 := 1#32
  let arg9 : BitVec 32 := Scf.iv c0_i32_86 c1_i32_88 k0_t7
  let v236 : BitVec 32 := Scalar.muli c8_i32_105 arg9
  let v247 : BitVec 32 := Scalar.addi v236 c0_i32_110
  let v248 : Index := Scalar.indexCast v247
  let c64 : Index := 64#32
  let c0_111 : Index := 0#32
  ![v248.toNat, 64, 0]
@[reducible] def k0_t8_loop (i : grid0.Coords) : Scf.Loop 32 :=
  let c0_i32_86 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v196 : BitVec 32 := Scalar.subi v162 c0_i32_86
  let c1_i32_87 : BitVec 32 := 1#32
  let v198 : BitVec 32 := Scalar.divsi v196 c1_i32_87
  let v199 : BitVec 32 := Scalar.muli v198 c1_i32_87
  let v200 : BitVec 32 := Scalar.addi c0_i32_86 v199
  let v197 : BitVec 32 := Scalar.addi c0_i32_86 v196
  let c1_i32_89 : BitVec 32 := 1#32
  ⟨v200, v197, c1_i32_89⟩
def k0_off59 (i : grid0.Coords) (k0_t8 : Fin (k0_t8_loop i).trips) (c0_i32_106 : BitVec 32) : Fin 3 → Nat :=
  let c8_i32_105 : BitVec 32 := 8#32
  let c0_i32_86 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v196 : BitVec 32 := Scalar.subi v162 c0_i32_86
  let c1_i32_87 : BitVec 32 := 1#32
  let v198 : BitVec 32 := Scalar.divsi v196 c1_i32_87
  let v199 : BitVec 32 := Scalar.muli v198 c1_i32_87
  let v200 : BitVec 32 := Scalar.addi c0_i32_86 v199
  let c1_i32_89 : BitVec 32 := 1#32
  let arg9 : BitVec 32 := Scf.iv v200 c1_i32_89 k0_t8
  let v236 : BitVec 32 := Scalar.muli c8_i32_105 arg9
  let v237 : BitVec 32 := Scalar.addi v236 c0_i32_106
  let v238 : Index := Scalar.indexCast v237
  let c0_107 : Index := 0#32
  let c0_108 : Index := 0#32
  ![v238.toNat, 0, 0]
def k0_off60 (i : grid0.Coords) (k0_t8 : Fin (k0_t8_loop i).trips) (c0_i32_110 : BitVec 32) : Fin 3 → Nat :=
  let c8_i32_105 : BitVec 32 := 8#32
  let c0_i32_86 : BitVec 32 := 0#32
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let v196 : BitVec 32 := Scalar.subi v162 c0_i32_86
  let c1_i32_87 : BitVec 32 := 1#32
  let v198 : BitVec 32 := Scalar.divsi v196 c1_i32_87
  let v199 : BitVec 32 := Scalar.muli v198 c1_i32_87
  let v200 : BitVec 32 := Scalar.addi c0_i32_86 v199
  let c1_i32_89 : BitVec 32 := 1#32
  let arg9 : BitVec 32 := Scf.iv v200 c1_i32_89 k0_t8
  let v236 : BitVec 32 := Scalar.muli c8_i32_105 arg9
  let v247 : BitVec 32 := Scalar.addi v236 c0_i32_110
  let v248 : Index := Scalar.indexCast v247
  let c64 : Index := 64#32
  let c0_111 : Index := 0#32
  ![v248.toNat, 64, 0]
def k0_cond11 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_91 : BitVec 32 := 0#32
  let v204 : BitVec 1 := Scalar.cmpi .sgt v164 c0_i32_91
  let v205 : BitVec 32 := Scalar.extui v204
  let c0_i32_92 : BitVec 32 := 0#32
  let v206 : BitVec 1 := Scalar.cmpi .slt v164 c0_i32_92
  let v207 : BitVec 32 := Scalar.extui v206
  let v208 : BitVec 32 := Scalar.subi v205 v207
  let c2_i32_90 : BitVec 32 := 2#32
  let c0_i32_93 : BitVec 32 := 0#32
  let v209 : BitVec 1 := Scalar.cmpi .sgt c2_i32_90 c0_i32_93
  let v210 : BitVec 32 := Scalar.extui v209
  let c0_i32_94 : BitVec 32 := 0#32
  let v211 : BitVec 1 := Scalar.cmpi .slt c2_i32_90 c0_i32_94
  let v212 : BitVec 32 := Scalar.extui v211
  let v213 : BitVec 32 := Scalar.subi v210 v212
  let v214 : BitVec 1 := Scalar.cmpi .ne v208 v213
  let v215 : BitVec 32 := Scalar.remsi v164 c2_i32_90
  let c0_i32_95 : BitVec 32 := 0#32
  let v216 : BitVec 1 := Scalar.cmpi .ne v215 c0_i32_95
  let v217 : BitVec 1 := Scalar.andi v214 v216
  let v203 : BitVec 32 := Scalar.divsi v164 c2_i32_90
  let c1_i32_96 : BitVec 32 := 1#32
  let v218 : BitVec 32 := Scalar.subi v203 c1_i32_96
  let v219 : BitVec 32 := Scalar.select v217 v218 v203
  let c0_i32_97 : BitVec 32 := 0#32
  let v220 : BitVec 32 := Scalar.maxsi v219 c0_i32_97
  let c3_i32_98 : BitVec 32 := 3#32
  let v221 : BitVec 32 := Scalar.minsi v220 c3_i32_98
  let c0_i32_99 : BitVec 32 := 0#32
  let v222 : BitVec 1 := Scalar.cmpi .ne v221 c0_i32_99
  v222

def k0_cond12 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_91 : BitVec 32 := 0#32
  let v204 : BitVec 1 := Scalar.cmpi .sgt v164 c0_i32_91
  let v205 : BitVec 32 := Scalar.extui v204
  let c0_i32_92 : BitVec 32 := 0#32
  let v206 : BitVec 1 := Scalar.cmpi .slt v164 c0_i32_92
  let v207 : BitVec 32 := Scalar.extui v206
  let v208 : BitVec 32 := Scalar.subi v205 v207
  let c2_i32_90 : BitVec 32 := 2#32
  let c0_i32_93 : BitVec 32 := 0#32
  let v209 : BitVec 1 := Scalar.cmpi .sgt c2_i32_90 c0_i32_93
  let v210 : BitVec 32 := Scalar.extui v209
  let c0_i32_94 : BitVec 32 := 0#32
  let v211 : BitVec 1 := Scalar.cmpi .slt c2_i32_90 c0_i32_94
  let v212 : BitVec 32 := Scalar.extui v211
  let v213 : BitVec 32 := Scalar.subi v210 v212
  let v214 : BitVec 1 := Scalar.cmpi .ne v208 v213
  let v215 : BitVec 32 := Scalar.remsi v164 c2_i32_90
  let c0_i32_95 : BitVec 32 := 0#32
  let v216 : BitVec 1 := Scalar.cmpi .ne v215 c0_i32_95
  let v217 : BitVec 1 := Scalar.andi v214 v216
  let v203 : BitVec 32 := Scalar.divsi v164 c2_i32_90
  let c1_i32_96 : BitVec 32 := 1#32
  let v218 : BitVec 32 := Scalar.subi v203 c1_i32_96
  let v219 : BitVec 32 := Scalar.select v217 v218 v203
  let c0_i32_97 : BitVec 32 := 0#32
  let v220 : BitVec 32 := Scalar.maxsi v219 c0_i32_97
  let c3_i32_98 : BitVec 32 := 3#32
  let v221 : BitVec 32 := Scalar.minsi v220 c3_i32_98
  let c1_i32_105 : BitVec 32 := 1#32
  let v236 : BitVec 32 := Scalar.subi v221 c1_i32_105
  let c0_i32_106 : BitVec 32 := 0#32
  let v237 : BitVec 1 := Scalar.cmpi .ne v236 c0_i32_106
  v237

def k0_cond13 (i : grid0.Coords) : BitVec 1 :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_69 : BitVec 32 := 8#32
  let v163 : BitVec 32 := Scalar.muli v162 c8_i32_69
  let v164 : BitVec 32 := Scalar.subi v145 v163
  let c0_i32_91 : BitVec 32 := 0#32
  let v204 : BitVec 1 := Scalar.cmpi .sgt v164 c0_i32_91
  let v205 : BitVec 32 := Scalar.extui v204
  let c0_i32_92 : BitVec 32 := 0#32
  let v206 : BitVec 1 := Scalar.cmpi .slt v164 c0_i32_92
  let v207 : BitVec 32 := Scalar.extui v206
  let v208 : BitVec 32 := Scalar.subi v205 v207
  let c2_i32_90 : BitVec 32 := 2#32
  let c0_i32_93 : BitVec 32 := 0#32
  let v209 : BitVec 1 := Scalar.cmpi .sgt c2_i32_90 c0_i32_93
  let v210 : BitVec 32 := Scalar.extui v209
  let c0_i32_94 : BitVec 32 := 0#32
  let v211 : BitVec 1 := Scalar.cmpi .slt c2_i32_90 c0_i32_94
  let v212 : BitVec 32 := Scalar.extui v211
  let v213 : BitVec 32 := Scalar.subi v210 v212
  let v214 : BitVec 1 := Scalar.cmpi .ne v208 v213
  let v215 : BitVec 32 := Scalar.remsi v164 c2_i32_90
  let c0_i32_95 : BitVec 32 := 0#32
  let v216 : BitVec 1 := Scalar.cmpi .ne v215 c0_i32_95
  let v217 : BitVec 1 := Scalar.andi v214 v216
  let v203 : BitVec 32 := Scalar.divsi v164 c2_i32_90
  let c1_i32_96 : BitVec 32 := 1#32
  let v218 : BitVec 32 := Scalar.subi v203 c1_i32_96
  let v219 : BitVec 32 := Scalar.select v217 v218 v203
  let c0_i32_97 : BitVec 32 := 0#32
  let v220 : BitVec 32 := Scalar.maxsi v219 c0_i32_97
  let c3_i32_98 : BitVec 32 := 3#32
  let v221 : BitVec 32 := Scalar.minsi v220 c3_i32_98
  let c1_i32_105 : BitVec 32 := 1#32
  let v236 : BitVec 32 := Scalar.subi v221 c1_i32_105
  let c1_i32_107 : BitVec 32 := 1#32
  let v239 : BitVec 32 := Scalar.subi v236 c1_i32_107
  let c0_i32_108 : BitVec 32 := 0#32
  let v240 : BitVec 1 := Scalar.cmpi .ne v239 c0_i32_108
  v240

def k0_off61 (i : grid0.Coords) (c0_i32_109 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v242 : BitVec 32 := Scalar.addi v165 c0_i32_109
  let v243 : Index := Scalar.indexCast v242
  let c0_110 : Index := 0#32
  let c0_111 : Index := 0#32
  ![v243.toNat, 0, 0]
def k0_off62 (i : grid0.Coords) (c0_i32_113 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v252 : BitVec 32 := Scalar.addi v165 c0_i32_113
  let v253 : Index := Scalar.indexCast v252
  let c64 : Index := 64#32
  let c0_114 : Index := 0#32
  ![v253.toNat, 64, 0]
def k0_off63 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c7_i32 : BitVec 32 := 7#32
  let v361 : BitVec 32 := Scalar.addi v165 c7_i32
  let v362 : Index := Scalar.indexCast v361
  let c0_161 : Index := 0#32
  let c512 : Index := 512#32
  ![v362.toNat, 0, 512]
def k0_off64 (i : grid0.Coords) (c0_i32_109 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v242 : BitVec 32 := Scalar.addi v165 c0_i32_109
  let v243 : Index := Scalar.indexCast v242
  let c0_110 : Index := 0#32
  let c0_111 : Index := 0#32
  ![v243.toNat, 0, 0]
def k0_off65 (i : grid0.Coords) (c0_i32_113 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v252 : BitVec 32 := Scalar.addi v165 c0_i32_113
  let v253 : Index := Scalar.indexCast v252
  let c64 : Index := 64#32
  let c0_114 : Index := 0#32
  ![v253.toNat, 64, 0]
def k0_off66 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c5_i32 : BitVec 32 := 5#32
  let v327 : BitVec 32 := Scalar.addi v165 c5_i32
  let v328 : Index := Scalar.indexCast v327
  let c0_147 : Index := 0#32
  let c512 : Index := 512#32
  ![v328.toNat, 0, 512]
def k0_off67 (i : grid0.Coords) (c0_i32_107 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v239 : BitVec 32 := Scalar.addi v165 c0_i32_107
  let v240 : Index := Scalar.indexCast v239
  let c0_108 : Index := 0#32
  let c0_109 : Index := 0#32
  ![v240.toNat, 0, 0]
def k0_off68 (i : grid0.Coords) (c0_i32_111 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v249 : BitVec 32 := Scalar.addi v165 c0_i32_111
  let v250 : Index := Scalar.indexCast v249
  let c64 : Index := 64#32
  let c0_112 : Index := 0#32
  ![v250.toNat, 64, 0]
def k0_off69 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c3_i32_130 : BitVec 32 := 3#32
  let v290 : BitVec 32 := Scalar.addi v165 c3_i32_130
  let v291 : Index := Scalar.indexCast v290
  let c0_131 : Index := 0#32
  let c512 : Index := 512#32
  ![v291.toNat, 0, 512]
def k0_off70 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c0_i32_105 : BitVec 32 := 0#32
  let v236 : BitVec 32 := Scalar.addi v165 c0_i32_105
  let v237 : Index := Scalar.indexCast v236
  let c0_106 : Index := 0#32
  let c0_107 : Index := 0#32
  ![v237.toNat, 0, 0]
def k0_off71 (i : grid0.Coords) (c0_i32_109 : BitVec 32) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let v246 : BitVec 32 := Scalar.addi v165 c0_i32_109
  let v247 : Index := Scalar.indexCast v246
  let c64 : Index := 64#32
  let c0_110 : Index := 0#32
  ![v247.toNat, 64, 0]
def k0_off72 (i : grid0.Coords) : Fin 3 → Nat :=
  let arg1 : BitVec 32 := BitVec.ofNat 32 (i 1).val
  let c1024_i32_51 : BitVec 32 := 1024#32
  let v125 : BitVec 32 := Scalar.muli arg1 c1024_i32_51
  let c0_i32_56 : BitVec 32 := 0#32
  let v130 : BitVec 1 := Scalar.cmpi .sgt v125 c0_i32_56
  let v131 : BitVec 32 := Scalar.extui v130
  let c0_i32_57 : BitVec 32 := 0#32
  let v132 : BitVec 1 := Scalar.cmpi .slt v125 c0_i32_57
  let v133 : BitVec 32 := Scalar.extui v132
  let v134 : BitVec 32 := Scalar.subi v131 v133
  let c512_i32_55 : BitVec 32 := 512#32
  let c0_i32_58 : BitVec 32 := 0#32
  let v135 : BitVec 1 := Scalar.cmpi .sgt c512_i32_55 c0_i32_58
  let v136 : BitVec 32 := Scalar.extui v135
  let c0_i32_59 : BitVec 32 := 0#32
  let v137 : BitVec 1 := Scalar.cmpi .slt c512_i32_55 c0_i32_59
  let v138 : BitVec 32 := Scalar.extui v137
  let v139 : BitVec 32 := Scalar.subi v136 v138
  let v140 : BitVec 1 := Scalar.cmpi .ne v134 v139
  let v141 : BitVec 32 := Scalar.remsi v125 c512_i32_55
  let c0_i32_60 : BitVec 32 := 0#32
  let v142 : BitVec 1 := Scalar.cmpi .ne v141 c0_i32_60
  let v143 : BitVec 1 := Scalar.andi v140 v142
  let v129 : BitVec 32 := Scalar.divsi v125 c512_i32_55
  let c1_i32_61 : BitVec 32 := 1#32
  let v144 : BitVec 32 := Scalar.subi v129 c1_i32_61
  let v145 : BitVec 32 := Scalar.select v143 v144 v129
  let c0_i32_63 : BitVec 32 := 0#32
  let v147 : BitVec 1 := Scalar.cmpi .sgt v145 c0_i32_63
  let v148 : BitVec 32 := Scalar.extui v147
  let c0_i32_64 : BitVec 32 := 0#32
  let v149 : BitVec 1 := Scalar.cmpi .slt v145 c0_i32_64
  let v150 : BitVec 32 := Scalar.extui v149
  let v151 : BitVec 32 := Scalar.subi v148 v150
  let c8_i32_62 : BitVec 32 := 8#32
  let c0_i32_65 : BitVec 32 := 0#32
  let v152 : BitVec 1 := Scalar.cmpi .sgt c8_i32_62 c0_i32_65
  let v153 : BitVec 32 := Scalar.extui v152
  let c0_i32_66 : BitVec 32 := 0#32
  let v154 : BitVec 1 := Scalar.cmpi .slt c8_i32_62 c0_i32_66
  let v155 : BitVec 32 := Scalar.extui v154
  let v156 : BitVec 32 := Scalar.subi v153 v155
  let v157 : BitVec 1 := Scalar.cmpi .ne v151 v156
  let v158 : BitVec 32 := Scalar.remsi v145 c8_i32_62
  let c0_i32_67 : BitVec 32 := 0#32
  let v159 : BitVec 1 := Scalar.cmpi .ne v158 c0_i32_67
  let v160 : BitVec 1 := Scalar.andi v157 v159
  let v146 : BitVec 32 := Scalar.divsi v145 c8_i32_62
  let c1_i32_68 : BitVec 32 := 1#32
  let v161 : BitVec 32 := Scalar.subi v146 c1_i32_68
  let v162 : BitVec 32 := Scalar.select v160 v161 v146
  let c8_i32_70 : BitVec 32 := 8#32
  let v165 : BitVec 32 := Scalar.muli v162 c8_i32_70
  let c1_i32_112 : BitVec 32 := 1#32
  let v253 : BitVec 32 := Scalar.addi v165 c1_i32_112
  let v254 : Index := Scalar.indexCast v253
  let c0_113 : Index := 0#32
  let c512 : Index := 512#32
  ![v254.toNat, 0, 512]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_10 : BitVec 32 := 0#32
  let c0_i32_11 : BitVec 32 := 0#32
  ![v16.toNat, c0_i32_10.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale_log2" => some (((3424635 / 33554432) * (Real.log 2)⁻¹ : ℝ) : EReal)
  | "start" => some ⊥
  | _ => none
-- ==== ReferenceIdeal.lean ====
abbrev S4x8x8192x96 : Shape := ⟨4, ![4, 8, 8192, 96]⟩
abbrev S4x8x8192x64 : Shape := ⟨4, ![4, 8, 8192, 64]⟩
abbrev S8192 : Shape := ⟨1, ![8192]⟩
abbrev S4x8x8192x8192 : Shape := ⟨4, ![4, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x64, .f32⟩
  | .hbm, ⟨3, _⟩ => ⟨S8192, .i32⟩
  | .hbm, ⟨4, _⟩ => ⟨S4x8x8192x8192, .f32⟩
  | .hbm, ⟨5, _⟩ => ⟨S_, .f32⟩
  | .hbm, ⟨6, _⟩ => ⟨S4x8x8192x8192, .f32⟩
  | .hbm, ⟨7, _⟩ => ⟨S4x8x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S4x8x8192x8192, .i1⟩
  | .hbm, ⟨16, _⟩ => ⟨S4x8x8192x8192, .f32⟩
  | .hbm, ⟨17, _⟩ => ⟨S4x8x8192x8192, .f32⟩
  | .hbm, ⟨18, _⟩ => ⟨S_, .f32⟩
  | .hbm, ⟨19, _⟩ => ⟨S4x8x8192, .f32⟩
  | .hbm, ⟨20, _⟩ => ⟨S4x8x8192x1, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S_, .f32⟩
  | .hbm, ⟨25, _⟩ => ⟨S_, .f32⟩
  | .hbm, ⟨26, _⟩ => ⟨S4x8x8192x8192, .i1⟩
  | .hbm, ⟨27, _⟩ => ⟨S4x8x8192x8192, .f32⟩
  | .hbm, ⟨28, _⟩ => ⟨S4x8x8192x8192, .f32⟩
  | .hbm, ⟨29, _⟩ => ⟨S_, .f32⟩
  | .hbm, ⟨30, _⟩ => ⟨S4x8x8192, .f32⟩
  | .hbm, ⟨31, _⟩ => ⟨S4x8x8192x1, .f32⟩
  | .hbm, ⟨32, _⟩ => ⟨S_, .f32⟩
  | .hbm, ⟨33, _⟩ => ⟨S4x8x8192x1, .f32⟩
  | .hbm, ⟨34, _⟩ => ⟨S4x8x8192x1, .f32⟩
  | .hbm, ⟨35, _⟩ => ⟨S4x8x8192x8192, .f32⟩
  | .hbm, ⟨36, _⟩ => ⟨S4x8x8192x8192, .f32⟩
  | .hbm, ⟨37, _⟩ => ⟨S4x8x8192x64, .f32⟩
  | .hbm, ⟨38, _⟩ => ⟨S4x8192x8x64, .f32⟩
  | .hbm, ⟨39, _⟩ => ⟨S4x8192x512, .f32⟩
  | .hbm, ⟨40, _⟩ => ⟨S4x8192x512, .bf16⟩
  | _, _ => ⟨S4x8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S32768x512, .f32⟩
  | .hbm, ⟨11, _⟩ => ⟨S32768x512, .bf16⟩
  | .hbm, ⟨12, _⟩ => ⟨S32768x512, .f32⟩
  | .hbm, ⟨13, _⟩ => ⟨S32768x512, .bf16⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S32768x512, .f32⟩
  | .hbm, ⟨11, _⟩ => ⟨S32768x512, .bf16⟩
  | .hbm, ⟨12, _⟩ => ⟨S32768x512, .f32⟩
  | .hbm, ⟨13, _⟩ => ⟨S32768x512, .bf16⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x1024, .f32⟩
  | .hbm, ⟨41, _⟩ => ⟨S4x8192x1024, .f32⟩
  | .hbm, ⟨42, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x3072 : Shape := ⟨2, ![1024, 3072]⟩
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x0 : Shape := ⟨3, ![4, 8192, 0]⟩
abbrev S4x8192x48 : Shape := ⟨3, ![4, 8192, 48]⟩
abbrev S4x8192x64 : Shape := ⟨3, ![4, 8192, 64]⟩
abbrev S1x4x1x8192x1x64 : Shape := ⟨6, ![1, 4, 1, 8192, 1, 64]⟩
abbrev S1x4x1x8192x2x64 : Shape := ⟨6, ![1, 4, 1, 8192, 2, 64]⟩
abbrev S4x8192x128 : Shape := ⟨3, ![4, 8192, 128]⟩
abbrev S32768x128 : Shape := ⟨2, ![32768, 128]⟩
abbrev S1024x1024 : Shape := ⟨2, ![1024, 1024]⟩
abbrev S1024x2048 : Shape := ⟨2, ![1024, 2048]⟩
abbrev S1024x512 : Shape := ⟨2, ![1024, 512]⟩
abbrev S32768x1024 : Shape := ⟨2, ![32768, 1024]⟩
abbrev S1x1024 : Shape := ⟨2, ![1, 1024]⟩
abbrev S32768x3072 : Shape := ⟨2, ![32768, 3072]⟩
abbrev S512x1024 : Shape := ⟨2, ![512, 1024]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 69
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x8192, .f32⟩
  | .hbm, ⟨21, _⟩ => ⟨S4x8192x1, .f32⟩
  | .hbm, ⟨22, _⟩ => ⟨S1x1x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S_, .f32⟩
  | .hbm, ⟨29, _⟩ => ⟨S4x8192x8, .f32⟩
  | .hbm, ⟨30, _⟩ => ⟨S_, .f32⟩
  | .hbm, ⟨31, _⟩ => ⟨S4x8192x0, .f32⟩
  | .hbm, ⟨32, _⟩ => ⟨S_, .f32⟩
  | .hbm, ⟨33, _⟩ => ⟨S4x8192x48, .f32⟩
  | .hbm, ⟨34, _⟩ => ⟨S4x8192x64, .f32⟩
  | .hbm, ⟨35, _⟩ => ⟨S_, .f32⟩
  | .hbm, ⟨36, _⟩ => ⟨S4x8192x0, .f32⟩
  | .hbm, ⟨37, _⟩ => ⟨S4x8192x8, .f32⟩
  | .hbm, ⟨38, _⟩ => ⟨S_, .f32⟩
  | .hbm, ⟨39, _⟩ => ⟨S4x8192x48, .f32⟩
  | .hbm, ⟨40, _⟩ => ⟨S4x8192x64, .f32⟩
  | .hbm, ⟨41, _⟩ => ⟨S_, .f32⟩
  | .hbm, ⟨42, _⟩ => ⟨S4x8192x0, .f32⟩
  | .hbm, ⟨43, _⟩ => ⟨S_, .f32⟩
  | .hbm, ⟨44, _⟩ => ⟨S4x8192x48, .f32⟩
  | .hbm, ⟨45, _⟩ => ⟨S4x8192x64, .f32⟩
  | .hbm, ⟨46, _⟩ => ⟨S1x4x1x8192x1x64, .f32⟩
  | .hbm, ⟨47, _⟩ => ⟨S1x4x1x8192x2x64, .f32⟩
  | .hbm, ⟨48, _⟩ => ⟨S4x8192x128, .f32⟩
  | .hbm, ⟨49, _⟩ => ⟨S32768x128, .f32⟩
  | .hbm, ⟨50, _⟩ => ⟨S1x4x1x8192x1x64, .f32⟩
  | .hbm, ⟨51, _⟩ => ⟨S1x4x1x8192x2x64, .f32⟩
  | .hbm, ⟨52, _⟩ => ⟨S4x8192x128, .f32⟩
  | .hbm, ⟨53, _⟩ => ⟨S32768x128, .f32⟩
  | .hbm, ⟨54, _⟩ => ⟨S1x4x1x8192x1x64, .f32⟩
  | .hbm, ⟨55, _⟩ => ⟨S1x4x1x8192x2x64, .f32⟩
  | .hbm, ⟨56, _⟩ => ⟨S4x8192x128, .f32⟩
  | .hbm, ⟨57, _⟩ => ⟨S32768x128, .f32⟩
  | .hbm, ⟨58, _⟩ => ⟨S1024x1024, .f32⟩
  | .hbm, ⟨59, _⟩ => ⟨S1024x1024, .f32⟩
  | .hbm, ⟨60, _⟩ => ⟨S1024x2048, .f32⟩
  | .hbm, ⟨61, _⟩ => ⟨S1024x512, .f32⟩
  | .hbm, ⟨62, _⟩ => ⟨S1024x512, .f32⟩
  | .hbm, ⟨63, _⟩ => ⟨S1024x1024, .f32⟩
  | .hbm, ⟨64, _⟩ => ⟨S1024x3072, .f32⟩
  | .hbm, ⟨65, _⟩ => ⟨S1024x3072, .bf16⟩
  | .hbm, ⟨66, _⟩ => ⟨S32768x1024, .f32⟩
  | .hbm, ⟨67, _⟩ => ⟨S1x1024, .f32⟩
  | .hbm, ⟨68, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x3072, .bf16⟩
  | .local _ .vmem, ⟨11, _⟩ => ⟨S512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x8192x1024 : Shape := ⟨3, ![4, 8192, 1024]⟩
abbrev S1024 : Shape := ⟨1, ![1024]⟩
abbrev S1024x3072 : Shape := ⟨2, ![1024, 3072]⟩
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S1x1x1024 : Shape := ⟨3, ![1, 1, 1024]⟩
abbrev S4x8192x3072 : Shape := ⟨3, ![4, 8192, 3072]⟩
abbrev S4x8192x512 : Shape := ⟨3, ![4, 8192, 512]⟩
abbrev S4x8192x8x64 : Shape := ⟨4, ![4, 8192, 8, 64]⟩
abbrev S4x8192x1x8 : Shape := ⟨4, ![4, 8192, 1, 8]⟩
abbrev S4x8192x8x8 : Shape := ⟨4, ![4, 8192, 8, 8]⟩
abbrev S4x8192x8x48 : Shape := ⟨4, ![4, 8192, 8, 48]⟩
abbrev S32768x3072 : Shape := ⟨2, ![32768, 3072]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x8192, .f32⟩
  | .hbm, ⟨21, _⟩ => ⟨S4x8192x1, .f32⟩
  | .hbm, ⟨22, _⟩ => ⟨S1x1x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S4x8192x3072, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S4x8192x512, .f32⟩
  | .hbm, ⟨51, _⟩ => ⟨S4x8192x8x64, .f32⟩
  | .hbm, ⟨52, _⟩ => ⟨S4x8192x1x8, .f32⟩
  | .hbm, ⟨53, _⟩ => ⟨S4x8192x1x8, .f32⟩
  | .hbm, ⟨54, _⟩ => ⟨S4x8192x8x8, .f32⟩
  | .hbm, ⟨55, _⟩ => ⟨S4x8192x8x8, .f32⟩
  | .hbm, ⟨56, _⟩ => ⟨S4x8192x8x48, .f32⟩
  | .hbm, ⟨57, _⟩ => ⟨S4x8192x8x8, .f32⟩
  | .hbm, ⟨58, _⟩ => ⟨S4x8192x8x8, .f32⟩
  | .hbm, ⟨59, _⟩ => ⟨S4x8192x8x8, .f32⟩
  | .hbm, ⟨60, _⟩ => ⟨S4x8192x8x8, .f32⟩
  | .hbm, ⟨61, _⟩ => ⟨S4x8192x8x8, .f32⟩
  | .hbm, ⟨62, _⟩ => ⟨S4x8192x8x8, .f32⟩
  | .hbm, ⟨63, _⟩ => ⟨S4x8192x8x8, .f32⟩
  | .hbm, ⟨64, _⟩ => ⟨S4x8192x8x8, .f32⟩
  | .hbm, ⟨65, _⟩ => ⟨S4x8192x8x8, .f32⟩
  | .hbm, ⟨66, _⟩ => ⟨S4x8192x8x8, .f32⟩
  | .hbm, ⟨67, _⟩ => ⟨S4x8192x8x64, .f32⟩
  | .hbm, ⟨68, _⟩ => ⟨S4x8192x512, .f32⟩
  | .hbm, ⟨69, _⟩ => ⟨S4x8192x8x64, .f32⟩
  | .hbm, ⟨70, _⟩ => ⟨S4x8192x1x8, .f32⟩
  | .hbm, ⟨71, _⟩ => ⟨S4x8192x1x8, .f32⟩
  | .hbm, ⟨72, _⟩ => ⟨S4x8192x8x8, .f32⟩
  | .hbm, ⟨73, _⟩ => ⟨S4x8192x8x8, .f32⟩
  | .hbm, ⟨74, _⟩ => ⟨S4x8192x8x48, .f32⟩
  | .hbm, ⟨75, _⟩ => ⟨S4x8192x8x8, .f32⟩
  | .hbm, ⟨76, _⟩ => ⟨S4x8192x8x8, .f32⟩
  | .hbm, ⟨77, _⟩ => ⟨S4x8192x8x8, .f32⟩
  | .hbm, ⟨78, _⟩ => ⟨S4x8192x8x8, .f32⟩
  | .hbm, ⟨79, _⟩ => ⟨S4x8192x8x8, .f32⟩
  | .hbm, ⟨80, _⟩ => ⟨S4x8192x8x8, .f32⟩
  | .hbm, ⟨81, _⟩ => ⟨S4x8192x8x8, .f32⟩
  | .hbm, ⟨82, _⟩ => ⟨S4x8192x8x8, .f32⟩
  | .hbm, ⟨83, _⟩ => ⟨S4x8192x8x8, .f32⟩
  | .hbm, ⟨84, _⟩ => ⟨S4x8192x8x8, .f32⟩
  | .hbm, ⟨85, _⟩ => ⟨S4x8192x8x64, .f32⟩
  | .hbm, ⟨86, _⟩ => ⟨S4x8192x512, .f32⟩
  | .hbm, ⟨87, _⟩ => ⟨S4x8192x8x64, .f32⟩
  | .hbm, ⟨88, _⟩ => ⟨S4x8192x1x8, .f32⟩
  | .hbm, ⟨89, _⟩ => ⟨S4x8192x1x8, .f32⟩
  | .hbm, ⟨90, _⟩ => ⟨S4x8192x8x8, .f32⟩
  | .hbm, ⟨91, _⟩ => ⟨S4x8192x8x8, .f32⟩
  | .hbm, ⟨92, _⟩ => ⟨S4x8192x8x48, .f32⟩
  | .hbm, ⟨93, _⟩ => ⟨S4x8192x8x8, .f32⟩
  | .hbm, ⟨94, _⟩ => ⟨S4x8192x8x8, .f32⟩
  | .hbm, ⟨95, _⟩ => ⟨S4x8192x8x8, .f32⟩
  | .hbm, ⟨96, _⟩ => ⟨S4x8192x8x8, .f32⟩
  | .hbm, ⟨97, _⟩ => ⟨S4x8192x8x8, .f32⟩
  | .hbm, ⟨98, _⟩ => ⟨S4x8192x8x8, .f32⟩
  | .hbm, ⟨99, _⟩ => ⟨S4x8192x8x8, .f32⟩
  | .hbm, ⟨100, _⟩ => ⟨S4x8192x8x8, .f32⟩
  | .hbm, ⟨101, _⟩ => ⟨S4x8192x8x8, .f32⟩
  | .hbm, ⟨102, _⟩ => ⟨S4x8192x8x8, .f32⟩
  | .hbm, ⟨103, _⟩ => ⟨S4x8192x8x64, .f32⟩
  | .hbm, ⟨104, _⟩ => ⟨S4x8192x512, .f32⟩
  | .hbm, ⟨105, _⟩ => ⟨S4x8192x8x64, .f32⟩
  | .hbm, ⟨106, _⟩ => ⟨S4x8192x1x8, .f32⟩
  | .hbm, ⟨107, _⟩ => ⟨S4x8192x1x8, .f32⟩
  | .hbm, ⟨108, _⟩ => ⟨S4x8192x8x8, .f32⟩
  | .hbm, ⟨109, _⟩ => ⟨S4x8192x8x8, .f32⟩
  | .hbm, ⟨110, _⟩ => ⟨S4x8192x8x48, .f32⟩
  | .hbm, ⟨111, _⟩ => ⟨S4x8192x8x8, .f32⟩
  | .hbm, ⟨112, _⟩ => ⟨S4x8192x8x8, .f32⟩
  | .hbm, ⟨113, _⟩ => ⟨S4x8192x8x8, .f32⟩
  | .hbm, ⟨114, _⟩ => ⟨S4x8192x8x8, .f32⟩
  | .hbm, ⟨115, _⟩ => ⟨S4x8192x8x8, .f32⟩
  | .hbm, ⟨116, _⟩ => ⟨S4x8192x8x8, .f32⟩
  | .hbm, ⟨117, _⟩ => ⟨S4x8192x8x8, .f32⟩
  | .hbm, ⟨118, _⟩ => ⟨S4x8192x8x8, .f32⟩
  | .hbm, ⟨119, _⟩ => ⟨S4x8192x8x8, .f32⟩
  | .hbm, ⟨120, _⟩ => ⟨S4x8192x8x8, .f32⟩
  | .hbm, ⟨121, _⟩ => ⟨S4x8192x8x64, .f32⟩
  | .hbm, ⟨122, _⟩ => ⟨S4x8192x512, .f32⟩
  | .hbm, ⟨123, _⟩ => ⟨S4x8192x3072, .f32⟩
  | .hbm, ⟨124, _⟩ => ⟨S32768x3072, .f32⟩
  | .hbm, ⟨125, _⟩ => ⟨S32768x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024 : Shape := ⟨1, ![1024]⟩
abbrev S1024x1720 : Shape := ⟨2, ![1024, 1720]⟩
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x0 : Shape := ⟨3, ![4, 8192, 0]⟩
abbrev S4x8192x48 : Shape := ⟨3, ![4, 8192, 48]⟩
abbrev S4x8192x64 : Shape := ⟨3, ![4, 8192, 64]⟩
abbrev S1x4x1x8192x1x64 : Shape := ⟨6, ![1, 4, 1, 8192, 1, 64]⟩
abbrev S1x4x1x8192x2x64 : Shape := ⟨6, ![1, 4, 1, 8192, 2, 64]⟩
abbrev S4x8192x128 : Shape := ⟨3, ![4, 8192, 128]⟩
abbrev S32768x128 : Shape := ⟨2, ![32768, 128]⟩
abbrev S1024x512 : Shape := ⟨2, ![1024, 512]⟩
abbrev S1024x128 : Shape := ⟨2, ![1024, 128]⟩
abbrev S1024x768 : Shape := ⟨2, ![1024, 768]⟩
abbrev S1024x256 : Shape := ⟨2, ![1024, 256]⟩
abbrev S1024x24 : Shape := ⟨2, ![1024, 24]⟩
abbrev S1024x920 : Shape := ⟨2, ![1024, 920]⟩
abbrev S1024x1024 : Shape := ⟨2, ![1024, 1024]⟩
abbrev S1024x32 : Shape := ⟨2, ![1024, 32]⟩
abbrev S32768x1024 : Shape := ⟨2, ![32768, 1024]⟩
abbrev S1024x1920 : Shape := ⟨2, ![1024, 1920]⟩
abbrev S1x1024 : Shape := ⟨2, ![1, 1024]⟩
abbrev S32768x768 : Shape := ⟨2, ![32768, 768]⟩
abbrev S32768x1152 : Shape := ⟨2, ![32768, 1152]⟩
abbrev S512x1024 : Shape := ⟨2, ![512, 1024]⟩
abbrev S512x128 : Shape := ⟨2, ![512, 128]⟩
abbrev S512x768 : Shape := ⟨2, ![512, 768]⟩
abbrev S512x1152 : Shape := ⟨2, ![512, 1152]⟩
abbrev S512 : Shape := ⟨1, ![512]⟩
abbrev S512x1 : Shape := ⟨2, ![512, 1]⟩
abbrev S512x512 : Shape := ⟨2, ![512, 512]⟩
abbrev S512x256 : Shape := ⟨2, ![512, 256]⟩

abbrev nBuf : Space → Nat
  | .hbm => 83
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1720, .f32⟩
  | .hbm, ⟨3, _⟩ => ⟨S4x8192, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x8192, .f32⟩
  | .hbm, ⟨21, _⟩ => ⟨S4x8192x1, .f32⟩
  | .hbm, ⟨22, _⟩ => ⟨S1x1x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S_, .f32⟩
  | .hbm, ⟨29, _⟩ => ⟨S4x8192x8, .f32⟩
  | .hbm, ⟨30, _⟩ => ⟨S_, .f32⟩
  | .hbm, ⟨31, _⟩ => ⟨S4x8192x0, .f32⟩
  | .hbm, ⟨32, _⟩ => ⟨S_, .f32⟩
  | .hbm, ⟨33, _⟩ => ⟨S4x8192x48, .f32⟩
  | .hbm, ⟨34, _⟩ => ⟨S4x8192x64, .f32⟩
  | .hbm, ⟨35, _⟩ => ⟨S_, .f32⟩
  | .hbm, ⟨36, _⟩ => ⟨S4x8192x0, .f32⟩
  | .hbm, ⟨37, _⟩ => ⟨S4x8192x8, .f32⟩
  | .hbm, ⟨38, _⟩ => ⟨S_, .f32⟩
  | .hbm, ⟨39, _⟩ => ⟨S4x8192x48, .f32⟩
  | .hbm, ⟨40, _⟩ => ⟨S4x8192x64, .f32⟩
  | .hbm, ⟨41, _⟩ => ⟨S_, .f32⟩
  | .hbm, ⟨42, _⟩ => ⟨S4x8192x0, .f32⟩
  | .hbm, ⟨43, _⟩ => ⟨S_, .f32⟩
  | .hbm, ⟨44, _⟩ => ⟨S4x8192x48, .f32⟩
  | .hbm, ⟨45, _⟩ => ⟨S4x8192x64, .f32⟩
  | .hbm, ⟨46, _⟩ => ⟨S1x4x1x8192x1x64, .f32⟩
  | .hbm, ⟨47, _⟩ => ⟨S1x4x1x8192x2x64, .f32⟩
  | .hbm, ⟨48, _⟩ => ⟨S4x8192x128, .f32⟩
  | .hbm, ⟨49, _⟩ => ⟨S32768x128, .f32⟩
  | .hbm, ⟨50, _⟩ => ⟨S1x4x1x8192x1x64, .f32⟩
  | .hbm, ⟨51, _⟩ => ⟨S1x4x1x8192x2x64, .f32⟩
  | .hbm, ⟨52, _⟩ => ⟨S4x8192x128, .f32⟩
  | .hbm, ⟨53, _⟩ => ⟨S32768x128, .f32⟩
  | .hbm, ⟨54, _⟩ => ⟨S1x4x1x8192x1x64, .f32⟩
  | .hbm, ⟨55, _⟩ => ⟨S1x4x1x8192x2x64, .f32⟩
  | .hbm, ⟨56, _⟩ => ⟨S4x8192x128, .f32⟩
  | .hbm, ⟨57, _⟩ => ⟨S32768x128, .f32⟩
  | .hbm, ⟨58, _⟩ => ⟨S1024x512, .f32⟩
  | .hbm, ⟨59, _⟩ => ⟨S1024x128, .f32⟩
  | .hbm, ⟨60, _⟩ => ⟨S1024x128, .f32⟩
  | .hbm, ⟨61, _⟩ => ⟨S1024x768, .f32⟩
  | .hbm, ⟨62, _⟩ => ⟨S1024x128, .f32⟩
  | .hbm, ⟨63, _⟩ => ⟨S1024x128, .f32⟩
  | .hbm, ⟨64, _⟩ => ⟨S1024x128, .f32⟩
  | .hbm, ⟨65, _⟩ => ⟨S1024x128, .f32⟩
  | .hbm, ⟨66, _⟩ => ⟨S1024x256, .f32⟩
  | .hbm, ⟨67, _⟩ => ⟨S1024x128, .f32⟩
  | .hbm, ⟨68, _⟩ => ⟨S1024x24, .f32⟩
  | .hbm, ⟨69, _⟩ => ⟨S1024x920, .f32⟩
  | .hbm, ⟨70, _⟩ => ⟨S_, .i32⟩
  | .hbm, ⟨71, _⟩ => ⟨S_, .f32⟩
  | .hbm, ⟨72, _⟩ => ⟨S1024x1024, .f32⟩
  | .hbm, ⟨73, _⟩ => ⟨S1024x32, .f32⟩
  | .hbm, ⟨74, _⟩ => ⟨S_, .i32⟩
  | .hbm, ⟨75, _⟩ => ⟨S_, .f32⟩
  | .hbm, ⟨76, _⟩ => ⟨S1024x128, .f32⟩
  | .hbm, ⟨77, _⟩ => ⟨S32768x1024, .f32⟩
  | .hbm, ⟨78, _⟩ => ⟨S1024x1920, .f32⟩
  | .hbm, ⟨79, _⟩ => ⟨S1024x1920, .bf16⟩
  | .hbm, ⟨80, _⟩ => ⟨S1x1024, .f32⟩
  | .hbm, ⟨81, _⟩ => ⟨S32768x768, .bf16⟩
  | .hbm, ⟨82, _⟩ => ⟨S32768x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x768, .bf16⟩
  | .local _ .vmem, ⟨11, _⟩ => ⟨S512x768, .bf16⟩
  | .local _ .vmem, ⟨12, _⟩ => ⟨S512x1152, .f32⟩
  | .local _ .vmem, ⟨13, _⟩ => ⟨S512x1152, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_call0_v0 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_call1_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x8192x1024 : Shape := ⟨3, ![4, 8192, 1024]⟩
abbrev S1024 : Shape := ⟨1, ![1024]⟩
abbrev S1024x1720 : Shape := ⟨2, ![1024, 1720]⟩
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S1x1x1024 : Shape := ⟨3, ![1, 1, 1024]⟩
abbrev S4x8192x1720 : Shape := ⟨3, ![4, 8192, 1720]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x256 : Shape := ⟨3, ![4, 8192, 256]⟩
abbrev S4x8192x32 : Shape := ⟨3, ![4, 8192, 32]⟩
abbrev S4x8192x8x64 : Shape := ⟨4, ![4, 8192, 8, 64]⟩
abbrev S4x8192x1x8 : Shape := ⟨4, ![4, 8192, 1, 8]⟩
abbrev S4x8192x8x8 : Shape := ⟨4, ![4, 8192, 8, 8]⟩
abbrev S4x8192x8x48 : Shape := ⟨4, ![4, 8192, 8, 48]⟩
abbrev S4x8192x2x64 : Shape := ⟨4, ![4, 8192, 2, 64]⟩
abbrev S4x8192x2x8 : Shape := ⟨4, ![4, 8192, 2, 8]⟩
abbrev S4x8192x2x48 : Shape := ⟨4, ![4, 8192, 2, 48]⟩
abbrev S4x8192x768 : Shape := ⟨3, ![4, 8192, 768]⟩
abbrev S4x8192x104 : Shape := ⟨3, ![4, 8192, 104]⟩
abbrev S4x8192x64 : Shape := ⟨3, ![4, 8192, 64]⟩
abbrev S4x8192x1152 : Shape := ⟨3, ![4, 8192, 1152]⟩
abbrev S32768x768 : Shape := ⟨2, ![32768, 768]⟩
abbrev S32768x1152 : Shape := ⟨2, ![32768, 1152]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1720, .f32⟩
  | .hbm, ⟨3, _⟩ => ⟨S4x8192, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x8192, .f32⟩
  | .hbm, ⟨21, _⟩ => ⟨S4x8192x1, .f32⟩
  | .hbm, ⟨22, _⟩ => ⟨S1x1x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S4x8192x1720, .f32⟩
  | .hbm, ⟨45, _⟩ => ⟨S4x8192x512, .f32⟩
  | .hbm, ⟨46, _⟩ => ⟨S4x8192x128, .f32⟩
  | .hbm, ⟨47, _⟩ => ⟨S4x8192x128, .f32⟩
  | .hbm, ⟨48, _⟩ => ⟨S4x8192x128, .f32⟩
  | .hbm, ⟨49, _⟩ => ⟨S4x8192x128, .f32⟩
  | .hbm, ⟨50, _⟩ => ⟨S4x8192x128, .f32⟩
  | .hbm, ⟨51, _⟩ => ⟨S4x8192x128, .f32⟩
  | .hbm, ⟨52, _⟩ => ⟨S4x8192x24, .f32⟩
  | .hbm, ⟨53, _⟩ => ⟨S4x8192x256, .f32⟩
  | .hbm, ⟨54, _⟩ => ⟨S4x8192x128, .f32⟩
  | .hbm, ⟨55, _⟩ => ⟨S4x8192x32, .f32⟩
  | .hbm, ⟨56, _⟩ => ⟨S4x8192x8x64, .f32⟩
  | .hbm, ⟨57, _⟩ => ⟨S4x8192x1x8, .f32⟩
  | .hbm, ⟨58, _⟩ => ⟨S4x8192x1x8, .f32⟩
  | .hbm, ⟨59, _⟩ => ⟨S4x8192x8x8, .f32⟩
  | .hbm, ⟨60, _⟩ => ⟨S4x8192x8x8, .f32⟩
  | .hbm, ⟨61, _⟩ => ⟨S4x8192x8x48, .f32⟩
  | .hbm, ⟨62, _⟩ => ⟨S4x8192x8x8, .f32⟩
  | .hbm, ⟨63, _⟩ => ⟨S4x8192x8x8, .f32⟩
  | .hbm, ⟨64, _⟩ => ⟨S4x8192x8x8, .f32⟩
  | .hbm, ⟨65, _⟩ => ⟨S4x8192x8x8, .f32⟩
  | .hbm, ⟨66, _⟩ => ⟨S4x8192x8x8, .f32⟩
  | .hbm, ⟨67, _⟩ => ⟨S4x8192x8x8, .f32⟩
  | .hbm, ⟨68, _⟩ => ⟨S4x8192x8x8, .f32⟩
  | .hbm, ⟨69, _⟩ => ⟨S4x8192x8x8, .f32⟩
  | .hbm, ⟨70, _⟩ => ⟨S4x8192x8x8, .f32⟩
  | .hbm, ⟨71, _⟩ => ⟨S4x8192x8x8, .f32⟩
  | .hbm, ⟨72, _⟩ => ⟨S4x8192x8x64, .f32⟩
  | .hbm, ⟨73, _⟩ => ⟨S4x8192x512, .f32⟩
  | .hbm, ⟨74, _⟩ => ⟨S4x8192x2x64, .f32⟩
  | .hbm, ⟨75, _⟩ => ⟨S4x8192x1x8, .f32⟩
  | .hbm, ⟨76, _⟩ => ⟨S4x8192x1x8, .f32⟩
  | .hbm, ⟨77, _⟩ => ⟨S4x8192x2x8, .f32⟩
  | .hbm, ⟨78, _⟩ => ⟨S4x8192x2x8, .f32⟩
  | .hbm, ⟨79, _⟩ => ⟨S4x8192x2x48, .f32⟩
  | .hbm, ⟨80, _⟩ => ⟨S4x8192x2x8, .f32⟩
  | .hbm, ⟨81, _⟩ => ⟨S4x8192x2x8, .f32⟩
  | .hbm, ⟨82, _⟩ => ⟨S4x8192x2x8, .f32⟩
  | .hbm, ⟨83, _⟩ => ⟨S4x8192x2x8, .f32⟩
  | .hbm, ⟨84, _⟩ => ⟨S4x8192x2x8, .f32⟩
  | .hbm, ⟨85, _⟩ => ⟨S4x8192x2x8, .f32⟩
  | .hbm, ⟨86, _⟩ => ⟨S4x8192x2x8, .f32⟩
  | .hbm, ⟨87, _⟩ => ⟨S4x8192x2x8, .f32⟩
  | .hbm, ⟨88, _⟩ => ⟨S4x8192x2x8, .f32⟩
  | .hbm, ⟨89, _⟩ => ⟨S4x8192x2x8, .f32⟩
  | .hbm, ⟨90, _⟩ => ⟨S4x8192x2x64, .f32⟩
  | .hbm, ⟨91, _⟩ => ⟨S4x8192x128, .f32⟩
  | .hbm, ⟨92, _⟩ => ⟨S4x8192x2x64, .f32⟩
  | .hbm, ⟨93, _⟩ => ⟨S4x8192x1x8, .f32⟩
  | .hbm, ⟨94, _⟩ => ⟨S4x8192x1x8, .f32⟩
  | .hbm, ⟨95, _⟩ => ⟨S4x8192x2x8, .f32⟩
  | .hbm, ⟨96, _⟩ => ⟨S4x8192x2x8, .f32⟩
  | .hbm, ⟨97, _⟩ => ⟨S4x8192x2x48, .f32⟩
  | .hbm, ⟨98, _⟩ => ⟨S4x8192x2x8, .f32⟩
  | .hbm, ⟨99, _⟩ => ⟨S4x8192x2x8, .f32⟩
  | .hbm, ⟨100, _⟩ => ⟨S4x8192x2x8, .f32⟩
  | .hbm, ⟨101, _⟩ => ⟨S4x8192x2x8, .f32⟩
  | .hbm, ⟨102, _⟩ => ⟨S4x8192x2x8, .f32⟩
  | .hbm, ⟨103, _⟩ => ⟨S4x8192x2x8, .f32⟩
  | .hbm, ⟨104, _⟩ => ⟨S4x8192x2x8, .f32⟩
  | .hbm, ⟨105, _⟩ => ⟨S4x8192x2x8, .f32⟩
  | .hbm, ⟨106, _⟩ => ⟨S4x8192x2x8, .f32⟩
  | .hbm, ⟨107, _⟩ => ⟨S4x8192x2x8, .f32⟩
  | .hbm, ⟨108, _⟩ => ⟨S4x8192x2x64, .f32⟩
  | .hbm, ⟨109, _⟩ => ⟨S4x8192x128, .f32⟩
  | .hbm, ⟨110, _⟩ => ⟨S4x8192x768, .f32⟩
  | .hbm, ⟨111, _⟩ => ⟨S_, .f32⟩
  | .hbm, ⟨112, _⟩ => ⟨S4x8192x104, .f32⟩
  | .hbm, ⟨113, _⟩ => ⟨S_, .f32⟩
  | .hbm, ⟨114, _⟩ => ⟨S4x8192x64, .f32⟩
  | .hbm, ⟨115, _⟩ => ⟨S_, .f32⟩
  | .hbm, ⟨116, _⟩ => ⟨S4x8192x32, .f32⟩
  | .hbm, ⟨117, _⟩ => ⟨S4x8192x1152, .f32⟩
  | .hbm, ⟨118, _⟩ => ⟨S32768x768, .f32⟩
  | .hbm, ⟨119, _⟩ => ⟨S32768x768, .bf16⟩
  | .hbm, ⟨120, _⟩ => ⟨S32768x1152, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_7 : Ref sig .tc := ⟨.hbm, 111, rfl⟩
abbrev main_v99 : Ref sig .tc := ⟨.hbm, 112, rfl⟩
abbrev main_cst_8 : Ref sig .tc := ⟨.hbm, 113, rfl⟩
abbrev main_v100 : Ref sig .tc := ⟨.hbm, 114, rfl⟩
abbrev main_cst_9 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩

abbrev nD : Nat := 1
abbrev τ : Topo := Topo.v7x

variable {F : FTy → Type} [FloatOps F]
-- ==== Kernel6.lean ====
abbrev S32768x1152 : Shape := ⟨2, ![32768, 1152]⟩
abbrev S256 : Shape := ⟨1, ![256]⟩
abbrev S256x768 : Shape := ⟨2, ![256, 768]⟩
abbrev S4x8192 : Shape := ⟨2, ![4, 8192]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S4x8192x64 : Shape := ⟨3, ![4, 8192, 64]⟩
abbrev S4x8192x32 : Shape := ⟨3, ![4, 8192, 32]⟩
abbrev S4x8192x128 : Shape := ⟨3, ![4, 8192, 128]⟩
abbrev S1x4x1x8192x1x128 : Shape := ⟨6, ![1, 4, 1, 8192, 1, 128]⟩
abbrev S32768x128 : Shape := ⟨2, ![32768, 128]⟩
abbrev S256x8x96 : Shape := ⟨3, ![256, 8, 96]⟩
abbrev S256x8x128 : Shape := ⟨3, ![256, 8, 128]⟩
abbrev S256x1024 : Shape := ⟨2, ![256, 1024]⟩
abbrev S1x256 : Shape := ⟨2, ![1, 256]⟩
abbrev S32768x1024 : Shape := ⟨2, ![32768, 1024]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S256x512 : Shape := ⟨2, ![256, 512]⟩
abbrev S512x512 : Shape := ⟨2, ![512, 512]⟩

abbrev nBuf : Space → Nat
  | .hbm => 66
  | .vmem => 12
  | .smem => 0
  | _ => 0

abbrev bufTy : (tb : Table) → Fin (tcTables nBuf tb) → BufTy
  | .hbm, ⟨0, _⟩ => ⟨S32768x1152, .f32⟩
  | .hbm, ⟨1, _⟩ => ⟨S256, .f32⟩
  | .hbm, ⟨2, _⟩ => ⟨S256x768, .f32⟩
  | .hbm, ⟨3, _⟩ => ⟨S4x8192, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4x8192, .f32⟩
  | .hbm, ⟨21, _⟩ => ⟨S4x8192x1, .f32⟩
  | .hbm, ⟨22, _⟩ => ⟨S1x1x16, .f32⟩
  | .hbm, ⟨23, _⟩ => ⟨S4x8192x16, .f32⟩
  | .hbm, ⟨24, _⟩ => ⟨S4x8192x16, .f32⟩
  | .hbm, ⟨25, _⟩ => ⟨S4x8192x16, .f32⟩
  | .hbm, ⟨26, _⟩ => ⟨S4x8192x16, .f32⟩
  | .hbm, ⟨27, _⟩ => ⟨S4x8192x16, .f32⟩
  | .hbm, ⟨28, _⟩ => ⟨S_, .f32⟩
  | .hbm, ⟨29, _⟩ => ⟨S4x8192x16, .f32⟩
  | .hbm, ⟨30, _⟩ => ⟨S_, .f32⟩
  | .hbm, ⟨31, _⟩ => ⟨S4x8192x64, .f32⟩
  | .hbm, ⟨32, _⟩ => ⟨S_, .f32⟩
  | .hbm, ⟨33, _⟩ => ⟨S4x8192x32, .f32⟩
  | .hbm, ⟨34, _⟩ => ⟨S4x8192x128, .f32⟩
  | .hbm, ⟨35, _⟩ => ⟨S_, .f32⟩
  | .hbm, ⟨36, _⟩ => ⟨S4x8192x64, .f32⟩
  | .hbm, ⟨37, _⟩ => ⟨S4x8192x16, .f32⟩
  | .hbm, ⟨38, _⟩ => ⟨S_, .f32⟩
  | .hbm, ⟨39, _⟩ => ⟨S4x8192x32, .f32⟩
  | .hbm, ⟨40, _⟩ => ⟨S4x8192x128, .f32⟩
  | .hbm, ⟨41, _⟩ => ⟨S_, .f32⟩
  | .hbm, ⟨42, _⟩ => ⟨S4x8192x64, .f32⟩
  | .hbm, ⟨43, _⟩ => ⟨S_, .f32⟩
  | .hbm, ⟨44, _⟩ => ⟨S4x8192x32, .f32⟩
  | .hbm, ⟨45, _⟩ => ⟨S4x8192x128, .f32⟩
  | .hbm, ⟨46, _⟩ => ⟨S1x4x1x8192x1x128, .f32⟩
  | .hbm, ⟨47, _⟩ => ⟨S1x4x1x8192x1x128, .f32⟩
  | .hbm, ⟨48, _⟩ => ⟨S4x8192x128, .f32⟩
  | .hbm, ⟨49, _⟩ => ⟨S32768x128, .f32⟩
  | .hbm, ⟨50, _⟩ => ⟨S1x4x1x8192x1x128, .f32⟩
  | .hbm, ⟨51, _⟩ => ⟨S1x4x1x8192x1x128, .f32⟩
  | .hbm, ⟨52, _⟩ => ⟨S4x8192x128, .f32⟩
  | .hbm, ⟨53, _⟩ => ⟨S32768x128, .f32⟩
  | .hbm, ⟨54, _⟩ => ⟨S1x4x1x8192x1x128, .f32⟩
  | .hbm, ⟨55, _⟩ => ⟨S1x4x1x8192x1x128, .f32⟩
  | .hbm, ⟨56, _⟩ => ⟨S4x8192x128, .f32⟩
  | .hbm, ⟨57, _⟩ => ⟨S32768x128, .f32⟩
  | .hbm, ⟨58, _⟩ => ⟨S256x8x96, .f32⟩
  | .hbm, ⟨59, _⟩ => ⟨S_, .i32⟩
  | .hbm, ⟨60, _⟩ => ⟨S_, .f32⟩
  | .hbm, ⟨61, _⟩ => ⟨S256x8x128, .f32⟩
  | .hbm, ⟨62, _⟩ => ⟨S256x1024, .f32⟩
  | .hbm, ⟨63, _⟩ => ⟨S256x1024, .bf16⟩
  | .hbm, ⟨64, _⟩ => ⟨S1x256, .f32⟩
  | .hbm, ⟨65, _⟩ => ⟨S32768x1024, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S256x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S32768x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1152 : Shape := ⟨2, ![32768, 1152]⟩
abbrev S256 : Shape := ⟨1, ![256]⟩
abbrev S256x768 : Shape := ⟨2, ![256, 768]⟩
abbrev S4x8192 : Shape := ⟨2, ![4, 8192]⟩
abbrev S4x8192x1152 : Shape := ⟨3, ![4, 8192, 1152]⟩
abbrev S4x8192x256 : Shape := ⟨3, ![4, 8192, 256]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S1x1x256 : Shape := ⟨3, ![1, 1, 256]⟩
abbrev S4x8192x768 : Shape := ⟨3, ![4, 8192, 768]⟩
abbrev S4x8192x8x96 : Shape := ⟨4, ![4, 8192, 8, 96]⟩
abbrev S4x8192x8x32 : Shape := ⟨4, ![4, 8192, 8, 32]⟩
abbrev S4x8192x1x16 : Shape := ⟨4, ![4, 8192, 1, 16]⟩
abbrev S4x8192x8x16 : Shape := ⟨4, ![4, 8192, 8, 16]⟩
abbrev S4x8192x8x0 : Shape := ⟨4, ![4, 8192, 8, 0]⟩
abbrev S4x8192x8x64 : Shape := ⟨4, ![4, 8192, 8, 64]⟩
abbrev S4x8192x8x128 : Shape := ⟨4, ![4, 8192, 8, 128]⟩
abbrev S32768x1024 : Shape := ⟨2, ![32768, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32768x1152, .f32⟩
  | .hbm, ⟨1, _⟩ => ⟨S256, .f32⟩
  | .hbm, ⟨2, _⟩ => ⟨S256x768, .f32⟩
  | .hbm, ⟨3, _⟩ => ⟨S4x8192, .i32⟩
  | .hbm, ⟨4, _⟩ => ⟨S4x8192x1152, .f32⟩
  | .hbm, ⟨5, _⟩ => ⟨S4x8192x256, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S4x8192, .f32⟩
  | .hbm, ⟨23, _⟩ => ⟨S4x8192x1, .f32⟩
  | .hbm, ⟨24, _⟩ => ⟨S1x1x16, .f32⟩
  | .hbm, ⟨25, _⟩ => ⟨S4x8192x16, .f32⟩
  | .hbm, ⟨26, _⟩ => ⟨S4x8192x16, .f32⟩
  | .hbm, ⟨27, _⟩ => ⟨S4x8192x16, .f32⟩
  | .hbm, ⟨28, _⟩ => ⟨S4x8192x16, .f32⟩
  | .hbm, ⟨29, _⟩ => ⟨S4x8192x16, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S1x1x256, .f32⟩
  | .hbm, ⟨44, _⟩ => ⟨S4x8192x256, .f32⟩
  | .hbm, ⟨45, _⟩ => ⟨S4x8192x256, .f32⟩
  | .hbm, ⟨46, _⟩ => ⟨S4x8192x768, .f32⟩
  | .hbm, ⟨47, _⟩ => ⟨S4x8192x8x96, .f32⟩
  | .hbm, ⟨48, _⟩ => ⟨S4x8192x8x32, .f32⟩
  | .hbm, ⟨49, _⟩ => ⟨S4x8192x1x16, .f32⟩
  | .hbm, ⟨50, _⟩ => ⟨S4x8192x1x16, .f32⟩
  | .hbm, ⟨51, _⟩ => ⟨S4x8192x8x16, .f32⟩
  | .hbm, ⟨52, _⟩ => ⟨S4x8192x8x16, .f32⟩
  | .hbm, ⟨53, _⟩ => ⟨S4x8192x8x0, .f32⟩
  | .hbm, ⟨54, _⟩ => ⟨S4x8192x8x16, .f32⟩
  | .hbm, ⟨55, _⟩ => ⟨S4x8192x8x16, .f32⟩
  | .hbm, ⟨56, _⟩ => ⟨S4x8192x8x16, .f32⟩
  | .hbm, ⟨57, _⟩ => ⟨S4x8192x8x16, .f32⟩
  | .hbm, ⟨58, _⟩ => ⟨S4x8192x8x16, .f32⟩
  | .hbm, ⟨59, _⟩ => ⟨S4x8192x8x16, .f32⟩
  | .hbm, ⟨60, _⟩ => ⟨S4x8192x8x16, .f32⟩
  | .hbm, ⟨61, _⟩ => ⟨S4x8192x8x16, .f32⟩
  | .hbm, ⟨62, _⟩ => ⟨S4x8192x8x16, .f32⟩
  | .hbm, ⟨63, _⟩ => ⟨S4x8192x8x16, .f32⟩
  | .hbm, ⟨64, _⟩ => ⟨S4x8192x8x32, .f32⟩
  | .hbm, ⟨65, _⟩ => ⟨S4x8192x8x64, .f32⟩
  | .hbm, ⟨66, _⟩ => ⟨S_, .f32⟩
  | .hbm, ⟨67, _⟩ => ⟨S4x8192x8x32, .f32⟩
  | .hbm, ⟨68, _⟩ => ⟨S4x8192x8x128, .f32⟩
  | .hbm, ⟨69, _⟩ => ⟨S32768x1024, .f32⟩
  | .hbm, ⟨70, _⟩ => ⟨S32768x1024, .bf16⟩
  | _, _ => ⟨S32768x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel7.lean ====
abbrev S4x8192x128 : Shape := ⟨3, ![4, 8192, 128]⟩
abbrev S4x8192x32 : Shape := ⟨3, ![4, 8192, 32]⟩
abbrev S128 : Shape := ⟨1, ![128]⟩
abbrev S128x1024 : Shape := ⟨2, ![128, 1024]⟩
abbrev S4x8192 : Shape := ⟨2, ![4, 8192]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S4x8192x64 : Shape := ⟨3, ![4, 8192, 64]⟩
abbrev S1x4x1x8192x1x128 : Shape := ⟨6, ![1, 4, 1, 8192, 1, 128]⟩
abbrev S32768x128 : Shape := ⟨2, ![32768, 128]⟩
abbrev S4x8192x768 : Shape := ⟨3, ![4, 8192, 768]⟩
abbrev S4x8192x192 : Shape := ⟨3, ![4, 8192, 192]⟩
abbrev S4x8192x1152 : Shape := ⟨3, ![4, 8192, 1152]⟩
abbrev S32768x1152 : Shape := ⟨2, ![32768, 1152]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S1x128 : Shape := ⟨2, ![1, 128]⟩
abbrev S32768x1536 : Shape := ⟨2, ![32768, 1536]⟩
abbrev S512x128 : Shape := ⟨2, ![512, 128]⟩
abbrev S512x1536 : Shape := ⟨2, ![512, 1536]⟩
abbrev S512 : Shape := ⟨1, ![512]⟩
abbrev S512x1 : Shape := ⟨2, ![512, 1]⟩
abbrev S512x512 : Shape := ⟨2, ![512, 512]⟩

abbrev nBuf : Space → Nat
  | .hbm => 79
  | .vmem => 14
  | .smem => 0
  | _ => 0

abbrev bufTy : (tb : Table) → Fin (tcTables nBuf tb) → BufTy
  | .hbm, ⟨0, _⟩ => ⟨S4x8192x128, .f32⟩
  | .hbm, ⟨1, _⟩ => ⟨S4x8192x32, .f32⟩
  | .hbm, ⟨2, _⟩ => ⟨S128, .f32⟩
  | .hbm, ⟨3, _⟩ => ⟨S128x1024, .f32⟩
  | .hbm, ⟨4, _⟩ => ⟨S4x8192, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x8192, .f32⟩
  | .hbm, ⟨22, _⟩ => ⟨S4x8192x1, .f32⟩
  | .hbm, ⟨23, _⟩ => ⟨S1x1x16, .f32⟩
  | .hbm, ⟨24, _⟩ => ⟨S4x8192x16, .f32⟩
  | .hbm, ⟨25, _⟩ => ⟨S4x8192x16, .f32⟩
  | .hbm, ⟨26, _⟩ => ⟨S4x8192x16, .f32⟩
  | .hbm, ⟨27, _⟩ => ⟨S4x8192x16, .f32⟩
  | .hbm, ⟨28, _⟩ => ⟨S4x8192x16, .f32⟩
  | .hbm, ⟨29, _⟩ => ⟨S_, .f32⟩
  | .hbm, ⟨30, _⟩ => ⟨S4x8192x16, .f32⟩
  | .hbm, ⟨31, _⟩ => ⟨S_, .f32⟩
  | .hbm, ⟨32, _⟩ => ⟨S4x8192x64, .f32⟩
  | .hbm, ⟨33, _⟩ => ⟨S_, .f32⟩
  | .hbm, ⟨34, _⟩ => ⟨S4x8192x32, .f32⟩
  | .hbm, ⟨35, _⟩ => ⟨S4x8192x128, .f32⟩
  | .hbm, ⟨36, _⟩ => ⟨S_, .f32⟩
  | .hbm, ⟨37, _⟩ => ⟨S4x8192x64, .f32⟩
  | .hbm, ⟨38, _⟩ => ⟨S4x8192x16, .f32⟩
  | .hbm, ⟨39, _⟩ => ⟨S_, .f32⟩
  | .hbm, ⟨40, _⟩ => ⟨S4x8192x32, .f32⟩
  | .hbm, ⟨41, _⟩ => ⟨S4x8192x128, .f32⟩
  | .hbm, ⟨42, _⟩ => ⟨S_, .f32⟩
  | .hbm, ⟨43, _⟩ => ⟨S4x8192x64, .f32⟩
  | .hbm, ⟨44, _⟩ => ⟨S_, .f32⟩
  | .hbm, ⟨45, _⟩ => ⟨S4x8192x32, .f32⟩
  | .hbm, ⟨46, _⟩ => ⟨S4x8192x128, .f32⟩
  | .hbm, ⟨47, _⟩ => ⟨S1x4x1x8192x1x128, .f32⟩
  | .hbm, ⟨48, _⟩ => ⟨S1x4x1x8192x1x128, .f32⟩
  | .hbm, ⟨49, _⟩ => ⟨S4x8192x128, .f32⟩
  | .hbm, ⟨50, _⟩ => ⟨S32768x128, .f32⟩
  | .hbm, ⟨51, _⟩ => ⟨S1x4x1x8192x1x128, .f32⟩
  | .hbm, ⟨52, _⟩ => ⟨S1x4x1x8192x1x128, .f32⟩
  | .hbm, ⟨53, _⟩ => ⟨S4x8192x128, .f32⟩
  | .hbm, ⟨54, _⟩ => ⟨S32768x128, .f32⟩
  | .hbm, ⟨55, _⟩ => ⟨S1x4x1x8192x1x128, .f32⟩
  | .hbm, ⟨56, _⟩ => ⟨S1x4x1x8192x1x128, .f32⟩
  | .hbm, ⟨57, _⟩ => ⟨S4x8192x128, .f32⟩
  | .hbm, ⟨58, _⟩ => ⟨S32768x128, .f32⟩
  | .hbm, ⟨59, _⟩ => ⟨S_, .f32⟩
  | .hbm, ⟨60, _⟩ => ⟨S4x8192x768, .f32⟩
  | .hbm, ⟨61, _⟩ => ⟨S_, .f32⟩
  | .hbm, ⟨62, _⟩ => ⟨S4x8192x192, .f32⟩
  | .hbm, ⟨63, _⟩ => ⟨S_, .f32⟩
  | .hbm, ⟨64, _⟩ => ⟨S4x8192x32, .f32⟩
  | .hbm, ⟨65, _⟩ => ⟨S4x8192x1152, .f32⟩
  | .hbm, ⟨66, _⟩ => ⟨S32768x1152, .f32⟩
  | .hbm, ⟨67, _⟩ => ⟨S128x8x128, .f32⟩
  | .hbm, ⟨68, _⟩ => ⟨S128x8x64, .f32⟩
  | .hbm, ⟨69, _⟩ => ⟨S_, .i32⟩
  | .hbm, ⟨70, _⟩ => ⟨S_, .f32⟩
  | .hbm, ⟨71, _⟩ => ⟨S128x8x128, .f32⟩
  | .hbm, ⟨72, _⟩ => ⟨S128x1024, .f32⟩
  | .hbm, ⟨73, _⟩ => ⟨S128x8x64, .f32⟩
  | .hbm, ⟨74, _⟩ => ⟨S128x512, .f32⟩
  | .hbm, ⟨75, _⟩ => ⟨S128x1536, .f32⟩
  | .hbm, ⟨76, _⟩ => ⟨S128x1536, .bf16⟩
  | .hbm, ⟨77, _⟩ => ⟨S1x128, .f32⟩
  | .hbm, ⟨78, _⟩ => ⟨S32768x1536, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S128x1536, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1536, .bf16⟩
  | .local _ .vmem, ⟨13, _⟩ => ⟨S512x1536, .bf16⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x8192x128 : Shape := ⟨3, ![4, 8192, 128]⟩
abbrev S4x8192x32 : Shape := ⟨3, ![4, 8192, 32]⟩
abbrev S128 : Shape := ⟨1, ![128]⟩
abbrev S128x1024 : Shape := ⟨2, ![128, 1024]⟩
abbrev S4x8192 : Shape := ⟨2, ![4, 8192]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S1x1x128 : Shape := ⟨3, ![1, 1, 128]⟩
abbrev S4x8192x1024 : Shape := ⟨3, ![4, 8192, 1024]⟩
abbrev S4x8192x8x128 : Shape := ⟨4, ![4, 8192, 8, 128]⟩
abbrev S4x8192x0 : Shape := ⟨3, ![4, 8192, 0]⟩
abbrev S4x8192x8x64 : Shape := ⟨4, ![4, 8192, 8, 64]⟩
abbrev S4x8192x1x32 : Shape := ⟨4, ![4, 8192, 1, 32]⟩
abbrev S4x8192x8x32 : Shape := ⟨4, ![4, 8192, 8, 32]⟩
abbrev S32768x1024 : Shape := ⟨2, ![32768, 1024]⟩
abbrev S32768x512 : Shape := ⟨2, ![32768, 512]⟩
abbrev S32768x1536 : Shape := ⟨2, ![32768, 1536]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x32, .f32⟩
  | .hbm, ⟨2, _⟩ => ⟨S128, .f32⟩
  | .hbm, ⟨3, _⟩ => ⟨S128x1024, .f32⟩
  | .hbm, ⟨4, _⟩ => ⟨S4x8192, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x8192, .f32⟩
  | .hbm, ⟨22, _⟩ => ⟨S4x8192x1, .f32⟩
  | .hbm, ⟨23, _⟩ => ⟨S1x1x16, .f32⟩
  | .hbm, ⟨24, _⟩ => ⟨S4x8192x16, .f32⟩
  | .hbm, ⟨25, _⟩ => ⟨S4x8192x16, .f32⟩
  | .hbm, ⟨26, _⟩ => ⟨S4x8192x16, .f32⟩
  | .hbm, ⟨27, _⟩ => ⟨S4x8192x16, .f32⟩
  | .hbm, ⟨28, _⟩ => ⟨S4x8192x16, .f32⟩
  | .hbm, ⟨29, _⟩ => ⟨S4x8192x128, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x128, .f32⟩
  | .hbm, ⟨41, _⟩ => ⟨S4x8192x128, .f32⟩
  | .hbm, ⟨42, _⟩ => ⟨S1x1x128, .f32⟩
  | .hbm, ⟨43, _⟩ => ⟨S4x8192x128, .f32⟩
  | .hbm, ⟨44, _⟩ => ⟨S4x8192x128, .f32⟩
  | .hbm, ⟨45, _⟩ => ⟨S4x8192x1024, .f32⟩
  | .hbm, ⟨46, _⟩ => ⟨S4x8192x8x128, .f32⟩
  | .hbm, ⟨47, _⟩ => ⟨S4x8192x16, .f32⟩
  | .hbm, ⟨48, _⟩ => ⟨S4x8192x16, .f32⟩
  | .hbm, ⟨49, _⟩ => ⟨S4x8192x0, .f32⟩
  | .hbm, ⟨50, _⟩ => ⟨S4x8192x16, .f32⟩
  | .hbm, ⟨51, _⟩ => ⟨S4x8192x16, .f32⟩
  | .hbm, ⟨52, _⟩ => ⟨S4x8192x16, .f32⟩
  | .hbm, ⟨53, _⟩ => ⟨S4x8192x16, .f32⟩
  | .hbm, ⟨54, _⟩ => ⟨S4x8192x16, .f32⟩
  | .hbm, ⟨55, _⟩ => ⟨S4x8192x16, .f32⟩
  | .hbm, ⟨56, _⟩ => ⟨S4x8192x32, .f32⟩
  | .hbm, ⟨57, _⟩ => ⟨S4x8192x8x64, .f32⟩
  | .hbm, ⟨58, _⟩ => ⟨S4x8192x1x32, .f32⟩
  | .hbm, ⟨59, _⟩ => ⟨S4x8192x8x32, .f32⟩
  | .hbm, ⟨60, _⟩ => ⟨S_, .f32⟩
  | .hbm, ⟨61, _⟩ => ⟨S4x8192x8x32, .f32⟩
  | .hbm, ⟨62, _⟩ => ⟨S4x8192x8x128, .f32⟩
  | .hbm, ⟨63, _⟩ => ⟨S32768x1024, .f32⟩
  | .hbm, ⟨64, _⟩ => ⟨S4x8192x8x64, .f32⟩
  | .hbm, ⟨65, _⟩ => ⟨S32768x512, .f32⟩
  | .hbm, ⟨66, _⟩ => ⟨S32768x1536, .f32⟩
  | .hbm, ⟨67, _⟩ => ⟨S32768x1536, .bf16⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel8.lean ====
abbrev S32768x512 : Shape := ⟨2, ![32768, 512]⟩
abbrev S32768x1152 : Shape := ⟨2, ![32768, 1152]⟩
abbrev S24 : Shape := ⟨1, ![24]⟩
abbrev S1x24 : Shape := ⟨2, ![1, 24]⟩
abbrev S_ : Shape := ⟨0, ![]⟩
abbrev S1x128 : Shape := ⟨2, ![1, 128]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S3x128x512 : Shape := ⟨3, ![3, 128, 512]⟩
abbrev S512x512 : Shape := ⟨2, ![512, 512]⟩
abbrev S512x128 : Shape := ⟨2, ![512, 128]⟩

abbrev nBuf : Space → Nat
  | .hbm => 64
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x1152, .f32⟩
  | .hbm, ⟨4, _⟩ => ⟨S24, .f32⟩
  | .hbm, ⟨5, _⟩ => ⟨S1x24, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S128, .i32⟩
  | .hbm, ⟨10, _⟩ => ⟨S128x1, .i32⟩
  | .hbm, ⟨11, _⟩ => ⟨S512, .i32⟩
  | .hbm, ⟨12, _⟩ => ⟨S1x512, .i32⟩
  | .hbm, ⟨13, _⟩ => ⟨S_, .i32⟩
  | .hbm, ⟨14, _⟩ => ⟨S_, .i32⟩
  | .hbm, ⟨15, _⟩ => ⟨S1x512, .i32⟩
  | .hbm, ⟨16, _⟩ => ⟨S1x512, .i32⟩
  | .hbm, ⟨17, _⟩ => ⟨S1x512, .i32⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S1x512, .i32⟩
  | .hbm, ⟨22, _⟩ => ⟨S1x512, .i32⟩
  | .hbm, ⟨23, _⟩ => ⟨S_, .i32⟩
  | .hbm, ⟨24, _⟩ => ⟨S1x512, .i32⟩
  | .hbm, ⟨25, _⟩ => ⟨S1x512, .i1⟩
  | .hbm, ⟨26, _⟩ => ⟨S1x512, .i1⟩
  | .hbm, ⟨27, _⟩ => ⟨S_, .i32⟩
  | .hbm, ⟨28, _⟩ => ⟨S1x512, .i32⟩
  | .hbm, ⟨29, _⟩ => ⟨S1x512, .i32⟩
  | .hbm, ⟨30, _⟩ => ⟨S1x512, .i32⟩
  | .hbm, ⟨31, _⟩ => ⟨S_, .i32⟩
  | .hbm, ⟨32, _⟩ => ⟨S1x512, .i32⟩
  | .hbm, ⟨33, _⟩ => ⟨S1x512, .i32⟩
  | .hbm, ⟨34, _⟩ => ⟨S_, .i32⟩
  | .hbm, ⟨35, _⟩ => ⟨S1x512, .i32⟩
  | .hbm, ⟨36, _⟩ => ⟨S1x512, .i32⟩
  | .hbm, ⟨37, _⟩ => ⟨S128x512, .i32⟩
  | .hbm, ⟨38, _⟩ => ⟨S128x512, .i32⟩
  | .hbm, ⟨39, _⟩ => ⟨S128x512, .i1⟩
  | .hbm, ⟨40, _⟩ => ⟨S_, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i32⟩
  | .hbm, ⟨46, _⟩ => ⟨S128x512, .i32⟩
  | .hbm, ⟨47, _⟩ => ⟨S128x512, .i32⟩
  | .hbm, ⟨48, _⟩ => ⟨S128x512, .i1⟩
  | .hbm, ⟨49, _⟩ => ⟨S_, .i32⟩
  | .hbm, ⟨50, _⟩ => ⟨S1x512, .i32⟩
  | .hbm, ⟨51, _⟩ => ⟨S1x512, .i32⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S128x512, .i32⟩
  | .hbm, ⟨56, _⟩ => ⟨S128x512, .i32⟩
  | .hbm, ⟨57, _⟩ => ⟨S128x512, .i1⟩
  | .hbm, ⟨58, _⟩ => ⟨S1x128x512, .i1⟩
  | .hbm, ⟨59, _⟩ => ⟨S1x128x512, .i1⟩
  | .hbm, ⟨60, _⟩ => ⟨S1x128x512, .i1⟩
  | .hbm, ⟨61, _⟩ => ⟨S3x128x512, .i1⟩
  | .hbm, ⟨62, _⟩ => ⟨S3x128x512, .bf16⟩
  | .hbm, ⟨63, _⟩ => ⟨S32768x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S3x128x512, .bf16⟩
  | .local _ .vmem, ⟨10, _⟩ => ⟨S512x512, .bf16⟩
  | .local _ .vmem, ⟨11, _⟩ => ⟨S512x512, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S32768x512 : Shape := ⟨2, ![32768, 512]⟩
abbrev S32768x1152 : Shape := ⟨2, ![32768, 1152]⟩
abbrev S24 : Shape := ⟨1, ![24]⟩
abbrev S32768x24 : Shape := ⟨2, ![32768, 24]⟩
abbrev S1x24 : Shape := ⟨2, ![1, 24]⟩
abbrev S_ : Shape := ⟨0, ![]⟩
abbrev S32768x8x3 : Shape := ⟨3, ![32768, 8, 3]⟩
abbrev S32768x8x64 : Shape := ⟨3, ![32768, 8, 64]⟩
abbrev S32768x8x1 : Shape := ⟨3, ![32768, 8, 1]⟩

abbrev nBuf : Space → Nat
  | .hbm => 34
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x1152, .f32⟩
  | .hbm, ⟨4, _⟩ => ⟨S24, .f32⟩
  | .hbm, ⟨5, _⟩ => ⟨S32768x24, .f32⟩
  | .hbm, ⟨6, _⟩ => ⟨S1x24, .f32⟩
  | .hbm, ⟨7, _⟩ => ⟨S32768x24, .f32⟩
  | .hbm, ⟨8, _⟩ => ⟨S32768x24, .f32⟩
  | .hbm, ⟨9, _⟩ => ⟨S32768x24, .f32⟩
  | .hbm, ⟨10, _⟩ => ⟨S32768x24, .f32⟩
  | .hbm, ⟨11, _⟩ => ⟨S_, .f32⟩
  | .hbm, ⟨12, _⟩ => ⟨S32768x24, .f32⟩
  | .hbm, ⟨13, _⟩ => ⟨S32768x24, .f32⟩
  | .hbm, ⟨14, _⟩ => ⟨S_, .f32⟩
  | .hbm, ⟨15, _⟩ => ⟨S32768x24, .f32⟩
  | .hbm, ⟨16, _⟩ => ⟨S32768x24, .f32⟩
  | .hbm, ⟨17, _⟩ => ⟨S32768x8x3, .f32⟩
  | .hbm, ⟨18, _⟩ => ⟨S32768x8x64, .f32⟩
  | .hbm, ⟨19, _⟩ => ⟨S32768x8x64, .f32⟩
  | .hbm, ⟨20, _⟩ => ⟨S32768x8x64, .f32⟩
  | .hbm, ⟨21, _⟩ => ⟨S32768x8x1, .f32⟩
  | .hbm, ⟨22, _⟩ => ⟨S32768x8x64, .f32⟩
  | .hbm, ⟨23, _⟩ => ⟨S32768x8x64, .f32⟩
  | .hbm, ⟨24, _⟩ => ⟨S32768x8x1, .f32⟩
  | .hbm, ⟨25, _⟩ => ⟨S32768x8x64, .f32⟩
  | .hbm, ⟨26, _⟩ => ⟨S32768x8x64, .f32⟩
  | .hbm, ⟨27, _⟩ => ⟨S32768x8x64, .f32⟩
  | .hbm, ⟨28, _⟩ => ⟨S32768x8x1, .f32⟩
  | .hbm, ⟨29, _⟩ => ⟨S32768x8x64, .f32⟩
  | .hbm, ⟨30, _⟩ => ⟨S32768x8x64, .f32⟩
  | .hbm, ⟨31, _⟩ => ⟨S32768x8x64, .f32⟩
  | .hbm, ⟨32, _⟩ => ⟨S32768x512, .f32⟩
  | .hbm, ⟨33, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Off.lean ====
module

public import proofs.«01_k».proof.Proof.Gen.KernelIdeal.Skeleton
public import Idealize.ShloMosaic.Lib.Exec

@[expose] public section

set_option maxRecDepth 16384
noncomputable section

/-! Where the body's loads and stores lie, by grid point: block `8 * (i 1 / 4) + u` for the blocks after the last whole
group of eight. -/

namespace Cert.KernelIdeal.Run

open Cert.KernelIdeal Cert.KernelIdeal.Gen
open Idealize.ShloMosaic Idealize.ShloMosaic.Tactic

theorem k0_off1_eq : ∀ (i : grid0.Coords) (t : Fin (k0_t1_loop i).trips), k0_off1 i t = ![0, 4096 * t.val, 0] := by decide +kernel
instance (i : grid0.Coords) (t) : ClosedOff (k0_off1 i t) := ⟨_, k0_off1_eq i t⟩
theorem k0_off2_all : ∀ (i : grid0.Coords) (t : Fin (k0_t1_loop i).trips) (u : Fin 8), k0_off2 i t (BitVec.ofNat 32 u.val) = ![8 * t.val + u.val, 0, 0] := by decide +kernel
theorem k0_off2_eq0 (i : grid0.Coords) (t : Fin (k0_t1_loop i).trips) : k0_off2 i t 0#32 = ![8 * t.val + 0, 0, 0] := k0_off2_all i t 0
instance (i : grid0.Coords) (t) : ClosedOff (k0_off2 i t 0#32) := ⟨_, k0_off2_eq0 i t⟩
theorem k0_off2_eq1 (i : grid0.Coords) (t : Fin (k0_t1_loop i).trips) : k0_off2 i t 1#32 = ![8 * t.val + 1, 0, 0] := k0_off2_all i t 1
instance (i : grid0.Coords) (t) : ClosedOff (k0_off2 i t 1#32) := ⟨_, k0_off2_eq1 i t⟩
theorem k0_off2_eq2 (i : grid0.Coords) (t : Fin (k0_t1_loop i).trips) : k0_off2 i t 2#32 = ![8 * t.val + 2, 0, 0] := k0_off2_all i t 2
instance (i : grid0.Coords) (t) : ClosedOff (k0_off2 i t 2#32) := ⟨_, k0_off2_eq2 i t⟩
theorem k0_off2_eq3 (i : grid0.Coords) (t : Fin (k0_t1_loop i).trips) : k0_off2 i t 3#32 = ![8 * t.val + 3, 0, 0] := k0_off2_all i t 3
instance (i : grid0.Coords) (t) : ClosedOff (k0_off2 i t 3#32) := ⟨_, k0_off2_eq3 i t⟩
theorem k0_off2_eq4 (i : grid0.Coords) (t : Fin (k0_t1_loop i).trips) : k0_off2 i t 4#32 = ![8 * t.val + 4, 0, 0] := k0_off2_all i t 4
instance (i : grid0.Coords) (t) : ClosedOff (k0_off2 i t 4#32) := ⟨_, k0_off2_eq4 i t⟩
theorem k0_off2_eq5 (i : grid0.Coords) (t : Fin (k0_t1_loop i).trips) : k0_off2 i t 5#32 = ![8 * t.val + 5, 0, 0] := k0_off2_all i t 5
instance (i : grid0.Coords) (t) : ClosedOff (k0_off2 i t 5#32) := ⟨_, k0_off2_eq5 i t⟩
theorem k0_off2_eq6 (i : grid0.Coords) (t : Fin (k0_t1_loop i).trips) : k0_off2 i t 6#32 = ![8 * t.val + 6, 0, 0] := k0_off2_all i t 6
instance (i : grid0.Coords) (t) : ClosedOff (k0_off2 i t 6#32) := ⟨_, k0_off2_eq6 i t⟩
theorem k0_off2_eq7 (i : grid0.Coords) (t : Fin (k0_t1_loop i).trips) : k0_off2 i t 7#32 = ![8 * t.val + 7, 0, 0] := k0_off2_all i t 7
instance (i : grid0.Coords) (t) : ClosedOff (k0_off2 i t 7#32) := ⟨_, k0_off2_eq7 i t⟩
theorem k0_off5_eq : ∀ i : grid0.Coords, k0_off5 i = ![0, 512 * (8 * ((i 1).val / 4)), 0] := by decide +kernel
instance (i : grid0.Coords) : ClosedOff (k0_off5 i) := ⟨_, k0_off5_eq i⟩
theorem k0_off6_all : ∀ (i : grid0.Coords) (u : Fin 7), k0_off6 i (BitVec.ofNat 32 u.val) = ![8 * ((i 1).val / 4) + u.val, 0, 0] := by decide +kernel
theorem k0_off6_eq0 (i : grid0.Coords) : k0_off6 i 0#32 = ![8 * ((i 1).val / 4) + 0, 0, 0] := k0_off6_all i 0
instance (i : grid0.Coords) : ClosedOff (k0_off6 i 0#32) := ⟨_, k0_off6_eq0 i⟩
theorem k0_off6_eq1 (i : grid0.Coords) : k0_off6 i 1#32 = ![8 * ((i 1).val / 4) + 1, 0, 0] := k0_off6_all i 1
instance (i : grid0.Coords) : ClosedOff (k0_off6 i 1#32) := ⟨_, k0_off6_eq1 i⟩
theorem k0_off6_eq2 (i : grid0.Coords) : k0_off6 i 2#32 = ![8 * ((i 1).val / 4) + 2, 0, 0] := k0_off6_all i 2
instance (i : grid0.Coords) : ClosedOff (k0_off6 i 2#32) := ⟨_, k0_off6_eq2 i⟩
theorem k0_off6_eq3 (i : grid0.Coords) : k0_off6 i 3#32 = ![8 * ((i 1).val / 4) + 3, 0, 0] := k0_off6_all i 3
instance (i : grid0.Coords) : ClosedOff (k0_off6 i 3#32) := ⟨_, k0_off6_eq3 i⟩
theorem k0_off6_eq4 (i : grid0.Coords) : k0_off6 i 4#32 = ![8 * ((i 1).val / 4) + 4, 0, 0] := k0_off6_all i 4
instance (i : grid0.Coords) : ClosedOff (k0_off6 i 4#32) := ⟨_, k0_off6_eq4 i⟩
theorem k0_off6_eq5 (i : grid0.Coords) : k0_off6 i 5#32 = ![8 * ((i 1).val / 4) + 5, 0, 0] := k0_off6_all i 5
instance (i : grid0.Coords) : ClosedOff (k0_off6 i 5#32) := ⟨_, k0_off6_eq5 i⟩
theorem k0_off6_eq6 (i : grid0.Coords) : k0_off6 i 6#32 = ![8 * ((i 1).val / 4) + 6, 0, 0] := k0_off6_all i 6
instance (i : grid0.Coords) : ClosedOff (k0_off6 i 6#32) := ⟨_, k0_off6_eq6 i⟩
theorem k0_off7_eq : ∀ i : grid0.Coords, k0_off7 i = ![0, 512 * (8 * ((i 1).val / 4) + 7), 0] := by decide +kernel
instance (i : grid0.Coords) : ClosedOff (k0_off7 i) := ⟨_, k0_off7_eq i⟩
theorem k0_off8_eq : ∀ i : grid0.Coords, k0_off8 i = ![8 * ((i 1).val / 4) + 7, 0, 512] := by decide +kernel
instance (i : grid0.Coords) : ClosedOff (k0_off8 i) := ⟨_, k0_off8_eq i⟩
theorem k0_off9_eq : ∀ i : grid0.Coords, k0_off9 i = ![0, 512 * (8 * ((i 1).val / 4)), 0] := by decide +kernel
instance (i : grid0.Coords) : ClosedOff (k0_off9 i) := ⟨_, k0_off9_eq i⟩
theorem k0_off10_all : ∀ (i : grid0.Coords) (u : Fin 5), k0_off10 i (BitVec.ofNat 32 u.val) = ![8 * ((i 1).val / 4) + u.val, 0, 0] := by decide +kernel
theorem k0_off10_eq0 (i : grid0.Coords) : k0_off10 i 0#32 = ![8 * ((i 1).val / 4) + 0, 0, 0] := k0_off10_all i 0
instance (i : grid0.Coords) : ClosedOff (k0_off10 i 0#32) := ⟨_, k0_off10_eq0 i⟩
theorem k0_off10_eq1 (i : grid0.Coords) : k0_off10 i 1#32 = ![8 * ((i 1).val / 4) + 1, 0, 0] := k0_off10_all i 1
instance (i : grid0.Coords) : ClosedOff (k0_off10 i 1#32) := ⟨_, k0_off10_eq1 i⟩
theorem k0_off10_eq2 (i : grid0.Coords) : k0_off10 i 2#32 = ![8 * ((i 1).val / 4) + 2, 0, 0] := k0_off10_all i 2
instance (i : grid0.Coords) : ClosedOff (k0_off10 i 2#32) := ⟨_, k0_off10_eq2 i⟩
theorem k0_off10_eq3 (i : grid0.Coords) : k0_off10 i 3#32 = ![8 * ((i 1).val / 4) + 3, 0, 0] := k0_off10_all i 3
instance (i : grid0.Coords) : ClosedOff (k0_off10 i 3#32) := ⟨_, k0_off10_eq3 i⟩
theorem k0_off10_eq4 (i : grid0.Coords) : k0_off10 i 4#32 = ![8 * ((i 1).val / 4) + 4, 0, 0] := k0_off10_all i 4
instance (i : grid0.Coords) : ClosedOff (k0_off10 i 4#32) := ⟨_, k0_off10_eq4 i⟩
theorem k0_off11_eq : ∀ i : grid0.Coords, k0_off11 i = ![0, 512 * (8 * ((i 1).val / 4) + 5), 0] := by decide +kernel
instance (i : grid0.Coords) : ClosedOff (k0_off11 i) := ⟨_, k0_off11_eq i⟩
theorem k0_off12_eq : ∀ i : grid0.Coords, k0_off12 i = ![8 * ((i 1).val / 4) + 5, 0, 512] := by decide +kernel
instance (i : grid0.Coords) : ClosedOff (k0_off12 i) := ⟨_, k0_off12_eq i⟩
theorem k0_off13_eq : ∀ i : grid0.Coords, k0_off13 i = ![0, 512 * (8 * ((i 1).val / 4)), 0] := by decide +kernel
instance (i : grid0.Coords) : ClosedOff (k0_off13 i) := ⟨_, k0_off13_eq i⟩
theorem k0_off14_all : ∀ (i : grid0.Coords) (u : Fin 3), k0_off14 i (BitVec.ofNat 32 u.val) = ![8 * ((i 1).val / 4) + u.val, 0, 0] := by decide +kernel
theorem k0_off14_eq0 (i : grid0.Coords) : k0_off14 i 0#32 = ![8 * ((i 1).val / 4) + 0, 0, 0] := k0_off14_all i 0
instance (i : grid0.Coords) : ClosedOff (k0_off14 i 0#32) := ⟨_, k0_off14_eq0 i⟩
theorem k0_off14_eq1 (i : grid0.Coords) : k0_off14 i 1#32 = ![8 * ((i 1).val / 4) + 1, 0, 0] := k0_off14_all i 1
instance (i : grid0.Coords) : ClosedOff (k0_off14 i 1#32) := ⟨_, k0_off14_eq1 i⟩
theorem k0_off14_eq2 (i : grid0.Coords) : k0_off14 i 2#32 = ![8 * ((i 1).val / 4) + 2, 0, 0] := k0_off14_all i 2
instance (i : grid0.Coords) : ClosedOff (k0_off14 i 2#32) := ⟨_, k0_off14_eq2 i⟩
theorem k0_off15_eq : ∀ i : grid0.Coords, k0_off15 i = ![0, 512 * (8 * ((i 1).val / 4) + 3), 0] := by decide +kernel
instance (i : grid0.Coords) : ClosedOff (k0_off15 i) := ⟨_, k0_off15_eq i⟩
theorem k0_off16_eq : ∀ i : grid0.Coords, k0_off16 i = ![8 * ((i 1).val / 4) + 3, 0, 512] := by decide +kernel
instance (i : grid0.Coords) : ClosedOff (k0_off16 i) := ⟨_, k0_off16_eq i⟩
theorem k0_off17_eq : ∀ i : grid0.Coords, k0_off17 i = ![0, 512 * (8 * ((i 1).val / 4)), 0] := by decide +kernel
instance (i : grid0.Coords) : ClosedOff (k0_off17 i) := ⟨_, k0_off17_eq i⟩
theorem k0_off18_eq : ∀ i : grid0.Coords, k0_off18 i = ![8 * ((i 1).val / 4), 0, 0] := by decide +kernel
instance (i : grid0.Coords) : ClosedOff (k0_off18 i) := ⟨_, k0_off18_eq i⟩
theorem k0_off19_eq : ∀ i : grid0.Coords, k0_off19 i = ![0, 512 * (8 * ((i 1).val / 4) + 1), 0] := by decide +kernel
instance (i : grid0.Coords) : ClosedOff (k0_off19 i) := ⟨_, k0_off19_eq i⟩
theorem k0_off20_eq : ∀ i : grid0.Coords, k0_off20 i = ![8 * ((i 1).val / 4) + 1, 0, 512] := by decide +kernel
instance (i : grid0.Coords) : ClosedOff (k0_off20 i) := ⟨_, k0_off20_eq i⟩
theorem k0_off21_all : ∀ (i : grid0.Coords) (t : Fin (k0_t3_loop i).trips) (u : Fin 8), k0_off21 i t (BitVec.ofNat 32 u.val) = ![8 * t.val + u.val, 0, 0] := by decide +kernel
theorem k0_off21_eq0 (i : grid0.Coords) (t : Fin (k0_t3_loop i).trips) : k0_off21 i t 0#32 = ![8 * t.val + 0, 0, 0] := k0_off21_all i t 0
instance (i : grid0.Coords) (t) : ClosedOff (k0_off21 i t 0#32) := ⟨_, k0_off21_eq0 i t⟩
theorem k0_off21_eq1 (i : grid0.Coords) (t : Fin (k0_t3_loop i).trips) : k0_off21 i t 1#32 = ![8 * t.val + 1, 0, 0] := k0_off21_all i t 1
instance (i : grid0.Coords) (t) : ClosedOff (k0_off21 i t 1#32) := ⟨_, k0_off21_eq1 i t⟩
theorem k0_off21_eq2 (i : grid0.Coords) (t : Fin (k0_t3_loop i).trips) : k0_off21 i t 2#32 = ![8 * t.val + 2, 0, 0] := k0_off21_all i t 2
instance (i : grid0.Coords) (t) : ClosedOff (k0_off21 i t 2#32) := ⟨_, k0_off21_eq2 i t⟩
theorem k0_off21_eq3 (i : grid0.Coords) (t : Fin (k0_t3_loop i).trips) : k0_off21 i t 3#32 = ![8 * t.val + 3, 0, 0] := k0_off21_all i t 3
instance (i : grid0.Coords) (t) : ClosedOff (k0_off21 i t 3#32) := ⟨_, k0_off21_eq3 i t⟩
theorem k0_off21_eq4 (i : grid0.Coords) (t : Fin (k0_t3_loop i).trips) : k0_off21 i t 4#32 = ![8 * t.val + 4, 0, 0] := k0_off21_all i t 4
instance (i : grid0.Coords) (t) : ClosedOff (k0_off21 i t 4#32) := ⟨_, k0_off21_eq4 i t⟩
theorem k0_off21_eq5 (i : grid0.Coords) (t : Fin (k0_t3_loop i).trips) : k0_off21 i t 5#32 = ![8 * t.val + 5, 0, 0] := k0_off21_all i t 5
instance (i : grid0.Coords) (t) : ClosedOff (k0_off21 i t 5#32) := ⟨_, k0_off21_eq5 i t⟩
theorem k0_off21_eq6 (i : grid0.Coords) (t : Fin (k0_t3_loop i).trips) : k0_off21 i t 6#32 = ![8 * t.val + 6, 0, 0] := k0_off21_all i t 6
instance (i : grid0.Coords) (t) : ClosedOff (k0_off21 i t 6#32) := ⟨_, k0_off21_eq6 i t⟩
theorem k0_off21_eq7 (i : grid0.Coords) (t : Fin (k0_t3_loop i).trips) : k0_off21 i t 7#32 = ![8 * t.val + 7, 0, 0] := k0_off21_all i t 7
instance (i : grid0.Coords) (t) : ClosedOff (k0_off21 i t 7#32) := ⟨_, k0_off21_eq7 i t⟩
theorem k0_off22_all : ∀ (i : grid0.Coords) (t : Fin (k0_t3_loop i).trips) (u : Fin 8), k0_off22 i t (BitVec.ofNat 32 u.val) = ![8 * t.val + u.val, 0, 0] := by decide +kernel
theorem k0_off22_eq0 (i : grid0.Coords) (t : Fin (k0_t3_loop i).trips) : k0_off22 i t 0#32 = ![8 * t.val + 0, 0, 0] := k0_off22_all i t 0
instance (i : grid0.Coords) (t) : ClosedOff (k0_off22 i t 0#32) := ⟨_, k0_off22_eq0 i t⟩
theorem k0_off22_eq1 (i : grid0.Coords) (t : Fin (k0_t3_loop i).trips) : k0_off22 i t 1#32 = ![8 * t.val + 1, 0, 0] := k0_off22_all i t 1
instance (i : grid0.Coords) (t) : ClosedOff (k0_off22 i t 1#32) := ⟨_, k0_off22_eq1 i t⟩
theorem k0_off22_eq2 (i : grid0.Coords) (t : Fin (k0_t3_loop i).trips) : k0_off22 i t 2#32 = ![8 * t.val + 2, 0, 0] := k0_off22_all i t 2
instance (i : grid0.Coords) (t) : ClosedOff (k0_off22 i t 2#32) := ⟨_, k0_off22_eq2 i t⟩
theorem k0_off22_eq3 (i : grid0.Coords) (t : Fin (k0_t3_loop i).trips) : k0_off22 i t 3#32 = ![8 * t.val + 3, 0, 0] := k0_off22_all i t 3
instance (i : grid0.Coords) (t) : ClosedOff (k0_off22 i t 3#32) := ⟨_, k0_off22_eq3 i t⟩
theorem k0_off22_eq4 (i : grid0.Coords) (t : Fin (k0_t3_loop i).trips) : k0_off22 i t 4#32 = ![8 * t.val + 4, 0, 0] := k0_off22_all i t 4
instance (i : grid0.Coords) (t) : ClosedOff (k0_off22 i t 4#32) := ⟨_, k0_off22_eq4 i t⟩
theorem k0_off22_eq5 (i : grid0.Coords) (t : Fin (k0_t3_loop i).trips) : k0_off22 i t 5#32 = ![8 * t.val + 5, 0, 0] := k0_off22_all i t 5
instance (i : grid0.Coords) (t) : ClosedOff (k0_off22 i t 5#32) := ⟨_, k0_off22_eq5 i t⟩
theorem k0_off22_eq6 (i : grid0.Coords) (t : Fin (k0_t3_loop i).trips) : k0_off22 i t 6#32 = ![8 * t.val + 6, 0, 0] := k0_off22_all i t 6
instance (i : grid0.Coords) (t) : ClosedOff (k0_off22 i t 6#32) := ⟨_, k0_off22_eq6 i t⟩
theorem k0_off22_eq7 (i : grid0.Coords) (t : Fin (k0_t3_loop i).trips) : k0_off22 i t 7#32 = ![8 * t.val + 7, 0, 0] := k0_off22_all i t 7
instance (i : grid0.Coords) (t) : ClosedOff (k0_off22 i t 7#32) := ⟨_, k0_off22_eq7 i t⟩
theorem k0_off25_all : ∀ (i : grid0.Coords) (u : Fin 7), k0_off25 i (BitVec.ofNat 32 u.val) = ![8 * ((i 1).val / 4) + u.val, 0, 0] := by decide +kernel
theorem k0_off25_eq0 (i : grid0.Coords) : k0_off25 i 0#32 = ![8 * ((i 1).val / 4) + 0, 0, 0] := k0_off25_all i 0
instance (i : grid0.Coords) : ClosedOff (k0_off25 i 0#32) := ⟨_, k0_off25_eq0 i⟩
theorem k0_off25_eq1 (i : grid0.Coords) : k0_off25 i 1#32 = ![8 * ((i 1).val / 4) + 1, 0, 0] := k0_off25_all i 1
instance (i : grid0.Coords) : ClosedOff (k0_off25 i 1#32) := ⟨_, k0_off25_eq1 i⟩
theorem k0_off25_eq2 (i : grid0.Coords) : k0_off25 i 2#32 = ![8 * ((i 1).val / 4) + 2, 0, 0] := k0_off25_all i 2
instance (i : grid0.Coords) : ClosedOff (k0_off25 i 2#32) := ⟨_, k0_off25_eq2 i⟩
theorem k0_off25_eq3 (i : grid0.Coords) : k0_off25 i 3#32 = ![8 * ((i 1).val / 4) + 3, 0, 0] := k0_off25_all i 3
instance (i : grid0.Coords) : ClosedOff (k0_off25 i 3#32) := ⟨_, k0_off25_eq3 i⟩
theorem k0_off25_eq4 (i : grid0.Coords) : k0_off25 i 4#32 = ![8 * ((i 1).val / 4) + 4, 0, 0] := k0_off25_all i 4
instance (i : grid0.Coords) : ClosedOff (k0_off25 i 4#32) := ⟨_, k0_off25_eq4 i⟩
theorem k0_off25_eq5 (i : grid0.Coords) : k0_off25 i 5#32 = ![8 * ((i 1).val / 4) + 5, 0, 0] := k0_off25_all i 5
instance (i : grid0.Coords) : ClosedOff (k0_off25 i 5#32) := ⟨_, k0_off25_eq5 i⟩
theorem k0_off25_eq6 (i : grid0.Coords) : k0_off25 i 6#32 = ![8 * ((i 1).val / 4) + 6, 0, 0] := k0_off25_all i 6
instance (i : grid0.Coords) : ClosedOff (k0_off25 i 6#32) := ⟨_, k0_off25_eq6 i⟩
theorem k0_off26_all : ∀ (i : grid0.Coords) (u : Fin 8), k0_off26 i (BitVec.ofNat 32 u.val) = ![8 * ((i 1).val / 4) + u.val, 0, 0] := by decide +kernel
theorem k0_off26_eq0 (i : grid0.Coords) : k0_off26 i 0#32 = ![8 * ((i 1).val / 4) + 0, 0, 0] := k0_off26_all i 0
instance (i : grid0.Coords) : ClosedOff (k0_off26 i 0#32) := ⟨_, k0_off26_eq0 i⟩
theorem k0_off26_eq1 (i : grid0.Coords) : k0_off26 i 1#32 = ![8 * ((i 1).val / 4) + 1, 0, 0] := k0_off26_all i 1
instance (i : grid0.Coords) : ClosedOff (k0_off26 i 1#32) := ⟨_, k0_off26_eq1 i⟩
theorem k0_off26_eq2 (i : grid0.Coords) : k0_off26 i 2#32 = ![8 * ((i 1).val / 4) + 2, 0, 0] := k0_off26_all i 2
instance (i : grid0.Coords) : ClosedOff (k0_off26 i 2#32) := ⟨_, k0_off26_eq2 i⟩
theorem k0_off26_eq3 (i : grid0.Coords) : k0_off26 i 3#32 = ![8 * ((i 1).val / 4) + 3, 0, 0] := k0_off26_all i 3
instance (i : grid0.Coords) : ClosedOff (k0_off26 i 3#32) := ⟨_, k0_off26_eq3 i⟩
theorem k0_off26_eq4 (i : grid0.Coords) : k0_off26 i 4#32 = ![8 * ((i 1).val / 4) + 4, 0, 0] := k0_off26_all i 4
instance (i : grid0.Coords) : ClosedOff (k0_off26 i 4#32) := ⟨_, k0_off26_eq4 i⟩
theorem k0_off26_eq5 (i : grid0.Coords) : k0_off26 i 5#32 = ![8 * ((i 1).val / 4) + 5, 0, 0] := k0_off26_all i 5
instance (i : grid0.Coords) : ClosedOff (k0_off26 i 5#32) := ⟨_, k0_off26_eq5 i⟩
theorem k0_off26_eq6 (i : grid0.Coords) : k0_off26 i 6#32 = ![8 * ((i 1).val / 4) + 6, 0, 0] := k0_off26_all i 6
instance (i : grid0.Coords) : ClosedOff (k0_off26 i 6#32) := ⟨_, k0_off26_eq6 i⟩
theorem k0_off26_eq7 (i : grid0.Coords) : k0_off26 i 7#32 = ![8 * ((i 1).val / 4) + 7, 0, 0] := k0_off26_all i 7
instance (i : grid0.Coords) : ClosedOff (k0_off26 i 7#32) := ⟨_, k0_off26_eq7 i⟩
theorem k0_off27_eq : ∀ i : grid0.Coords, k0_off27 i = ![8 * ((i 1).val / 4) + 7, 0, 512] := by decide +kernel
instance (i : grid0.Coords) : ClosedOff (k0_off27 i) := ⟨_, k0_off27_eq i⟩
theorem k0_off28_all : ∀ (i : grid0.Coords) (u : Fin 5), k0_off28 i (BitVec.ofNat 32 u.val) = ![8 * ((i 1).val / 4) + u.val, 0, 0] := by decide +kernel
theorem k0_off28_eq0 (i : grid0.Coords) : k0_off28 i 0#32 = ![8 * ((i 1).val / 4) + 0, 0, 0] := k0_off28_all i 0
instance (i : grid0.Coords) : ClosedOff (k0_off28 i 0#32) := ⟨_, k0_off28_eq0 i⟩
theorem k0_off28_eq1 (i : grid0.Coords) : k0_off28 i 1#32 = ![8 * ((i 1).val / 4) + 1, 0, 0] := k0_off28_all i 1
instance (i : grid0.Coords) : ClosedOff (k0_off28 i 1#32) := ⟨_, k0_off28_eq1 i⟩
theorem k0_off28_eq2 (i : grid0.Coords) : k0_off28 i 2#32 = ![8 * ((i 1).val / 4) + 2, 0, 0] := k0_off28_all i 2
instance (i : grid0.Coords) : ClosedOff (k0_off28 i 2#32) := ⟨_, k0_off28_eq2 i⟩
theorem k0_off28_eq3 (i : grid0.Coords) : k0_off28 i 3#32 = ![8 * ((i 1).val / 4) + 3, 0, 0] := k0_off28_all i 3
instance (i : grid0.Coords) : ClosedOff (k0_off28 i 3#32) := ⟨_, k0_off28_eq3 i⟩
theorem k0_off28_eq4 (i : grid0.Coords) : k0_off28 i 4#32 = ![8 * ((i 1).val / 4) + 4, 0, 0] := k0_off28_all i 4
instance (i : grid0.Coords) : ClosedOff (k0_off28 i 4#32) := ⟨_, k0_off28_eq4 i⟩
theorem k0_off29_all : ∀ (i : grid0.Coords) (u : Fin 6), k0_off29 i (BitVec.ofNat 32 u.val) = ![8 * ((i 1).val / 4) + u.val, 0, 0] := by decide +kernel
theorem k0_off29_eq0 (i : grid0.Coords) : k0_off29 i 0#32 = ![8 * ((i 1).val / 4) + 0, 0, 0] := k0_off29_all i 0
instance (i : grid0.Coords) : ClosedOff (k0_off29 i 0#32) := ⟨_, k0_off29_eq0 i⟩
theorem k0_off29_eq1 (i : grid0.Coords) : k0_off29 i 1#32 = ![8 * ((i 1).val / 4) + 1, 0, 0] := k0_off29_all i 1
instance (i : grid0.Coords) : ClosedOff (k0_off29 i 1#32) := ⟨_, k0_off29_eq1 i⟩
theorem k0_off29_eq2 (i : grid0.Coords) : k0_off29 i 2#32 = ![8 * ((i 1).val / 4) + 2, 0, 0] := k0_off29_all i 2
instance (i : grid0.Coords) : ClosedOff (k0_off29 i 2#32) := ⟨_, k0_off29_eq2 i⟩
theorem k0_off29_eq3 (i : grid0.Coords) : k0_off29 i 3#32 = ![8 * ((i 1).val / 4) + 3, 0, 0] := k0_off29_all i 3
instance (i : grid0.Coords) : ClosedOff (k0_off29 i 3#32) := ⟨_, k0_off29_eq3 i⟩
theorem k0_off29_eq4 (i : grid0.Coords) : k0_off29 i 4#32 = ![8 * ((i 1).val / 4) + 4, 0, 0] := k0_off29_all i 4
instance (i : grid0.Coords) : ClosedOff (k0_off29 i 4#32) := ⟨_, k0_off29_eq4 i⟩
theorem k0_off29_eq5 (i : grid0.Coords) : k0_off29 i 5#32 = ![8 * ((i 1).val / 4) + 5, 0, 0] := k0_off29_all i 5
instance (i : grid0.Coords) : ClosedOff (k0_off29 i 5#32) := ⟨_, k0_off29_eq5 i⟩
theorem k0_off30_eq : ∀ i : grid0.Coords, k0_off30 i = ![8 * ((i 1).val / 4) + 5, 0, 512] := by decide +kernel
instance (i : grid0.Coords) : ClosedOff (k0_off30 i) := ⟨_, k0_off30_eq i⟩
theorem k0_off31_all : ∀ (i : grid0.Coords) (u : Fin 3), k0_off31 i (BitVec.ofNat 32 u.val) = ![8 * ((i 1).val / 4) + u.val, 0, 0] := by decide +kernel
theorem k0_off31_eq0 (i : grid0.Coords) : k0_off31 i 0#32 = ![8 * ((i 1).val / 4) + 0, 0, 0] := k0_off31_all i 0
instance (i : grid0.Coords) : ClosedOff (k0_off31 i 0#32) := ⟨_, k0_off31_eq0 i⟩
theorem k0_off31_eq1 (i : grid0.Coords) : k0_off31 i 1#32 = ![8 * ((i 1).val / 4) + 1, 0, 0] := k0_off31_all i 1
instance (i : grid0.Coords) : ClosedOff (k0_off31 i 1#32) := ⟨_, k0_off31_eq1 i⟩
theorem k0_off31_eq2 (i : grid0.Coords) : k0_off31 i 2#32 = ![8 * ((i 1).val / 4) + 2, 0, 0] := k0_off31_all i 2
instance (i : grid0.Coords) : ClosedOff (k0_off31 i 2#32) := ⟨_, k0_off31_eq2 i⟩
theorem k0_off32_all : ∀ (i : grid0.Coords) (u : Fin 4), k0_off32 i (BitVec.ofNat 32 u.val) = ![8 * ((i 1).val / 4) + u.val, 0, 0] := by decide +kernel
theorem k0_off32_eq0 (i : grid0.Coords) : k0_off32 i 0#32 = ![8 * ((i 1).val / 4) + 0, 0, 0] := k0_off32_all i 0
instance (i : grid0.Coords) : ClosedOff (k0_off32 i 0#32) := ⟨_, k0_off32_eq0 i⟩
theorem k0_off32_eq1 (i : grid0.Coords) : k0_off32 i 1#32 = ![8 * ((i 1).val / 4) + 1, 0, 0] := k0_off32_all i 1
instance (i : grid0.Coords) : ClosedOff (k0_off32 i 1#32) := ⟨_, k0_off32_eq1 i⟩
theorem k0_off32_eq2 (i : grid0.Coords) : k0_off32 i 2#32 = ![8 * ((i 1).val / 4) + 2, 0, 0] := k0_off32_all i 2
instance (i : grid0.Coords) : ClosedOff (k0_off32 i 2#32) := ⟨_, k0_off32_eq2 i⟩
theorem k0_off32_eq3 (i : grid0.Coords) : k0_off32 i 3#32 = ![8 * ((i 1).val / 4) + 3, 0, 0] := k0_off32_all i 3
instance (i : grid0.Coords) : ClosedOff (k0_off32 i 3#32) := ⟨_, k0_off32_eq3 i⟩
theorem k0_off33_eq : ∀ i : grid0.Coords, k0_off33 i = ![8 * ((i 1).val / 4) + 3, 0, 512] := by decide +kernel
instance (i : grid0.Coords) : ClosedOff (k0_off33 i) := ⟨_, k0_off33_eq i⟩
theorem k0_off34_eq : ∀ i : grid0.Coords, k0_off34 i = ![8 * ((i 1).val / 4), 0, 0] := by decide +kernel
instance (i : grid0.Coords) : ClosedOff (k0_off34 i) := ⟨_, k0_off34_eq i⟩
theorem k0_off35_all : ∀ (i : grid0.Coords) (u : Fin 2), k0_off35 i (BitVec.ofNat 32 u.val) = ![8 * ((i 1).val / 4) + u.val, 0, 0] := by decide +kernel
theorem k0_off35_eq0 (i : grid0.Coords) : k0_off35 i 0#32 = ![8 * ((i 1).val / 4) + 0, 0, 0] := k0_off35_all i 0
instance (i : grid0.Coords) : ClosedOff (k0_off35 i 0#32) := ⟨_, k0_off35_eq0 i⟩
theorem k0_off35_eq1 (i : grid0.Coords) : k0_off35 i 1#32 = ![8 * ((i 1).val / 4) + 1, 0, 0] := k0_off35_all i 1
instance (i : grid0.Coords) : ClosedOff (k0_off35 i 1#32) := ⟨_, k0_off35_eq1 i⟩
theorem k0_off36_eq : ∀ i : grid0.Coords, k0_off36 i = ![8 * ((i 1).val / 4) + 1, 0, 512] := by decide +kernel
instance (i : grid0.Coords) : ClosedOff (k0_off36 i) := ⟨_, k0_off36_eq i⟩
theorem k0_off37_eq : ∀ (i : grid0.Coords) (t : Fin (k0_t5_loop i).trips), k0_off37 i t = ![0, 4096 * t.val, 0] := by decide +kernel
instance (i : grid0.Coords) (t) : ClosedOff (k0_off37 i t) := ⟨_, k0_off37_eq i t⟩
theorem k0_off38_all : ∀ (i : grid0.Coords) (t : Fin (k0_t5_loop i).trips) (u : Fin 8), k0_off38 i t (BitVec.ofNat 32 u.val) = ![8 * t.val + u.val, 0, 0] := by decide +kernel
theorem k0_off38_eq0 (i : grid0.Coords) (t : Fin (k0_t5_loop i).trips) : k0_off38 i t 0#32 = ![8 * t.val + 0, 0, 0] := k0_off38_all i t 0
instance (i : grid0.Coords) (t) : ClosedOff (k0_off38 i t 0#32) := ⟨_, k0_off38_eq0 i t⟩
theorem k0_off38_eq1 (i : grid0.Coords) (t : Fin (k0_t5_loop i).trips) : k0_off38 i t 1#32 = ![8 * t.val + 1, 0, 0] := k0_off38_all i t 1
instance (i : grid0.Coords) (t) : ClosedOff (k0_off38 i t 1#32) := ⟨_, k0_off38_eq1 i t⟩
theorem k0_off38_eq2 (i : grid0.Coords) (t : Fin (k0_t5_loop i).trips) : k0_off38 i t 2#32 = ![8 * t.val + 2, 0, 0] := k0_off38_all i t 2
instance (i : grid0.Coords) (t) : ClosedOff (k0_off38 i t 2#32) := ⟨_, k0_off38_eq2 i t⟩
theorem k0_off38_eq3 (i : grid0.Coords) (t : Fin (k0_t5_loop i).trips) : k0_off38 i t 3#32 = ![8 * t.val + 3, 0, 0] := k0_off38_all i t 3
instance (i : grid0.Coords) (t) : ClosedOff (k0_off38 i t 3#32) := ⟨_, k0_off38_eq3 i t⟩
theorem k0_off38_eq4 (i : grid0.Coords) (t : Fin (k0_t5_loop i).trips) : k0_off38 i t 4#32 = ![8 * t.val + 4, 0, 0] := k0_off38_all i t 4
instance (i : grid0.Coords) (t) : ClosedOff (k0_off38 i t 4#32) := ⟨_, k0_off38_eq4 i t⟩
theorem k0_off38_eq5 (i : grid0.Coords) (t : Fin (k0_t5_loop i).trips) : k0_off38 i t 5#32 = ![8 * t.val + 5, 0, 0] := k0_off38_all i t 5
instance (i : grid0.Coords) (t) : ClosedOff (k0_off38 i t 5#32) := ⟨_, k0_off38_eq5 i t⟩
theorem k0_off38_eq6 (i : grid0.Coords) (t : Fin (k0_t5_loop i).trips) : k0_off38 i t 6#32 = ![8 * t.val + 6, 0, 0] := k0_off38_all i t 6
instance (i : grid0.Coords) (t) : ClosedOff (k0_off38 i t 6#32) := ⟨_, k0_off38_eq6 i t⟩
theorem k0_off38_eq7 (i : grid0.Coords) (t : Fin (k0_t5_loop i).trips) : k0_off38 i t 7#32 = ![8 * t.val + 7, 0, 0] := k0_off38_all i t 7
instance (i : grid0.Coords) (t) : ClosedOff (k0_off38 i t 7#32) := ⟨_, k0_off38_eq7 i t⟩
theorem k0_off41_eq : ∀ i : grid0.Coords, k0_off41 i = ![0, 512 * (8 * ((i 1).val / 4)), 0] := by decide +kernel
instance (i : grid0.Coords) : ClosedOff (k0_off41 i) := ⟨_, k0_off41_eq i⟩
theorem k0_off42_all : ∀ (i : grid0.Coords) (u : Fin 7), k0_off42 i (BitVec.ofNat 32 u.val) = ![8 * ((i 1).val / 4) + u.val, 0, 0] := by decide +kernel
theorem k0_off42_eq0 (i : grid0.Coords) : k0_off42 i 0#32 = ![8 * ((i 1).val / 4) + 0, 0, 0] := k0_off42_all i 0
instance (i : grid0.Coords) : ClosedOff (k0_off42 i 0#32) := ⟨_, k0_off42_eq0 i⟩
theorem k0_off42_eq1 (i : grid0.Coords) : k0_off42 i 1#32 = ![8 * ((i 1).val / 4) + 1, 0, 0] := k0_off42_all i 1
instance (i : grid0.Coords) : ClosedOff (k0_off42 i 1#32) := ⟨_, k0_off42_eq1 i⟩
theorem k0_off42_eq2 (i : grid0.Coords) : k0_off42 i 2#32 = ![8 * ((i 1).val / 4) + 2, 0, 0] := k0_off42_all i 2
instance (i : grid0.Coords) : ClosedOff (k0_off42 i 2#32) := ⟨_, k0_off42_eq2 i⟩
theorem k0_off42_eq3 (i : grid0.Coords) : k0_off42 i 3#32 = ![8 * ((i 1).val / 4) + 3, 0, 0] := k0_off42_all i 3
instance (i : grid0.Coords) : ClosedOff (k0_off42 i 3#32) := ⟨_, k0_off42_eq3 i⟩
theorem k0_off42_eq4 (i : grid0.Coords) : k0_off42 i 4#32 = ![8 * ((i 1).val / 4) + 4, 0, 0] := k0_off42_all i 4
instance (i : grid0.Coords) : ClosedOff (k0_off42 i 4#32) := ⟨_, k0_off42_eq4 i⟩
theorem k0_off42_eq5 (i : grid0.Coords) : k0_off42 i 5#32 = ![8 * ((i 1).val / 4) + 5, 0, 0] := k0_off42_all i 5
instance (i : grid0.Coords) : ClosedOff (k0_off42 i 5#32) := ⟨_, k0_off42_eq5 i⟩
theorem k0_off42_eq6 (i : grid0.Coords) : k0_off42 i 6#32 = ![8 * ((i 1).val / 4) + 6, 0, 0] := k0_off42_all i 6
instance (i : grid0.Coords) : ClosedOff (k0_off42 i 6#32) := ⟨_, k0_off42_eq6 i⟩
theorem k0_off43_eq : ∀ i : grid0.Coords, k0_off43 i = ![0, 512 * (8 * ((i 1).val / 4) + 7), 0] := by decide +kernel
instance (i : grid0.Coords) : ClosedOff (k0_off43 i) := ⟨_, k0_off43_eq i⟩
theorem k0_off44_eq : ∀ i : grid0.Coords, k0_off44 i = ![8 * ((i 1).val / 4) + 7, 0, 512] := by decide +kernel
instance (i : grid0.Coords) : ClosedOff (k0_off44 i) := ⟨_, k0_off44_eq i⟩
theorem k0_off45_eq : ∀ i : grid0.Coords, k0_off45 i = ![0, 512 * (8 * ((i 1).val / 4)), 0] := by decide +kernel
instance (i : grid0.Coords) : ClosedOff (k0_off45 i) := ⟨_, k0_off45_eq i⟩
theorem k0_off46_all : ∀ (i : grid0.Coords) (u : Fin 5), k0_off46 i (BitVec.ofNat 32 u.val) = ![8 * ((i 1).val / 4) + u.val, 0, 0] := by decide +kernel
theorem k0_off46_eq0 (i : grid0.Coords) : k0_off46 i 0#32 = ![8 * ((i 1).val / 4) + 0, 0, 0] := k0_off46_all i 0
instance (i : grid0.Coords) : ClosedOff (k0_off46 i 0#32) := ⟨_, k0_off46_eq0 i⟩
theorem k0_off46_eq1 (i : grid0.Coords) : k0_off46 i 1#32 = ![8 * ((i 1).val / 4) + 1, 0, 0] := k0_off46_all i 1
instance (i : grid0.Coords) : ClosedOff (k0_off46 i 1#32) := ⟨_, k0_off46_eq1 i⟩
theorem k0_off46_eq2 (i : grid0.Coords) : k0_off46 i 2#32 = ![8 * ((i 1).val / 4) + 2, 0, 0] := k0_off46_all i 2
instance (i : grid0.Coords) : ClosedOff (k0_off46 i 2#32) := ⟨_, k0_off46_eq2 i⟩
theorem k0_off46_eq3 (i : grid0.Coords) : k0_off46 i 3#32 = ![8 * ((i 1).val / 4) + 3, 0, 0] := k0_off46_all i 3
instance (i : grid0.Coords) : ClosedOff (k0_off46 i 3#32) := ⟨_, k0_off46_eq3 i⟩
theorem k0_off46_eq4 (i : grid0.Coords) : k0_off46 i 4#32 = ![8 * ((i 1).val / 4) + 4, 0, 0] := k0_off46_all i 4
instance (i : grid0.Coords) : ClosedOff (k0_off46 i 4#32) := ⟨_, k0_off46_eq4 i⟩
theorem k0_off47_eq : ∀ i : grid0.Coords, k0_off47 i = ![0, 512 * (8 * ((i 1).val / 4) + 5), 0] := by decide +kernel
instance (i : grid0.Coords) : ClosedOff (k0_off47 i) := ⟨_, k0_off47_eq i⟩
theorem k0_off48_eq : ∀ i : grid0.Coords, k0_off48 i = ![8 * ((i 1).val / 4) + 5, 0, 512] := by decide +kernel
instance (i : grid0.Coords) : ClosedOff (k0_off48 i) := ⟨_, k0_off48_eq i⟩
theorem k0_off49_eq : ∀ i : grid0.Coords, k0_off49 i = ![0, 512 * (8 * ((i 1).val / 4)), 0] := by decide +kernel
instance (i : grid0.Coords) : ClosedOff (k0_off49 i) := ⟨_, k0_off49_eq i⟩
theorem k0_off50_all : ∀ (i : grid0.Coords) (u : Fin 3), k0_off50 i (BitVec.ofNat 32 u.val) = ![8 * ((i 1).val / 4) + u.val, 0, 0] := by decide +kernel
theorem k0_off50_eq0 (i : grid0.Coords) : k0_off50 i 0#32 = ![8 * ((i 1).val / 4) + 0, 0, 0] := k0_off50_all i 0
instance (i : grid0.Coords) : ClosedOff (k0_off50 i 0#32) := ⟨_, k0_off50_eq0 i⟩
theorem k0_off50_eq1 (i : grid0.Coords) : k0_off50 i 1#32 = ![8 * ((i 1).val / 4) + 1, 0, 0] := k0_off50_all i 1
instance (i : grid0.Coords) : ClosedOff (k0_off50 i 1#32) := ⟨_, k0_off50_eq1 i⟩
theorem k0_off50_eq2 (i : grid0.Coords) : k0_off50 i 2#32 = ![8 * ((i 1).val / 4) + 2, 0, 0] := k0_off50_all i 2
instance (i : grid0.Coords) : ClosedOff (k0_off50 i 2#32) := ⟨_, k0_off50_eq2 i⟩
theorem k0_off51_eq : ∀ i : grid0.Coords, k0_off51 i = ![0, 512 * (8 * ((i 1).val / 4) + 3), 0] := by decide +kernel
instance (i : grid0.Coords) : ClosedOff (k0_off51 i) := ⟨_, k0_off51_eq i⟩
theorem k0_off52_eq : ∀ i : grid0.Coords, k0_off52 i = ![8 * ((i 1).val / 4) + 3, 0, 512] := by decide +kernel
instance (i : grid0.Coords) : ClosedOff (k0_off52 i) := ⟨_, k0_off52_eq i⟩
theorem k0_off53_eq : ∀ i : grid0.Coords, k0_off53 i = ![0, 512 * (8 * ((i 1).val / 4)), 0] := by decide +kernel
instance (i : grid0.Coords) : ClosedOff (k0_off53 i) := ⟨_, k0_off53_eq i⟩
theorem k0_off54_eq : ∀ i : grid0.Coords, k0_off54 i = ![8 * ((i 1).val / 4), 0, 0] := by decide +kernel
instance (i : grid0.Coords) : ClosedOff (k0_off54 i) := ⟨_, k0_off54_eq i⟩
theorem k0_off55_eq : ∀ i : grid0.Coords, k0_off55 i = ![0, 512 * (8 * ((i 1).val / 4) + 1), 0] := by decide +kernel
instance (i : grid0.Coords) : ClosedOff (k0_off55 i) := ⟨_, k0_off55_eq i⟩
theorem k0_off56_eq : ∀ i : grid0.Coords, k0_off56 i = ![8 * ((i 1).val / 4) + 1, 0, 512] := by decide +kernel
instance (i : grid0.Coords) : ClosedOff (k0_off56 i) := ⟨_, k0_off56_eq i⟩
theorem k0_off57_all : ∀ (i : grid0.Coords) (t : Fin (k0_t7_loop i).trips) (u : Fin 8), k0_off57 i t (BitVec.ofNat 32 u.val) = ![8 * t.val + u.val, 0, 0] := by decide +kernel
theorem k0_off57_eq0 (i : grid0.Coords) (t : Fin (k0_t7_loop i).trips) : k0_off57 i t 0#32 = ![8 * t.val + 0, 0, 0] := k0_off57_all i t 0
instance (i : grid0.Coords) (t) : ClosedOff (k0_off57 i t 0#32) := ⟨_, k0_off57_eq0 i t⟩
theorem k0_off57_eq1 (i : grid0.Coords) (t : Fin (k0_t7_loop i).trips) : k0_off57 i t 1#32 = ![8 * t.val + 1, 0, 0] := k0_off57_all i t 1
instance (i : grid0.Coords) (t) : ClosedOff (k0_off57 i t 1#32) := ⟨_, k0_off57_eq1 i t⟩
theorem k0_off57_eq2 (i : grid0.Coords) (t : Fin (k0_t7_loop i).trips) : k0_off57 i t 2#32 = ![8 * t.val + 2, 0, 0] := k0_off57_all i t 2
instance (i : grid0.Coords) (t) : ClosedOff (k0_off57 i t 2#32) := ⟨_, k0_off57_eq2 i t⟩
theorem k0_off57_eq3 (i : grid0.Coords) (t : Fin (k0_t7_loop i).trips) : k0_off57 i t 3#32 = ![8 * t.val + 3, 0, 0] := k0_off57_all i t 3
instance (i : grid0.Coords) (t) : ClosedOff (k0_off57 i t 3#32) := ⟨_, k0_off57_eq3 i t⟩
theorem k0_off57_eq4 (i : grid0.Coords) (t : Fin (k0_t7_loop i).trips) : k0_off57 i t 4#32 = ![8 * t.val + 4, 0, 0] := k0_off57_all i t 4
instance (i : grid0.Coords) (t) : ClosedOff (k0_off57 i t 4#32) := ⟨_, k0_off57_eq4 i t⟩
theorem k0_off57_eq5 (i : grid0.Coords) (t : Fin (k0_t7_loop i).trips) : k0_off57 i t 5#32 = ![8 * t.val + 5, 0, 0] := k0_off57_all i t 5
instance (i : grid0.Coords) (t) : ClosedOff (k0_off57 i t 5#32) := ⟨_, k0_off57_eq5 i t⟩
theorem k0_off57_eq6 (i : grid0.Coords) (t : Fin (k0_t7_loop i).trips) : k0_off57 i t 6#32 = ![8 * t.val + 6, 0, 0] := k0_off57_all i t 6
instance (i : grid0.Coords) (t) : ClosedOff (k0_off57 i t 6#32) := ⟨_, k0_off57_eq6 i t⟩
theorem k0_off57_eq7 (i : grid0.Coords) (t : Fin (k0_t7_loop i).trips) : k0_off57 i t 7#32 = ![8 * t.val + 7, 0, 0] := k0_off57_all i t 7
instance (i : grid0.Coords) (t) : ClosedOff (k0_off57 i t 7#32) := ⟨_, k0_off57_eq7 i t⟩
theorem k0_off58_all : ∀ (i : grid0.Coords) (t : Fin (k0_t7_loop i).trips) (u : Fin 8), k0_off58 i t (BitVec.ofNat 32 u.val) = ![8 * t.val + u.val, 64, 0] := by decide +kernel
theorem k0_off58_eq0 (i : grid0.Coords) (t : Fin (k0_t7_loop i).trips) : k0_off58 i t 0#32 = ![8 * t.val + 0, 64, 0] := k0_off58_all i t 0
instance (i : grid0.Coords) (t) : ClosedOff (k0_off58 i t 0#32) := ⟨_, k0_off58_eq0 i t⟩
theorem k0_off58_eq1 (i : grid0.Coords) (t : Fin (k0_t7_loop i).trips) : k0_off58 i t 1#32 = ![8 * t.val + 1, 64, 0] := k0_off58_all i t 1
instance (i : grid0.Coords) (t) : ClosedOff (k0_off58 i t 1#32) := ⟨_, k0_off58_eq1 i t⟩
theorem k0_off58_eq2 (i : grid0.Coords) (t : Fin (k0_t7_loop i).trips) : k0_off58 i t 2#32 = ![8 * t.val + 2, 64, 0] := k0_off58_all i t 2
instance (i : grid0.Coords) (t) : ClosedOff (k0_off58 i t 2#32) := ⟨_, k0_off58_eq2 i t⟩
theorem k0_off58_eq3 (i : grid0.Coords) (t : Fin (k0_t7_loop i).trips) : k0_off58 i t 3#32 = ![8 * t.val + 3, 64, 0] := k0_off58_all i t 3
instance (i : grid0.Coords) (t) : ClosedOff (k0_off58 i t 3#32) := ⟨_, k0_off58_eq3 i t⟩
theorem k0_off58_eq4 (i : grid0.Coords) (t : Fin (k0_t7_loop i).trips) : k0_off58 i t 4#32 = ![8 * t.val + 4, 64, 0] := k0_off58_all i t 4
instance (i : grid0.Coords) (t) : ClosedOff (k0_off58 i t 4#32) := ⟨_, k0_off58_eq4 i t⟩
theorem k0_off58_eq5 (i : grid0.Coords) (t : Fin (k0_t7_loop i).trips) : k0_off58 i t 5#32 = ![8 * t.val + 5, 64, 0] := k0_off58_all i t 5
instance (i : grid0.Coords) (t) : ClosedOff (k0_off58 i t 5#32) := ⟨_, k0_off58_eq5 i t⟩
theorem k0_off58_eq6 (i : grid0.Coords) (t : Fin (k0_t7_loop i).trips) : k0_off58 i t 6#32 = ![8 * t.val + 6, 64, 0] := k0_off58_all i t 6
instance (i : grid0.Coords) (t) : ClosedOff (k0_off58 i t 6#32) := ⟨_, k0_off58_eq6 i t⟩
theorem k0_off58_eq7 (i : grid0.Coords) (t : Fin (k0_t7_loop i).trips) : k0_off58 i t 7#32 = ![8 * t.val + 7, 64, 0] := k0_off58_all i t 7
instance (i : grid0.Coords) (t) : ClosedOff (k0_off58 i t 7#32) := ⟨_, k0_off58_eq7 i t⟩
theorem k0_off61_all : ∀ (i : grid0.Coords) (u : Fin 7), k0_off61 i (BitVec.ofNat 32 u.val) = ![8 * ((i 1).val / 4) + u.val, 0, 0] := by decide +kernel
theorem k0_off61_eq0 (i : grid0.Coords) : k0_off61 i 0#32 = ![8 * ((i 1).val / 4) + 0, 0, 0] := k0_off61_all i 0
instance (i : grid0.Coords) : ClosedOff (k0_off61 i 0#32) := ⟨_, k0_off61_eq0 i⟩
theorem k0_off61_eq1 (i : grid0.Coords) : k0_off61 i 1#32 = ![8 * ((i 1).val / 4) + 1, 0, 0] := k0_off61_all i 1
instance (i : grid0.Coords) : ClosedOff (k0_off61 i 1#32) := ⟨_, k0_off61_eq1 i⟩
theorem k0_off61_eq2 (i : grid0.Coords) : k0_off61 i 2#32 = ![8 * ((i 1).val / 4) + 2, 0, 0] := k0_off61_all i 2
instance (i : grid0.Coords) : ClosedOff (k0_off61 i 2#32) := ⟨_, k0_off61_eq2 i⟩
theorem k0_off61_eq3 (i : grid0.Coords) : k0_off61 i 3#32 = ![8 * ((i 1).val / 4) + 3, 0, 0] := k0_off61_all i 3
instance (i : grid0.Coords) : ClosedOff (k0_off61 i 3#32) := ⟨_, k0_off61_eq3 i⟩
theorem k0_off61_eq4 (i : grid0.Coords) : k0_off61 i 4#32 = ![8 * ((i 1).val / 4) + 4, 0, 0] := k0_off61_all i 4
instance (i : grid0.Coords) : ClosedOff (k0_off61 i 4#32) := ⟨_, k0_off61_eq4 i⟩
theorem k0_off61_eq5 (i : grid0.Coords) : k0_off61 i 5#32 = ![8 * ((i 1).val / 4) + 5, 0, 0] := k0_off61_all i 5
instance (i : grid0.Coords) : ClosedOff (k0_off61 i 5#32) := ⟨_, k0_off61_eq5 i⟩
theorem k0_off61_eq6 (i : grid0.Coords) : k0_off61 i 6#32 = ![8 * ((i 1).val / 4) + 6, 0, 0] := k0_off61_all i 6
instance (i : grid0.Coords) : ClosedOff (k0_off61 i 6#32) := ⟨_, k0_off61_eq6 i⟩
theorem k0_off62_all : ∀ (i : grid0.Coords) (u : Fin 8), k0_off62 i (BitVec.ofNat 32 u.val) = ![8 * ((i 1).val / 4) + u.val, 64, 0] := by decide +kernel
theorem k0_off62_eq0 (i : grid0.Coords) : k0_off62 i 0#32 = ![8 * ((i 1).val / 4) + 0, 64, 0] := k0_off62_all i 0
instance (i : grid0.Coords) : ClosedOff (k0_off62 i 0#32) := ⟨_, k0_off62_eq0 i⟩
theorem k0_off62_eq1 (i : grid0.Coords) : k0_off62 i 1#32 = ![8 * ((i 1).val / 4) + 1, 64, 0] := k0_off62_all i 1
instance (i : grid0.Coords) : ClosedOff (k0_off62 i 1#32) := ⟨_, k0_off62_eq1 i⟩
theorem k0_off62_eq2 (i : grid0.Coords) : k0_off62 i 2#32 = ![8 * ((i 1).val / 4) + 2, 64, 0] := k0_off62_all i 2
instance (i : grid0.Coords) : ClosedOff (k0_off62 i 2#32) := ⟨_, k0_off62_eq2 i⟩
theorem k0_off62_eq3 (i : grid0.Coords) : k0_off62 i 3#32 = ![8 * ((i 1).val / 4) + 3, 64, 0] := k0_off62_all i 3
instance (i : grid0.Coords) : ClosedOff (k0_off62 i 3#32) := ⟨_, k0_off62_eq3 i⟩
theorem k0_off62_eq4 (i : grid0.Coords) : k0_off62 i 4#32 = ![8 * ((i 1).val / 4) + 4, 64, 0] := k0_off62_all i 4
instance (i : grid0.Coords) : ClosedOff (k0_off62 i 4#32) := ⟨_, k0_off62_eq4 i⟩
theorem k0_off62_eq5 (i : grid0.Coords) : k0_off62 i 5#32 = ![8 * ((i 1).val / 4) + 5, 64, 0] := k0_off62_all i 5
instance (i : grid0.Coords) : ClosedOff (k0_off62 i 5#32) := ⟨_, k0_off62_eq5 i⟩
theorem k0_off62_eq6 (i : grid0.Coords) : k0_off62 i 6#32 = ![8 * ((i 1).val / 4) + 6, 64, 0] := k0_off62_all i 6
instance (i : grid0.Coords) : ClosedOff (k0_off62 i 6#32) := ⟨_, k0_off62_eq6 i⟩
theorem k0_off62_eq7 (i : grid0.Coords) : k0_off62 i 7#32 = ![8 * ((i 1).val / 4) + 7, 64, 0] := k0_off62_all i 7
instance (i : grid0.Coords) : ClosedOff (k0_off62 i 7#32) := ⟨_, k0_off62_eq7 i⟩
theorem k0_off63_eq : ∀ i : grid0.Coords, k0_off63 i = ![8 * ((i 1).val / 4) + 7, 0, 512] := by decide +kernel
instance (i : grid0.Coords) : ClosedOff (k0_off63 i) := ⟨_, k0_off63_eq i⟩
theorem k0_off64_all : ∀ (i : grid0.Coords) (u : Fin 5), k0_off64 i (BitVec.ofNat 32 u.val) = ![8 * ((i 1).val / 4) + u.val, 0, 0] := by decide +kernel
theorem k0_off64_eq0 (i : grid0.Coords) : k0_off64 i 0#32 = ![8 * ((i 1).val / 4) + 0, 0, 0] := k0_off64_all i 0
instance (i : grid0.Coords) : ClosedOff (k0_off64 i 0#32) := ⟨_, k0_off64_eq0 i⟩
theorem k0_off64_eq1 (i : grid0.Coords) : k0_off64 i 1#32 = ![8 * ((i 1).val / 4) + 1, 0, 0] := k0_off64_all i 1
instance (i : grid0.Coords) : ClosedOff (k0_off64 i 1#32) := ⟨_, k0_off64_eq1 i⟩
theorem k0_off64_eq2 (i : grid0.Coords) : k0_off64 i 2#32 = ![8 * ((i 1).val / 4) + 2, 0, 0] := k0_off64_all i 2
instance (i : grid0.Coords) : ClosedOff (k0_off64 i 2#32) := ⟨_, k0_off64_eq2 i⟩
theorem k0_off64_eq3 (i : grid0.Coords) : k0_off64 i 3#32 = ![8 * ((i 1).val / 4) + 3, 0, 0] := k0_off64_all i 3
instance (i : grid0.Coords) : ClosedOff (k0_off64 i 3#32) := ⟨_, k0_off64_eq3 i⟩
theorem k0_off64_eq4 (i : grid0.Coords) : k0_off64 i 4#32 = ![8 * ((i 1).val / 4) + 4, 0, 0] := k0_off64_all i 4
instance (i : grid0.Coords) : ClosedOff (k0_off64 i 4#32) := ⟨_, k0_off64_eq4 i⟩
theorem k0_off65_all : ∀ (i : grid0.Coords) (u : Fin 6), k0_off65 i (BitVec.ofNat 32 u.val) = ![8 * ((i 1).val / 4) + u.val, 64, 0] := by decide +kernel
theorem k0_off65_eq0 (i : grid0.Coords) : k0_off65 i 0#32 = ![8 * ((i 1).val / 4) + 0, 64, 0] := k0_off65_all i 0
instance (i : grid0.Coords) : ClosedOff (k0_off65 i 0#32) := ⟨_, k0_off65_eq0 i⟩
theorem k0_off65_eq1 (i : grid0.Coords) : k0_off65 i 1#32 = ![8 * ((i 1).val / 4) + 1, 64, 0] := k0_off65_all i 1
instance (i : grid0.Coords) : ClosedOff (k0_off65 i 1#32) := ⟨_, k0_off65_eq1 i⟩
theorem k0_off65_eq2 (i : grid0.Coords) : k0_off65 i 2#32 = ![8 * ((i 1).val / 4) + 2, 64, 0] := k0_off65_all i 2
instance (i : grid0.Coords) : ClosedOff (k0_off65 i 2#32) := ⟨_, k0_off65_eq2 i⟩
theorem k0_off65_eq3 (i : grid0.Coords) : k0_off65 i 3#32 = ![8 * ((i 1).val / 4) + 3, 64, 0] := k0_off65_all i 3
instance (i : grid0.Coords) : ClosedOff (k0_off65 i 3#32) := ⟨_, k0_off65_eq3 i⟩
theorem k0_off65_eq4 (i : grid0.Coords) : k0_off65 i 4#32 = ![8 * ((i 1).val / 4) + 4, 64, 0] := k0_off65_all i 4
instance (i : grid0.Coords) : ClosedOff (k0_off65 i 4#32) := ⟨_, k0_off65_eq4 i⟩
theorem k0_off65_eq5 (i : grid0.Coords) : k0_off65 i 5#32 = ![8 * ((i 1).val / 4) + 5, 64, 0] := k0_off65_all i 5
instance (i : grid0.Coords) : ClosedOff (k0_off65 i 5#32) := ⟨_, k0_off65_eq5 i⟩
theorem k0_off66_eq : ∀ i : grid0.Coords, k0_off66 i = ![8 * ((i 1).val / 4) + 5, 0, 512] := by decide +kernel
instance (i : grid0.Coords) : ClosedOff (k0_off66 i) := ⟨_, k0_off66_eq i⟩
theorem k0_off67_all : ∀ (i : grid0.Coords) (u : Fin 3), k0_off67 i (BitVec.ofNat 32 u.val) = ![8 * ((i 1).val / 4) + u.val, 0, 0] := by decide +kernel
theorem k0_off67_eq0 (i : grid0.Coords) : k0_off67 i 0#32 = ![8 * ((i 1).val / 4) + 0, 0, 0] := k0_off67_all i 0
instance (i : grid0.Coords) : ClosedOff (k0_off67 i 0#32) := ⟨_, k0_off67_eq0 i⟩
theorem k0_off67_eq1 (i : grid0.Coords) : k0_off67 i 1#32 = ![8 * ((i 1).val / 4) + 1, 0, 0] := k0_off67_all i 1
instance (i : grid0.Coords) : ClosedOff (k0_off67 i 1#32) := ⟨_, k0_off67_eq1 i⟩
theorem k0_off67_eq2 (i : grid0.Coords) : k0_off67 i 2#32 = ![8 * ((i 1).val / 4) + 2, 0, 0] := k0_off67_all i 2
instance (i : grid0.Coords) : ClosedOff (k0_off67 i 2#32) := ⟨_, k0_off67_eq2 i⟩
theorem k0_off68_all : ∀ (i : grid0.Coords) (u : Fin 4), k0_off68 i (BitVec.ofNat 32 u.val) = ![8 * ((i 1).val / 4) + u.val, 64, 0] := by decide +kernel
theorem k0_off68_eq0 (i : grid0.Coords) : k0_off68 i 0#32 = ![8 * ((i 1).val / 4) + 0, 64, 0] := k0_off68_all i 0
instance (i : grid0.Coords) : ClosedOff (k0_off68 i 0#32) := ⟨_, k0_off68_eq0 i⟩
theorem k0_off68_eq1 (i : grid0.Coords) : k0_off68 i 1#32 = ![8 * ((i 1).val / 4) + 1, 64, 0] := k0_off68_all i 1
instance (i : grid0.Coords) : ClosedOff (k0_off68 i 1#32) := ⟨_, k0_off68_eq1 i⟩
theorem k0_off68_eq2 (i : grid0.Coords) : k0_off68 i 2#32 = ![8 * ((i 1).val / 4) + 2, 64, 0] := k0_off68_all i 2
instance (i : grid0.Coords) : ClosedOff (k0_off68 i 2#32) := ⟨_, k0_off68_eq2 i⟩
theorem k0_off68_eq3 (i : grid0.Coords) : k0_off68 i 3#32 = ![8 * ((i 1).val / 4) + 3, 64, 0] := k0_off68_all i 3
instance (i : grid0.Coords) : ClosedOff (k0_off68 i 3#32) := ⟨_, k0_off68_eq3 i⟩
theorem k0_off69_eq : ∀ i : grid0.Coords, k0_off69 i = ![8 * ((i 1).val / 4) + 3, 0, 512] := by decide +kernel
instance (i : grid0.Coords) : ClosedOff (k0_off69 i) := ⟨_, k0_off69_eq i⟩
theorem k0_off70_eq : ∀ i : grid0.Coords, k0_off70 i = ![8 * ((i 1).val / 4), 0, 0] := by decide +kernel
instance (i : grid0.Coords) : ClosedOff (k0_off70 i) := ⟨_, k0_off70_eq i⟩
theorem k0_off71_all : ∀ (i : grid0.Coords) (u : Fin 2), k0_off71 i (BitVec.ofNat 32 u.val) = ![8 * ((i 1).val / 4) + u.val, 64, 0] := by decide +kernel
theorem k0_off71_eq0 (i : grid0.Coords) : k0_off71 i 0#32 = ![8 * ((i 1).val / 4) + 0, 64, 0] := k0_off71_all i 0
instance (i : grid0.Coords) : ClosedOff (k0_off71 i 0#32) := ⟨_, k0_off71_eq0 i⟩
theorem k0_off71_eq1 (i : grid0.Coords) : k0_off71 i 1#32 = ![8 * ((i 1).val / 4) + 1, 64, 0] := k0_off71_all i 1
instance (i : grid0.Coords) : ClosedOff (k0_off71 i 1#32) := ⟨_, k0_off71_eq1 i⟩
theorem k0_off72_eq : ∀ i : grid0.Coords, k0_off72 i = ![8 * ((i 1).val / 4) + 1, 0, 512] := by decide +kernel
instance (i : grid0.Coords) : ClosedOff (k0_off72 i) := ⟨_, k0_off72_eq i⟩
theorem k0_t1_trips : ∀ i : grid0.Coords, (k0_t1_loop i).trips = (i 1).val / 4 := by decide +kernel
theorem k0_t3_trips : ∀ i : grid0.Coords, (k0_t3_loop i).trips = (i 1).val / 4 := by decide +kernel
theorem k0_t5_trips : ∀ i : grid0.Coords, (k0_t5_loop i).trips = (i 1).val / 4 := by decide +kernel
theorem k0_t7_trips : ∀ i : grid0.Coords, (k0_t7_loop i).trips = (i 1).val / 4 := by decide +kernel
theorem k0_t2_trips : ∀ i : grid0.Coords, (k0_t2_loop i).trips = 0 := by decide +kernel
theorem k0_t4_trips : ∀ i : grid0.Coords, (k0_t4_loop i).trips = 0 := by decide +kernel
theorem k0_t6_trips : ∀ i : grid0.Coords, (k0_t6_loop i).trips = 0 := by decide +kernel
theorem k0_t8_trips : ∀ i : grid0.Coords, (k0_t8_loop i).trips = 0 := by decide +kernel
theorem k0_cond2_iff : ∀ i : grid0.Coords, k0_cond2 i = 1#1 ↔ (i 1).val % 4 ≠ 0 := by decide +kernel
theorem k0_cond3_iff : ∀ i : grid0.Coords, k0_cond3 i = 1#1 ↔ (i 1).val % 4 ≠ 1 := by decide +kernel
theorem k0_cond4_iff : ∀ i : grid0.Coords, k0_cond4 i = 1#1 ↔ (i 1).val % 4 ≠ 2 := by decide +kernel
theorem k0_cond5_iff : ∀ i : grid0.Coords, k0_cond5 i = 1#1 ↔ (i 1).val % 4 ≠ 0 := by decide +kernel
theorem k0_cond6_iff : ∀ i : grid0.Coords, k0_cond6 i = 1#1 ↔ (i 1).val % 4 ≠ 1 := by decide +kernel
theorem k0_cond7_iff : ∀ i : grid0.Coords, k0_cond7 i = 1#1 ↔ (i 1).val % 4 ≠ 2 := by decide +kernel
theorem k0_cond8_iff : ∀ i : grid0.Coords, k0_cond8 i = 1#1 ↔ (i 1).val % 4 ≠ 0 := by decide +kernel
theorem k0_cond9_iff : ∀ i : grid0.Coords, k0_cond9 i = 1#1 ↔ (i 1).val % 4 ≠ 1 := by decide +kernel
theorem k0_cond10_iff : ∀ i : grid0.Coords, k0_cond10 i = 1#1 ↔ (i 1).val % 4 ≠ 2 := by decide +kernel
theorem k0_cond11_iff : ∀ i : grid0.Coords, k0_cond11 i = 1#1 ↔ (i 1).val % 4 ≠ 0 := by decide +kernel
theorem k0_cond12_iff : ∀ i : grid0.Coords, k0_cond12 i = 1#1 ↔ (i 1).val % 4 ≠ 1 := by decide +kernel
theorem k0_cond13_iff : ∀ i : grid0.Coords, k0_cond13 i = 1#1 ↔ (i 1).val % 4 ≠ 2 := by decide +kernel
theorem z_iff : ∀ i : grid0.Coords, (Scalar.cmpi .ne (Scalar.extui (Scalar.cmpi .eq (BitVec.ofNat 32 (i 1).val) 0#32) : BitVec 32) 0#32 = 1#1) ↔ (i 1).val = 0 := by decide +kernel
theorem q_lt : ∀ i : grid0.Coords, (i 1).val < 8 := by decide +kernel

end Cert.KernelIdeal.Run
-- ==== Proof.Sem.lean ====
module

public import proofs.«01_k».proof.Proof.Gen.KernelIdeal.Skeleton
public import Idealize.ShloMosaic.Lib.Pointwise
public import Idealize.ShloMosaic.Lib.WritesUnit

@[expose] public section

set_option maxRecDepth 16384
noncomputable section

/-! What the kernel's blocks hold, over the extended reals: the scores of one query block against the key blocks,
their running maximum, the running sums of the weights and the weighted sums of the values. -/

namespace Cert.KernelIdeal.Sem

open Cert.KernelIdeal Cert.KernelIdeal.Gen
open Idealize.ShloMosaic

/-- Scores by key block, row inside the block and query. -/
abbrev Sc := ℕ → Fin 512 → Fin 1024 → EReal

/-- The kernel's factor on the scores. -/
def kap : EReal := Named.named (F := Ideal) (φ := .f32) κ "scale_log2" 0x3E16C740#32

/-- The scaled product of key row `ρ` and query `c`. -/
def scf (K : ℕ → Fin 256 → EReal) (Q : FVec Ideal S1024x256 .bf16) (ρ : ℕ) (c : Fin 1024) : EReal :=
  (∑ d : Fin 256, K ρ d * Q (ix2 c d)) * kap

/-- The causal score: the scaled product up to the query's own position, bottom after it. -/
def sc (K : ℕ → Fin 256 → EReal) (Q : FVec Ideal S1024x256 .bf16) (q : ℕ) : Sc := fun n r c =>
  if 512 * n + r.val ≤ 1024 * q + c.val then scf K Q (512 * n + r.val) c else ⊥

def Blk (S : Sc) (n : ℕ) (P : FVec Ideal S512x1024 .f32) : Prop := ∀ r c, P (ix2 r c) = S n r c
def BlkH (S : Sc) (n : ℕ) (P : FVec Ideal S512x512 .f32) : Prop :=
  ∀ (r : Fin 512) (c : Fin 512), P (ix2 r c) = S n r ⟨512 + c.val, by omega⟩
def Low (S : Sc) (n : ℕ) : Prop := ∀ (r : Fin 512) (c : Fin 1024), c.val < 512 → S n r c = ⊥

/-- The running maximum of the first `n` blocks, kept in eight rows. -/
def MInv (S : Sc) (n : ℕ) (m : FVec Ideal S8x1024 .f32) : Prop :=
  ∀ (c : Fin 1024) (x : EReal), (∀ ρ : Fin 8, m (ix2 ρ c) ≤ x) ↔ ∀ k, k < n → ∀ r, S k r c ≤ x

theorem split8 {p : ℕ → Prop} : (∀ (ρ : Fin 8) (k : Fin 64), p (k.val * 8 + ρ.val)) ↔ ∀ r : Fin 512, p r.val := by
  constructor
  · intro h r
    have := h ⟨r.val % 8, by omega⟩ ⟨r.val / 8, by omega⟩
    simp only at this
    rwa [show r.val / 8 * 8 + r.val % 8 = r.val by omega] at this
  · intro h ρ k
    exact h ⟨k.val * 8 + ρ.val, by omega⟩

theorem M_init (S : Sc) {a : FVec Ideal S8x1024 .f32} (ha : ∀ j, a j = ⊥) : MInv S 0 a := by
  intro c x
  simp [ha]

theorem neg_inf : Ideal.ofBits .f32 0xFF800000#32 = (⊥ : EReal) := by
  simp [Ideal.ofBits, Ideal.ieee]

theorem foldmax_le (P : FVec Ideal S512x1024 .f32) (h1 h2 h3 h4) (c : Fin 1024) (x : EReal) :
    (∀ ρ : Fin 8, (multiReduction .maximumf [0] S8x1024 (shapeCast S64x8x1024 P h1) 0xFF800000#32 h2 h3 h4 : FVec Ideal S8x1024 .f32) (ix2 ρ c) ≤ x)
      ↔ ∀ r, P (ix2 r c) ≤ x := by
  pointwise
  simp only [Finset.fold_max_le, neg_inf, bot_le, true_and, Finset.mem_univ, forall_true_left]
  constructor
  · intro h r
    have := h ⟨r.val % 8, by omega⟩ ⟨r.val / 8, by omega⟩
    have e : (⟨r.val / 8 * 8 + r.val % 8, by omega⟩ : Fin 512) = r := Fin.ext (by simp only; omega)
    rwa [← e]
  · intro h ρ k; exact h _

theorem foldmaxH_le (P : FVec Ideal S512x512 .f32) (h1 h2 h3 h4) (c : Fin 512) (x : EReal) :
    (∀ ρ : Fin 8, (multiReduction .maximumf [0] S8x512 (shapeCast S64x8x512 P h1) 0xFF800000#32 h2 h3 h4 : FVec Ideal S8x512 .f32) (ix2 ρ c) ≤ x)
      ↔ ∀ r, P (ix2 r c) ≤ x := by
  pointwise
  simp only [Finset.fold_max_le, neg_inf, bot_le, true_and, Finset.mem_univ, forall_true_left]
  constructor
  · intro h r
    have := h ⟨r.val % 8, by omega⟩ ⟨r.val / 8, by omega⟩
    have e : (⟨r.val / 8 * 8 + r.val % 8, by omega⟩ : Fin 512) = r := Fin.ext (by simp only; omega)
    rwa [← e]
  · intro h ρ k; exact h _

theorem M_step {S : Sc} {n : ℕ} {a : FVec Ideal S8x1024 .f32} {P : FVec Ideal S512x1024 .f32} {h1 h2 h3 h4}
    (ha : MInv S n a) (hP : Blk S n P) :
    MInv S (n + 1) (maximumf a (multiReduction .maximumf [0] S8x1024 (shapeCast S64x8x1024 P h1) 0xFF800000#32 h2 h3 h4)) := by
  intro c x
  have e : ∀ ρ : Fin 8, (maximumf a (multiReduction .maximumf [0] S8x1024 (shapeCast S64x8x1024 P h1) 0xFF800000#32 h2 h3 h4)) (ix2 ρ c)
      = max (a (ix2 ρ c)) ((multiReduction .maximumf [0] S8x1024 (shapeCast S64x8x1024 P h1) 0xFF800000#32 h2 h3 h4 : FVec Ideal S8x1024 .f32) (ix2 ρ c)) := fun ρ => rfl
  simp only [e, max_le_iff, forall_and, foldmax_le, ha c x, hP _ _]
  constructor
  · rintro ⟨h, h'⟩ k hk
    rcases Nat.lt_succ_iff_lt_or_eq.1 hk with hk | rfl
    · exact h k hk
    · exact h'
  · intro h
    exact ⟨fun k hk => h k (by omega), h n (by omega)⟩

theorem M_half {S : Sc} {n : ℕ} {a : FVec Ideal S8x1024 .f32} {P : FVec Ideal S512x512 .f32} {h1 h2 h3 h4 s1 s2 hc}
    (ha : MInv S n a) (hP : BlkH S n P) (hL : Low S n) :
    MInv S (n + 1) (concatenate S8x1024 1 [⟨S8x512, (extractStridedSlice S8x512 ![0, 0] a s1 : FVec Ideal S8x512 .f32)⟩,
      ⟨S8x512, maximumf (extractStridedSlice S8x512 ![0, 512] a s2)
        (multiReduction .maximumf [0] S8x512 (shapeCast S64x8x512 P h1) 0xFF800000#32 h2 h3 h4)⟩] hc) := by
  intro c x
  by_cases hcc : c.val < 512
  · have e : ∀ ρ : Fin 8, (concatenate S8x1024 1 [⟨S8x512, (extractStridedSlice S8x512 ![0, 0] a s1 : FVec Ideal S8x512 .f32)⟩,
      ⟨S8x512, maximumf (extractStridedSlice S8x512 ![0, 512] a s2)
        (multiReduction .maximumf [0] S8x512 (shapeCast S64x8x512 P h1) 0xFF800000#32 h2 h3 h4)⟩] hc : FVec Ideal S8x1024 .f32) (ix2 ρ c)
        = a (ix2 ρ c) := by
      intro ρ; pointwise; simp [hcc]
    simp only [e, ha c x]
    constructor
    · intro h k hk r
      rcases Nat.lt_succ_iff_lt_or_eq.1 hk with hk | rfl
      · exact h k hk r
      · rw [hL r c hcc]; exact bot_le
    · intro h k hk; exact h k (by omega)
  · have e : ∀ ρ : Fin 8, (concatenate S8x1024 1 [⟨S8x512, (extractStridedSlice S8x512 ![0, 0] a s1 : FVec Ideal S8x512 .f32)⟩,
      ⟨S8x512, maximumf (extractStridedSlice S8x512 ![0, 512] a s2)
        (multiReduction .maximumf [0] S8x512 (shapeCast S64x8x512 P h1) 0xFF800000#32 h2 h3 h4)⟩] hc : FVec Ideal S8x1024 .f32) (ix2 ρ c)
        = max (a (ix2 ρ c)) ((multiReduction .maximumf [0] S8x512 (shapeCast S64x8x512 P h1) 0xFF800000#32 h2 h3 h4 : FVec Ideal S8x512 .f32)
          (ix2 ρ ⟨c.val - 512, by omega⟩)) := by
      intro ρ
      have e2 : (⟨512 + (c.val - 512), by omega⟩ : Fin 1024) = c := Fin.ext (by simp only; omega)
      pointwise; simp [hcc, e2]
    have e3 : ∀ r, P (ix2 r (⟨c.val - 512, by omega⟩ : Fin 512)) = S n r c := by
      intro r; rw [hP r]; congr 1; exact Fin.ext (by simp only; omega)
    simp only [e, max_le_iff, forall_and, foldmaxH_le, ha c x, e3]
    constructor
    · rintro ⟨h, h'⟩ k hk
      rcases Nat.lt_succ_iff_lt_or_eq.1 hk with hk | rfl
      · exact h k hk
      · exact h'
    · intro h
      exact ⟨fun k hk => h k (by omega), h n (by omega)⟩

/-- The maximum of the eight rows, as one row. -/
theorem M_top {S : Sc} {n : ℕ} {a : FVec Ideal S8x1024 .f32} {h1 h2 h3 h4} (ha : MInv S n a) (c : Fin 1024) (x : EReal) :
    (shapeCast S1x1024 (multiReduction .maximumf [0] S1024 a 0xFF800000#32 h1 h2 h3 : FVec Ideal S1024 .f32) h4) (ix2 0 c) ≤ x
      ↔ ∀ k, k < n → ∀ r, S k r c ≤ x := by
  rw [← ha c x]
  pointwise
  simp only [Finset.fold_max_le, neg_inf, bot_le, true_and, Finset.mem_univ, forall_true_left]

/-! ## The scores of one block -/

/-- A chunk of rows of the loaded keys. -/
def Rows (K : ℕ → Fin 256 → EReal) {N : ℕ} (b : ℕ) (X : (⟨3, ![1, N, 256]⟩ : Shape).Idx → EReal) : Prop :=
  ∀ (r : Fin N) (d : Fin 256), X (ix3 0 r d) = K (b + r.val) d

/-- Rows `b` on of the unmasked scores. -/
def FRows (K : ℕ → Fin 256 → EReal) (Q : FVec Ideal S1024x256 .bf16) {N : ℕ} (b : ℕ) (M : (⟨2, ![N, 1024]⟩ : Shape).Idx → EReal) : Prop :=
  ∀ (r : Fin N) (c : Fin 1024), M (ix2 r c) = scf K Q (b + r.val) c

/-- The mask of the block on the diagonal. -/
def MaskOk (W : S1x512x512.Idx → EReal) : Prop := ∀ r c : Fin 512, W (ix3 0 r c) = if r.val ≤ c.val then 0 else ⊥

theorem rows_4096 {K : ℕ → Fin 256 → EReal} {Q : FVec Ideal S1024x256 .bf16} {X : FVec Ideal S1x4096x256 .bf16} {h1 : S1x4096x256.ShapeCasts S4096x256} {b : ℕ}
    (hX : Rows K b X) :
    FRows K Q b (mulf (matmul dot_S4096x256_S1024x256_S4096x1024_1_1_0_0_n_n none (shapeCast S4096x256 X h1) Q (constant S4096x1024 .f32 0x00000000#32))
        (broadcast S4096x1024 (Named.named κ "scale_log2" 0x3E16C740#32)) : FVec Ideal S4096x1024 .f32) := by
  intro r c
  simp only [scf, kap]
  pointwise
  simp only [hX _ _]

theorem blk_4096 {K : ℕ → Fin 256 → EReal} {Q : FVec Ideal S1024x256 .bf16} {q n : ℕ} {M : FVec Ideal S4096x1024 .f32} {o b : ℕ} {h2 : S4096x1024.Slices ![o, 0] S512x1024}
    (ho : o + 512 ≤ 4096) (hM : FRows K Q b M) (hb : b + o = 512 * n) (hn : n < 2 * q) :
    Blk (sc K Q q) n (extractStridedSlice S512x1024 ![o, 0] M h2) := by
  intro r c
  have hv : 512 * n + r.val ≤ 1024 * q + c.val := by omega
  simp only [sc, hv, if_true]
  pointwise
  simp only [hM _ _, ← hb, Nat.add_assoc]

theorem pre_4096 {K : ℕ → Fin 256 → EReal} {Q : FVec Ideal S1024x256 .bf16} {n : ℕ} {M : FVec Ideal S4096x1024 .f32} {o b : ℕ} {h2 : S4096x1024.Slices ![o, 0] S512x1024}
    (ho : o + 512 ≤ 4096) (hM : FRows K Q b M) (hb : b + o = n) :
    FRows K Q n (extractStridedSlice S512x1024 ![o, 0] M h2 : FVec Ideal S512x1024 .f32) := by
  intro r c
  pointwise
  simp only [hM _ _, ← hb, Nat.add_assoc]

theorem rows_3584 {K : ℕ → Fin 256 → EReal} {Q : FVec Ideal S1024x256 .bf16} {X : FVec Ideal S1x3584x256 .bf16} {h1 : S1x3584x256.ShapeCasts S3584x256} {b : ℕ}
    (hX : Rows K b X) :
    FRows K Q b (mulf (matmul dot_S3584x256_S1024x256_S3584x1024_1_1_0_0_n_n none (shapeCast S3584x256 X h1) Q (constant S3584x1024 .f32 0x00000000#32))
        (broadcast S3584x1024 (Named.named κ "scale_log2" 0x3E16C740#32)) : FVec Ideal S3584x1024 .f32) := by
  intro r c
  simp only [scf, kap]
  pointwise
  simp only [hX _ _]

theorem blk_3584 {K : ℕ → Fin 256 → EReal} {Q : FVec Ideal S1024x256 .bf16} {q n : ℕ} {M : FVec Ideal S3584x1024 .f32} {o b : ℕ} {h2 : S3584x1024.Slices ![o, 0] S512x1024}
    (ho : o + 512 ≤ 3584) (hM : FRows K Q b M) (hb : b + o = 512 * n) (hn : n < 2 * q) :
    Blk (sc K Q q) n (extractStridedSlice S512x1024 ![o, 0] M h2) := by
  intro r c
  have hv : 512 * n + r.val ≤ 1024 * q + c.val := by omega
  simp only [sc, hv, if_true]
  pointwise
  simp only [hM _ _, ← hb, Nat.add_assoc]

theorem pre_3584 {K : ℕ → Fin 256 → EReal} {Q : FVec Ideal S1024x256 .bf16} {n : ℕ} {M : FVec Ideal S3584x1024 .f32} {o b : ℕ} {h2 : S3584x1024.Slices ![o, 0] S512x1024}
    (ho : o + 512 ≤ 3584) (hM : FRows K Q b M) (hb : b + o = n) :
    FRows K Q n (extractStridedSlice S512x1024 ![o, 0] M h2 : FVec Ideal S512x1024 .f32) := by
  intro r c
  pointwise
  simp only [hM _ _, ← hb, Nat.add_assoc]

theorem rows_2560 {K : ℕ → Fin 256 → EReal} {Q : FVec Ideal S1024x256 .bf16} {X : FVec Ideal S1x2560x256 .bf16} {h1 : S1x2560x256.ShapeCasts S2560x256} {b : ℕ}
    (hX : Rows K b X) :
    FRows K Q b (mulf (matmul dot_S2560x256_S1024x256_S2560x1024_1_1_0_0_n_n none (shapeCast S2560x256 X h1) Q (constant S2560x1024 .f32 0x00000000#32))
        (broadcast S2560x1024 (Named.named κ "scale_log2" 0x3E16C740#32)) : FVec Ideal S2560x1024 .f32) := by
  intro r c
  simp only [scf, kap]
  pointwise
  simp only [hX _ _]

theorem blk_2560 {K : ℕ → Fin 256 → EReal} {Q : FVec Ideal S1024x256 .bf16} {q n : ℕ} {M : FVec Ideal S2560x1024 .f32} {o b : ℕ} {h2 : S2560x1024.Slices ![o, 0] S512x1024}
    (ho : o + 512 ≤ 2560) (hM : FRows K Q b M) (hb : b + o = 512 * n) (hn : n < 2 * q) :
    Blk (sc K Q q) n (extractStridedSlice S512x1024 ![o, 0] M h2) := by
  intro r c
  have hv : 512 * n + r.val ≤ 1024 * q + c.val := by omega
  simp only [sc, hv, if_true]
  pointwise
  simp only [hM _ _, ← hb, Nat.add_assoc]

theorem pre_2560 {K : ℕ → Fin 256 → EReal} {Q : FVec Ideal S1024x256 .bf16} {n : ℕ} {M : FVec Ideal S2560x1024 .f32} {o b : ℕ} {h2 : S2560x1024.Slices ![o, 0] S512x1024}
    (ho : o + 512 ≤ 2560) (hM : FRows K Q b M) (hb : b + o = n) :
    FRows K Q n (extractStridedSlice S512x1024 ![o, 0] M h2 : FVec Ideal S512x1024 .f32) := by
  intro r c
  pointwise
  simp only [hM _ _, ← hb, Nat.add_assoc]

theorem rows_1536 {K : ℕ → Fin 256 → EReal} {Q : FVec Ideal S1024x256 .bf16} {X : FVec Ideal S1x1536x256 .bf16} {h1 : S1x1536x256.ShapeCasts S1536x256} {b : ℕ}
    (hX : Rows K b X) :
    FRows K Q b (mulf (matmul dot_S1536x256_S1024x256_S1536x1024_1_1_0_0_n_n none (shapeCast S1536x256 X h1) Q (constant S1536x1024 .f32 0x00000000#32))
        (broadcast S1536x1024 (Named.named κ "scale_log2" 0x3E16C740#32)) : FVec Ideal S1536x1024 .f32) := by
  intro r c
  simp only [scf, kap]
  pointwise
  simp only [hX _ _]

theorem blk_1536 {K : ℕ → Fin 256 → EReal} {Q : FVec Ideal S1024x256 .bf16} {q n : ℕ} {M : FVec Ideal S1536x1024 .f32} {o b : ℕ} {h2 : S1536x1024.Slices ![o, 0] S512x1024}
    (ho : o + 512 ≤ 1536) (hM : FRows K Q b M) (hb : b + o = 512 * n) (hn : n < 2 * q) :
    Blk (sc K Q q) n (extractStridedSlice S512x1024 ![o, 0] M h2) := by
  intro r c
  have hv : 512 * n + r.val ≤ 1024 * q + c.val := by omega
  simp only [sc, hv, if_true]
  pointwise
  simp only [hM _ _, ← hb, Nat.add_assoc]

theorem pre_1536 {K : ℕ → Fin 256 → EReal} {Q : FVec Ideal S1024x256 .bf16} {n : ℕ} {M : FVec Ideal S1536x1024 .f32} {o b : ℕ} {h2 : S1536x1024.Slices ![o, 0] S512x1024}
    (ho : o + 512 ≤ 1536) (hM : FRows K Q b M) (hb : b + o = n) :
    FRows K Q n (extractStridedSlice S512x1024 ![o, 0] M h2 : FVec Ideal S512x1024 .f32) := by
  intro r c
  pointwise
  simp only [hM _ _, ← hb, Nat.add_assoc]

theorem rows_512 {K : ℕ → Fin 256 → EReal} {Q : FVec Ideal S1024x256 .bf16} {X : FVec Ideal S1x512x256 .bf16} {h1 : S1x512x256.ShapeCasts S512x256} {b : ℕ}
    (hX : Rows K b X) :
    FRows K Q b (mulf (matmul dot_S512x256_S1024x256_S512x1024_1_1_0_0_n_n none (shapeCast S512x256 X h1) Q (constant S512x1024 .f32 0x00000000#32))
        (broadcast S512x1024 (Named.named κ "scale_log2" 0x3E16C740#32)) : FVec Ideal S512x1024 .f32) := by
  intro r c
  simp only [scf, kap]
  pointwise
  simp only [hX _ _]

theorem diag {K : ℕ → Fin 256 → EReal} {Q : FVec Ideal S1024x256 .bf16} {q n : ℕ} {M : FVec Ideal S512x1024 .f32} {W : FVec Ideal S1x512x512 .f32}
    {h3 : S512x1024.Slices ![0, 0] S512x512} {h4 : S1x512x512.ShapeCasts S512x512} {h5 : S512x1024.Slices ![0, 512] S512x512} {h6}
    (hM : FRows K Q (512 * n) M) (hn : n = 2 * q) (hW : MaskOk W) :
    Blk (sc K Q q) n (concatenate S512x1024 1 [⟨S512x512, (addf (extractStridedSlice S512x512 ![0, 0] M h3) (shapeCast S512x512 W h4) : FVec Ideal S512x512 .f32)⟩,
      ⟨S512x512, (extractStridedSlice S512x512 ![0, 512] M h5 : FVec Ideal S512x512 .f32)⟩] h6) := by
  intro r c
  simp only [sc]
  pointwise
  simp only [hM _ _, hW _ _]
  subst hn
  by_cases hc : c.val < 512
  · by_cases hr : r.val ≤ c.val
    · have : 512 * (2 * q) + r.val ≤ 1024 * q + c.val := by omega
      simp [hc, hr, this]
    · have : ¬ 512 * (2 * q) + r.val ≤ 1024 * q + c.val := by omega
      simp [hc, hr, this]
  · have : 512 * (2 * q) + r.val ≤ 1024 * q + c.val := by omega
    have e2 : (⟨512 + (c.val - 512), by omega⟩ : Fin 1024) = c := Fin.ext (by simp only; omega)
    simp [hc, this, e2]

theorem half {K : ℕ → Fin 256 → EReal} {Q : FVec Ideal S1024x256 .bf16} {q n : ℕ} {X : FVec Ideal S1x512x256 .bf16} {W : FVec Ideal S1x512x512 .f32} {b : ℕ}
    {h1 : S1x512x256.ShapeCasts S512x256} {h2 : S1024x256.Slices ![512, 0] S512x256} {h4 : S1x512x512.ShapeCasts S512x512}
    (hX : Rows K b X) (hb : b = 512 * n) (hn : n = 2 * q + 1) (hW : MaskOk W) :
    BlkH (sc K Q q) n (addf (mulf (matmul dot_S512x256_S512x256_S512x512_1_1_0_0_n_n none (shapeCast S512x256 X h1) (extractStridedSlice S512x256 ![512, 0] Q h2)
      (constant S512x512 .f32 0x00000000#32)) (broadcast S512x512 (Named.named κ "scale_log2" 0x3E16C740#32))) (shapeCast S512x512 W h4)) := by
  intro r c
  simp only [sc, scf, kap]
  pointwise
  simp only [hX _ _, hW _ _]
  subst hb hn
  by_cases hr : r.val ≤ c.val
  · have : 512 * (2 * q + 1) + r.val ≤ 1024 * q + (512 + c.val) := by omega
    simp [hr, this]
  · have : ¬ 512 * (2 * q + 1) + r.val ≤ 1024 * q + (512 + c.val) := by omega
    simp [hr, this]

theorem low {K : ℕ → Fin 256 → EReal} {Q : FVec Ideal S1024x256 .bf16} {q n : ℕ} (hn : n = 2 * q + 1) : Low (sc K Q q) n := by
  intro r c hc
  have : ¬ 512 * n + r.val ≤ 1024 * q + c.val := by omega
  simp [sc, this]

/-! ## What the buffers hold -/

section Buffers
variable {κ' : Kind} {sp : Space}

theorem rows_load (v : View sig κ' sp S1x8192x256 .bf16) (f : BufTy.Contents (Elt Ideal) v.ty) {K : ℕ → Fin 256 → EReal} {N b : ℕ} {off : Fin 3 → ℕ}
    (inb : ∀ a, off a + (⟨3, ![1, N, 256]⟩ : Shape).size a ≤ S1x8192x256.size a) (ho : off = ![0, b, 0])
    (hK : ∀ (r : Fin 8192) (d : Fin 256), v.read (Elt Ideal) f (ix3 0 r d) = K r.val d) :
    Rows K (N := N) b (View.readAt (Elt Ideal) v (Rect.unit (s := S1x8192x256) off (⟨3, ![1, N, 256]⟩ : Shape).size inb).toLoadRect f) := by
  subst ho
  intro r d
  have := inb 1
  simp at this
  rw [← hK ⟨b + r.val, by omega⟩ d]
  unfold View.readAt
  congr 1
  funext a
  apply Fin.ext
  fin_cases a <;> simp [Rect.unit, LoadRect.idx, ix3]

def SInv (S : Sc) (n : ℕ) (g : S16x512x1024.Idx → EReal) : Prop :=
  ∀ k (hk : k < 16), k < n → ∀ r c, g (ix3 ⟨k, hk⟩ r c) = S k r c

/-- The last block is held only in its upper half of columns. -/
def SInvH (S : Sc) (n : ℕ) (g : S16x512x1024.Idx → EReal) : Prop :=
  SInv S n g ∧ ∀ (hk : n < 16) (r c : Fin 512), g (ix3 ⟨n, hk⟩ r ⟨512 + c.val, by omega⟩) = S n r ⟨512 + c.val, by omega⟩

theorem S_init (S : Sc) (g) : SInv S 0 g := by intro k _ hk; omega

theorem S_step (v : View sig κ' sp S16x512x1024 .f32) (f : BufTy.Contents (Elt Ideal) v.ty) {S : Sc} {n : ℕ} {off : Fin 3 → ℕ} {L}
    (inb : ∀ a, off a + S1x512x1024.size a ≤ S16x512x1024.size a) {P : FVec Ideal S512x1024 .f32} {h1 : S512x1024.ShapeCasts S1x512x1024}
    (hS : SInv S n (v.read (Elt Ideal) (v.writes (Elt Ideal) f L))) (ho : off = ![n, 0, 0]) (hP : Blk S n P) :
    SInv S (n + 1) (v.read (Elt Ideal) (v.writes (Elt Ideal) f (⟨Rect.unit (s := S16x512x1024) off S1x512x1024.size inb, shapeCast S1x512x1024 P h1⟩ :: L))) := by
  intro k hk hkn r c
  by_cases h : k = n
  · subst h
    rw [View.read_writes_cons_unit_of_mem v f inb _ L _ (ix3 0 r c) ho (by intro a; fin_cases a <;> simp [ix3])]
    rw [← hP r c]
    pointwise
  · rw [View.read_writes_cons_unit_of_not_mem v f inb _ L _ ho 0 (by simp [ix3]; omega)]
    exact hS k hk (by omega) r c

theorem S_half (v : View sig κ' sp S16x512x1024 .f32) (f : BufTy.Contents (Elt Ideal) v.ty) {S : Sc} {n : ℕ} {off : Fin 3 → ℕ} {L}
    (inb : ∀ a, off a + S1x512x512.size a ≤ S16x512x1024.size a) {P : FVec Ideal S512x512 .f32} {h1 : S512x512.ShapeCasts S1x512x512}
    (hS : SInv S n (v.read (Elt Ideal) (v.writes (Elt Ideal) f L))) (ho : off = ![n, 0, 512]) (hP : BlkH S n P) :
    SInvH S n (v.read (Elt Ideal) (v.writes (Elt Ideal) f (⟨Rect.unit (s := S16x512x1024) off S1x512x512.size inb, shapeCast S1x512x512 P h1⟩ :: L))) := by
  constructor
  · intro k hk hkn r c
    rw [View.read_writes_cons_unit_of_not_mem v f inb _ L _ ho 0 (by simp [ix3]; omega)]
    exact hS k hk (by omega) r c
  · intro hk r c
    rw [View.read_writes_cons_unit_of_mem v f inb _ L _ (ix3 0 r c) ho (by intro a; fin_cases a <;> simp [ix3])]
    rw [← hP r c]
    pointwise

/-! ## The weights and the sums -/

/-- One weight: two to the score less the query's maximum. -/
def pe (S : Sc) (μ : Fin 1024 → EReal) (n : ℕ) (r : Fin 512) (c : Fin 1024) : EReal := Ideal.exp2 (S n r c - μ c)

def EBlk (S : Sc) (μ : Fin 1024 → EReal) (n : ℕ) (P : FVec Ideal S512x1024 .f32) : Prop := ∀ r c, P (ix2 r c) = pe S μ n r c
def EBlkH (S : Sc) (μ : Fin 1024 → EReal) (n : ℕ) (P : FVec Ideal S512x512 .f32) : Prop :=
  ∀ (r c : Fin 512), P (ix2 r c) = pe S μ n r ⟨512 + c.val, by omega⟩

/-- A loaded block of scores. -/
def LBlk (S : Sc) (n : ℕ) (X : S1x512x1024.Idx → EReal) : Prop := ∀ r c, X (ix3 0 r c) = S n r c
def LBlkH (S : Sc) (n : ℕ) (X : S1x512x512.Idx → EReal) : Prop := ∀ (r c : Fin 512), X (ix3 0 r c) = S n r ⟨512 + c.val, by omega⟩
/-- A loaded block of transposed values. -/
def VBlk (V : ℕ → Fin 64 → EReal) (n : ℕ) (X : S1x64x512.Idx → EReal) : Prop := ∀ d r, X (ix3 0 d r) = V (512 * n + r.val) d

theorem ld_full (v : View sig κ' sp S16x512x1024 .f32) (f : BufTy.Contents (Elt Ideal) v.ty) {S : Sc} {N n : ℕ} {off : Fin 3 → ℕ}
    (inb : ∀ a, off a + S1x512x1024.size a ≤ S16x512x1024.size a)
    (hS : SInvH S N (v.read (Elt Ideal) f)) (ho : off = ![n, 0, 0]) (hn : n < N) :
    LBlk S n (View.readAt (Elt Ideal) v (Rect.unit (s := S16x512x1024) off S1x512x1024.size inb).toLoadRect f) := by
  subst ho
  intro r c
  have h0 := inb 0
  simp at h0
  rw [← hS.1 n (by omega) hn r c]
  unfold View.readAt
  congr 1
  funext a
  apply Fin.ext
  fin_cases a <;> simp [Rect.unit, LoadRect.idx, ix3]

theorem ld_half (v : View sig κ' sp S16x512x1024 .f32) (f : BufTy.Contents (Elt Ideal) v.ty) {S : Sc} {N : ℕ} {off : Fin 3 → ℕ}
    (inb : ∀ a, off a + S1x512x512.size a ≤ S16x512x1024.size a)
    (hS : SInvH S N (v.read (Elt Ideal) f)) (ho : off = ![N, 0, 512]) :
    LBlkH S N (View.readAt (Elt Ideal) v (Rect.unit (s := S16x512x1024) off S1x512x512.size inb).toLoadRect f) := by
  subst ho
  intro r c
  have h0 := inb 0
  simp at h0
  rw [← hS.2 (by omega) r c]
  unfold View.readAt
  congr 1
  funext a
  apply Fin.ext
  fin_cases a <;> simp [Rect.unit, LoadRect.idx, ix3]

theorem ld_vt (v : View sig κ' sp S16x128x512 .bf16) (f : BufTy.Contents (Elt Ideal) v.ty) {V : ℕ → Fin 128 → EReal} {n e : ℕ} {off : Fin 3 → ℕ}
    (inb : ∀ a, off a + S1x64x512.size a ≤ S16x128x512.size a)
    (hV : ∀ (k : Fin 16) d (r : Fin 512), v.read (Elt Ideal) f (ix3 k d r) = V (512 * k.val + r.val) d) (ho : off = ![n, e, 0]) (he : e + 64 ≤ 128) :
    VBlk (fun r d => V r ⟨e + d.val, by omega⟩) n (View.readAt (Elt Ideal) v (Rect.unit (s := S16x128x512) off S1x64x512.size inb).toLoadRect f) := by
  subst ho
  intro d r
  have h0 := inb 0
  simp at h0
  refine Eq.trans ?_ (hV ⟨n, by omega⟩ ⟨e + d.val, by omega⟩ r)
  unfold View.readAt
  congr 1
  funext a
  apply Fin.ext
  fin_cases a <;> simp [Rect.unit, LoadRect.idx, ix3]

end Buffers

theorem e_full {S : Sc} {μ : Fin 1024 → EReal} {n : ℕ} {X : FVec Ideal S1x512x1024 .f32} {m : FVec Ideal S1x1024 .f32} {h1 : S1x512x1024.ShapeCasts S512x1024}
    {h2 : S1x1024.Broadcasts S512x1024} (hX : LBlk S n X) (hm : ∀ c, m (ix2 0 c) = μ c) :
    EBlk S μ n (exp2 (subf (shapeCast S512x1024 X h1) (broadcastTo S512x1024 m h2))) := by
  intro r c
  rw [pe, ← hm c, ← hX r c]
  pointwise
  rfl

theorem e_half {S : Sc} {μ : Fin 1024 → EReal} {n : ℕ} {X : FVec Ideal S1x512x512 .f32} {m : FVec Ideal S1x1024 .f32} {h1 : S1x512x512.ShapeCasts S512x512}
    {h2 : S1x512.Broadcasts S512x512} {h3 : S1x1024.Slices ![0, 512] S1x512} (hX : LBlkH S n X) (hm : ∀ c, m (ix2 0 c) = μ c) :
    EBlkH S μ n (exp2 (subf (shapeCast S512x512 X h1) (broadcastTo S512x512 (extractStridedSlice S1x512 ![0, 512] m h3) h2))) := by
  intro r c
  rw [pe, ← hm _, ← hX r c]
  pointwise
  rfl

/-- The running sum of the weights of the first `n` blocks, kept in eight rows. -/
def LInv (S : Sc) (μ : Fin 1024 → EReal) (n : ℕ) (l : FVec Ideal S8x1024 .f32) : Prop :=
  ∀ c : Fin 1024, ∑ ρ : Fin 8, l (ix2 ρ c) = ∑ k ∈ Finset.range n, ∑ r, pe S μ k r c

/-- The running weighted sum of the values. -/
def AInv (S : Sc) (μ : Fin 1024 → EReal) (V : ℕ → Fin 64 → EReal) (n : ℕ) (a : FVec Ideal S64x1024 .f32) : Prop :=
  ∀ (d : Fin 64) (c : Fin 1024), a (ix2 d c) = ∑ k ∈ Finset.range n, ∑ r : Fin 512, V (512 * k + r.val) d * pe S μ k r c

theorem L_init {S : Sc} {μ} {l : FVec Ideal S8x1024 .f32} (hl : ∀ j, l j = 0) : LInv S μ 0 l := by
  intro c; simp [hl]
theorem A_init {S : Sc} {μ V} {l : FVec Ideal S64x1024 .f32} (hl : ∀ j, l j = 0) : AInv S μ V 0 l := by
  intro d c; simp [hl]

theorem sum_split8 (f : Fin 512 → EReal) : (∑ ρ : Fin 8, ∑ k : Fin 64, f ⟨k.val * 8 + ρ.val, by omega⟩) = ∑ r, f r := by
  rw [Finset.sum_comm, ← Fintype.sum_prod_type', ← (finProdFinEquiv (m := 64) (n := 8)).sum_comp]
  refine Finset.sum_congr rfl fun x _ => ?_
  congr 1
  apply Fin.ext
  simp [finProdFinEquiv]
  omega

theorem L_step {S : Sc} {μ} {n : ℕ} {a : FVec Ideal S8x1024 .f32} {P : FVec Ideal S512x1024 .f32} {h1 : S512x1024.ShapeCasts S64x8x1024} {h2 h3 h4}
    (ha : LInv S μ n a) (hP : EBlk S μ n P) :
    LInv S μ (n + 1) (addf a (multiReduction .add [0] S8x1024 (shapeCast S64x8x1024 P h1) 0x00000000#32 h2 h3 h4)) := by
  intro c
  rw [Finset.sum_range_succ, ← ha c]
  simp only [← hP _ _]
  rw [← sum_split8 fun r => P (ix2 r c), ← Finset.sum_add_distrib]
  refine Finset.sum_congr rfl fun ρ _ => ?_
  pointwise

theorem pe_low {S : Sc} {μ n} (hL : Low S n) (r) (c : Fin 1024) (hc : c.val < 512) : pe S μ n r c = 0 := by
  rw [pe, hL r c hc, EReal.bot_sub]
  rfl

theorem L_half {S : Sc} {μ} {n : ℕ} {a : FVec Ideal S8x1024 .f32} {P : FVec Ideal S512x512 .f32} {h1 : S512x512.ShapeCasts S64x8x512} {h2 h3 h4 s1 s2 hc}
    (ha : LInv S μ n a) (hP : EBlkH S μ n P) (hL : Low S n) :
    LInv S μ (n + 1) (concatenate S8x1024 1 [⟨S8x512, (extractStridedSlice S8x512 ![0, 0] a s1 : FVec Ideal S8x512 .f32)⟩,
      ⟨S8x512, addf (extractStridedSlice S8x512 ![0, 512] a s2)
        (multiReduction .add [0] S8x512 (shapeCast S64x8x512 P h1) 0x00000000#32 h2 h3 h4)⟩] hc) := by
  intro c
  rw [Finset.sum_range_succ, ← ha c]
  by_cases hcc : c.val < 512
  · simp only [pe_low hL _ c hcc, Finset.sum_const_zero, add_zero]
    refine Finset.sum_congr rfl fun ρ _ => ?_
    pointwise; simp [hcc]
  · have e2 : (⟨512 + (c.val - 512), by omega⟩ : Fin 1024) = c := Fin.ext (by simp only; omega)
    have e3 : ∀ r, pe S μ n r c = P (ix2 r (⟨c.val - 512, by omega⟩ : Fin 512)) := by
      intro r; rw [hP r]; congr 1; exact Fin.ext (by simp only; omega)
    simp only [e3]
    rw [← sum_split8 fun r => P (ix2 r (⟨c.val - 512, by omega⟩ : Fin 512)), ← Finset.sum_add_distrib]
    refine Finset.sum_congr rfl fun ρ _ => ?_
    pointwise; simp [hcc, e2]

theorem A_step {S : Sc} {μ V} {n : ℕ} {a : FVec Ideal S64x1024 .f32} {P : FVec Ideal S512x1024 .f32} {X : FVec Ideal S1x64x512 .bf16} {h1 : S1x64x512.ShapeCasts S64x512} {h2}
    (ha : AInv S μ V n a) (hX : VBlk V n X) (hP : EBlk S μ n P) :
    AInv S μ V (n + 1) (addf a (matmul dot_S64x512_S512x1024_S64x1024_1_0_0_1_n_n none (shapeCast S64x512 X h1 : FVec Ideal S64x512 .bf16) (truncf .bf16 P h2) (constant S64x1024 .f32 0x00000000#32))) := by
  intro d c
  rw [Finset.sum_range_succ, ← ha d c]
  simp only [← hP _ _, ← hX _ _]
  pointwise

theorem A_half {S : Sc} {μ V} {n : ℕ} {a : FVec Ideal S64x1024 .f32} {P : FVec Ideal S512x512 .f32} {X : FVec Ideal S1x64x512 .bf16} {h1 : S1x64x512.ShapeCasts S64x512} {h2 s1 s2 hc}
    (ha : AInv S μ V n a) (hX : VBlk V n X) (hP : EBlkH S μ n P) (hL : Low S n) :
    AInv S μ V (n + 1) (concatenate S64x1024 1 [⟨S64x512, (extractStridedSlice S64x512 ![0, 0] a s1 : FVec Ideal S64x512 .f32)⟩,
      ⟨S64x512, addf (extractStridedSlice S64x512 ![0, 512] a s2)
       (matmul dot_S64x512_S512x512_S64x512_1_0_0_1_n_n none (shapeCast S64x512 X h1 : FVec Ideal S64x512 .bf16) (truncf .bf16 P h2) (constant S64x512 .f32 0x00000000#32))⟩] hc) := by
  intro d c
  rw [Finset.sum_range_succ, ← ha d c]
  by_cases hcc : c.val < 512
  · simp only [pe_low hL _ c hcc, mul_zero, Finset.sum_const_zero, add_zero]
    pointwise; simp [hcc]
  · have e2 : (⟨512 + (c.val - 512), by omega⟩ : Fin 1024) = c := Fin.ext (by simp only; omega)
    have e3 : ∀ r, pe S μ n r c = P (ix2 r (⟨c.val - 512, by omega⟩ : Fin 512)) := by
      intro r; rw [hP r]; congr 1; exact Fin.ext (by simp only; omega)
    simp only [e3, ← hX _ _]
    pointwise; simp [hcc, e2]

/-- The queries' maxima over the first `N` blocks. -/
def mx (S : Sc) (N : ℕ) (c : Fin 1024) : EReal := ⨆ k : Fin N, ⨆ r, S k.val r c

theorem M_mx {S : Sc} {n : ℕ} {a : FVec Ideal S8x1024 .f32} {h1 h2 h3 h4} (ha : MInv S n a) (c : Fin 1024) :
    (shapeCast S1x1024 (multiReduction .maximumf [0] S1024 a 0xFF800000#32 h1 h2 h3 : FVec Ideal S1024 .f32) h4) (ix2 0 c) = mx S n c := by
  refine eq_of_forall_ge_iff fun x => ?_
  rw [M_top ha c x, mx, iSup_le_iff]
  simp only [iSup_le_iff]
  exact ⟨fun h k r => h k.val k.2 r, fun h k hk r => h ⟨k, hk⟩ r⟩

/-- One head's output at a query `c` and a value lane `d`. -/
def hd (S : Sc) (V : ℕ → Fin 64 → EReal) (N : ℕ) (d : Fin 64) (c : Fin 1024) : EReal :=
  Ideal.div (∑ k ∈ Finset.range N, ∑ r : Fin 512, V (512 * k + r.val) d * pe S (mx S N) k r c)
    (max (∑ k ∈ Finset.range N, ∑ r, pe S (mx S N) k r c) (Ideal.ofBits .f32 0x0DA24260#32))

theorem hd_out {S : Sc} {V N} {l : FVec Ideal S8x1024 .f32} {a : FVec Ideal S64x1024 .f32} {h1 h2 h3} {h4 : S1024.ShapeCasts S1x1024} {h5 : S1x1024.Broadcasts S64x1024}
    (hl : LInv S (mx S N) N l) (ha : AInv S (mx S N) V N a) (d : Fin 64) (c : Fin 1024) :
    (divf a (broadcastTo S64x1024 (maximumf (shapeCast S1x1024 (multiReduction .add [0] S1024 l 0x00000000#32 h1 h2 h3 : FVec Ideal S1024 .f32) h4)
      (broadcast S1x1024 (Scalar.ofBits .f32 0x0DA24260#32))) h5) : FVec Ideal S64x1024 .f32) (ix2 d c) = hd S V N d c := by
  rw [hd, ← hl c, ← ha d c]
  pointwise

/-- The two heads side by side. -/
def OutOk (H0 H1 : Fin 64 → Fin 1024 → EReal) (X : S1x1024x128.Idx → EReal) : Prop :=
  ∀ (c : Fin 1024) (e : Fin 128), X (ix3 0 c e) = if h : e.val < 64 then H0 ⟨e.val, h⟩ c else H1 ⟨e.val - 64, by omega⟩ c

theorem out_ok {H0 H1 : Fin 64 → Fin 1024 → EReal} {x y : FVec Ideal S64x1024 .f32} (hx : ∀ d c, x (ix2 d c) = H0 d c) (hy : ∀ d c, y (ix2 d c) = H1 d c) {h1 h2 h3} {h4 : S1024x128.ShapeCasts S1x1024x128} :
    OutOk H0 H1 (shapeCast S1x1024x128 (truncf .bf16 (transpose S1024x128 [1, 0] (concatenate S128x1024 0 [⟨S64x1024, x⟩, ⟨S64x1024, y⟩] h1 : FVec Ideal S128x1024 .f32) h2) h3 : FVec Ideal S1024x128 .bf16) h4) := by
  intro c e
  simp only [← hx, ← hy]
  pointwise

/-- Sixty-four lanes of the values, from lane `e` on. -/
def lane (V : ℕ → Fin 128 → EReal) (e : ℕ) (he : e + 64 ≤ 128) : ℕ → Fin 64 → EReal := fun r d => V r ⟨e + d.val, by omega⟩

theorem L_cast {S : Sc} {μ} {n m : ℕ} {l} (h : n = m) (H : LInv S μ m l) : LInv S μ n l := h ▸ H
theorem A_cast {S : Sc} {μ V} {n m : ℕ} {l} (h : n = m) (H : AInv S μ V m l) : AInv S μ V n l := h ▸ H
theorem S_cast {S : Sc} {n m : ℕ} {g} (h : n = m) (H : SInv S m g) : SInv S n g := h ▸ H
theorem SH_cast {S : Sc} {n m : ℕ} {g} (h : n = m) (H : SInvH S m g) : SInvH S n g := h ▸ H
theorem M_cast {S : Sc} {n m : ℕ} {g} (h : n = m) (H : MInv S m g) : MInv S n g := h ▸ H

theorem ld_mask {κ' : Kind} {sp : Space} (v : View sig κ' sp S1x512x512 .f32) (f : BufTy.Contents (Elt Ideal) v.ty) {off : Fin 3 → ℕ}
    (inb : ∀ a, off a + S1x512x512.size a ≤ S1x512x512.size a) (hW : MaskOk (v.read (Elt Ideal) f)) (ho : off = ![0, 0, 0]) :
    MaskOk (View.readAt (Elt Ideal) v (Rect.unit (s := S1x512x512) off S1x512x512.size inb).toLoadRect f) := by
  subst ho
  intro r c
  rw [← hW r c]
  unfold View.readAt
  congr 1
  funext a
  apply Fin.ext
  fin_cases a <;> simp [Rect.unit, LoadRect.idx, ix3]

/-- The transposed values of the first `n` key blocks. -/
def VInv (V : ℕ → Fin 128 → EReal) (n : ℕ) (g : S16x128x512.Idx → EReal) : Prop :=
  ∀ (k : Fin 16), k.val < n → ∀ d (r : Fin 512), g (ix3 k d r) = V (512 * k.val + r.val) d

theorem V_all {V} {g} (h : VInv V 16 g) : ∀ (k : Fin 16) d (r : Fin 512), g (ix3 k d r) = V (512 * k.val + r.val) d := fun k => h k k.2

theorem V_init (V) (g) : VInv V 0 g := by intro k hk; omega

theorem V_step {κ' : Kind} {sp : Space} (v : View sig κ' sp S16x128x512 .bf16) (f : BufTy.Contents (Elt Ideal) v.ty) {V : ℕ → Fin 128 → EReal} {n : ℕ} {off : Fin 3 → ℕ} {L}
    (inb : ∀ a, off a + S1x128x512.size a ≤ S16x128x512.size a) {X : FVec Ideal S1x512x128 .bf16} {h1 : S1x512x128.ShapeCasts S512x128} {h2 h3 h4} {h5 : S128x512.ShapeCasts S1x128x512}
    (hS : VInv V n (v.read (Elt Ideal) (v.writes (Elt Ideal) f L))) (ho : off = ![n, 0, 0]) (hX : ∀ (r : Fin 512) d, X (ix3 0 r d) = V (512 * n + r.val) d) :
    VInv V (n + 1) (v.read (Elt Ideal) (v.writes (Elt Ideal) f (⟨Rect.unit (s := S16x128x512) off S1x128x512.size inb,
      shapeCast S1x128x512 (truncf .bf16 (transpose S128x512 [1, 0] (extf .f32 (shapeCast S512x128 X h1 : FVec Ideal S512x128 .bf16) h2) h3) h4 : FVec Ideal S128x512 .bf16) h5⟩ :: L))) := by
  intro k hkn d r
  by_cases h : k.val = n
  · subst h
    rw [View.read_writes_cons_unit_of_mem v f inb _ L _ (ix3 0 d r) ho (by intro a; fin_cases a <;> simp [ix3])]
    rw [← hX r d]
    pointwise
  · rw [View.read_writes_cons_unit_of_not_mem v f inb _ L _ ho 0 (by simp [ix3]; omega)]
    exact hS k (by omega) d r

theorem ld_v {κ' : Kind} {sp : Space} (v : View sig κ' sp S1x8192x128 .bf16) (f : BufTy.Contents (Elt Ideal) v.ty) {V : ℕ → Fin 128 → EReal} {b n : ℕ} {off : Fin 3 → ℕ}
    (inb : ∀ a, off a + S1x512x128.size a ≤ S1x8192x128.size a) (ho : off = ![0, b, 0]) (hb : b = 512 * n)
    (hV : ∀ (r : Fin 8192) d, v.read (Elt Ideal) f (ix3 0 r d) = V r.val d) (r : Fin 512) (d : Fin 128) :
    View.readAt (Elt Ideal) v (Rect.unit (s := S1x8192x128) off S1x512x128.size inb).toLoadRect f (ix3 0 r d) = V (512 * n + r.val) d := by
  subst ho hb
  have := inb 1
  simp at this
  refine Eq.trans ?_ (hV ⟨512 * n + r.val, by omega⟩ d)
  unfold View.readAt
  congr 1
  funext a
  apply Fin.ext
  fin_cases a <;> simp [Rect.unit, LoadRect.idx, ix3]

/-- One head's queries: the loaded rows on the head's own lanes, nought elsewhere. -/
def headQ (X : S1x1024x256.Idx → EReal) (h : ℕ) : FVec Ideal S1024x256 .bf16 :=
  fun j => if 128 * h ≤ (j 1).val ∧ (j 1).val < 128 * (h + 1) then X (ix3 0 ⟨(j 0).val, (j 0).isLt⟩ ⟨(j 1).val, (j 1).isLt⟩) else 0

theorem ext2 {m n : ℕ} {α : Type} {f g : (⟨2, ![m, n]⟩ : Shape).Idx → α} (h : ∀ (a : Fin m) (b : Fin n), f (ix2 a b) = g (ix2 a b)) : f = g := by
  funext j
  have e : j = ix2 (⟨(j 0).val, (j 0).isLt⟩ : Fin m) (⟨(j 1).val, (j 1).isLt⟩ : Fin n) := by
    funext a; fin_cases a <;> rfl
  rw [e]; exact h _ _

theorem lane_lt : ∀ d : Fin 256, (Scalar.andi (Scalar.cmpi .sge (BitVec.ofNat 32 d.val) 0#32) (Scalar.cmpi .slt (BitVec.ofNat 32 d.val) 128#32) = 1#1) ↔ d.val < 128 := by
  decide +kernel
theorem lane_ge : ∀ d : Fin 256, (Scalar.andi (Scalar.cmpi .sge (BitVec.ofNat 32 d.val) 128#32) (Scalar.cmpi .slt (BitVec.ofNat 32 d.val) 256#32) = 1#1) ↔ 128 ≤ d.val := by
  decide +kernel

theorem q_head0 (X : FVec Ideal S1x1024x256 .bf16) : k0_pay288 X = headQ X 0 := by
  refine ext2 fun a b => ?_
  simp only [k0_pay288, k0_pay287, headQ]
  pointwise
  have := lane_lt b
  simp only [Scalar.andi, Scalar.cmpi] at this
  simp only [Scalar.select]
  exact if_congr this rfl rfl

theorem q_head1 (X : FVec Ideal S1x1024x256 .bf16) : k0_pay326 (k0_pay287 X) (iota .tc S1024x256 32 [1] iota_S1024x256_d1_w32) = headQ X 1 := by
  refine ext2 fun a b => ?_
  simp only [k0_pay326, k0_pay287, headQ]
  pointwise
  have := lane_ge b
  simp only [Scalar.andi, Scalar.cmpi] at this
  simp only [Scalar.select]
  exact if_congr this rfl rfl

theorem start0 (j) : (k0_pay289 (F := Ideal)) j = ⊥ := by
  simp only [k0_pay289]
  pointwise
  simp [Named.named, κ]
theorem start1 (j) : (k0_pay327 (F := Ideal)) j = ⊥ := start0 j
theorem zero0 (j) : (k0_pay290 (F := Ideal)) j = 0 := by
  simp only [k0_pay290]; pointwise
theorem zero1 (j) : (k0_pay291 (F := Ideal)) j = 0 := by
  simp only [k0_pay291]; pointwise
theorem zero2 (j) : (k0_pay328 (F := Ideal)) j = 0 := by
  simp only [k0_pay328]; pointwise
theorem zero3 (j) : (k0_pay329 (F := Ideal)) j = 0 := by
  simp only [k0_pay329]; pointwise

theorem ld_q {κ' : Kind} {sp : Space} (v : View sig κ' sp S1x1024x256 .bf16) (f : BufTy.Contents (Elt Ideal) v.ty) {off : Fin 3 → ℕ}
    (inb : ∀ a, off a + S1x1024x256.size a ≤ S1x1024x256.size a) (ho : off = ![0, 0, 0]) :
    View.readAt (Elt Ideal) v (Rect.unit (s := S1x1024x256) off S1x1024x256.size inb).toLoadRect f = v.read (Elt Ideal) f := by
  subst ho
  funext j
  unfold View.readAt
  congr 1
  funext a
  apply Fin.ext
  fin_cases a <;> simp [Rect.unit, LoadRect.idx]

theorem out_read {κ' : Kind} {sp : Space} (v : View sig κ' sp S1x1024x128 .bf16) (f : BufTy.Contents (Elt Ideal) v.ty) {off : Fin 3 → ℕ} {H0 H1}
    (inb : ∀ a, off a + S1x1024x128.size a ≤ S1x1024x128.size a) (ho : off = ![0, 0, 0]) {X : FVec Ideal S1x1024x128 .bf16} (hX : OutOk H0 H1 X) :
    OutOk H0 H1 (v.read (Elt Ideal) (v.writes (Elt Ideal) f [⟨Rect.unit (s := S1x1024x128) off S1x1024x128.size inb, X⟩])) := by
  intro c e
  rw [View.read_writes_cons_unit_of_mem v f inb _ _ _ (ix3 0 c e) ho (by intro a; fin_cases a <;> simp [ix3])]
  exact hX c e

end Cert.KernelIdeal.Sem
-- ==== Proof.Run1.lean ====
module

public import proofs.«01_k».proof.Proof.Off
public import proofs.«01_k».proof.Proof.Sem
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000
set_option pp.maxSteps 300
noncomputable section

/-! The first head: scores, weights and output of one grid point. -/

namespace Cert.KernelIdeal.Run

open Cert.KernelIdeal Cert.KernelIdeal.Gen Cert.KernelIdeal.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

abbrev 𝒱₀ : Variants := Variants.none
variable (c : Dev nD) (i : grid0.Coords) (arg2 : Memref sig .tc .vmem S1x1024x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x512x512 .f32) (harg5 : arg5.IsWhole) (arg6 : Memref sig .tc .vmem S1x1024x128 .bf16) (harg6 : arg6.IsWhole)
  (arg7 : Memref sig .tc .vmem S16x512x1024 .f32) (harg7 : arg7.IsWhole) (arg8 : Memref sig .tc .vmem S16x128x512 .bf16) (harg8 : arg8.IsWhole)

/-- One group of eight key blocks: the scores are stored and the running maximum takes them. -/
theorem t1_trip {K : ℕ → Fin 256 → EReal} (f3 f7) (v12 : FVec Ideal S1024x256 .bf16) (v14 : FVec Ideal S8x1024 .f32) (v33 c8 v34 : BitVec 32) (v35 : BitVec 1) (k : Fin (k0_t1_loop i).trips) (acc : FVec Ideal S8x1024 .f32)
    (hK : ∀ (r : Fin 8192) (d : Fin 256), arg3.view.read (Elt Ideal) f3 (ix3 0 r d) = K r.val d)
    (hS : SInv (sc K v12 (i 1).val) (8 * k.val) (arg7.view.read (Elt Ideal) f7)) (hM : MInv (sc K v12 (i 1).val) (8 * k.val) acc) :
    iprop((arg3.view.loc (c : Thread nD τ) ↦[arg3.view.set]{fullShare} f3) ∗ (arg7.view.loc (c : Thread nD τ) ↦[arg7.view.set]{fullShare} f7))
      ⊢ wp frame (wpE (defs₀ (F := Ideal)) 𝒱₀ (c : Thread nD τ) none) Set.univ (k0_t1_body i arg2 harg2 arg3 harg3 arg4 harg4 arg5 harg5 arg6 harg6 arg7 harg7 arg8 harg8 v12 v14 v33 c8 v34 v35 k acc)
        (fun (r : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v12 (i 1).val) (8 * (k.val + 1)) (arg7.view.read (Elt Ideal) g7)⌝ ∗ ⌜MInv (sc K v12 (i 1).val) (8 * (k.val + 1)) r⌝) : sProp 𝕄G)) := by
  have hk : k.val < (i 1).val / 4 := lt_of_lt_of_eq k.2 (k0_t1_trips i)
  have hR := rows_load arg3.view f3 (N := 4096) (k0_off1_inb i k) (k0_off1_eq i k) hK
  unfold k0_t1_body
  iintro ⟨H3, H7⟩
  sl_exec
  sl_step
  iexists _
  isplitl [H3]; · iexact H3
  isplitl [H7]; · iexact H7
  isplitr
  · ipureintro
    refine S_step arg7.view f7 _ (n := 8 * k.val + 7) ?_ (k0_off2_eq7 i k) (blk_4096 (h2 := by decide) (by decide) (rows_4096 hR) (by omega) (by omega))
    refine S_step arg7.view f7 _ (n := 8 * k.val + 6) ?_ (k0_off2_eq6 i k) (blk_4096 (h2 := by decide) (by decide) (rows_4096 hR) (by omega) (by omega))
    refine S_step arg7.view f7 _ (n := 8 * k.val + 5) ?_ (k0_off2_eq5 i k) (blk_4096 (h2 := by decide) (by decide) (rows_4096 hR) (by omega) (by omega))
    refine S_step arg7.view f7 _ (n := 8 * k.val + 4) ?_ (k0_off2_eq4 i k) (blk_4096 (h2 := by decide) (by decide) (rows_4096 hR) (by omega) (by omega))
    refine S_step arg7.view f7 _ (n := 8 * k.val + 3) ?_ (k0_off2_eq3 i k) (blk_4096 (h2 := by decide) (by decide) (rows_4096 hR) (by omega) (by omega))
    refine S_step arg7.view f7 _ (n := 8 * k.val + 2) ?_ (k0_off2_eq2 i k) (blk_4096 (h2 := by decide) (by decide) (rows_4096 hR) (by omega) (by omega))
    refine S_step arg7.view f7 _ (n := 8 * k.val + 1) ?_ (k0_off2_eq1 i k) (blk_4096 (h2 := by decide) (by decide) (rows_4096 hR) (by omega) (by omega))
    refine S_step arg7.view f7 _ (n := 8 * k.val + 0) ?_ (k0_off2_eq0 i k) (blk_4096 (h2 := by decide) (by decide) (rows_4096 hR) (by omega) (by omega))
    exact hS
  · ipureintro
    refine M_step (n := 8 * k.val + 7) ?_ (blk_4096 (h2 := by decide) (by decide) (rows_4096 hR) (by omega) (by omega))
    refine M_step (n := 8 * k.val + 6) ?_ (blk_4096 (h2 := by decide) (by decide) (rows_4096 hR) (by omega) (by omega))
    refine M_step (n := 8 * k.val + 5) ?_ (blk_4096 (h2 := by decide) (by decide) (rows_4096 hR) (by omega) (by omega))
    refine M_step (n := 8 * k.val + 4) ?_ (blk_4096 (h2 := by decide) (by decide) (rows_4096 hR) (by omega) (by omega))
    refine M_step (n := 8 * k.val + 3) ?_ (blk_4096 (h2 := by decide) (by decide) (rows_4096 hR) (by omega) (by omega))
    refine M_step (n := 8 * k.val + 2) ?_ (blk_4096 (h2 := by decide) (by decide) (rows_4096 hR) (by omega) (by omega))
    refine M_step (n := 8 * k.val + 1) ?_ (blk_4096 (h2 := by decide) (by decide) (rows_4096 hR) (by omega) (by omega))
    refine M_step (n := 8 * k.val + 0) ?_ (blk_4096 (h2 := by decide) (by decide) (rows_4096 hR) (by omega) (by omega))
    exact hM

/-- One group of eight key blocks: the sums of the weights and of the weighted values take them. -/
theorem t3_trip {S : Sc} {μ : Fin 1024 → EReal} {V : ℕ → Fin 128 → EReal} {N : ℕ} (f7 f8) (v12 : FVec Ideal S1024x256 .bf16) (v15 : FVec Ideal S8x1024 .f32) (v16 : FVec Ideal S64x1024 .f32) (v50 v52 v53 : BitVec 32) (v60 : FVec Ideal S8x1024 .f32) (v77 : BitVec 32) (v81 : FVec Ideal S8x1024 .f32) (k : Fin (k0_t3_loop i).trips) (acc : FVec Ideal S8x1024 .f32 × FVec Ideal S64x1024 .f32)
    (hV : VInv V 16 (arg8.view.read (Elt Ideal) f8)) (hm : ∀ c, (k0_pay305 v81 : FVec Ideal S1x1024 .f32) (ix2 0 c) = μ c) (hN : 8 * ((i 1).val / 4) ≤ N)
    (hS : SInvH S N (arg7.view.read (Elt Ideal) f7)) (hL : LInv S μ (8 * k.val) acc.1) (hA : AInv S μ (lane V 0 (by decide)) (8 * k.val) acc.2) :
    iprop((arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_t3_body i arg2 harg2 arg3 harg3 arg4 harg4 arg5 harg5 arg6 harg6 arg7 harg7 arg8 harg8 v12 v15 v16 v50 v52 v53 v60 v77 v81 k acc)
        (fun (r : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH S (N) (arg7.view.read (Elt Ideal) g7)⌝ ∗ ⌜LInv S μ (8 * (k.val + 1)) r.1⌝ ∗ ⌜AInv S μ (lane V 0 (by decide)) (8 * (k.val + 1)) r.2⌝) : sProp 𝕄G)) := by
  have hk : k.val < (i 1).val / 4 := lt_of_lt_of_eq k.2 (k0_t3_trips i)
  have hV' := V_all hV
  obtain ⟨a1, a2⟩ := acc
  unfold k0_t3_body
  iintro ⟨H7, H8⟩
  sl_exec
  sl_step
  iexists f7
  isplitl [H7]; · iexact H7
  isplitl [H8]; · iexact H8
  isplitr
  · ipureintro; exact hS
  isplitr
  · ipureintro
    refine L_step (n := 8 * k.val + 7) ?_ (e_full (ld_full arg7.view f7 _ hS (k0_off21_eq7 i k) (by omega)) hm)
    refine L_step (n := 8 * k.val + 6) ?_ (e_full (ld_full arg7.view f7 _ hS (k0_off21_eq6 i k) (by omega)) hm)
    refine L_step (n := 8 * k.val + 5) ?_ (e_full (ld_full arg7.view f7 _ hS (k0_off21_eq5 i k) (by omega)) hm)
    refine L_step (n := 8 * k.val + 4) ?_ (e_full (ld_full arg7.view f7 _ hS (k0_off21_eq4 i k) (by omega)) hm)
    refine L_step (n := 8 * k.val + 3) ?_ (e_full (ld_full arg7.view f7 _ hS (k0_off21_eq3 i k) (by omega)) hm)
    refine L_step (n := 8 * k.val + 2) ?_ (e_full (ld_full arg7.view f7 _ hS (k0_off21_eq2 i k) (by omega)) hm)
    refine L_step (n := 8 * k.val + 1) ?_ (e_full (ld_full arg7.view f7 _ hS (k0_off21_eq1 i k) (by omega)) hm)
    refine L_step (n := 8 * k.val + 0) ?_ (e_full (ld_full arg7.view f7 _ hS (k0_off21_eq0 i k) (by omega)) hm)
    exact hL
  · ipureintro
    refine A_step (n := 8 * k.val + 7) ?_ (ld_vt arg8.view f8 _ hV' (k0_off22_eq7 i k) (by decide)) (e_full (ld_full arg7.view f7 _ hS (k0_off21_eq7 i k) (by omega)) hm)
    refine A_step (n := 8 * k.val + 6) ?_ (ld_vt arg8.view f8 _ hV' (k0_off22_eq6 i k) (by decide)) (e_full (ld_full arg7.view f7 _ hS (k0_off21_eq6 i k) (by omega)) hm)
    refine A_step (n := 8 * k.val + 5) ?_ (ld_vt arg8.view f8 _ hV' (k0_off22_eq5 i k) (by decide)) (e_full (ld_full arg7.view f7 _ hS (k0_off21_eq5 i k) (by omega)) hm)
    refine A_step (n := 8 * k.val + 4) ?_ (ld_vt arg8.view f8 _ hV' (k0_off22_eq4 i k) (by decide)) (e_full (ld_full arg7.view f7 _ hS (k0_off21_eq4 i k) (by omega)) hm)
    refine A_step (n := 8 * k.val + 3) ?_ (ld_vt arg8.view f8 _ hV' (k0_off22_eq3 i k) (by decide)) (e_full (ld_full arg7.view f7 _ hS (k0_off21_eq3 i k) (by omega)) hm)
    refine A_step (n := 8 * k.val + 2) ?_ (ld_vt arg8.view f8 _ hV' (k0_off22_eq2 i k) (by decide)) (e_full (ld_full arg7.view f7 _ hS (k0_off21_eq2 i k) (by omega)) hm)
    refine A_step (n := 8 * k.val + 1) ?_ (ld_vt arg8.view f8 _ hV' (k0_off22_eq1 i k) (by decide)) (e_full (ld_full arg7.view f7 _ hS (k0_off21_eq1 i k) (by omega)) hm)
    refine A_step (n := 8 * k.val + 0) ?_ (ld_vt arg8.view f8 _ hV' (k0_off22_eq0 i k) (by decide)) (e_full (ld_full arg7.view f7 _ hS (k0_off21_eq0 i k) (by omega)) hm)
    exact hA

/-- The groups of eight key blocks of the first head's scores. -/
theorem p50 {K : ℕ → Fin 256 → EReal} (f3 f7) (v12 : FVec Ideal S1024x256 .bf16) (v14 : FVec Ideal S8x1024 .f32) (v33 c8 v34 : BitVec 32) (v35 : BitVec 1) (hK : ∀ (r : Fin 8192) (d : Fin 256), arg3.view.read (Elt Ideal) f3 (ix3 0 r d) = K r.val d) (h0 : ∀ j, v14 j = ⊥) :
    iprop((arg3.view.loc (c : Thread nD τ) ↦[arg3.view.set]{fullShare} f3) ∗ (arg7.view.loc (c : Thread nD τ) ↦[arg7.view.set]{fullShare} f7))
      ⊢ wp frame (wpE (defs₀ (F := Ideal)) 𝒱₀ (c : Thread nD τ) none) Set.univ (k0_part50 i arg2 harg2 arg3 harg3 arg4 harg4 arg5 harg5 arg6 harg6 arg7 harg7 arg8 harg8 v12 v14 v33 c8 v34 v35)
        (fun r => (iprop(∃ g7, (arg3.view.loc (c : Thread nD τ) ↦[arg3.view.set]{fullShare} f3) ∗ (arg7.view.loc (c : Thread nD τ) ↦[arg7.view.set]{fullShare} g7) ∗ ⌜SInv (sc K v12 (i 1).val) (8 * ((i 1).val / 4)) (arg7.view.read (Elt Ideal) g7)⌝ ∗ ⌜MInv (sc K v12 (i 1).val) (8 * ((i 1).val / 4)) r.2.2.2.1⌝) : sProp 𝕄G)) := by
  rw [k0_part50_eq_skeleton]
  unfold k0_part50_skel
  iintro ⟨H3, H7⟩
  sl_exec
  sl_for (fun (k : ℕ) (acc : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v12 (i 1).val) (8 * k) (arg7.view.read (Elt Ideal) g7)⌝ ∗ ⌜MInv (sc K v12 (i 1).val) (8 * k) acc⌝) : sProp 𝕄G)) $$ [H3 H7]
  · intro k acc
    iintro ⟨%g7, H3, H7, %hS, %hM⟩
    iapply (t1_trip c i arg2 harg2 arg3 harg3 arg4 harg4 arg5 harg5 arg6 harg6 arg7 harg7 arg8 harg8 f3 g7 v12 v14 v33 c8 v34 v35 k acc hK hS hM) $$ [H3 H7]
    isplitl [H3]; · iexact H3
    iexact H7
  · iexists f7
    isplitl [H3]; · iexact H3
    isplitl [H7]; · iexact H7
    isplitr
    · ipureintro; exact S_init _ _
    · ipureintro; exact M_init _ h0
  iintro %acc ⟨%g7, H3, H7, %hS, %hM⟩
  have hS : SInv (sc K v12 (i 1).val) (8 * ((i 1).val / 4)) (arg7.view.read (Elt Ideal) g7) := k0_t1_trips i ▸ hS
  have hM : MInv (sc K v12 (i 1).val) (8 * ((i 1).val / 4)) acc := k0_t1_trips i ▸ hM
  sl_for0 (k0_t2_trips i)
  sl_exec
  sl_step
  iexists g7
  isplitl [H3]; · iexact H3
  isplitl [H7]; · iexact H7
  isplitr
  · ipureintro; exact hS
  · ipureintro; exact hM

/-- The first head's last 8 blocks: scores, weights, sums and the quotient. -/
theorem p51_8 {K : ℕ → Fin 256 → EReal} {V : ℕ → Fin 128 → EReal} (f3 f5 f7 f8) (v12 : FVec Ideal S1024x256 .bf16) (v15 : FVec Ideal S8x1024 .f32) (v16 : FVec Ideal S64x1024 .f32) (v50 v52 v53 : BitVec 32) (v60 : FVec Ideal S8x1024 .f32) (v77 : BitVec 32)
    (hK : ∀ (r : Fin 8192) (d : Fin 256), arg3.view.read (Elt Ideal) f3 (ix3 0 r d) = K r.val d) (hW : MaskOk (arg5.view.read (Elt Ideal) f5)) (hV : VInv V 16 (arg8.view.read (Elt Ideal) f8)) (hS : SInv (sc K v12 (i 1).val) (8 * ((i 1).val / 4)) (arg7.view.read (Elt Ideal) f7)) (hM : MInv (sc K v12 (i 1).val) (8 * ((i 1).val / 4)) v60) (h15 : ∀ j, v15 j = 0) (h16 : ∀ j, v16 j = 0)
    (hr : (i 1).val % 4 = 3) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part51 i arg2 harg2 arg3 harg3 arg4 harg4 arg5 harg5 arg6 harg6 arg7 harg7 arg8 harg8 v12 v15 v16 v50 v52 v53 v60 v77)
        (fun (r : FVec Ideal S64x1024 .f32) => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8) ∗ ⌜∀ d c, r (ix2 d c) = hd (sc K v12 (i 1).val) (lane V 0 (by decide)) (2 * (i 1).val + 2) d c⌝) : sProp 𝕄G)) := by
  have hc2 := (k0_cond2_iff i).2 (by omega)
  have hc3 := (k0_cond3_iff i).2 (by omega)
  have hc4 := (k0_cond4_iff i).2 (by omega)
  have hc5 := (k0_cond5_iff i).2 (by omega)
  have hc6 := (k0_cond6_iff i).2 (by omega)
  have hc7 := (k0_cond7_iff i).2 (by omega)
  have hR := rows_load arg3.view f3 (N := 3584) (k0_off5_inb i hc2 hc3 hc4) (k0_off5_eq i) hK
  have hR2 := rows_load arg3.view f3 (N := 512) (k0_off7_inb i hc2 hc3 hc4) (k0_off7_eq i) hK
  have hW' := ld_mask arg5.view f5 inb_S1x512x512_S1x512x512_0_0_0 hW rfl
  have hV' := V_all hV
  rw [k0_part51_eq_skeleton]
  unfold k0_part51_skel
  iintro ⟨H3, H5, H7, H8⟩
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH (sc K v12 (i 1).val) (2 * (i 1).val + 1) (arg7.view.read (Elt Ideal) g7)⌝ ∗ ⌜LInv (sc K v12 (i 1).val) (mx (sc K v12 (i 1).val) (2 * (i 1).val + 2)) (8 * k) acc.1⌝ ∗ ⌜AInv (sc K v12 (i 1).val) (mx (sc K v12 (i 1).val) (2 * (i 1).val + 2)) (lane V 0 (by decide)) (8 * k) acc.2⌝) : sProp 𝕄G)) $$ [H7 H8]
  · intro k acc
    iintro ⟨%g7, H7, H8, %hH, %hL, %hA⟩
    iapply (t3_trip (N := 2 * (i 1).val + 1) (μ := (mx (sc K v12 (i 1).val) (2 * (i 1).val + 2))) c i arg2 harg2 arg3 harg3 arg4 harg4 arg5 harg5 arg6 harg6 arg7 harg7 arg8 harg8 g7 f8 v12 v15 v16 v50 v52 v53 v60 v77 _ k acc hV ?_ (by omega) hH hL hA) $$ [H7 H8]
    · intro cc
      refine M_mx (h2 := .inl rfl) (h3 := rfl) (M_cast (m := 8 * ((i 1).val / 4) + 7 + 1) (by omega) ?_) cc
      refine M_half (hc := concatenates_S8x512_S8x512_S8x1024_d1) (n := 8 * ((i 1).val / 4) + 7) ?_ (half hR2 (by omega) (by omega) hW') (low (by omega))
      refine M_step (n := 8 * ((i 1).val / 4) + 6) ?_ (diag (h3 := by decide) (h4 := by decide) (h5 := by decide) (h6 := concatenates_S512x512_S512x512_S512x1024_d1) (pre_3584 (h2 := by decide) (by decide) (rows_3584 hR) (by omega)) (by omega) hW')
      refine M_step (n := 8 * ((i 1).val / 4) + 5) ?_ (blk_3584 (h2 := by decide) (by decide) (rows_3584 hR) (by omega) (by omega))
      refine M_step (n := 8 * ((i 1).val / 4) + 4) ?_ (blk_3584 (h2 := by decide) (by decide) (rows_3584 hR) (by omega) (by omega))
      refine M_step (n := 8 * ((i 1).val / 4) + 3) ?_ (blk_3584 (h2 := by decide) (by decide) (rows_3584 hR) (by omega) (by omega))
      refine M_step (n := 8 * ((i 1).val / 4) + 2) ?_ (blk_3584 (h2 := by decide) (by decide) (rows_3584 hR) (by omega) (by omega))
      refine M_step (n := 8 * ((i 1).val / 4) + 1) ?_ (blk_3584 (h2 := by decide) (by decide) (rows_3584 hR) (by omega) (by omega))
      refine M_step (n := 8 * ((i 1).val / 4) + 0) ?_ (blk_3584 (h2 := by decide) (by decide) (rows_3584 hR) (by omega) (by omega))
      exact hM
    isplitl [H7]; · iexact H7
    iexact H8
  · iexists _
    isplitl [H7]; · iexact H7
    isplitl [H8]; · iexact H8
    isplitr
    · ipureintro
      refine SH_cast (m := 8 * ((i 1).val / 4) + 7) (by omega) ?_
      refine S_half arg7.view _ _ (n := 8 * ((i 1).val / 4) + 7) ?_ (k0_off8_eq i) (half hR2 (by omega) (by omega) hW')
      refine S_step arg7.view _ _ (n := 8 * ((i 1).val / 4) + 6) ?_ (k0_off6_eq6 i) (diag (h3 := by decide) (h4 := by decide) (h5 := by decide) (h6 := concatenates_S512x512_S512x512_S512x1024_d1) (pre_3584 (h2 := by decide) (by decide) (rows_3584 hR) (by omega)) (by omega) hW')
      refine S_step arg7.view _ _ (n := 8 * ((i 1).val / 4) + 5) ?_ (k0_off6_eq5 i) (blk_3584 (h2 := by decide) (by decide) (rows_3584 hR) (by omega) (by omega))
      refine S_step arg7.view _ _ (n := 8 * ((i 1).val / 4) + 4) ?_ (k0_off6_eq4 i) (blk_3584 (h2 := by decide) (by decide) (rows_3584 hR) (by omega) (by omega))
      refine S_step arg7.view _ _ (n := 8 * ((i 1).val / 4) + 3) ?_ (k0_off6_eq3 i) (blk_3584 (h2 := by decide) (by decide) (rows_3584 hR) (by omega) (by omega))
      refine S_step arg7.view _ _ (n := 8 * ((i 1).val / 4) + 2) ?_ (k0_off6_eq2 i) (blk_3584 (h2 := by decide) (by decide) (rows_3584 hR) (by omega) (by omega))
      refine S_step arg7.view _ _ (n := 8 * ((i 1).val / 4) + 1) ?_ (k0_off6_eq1 i) (blk_3584 (h2 := by decide) (by decide) (rows_3584 hR) (by omega) (by omega))
      refine S_step arg7.view _ _ (n := 8 * ((i 1).val / 4) + 0) ?_ (k0_off6_eq0 i) (blk_3584 (h2 := by decide) (by decide) (rows_3584 hR) (by omega) (by omega))
      exact hS
    isplitr
    · ipureintro; exact L_init h15
    · ipureintro; exact A_init h16
  iintro %acc ⟨%g7, H7, H8, %hH, %hL, %hA⟩
  obtain ⟨a1, a2⟩ := acc
  have hL : LInv (sc K v12 (i 1).val) (mx (sc K v12 (i 1).val) (2 * (i 1).val + 2)) (8 * ((i 1).val / 4)) a1 := k0_t3_trips i ▸ hL
  have hA : AInv (sc K v12 (i 1).val) (mx (sc K v12 (i 1).val) (2 * (i 1).val + 2)) (lane V 0 (by decide)) (8 * ((i 1).val / 4)) a2 := k0_t3_trips i ▸ hA
  replace hH := SH_cast (n := 8 * ((i 1).val / 4) + 7) (by omega) hH
  sl_exec
  sl_for0 (k0_t4_trips i)
  sl_exec
  sl_step
  iexists g7
  isplitl [H3]; · iexact H3
  isplitl [H5]; · iexact H5
  isplitl [H7]; · iexact H7
  isplitl [H8]; · iexact H8
  ipureintro
  intro d c
  refine hd_out ?_ ?_ d c
  · skip
    refine L_cast (m := 8 * ((i 1).val / 4) + 7 + 1) (by omega) ?_
    refine L_half (hc := concatenates_S8x512_S8x512_S8x1024_d1) (n := 8 * ((i 1).val / 4) + 7) ?_ (e_half (ld_half arg7.view g7 _ hH (k0_off27_eq i)) ?hmL) (low (by omega))
    refine L_step (n := 8 * ((i 1).val / 4) + 6) ?_ (e_full (ld_full arg7.view g7 _ hH (k0_off25_eq6 i) (by omega)) ?hmL)
    refine L_step (n := 8 * ((i 1).val / 4) + 5) ?_ (e_full (ld_full arg7.view g7 _ hH (k0_off25_eq5 i) (by omega)) ?hmL)
    refine L_step (n := 8 * ((i 1).val / 4) + 4) ?_ (e_full (ld_full arg7.view g7 _ hH (k0_off25_eq4 i) (by omega)) ?hmL)
    refine L_step (n := 8 * ((i 1).val / 4) + 3) ?_ (e_full (ld_full arg7.view g7 _ hH (k0_off25_eq3 i) (by omega)) ?hmL)
    refine L_step (n := 8 * ((i 1).val / 4) + 2) ?_ (e_full (ld_full arg7.view g7 _ hH (k0_off25_eq2 i) (by omega)) ?hmL)
    refine L_step (n := 8 * ((i 1).val / 4) + 1) ?_ (e_full (ld_full arg7.view g7 _ hH (k0_off25_eq1 i) (by omega)) ?hmL)
    refine L_step (n := 8 * ((i 1).val / 4) + 0) ?_ (e_full (ld_full arg7.view g7 _ hH (k0_off25_eq0 i) (by omega)) ?hmL)
    exact hL
    intro cc
    refine M_mx (h2 := .inl rfl) (h3 := rfl) (M_cast (m := 8 * ((i 1).val / 4) + 7 + 1) (by omega) ?_) cc
    refine M_half (hc := concatenates_S8x512_S8x512_S8x1024_d1) (n := 8 * ((i 1).val / 4) + 7) ?_ (half hR2 (by omega) (by omega) hW') (low (by omega))
    refine M_step (n := 8 * ((i 1).val / 4) + 6) ?_ (diag (h3 := by decide) (h4 := by decide) (h5 := by decide) (h6 := concatenates_S512x512_S512x512_S512x1024_d1) (pre_3584 (h2 := by decide) (by decide) (rows_3584 hR) (by omega)) (by omega) hW')
    refine M_step (n := 8 * ((i 1).val / 4) + 5) ?_ (blk_3584 (h2 := by decide) (by decide) (rows_3584 hR) (by omega) (by omega))
    refine M_step (n := 8 * ((i 1).val / 4) + 4) ?_ (blk_3584 (h2 := by decide) (by decide) (rows_3584 hR) (by omega) (by omega))
    refine M_step (n := 8 * ((i 1).val / 4) + 3) ?_ (blk_3584 (h2 := by decide) (by decide) (rows_3584 hR) (by omega) (by omega))
    refine M_step (n := 8 * ((i 1).val / 4) + 2) ?_ (blk_3584 (h2 := by decide) (by decide) (rows_3584 hR) (by omega) (by omega))
    refine M_step (n := 8 * ((i 1).val / 4) + 1) ?_ (blk_3584 (h2 := by decide) (by decide) (rows_3584 hR) (by omega) (by omega))
    refine M_step (n := 8 * ((i 1).val / 4) + 0) ?_ (blk_3584 (h2 := by decide) (by decide) (rows_3584 hR) (by omega) (by omega))
    exact hM
  · skip
    refine A_cast (m := 8 * ((i 1).val / 4) + 7 + 1) (by omega) ?_
    refine A_half (hc := concatenates_S64x512_S64x512_S64x1024_d1) (n := 8 * ((i 1).val / 4) + 7) ?_ (ld_vt arg8.view f8 _ hV' (k0_off26_eq7 i) (by decide)) (e_half (ld_half arg7.view g7 _ hH (k0_off27_eq i)) ?hmA) (low (by omega))
    refine A_step (n := 8 * ((i 1).val / 4) + 6) ?_ (ld_vt arg8.view f8 _ hV' (k0_off26_eq6 i) (by decide)) (e_full (ld_full arg7.view g7 _ hH (k0_off25_eq6 i) (by omega)) ?hmA)
    refine A_step (n := 8 * ((i 1).val / 4) + 5) ?_ (ld_vt arg8.view f8 _ hV' (k0_off26_eq5 i) (by decide)) (e_full (ld_full arg7.view g7 _ hH (k0_off25_eq5 i) (by omega)) ?hmA)
    refine A_step (n := 8 * ((i 1).val / 4) + 4) ?_ (ld_vt arg8.view f8 _ hV' (k0_off26_eq4 i) (by decide)) (e_full (ld_full arg7.view g7 _ hH (k0_off25_eq4 i) (by omega)) ?hmA)
    refine A_step (n := 8 * ((i 1).val / 4) + 3) ?_ (ld_vt arg8.view f8 _ hV' (k0_off26_eq3 i) (by decide)) (e_full (ld_full arg7.view g7 _ hH (k0_off25_eq3 i) (by omega)) ?hmA)
    refine A_step (n := 8 * ((i 1).val / 4) + 2) ?_ (ld_vt arg8.view f8 _ hV' (k0_off26_eq2 i) (by decide)) (e_full (ld_full arg7.view g7 _ hH (k0_off25_eq2 i) (by omega)) ?hmA)
    refine A_step (n := 8 * ((i 1).val / 4) + 1) ?_ (ld_vt arg8.view f8 _ hV' (k0_off26_eq1 i) (by decide)) (e_full (ld_full arg7.view g7 _ hH (k0_off25_eq1 i) (by omega)) ?hmA)
    refine A_step (n := 8 * ((i 1).val / 4) + 0) ?_ (ld_vt arg8.view f8 _ hV' (k0_off26_eq0 i) (by decide)) (e_full (ld_full arg7.view g7 _ hH (k0_off25_eq0 i) (by omega)) ?hmA)
    exact hA
    intro cc
    refine M_mx (h2 := .inl rfl) (h3 := rfl) (M_cast (m := 8 * ((i 1).val / 4) + 7 + 1) (by omega) ?_) cc
    refine M_half (hc := concatenates_S8x512_S8x512_S8x1024_d1) (n := 8 * ((i 1).val / 4) + 7) ?_ (half hR2 (by omega) (by omega) hW') (low (by omega))
    refine M_step (n := 8 * ((i 1).val / 4) + 6) ?_ (diag (h3 := by decide) (h4 := by decide) (h5 := by decide) (h6 := concatenates_S512x512_S512x512_S512x1024_d1) (pre_3584 (h2 := by decide) (by decide) (rows_3584 hR) (by omega)) (by omega) hW')
    refine M_step (n := 8 * ((i 1).val / 4) + 5) ?_ (blk_3584 (h2 := by decide) (by decide) (rows_3584 hR) (by omega) (by omega))
    refine M_step (n := 8 * ((i 1).val / 4) + 4) ?_ (blk_3584 (h2 := by decide) (by decide) (rows_3584 hR) (by omega) (by omega))
    refine M_step (n := 8 * ((i 1).val / 4) + 3) ?_ (blk_3584 (h2 := by decide) (by decide) (rows_3584 hR) (by omega) (by omega))
    refine M_step (n := 8 * ((i 1).val / 4) + 2) ?_ (blk_3584 (h2 := by decide) (by decide) (rows_3584 hR) (by omega) (by omega))
    refine M_step (n := 8 * ((i 1).val / 4) + 1) ?_ (blk_3584 (h2 := by decide) (by decide) (rows_3584 hR) (by omega) (by omega))
    refine M_step (n := 8 * ((i 1).val / 4) + 0) ?_ (blk_3584 (h2 := by decide) (by decide) (rows_3584 hR) (by omega) (by omega))
    exact hM

/-- The first head's last 6 blocks: scores, weights, sums and the quotient. -/
theorem p51_6 {K : ℕ → Fin 256 → EReal} {V : ℕ → Fin 128 → EReal} (f3 f5 f7 f8) (v12 : FVec Ideal S1024x256 .bf16) (v15 : FVec Ideal S8x1024 .f32) (v16 : FVec Ideal S64x1024 .f32) (v50 v52 v53 : BitVec 32) (v60 : FVec Ideal S8x1024 .f32) (v77 : BitVec 32)
    (hK : ∀ (r : Fin 8192) (d : Fin 256), arg3.view.read (Elt Ideal) f3 (ix3 0 r d) = K r.val d) (hW : MaskOk (arg5.view.read (Elt Ideal) f5)) (hV : VInv V 16 (arg8.view.read (Elt Ideal) f8)) (hS : SInv (sc K v12 (i 1).val) (8 * ((i 1).val / 4)) (arg7.view.read (Elt Ideal) f7)) (hM : MInv (sc K v12 (i 1).val) (8 * ((i 1).val / 4)) v60) (h15 : ∀ j, v15 j = 0) (h16 : ∀ j, v16 j = 0)
    (hr : (i 1).val % 4 = 2) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part51 i arg2 harg2 arg3 harg3 arg4 harg4 arg5 harg5 arg6 harg6 arg7 harg7 arg8 harg8 v12 v15 v16 v50 v52 v53 v60 v77)
        (fun (r : FVec Ideal S64x1024 .f32) => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8) ∗ ⌜∀ d c, r (ix2 d c) = hd (sc K v12 (i 1).val) (lane V 0 (by decide)) (2 * (i 1).val + 2) d c⌝) : sProp 𝕄G)) := by
  have hc2 := (k0_cond2_iff i).2 (by omega)
  have hc3 := (k0_cond3_iff i).2 (by omega)
  have hc4 := (k0_cond4_iff i).not.2 (not_not.2 hr)
  have hc5 := (k0_cond5_iff i).2 (by omega)
  have hc6 := (k0_cond6_iff i).2 (by omega)
  have hc7 := (k0_cond7_iff i).not.2 (not_not.2 hr)
  have hR := rows_load arg3.view f3 (N := 2560) (k0_off9_inb i hc2 hc3 hc4) (k0_off9_eq i) hK
  have hR2 := rows_load arg3.view f3 (N := 512) (k0_off11_inb i hc2 hc3 hc4) (k0_off11_eq i) hK
  have hW' := ld_mask arg5.view f5 inb_S1x512x512_S1x512x512_0_0_0 hW rfl
  have hV' := V_all hV
  rw [k0_part51_eq_skeleton]
  unfold k0_part51_skel
  iintro ⟨H3, H5, H7, H8⟩
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH (sc K v12 (i 1).val) (2 * (i 1).val + 1) (arg7.view.read (Elt Ideal) g7)⌝ ∗ ⌜LInv (sc K v12 (i 1).val) (mx (sc K v12 (i 1).val) (2 * (i 1).val + 2)) (8 * k) acc.1⌝ ∗ ⌜AInv (sc K v12 (i 1).val) (mx (sc K v12 (i 1).val) (2 * (i 1).val + 2)) (lane V 0 (by decide)) (8 * k) acc.2⌝) : sProp 𝕄G)) $$ [H7 H8]
  · intro k acc
    iintro ⟨%g7, H7, H8, %hH, %hL, %hA⟩
    iapply (t3_trip (N := 2 * (i 1).val + 1) (μ := (mx (sc K v12 (i 1).val) (2 * (i 1).val + 2))) c i arg2 harg2 arg3 harg3 arg4 harg4 arg5 harg5 arg6 harg6 arg7 harg7 arg8 harg8 g7 f8 v12 v15 v16 v50 v52 v53 v60 v77 _ k acc hV ?_ (by omega) hH hL hA) $$ [H7 H8]
    · intro cc
      refine M_mx (h2 := .inl rfl) (h3 := rfl) (M_cast (m := 8 * ((i 1).val / 4) + 5 + 1) (by omega) ?_) cc
      refine M_half (hc := concatenates_S8x512_S8x512_S8x1024_d1) (n := 8 * ((i 1).val / 4) + 5) ?_ (half hR2 (by omega) (by omega) hW') (low (by omega))
      refine M_step (n := 8 * ((i 1).val / 4) + 4) ?_ (diag (h3 := by decide) (h4 := by decide) (h5 := by decide) (h6 := concatenates_S512x512_S512x512_S512x1024_d1) (pre_2560 (h2 := by decide) (by decide) (rows_2560 hR) (by omega)) (by omega) hW')
      refine M_step (n := 8 * ((i 1).val / 4) + 3) ?_ (blk_2560 (h2 := by decide) (by decide) (rows_2560 hR) (by omega) (by omega))
      refine M_step (n := 8 * ((i 1).val / 4) + 2) ?_ (blk_2560 (h2 := by decide) (by decide) (rows_2560 hR) (by omega) (by omega))
      refine M_step (n := 8 * ((i 1).val / 4) + 1) ?_ (blk_2560 (h2 := by decide) (by decide) (rows_2560 hR) (by omega) (by omega))
      refine M_step (n := 8 * ((i 1).val / 4) + 0) ?_ (blk_2560 (h2 := by decide) (by decide) (rows_2560 hR) (by omega) (by omega))
      exact hM
    isplitl [H7]; · iexact H7
    iexact H8
  · iexists _
    isplitl [H7]; · iexact H7
    isplitl [H8]; · iexact H8
    isplitr
    · ipureintro
      refine SH_cast (m := 8 * ((i 1).val / 4) + 5) (by omega) ?_
      unfold p51_6.sl.r_5
      refine S_half arg7.view _ _ (n := 8 * ((i 1).val / 4) + 5) ?_ (k0_off12_eq i) (half hR2 (by omega) (by omega) hW')
      refine S_step arg7.view _ _ (n := 8 * ((i 1).val / 4) + 4) ?_ (k0_off10_eq4 i) (diag (h3 := by decide) (h4 := by decide) (h5 := by decide) (h6 := concatenates_S512x512_S512x512_S512x1024_d1) (pre_2560 (h2 := by decide) (by decide) (rows_2560 hR) (by omega)) (by omega) hW')
      refine S_step arg7.view _ _ (n := 8 * ((i 1).val / 4) + 3) ?_ (k0_off10_eq3 i) (blk_2560 (h2 := by decide) (by decide) (rows_2560 hR) (by omega) (by omega))
      refine S_step arg7.view _ _ (n := 8 * ((i 1).val / 4) + 2) ?_ (k0_off10_eq2 i) (blk_2560 (h2 := by decide) (by decide) (rows_2560 hR) (by omega) (by omega))
      refine S_step arg7.view _ _ (n := 8 * ((i 1).val / 4) + 1) ?_ (k0_off10_eq1 i) (blk_2560 (h2 := by decide) (by decide) (rows_2560 hR) (by omega) (by omega))
      refine S_step arg7.view _ _ (n := 8 * ((i 1).val / 4) + 0) ?_ (k0_off10_eq0 i) (blk_2560 (h2 := by decide) (by decide) (rows_2560 hR) (by omega) (by omega))
      exact hS
    isplitr
    · ipureintro; exact L_init h15
    · ipureintro; exact A_init h16
  iintro %acc ⟨%g7, H7, H8, %hH, %hL, %hA⟩
  obtain ⟨a1, a2⟩ := acc
  have hL : LInv (sc K v12 (i 1).val) (mx (sc K v12 (i 1).val) (2 * (i 1).val + 2)) (8 * ((i 1).val / 4)) a1 := k0_t3_trips i ▸ hL
  have hA : AInv (sc K v12 (i 1).val) (mx (sc K v12 (i 1).val) (2 * (i 1).val + 2)) (lane V 0 (by decide)) (8 * ((i 1).val / 4)) a2 := k0_t3_trips i ▸ hA
  replace hH := SH_cast (n := 8 * ((i 1).val / 4) + 5) (by omega) hH
  sl_exec
  sl_for0 (k0_t4_trips i)
  sl_exec
  sl_step
  iexists g7
  isplitl [H3]; · iexact H3
  isplitl [H5]; · iexact H5
  isplitl [H7]; · iexact H7
  isplitl [H8]; · iexact H8
  ipureintro
  intro d c
  refine hd_out ?_ ?_ d c
  · skip
    refine L_cast (m := 8 * ((i 1).val / 4) + 5 + 1) (by omega) ?_
    refine L_half (hc := concatenates_S8x512_S8x512_S8x1024_d1) (n := 8 * ((i 1).val / 4) + 5) ?_ (e_half (ld_half arg7.view g7 _ hH (k0_off30_eq i)) ?hmL) (low (by omega))
    refine L_step (n := 8 * ((i 1).val / 4) + 4) ?_ (e_full (ld_full arg7.view g7 _ hH (k0_off28_eq4 i) (by omega)) ?hmL)
    refine L_step (n := 8 * ((i 1).val / 4) + 3) ?_ (e_full (ld_full arg7.view g7 _ hH (k0_off28_eq3 i) (by omega)) ?hmL)
    refine L_step (n := 8 * ((i 1).val / 4) + 2) ?_ (e_full (ld_full arg7.view g7 _ hH (k0_off28_eq2 i) (by omega)) ?hmL)
    refine L_step (n := 8 * ((i 1).val / 4) + 1) ?_ (e_full (ld_full arg7.view g7 _ hH (k0_off28_eq1 i) (by omega)) ?hmL)
    refine L_step (n := 8 * ((i 1).val / 4) + 0) ?_ (e_full (ld_full arg7.view g7 _ hH (k0_off28_eq0 i) (by omega)) ?hmL)
    exact hL
    intro cc
    refine M_mx (h2 := .inl rfl) (h3 := rfl) (M_cast (m := 8 * ((i 1).val / 4) + 5 + 1) (by omega) ?_) cc
    refine M_half (hc := concatenates_S8x512_S8x512_S8x1024_d1) (n := 8 * ((i 1).val / 4) + 5) ?_ (half hR2 (by omega) (by omega) hW') (low (by omega))
    refine M_step (n := 8 * ((i 1).val / 4) + 4) ?_ (diag (h3 := by decide) (h4 := by decide) (h5 := by decide) (h6 := concatenates_S512x512_S512x512_S512x1024_d1) (pre_2560 (h2 := by decide) (by decide) (rows_2560 hR) (by omega)) (by omega) hW')
    refine M_step (n := 8 * ((i 1).val / 4) + 3) ?_ (blk_2560 (h2 := by decide) (by decide) (rows_2560 hR) (by omega) (by omega))
    refine M_step (n := 8 * ((i 1).val / 4) + 2) ?_ (blk_2560 (h2 := by decide) (by decide) (rows_2560 hR) (by omega) (by omega))
    refine M_step (n := 8 * ((i 1).val / 4) + 1) ?_ (blk_2560 (h2 := by decide) (by decide) (rows_2560 hR) (by omega) (by omega))
    refine M_step (n := 8 * ((i 1).val / 4) + 0) ?_ (blk_2560 (h2 := by decide) (by decide) (rows_2560 hR) (by omega) (by omega))
    exact hM
  · skip
    refine A_cast (m := 8 * ((i 1).val / 4) + 5 + 1) (by omega) ?_
    refine A_half (hc := concatenates_S64x512_S64x512_S64x1024_d1) (n := 8 * ((i 1).val / 4) + 5) ?_ (ld_vt arg8.view f8 _ hV' (k0_off29_eq5 i) (by decide)) (e_half (ld_half arg7.view g7 _ hH (k0_off30_eq i)) ?hmA) (low (by omega))
    refine A_step (n := 8 * ((i 1).val / 4) + 4) ?_ (ld_vt arg8.view f8 _ hV' (k0_off29_eq4 i) (by decide)) (e_full (ld_full arg7.view g7 _ hH (k0_off28_eq4 i) (by omega)) ?hmA)
    refine A_step (n := 8 * ((i 1).val / 4) + 3) ?_ (ld_vt arg8.view f8 _ hV' (k0_off29_eq3 i) (by decide)) (e_full (ld_full arg7.view g7 _ hH (k0_off28_eq3 i) (by omega)) ?hmA)
    refine A_step (n := 8 * ((i 1).val / 4) + 2) ?_ (ld_vt arg8.view f8 _ hV' (k0_off29_eq2 i) (by decide)) (e_full (ld_full arg7.view g7 _ hH (k0_off28_eq2 i) (by omega)) ?hmA)
    refine A_step (n := 8 * ((i 1).val / 4) + 1) ?_ (ld_vt arg8.view f8 _ hV' (k0_off29_eq1 i) (by decide)) (e_full (ld_full arg7.view g7 _ hH (k0_off28_eq1 i) (by omega)) ?hmA)
    refine A_step (n := 8 * ((i 1).val / 4) + 0) ?_ (ld_vt arg8.view f8 _ hV' (k0_off29_eq0 i) (by decide)) (e_full (ld_full arg7.view g7 _ hH (k0_off28_eq0 i) (by omega)) ?hmA)
    exact hA
    intro cc
    refine M_mx (h2 := .inl rfl) (h3 := rfl) (M_cast (m := 8 * ((i 1).val / 4) + 5 + 1) (by omega) ?_) cc
    refine M_half (hc := concatenates_S8x512_S8x512_S8x1024_d1) (n := 8 * ((i 1).val / 4) + 5) ?_ (half hR2 (by omega) (by omega) hW') (low (by omega))
    refine M_step (n := 8 * ((i 1).val / 4) + 4) ?_ (diag (h3 := by decide) (h4 := by decide) (h5 := by decide) (h6 := concatenates_S512x512_S512x512_S512x1024_d1) (pre_2560 (h2 := by decide) (by decide) (rows_2560 hR) (by omega)) (by omega) hW')
    refine M_step (n := 8 * ((i 1).val / 4) + 3) ?_ (blk_2560 (h2 := by decide) (by decide) (rows_2560 hR) (by omega) (by omega))
    refine M_step (n := 8 * ((i 1).val / 4) + 2) ?_ (blk_2560 (h2 := by decide) (by decide) (rows_2560 hR) (by omega) (by omega))
    refine M_step (n := 8 * ((i 1).val / 4) + 1) ?_ (blk_2560 (h2 := by decide) (by decide) (rows_2560 hR) (by omega) (by omega))
    refine M_step (n := 8 * ((i 1).val / 4) + 0) ?_ (blk_2560 (h2 := by decide) (by decide) (rows_2560 hR) (by omega) (by omega))
    exact hM

/-- The first head's last 4 blocks: scores, weights, sums and the quotient. -/
theorem p51_4 {K : ℕ → Fin 256 → EReal} {V : ℕ → Fin 128 → EReal} (f3 f5 f7 f8) (v12 : FVec Ideal S1024x256 .bf16) (v15 : FVec Ideal S8x1024 .f32) (v16 : FVec Ideal S64x1024 .f32) (v50 v52 v53 : BitVec 32) (v60 : FVec Ideal S8x1024 .f32) (v77 : BitVec 32)
    (hK : ∀ (r : Fin 8192) (d : Fin 256), arg3.view.read (Elt Ideal) f3 (ix3 0 r d) = K r.val d) (hW : MaskOk (arg5.view.read (Elt Ideal) f5)) (hV : VInv V 16 (arg8.view.read (Elt Ideal) f8)) (hS : SInv (sc K v12 (i 1).val) (8 * ((i 1).val / 4)) (arg7.view.read (Elt Ideal) f7)) (hM : MInv (sc K v12 (i 1).val) (8 * ((i 1).val / 4)) v60) (h15 : ∀ j, v15 j = 0) (h16 : ∀ j, v16 j = 0)
    (hr : (i 1).val % 4 = 1) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part51 i arg2 harg2 arg3 harg3 arg4 harg4 arg5 harg5 arg6 harg6 arg7 harg7 arg8 harg8 v12 v15 v16 v50 v52 v53 v60 v77)
        (fun (r : FVec Ideal S64x1024 .f32) => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8) ∗ ⌜∀ d c, r (ix2 d c) = hd (sc K v12 (i 1).val) (lane V 0 (by decide)) (2 * (i 1).val + 2) d c⌝) : sProp 𝕄G)) := by
  have hc2 := (k0_cond2_iff i).2 (by omega)
  have hc3 := (k0_cond3_iff i).not.2 (not_not.2 hr)
  have hc5 := (k0_cond5_iff i).2 (by omega)
  have hc6 := (k0_cond6_iff i).not.2 (not_not.2 hr)
  have hR := rows_load arg3.view f3 (N := 1536) (k0_off13_inb i hc2 hc3) (k0_off13_eq i) hK
  have hR2 := rows_load arg3.view f3 (N := 512) (k0_off15_inb i hc2 hc3) (k0_off15_eq i) hK
  have hW' := ld_mask arg5.view f5 inb_S1x512x512_S1x512x512_0_0_0 hW rfl
  have hV' := V_all hV
  rw [k0_part51_eq_skeleton]
  unfold k0_part51_skel
  iintro ⟨H3, H5, H7, H8⟩
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH (sc K v12 (i 1).val) (2 * (i 1).val + 1) (arg7.view.read (Elt Ideal) g7)⌝ ∗ ⌜LInv (sc K v12 (i 1).val) (mx (sc K v12 (i 1).val) (2 * (i 1).val + 2)) (8 * k) acc.1⌝ ∗ ⌜AInv (sc K v12 (i 1).val) (mx (sc K v12 (i 1).val) (2 * (i 1).val + 2)) (lane V 0 (by decide)) (8 * k) acc.2⌝) : sProp 𝕄G)) $$ [H7 H8]
  · intro k acc
    iintro ⟨%g7, H7, H8, %hH, %hL, %hA⟩
    iapply (t3_trip (N := 2 * (i 1).val + 1) (μ := (mx (sc K v12 (i 1).val) (2 * (i 1).val + 2))) c i arg2 harg2 arg3 harg3 arg4 harg4 arg5 harg5 arg6 harg6 arg7 harg7 arg8 harg8 g7 f8 v12 v15 v16 v50 v52 v53 v60 v77 _ k acc hV ?_ (by omega) hH hL hA) $$ [H7 H8]
    · intro cc
      refine M_mx (h2 := .inl rfl) (h3 := rfl) (M_cast (m := 8 * ((i 1).val / 4) + 3 + 1) (by omega) ?_) cc
      refine M_half (hc := concatenates_S8x512_S8x512_S8x1024_d1) (n := 8 * ((i 1).val / 4) + 3) ?_ (half hR2 (by omega) (by omega) hW') (low (by omega))
      refine M_step (n := 8 * ((i 1).val / 4) + 2) ?_ (diag (h3 := by decide) (h4 := by decide) (h5 := by decide) (h6 := concatenates_S512x512_S512x512_S512x1024_d1) (pre_1536 (h2 := by decide) (by decide) (rows_1536 hR) (by omega)) (by omega) hW')
      refine M_step (n := 8 * ((i 1).val / 4) + 1) ?_ (blk_1536 (h2 := by decide) (by decide) (rows_1536 hR) (by omega) (by omega))
      refine M_step (n := 8 * ((i 1).val / 4) + 0) ?_ (blk_1536 (h2 := by decide) (by decide) (rows_1536 hR) (by omega) (by omega))
      exact hM
    isplitl [H7]; · iexact H7
    iexact H8
  · iexists _
    isplitl [H7]; · iexact H7
    isplitl [H8]; · iexact H8
    isplitr
    · ipureintro
      refine SH_cast (m := 8 * ((i 1).val / 4) + 3) (by omega) ?_
      refine S_half arg7.view _ _ (n := 8 * ((i 1).val / 4) + 3) ?_ (k0_off16_eq i) (half hR2 (by omega) (by omega) hW')
      refine S_step arg7.view _ _ (n := 8 * ((i 1).val / 4) + 2) ?_ (k0_off14_eq2 i) (diag (h3 := by decide) (h4 := by decide) (h5 := by decide) (h6 := concatenates_S512x512_S512x512_S512x1024_d1) (pre_1536 (h2 := by decide) (by decide) (rows_1536 hR) (by omega)) (by omega) hW')
      refine S_step arg7.view _ _ (n := 8 * ((i 1).val / 4) + 1) ?_ (k0_off14_eq1 i) (blk_1536 (h2 := by decide) (by decide) (rows_1536 hR) (by omega) (by omega))
      refine S_step arg7.view _ _ (n := 8 * ((i 1).val / 4) + 0) ?_ (k0_off14_eq0 i) (blk_1536 (h2 := by decide) (by decide) (rows_1536 hR) (by omega) (by omega))
      exact hS
    isplitr
    · ipureintro; exact L_init h15
    · ipureintro; exact A_init h16
  iintro %acc ⟨%g7, H7, H8, %hH, %hL, %hA⟩
  obtain ⟨a1, a2⟩ := acc
  have hL : LInv (sc K v12 (i 1).val) (mx (sc K v12 (i 1).val) (2 * (i 1).val + 2)) (8 * ((i 1).val / 4)) a1 := k0_t3_trips i ▸ hL
  have hA : AInv (sc K v12 (i 1).val) (mx (sc K v12 (i 1).val) (2 * (i 1).val + 2)) (lane V 0 (by decide)) (8 * ((i 1).val / 4)) a2 := k0_t3_trips i ▸ hA
  replace hH := SH_cast (n := 8 * ((i 1).val / 4) + 3) (by omega) hH
  sl_exec
  sl_for0 (k0_t4_trips i)
  sl_exec
  sl_step
  iexists g7
  isplitl [H3]; · iexact H3
  isplitl [H5]; · iexact H5
  isplitl [H7]; · iexact H7
  isplitl [H8]; · iexact H8
  ipureintro
  intro d c
  refine hd_out ?_ ?_ d c
  · skip
    refine L_cast (m := 8 * ((i 1).val / 4) + 3 + 1) (by omega) ?_
    refine L_half (hc := concatenates_S8x512_S8x512_S8x1024_d1) (n := 8 * ((i 1).val / 4) + 3) ?_ (e_half (ld_half arg7.view g7 _ hH (k0_off33_eq i)) ?hmL) (low (by omega))
    refine L_step (n := 8 * ((i 1).val / 4) + 2) ?_ (e_full (ld_full arg7.view g7 _ hH (k0_off31_eq2 i) (by omega)) ?hmL)
    refine L_step (n := 8 * ((i 1).val / 4) + 1) ?_ (e_full (ld_full arg7.view g7 _ hH (k0_off31_eq1 i) (by omega)) ?hmL)
    refine L_step (n := 8 * ((i 1).val / 4) + 0) ?_ (e_full (ld_full arg7.view g7 _ hH (k0_off31_eq0 i) (by omega)) ?hmL)
    exact hL
    intro cc
    refine M_mx (h2 := .inl rfl) (h3 := rfl) (M_cast (m := 8 * ((i 1).val / 4) + 3 + 1) (by omega) ?_) cc
    refine M_half (hc := concatenates_S8x512_S8x512_S8x1024_d1) (n := 8 * ((i 1).val / 4) + 3) ?_ (half hR2 (by omega) (by omega) hW') (low (by omega))
    refine M_step (n := 8 * ((i 1).val / 4) + 2) ?_ (diag (h3 := by decide) (h4 := by decide) (h5 := by decide) (h6 := concatenates_S512x512_S512x512_S512x1024_d1) (pre_1536 (h2 := by decide) (by decide) (rows_1536 hR) (by omega)) (by omega) hW')
    refine M_step (n := 8 * ((i 1).val / 4) + 1) ?_ (blk_1536 (h2 := by decide) (by decide) (rows_1536 hR) (by omega) (by omega))
    refine M_step (n := 8 * ((i 1).val / 4) + 0) ?_ (blk_1536 (h2 := by decide) (by decide) (rows_1536 hR) (by omega) (by omega))
    exact hM
  · skip
    refine A_cast (m := 8 * ((i 1).val / 4) + 3 + 1) (by omega) ?_
    refine A_half (hc := concatenates_S64x512_S64x512_S64x1024_d1) (n := 8 * ((i 1).val / 4) + 3) ?_ (ld_vt arg8.view f8 _ hV' (k0_off32_eq3 i) (by decide)) (e_half (ld_half arg7.view g7 _ hH (k0_off33_eq i)) ?hmA) (low (by omega))
    refine A_step (n := 8 * ((i 1).val / 4) + 2) ?_ (ld_vt arg8.view f8 _ hV' (k0_off32_eq2 i) (by decide)) (e_full (ld_full arg7.view g7 _ hH (k0_off31_eq2 i) (by omega)) ?hmA)
    refine A_step (n := 8 * ((i 1).val / 4) + 1) ?_ (ld_vt arg8.view f8 _ hV' (k0_off32_eq1 i) (by decide)) (e_full (ld_full arg7.view g7 _ hH (k0_off31_eq1 i) (by omega)) ?hmA)
    refine A_step (n := 8 * ((i 1).val / 4) + 0) ?_ (ld_vt arg8.view f8 _ hV' (k0_off32_eq0 i) (by decide)) (e_full (ld_full arg7.view g7 _ hH (k0_off31_eq0 i) (by omega)) ?hmA)
    exact hA
    intro cc
    refine M_mx (h2 := .inl rfl) (h3 := rfl) (M_cast (m := 8 * ((i 1).val / 4) + 3 + 1) (by omega) ?_) cc
    refine M_half (hc := concatenates_S8x512_S8x512_S8x1024_d1) (n := 8 * ((i 1).val / 4) + 3) ?_ (half hR2 (by omega) (by omega) hW') (low (by omega))
    refine M_step (n := 8 * ((i 1).val / 4) + 2) ?_ (diag (h3 := by decide) (h4 := by decide) (h5 := by decide) (h6 := concatenates_S512x512_S512x512_S512x1024_d1) (pre_1536 (h2 := by decide) (by decide) (rows_1536 hR) (by omega)) (by omega) hW')
    refine M_step (n := 8 * ((i 1).val / 4) + 1) ?_ (blk_1536 (h2 := by decide) (by decide) (rows_1536 hR) (by omega) (by omega))
    refine M_step (n := 8 * ((i 1).val / 4) + 0) ?_ (blk_1536 (h2 := by decide) (by decide) (rows_1536 hR) (by omega) (by omega))
    exact hM

/-- The first head's last 2 blocks: scores, weights, sums and the quotient. -/
theorem p51_2 {K : ℕ → Fin 256 → EReal} {V : ℕ → Fin 128 → EReal} (f3 f5 f7 f8) (v12 : FVec Ideal S1024x256 .bf16) (v15 : FVec Ideal S8x1024 .f32) (v16 : FVec Ideal S64x1024 .f32) (v50 v52 v53 : BitVec 32) (v60 : FVec Ideal S8x1024 .f32) (v77 : BitVec 32)
    (hK : ∀ (r : Fin 8192) (d : Fin 256), arg3.view.read (Elt Ideal) f3 (ix3 0 r d) = K r.val d) (hW : MaskOk (arg5.view.read (Elt Ideal) f5)) (hV : VInv V 16 (arg8.view.read (Elt Ideal) f8)) (hS : SInv (sc K v12 (i 1).val) (8 * ((i 1).val / 4)) (arg7.view.read (Elt Ideal) f7)) (hM : MInv (sc K v12 (i 1).val) (8 * ((i 1).val / 4)) v60) (h15 : ∀ j, v15 j = 0) (h16 : ∀ j, v16 j = 0)
    (hr : (i 1).val % 4 = 0) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part51 i arg2 harg2 arg3 harg3 arg4 harg4 arg5 harg5 arg6 harg6 arg7 harg7 arg8 harg8 v12 v15 v16 v50 v52 v53 v60 v77)
        (fun (r : FVec Ideal S64x1024 .f32) => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8) ∗ ⌜∀ d c, r (ix2 d c) = hd (sc K v12 (i 1).val) (lane V 0 (by decide)) (2 * (i 1).val + 2) d c⌝) : sProp 𝕄G)) := by
  have hc2 := (k0_cond2_iff i).not.2 (not_not.2 hr)
  have hc5 := (k0_cond5_iff i).not.2 (not_not.2 hr)
  have hR := rows_load arg3.view f3 (N := 512) (k0_off17_inb i hc2) (k0_off17_eq i) hK
  have hR2 := rows_load arg3.view f3 (N := 512) (k0_off19_inb i hc2) (k0_off19_eq i) hK
  have hW' := ld_mask arg5.view f5 inb_S1x512x512_S1x512x512_0_0_0 hW rfl
  have hV' := V_all hV
  rw [k0_part51_eq_skeleton]
  unfold k0_part51_skel
  iintro ⟨H3, H5, H7, H8⟩
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH (sc K v12 (i 1).val) (2 * (i 1).val + 1) (arg7.view.read (Elt Ideal) g7)⌝ ∗ ⌜LInv (sc K v12 (i 1).val) (mx (sc K v12 (i 1).val) (2 * (i 1).val + 2)) (8 * k) acc.1⌝ ∗ ⌜AInv (sc K v12 (i 1).val) (mx (sc K v12 (i 1).val) (2 * (i 1).val + 2)) (lane V 0 (by decide)) (8 * k) acc.2⌝) : sProp 𝕄G)) $$ [H7 H8]
  · intro k acc
    iintro ⟨%g7, H7, H8, %hH, %hL, %hA⟩
    iapply (t3_trip (N := 2 * (i 1).val + 1) (μ := (mx (sc K v12 (i 1).val) (2 * (i 1).val + 2))) c i arg2 harg2 arg3 harg3 arg4 harg4 arg5 harg5 arg6 harg6 arg7 harg7 arg8 harg8 g7 f8 v12 v15 v16 v50 v52 v53 v60 v77 _ k acc hV ?_ (by omega) hH hL hA) $$ [H7 H8]
    · intro cc
      refine M_mx (h2 := .inl rfl) (h3 := rfl) (M_cast (m := 8 * ((i 1).val / 4) + 1 + 1) (by omega) ?_) cc
      refine M_half (hc := concatenates_S8x512_S8x512_S8x1024_d1) (n := 8 * ((i 1).val / 4) + 1) ?_ (half hR2 (by omega) (by omega) hW') (low (by omega))
      refine M_step (n := 8 * ((i 1).val / 4) + 0) ?_ (diag (h3 := by decide) (h4 := by decide) (h5 := by decide) (h6 := concatenates_S512x512_S512x512_S512x1024_d1) (rows_512 hR) (by omega) hW')
      exact hM
    isplitl [H7]; · iexact H7
    iexact H8
  · iexists _
    isplitl [H7]; · iexact H7
    isplitl [H8]; · iexact H8
    isplitr
    · ipureintro
      refine SH_cast (m := 8 * ((i 1).val / 4) + 1) (by omega) ?_
      refine S_half arg7.view _ _ (n := 8 * ((i 1).val / 4) + 1) ?_ (k0_off20_eq i) (half hR2 (by omega) (by omega) hW')
      refine S_step arg7.view _ _ (n := 8 * ((i 1).val / 4) + 0) ?_ (k0_off18_eq i) (diag (h3 := by decide) (h4 := by decide) (h5 := by decide) (h6 := concatenates_S512x512_S512x512_S512x1024_d1) (rows_512 hR) (by omega) hW')
      exact hS
    isplitr
    · ipureintro; exact L_init h15
    · ipureintro; exact A_init h16
  iintro %acc ⟨%g7, H7, H8, %hH, %hL, %hA⟩
  obtain ⟨a1, a2⟩ := acc
  have hL : LInv (sc K v12 (i 1).val) (mx (sc K v12 (i 1).val) (2 * (i 1).val + 2)) (8 * ((i 1).val / 4)) a1 := k0_t3_trips i ▸ hL
  have hA : AInv (sc K v12 (i 1).val) (mx (sc K v12 (i 1).val) (2 * (i 1).val + 2)) (lane V 0 (by decide)) (8 * ((i 1).val / 4)) a2 := k0_t3_trips i ▸ hA
  replace hH := SH_cast (n := 8 * ((i 1).val / 4) + 1) (by omega) hH
  sl_exec
  sl_for0 (k0_t4_trips i)
  sl_exec
  sl_step
  iexists g7
  isplitl [H3]; · iexact H3
  isplitl [H5]; · iexact H5
  isplitl [H7]; · iexact H7
  isplitl [H8]; · iexact H8
  ipureintro
  intro d c
  refine hd_out ?_ ?_ d c
  · skip
    refine L_cast (m := 8 * ((i 1).val / 4) + 1 + 1) (by omega) ?_
    refine L_half (hc := concatenates_S8x512_S8x512_S8x1024_d1) (n := 8 * ((i 1).val / 4) + 1) ?_ (e_half (ld_half arg7.view g7 _ hH (k0_off36_eq i)) ?hmL) (low (by omega))
    refine L_step (n := 8 * ((i 1).val / 4) + 0) ?_ (e_full (ld_full arg7.view g7 _ hH (k0_off34_eq i) (by omega)) ?hmL)
    exact hL
    intro cc
    refine M_mx (h2 := .inl rfl) (h3 := rfl) (M_cast (m := 8 * ((i 1).val / 4) + 1 + 1) (by omega) ?_) cc
    refine M_half (hc := concatenates_S8x512_S8x512_S8x1024_d1) (n := 8 * ((i 1).val / 4) + 1) ?_ (half hR2 (by omega) (by omega) hW') (low (by omega))
    refine M_step (n := 8 * ((i 1).val / 4) + 0) ?_ (diag (h3 := by decide) (h4 := by decide) (h5 := by decide) (h6 := concatenates_S512x512_S512x512_S512x1024_d1) (rows_512 hR) (by omega) hW')
    exact hM
  · skip
    refine A_cast (m := 8 * ((i 1).val / 4) + 1 + 1) (by omega) ?_
    refine A_half (hc := concatenates_S64x512_S64x512_S64x1024_d1) (n := 8 * ((i 1).val / 4) + 1) ?_ (ld_vt arg8.view f8 _ hV' (k0_off35_eq1 i) (by decide)) (e_half (ld_half arg7.view g7 _ hH (k0_off36_eq i)) ?hmA) (low (by omega))
    refine A_step (n := 8 * ((i 1).val / 4) + 0) ?_ (ld_vt arg8.view f8 _ hV' (k0_off35_eq0 i) (by decide)) (e_full (ld_full arg7.view g7 _ hH (k0_off34_eq i) (by omega)) ?hmA)
    exact hA
    intro cc
    refine M_mx (h2 := .inl rfl) (h3 := rfl) (M_cast (m := 8 * ((i 1).val / 4) + 1 + 1) (by omega) ?_) cc
    refine M_half (hc := concatenates_S8x512_S8x512_S8x1024_d1) (n := 8 * ((i 1).val / 4) + 1) ?_ (half hR2 (by omega) (by omega) hW') (low (by omega))
    refine M_step (n := 8 * ((i 1).val / 4) + 0) ?_ (diag (h3 := by decide) (h4 := by decide) (h5 := by decide) (h6 := concatenates_S512x512_S512x512_S512x1024_d1) (rows_512 hR) (by omega) hW')
    exact hM

end Cert.KernelIdeal.Run
-- ==== Proof.Run2.lean ====
module

public import proofs.«01_k».proof.Proof.Off
public import proofs.«01_k».proof.Proof.Sem
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.VecWindow
public import proofs.«01_k».proof.Proof.Run1
@[expose] public section

set_option maxRecDepth 16384
set_option maxHeartbeats 4000000
set_option pp.maxSteps 300
noncomputable section

/-! The second head: scores, weights and sums of one grid point. -/

namespace Cert.KernelIdeal.Run

open Cert.KernelIdeal Cert.KernelIdeal.Gen Cert.KernelIdeal.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

variable (c : Dev nD) (i : grid0.Coords) (arg2 : Memref sig .tc .vmem S1x1024x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x512x512 .f32) (harg5 : arg5.IsWhole) (arg6 : Memref sig .tc .vmem S1x1024x128 .bf16) (harg6 : arg6.IsWhole)
  (arg7 : Memref sig .tc .vmem S16x512x1024 .f32) (harg7 : arg7.IsWhole) (arg8 : Memref sig .tc .vmem S16x128x512 .bf16) (harg8 : arg8.IsWhole)

/-- One group of eight key blocks: the scores are stored and the running maximum takes them. -/
theorem t5_trip {K : ℕ → Fin 256 → EReal} (f3 f7) (v124 : FVec Ideal S1024x256 .bf16) (v126 : FVec Ideal S8x1024 .f32) (v145 v146 : BitVec 32) (v157 : BitVec 1) (v158 : BitVec 32) (k : Fin (k0_t5_loop i).trips) (acc : FVec Ideal S8x1024 .f32)
    (hK : ∀ (r : Fin 8192) (d : Fin 256), arg3.view.read (Elt Ideal) f3 (ix3 0 r d) = K r.val d)
    (hS : SInv (sc K v124 (i 1).val) (8 * k.val) (arg7.view.read (Elt Ideal) f7)) (hM : MInv (sc K v124 (i 1).val) (8 * k.val) acc) :
    iprop((arg3.view.loc (c : Thread nD τ) ↦[arg3.view.set]{fullShare} f3) ∗ (arg7.view.loc (c : Thread nD τ) ↦[arg7.view.set]{fullShare} f7))
      ⊢ wp frame (wpE (defs₀ (F := Ideal)) 𝒱₀ (c : Thread nD τ) none) Set.univ (k0_t5_body i arg2 harg2 arg3 harg3 arg4 harg4 arg5 harg5 arg6 harg6 arg7 harg7 arg8 harg8 v124 v126 v145 v146 v157 v158 k acc)
        (fun (r : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v124 (i 1).val) (8 * (k.val + 1)) (arg7.view.read (Elt Ideal) g7)⌝ ∗ ⌜MInv (sc K v124 (i 1).val) (8 * (k.val + 1)) r⌝) : sProp 𝕄G)) := by
  have hk : k.val < (i 1).val / 4 := lt_of_lt_of_eq k.2 (k0_t5_trips i)
  have hR := rows_load arg3.view f3 (N := 4096) (k0_off37_inb i k) (k0_off37_eq i k) hK
  unfold k0_t5_body
  iintro ⟨H3, H7⟩
  sl_exec
  sl_step
  iexists _
  isplitl [H3]; · iexact H3
  isplitl [H7]; · iexact H7
  isplitr
  · ipureintro
    refine S_step arg7.view f7 _ (n := 8 * k.val + 7) ?_ (k0_off38_eq7 i k) (blk_4096 (h2 := by decide) (by decide) (rows_4096 hR) (by omega) (by omega))
    refine S_step arg7.view f7 _ (n := 8 * k.val + 6) ?_ (k0_off38_eq6 i k) (blk_4096 (h2 := by decide) (by decide) (rows_4096 hR) (by omega) (by omega))
    refine S_step arg7.view f7 _ (n := 8 * k.val + 5) ?_ (k0_off38_eq5 i k) (blk_4096 (h2 := by decide) (by decide) (rows_4096 hR) (by omega) (by omega))
    refine S_step arg7.view f7 _ (n := 8 * k.val + 4) ?_ (k0_off38_eq4 i k) (blk_4096 (h2 := by decide) (by decide) (rows_4096 hR) (by omega) (by omega))
    refine S_step arg7.view f7 _ (n := 8 * k.val + 3) ?_ (k0_off38_eq3 i k) (blk_4096 (h2 := by decide) (by decide) (rows_4096 hR) (by omega) (by omega))
    refine S_step arg7.view f7 _ (n := 8 * k.val + 2) ?_ (k0_off38_eq2 i k) (blk_4096 (h2 := by decide) (by decide) (rows_4096 hR) (by omega) (by omega))
    refine S_step arg7.view f7 _ (n := 8 * k.val + 1) ?_ (k0_off38_eq1 i k) (blk_4096 (h2 := by decide) (by decide) (rows_4096 hR) (by omega) (by omega))
    refine S_step arg7.view f7 _ (n := 8 * k.val + 0) ?_ (k0_off38_eq0 i k) (blk_4096 (h2 := by decide) (by decide) (rows_4096 hR) (by omega) (by omega))
    exact hS
  · ipureintro
    refine M_step (n := 8 * k.val + 7) ?_ (blk_4096 (h2 := by decide) (by decide) (rows_4096 hR) (by omega) (by omega))
    refine M_step (n := 8 * k.val + 6) ?_ (blk_4096 (h2 := by decide) (by decide) (rows_4096 hR) (by omega) (by omega))
    refine M_step (n := 8 * k.val + 5) ?_ (blk_4096 (h2 := by decide) (by decide) (rows_4096 hR) (by omega) (by omega))
    refine M_step (n := 8 * k.val + 4) ?_ (blk_4096 (h2 := by decide) (by decide) (rows_4096 hR) (by omega) (by omega))
    refine M_step (n := 8 * k.val + 3) ?_ (blk_4096 (h2 := by decide) (by decide) (rows_4096 hR) (by omega) (by omega))
    refine M_step (n := 8 * k.val + 2) ?_ (blk_4096 (h2 := by decide) (by decide) (rows_4096 hR) (by omega) (by omega))
    refine M_step (n := 8 * k.val + 1) ?_ (blk_4096 (h2 := by decide) (by decide) (rows_4096 hR) (by omega) (by omega))
    refine M_step (n := 8 * k.val + 0) ?_ (blk_4096 (h2 := by decide) (by decide) (rows_4096 hR) (by omega) (by omega))
    exact hM

/-- One group of eight key blocks: the sums of the weights and of the weighted values take them. -/
theorem t7_trip {S : Sc} {μ : Fin 1024 → EReal} {V : ℕ → Fin 128 → EReal} {N : ℕ} (f7 f8) (v195 : FVec Ideal S1x1024 .f32) (c0_i32_86 : BitVec 32) (k : Fin (k0_t7_loop i).trips) (acc : FVec Ideal S8x1024 .f32 × FVec Ideal S64x1024 .f32)
    (hV : VInv V 16 (arg8.view.read (Elt Ideal) f8)) (hm : ∀ c, (v195 : FVec Ideal S1x1024 .f32) (ix2 0 c) = μ c) (hN : 8 * ((i 1).val / 4) ≤ N)
    (hS : SInvH S N (arg7.view.read (Elt Ideal) f7)) (hL : LInv S μ (8 * k.val) acc.1) (hA : AInv S μ (lane V 64 (by decide)) (8 * k.val) acc.2) :
    iprop((arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_t7_body i arg2 harg2 arg3 harg3 arg4 harg4 arg5 harg5 arg6 harg6 arg7 harg7 arg8 harg8 v195 c0_i32_86 k acc)
        (fun (r : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} f8) ∗ ⌜SInvH S (N) (arg7.view.read (Elt Ideal) g7)⌝ ∗ ⌜LInv S μ (8 * (k.val + 1)) r.1⌝ ∗ ⌜AInv S μ (lane V 64 (by decide)) (8 * (k.val + 1)) r.2⌝) : sProp 𝕄G)) := by
  have hk : k.val < (i 1).val / 4 := lt_of_lt_of_eq k.2 (k0_t7_trips i)
  have hV' := V_all hV
  obtain ⟨a1, a2⟩ := acc
  unfold k0_t7_body
  iintro ⟨H7, H8⟩
  sl_exec
  sl_step
  iexists f7
  isplitl [H7]; · iexact H7
  isplitl [H8]; · iexact H8
  isplitr
  · ipureintro; exact hS
  isplitr
  · ipureintro
    refine L_step (n := 8 * k.val + 7) ?_ (e_full (ld_full arg7.view f7 _ hS (k0_off57_eq7 i k) (by omega)) hm)
    refine L_step (n := 8 * k.val + 6) ?_ (e_full (ld_full arg7.view f7 _ hS (k0_off57_eq6 i k) (by omega)) hm)
    refine L_step (n := 8 * k.val + 5) ?_ (e_full (ld_full arg7.view f7 _ hS (k0_off57_eq5 i k) (by omega)) hm)
    refine L_step (n := 8 * k.val + 4) ?_ (e_full (ld_full arg7.view f7 _ hS (k0_off57_eq4 i k) (by omega)) hm)
    refine L_step (n := 8 * k.val + 3) ?_ (e_full (ld_full arg7.view f7 _ hS (k0_off57_eq3 i k) (by omega)) hm)
    refine L_step (n := 8 * k.val + 2) ?_ (e_full (ld_full arg7.view f7 _ hS (k0_off57_eq2 i k) (by omega)) hm)
    refine L_step (n := 8 * k.val + 1) ?_ (e_full (ld_full arg7.view f7 _ hS (k0_off57_eq1 i k) (by omega)) hm)
    refine L_step (n := 8 * k.val + 0) ?_ (e_full (ld_full arg7.view f7 _ hS (k0_off57_eq0 i k) (by omega)) hm)
    exact hL
  · ipureintro
    refine A_step (n := 8 * k.val + 7) ?_ (ld_vt arg8.view f8 _ hV' (k0_off58_eq7 i k) (by decide)) (e_full (ld_full arg7.view f7 _ hS (k0_off57_eq7 i k) (by omega)) hm)
    refine A_step (n := 8 * k.val + 6) ?_ (ld_vt arg8.view f8 _ hV' (k0_off58_eq6 i k) (by decide)) (e_full (ld_full arg7.view f7 _ hS (k0_off57_eq6 i k) (by omega)) hm)
    refine A_step (n := 8 * k.val + 5) ?_ (ld_vt arg8.view f8 _ hV' (k0_off58_eq5 i k) (by decide)) (e_full (ld_full arg7.view f7 _ hS (k0_off57_eq5 i k) (by omega)) hm)
    refine A_step (n := 8 * k.val + 4) ?_ (ld_vt arg8.view f8 _ hV' (k0_off58_eq4 i k) (by decide)) (e_full (ld_full arg7.view f7 _ hS (k0_off57_eq4 i k) (by omega)) hm)
    refine A_step (n := 8 * k.val + 3) ?_ (ld_vt arg8.view f8 _ hV' (k0_off58_eq3 i k) (by decide)) (e_full (ld_full arg7.view f7 _ hS (k0_off57_eq3 i k) (by omega)) hm)
    refine A_step (n := 8 * k.val + 2) ?_ (ld_vt arg8.view f8 _ hV' (k0_off58_eq2 i k) (by decide)) (e_full (ld_full arg7.view f7 _ hS (k0_off57_eq2 i k) (by omega)) hm)
    refine A_step (n := 8 * k.val + 1) ?_ (ld_vt arg8.view f8 _ hV' (k0_off58_eq1 i k) (by decide)) (e_full (ld_full arg7.view f7 _ hS (k0_off57_eq1 i k) (by omega)) hm)
    refine A_step (n := 8 * k.val + 0) ?_ (ld_vt arg8.view f8 _ hV' (k0_off58_eq0 i k) (by decide)) (e_full (ld_full arg7.view f7 _ hS (k0_off57_eq0 i k) (by omega)) hm)
    exact hA

/-- The second head's scores, groups and the last 8 blocks, and their maximum. -/
theorem p53_8 {K : ℕ → Fin 256 → EReal} (f3 f5 f7) (v124 : FVec Ideal S1024x256 .bf16) (v126 : FVec Ideal S8x1024 .f32) (v145 v146 : BitVec 32) (v157 : BitVec 1) (v158 : BitVec 32)
    (hK : ∀ (r : Fin 8192) (d : Fin 256), arg3.view.read (Elt Ideal) f3 (ix3 0 r d) = K r.val d) (hW : MaskOk (arg5.view.read (Elt Ideal) f5)) (h0 : ∀ j, v126 j = ⊥) (hr : (i 1).val % 4 = 3) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Ideal)) 𝒱₀ (c : Thread nD τ) none) Set.univ (k0_part53 i arg2 harg2 arg3 harg3 arg4 harg4 arg5 harg5 arg6 harg6 arg7 harg7 arg8 harg8 v124 v126 v145 v146 v157 v158)
        (fun r => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ ⌜SInvH (sc K v124 (i 1).val) (2 * (i 1).val + 1) (arg7.view.read (Elt Ideal) g7)⌝ ∗ ⌜∀ cc, r.2.2.1 (ix2 0 cc) = mx (sc K v124 (i 1).val) (2 * (i 1).val + 2) cc⌝) : sProp 𝕄G)) := by
  have hc8 := (k0_cond8_iff i).2 (by omega)
  have hc9 := (k0_cond9_iff i).2 (by omega)
  have hc10 := (k0_cond10_iff i).2 (by omega)
  have hR := rows_load arg3.view f3 (N := 3584) (k0_off41_inb i hc8 hc9 hc10) (k0_off41_eq i) hK
  have hR2 := rows_load arg3.view f3 (N := 512) (k0_off43_inb i hc8 hc9 hc10) (k0_off43_eq i) hK
  have hW' := ld_mask arg5.view f5 inb_S1x512x512_S1x512x512_0_0_0 hW rfl
  rw [k0_part53_eq_skeleton]
  unfold k0_part53_skel
  iintro ⟨H3, H5, H7⟩
  sl_exec
  sl_for (fun (k : ℕ) (acc : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v124 (i 1).val) (8 * k) (arg7.view.read (Elt Ideal) g7)⌝ ∗ ⌜MInv (sc K v124 (i 1).val) (8 * k) acc⌝) : sProp 𝕄G)) $$ [H3 H7]
  · intro k acc
    iintro ⟨%g7, H3, H7, %hS, %hM⟩
    iapply (t5_trip c i arg2 harg2 arg3 harg3 arg4 harg4 arg5 harg5 arg6 harg6 arg7 harg7 arg8 harg8 f3 g7 v124 v126 v145 v146 v157 v158 k acc hK hS hM) $$ [H3 H7]
    isplitl [H3]; · iexact H3
    iexact H7
  · iexists f7
    isplitl [H3]; · iexact H3
    isplitl [H7]; · iexact H7
    isplitr
    · ipureintro; exact S_init _ _
    · ipureintro; exact M_init _ h0
  iintro %acc ⟨%g7, H3, H7, %hS, %hM⟩
  have hS : SInv (sc K v124 (i 1).val) (8 * ((i 1).val / 4)) (arg7.view.read (Elt Ideal) g7) := k0_t5_trips i ▸ hS
  have hM : MInv (sc K v124 (i 1).val) (8 * ((i 1).val / 4)) acc := k0_t5_trips i ▸ hM
  sl_for0 (k0_t6_trips i)
  sl_exec
  sl_step
  iexists _
  isplitl [H3]; · iexact H3
  isplitl [H5]; · iexact H5
  isplitl [H7]; · iexact H7
  isplitr
  · ipureintro
    refine SH_cast (m := 8 * ((i 1).val / 4) + 7) (by omega) ?_
    refine S_half arg7.view _ _ (n := 8 * ((i 1).val / 4) + 7) ?_ (k0_off44_eq i) (half hR2 (by omega) (by omega) hW')
    refine S_step arg7.view _ _ (n := 8 * ((i 1).val / 4) + 6) ?_ (k0_off42_eq6 i) (diag (h3 := by decide) (h4 := by decide) (h5 := by decide) (h6 := concatenates_S512x512_S512x512_S512x1024_d1) (pre_3584 (h2 := by decide) (by decide) (rows_3584 hR) (by omega)) (by omega) hW')
    refine S_step arg7.view _ _ (n := 8 * ((i 1).val / 4) + 5) ?_ (k0_off42_eq5 i) (blk_3584 (h2 := by decide) (by decide) (rows_3584 hR) (by omega) (by omega))
    refine S_step arg7.view _ _ (n := 8 * ((i 1).val / 4) + 4) ?_ (k0_off42_eq4 i) (blk_3584 (h2 := by decide) (by decide) (rows_3584 hR) (by omega) (by omega))
    refine S_step arg7.view _ _ (n := 8 * ((i 1).val / 4) + 3) ?_ (k0_off42_eq3 i) (blk_3584 (h2 := by decide) (by decide) (rows_3584 hR) (by omega) (by omega))
    refine S_step arg7.view _ _ (n := 8 * ((i 1).val / 4) + 2) ?_ (k0_off42_eq2 i) (blk_3584 (h2 := by decide) (by decide) (rows_3584 hR) (by omega) (by omega))
    refine S_step arg7.view _ _ (n := 8 * ((i 1).val / 4) + 1) ?_ (k0_off42_eq1 i) (blk_3584 (h2 := by decide) (by decide) (rows_3584 hR) (by omega) (by omega))
    refine S_step arg7.view _ _ (n := 8 * ((i 1).val / 4) + 0) ?_ (k0_off42_eq0 i) (blk_3584 (h2 := by decide) (by decide) (rows_3584 hR) (by omega) (by omega))
    exact hS
  · ipureintro
    intro cc
    refine M_mx (h2 := .inl rfl) (h3 := rfl) (M_cast (m := 8 * ((i 1).val / 4) + 7 + 1) (by omega) ?_) cc
    refine M_half (hc := concatenates_S8x512_S8x512_S8x1024_d1) (n := 8 * ((i 1).val / 4) + 7) ?_ (half hR2 (by omega) (by omega) hW') (low (by omega))
    refine M_step (n := 8 * ((i 1).val / 4) + 6) ?_ (diag (h3 := by decide) (h4 := by decide) (h5 := by decide) (h6 := concatenates_S512x512_S512x512_S512x1024_d1) (pre_3584 (h2 := by decide) (by decide) (rows_3584 hR) (by omega)) (by omega) hW')
    refine M_step (n := 8 * ((i 1).val / 4) + 5) ?_ (blk_3584 (h2 := by decide) (by decide) (rows_3584 hR) (by omega) (by omega))
    refine M_step (n := 8 * ((i 1).val / 4) + 4) ?_ (blk_3584 (h2 := by decide) (by decide) (rows_3584 hR) (by omega) (by omega))
    refine M_step (n := 8 * ((i 1).val / 4) + 3) ?_ (blk_3584 (h2 := by decide) (by decide) (rows_3584 hR) (by omega) (by omega))
    refine M_step (n := 8 * ((i 1).val / 4) + 2) ?_ (blk_3584 (h2 := by decide) (by decide) (rows_3584 hR) (by omega) (by omega))
    refine M_step (n := 8 * ((i 1).val / 4) + 1) ?_ (blk_3584 (h2 := by decide) (by decide) (rows_3584 hR) (by omega) (by omega))
    refine M_step (n := 8 * ((i 1).val / 4) + 0) ?_ (blk_3584 (h2 := by decide) (by decide) (rows_3584 hR) (by omega) (by omega))
    exact hM

/-- The second head's scores, groups and the last 6 blocks, and their maximum. -/
theorem p53_6 {K : ℕ → Fin 256 → EReal} (f3 f5 f7) (v124 : FVec Ideal S1024x256 .bf16) (v126 : FVec Ideal S8x1024 .f32) (v145 v146 : BitVec 32) (v157 : BitVec 1) (v158 : BitVec 32)
    (hK : ∀ (r : Fin 8192) (d : Fin 256), arg3.view.read (Elt Ideal) f3 (ix3 0 r d) = K r.val d) (hW : MaskOk (arg5.view.read (Elt Ideal) f5)) (h0 : ∀ j, v126 j = ⊥) (hr : (i 1).val % 4 = 2) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Ideal)) 𝒱₀ (c : Thread nD τ) none) Set.univ (k0_part53 i arg2 harg2 arg3 harg3 arg4 harg4 arg5 harg5 arg6 harg6 arg7 harg7 arg8 harg8 v124 v126 v145 v146 v157 v158)
        (fun r => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ ⌜SInvH (sc K v124 (i 1).val) (2 * (i 1).val + 1) (arg7.view.read (Elt Ideal) g7)⌝ ∗ ⌜∀ cc, r.2.2.1 (ix2 0 cc) = mx (sc K v124 (i 1).val) (2 * (i 1).val + 2) cc⌝) : sProp 𝕄G)) := by
  have hc8 := (k0_cond8_iff i).2 (by omega)
  have hc9 := (k0_cond9_iff i).2 (by omega)
  have hc10 := (k0_cond10_iff i).not.2 (not_not.2 hr)
  have hR := rows_load arg3.view f3 (N := 2560) (k0_off45_inb i hc8 hc9 hc10) (k0_off45_eq i) hK
  have hR2 := rows_load arg3.view f3 (N := 512) (k0_off47_inb i hc8 hc9 hc10) (k0_off47_eq i) hK
  have hW' := ld_mask arg5.view f5 inb_S1x512x512_S1x512x512_0_0_0 hW rfl
  rw [k0_part53_eq_skeleton]
  unfold k0_part53_skel
  iintro ⟨H3, H5, H7⟩
  sl_exec
  sl_for (fun (k : ℕ) (acc : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v124 (i 1).val) (8 * k) (arg7.view.read (Elt Ideal) g7)⌝ ∗ ⌜MInv (sc K v124 (i 1).val) (8 * k) acc⌝) : sProp 𝕄G)) $$ [H3 H7]
  · intro k acc
    iintro ⟨%g7, H3, H7, %hS, %hM⟩
    iapply (t5_trip c i arg2 harg2 arg3 harg3 arg4 harg4 arg5 harg5 arg6 harg6 arg7 harg7 arg8 harg8 f3 g7 v124 v126 v145 v146 v157 v158 k acc hK hS hM) $$ [H3 H7]
    isplitl [H3]; · iexact H3
    iexact H7
  · iexists f7
    isplitl [H3]; · iexact H3
    isplitl [H7]; · iexact H7
    isplitr
    · ipureintro; exact S_init _ _
    · ipureintro; exact M_init _ h0
  iintro %acc ⟨%g7, H3, H7, %hS, %hM⟩
  have hS : SInv (sc K v124 (i 1).val) (8 * ((i 1).val / 4)) (arg7.view.read (Elt Ideal) g7) := k0_t5_trips i ▸ hS
  have hM : MInv (sc K v124 (i 1).val) (8 * ((i 1).val / 4)) acc := k0_t5_trips i ▸ hM
  sl_for0 (k0_t6_trips i)
  sl_exec
  sl_step
  iexists _
  isplitl [H3]; · iexact H3
  isplitl [H5]; · iexact H5
  isplitl [H7]; · iexact H7
  isplitr
  · ipureintro
    refine SH_cast (m := 8 * ((i 1).val / 4) + 5) (by omega) ?_
    unfold p53_6.sl.r_5
    refine S_half arg7.view _ _ (n := 8 * ((i 1).val / 4) + 5) ?_ (k0_off48_eq i) (half hR2 (by omega) (by omega) hW')
    refine S_step arg7.view _ _ (n := 8 * ((i 1).val / 4) + 4) ?_ (k0_off46_eq4 i) (diag (h3 := by decide) (h4 := by decide) (h5 := by decide) (h6 := concatenates_S512x512_S512x512_S512x1024_d1) (pre_2560 (h2 := by decide) (by decide) (rows_2560 hR) (by omega)) (by omega) hW')
    refine S_step arg7.view _ _ (n := 8 * ((i 1).val / 4) + 3) ?_ (k0_off46_eq3 i) (blk_2560 (h2 := by decide) (by decide) (rows_2560 hR) (by omega) (by omega))
    refine S_step arg7.view _ _ (n := 8 * ((i 1).val / 4) + 2) ?_ (k0_off46_eq2 i) (blk_2560 (h2 := by decide) (by decide) (rows_2560 hR) (by omega) (by omega))
    refine S_step arg7.view _ _ (n := 8 * ((i 1).val / 4) + 1) ?_ (k0_off46_eq1 i) (blk_2560 (h2 := by decide) (by decide) (rows_2560 hR) (by omega) (by omega))
    refine S_step arg7.view _ _ (n := 8 * ((i 1).val / 4) + 0) ?_ (k0_off46_eq0 i) (blk_2560 (h2 := by decide) (by decide) (rows_2560 hR) (by omega) (by omega))
    exact hS
  · ipureintro
    intro cc
    refine M_mx (h2 := .inl rfl) (h3 := rfl) (M_cast (m := 8 * ((i 1).val / 4) + 5 + 1) (by omega) ?_) cc
    refine M_half (hc := concatenates_S8x512_S8x512_S8x1024_d1) (n := 8 * ((i 1).val / 4) + 5) ?_ (half hR2 (by omega) (by omega) hW') (low (by omega))
    refine M_step (n := 8 * ((i 1).val / 4) + 4) ?_ (diag (h3 := by decide) (h4 := by decide) (h5 := by decide) (h6 := concatenates_S512x512_S512x512_S512x1024_d1) (pre_2560 (h2 := by decide) (by decide) (rows_2560 hR) (by omega)) (by omega) hW')
    refine M_step (n := 8 * ((i 1).val / 4) + 3) ?_ (blk_2560 (h2 := by decide) (by decide) (rows_2560 hR) (by omega) (by omega))
    refine M_step (n := 8 * ((i 1).val / 4) + 2) ?_ (blk_2560 (h2 := by decide) (by decide) (rows_2560 hR) (by omega) (by omega))
    refine M_step (n := 8 * ((i 1).val / 4) + 1) ?_ (blk_2560 (h2 := by decide) (by decide) (rows_2560 hR) (by omega) (by omega))
    refine M_step (n := 8 * ((i 1).val / 4) + 0) ?_ (blk_2560 (h2 := by decide) (by decide) (rows_2560 hR) (by omega) (by omega))
    exact hM

/-- The second head's scores, groups and the last 4 blocks, and their maximum. -/
theorem p53_4 {K : ℕ → Fin 256 → EReal} (f3 f5 f7) (v124 : FVec Ideal S1024x256 .bf16) (v126 : FVec Ideal S8x1024 .f32) (v145 v146 : BitVec 32) (v157 : BitVec 1) (v158 : BitVec 32)
    (hK : ∀ (r : Fin 8192) (d : Fin 256), arg3.view.read (Elt Ideal) f3 (ix3 0 r d) = K r.val d) (hW : MaskOk (arg5.view.read (Elt Ideal) f5)) (h0 : ∀ j, v126 j = ⊥) (hr : (i 1).val % 4 = 1) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Ideal)) 𝒱₀ (c : Thread nD τ) none) Set.univ (k0_part53 i arg2 harg2 arg3 harg3 arg4 harg4 arg5 harg5 arg6 harg6 arg7 harg7 arg8 harg8 v124 v126 v145 v146 v157 v158)
        (fun r => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ ⌜SInvH (sc K v124 (i 1).val) (2 * (i 1).val + 1) (arg7.view.read (Elt Ideal) g7)⌝ ∗ ⌜∀ cc, r.2.2.1 (ix2 0 cc) = mx (sc K v124 (i 1).val) (2 * (i 1).val + 2) cc⌝) : sProp 𝕄G)) := by
  have hc8 := (k0_cond8_iff i).2 (by omega)
  have hc9 := (k0_cond9_iff i).not.2 (not_not.2 hr)
  have hR := rows_load arg3.view f3 (N := 1536) (k0_off49_inb i hc8 hc9) (k0_off49_eq i) hK
  have hR2 := rows_load arg3.view f3 (N := 512) (k0_off51_inb i hc8 hc9) (k0_off51_eq i) hK
  have hW' := ld_mask arg5.view f5 inb_S1x512x512_S1x512x512_0_0_0 hW rfl
  rw [k0_part53_eq_skeleton]
  unfold k0_part53_skel
  iintro ⟨H3, H5, H7⟩
  sl_exec
  sl_for (fun (k : ℕ) (acc : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v124 (i 1).val) (8 * k) (arg7.view.read (Elt Ideal) g7)⌝ ∗ ⌜MInv (sc K v124 (i 1).val) (8 * k) acc⌝) : sProp 𝕄G)) $$ [H3 H7]
  · intro k acc
    iintro ⟨%g7, H3, H7, %hS, %hM⟩
    iapply (t5_trip c i arg2 harg2 arg3 harg3 arg4 harg4 arg5 harg5 arg6 harg6 arg7 harg7 arg8 harg8 f3 g7 v124 v126 v145 v146 v157 v158 k acc hK hS hM) $$ [H3 H7]
    isplitl [H3]; · iexact H3
    iexact H7
  · iexists f7
    isplitl [H3]; · iexact H3
    isplitl [H7]; · iexact H7
    isplitr
    · ipureintro; exact S_init _ _
    · ipureintro; exact M_init _ h0
  iintro %acc ⟨%g7, H3, H7, %hS, %hM⟩
  have hS : SInv (sc K v124 (i 1).val) (8 * ((i 1).val / 4)) (arg7.view.read (Elt Ideal) g7) := k0_t5_trips i ▸ hS
  have hM : MInv (sc K v124 (i 1).val) (8 * ((i 1).val / 4)) acc := k0_t5_trips i ▸ hM
  sl_for0 (k0_t6_trips i)
  sl_exec
  sl_step
  iexists _
  isplitl [H3]; · iexact H3
  isplitl [H5]; · iexact H5
  isplitl [H7]; · iexact H7
  isplitr
  · ipureintro
    refine SH_cast (m := 8 * ((i 1).val / 4) + 3) (by omega) ?_
    refine S_half arg7.view _ _ (n := 8 * ((i 1).val / 4) + 3) ?_ (k0_off52_eq i) (half hR2 (by omega) (by omega) hW')
    refine S_step arg7.view _ _ (n := 8 * ((i 1).val / 4) + 2) ?_ (k0_off50_eq2 i) (diag (h3 := by decide) (h4 := by decide) (h5 := by decide) (h6 := concatenates_S512x512_S512x512_S512x1024_d1) (pre_1536 (h2 := by decide) (by decide) (rows_1536 hR) (by omega)) (by omega) hW')
    refine S_step arg7.view _ _ (n := 8 * ((i 1).val / 4) + 1) ?_ (k0_off50_eq1 i) (blk_1536 (h2 := by decide) (by decide) (rows_1536 hR) (by omega) (by omega))
    refine S_step arg7.view _ _ (n := 8 * ((i 1).val / 4) + 0) ?_ (k0_off50_eq0 i) (blk_1536 (h2 := by decide) (by decide) (rows_1536 hR) (by omega) (by omega))
    exact hS
  · ipureintro
    intro cc
    refine M_mx (h2 := .inl rfl) (h3 := rfl) (M_cast (m := 8 * ((i 1).val / 4) + 3 + 1) (by omega) ?_) cc
    refine M_half (hc := concatenates_S8x512_S8x512_S8x1024_d1) (n := 8 * ((i 1).val / 4) + 3) ?_ (half hR2 (by omega) (by omega) hW') (low (by omega))
    refine M_step (n := 8 * ((i 1).val / 4) + 2) ?_ (diag (h3 := by decide) (h4 := by decide) (h5 := by decide) (h6 := concatenates_S512x512_S512x512_S512x1024_d1) (pre_1536 (h2 := by decide) (by decide) (rows_1536 hR) (by omega)) (by omega) hW')
    refine M_step (n := 8 * ((i 1).val / 4) + 1) ?_ (blk_1536 (h2 := by decide) (by decide) (rows_1536 hR) (by omega) (by omega))
    refine M_step (n := 8 * ((i 1).val / 4) + 0) ?_ (blk_1536 (h2 := by decide) (by decide) (rows_1536 hR) (by omega) (by omega))
    exact hM

/-- The second head's scores, groups and the last 2 blocks, and their maximum. -/
theorem p53_2 {K : ℕ → Fin 256 → EReal} (f3 f5 f7) (v124 : FVec Ideal S1024x256 .bf16) (v126 : FVec Ideal S8x1024 .f32) (v145 v146 : BitVec 32) (v157 : BitVec 1) (v158 : BitVec 32)
    (hK : ∀ (r : Fin 8192) (d : Fin 256), arg3.view.read (Elt Ideal) f3 (ix3 0 r d) = K r.val d) (hW : MaskOk (arg5.view.read (Elt Ideal) f5)) (h0 : ∀ j, v126 j = ⊥) (hr : (i 1).val % 4 = 0) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Ideal)) 𝒱₀ (c : Thread nD τ) none) Set.univ (k0_part53 i arg2 harg2 arg3 harg3 arg4 harg4 arg5 harg5 arg6 harg6 arg7 harg7 arg8 harg8 v124 v126 v145 v146 v157 v158)
        (fun r => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ ⌜SInvH (sc K v124 (i 1).val) (2 * (i 1).val + 1) (arg7.view.read (Elt Ideal) g7)⌝ ∗ ⌜∀ cc, r.2.2.1 (ix2 0 cc) = mx (sc K v124 (i 1).val) (2 * (i 1).val + 2) cc⌝) : sProp 𝕄G)) := by
  have hc8 := (k0_cond8_iff i).not.2 (not_not.2 hr)
  have hR := rows_load arg3.view f3 (N := 512) (k0_off53_inb i hc8) (k0_off53_eq i) hK
  have hR2 := rows_load arg3.view f3 (N := 512) (k0_off55_inb i hc8) (k0_off55_eq i) hK
  have hW' := ld_mask arg5.view f5 inb_S1x512x512_S1x512x512_0_0_0 hW rfl
  rw [k0_part53_eq_skeleton]
  unfold k0_part53_skel
  iintro ⟨H3, H5, H7⟩
  sl_exec
  sl_for (fun (k : ℕ) (acc : FVec Ideal S8x1024 .f32) => (iprop(∃ g7, (arg3.view.loc (c : Thread nD τ) ↦[arg3.view.set]{fullShare} f3) ∗ (arg7.view.loc (c : Thread nD τ) ↦[arg7.view.set]{fullShare} g7) ∗ ⌜SInv (sc K v124 (i 1).val) (8 * k) (arg7.view.read (Elt Ideal) g7)⌝ ∗ ⌜MInv (sc K v124 (i 1).val) (8 * k) acc⌝) : sProp 𝕄G)) $$ [H3 H7]
  · intro k acc
    iintro ⟨%g7, H3, H7, %hS, %hM⟩
    iapply (t5_trip c i arg2 harg2 arg3 harg3 arg4 harg4 arg5 harg5 arg6 harg6 arg7 harg7 arg8 harg8 f3 g7 v124 v126 v145 v146 v157 v158 k acc hK hS hM) $$ [H3 H7]
    isplitl [H3]; · iexact H3
    iexact H7
  · iexists f7
    isplitl [H3]; · iexact H3
    isplitl [H7]; · iexact H7
    isplitr
    · ipureintro; exact S_init _ _
    · ipureintro; exact M_init _ h0
  iintro %acc ⟨%g7, H3, H7, %hS, %hM⟩
  have hS : SInv (sc K v124 (i 1).val) (8 * ((i 1).val / 4)) (arg7.view.read (Elt Ideal) g7) := k0_t5_trips i ▸ hS
  have hM : MInv (sc K v124 (i 1).val) (8 * ((i 1).val / 4)) acc := k0_t5_trips i ▸ hM
  sl_for0 (k0_t6_trips i)
  sl_exec
  sl_step
  iexists _
  isplitl [H3]; · iexact H3
  isplitl [H5]; · iexact H5
  isplitl [H7]; · iexact H7
  isplitr
  · ipureintro
    refine SH_cast (m := 8 * ((i 1).val / 4) + 1) (by omega) ?_
    refine S_half arg7.view _ _ (n := 8 * ((i 1).val / 4) + 1) ?_ (k0_off56_eq i) (half hR2 (by omega) (by omega) hW')
    refine S_step arg7.view _ _ (n := 8 * ((i 1).val / 4) + 0) ?_ (k0_off54_eq i) (diag (h3 := by decide) (h4 := by decide) (h5 := by decide) (h6 := concatenates_S512x512_S512x512_S512x1024_d1) (rows_512 hR) (by omega) hW')
    exact hS
  · ipureintro
    intro cc
    refine M_mx (h2 := .inl rfl) (h3 := rfl) (M_cast (m := 8 * ((i 1).val / 4) + 1 + 1) (by omega) ?_) cc
    refine M_half (hc := concatenates_S8x512_S8x512_S8x1024_d1) (n := 8 * ((i 1).val / 4) + 1) ?_ (half hR2 (by omega) (by omega) hW') (low (by omega))
    refine M_step (n := 8 * ((i 1).val / 4) + 0) ?_ (diag (h3 := by decide) (h4 := by decide) (h5 := by decide) (h6 := concatenates_S512x512_S512x512_S512x1024_d1) (rows_512 hR) (by omega) hW')
    exact hM

end Cert.KernelIdeal.Run
-- ==== Proof.Run3.lean ====
module

public import proofs.«01_k».proof.Proof.Off
public import proofs.«01_k».proof.Proof.Sem
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.VecWindow
public import proofs.«01_k».proof.Proof.Run2
@[expose] public section

set_option maxRecDepth 16384
set_option maxHeartbeats 4000000
set_option pp.maxSteps 300
noncomputable section

/-! The body of one grid point, both heads. -/

namespace Cert.KernelIdeal.Run

open Cert.KernelIdeal Cert.KernelIdeal.Gen Cert.KernelIdeal.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

variable (c : Dev nD) (i : grid0.Coords) (arg2 : Memref sig .tc .vmem S1x1024x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x512x512 .f32) (harg5 : arg5.IsWhole) (arg6 : Memref sig .tc .vmem S1x1024x128 .bf16) (harg6 : arg6.IsWhole)
  (arg7 : Memref sig .tc .vmem S16x512x1024 .f32) (harg7 : arg7.IsWhole) (arg8 : Memref sig .tc .vmem S16x128x512 .bf16) (harg8 : arg8.IsWhole)

/-- A part's triple, and the rest from its postcondition. -/
theorem seq {α β : Type} {p : Prog (TpuEff nD τ sig (Elt Ideal) Λ₀ .tc) α} {k : α → Prog (TpuEff nD τ sig (Elt Ideal) Λ₀ .tc) β} {P : sProp 𝕄G} {R : α → sProp 𝕄G} {Q : β → sProp 𝕄G}
    (h : P ⊢ wp frame (wpE (defs₀ (F := Ideal)) 𝒱₀ (c : Thread nD τ) none) Set.univ p R) :
    iprop(P ∗ (∀ a, R a -∗ wp frame (wpE (defs₀ (F := Ideal)) 𝒱₀ (c : Thread nD τ) none) Set.univ (k a) Q))
      ⊢ wp frame (wpE (defs₀ (F := Ideal)) 𝒱₀ (c : Thread nD τ) none) Set.univ (p >>= k) Q := by
  rw [wp_bind]
  iintro ⟨HP, HQ⟩
  iapply wp_wand_r
  isplitl [HP]
  · iapply h $$ HP
  iexact HQ

/-- The first query block of a pair of heads transposes the values and takes the queries. -/
theorem p49_first {V : ℕ → Fin 128 → EReal} (f2 f4 f8) (hV4 : ∀ (r : Fin 8192) d, arg4.view.read (Elt Ideal) f4 (ix3 0 r d) = V r.val d) (h : (i 1).val = 0) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Ideal)) 𝒱₀ (c : Thread nD τ) none) Set.univ (k0_part49 i arg2 harg2 arg3 harg3 arg4 harg4 arg5 harg5 arg6 harg6 arg7 harg7 arg8 harg8)
        (fun r => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8) ∗ ⌜VInv V 16 (arg8.view.read (Elt Ideal) g8)⌝ ∗ ⌜k0_pay326 r.2.1 r.2.2.1 = headQ (arg2.view.read (Elt Ideal) f2) 1⌝ ∗ ⌜r.2.2.2.1 = headQ (arg2.view.read (Elt Ideal) f2) 0⌝
          ∗ ⌜∀ j, r.2.2.2.2.1 j = ⊥⌝ ∗ ⌜∀ j, r.2.2.2.2.2.1 j = 0⌝ ∗ ⌜∀ j, r.2.2.2.2.2.2.1 j = 0⌝) : sProp 𝕄G)) := by
  have hz := (z_iff i).2 h
  rw [k0_part49_eq_skeleton]
  unfold k0_part49_skel
  iintro ⟨H2, H4, H8⟩
  sl_exec
  sl_step
  iexists _
  isplitl [H2]; · iexact H2
  isplitl [H4]; · iexact H4
  isplitl [H8]; · iexact H8
  isplitr
  · ipureintro
    refine V_step arg8.view _ _ (n := 15) ?_ rfl (ld_v arg4.view f4 _ rfl (by decide) hV4)
    refine V_step arg8.view _ _ (n := 14) ?_ rfl (ld_v arg4.view f4 _ rfl (by decide) hV4)
    refine V_step arg8.view _ _ (n := 13) ?_ rfl (ld_v arg4.view f4 _ rfl (by decide) hV4)
    refine V_step arg8.view _ _ (n := 12) ?_ rfl (ld_v arg4.view f4 _ rfl (by decide) hV4)
    refine V_step arg8.view _ _ (n := 11) ?_ rfl (ld_v arg4.view f4 _ rfl (by decide) hV4)
    refine V_step arg8.view _ _ (n := 10) ?_ rfl (ld_v arg4.view f4 _ rfl (by decide) hV4)
    refine V_step arg8.view _ _ (n := 9) ?_ rfl (ld_v arg4.view f4 _ rfl (by decide) hV4)
    refine V_step arg8.view _ _ (n := 8) ?_ rfl (ld_v arg4.view f4 _ rfl (by decide) hV4)
    refine V_step arg8.view _ _ (n := 7) ?_ rfl (ld_v arg4.view f4 _ rfl (by decide) hV4)
    refine V_step arg8.view _ _ (n := 6) ?_ rfl (ld_v arg4.view f4 _ rfl (by decide) hV4)
    refine V_step arg8.view _ _ (n := 5) ?_ rfl (ld_v arg4.view f4 _ rfl (by decide) hV4)
    refine V_step arg8.view _ _ (n := 4) ?_ rfl (ld_v arg4.view f4 _ rfl (by decide) hV4)
    refine V_step arg8.view _ _ (n := 3) ?_ rfl (ld_v arg4.view f4 _ rfl (by decide) hV4)
    refine V_step arg8.view _ _ (n := 2) ?_ rfl (ld_v arg4.view f4 _ rfl (by decide) hV4)
    refine V_step arg8.view _ _ (n := 1) ?_ rfl (ld_v arg4.view f4 _ rfl (by decide) hV4)
    refine V_step arg8.view _ _ (n := 0) ?_ rfl (ld_v arg4.view f4 _ rfl (by decide) hV4)
    exact V_init _ _
  isplitr
  · ipureintro
    dsimp only
    refine Eq.trans (q_head1 _) ?_
    exact congrArg (headQ · 1) (ld_q arg2.view f2 _ rfl)
  isplitr
  · ipureintro
    refine (q_head0 _).trans ?_
    exact congrArg (headQ · 0) (ld_q arg2.view f2 _ rfl)
  isplitr
  · ipureintro; exact start0
  isplitr
  · ipureintro; exact zero0
  · ipureintro; exact zero1

/-- A later query block finds the values transposed. -/
theorem p49_later {V : ℕ → Fin 128 → EReal} (f2 f4 f8) (hV : VInv V 16 (arg8.view.read (Elt Ideal) f8)) (h : (i 1).val ≠ 0) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Ideal)) 𝒱₀ (c : Thread nD τ) none) Set.univ (k0_part49 i arg2 harg2 arg3 harg3 arg4 harg4 arg5 harg5 arg6 harg6 arg7 harg7 arg8 harg8)
        (fun r => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8) ∗ ⌜VInv V 16 (arg8.view.read (Elt Ideal) g8)⌝ ∗ ⌜k0_pay326 r.2.1 r.2.2.1 = headQ (arg2.view.read (Elt Ideal) f2) 1⌝ ∗ ⌜r.2.2.2.1 = headQ (arg2.view.read (Elt Ideal) f2) 0⌝
          ∗ ⌜∀ j, r.2.2.2.2.1 j = ⊥⌝ ∗ ⌜∀ j, r.2.2.2.2.2.1 j = 0⌝ ∗ ⌜∀ j, r.2.2.2.2.2.2.1 j = 0⌝) : sProp 𝕄G)) := by
  have hz := (z_iff i).not.2 h
  rw [k0_part49_eq_skeleton]
  unfold k0_part49_skel
  iintro ⟨H2, H4, H8⟩
  sl_exec
  sl_step
  iexists _
  isplitl [H2]; · iexact H2
  isplitl [H4]; · iexact H4
  isplitl [H8]; · iexact H8
  isplitr
  · ipureintro
    exact hV
  isplitr
  · ipureintro
    dsimp only
    refine Eq.trans (q_head1 _) ?_
    exact congrArg (headQ · 1) (ld_q arg2.view f2 _ rfl)
  isplitr
  · ipureintro
    refine (q_head0 _).trans ?_
    exact congrArg (headQ · 0) (ld_q arg2.view f2 _ rfl)
  isplitr
  · ipureintro; exact start0
  isplitr
  · ipureintro; exact zero0
  · ipureintro; exact zero1

/-- The start of the body: the transposed values and the first head's queries. -/
theorem p49 {V : ℕ → Fin 128 → EReal} (f2 f4 f8) (hV4 : ∀ (r : Fin 8192) d, arg4.view.read (Elt Ideal) f4 (ix3 0 r d) = V r.val d) (hp : (i 1).val ≠ 0 → VInv V 16 (arg8.view.read (Elt Ideal) f8)) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Ideal)) 𝒱₀ (c : Thread nD τ) none) Set.univ (k0_part49 i arg2 harg2 arg3 harg3 arg4 harg4 arg5 harg5 arg6 harg6 arg7 harg7 arg8 harg8)
        (fun r => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8) ∗ ⌜VInv V 16 (arg8.view.read (Elt Ideal) g8)⌝ ∗ ⌜k0_pay326 r.2.1 r.2.2.1 = headQ (arg2.view.read (Elt Ideal) f2) 1⌝ ∗ ⌜r.2.2.2.1 = headQ (arg2.view.read (Elt Ideal) f2) 0⌝
          ∗ ⌜∀ j, r.2.2.2.2.1 j = ⊥⌝ ∗ ⌜∀ j, r.2.2.2.2.2.1 j = 0⌝ ∗ ⌜∀ j, r.2.2.2.2.2.2.1 j = 0⌝) : sProp 𝕄G)) := by
  by_cases h : (i 1).val = 0
  · exact p49_first c i arg2 harg2 arg3 harg3 arg4 harg4 arg5 harg5 arg6 harg6 arg7 harg7 arg8 harg8 f2 f4 f8 hV4 h
  · exact p49_later c i arg2 harg2 arg3 harg3 arg4 harg4 arg5 harg5 arg6 harg6 arg7 harg7 arg8 harg8 f2 f4 f8 (hp h) h

/-- The second head's queries and its sums' start. -/
theorem p52 (arg1 : BitVec 32) (v4 : FVec Ideal S1024x256 .bf16) (v5 : IVec S1024x256 32) (P : sProp 𝕄G) :
    P ⊢ wp frame (wpE (defs₀ (F := Ideal)) 𝒱₀ (c : Thread nD τ) none) Set.univ (k0_part52 i arg2 harg2 arg3 harg3 arg4 harg4 arg5 harg5 arg6 harg6 arg7 harg7 arg8 harg8 arg1 v4 v5)
        (fun r => (iprop(P ∗ ⌜r.1 = k0_pay326 v4 v5⌝ ∗ ⌜∀ j, r.2.1 j = ⊥⌝ ∗ ⌜∀ j, r.2.2.1 j = 0⌝ ∗ ⌜∀ j, r.2.2.2.1 j = 0⌝) : sProp 𝕄G)) := by
  rw [k0_part52_eq_skeleton]
  unfold k0_part52_skel
  iintro HP
  sl_exec
  sl_step
  isplitl [HP]; · iexact HP
  isplitr
  · ipureintro; rfl
  isplitr
  · ipureintro; exact start1
  isplitr
  · ipureintro; exact zero2
  · ipureintro; exact zero3

/-- The whole body but its last store, at a query block whose last group has 8 key blocks. -/
theorem p54_8 {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) (hr : (i 1).val % 4 = 3) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part54 i arg2 harg2 arg3 harg3 arg4 harg4 arg5 harg5 arg6 harg6 arg7 harg7 arg8 harg8)
        (fun (r : FVec Ideal S1x1024x128 .bf16) => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) r⌝) : sProp 𝕄G)) := by
  have hc11 := (k0_cond11_iff i).2 (by omega)
  have hc12 := (k0_cond12_iff i).2 (by omega)
  have hc13 := (k0_cond13_iff i).2 (by omega)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8 hV4 hp))
  isplitl [H2 H4 H8]
  · isplitl [H2]; · iexact H2
    isplitl [H4]; · iexact H4
    iexact H8
  iintro %r1 ⟨%g8, H2, H4, H8, %hV, %hq1, %hq0, %hs0, %hz0, %hz1⟩
  obtain ⟨arg1, v4, v5, v12, v14, v15, v16, v33, c8, v34, v35⟩ := r1
  dsimp only at hq1 hq0 hs0 hz0 hz1 ⊢
  subst hq0
  iapply (seq c (p50 c i arg2 harg2 arg3 harg3 arg4 harg4 arg5 harg5 arg6 harg6 arg7 harg7 arg8 harg8 f3 f7 _ v14 v33 c8 v34 v35 hK hs0))
  isplitl [H3 H7]
  · isplitl [H3]; · iexact H3
    iexact H7
  iintro %r2 ⟨%g7, H3, H7, %hS, %hM⟩
  obtain ⟨v50, v52, v53, v60, v77⟩ := r2
  dsimp only at hM ⊢
  iapply (seq c (p51_8 c i arg2 harg2 arg3 harg3 arg4 harg4 arg5 harg5 arg6 harg6 arg7 harg7 arg8 harg8 f3 f5 g7 g8 _ v15 v16 v50 v52 v53 v60 v77 hK hW hV hS hM hz0 hz1 hr))
  isplitl [H3 H5 H7 H8]
  · isplitl [H3]; · iexact H3
    isplitl [H5]; · iexact H5
    isplitl [H7]; · iexact H7
    iexact H8
  iintro %v117 ⟨%g7, H3, H5, H7, H8, %ho0⟩
  iapply (seq c (p52 c i arg2 harg2 arg3 harg3 arg4 harg4 arg5 harg5 arg6 harg6 arg7 harg7 arg8 harg8 arg1 v4 v5 _))
  isplitl [H3]; · iexact H3
  iintro %r3 ⟨H3, %hq, %hs1, %hz2, %hz3⟩
  obtain ⟨v124, v126, v127, v128, v145, v146, v157, v158⟩ := r3
  dsimp only at hq hs1 hz2 hz3 ⊢
  rw [hq1] at hq
  subst hq
  iapply (seq c (p53_8 c i arg2 harg2 arg3 harg3 arg4 harg4 arg5 harg5 arg6 harg6 arg7 harg7 arg8 harg8 f3 f5 g7 _ v126 v145 v146 v157 v158 hK hW hs1 hr))
  isplitl [H3 H5 H7]
  · isplitl [H3]; · iexact H3
    isplitl [H5]; · iexact H5
    iexact H7
  iintro %r4 ⟨%g7, H3, H5, H7, %hH, %hm⟩
  obtain ⟨v164, v165, v195, c0, v196, c1⟩ := r4
  dsimp only at hm ⊢
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} g8) ∗ ⌜SInvH (sc K (headQ (arg2.view.read (Elt Ideal) f2) 1) (i 1).val) (2 * (i 1).val + 1) (arg7.view.read (Elt Ideal) g7)⌝ ∗ ⌜LInv (sc K (headQ (arg2.view.read (Elt Ideal) f2) 1) (i 1).val) (mx (sc K (headQ (arg2.view.read (Elt Ideal) f2) 1) (i 1).val) (2 * (i 1).val + 2)) (8 * k) acc.1⌝ ∗ ⌜AInv (sc K (headQ (arg2.view.read (Elt Ideal) f2) 1) (i 1).val) (mx (sc K (headQ (arg2.view.read (Elt Ideal) f2) 1) (i 1).val) (2 * (i 1).val + 2)) (lane V 64 (by decide)) (8 * k) acc.2⌝) : sProp 𝕄G)) $$ [H7 H8]
  · intro k acc
    iintro ⟨%g7, H7, H8, %hH, %hL, %hA⟩
    iapply (t7_trip (N := 2 * (i 1).val + 1) (μ := (mx (sc K (headQ (arg2.view.read (Elt Ideal) f2) 1) (i 1).val) (2 * (i 1).val + 2))) c i arg2 harg2 arg3 harg3 arg4 harg4 arg5 harg5 arg6 harg6 arg7 harg7 arg8 harg8 g7 g8 v195 c0 k acc hV hm (by omega) hH hL hA) $$ [H7 H8]
    isplitl [H7]; · iexact H7
    iexact H8
  · iexists _
    isplitl [H7]; · iexact H7
    isplitl [H8]; · iexact H8
    isplitr
    · ipureintro; exact hH
    isplitr
    · ipureintro; exact L_init hz2
    · ipureintro; exact A_init hz3
  iintro %acc ⟨%g7, H7, H8, %hH, %hL, %hA⟩
  obtain ⟨a1, a2⟩ := acc
  have hL : LInv (sc K (headQ (arg2.view.read (Elt Ideal) f2) 1) (i 1).val) (mx (sc K (headQ (arg2.view.read (Elt Ideal) f2) 1) (i 1).val) (2 * (i 1).val + 2)) (8 * ((i 1).val / 4)) a1 := k0_t7_trips i ▸ hL
  have hA : AInv (sc K (headQ (arg2.view.read (Elt Ideal) f2) 1) (i 1).val) (mx (sc K (headQ (arg2.view.read (Elt Ideal) f2) 1) (i 1).val) (2 * (i 1).val + 2)) (lane V 64 (by decide)) (8 * ((i 1).val / 4)) a2 := k0_t7_trips i ▸ hA
  have hV' := V_all hV
  replace hH := SH_cast (n := 8 * ((i 1).val / 4) + 7) (by omega) hH
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · ipureintro; exact hV
  ipureintro
  refine out_ok ho0 (fun d cc => hd_out ?_ ?_ d cc)
  · skip
    refine L_cast (m := 8 * ((i 1).val / 4) + 7 + 1) (by omega) ?_
    refine L_half (hc := concatenates_S8x512_S8x512_S8x1024_d1) (n := 8 * ((i 1).val / 4) + 7) ?_ (e_half (ld_half arg7.view g7 _ hH (k0_off63_eq i)) hm) (low (by omega))
    refine L_step (n := 8 * ((i 1).val / 4) + 6) ?_ (e_full (ld_full arg7.view g7 _ hH (k0_off61_eq6 i) (by omega)) hm)
    refine L_step (n := 8 * ((i 1).val / 4) + 5) ?_ (e_full (ld_full arg7.view g7 _ hH (k0_off61_eq5 i) (by omega)) hm)
    refine L_step (n := 8 * ((i 1).val / 4) + 4) ?_ (e_full (ld_full arg7.view g7 _ hH (k0_off61_eq4 i) (by omega)) hm)
    refine L_step (n := 8 * ((i 1).val / 4) + 3) ?_ (e_full (ld_full arg7.view g7 _ hH (k0_off61_eq3 i) (by omega)) hm)
    refine L_step (n := 8 * ((i 1).val / 4) + 2) ?_ (e_full (ld_full arg7.view g7 _ hH (k0_off61_eq2 i) (by omega)) hm)
    refine L_step (n := 8 * ((i 1).val / 4) + 1) ?_ (e_full (ld_full arg7.view g7 _ hH (k0_off61_eq1 i) (by omega)) hm)
    refine L_step (n := 8 * ((i 1).val / 4) + 0) ?_ (e_full (ld_full arg7.view g7 _ hH (k0_off61_eq0 i) (by omega)) hm)
    exact hL
  · skip
    refine A_cast (m := 8 * ((i 1).val / 4) + 7 + 1) (by omega) ?_
    refine A_half (hc := concatenates_S64x512_S64x512_S64x1024_d1) (n := 8 * ((i 1).val / 4) + 7) ?_ (ld_vt arg8.view g8 _ hV' (k0_off62_eq7 i) (by decide)) (e_half (ld_half arg7.view g7 _ hH (k0_off63_eq i)) hm) (low (by omega))
    refine A_step (n := 8 * ((i 1).val / 4) + 6) ?_ (ld_vt arg8.view g8 _ hV' (k0_off62_eq6 i) (by decide)) (e_full (ld_full arg7.view g7 _ hH (k0_off61_eq6 i) (by omega)) hm)
    refine A_step (n := 8 * ((i 1).val / 4) + 5) ?_ (ld_vt arg8.view g8 _ hV' (k0_off62_eq5 i) (by decide)) (e_full (ld_full arg7.view g7 _ hH (k0_off61_eq5 i) (by omega)) hm)
    refine A_step (n := 8 * ((i 1).val / 4) + 4) ?_ (ld_vt arg8.view g8 _ hV' (k0_off62_eq4 i) (by decide)) (e_full (ld_full arg7.view g7 _ hH (k0_off61_eq4 i) (by omega)) hm)
    refine A_step (n := 8 * ((i 1).val / 4) + 3) ?_ (ld_vt arg8.view g8 _ hV' (k0_off62_eq3 i) (by decide)) (e_full (ld_full arg7.view g7 _ hH (k0_off61_eq3 i) (by omega)) hm)
    refine A_step (n := 8 * ((i 1).val / 4) + 2) ?_ (ld_vt arg8.view g8 _ hV' (k0_off62_eq2 i) (by decide)) (e_full (ld_full arg7.view g7 _ hH (k0_off61_eq2 i) (by omega)) hm)
    refine A_step (n := 8 * ((i 1).val / 4) + 1) ?_ (ld_vt arg8.view g8 _ hV' (k0_off62_eq1 i) (by decide)) (e_full (ld_full arg7.view g7 _ hH (k0_off61_eq1 i) (by omega)) hm)
    refine A_step (n := 8 * ((i 1).val / 4) + 0) ?_ (ld_vt arg8.view g8 _ hV' (k0_off62_eq0 i) (by decide)) (e_full (ld_full arg7.view g7 _ hH (k0_off61_eq0 i) (by omega)) hm)
    exact hA

/-- The whole body but its last store, at a query block whose last group has 6 key blocks. -/
theorem p54_6 {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) (hr : (i 1).val % 4 = 2) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part54 i arg2 harg2 arg3 harg3 arg4 harg4 arg5 harg5 arg6 harg6 arg7 harg7 arg8 harg8)
        (fun (r : FVec Ideal S1x1024x128 .bf16) => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) r⌝) : sProp 𝕄G)) := by
  have hc11 := (k0_cond11_iff i).2 (by omega)
  have hc12 := (k0_cond12_iff i).2 (by omega)
  have hc13 := (k0_cond13_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8 hV4 hp))
  isplitl [H2 H4 H8]
  · isplitl [H2]; · iexact H2
    isplitl [H4]; · iexact H4
    iexact H8
  iintro %r1 ⟨%g8, H2, H4, H8, %hV, %hq1, %hq0, %hs0, %hz0, %hz1⟩
  obtain ⟨arg1, v4, v5, v12, v14, v15, v16, v33, c8, v34, v35⟩ := r1
  dsimp only at hq1 hq0 hs0 hz0 hz1 ⊢
  subst hq0
  iapply (seq c (p50 c i arg2 harg2 arg3 harg3 arg4 harg4 arg5 harg5 arg6 harg6 arg7 harg7 arg8 harg8 f3 f7 _ v14 v33 c8 v34 v35 hK hs0))
  isplitl [H3 H7]
  · isplitl [H3]; · iexact H3
    iexact H7
  iintro %r2 ⟨%g7, H3, H7, %hS, %hM⟩
  obtain ⟨v50, v52, v53, v60, v77⟩ := r2
  dsimp only at hM ⊢
  iapply (seq c (p51_6 c i arg2 harg2 arg3 harg3 arg4 harg4 arg5 harg5 arg6 harg6 arg7 harg7 arg8 harg8 f3 f5 g7 g8 _ v15 v16 v50 v52 v53 v60 v77 hK hW hV hS hM hz0 hz1 hr))
  isplitl [H3 H5 H7 H8]
  · isplitl [H3]; · iexact H3
    isplitl [H5]; · iexact H5
    isplitl [H7]; · iexact H7
    iexact H8
  iintro %v117 ⟨%g7, H3, H5, H7, H8, %ho0⟩
  iapply (seq c (p52 c i arg2 harg2 arg3 harg3 arg4 harg4 arg5 harg5 arg6 harg6 arg7 harg7 arg8 harg8 arg1 v4 v5 _))
  isplitl [H3]; · iexact H3
  iintro %r3 ⟨H3, %hq, %hs1, %hz2, %hz3⟩
  obtain ⟨v124, v126, v127, v128, v145, v146, v157, v158⟩ := r3
  dsimp only at hq hs1 hz2 hz3 ⊢
  rw [hq1] at hq
  subst hq
  iapply (seq c (p53_6 c i arg2 harg2 arg3 harg3 arg4 harg4 arg5 harg5 arg6 harg6 arg7 harg7 arg8 harg8 f3 f5 g7 _ v126 v145 v146 v157 v158 hK hW hs1 hr))
  isplitl [H3 H5 H7]
  · isplitl [H3]; · iexact H3
    isplitl [H5]; · iexact H5
    iexact H7
  iintro %r4 ⟨%g7, H3, H5, H7, %hH, %hm⟩
  obtain ⟨v164, v165, v195, c0, v196, c1⟩ := r4
  dsimp only at hm ⊢
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} g8) ∗ ⌜SInvH (sc K (headQ (arg2.view.read (Elt Ideal) f2) 1) (i 1).val) (2 * (i 1).val + 1) (arg7.view.read (Elt Ideal) g7)⌝ ∗ ⌜LInv (sc K (headQ (arg2.view.read (Elt Ideal) f2) 1) (i 1).val) (mx (sc K (headQ (arg2.view.read (Elt Ideal) f2) 1) (i 1).val) (2 * (i 1).val + 2)) (8 * k) acc.1⌝ ∗ ⌜AInv (sc K (headQ (arg2.view.read (Elt Ideal) f2) 1) (i 1).val) (mx (sc K (headQ (arg2.view.read (Elt Ideal) f2) 1) (i 1).val) (2 * (i 1).val + 2)) (lane V 64 (by decide)) (8 * k) acc.2⌝) : sProp 𝕄G)) $$ [H7 H8]
  · intro k acc
    iintro ⟨%g7, H7, H8, %hH, %hL, %hA⟩
    iapply (t7_trip (N := 2 * (i 1).val + 1) (μ := (mx (sc K (headQ (arg2.view.read (Elt Ideal) f2) 1) (i 1).val) (2 * (i 1).val + 2))) c i arg2 harg2 arg3 harg3 arg4 harg4 arg5 harg5 arg6 harg6 arg7 harg7 arg8 harg8 g7 g8 v195 c0 k acc hV hm (by omega) hH hL hA) $$ [H7 H8]
    isplitl [H7]; · iexact H7
    iexact H8
  · iexists _
    isplitl [H7]; · iexact H7
    isplitl [H8]; · iexact H8
    isplitr
    · ipureintro; exact hH
    isplitr
    · ipureintro; exact L_init hz2
    · ipureintro; exact A_init hz3
  iintro %acc ⟨%g7, H7, H8, %hH, %hL, %hA⟩
  obtain ⟨a1, a2⟩ := acc
  have hL : LInv (sc K (headQ (arg2.view.read (Elt Ideal) f2) 1) (i 1).val) (mx (sc K (headQ (arg2.view.read (Elt Ideal) f2) 1) (i 1).val) (2 * (i 1).val + 2)) (8 * ((i 1).val / 4)) a1 := k0_t7_trips i ▸ hL
  have hA : AInv (sc K (headQ (arg2.view.read (Elt Ideal) f2) 1) (i 1).val) (mx (sc K (headQ (arg2.view.read (Elt Ideal) f2) 1) (i 1).val) (2 * (i 1).val + 2)) (lane V 64 (by decide)) (8 * ((i 1).val / 4)) a2 := k0_t7_trips i ▸ hA
  have hV' := V_all hV
  replace hH := SH_cast (n := 8 * ((i 1).val / 4) + 5) (by omega) hH
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · ipureintro; exact hV
  ipureintro
  refine out_ok ho0 (fun d cc => hd_out ?_ ?_ d cc)
  · skip
    refine L_cast (m := 8 * ((i 1).val / 4) + 5 + 1) (by omega) ?_
    refine L_half (hc := concatenates_S8x512_S8x512_S8x1024_d1) (n := 8 * ((i 1).val / 4) + 5) ?_ (e_half (ld_half arg7.view g7 _ hH (k0_off66_eq i)) hm) (low (by omega))
    refine L_step (n := 8 * ((i 1).val / 4) + 4) ?_ (e_full (ld_full arg7.view g7 _ hH (k0_off64_eq4 i) (by omega)) hm)
    refine L_step (n := 8 * ((i 1).val / 4) + 3) ?_ (e_full (ld_full arg7.view g7 _ hH (k0_off64_eq3 i) (by omega)) hm)
    refine L_step (n := 8 * ((i 1).val / 4) + 2) ?_ (e_full (ld_full arg7.view g7 _ hH (k0_off64_eq2 i) (by omega)) hm)
    refine L_step (n := 8 * ((i 1).val / 4) + 1) ?_ (e_full (ld_full arg7.view g7 _ hH (k0_off64_eq1 i) (by omega)) hm)
    refine L_step (n := 8 * ((i 1).val / 4) + 0) ?_ (e_full (ld_full arg7.view g7 _ hH (k0_off64_eq0 i) (by omega)) hm)
    exact hL
  · skip
    refine A_cast (m := 8 * ((i 1).val / 4) + 5 + 1) (by omega) ?_
    refine A_half (hc := concatenates_S64x512_S64x512_S64x1024_d1) (n := 8 * ((i 1).val / 4) + 5) ?_ (ld_vt arg8.view g8 _ hV' (k0_off65_eq5 i) (by decide)) (e_half (ld_half arg7.view g7 _ hH (k0_off66_eq i)) hm) (low (by omega))
    refine A_step (n := 8 * ((i 1).val / 4) + 4) ?_ (ld_vt arg8.view g8 _ hV' (k0_off65_eq4 i) (by decide)) (e_full (ld_full arg7.view g7 _ hH (k0_off64_eq4 i) (by omega)) hm)
    refine A_step (n := 8 * ((i 1).val / 4) + 3) ?_ (ld_vt arg8.view g8 _ hV' (k0_off65_eq3 i) (by decide)) (e_full (ld_full arg7.view g7 _ hH (k0_off64_eq3 i) (by omega)) hm)
    refine A_step (n := 8 * ((i 1).val / 4) + 2) ?_ (ld_vt arg8.view g8 _ hV' (k0_off65_eq2 i) (by decide)) (e_full (ld_full arg7.view g7 _ hH (k0_off64_eq2 i) (by omega)) hm)
    refine A_step (n := 8 * ((i 1).val / 4) + 1) ?_ (ld_vt arg8.view g8 _ hV' (k0_off65_eq1 i) (by decide)) (e_full (ld_full arg7.view g7 _ hH (k0_off64_eq1 i) (by omega)) hm)
    refine A_step (n := 8 * ((i 1).val / 4) + 0) ?_ (ld_vt arg8.view g8 _ hV' (k0_off65_eq0 i) (by decide)) (e_full (ld_full arg7.view g7 _ hH (k0_off64_eq0 i) (by omega)) hm)
    exact hA

/-- The whole body but its last store, at a query block whose last group has 4 key blocks. -/
theorem p54_4 {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) (hr : (i 1).val % 4 = 1) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part54 i arg2 harg2 arg3 harg3 arg4 harg4 arg5 harg5 arg6 harg6 arg7 harg7 arg8 harg8)
        (fun (r : FVec Ideal S1x1024x128 .bf16) => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) r⌝) : sProp 𝕄G)) := by
  have hc11 := (k0_cond11_iff i).2 (by omega)
  have hc12 := (k0_cond12_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8 hV4 hp))
  isplitl [H2 H4 H8]
  · isplitl [H2]; · iexact H2
    isplitl [H4]; · iexact H4
    iexact H8
  iintro %r1 ⟨%g8, H2, H4, H8, %hV, %hq1, %hq0, %hs0, %hz0, %hz1⟩
  obtain ⟨arg1, v4, v5, v12, v14, v15, v16, v33, c8, v34, v35⟩ := r1
  dsimp only at hq1 hq0 hs0 hz0 hz1 ⊢
  subst hq0
  iapply (seq c (p50 c i arg2 harg2 arg3 harg3 arg4 harg4 arg5 harg5 arg6 harg6 arg7 harg7 arg8 harg8 f3 f7 _ v14 v33 c8 v34 v35 hK hs0))
  isplitl [H3 H7]
  · isplitl [H3]; · iexact H3
    iexact H7
  iintro %r2 ⟨%g7, H3, H7, %hS, %hM⟩
  obtain ⟨v50, v52, v53, v60, v77⟩ := r2
  dsimp only at hM ⊢
  iapply (seq c (p51_4 c i arg2 harg2 arg3 harg3 arg4 harg4 arg5 harg5 arg6 harg6 arg7 harg7 arg8 harg8 f3 f5 g7 g8 _ v15 v16 v50 v52 v53 v60 v77 hK hW hV hS hM hz0 hz1 hr))
  isplitl [H3 H5 H7 H8]
  · isplitl [H3]; · iexact H3
    isplitl [H5]; · iexact H5
    isplitl [H7]; · iexact H7
    iexact H8
  iintro %v117 ⟨%g7, H3, H5, H7, H8, %ho0⟩
  iapply (seq c (p52 c i arg2 harg2 arg3 harg3 arg4 harg4 arg5 harg5 arg6 harg6 arg7 harg7 arg8 harg8 arg1 v4 v5 _))
  isplitl [H3]; · iexact H3
  iintro %r3 ⟨H3, %hq, %hs1, %hz2, %hz3⟩
  obtain ⟨v124, v126, v127, v128, v145, v146, v157, v158⟩ := r3
  dsimp only at hq hs1 hz2 hz3 ⊢
  rw [hq1] at hq
  subst hq
  iapply (seq c (p53_4 c i arg2 harg2 arg3 harg3 arg4 harg4 arg5 harg5 arg6 harg6 arg7 harg7 arg8 harg8 f3 f5 g7 _ v126 v145 v146 v157 v158 hK hW hs1 hr))
  isplitl [H3 H5 H7]
  · isplitl [H3]; · iexact H3
    isplitl [H5]; · iexact H5
    iexact H7
  iintro %r4 ⟨%g7, H3, H5, H7, %hH, %hm⟩
  obtain ⟨v164, v165, v195, c0, v196, c1⟩ := r4
  dsimp only at hm ⊢
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} g8) ∗ ⌜SInvH (sc K (headQ (arg2.view.read (Elt Ideal) f2) 1) (i 1).val) (2 * (i 1).val + 1) (arg7.view.read (Elt Ideal) g7)⌝ ∗ ⌜LInv (sc K (headQ (arg2.view.read (Elt Ideal) f2) 1) (i 1).val) (mx (sc K (headQ (arg2.view.read (Elt Ideal) f2) 1) (i 1).val) (2 * (i 1).val + 2)) (8 * k) acc.1⌝ ∗ ⌜AInv (sc K (headQ (arg2.view.read (Elt Ideal) f2) 1) (i 1).val) (mx (sc K (headQ (arg2.view.read (Elt Ideal) f2) 1) (i 1).val) (2 * (i 1).val + 2)) (lane V 64 (by decide)) (8 * k) acc.2⌝) : sProp 𝕄G)) $$ [H7 H8]
  · intro k acc
    iintro ⟨%g7, H7, H8, %hH, %hL, %hA⟩
    iapply (t7_trip (N := 2 * (i 1).val + 1) (μ := (mx (sc K (headQ (arg2.view.read (Elt Ideal) f2) 1) (i 1).val) (2 * (i 1).val + 2))) c i arg2 harg2 arg3 harg3 arg4 harg4 arg5 harg5 arg6 harg6 arg7 harg7 arg8 harg8 g7 g8 v195 c0 k acc hV hm (by omega) hH hL hA) $$ [H7 H8]
    isplitl [H7]; · iexact H7
    iexact H8
  · iexists _
    isplitl [H7]; · iexact H7
    isplitl [H8]; · iexact H8
    isplitr
    · ipureintro; exact hH
    isplitr
    · ipureintro; exact L_init hz2
    · ipureintro; exact A_init hz3
  iintro %acc ⟨%g7, H7, H8, %hH, %hL, %hA⟩
  obtain ⟨a1, a2⟩ := acc
  have hL : LInv (sc K (headQ (arg2.view.read (Elt Ideal) f2) 1) (i 1).val) (mx (sc K (headQ (arg2.view.read (Elt Ideal) f2) 1) (i 1).val) (2 * (i 1).val + 2)) (8 * ((i 1).val / 4)) a1 := k0_t7_trips i ▸ hL
  have hA : AInv (sc K (headQ (arg2.view.read (Elt Ideal) f2) 1) (i 1).val) (mx (sc K (headQ (arg2.view.read (Elt Ideal) f2) 1) (i 1).val) (2 * (i 1).val + 2)) (lane V 64 (by decide)) (8 * ((i 1).val / 4)) a2 := k0_t7_trips i ▸ hA
  have hV' := V_all hV
  replace hH := SH_cast (n := 8 * ((i 1).val / 4) + 3) (by omega) hH
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · ipureintro; exact hV
  ipureintro
  refine out_ok ho0 (fun d cc => hd_out ?_ ?_ d cc)
  · skip
    refine L_cast (m := 8 * ((i 1).val / 4) + 3 + 1) (by omega) ?_
    refine L_half (hc := concatenates_S8x512_S8x512_S8x1024_d1) (n := 8 * ((i 1).val / 4) + 3) ?_ (e_half (ld_half arg7.view g7 _ hH (k0_off69_eq i)) hm) (low (by omega))
    refine L_step (n := 8 * ((i 1).val / 4) + 2) ?_ (e_full (ld_full arg7.view g7 _ hH (k0_off67_eq2 i) (by omega)) hm)
    refine L_step (n := 8 * ((i 1).val / 4) + 1) ?_ (e_full (ld_full arg7.view g7 _ hH (k0_off67_eq1 i) (by omega)) hm)
    refine L_step (n := 8 * ((i 1).val / 4) + 0) ?_ (e_full (ld_full arg7.view g7 _ hH (k0_off67_eq0 i) (by omega)) hm)
    exact hL
  · skip
    refine A_cast (m := 8 * ((i 1).val / 4) + 3 + 1) (by omega) ?_
    refine A_half (hc := concatenates_S64x512_S64x512_S64x1024_d1) (n := 8 * ((i 1).val / 4) + 3) ?_ (ld_vt arg8.view g8 _ hV' (k0_off68_eq3 i) (by decide)) (e_half (ld_half arg7.view g7 _ hH (k0_off69_eq i)) hm) (low (by omega))
    refine A_step (n := 8 * ((i 1).val / 4) + 2) ?_ (ld_vt arg8.view g8 _ hV' (k0_off68_eq2 i) (by decide)) (e_full (ld_full arg7.view g7 _ hH (k0_off67_eq2 i) (by omega)) hm)
    refine A_step (n := 8 * ((i 1).val / 4) + 1) ?_ (ld_vt arg8.view g8 _ hV' (k0_off68_eq1 i) (by decide)) (e_full (ld_full arg7.view g7 _ hH (k0_off67_eq1 i) (by omega)) hm)
    refine A_step (n := 8 * ((i 1).val / 4) + 0) ?_ (ld_vt arg8.view g8 _ hV' (k0_off68_eq0 i) (by decide)) (e_full (ld_full arg7.view g7 _ hH (k0_off67_eq0 i) (by omega)) hm)
    exact hA

/-- The whole body but its last store, at a query block whose last group has 2 key blocks. -/
theorem p54_2 {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) (hr : (i 1).val % 4 = 0) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part54 i arg2 harg2 arg3 harg3 arg4 harg4 arg5 harg5 arg6 harg6 arg7 harg7 arg8 harg8)
        (fun (r : FVec Ideal S1x1024x128 .bf16) => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) r⌝) : sProp 𝕄G)) := by
  have hc11 := (k0_cond11_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8 hV4 hp))
  isplitl [H2 H4 H8]
  · isplitl [H2]; · iexact H2
    isplitl [H4]; · iexact H4
    iexact H8
  iintro %r1 ⟨%g8, H2, H4, H8, %hV, %hq1, %hq0, %hs0, %hz0, %hz1⟩
  obtain ⟨arg1, v4, v5, v12, v14, v15, v16, v33, c8, v34, v35⟩ := r1
  dsimp only at hq1 hq0 hs0 hz0 hz1 ⊢
  subst hq0
  iapply (seq c (p50 c i arg2 harg2 arg3 harg3 arg4 harg4 arg5 harg5 arg6 harg6 arg7 harg7 arg8 harg8 f3 f7 _ v14 v33 c8 v34 v35 hK hs0))
  isplitl [H3 H7]
  · isplitl [H3]; · iexact H3
    iexact H7
  iintro %r2 ⟨%g7, H3, H7, %hS, %hM⟩
  obtain ⟨v50, v52, v53, v60, v77⟩ := r2
  dsimp only at hM ⊢
  iapply (seq c (p51_2 c i arg2 harg2 arg3 harg3 arg4 harg4 arg5 harg5 arg6 harg6 arg7 harg7 arg8 harg8 f3 f5 g7 g8 _ v15 v16 v50 v52 v53 v60 v77 hK hW hV hS hM hz0 hz1 hr))
  isplitl [H3 H5 H7 H8]
  · isplitl [H3]; · iexact H3
    isplitl [H5]; · iexact H5
    isplitl [H7]; · iexact H7
    iexact H8
  iintro %v117 ⟨%g7, H3, H5, H7, H8, %ho0⟩
  iapply (seq c (p52 c i arg2 harg2 arg3 harg3 arg4 harg4 arg5 harg5 arg6 harg6 arg7 harg7 arg8 harg8 arg1 v4 v5 _))
  isplitl [H3]; · iexact H3
  iintro %r3 ⟨H3, %hq, %hs1, %hz2, %hz3⟩
  obtain ⟨v124, v126, v127, v128, v145, v146, v157, v158⟩ := r3
  dsimp only at hq hs1 hz2 hz3 ⊢
  rw [hq1] at hq
  subst hq
  iapply (seq c (p53_2 c i arg2 harg2 arg3 harg3 arg4 harg4 arg5 harg5 arg6 harg6 arg7 harg7 arg8 harg8 f3 f5 g7 _ v126 v145 v146 v157 v158 hK hW hs1 hr))
  isplitl [H3 H5 H7]
  · isplitl [H3]; · iexact H3
    isplitl [H5]; · iexact H5
    iexact H7
  iintro %r4 ⟨%g7, H3, H5, H7, %hH, %hm⟩
  obtain ⟨v164, v165, v195, c0, v196, c1⟩ := r4
  dsimp only at hm ⊢
  sl_exec
  sl_for (fun (k : ℕ) (acc : FVec Ideal S8x1024 .f32 × FVec Ideal S64x1024 .f32) => (iprop(∃ g7, (arg7.view.loc (c : Thread nD τ) ↦[arg7.view.set]{fullShare} g7) ∗ (arg8.view.loc (c : Thread nD τ) ↦[arg8.view.set]{fullShare} g8) ∗ ⌜SInvH (sc K (headQ (arg2.view.read (Elt Ideal) f2) 1) (i 1).val) (2 * (i 1).val + 1) (arg7.view.read (Elt Ideal) g7)⌝ ∗ ⌜LInv (sc K (headQ (arg2.view.read (Elt Ideal) f2) 1) (i 1).val) (mx (sc K (headQ (arg2.view.read (Elt Ideal) f2) 1) (i 1).val) (2 * (i 1).val + 2)) (8 * k) acc.1⌝ ∗ ⌜AInv (sc K (headQ (arg2.view.read (Elt Ideal) f2) 1) (i 1).val) (mx (sc K (headQ (arg2.view.read (Elt Ideal) f2) 1) (i 1).val) (2 * (i 1).val + 2)) (lane V 64 (by decide)) (8 * k) acc.2⌝) : sProp 𝕄G)) $$ [H7 H8]
  · intro k acc
    iintro ⟨%g7, H7, H8, %hH, %hL, %hA⟩
    iapply (t7_trip (N := 2 * (i 1).val + 1) (μ := (mx (sc K (headQ (arg2.view.read (Elt Ideal) f2) 1) (i 1).val) (2 * (i 1).val + 2))) c i arg2 harg2 arg3 harg3 arg4 harg4 arg5 harg5 arg6 harg6 arg7 harg7 arg8 harg8 g7 g8 v195 c0 k acc hV hm (by omega) hH hL hA) $$ [H7 H8]
    isplitl [H7]; · iexact H7
    iexact H8
  · iexists _
    isplitl [H7]; · iexact H7
    isplitl [H8]; · iexact H8
    isplitr
    · ipureintro; exact hH
    isplitr
    · ipureintro; exact L_init hz2
    · ipureintro; exact A_init hz3
  iintro %acc ⟨%g7, H7, H8, %hH, %hL, %hA⟩
  obtain ⟨a1, a2⟩ := acc
  have hL : LInv (sc K (headQ (arg2.view.read (Elt Ideal) f2) 1) (i 1).val) (mx (sc K (headQ (arg2.view.read (Elt Ideal) f2) 1) (i 1).val) (2 * (i 1).val + 2)) (8 * ((i 1).val / 4)) a1 := k0_t7_trips i ▸ hL
  have hA : AInv (sc K (headQ (arg2.view.read (Elt Ideal) f2) 1) (i 1).val) (mx (sc K (headQ (arg2.view.read (Elt Ideal) f2) 1) (i 1).val) (2 * (i 1).val + 2)) (lane V 64 (by decide)) (8 * ((i 1).val / 4)) a2 := k0_t7_trips i ▸ hA
  have hV' := V_all hV
  replace hH := SH_cast (n := 8 * ((i 1).val / 4) + 1) (by omega) hH
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · ipureintro; exact hV
  ipureintro
  refine out_ok ho0 (fun d cc => hd_out ?_ ?_ d cc)
  · skip
    refine L_cast (m := 8 * ((i 1).val / 4) + 1 + 1) (by omega) ?_
    refine L_half (hc := concatenates_S8x512_S8x512_S8x1024_d1) (n := 8 * ((i 1).val / 4) + 1) ?_ (e_half (ld_half arg7.view g7 _ hH (k0_off72_eq i)) hm) (low (by omega))
    refine L_step (n := 8 * ((i 1).val / 4) + 0) ?_ (e_full (ld_full arg7.view g7 _ hH (k0_off70_eq i) (by omega)) hm)
    exact hL
  · skip
    refine A_cast (m := 8 * ((i 1).val / 4) + 1 + 1) (by omega) ?_
    refine A_half (hc := concatenates_S64x512_S64x512_S64x1024_d1) (n := 8 * ((i 1).val / 4) + 1) ?_ (ld_vt arg8.view g8 _ hV' (k0_off71_eq1 i) (by decide)) (e_half (ld_half arg7.view g7 _ hH (k0_off72_eq i)) hm) (low (by omega))
    refine A_step (n := 8 * ((i 1).val / 4) + 0) ?_ (ld_vt arg8.view g8 _ hV' (k0_off71_eq0 i) (by decide)) (e_full (ld_full arg7.view g7 _ hH (k0_off70_eq i) (by omega)) hm)
    exact hA

/-- The whole body but its last store. -/
theorem p54 {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (k0_part54 i arg2 harg2 arg3 harg3 arg4 harg4 arg5 harg5 arg6 harg6 arg7 harg7 arg8 harg8)
        (fun (r : FVec Ideal S1x1024x128 .bf16) => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) r⌝) : sProp 𝕄G)) := by
  have h4 : (i 1).val % 4 = 0 ∨ (i 1).val % 4 = 1 ∨ (i 1).val % 4 = 2 ∨ (i 1).val % 4 = 3 := by omega
  rcases h4 with h | h | h | h
  · exact p54_2 c i arg2 harg2 arg3 harg3 arg4 harg4 arg5 harg5 arg6 harg6 arg7 harg7 arg8 harg8 f2 f3 f4 f5 f6 f7 f8 hK hV4 hW hp h
  · exact p54_4 c i arg2 harg2 arg3 harg3 arg4 harg4 arg5 harg5 arg6 harg6 arg7 harg7 arg8 harg8 f2 f3 f4 f5 f6 f7 f8 hK hV4 hW hp h
  · exact p54_6 c i arg2 harg2 arg3 harg3 arg4 harg4 arg5 harg5 arg6 harg6 arg7 harg7 arg8 harg8 f2 f3 f4 f5 f6 f7 f8 hK hV4 hW hp h
  · exact p54_8 c i arg2 harg2 arg3 harg3 arg4 harg4 arg5 harg5 arg6 harg6 arg7 harg7 arg8 harg8 f2 f3 f4 f5 f6 f7 f8 hK hV4 hW hp h

/-- The body at one grid point: the two heads' outputs of its query block. -/
theorem body_run {K : ℕ → Fin 256 → EReal} {V : ℕ → Fin 128 → EReal} (f2 f3 f4 f5 f6 f7 f8) (hK : ∀ (r : Fin 8192) (d : Fin 256), arg3.view.read (Elt Ideal) f3 (ix3 0 r d) = K r.val d) (hV4 : ∀ (r : Fin 8192) d, arg4.view.read (Elt Ideal) f4 (ix3 0 r d) = V r.val d) (hW : MaskOk (arg5.view.read (Elt Ideal) f5))
    (hp : (i 1).val ≠ 0 → VInv V 16 (arg8.view.read (Elt Ideal) f8)) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Ideal)) 𝒱₀ (c : Thread nD τ) none) Set.univ (cc0_flash_mla i arg2 harg2 arg3 harg3 arg4 harg4 arg5 harg5 arg6 harg6 arg7 harg7 arg8 harg8)
        (fun _ => (iprop(∃ g6 g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ ⌜VInv V 16 (arg8.view.read (Elt Ideal) g8)⌝
          ∗ ⌜OutOk (hd (sc K (headQ (arg2.view.read (Elt Ideal) f2) 0) (i 1).val) (lane V 0 (by decide)) (2 * (i 1).val + 2)) (hd (sc K (headQ (arg2.view.read (Elt Ideal) f2) 1) (i 1).val) (lane V 64 (by decide)) (2 * (i 1).val + 2)) (arg6.view.read (Elt Ideal) g6)⌝) : sProp 𝕄G)) := by
  rw [cc0_flash_mla_eq_skeleton]
  unfold cc0_flash_mla_skel
  iintro ⟨H2, H3, H4, H5, H6, H7, H8⟩
  iapply (seq c (p54 c i arg2 harg2 arg3 harg3 arg4 harg4 arg5 harg5 arg6 harg6 arg7 harg7 arg8 harg8 f2 f3 f4 f5 f6 f7 f8 hK hV4 hW hp))
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  iintro %r ⟨%g7, %g8, H2, H3, H4, H5, H6, H7, H8, %hV, %ho⟩
  sl_exec
  sl_step
  iexists _, g7, g8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · ipureintro; exact hV
  · ipureintro
    exact out_read arg6.view f6 _ rfl ho

end Cert.KernelIdeal.Run
-- ==== Proof.Launch.lean ====
module

public import proofs.«01_k».proof.Proof.Run3
public import Idealize.ShloMosaic.Lib.Pipeline.ValueKit
@[expose] public section

set_option maxRecDepth 16384
set_option maxHeartbeats 400000
noncomputable section

/-! The launch of the attention: the body at every grid point, and the array it leaves. -/

namespace Cert.KernelIdeal.Run

open Cert.KernelIdeal Cert.KernelIdeal.Gen Cert.KernelIdeal.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄G" => MT nD τ sig Unit (Elt Ideal) ℕ (UR sig nD τ) ℕ

variable (m : (ℓ : Loc nD τ sig) → Buf (Elt Ideal) ℓ) (ρ : Dev nD → PrngReg)

/-- The keys of group `g` (a batch and a pair of heads), row by row. -/
def KK (X : S4x8192x1536.Idx → EReal) (g : ℕ) : ℕ → Fin 256 → EReal := fun r d =>
  if h : g < 16 ∧ r < 8192 then X (ix3 ⟨g / 4, by omega⟩ ⟨r, h.2⟩ ⟨256 * (g % 4) + d.val, by omega⟩) else 0
/-- The values of group `g`, row by row. -/
def VV (X : S4x8192x1536.Idx → EReal) (g : ℕ) : ℕ → Fin 128 → EReal := fun r d =>
  if h : g < 16 ∧ r < 8192 then X (ix3 ⟨g / 4, by omega⟩ ⟨r, h.2⟩ ⟨1024 + 128 * (g % 4) + d.val, by omega⟩) else 0
/-- The queries of grid point `t`. -/
def QB (X : S4x8192x1024.Idx → EReal) (t : ℕ) : S1x1024x256.Idx → EReal := fun j =>
  if h : t < 128 then X (ix3 ⟨t / 32, by omega⟩ ⟨1024 * (t % 8) + (j 1).val, by have : (j 1).val < 1024 := (j 1).isLt; omega⟩
    ⟨256 * (t / 8 % 4) + (j 2).val, by have : (j 2).val < 256 := (j 2).isLt; omega⟩) else 0

/-- The output of the first head of grid point `t`. -/
def H0 (Xq : S4x8192x1024.Idx → EReal) (Xk : S4x8192x1536.Idx → EReal) (t : ℕ) : Fin 64 → Fin 1024 → EReal :=
  hd (sc (KK Xk (t / 8)) (headQ (QB Xq t) 0) (t % 8)) (lane (VV Xk (t / 8)) 0 (by decide)) (2 * (t % 8) + 2)
/-- The output of the second head. -/
def H1 (Xq : S4x8192x1024.Idx → EReal) (Xk : S4x8192x1536.Idx → EReal) (t : ℕ) : Fin 64 → Fin 1024 → EReal :=
  hd (sc (KK Xk (t / 8)) (headQ (QB Xq t) 1) (t % 8)) (lane (VV Xk (t / 8)) 64 (by decide)) (2 * (t % 8) + 2)

/-- The block grid point `t` leaves. -/
def outB (Xq : S4x8192x1024.Idx → EReal) (Xk : S4x8192x1536.Idx → EReal) (t : ℕ) : S1x1024x128.Idx → EReal := fun j =>
  if h : (j 2).val < 64 then H0 Xq Xk t ⟨(j 2).val, h⟩ ⟨(j 1).val, (j 1).isLt⟩
  else H1 Xq Xk t ⟨(j 2).val - 64, by have : (j 2).val < 128 := (j 2).isLt; omega⟩ ⟨(j 1).val, (j 1).isLt⟩

theorem ext3 {a n : ℕ} {α : Type} {f g : (⟨3, ![1, a, n]⟩ : Shape).Idx → α} (h : ∀ (x : Fin a) (b : Fin n), f (ix3 0 x b) = g (ix3 0 x b)) : f = g := by
  funext j
  have e : j = ix3 (0 : Fin 1) (⟨(j 1).val, (j 1).isLt⟩ : Fin a) (⟨(j 2).val, (j 2).isLt⟩ : Fin n) := by
    funext b
    fin_cases b
    · exact Fin.ext (by have : (j 0).val < 1 := (j 0).isLt; show (j 0).val = 0; omega)
    · rfl
    · rfl
  rw [e]; exact h _ _

theorem outB_of {Xq Xk t} {X : S1x1024x128.Idx → EReal} (h : OutOk (H0 Xq Xk t) (H1 Xq Xk t) X) : X = outB Xq Xk t :=
  ext3 (a := 1024) (n := 128) fun c e => h c e

/-- The whole output. -/
def OUT (Xq : S4x8192x1024.Idx → EReal) (Xk : S4x8192x1536.Idx → EReal) : S4x8192x512.Idx → EReal := fun j =>
  outB Xq Xk ((4 * (j 0).val + (j 2).val / 128) * 8 + (j 1).val / 1024)
    (ix3 0 ⟨(j 1).val % 1024, Nat.mod_lt _ (by decide)⟩ ⟨(j 2).val % 128, Nat.mod_lt _ (by decide)⟩)

/-- The windows' index maps. -/
theorem idx : ∀ t : Fin cfg0.N, win0_0.index t = ![t.val / 32, t.val % 8, t.val / 8 % 4] ∧ win0_1.index t = ![t.val / 32, 0, t.val / 8 % 4]
    ∧ win0_2.index t = ![t.val / 32, 0, 8 + t.val / 8 % 4] ∧ win0_3.index t = ![0, 0, 0] ∧ win0_4.index t = ![t.val / 32, t.val % 8, t.val / 8 % 4] :=
  (by decide +kernel : ∀ t : Fin grid0.N, _)
theorem crd : ∀ t : Fin cfg0.N, ((grid0.coords t) 1).val = t.val % 8 := (by decide +kernel : ∀ t : Fin grid0.N, _)
theorem t_lt (t : Fin cfg0.N) : t.val < 128 := lt_of_lt_of_eq t.isLt N_0

theorem q_rd (t : Fin cfg0.N) (X : S4x8192x1024.Idx → EReal) (x : Fin 1024) (d : Fin 256) :
    ((cfg0.win 0).blk t).view.read (Elt Ideal) X (ix3 (0 : Fin 1) x d) = X (ix3 ⟨t.val / 32, by have := t_lt t; omega⟩ ⟨1024 * (t.val % 8) + x.val, by omega⟩ ⟨256 * (t.val / 8 % 4) + d.val, by omega⟩) := by
  have ht := t_lt t
  blk_ext [idx t]
theorem k_rd (t : Fin cfg0.N) (X : S4x8192x1536.Idx → EReal) (x : Fin 8192) (d : Fin 256) :
    ((cfg0.win 1).blk t).view.read (Elt Ideal) X (ix3 (0 : Fin 1) x d) = X (ix3 ⟨t.val / 32, by have := t_lt t; omega⟩ x ⟨256 * (t.val / 8 % 4) + d.val, by omega⟩) := by
  have ht := t_lt t
  blk_ext [idx t]
theorem v_rd (t : Fin cfg0.N) (X : S4x8192x1536.Idx → EReal) (x : Fin 8192) (d : Fin 128) :
    ((cfg0.win 2).blk t).view.read (Elt Ideal) X (ix3 (0 : Fin 1) x d) = X (ix3 ⟨t.val / 32, by have := t_lt t; omega⟩ x ⟨1024 + 128 * (t.val / 8 % 4) + d.val, by omega⟩) := by
  have ht := t_lt t
  blk_ext [idx t]
theorem m_rd (t : Fin cfg0.N) (X : S1x512x512.Idx → EReal) (x : Fin 512) (d : Fin 512) :
    ((cfg0.win 3).blk t).view.read (Elt Ideal) X (ix3 (0 : Fin 1) x d) = X (ix3 0 x d) := by
  blk_ext [idx t]

end Cert.KernelIdeal.Run
-- ==== Proof.Entry.lean ====
module

public import proofs.«01_k».proof.Proof.Gen.KernelIdeal.Frame
public import Idealize.ShloMosaic.Lib.Claim
public import proofs.«01_k».proof.Proof.Sem
public import Idealize.ShloMosaic.Lib.StableHlo.ReadAt
public import Idealize.ShloMosaic.Lib.WordCmp
public import Idealize.ShloMosaic.Lib.Pointwise
@[expose] public section

set_option maxRecDepth 16384
set_option maxHeartbeats 400000
noncomputable section

/-! What the host hands the attention: the padded queries, the keys beside the values, the mask. -/

namespace Cert.KernelIdeal.Entry

open Cert.KernelIdeal Cert.KernelIdeal.Gen
open Cert.KernelIdeal.Sem (neg_inf)
open Idealize.ShloMosaic Idealize.ShloMosaic.TcCoe Idealize.ShloMosaic.Tactic
open Idealize.SL.Sem

variable (m : (ℓ : Loc nD τ sig) → Buf (Elt Ideal) ℓ)

theorem V_mask (c : Dev nD) (r d : Fin 512) : (show S1x512x512.Idx → EReal from V m c main_v25) (ix3 0 r d) = (if r.val ≤ d.val then 0 else ⊥ : EReal) := by
  unfold V
  after_reads_at
  simp only [id]
  pointwise
  have hm : IntOp.muli 0#32 1024#32 = 0#32 := by decide
  have ha : IntOp.addi (BitVec.ofNat 32 d.val) 0#32 = BitVec.ofNat 32 d.val := by
    simp [IntOp.addi]
  have hb : ((BitVec.ofNat 32 r.val).sle (BitVec.ofNat 32 d.val)) = decide (r.val ≤ d.val) := by
    have hr := r.isLt
    have hd := d.isLt
    have e : ∀ n : ℕ, n < 512 → (BitVec.ofNat 32 n).toInt = n := fun n hn => by
      rw [BitVec.toInt_eq_toNat_of_lt (by rw [BitVec.toNat_ofNat]; omega), BitVec.toNat_ofNat]
      congr 1
      omega
    simp only [BitVec.sle, e _ hr, e _ hd, Int.ofNat_le, Nat.cast_le]
  rw [hm, ha, show Ideal.ofBits FTy.f32 4286578688#32 = ⊥ from neg_inf]
  simp only [IntOp.cmpi, hb]
  by_cases h : r.val ≤ d.val <;> simp [h, Scalar.select]

/-- A padded slot of a head. -/
def slot (X : S4x8x8192x96.Idx → EReal) (b : Fin 4) (r : Fin 8192) (l : ℕ) : EReal :=
  if h : l / 128 < 8 ∧ l % 128 < 96 then X (ix4 b ⟨l / 128, h.1⟩ r ⟨l % 128, h.2⟩) else 0

theorem V_q (c : Dev nD) (b : Fin 4) (r : Fin 8192) (l : Fin 1024) : (show S4x8192x1024.Idx → EReal from V m c main_v3) (ix3 b r l) = slot (m ((c : Thread nD τ).loc main_arg0)) b r l.val := by
  unfold V
  after_reads_at
  unfold slot
  refine dite_congr rfl (fun _ => rfl) (fun _ => ?_)
  simp [FloatOps.sitofp]

theorem V_k (c : Dev nD) (b : Fin 4) (r : Fin 8192) (l : Fin 1024) : (show S4x8192x1536.Idx → EReal from V m c main_v10) (ix3 b r ⟨l.val, by omega⟩) = slot (m ((c : Thread nD τ).loc main_arg1)) b r l.val := by
  unfold V
  after_reads_at
  after_reads_at
  unfold slot
  refine dite_congr rfl (fun _ => rfl) (fun _ => ?_)
  simp [FloatOps.sitofp]

theorem V_v (c : Dev nD) (b : Fin 4) (r : Fin 8192) (l : Fin 512) : (show S4x8192x1536.Idx → EReal from V m c main_v10) (ix3 b r ⟨1024 + l.val, by omega⟩)
    = (show S4x8x8192x64.Idx → EReal from m ((c : Thread nD τ).loc main_arg2)) (ix4 b ⟨l.val / 64, by omega⟩ r ⟨l.val % 64, by omega⟩) := by
  unfold V
  after_reads_at
  after_reads_at

end Cert.KernelIdeal.Entry
-- ==== Proof.Launch2.lean ====
module

public import proofs.«01_k».proof.Proof.Launch
public import proofs.«01_k».proof.Proof.Entry
@[expose] public section

set_option maxRecDepth 16384
set_option maxHeartbeats 400000
noncomputable section

/-! The launch of the attention: the body at every grid point, and the array it leaves. -/

namespace Cert.KernelIdeal.Run

open Cert.KernelIdeal Cert.KernelIdeal.Gen Cert.KernelIdeal.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄G" => MT nD τ sig Unit (Elt Ideal) ℕ (UR sig nD τ) ℕ

variable (m : (ℓ : Loc nD τ sig) → Buf (Elt Ideal) ℓ) (ρ : Dev nD → PrngReg)

/-- The padded queries at the call. -/
def XQ (c : Dev nD) : S4x8192x1024.Idx → EReal := V m c main_v3
/-- The keys beside the values at the call. -/
def XK (c : Dev nD) : S4x8192x1536.Idx → EReal := V m c main_v10

theorem q_blk (c : Dev nD) (t : Fin cfg0.N) : (iblk m c 0 t : S1x1024x256.Idx → EReal) = QB (XQ m c) t.val :=
  ext3 (a := 1024) (n := 256) fun x d => (q_rd t (XQ m c) x d).trans (by
    have ht := t_lt t
    unfold QB
    rw [dif_pos ht]
    rfl)
theorem k_blk (c : Dev nD) (t : Fin cfg0.N) (r : Fin 8192) (d : Fin 256) : (iblk m c 1 t : S1x8192x256.Idx → EReal) (ix3 0 r d) = KK (XK m c) (t.val / 8) r.val d :=
  (k_rd t (XK m c) r d).trans (by
    have ht := t_lt t
    unfold KK
    rw [dif_pos ⟨by omega, r.isLt⟩]
    exact congrArg _ (congrArg₂ (fun a b => ix3 a _ b) (Fin.ext (by show t.val / 32 = t.val / 8 / 4; omega)) rfl))
theorem v_blk (c : Dev nD) (t : Fin cfg0.N) (r : Fin 8192) (d : Fin 128) : (iblk m c 2 t : S1x8192x128.Idx → EReal) (ix3 0 r d) = VV (XK m c) (t.val / 8) r.val d :=
  (v_rd t (XK m c) r d).trans (by
    have ht := t_lt t
    unfold VV
    rw [dif_pos ⟨by omega, r.isLt⟩]
    exact congrArg _ (congrArg₂ (fun a b => ix3 a _ b) (Fin.ext (by show t.val / 32 = t.val / 8 / 4; omega)) rfl))
theorem m_blk (c : Dev nD) (t : Fin cfg0.N) : MaskOk (iblk m c 3 t : S1x512x512.Idx → EReal) := fun r d =>
  (m_rd t (V m c main_v25) r d).trans (Entry.V_mask m c r d)

/-- What one grid point hands the next: the values of the group, once its first point has turned them. -/
def Φt (c : Dev nD) (n : ℕ) : sProp 𝕄G :=
  iprop((∃ f : Buf (Elt Ideal) ((c : Thread nD τ).loc cc0_scratch0), ((c : Thread nD τ).loc cc0_scratch0) ↦{fullShare} f)
    ∗ (∃ f : Buf (Elt Ideal) ((c : Thread nD τ).loc cc0_scratch1), ⌜n % 8 ≠ 0 → VInv (VV (XK m c) (n / 8)) 16 f⌝ ∗ ((c : Thread nD τ).loc cc0_scratch1) ↦{fullShare} f)
    ∗ ∃ r, prngReg c r)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (XQ m c) (XK m c) t.val
  Φ t := Φt m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB (XQ m c) (XK m c) t.val := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := Ideal)) 𝒱₀ (c : Thread nD τ) none) Set.univ (bodyAt0 t) (fun _ => bodyPost m c t) := by
  have ht := t_lt t
  unfold bodyPre bodyPost bodyAt0
  simp only [before0_0, before0_1, before0_2, before0_3]
  rw [show (dats m 0 c).Φ t.succ = Φt m c (t.val + 1) from rfl, show (dats m 0 c).Φ t.castSucc = Φt m c t.val from rfl,
    show (dats m 0 c).owesAt () t.succ = (dats m 0 c).owesAt () t.castSucc from rfl,
    after0_0, after0_1, after0_2, after0_3, after0_4]
  unfold owns Φt
  iintro ⟨⟨⟨%f7, H7⟩, ⟨%f8, %h8, H8⟩, Hr⟩, Ho, ⟨%d2, %f2, %hf2, H2⟩, ⟨%d3, %f3, %hf3, H3⟩, ⟨%d4, %f4, %hf4, H4⟩, ⟨%d5, %f5, %hf5, H5⟩, ⟨%d6, %f6, -, H6⟩⟩
  iapply wp_wand_r
  isplitl [H2 H3 H4 H5 H6 H7 H8]
  · iapply (body_run c (grid0.coords t) _ _ _ _ _ _ _ _ _ _ (Memref.whole cc0_scratch0) (Memref.isWhole_whole _) (Memref.whole cc0_scratch1) (Memref.isWhole_whole _) (K := KK (XK m c) (t.val / 8)) (V := VV (XK m c) (t.val / 8)) f2 f3 f4 f5 f6 f7 f8
      (fun r d => (congrFun hf3 _).trans (k_blk m c t r d)) (fun r d => (congrFun hf4 _).trans (v_blk m c t r d)) (by rw [show _ = _ from hf5]; exact m_blk m c t)
      (fun h => by rw [crd] at h; exact h8 h))
    isplitl [H2]; · iexact H2
    isplitl [H3]; · iexact H3
    isplitl [H4]; · iexact H4
    isplitl [H5]; · iexact H5
    isplitl [H6]; · iexact H6
    isplitl [H7]
    · simp only [Memref.view_whole, View.set_whole]; iexact H7
    simp only [Memref.view_whole, View.set_whole]; iexact H8
  iintro %_ ⟨%g6, %g7, %g8, H2, H3, H4, H5, H6, H7, H8, %hV, %hO⟩
  rw [crd, show _ = _ from hf2, q_blk m c t] at hO
  isplitl [H7 H8 Hr]
  · isplitl [H7]
    · iexists g7; simp only [Memref.view_whole, View.set_whole]; iexact H7
    isplitl [H8]
    · iexists g8
      isplitr
      · ipureintro
        intro h
        rw [show (t.val + 1) / 8 = t.val / 8 by omega]
        exact hV
      simp only [Memref.view_whole, View.set_whole]; iexact H8
    iexact Hr
  isplitl [Ho]; · iexact Ho
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists g6; isplitr
  · ipureintro
    exact outB_of hO
  iexact H6

theorem body_obligation (c : Dev nD) : BodyObligation (dats m 0 c) (defs₀ (F := Ideal)) Variants.none () Set.univ := fun t => by
  rw [bigSep_W0, bigSep_W0]
  exact sound_body m c t

theorem hin (c : Dev nD) : (Pipeline.ΦA spec0 c : sProp 𝕄G) ⊢ (dats m 0 c).Φ 0 := by
  rw [show (dats m 0 c).Φ 0 = Φt m c 0 from rfl]
  unfold Pipeline.ΦA Φt
  rw [scopedRest0_eq]
  iintro ⟨⟨H7, ⟨%f, H8⟩⟩, Hr⟩
  isplitl [H7]; · iexact H7
  isplitl [H8]
  · iexists f
    isplitr
    · ipureintro
      intro h
      exact absurd rfl h
    iexact H8
  iexact Hr

theorem hout (c : Dev nD) : (dats m 0 c).Φ (Fin.last cfg0.N) ⊢ (Pipeline.ΦA spec0 c : sProp 𝕄G) := by
  rw [show (dats m 0 c).Φ (Fin.last cfg0.N) = Φt m c cfg0.N from rfl]
  unfold Pipeline.ΦA Φt
  rw [scopedRest0_eq]
  iintro ⟨H7, ⟨%f, %hf, H8⟩, Hr⟩
  isplitl [H7 H8]
  · isplitl [H7]; · iexact H7
    iexists f
    iexact H8
  iexact Hr

set_option backward.isDefEq.respectTransparency.types false in
/-- The run of the whole program. -/
theorem run_main : θ_run defs (onTc (τ := τ) (main (F := Ideal))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (fun c => (body_obligation m c).loose) (fun _ _ _ => rfl) (fun _ _ => rfl) (V m) (hmain m Variants.none) (fun _ _ => rfl)
    (hin m) (hout m) _ (fun _ h => h)

theorem o_rd (t : Fin cfg0.N) (X : S4x8192x512.Idx → EReal) (x : Fin 1024) (d : Fin 128) :
    ((cfg0.win 4).blk t).view.read (Elt Ideal) X (ix3 (0 : Fin 1) x d) = X (ix3 ⟨t.val / 32, by have := t_lt t; omega⟩ ⟨1024 * (t.val % 8) + x.val, by omega⟩ ⟨128 * (t.val / 8 % 4) + d.val, by omega⟩) := by
  have ht := t_lt t
  blk_ext [idx t]

theorem o_eq (t : Fin cfg0.N) (Xq : S4x8192x1024.Idx → EReal) (Xk : S4x8192x1536.Idx → EReal) :
    outB Xq Xk t.val = (((cfg0.win 4).blk t).view.read (Elt Ideal) (OUT Xq Xk) : S1x1024x128.Idx → EReal) :=
  ext3 (a := 1024) (n := 128) fun x d => by
    have ht := t_lt t
    refine Eq.trans ?_ (o_rd t (OUT Xq Xk) x d).symm
    unfold OUT
    have e1 : ((4 * (t.val / 32) + (128 * (t.val / 8 % 4) + d.val) / 128) * 8 + (1024 * (t.val % 8) + x.val) / 1024) = t.val := by omega
    have e2 : (1024 * (t.val % 8) + x.val) % 1024 = x.val := by omega
    have e3 : (128 * (t.val / 8 % 4) + d.val) % 128 = d.val := by omega
    show _ = outB Xq Xk ((4 * (t.val / 32) + (128 * (t.val / 8 % 4) + d.val) / 128) * 8 + (1024 * (t.val % 8) + x.val) / 1024)
      (ix3 0 ⟨(1024 * (t.val % 8) + x.val) % 1024, Nat.mod_lt _ (by decide)⟩ ⟨(128 * (t.val / 8 % 4) + d.val) % 128, Nat.mod_lt _ (by decide)⟩)
    rw [e1]
    exact congrArg _ (congrArg₂ (fun a b => ix3 0 a b) (Fin.ext e2.symm) (Fin.ext e3.symm))

/-- The array the call leaves. -/
theorem final (c : Dev nD) : (dats m 0 c).arrAt 4 cfg0.N = OUT (XQ m c) (XK m c) := by
  refine (dats m 0 c).arrAt_eq_of_covers 4 _ (by decide +kernel) fun t hf y => ?_
  blk_simp
  rw [after0_4]
  exact congrFun (o_eq t (XQ m c) (XK m c)) y

end Cert.KernelIdeal.Run
-- ==== Proof.Math.lean ====
module

public import Idealize.ShloMosaic.PureOps.Ideal
public import Idealize.ShloMosaic.Lib.Pipeline.ValueKit
@[expose] public section

noncomputable section

/-! Softmax over the extended reals: powers of two of scaled scores against exponentials, blocks of rows
against all rows, one division of a sum against the sum of the quotients. -/

namespace Cert.SoftMath

open Idealize.ShloMosaic

/-- The reciprocal of the logarithm of two. -/
def κ₂ : ℝ := (Real.log 2)⁻¹

theorem κ₂_pos : 0 < κ₂ := inv_pos.2 (Real.log_pos one_lt_two)

theorem exp2_scaled (x : EReal) : Ideal.exp2 (x * (κ₂ : EReal)) = Ideal.exp x := by
  induction x with
  | bot => rw [EReal.bot_mul_coe_of_pos κ₂_pos]; rfl
  | top => rw [EReal.top_mul_coe_of_pos κ₂_pos]; rfl
  | coe r =>
    rw [← EReal.coe_mul, Ideal.exp2_coe, Ideal.exp_coe]
    congr 1
    show (2 : ℝ) ^ (r * κ₂) = Real.exp r
    rw [Real.rpow_def_of_pos two_pos]
    congr 1
    unfold κ₂
    have : Real.log 2 ≠ 0 := (Real.log_pos one_lt_two).ne'
    field_simp

theorem sub_scaled (x y : EReal) : x * (κ₂ : EReal) - y * (κ₂ : EReal) = (x - y) * (κ₂ : EReal) := by
  induction x with
  | bot =>
    rw [EReal.bot_mul_coe_of_pos κ₂_pos, EReal.bot_sub, EReal.bot_sub, EReal.bot_mul_coe_of_pos κ₂_pos]
  | top =>
    induction y with
    | bot => simp [EReal.bot_mul_coe_of_pos κ₂_pos, EReal.top_mul_coe_of_pos κ₂_pos]
    | top => simp [EReal.bot_mul_coe_of_pos κ₂_pos, EReal.top_mul_coe_of_pos κ₂_pos, sub_eq_add_neg]
    | coe r => rw [EReal.top_mul_coe_of_pos κ₂_pos, ← EReal.coe_mul, EReal.top_sub_coe, EReal.top_sub_coe, EReal.top_mul_coe_of_pos κ₂_pos]
  | coe s =>
    induction y with
    | bot => rw [EReal.bot_mul_coe_of_pos κ₂_pos, ← EReal.coe_mul, EReal.coe_sub_bot, EReal.coe_sub_bot, EReal.top_mul_coe_of_pos κ₂_pos]
    | top => simp [EReal.bot_mul_coe_of_pos κ₂_pos, EReal.top_mul_coe_of_pos κ₂_pos, sub_eq_add_neg]
    | coe r =>
      rw [← EReal.coe_mul, ← EReal.coe_mul, ← EReal.coe_sub, ← EReal.coe_sub, ← EReal.coe_mul, sub_mul]

theorem le_scaled (x y : EReal) : x * (κ₂ : EReal) ≤ y ↔ x ≤ y * ((κ₂⁻¹ : ℝ) : EReal) := by
  have hk := κ₂_pos
  have e1 : ∀ z : EReal, z * (κ₂ : EReal) * ((κ₂⁻¹ : ℝ) : EReal) = z := fun z => by
    rw [mul_assoc, ← EReal.coe_mul, mul_inv_cancel₀ hk.ne', EReal.coe_one, mul_one]
  have e2 : ∀ z : EReal, z * ((κ₂⁻¹ : ℝ) : EReal) * (κ₂ : EReal) = z := fun z => by
    rw [mul_assoc, ← EReal.coe_mul, inv_mul_cancel₀ hk.ne', EReal.coe_one, mul_one]
  constructor
  · intro h
    have := mul_le_mul_of_nonneg_right h (show (0 : EReal) ≤ ((κ₂⁻¹ : ℝ) : EReal) from EReal.coe_nonneg.2 (inv_pos.2 hk).le)
    rwa [e1] at this
  · intro h
    have := mul_le_mul_of_nonneg_right h (show (0 : EReal) ≤ (κ₂ : EReal) from EReal.coe_nonneg.2 hk.le)
    rwa [e2] at this

theorem exp_le_one {x : EReal} (h : x ≤ 0) : Ideal.exp x ≤ 1 := by
  induction x with
  | bot => exact zero_le_one
  | top => exact absurd h (by decide)
  | coe r =>
    rw [Ideal.exp_coe, ← EReal.coe_one, EReal.coe_le_coe_iff]
    exact Real.exp_le_one_iff.2 (EReal.coe_nonpos.1 h)

theorem exp_nonneg (x : EReal) : 0 ≤ Ideal.exp x := by
  induction x with
  | bot => exact le_rfl
  | top => exact le_top
  | coe r => rw [Ideal.exp_coe]; exact EReal.coe_nonneg.2 (Real.exp_pos r).le

theorem sub_le_zero {x y : EReal} (h : x ≤ y) : x - y ≤ 0 := by
  induction x with
  | bot => rw [EReal.bot_sub]; exact bot_le
  | top => rw [top_le_iff.1 h, sub_eq_add_neg, EReal.neg_top, EReal.add_bot]; exact bot_le
  | coe r =>
    induction y with
    | bot => exact absurd h (by simp)
    | top => simp [sub_eq_add_neg]
    | coe s => rw [← EReal.coe_sub]; exact EReal.coe_nonpos.2 (sub_nonpos.2 (EReal.coe_le_coe_iff.1 h))

/-- A sum of numbers between nought and one is no infinity. -/
theorem sum_le_card {ι : Type} (s : Finset ι) (f : ι → EReal) (h : ∀ i ∈ s, f i ≤ 1) : ∑ i ∈ s, f i ≤ ((s.card : ℝ) : EReal) := by
  classical
  induction s using Finset.induction_on with
  | empty => simp
  | insert a s ha ih =>
    rw [Finset.sum_insert ha, Finset.card_insert_of_notMem ha]
    refine (add_le_add (h a (Finset.mem_insert_self a s)) (ih fun i hi => h i (Finset.mem_insert_of_mem hi))).trans ?_
    rw [← EReal.coe_one, ← EReal.coe_add, EReal.coe_le_coe_iff]
    push_cast
    linarith

/-- One division of a weighted sum is the weighted sum of the quotients, for a positive divisor that is no infinity. -/
theorem div_sum {ι : Type} (s : Finset ι) (v e : ι → EReal) {L : EReal} (h0 : 0 < L) (h1 : L ≠ ⊤) :
    Ideal.div (∑ i ∈ s, v i * e i) L = ∑ i ∈ s, Ideal.div (e i) L * v i := by
  classical
  have hb : L ≠ ⊥ := fun h => by rw [h] at h0; exact absurd h0 (by simp)
  lift L to ℝ using ⟨h1, hb⟩
  have hL : 0 < L := EReal.coe_pos.1 h0
  have hz : (L : EReal) ≠ 0 := h0.ne'
  have hi : ∀ x : EReal, Ideal.div x L = x * ((L⁻¹ : ℝ) : EReal) := fun x => by
    unfold Ideal.div
    rw [if_neg hz, EReal.coe_inv]
  simp only [hi]
  have hn : (0 : EReal) ≤ ((L⁻¹ : ℝ) : EReal) := EReal.coe_nonneg.2 (inv_pos.2 hL).le
  induction s using Finset.induction_on with
  | empty => simp
  | insert a s ha ih =>
    rw [Finset.sum_insert ha, Finset.sum_insert ha, EReal.right_distrib_of_nonneg_of_ne_top hn (EReal.coe_ne_top _), ih, mul_assoc, mul_comm (v a)]

variable (D v : ℕ → EReal) (s : ℕ)

/-- A row's score: its product up to position `s`, bottom past it. -/
def lg (x : ℕ) : EReal := if x ≤ s then D x else ⊥
/-- The greatest score of the first `T` rows. -/
def top (T : ℕ) : EReal := ⨆ x : Fin T, lg D s x.val
/-- A row's weight. -/
def wt (T x : ℕ) : EReal := if x ≤ s then Ideal.exp (lg D s x - top D s T) else 0

/-- The softmax of the first `T` rows, weighing the values. -/
def att (T : ℕ) (ε : EReal) : EReal :=
  ∑ x : Fin T, Ideal.div (wt D s T x.val) (max (∑ x : Fin T, wt D s T x.val) ε) * v x.val

theorem top_blocks {T N : ℕ} (hN : s < 512 * N) (hT : s < T) (hNT : 512 * N ≤ T) :
    (⨆ k : Fin N, ⨆ r : Fin 512, (lg (fun x => D x * (κ₂ : EReal)) s (512 * k.val + r.val))) = top D s T * (κ₂ : EReal) := by
  have hl : ∀ x, lg (fun x => D x * (κ₂ : EReal)) s x = lg D s x * (κ₂ : EReal) := fun x => by
    unfold lg
    by_cases h : x ≤ s
    · rw [if_pos h, if_pos h]
    · rw [if_neg h, if_neg h, EReal.bot_mul_coe_of_pos κ₂_pos]
  have hr : ∀ y : EReal, y * ((κ₂⁻¹ : ℝ) : EReal) * (κ₂ : EReal) = y := fun z => by
    rw [mul_assoc, ← EReal.coe_mul, inv_mul_cancel₀ κ₂_pos.ne', EReal.coe_one, mul_one]
  refine eq_of_forall_ge_iff fun y => ?_
  simp only [hl, iSup_le_iff, le_scaled]
  unfold top
  rw [iSup_le_iff]
  constructor
  · intro h x
    by_cases hx : x.val ≤ s
    · have := h ⟨x.val / 512, by omega⟩ ⟨x.val % 512, by omega⟩
      simp only at this
      rwa [Nat.div_add_mod] at this
    · unfold lg; rw [if_neg hx]; exact bot_le
  · intro h k r
    exact h ⟨512 * k.val + r.val, by omega⟩

theorem wt_blocks {T N : ℕ} (hN : s < 512 * N) (hT : s < T) (hNT : 512 * N ≤ T) (x : ℕ) :
    Ideal.exp2 (lg (fun x => D x * (κ₂ : EReal)) s x - ⨆ k : Fin N, ⨆ r : Fin 512, (lg (fun x => D x * (κ₂ : EReal)) s (512 * k.val + r.val))) = wt D s T x := by
  rw [top_blocks D s hN hT hNT]
  unfold wt
  by_cases h : x ≤ s
  · rw [if_pos h, show lg (fun x => D x * (κ₂ : EReal)) s x = lg D s x * (κ₂ : EReal) by unfold lg; rw [if_pos h, if_pos h], sub_scaled, exp2_scaled]
  · rw [if_neg h, show lg (fun x => D x * (κ₂ : EReal)) s x = ⊥ by unfold lg; rw [if_neg h], EReal.bot_sub]
    rfl

theorem wt_le (T x : ℕ) (hx : x < T) : wt D s T x ≤ 1 := by
  unfold wt
  by_cases h : x ≤ s
  · rw [if_pos h]
    exact exp_le_one (sub_le_zero (le_iSup (fun x : Fin T => lg D s x.val) ⟨x, hx⟩))
  · rw [if_neg h]; exact zero_le_one

theorem sum_blocks {T N : ℕ} (f : ℕ → EReal) (hN : s < 512 * N) (hNT : 512 * N ≤ T) (h0 : ∀ x, s < x → f x = 0) :
    ∑ k ∈ Finset.range N, ∑ r : Fin 512, f (512 * k + r.val) = ∑ x : Fin T, f x.val := by
  rw [Fin.sum_univ_eq_sum_range f T, ← Finset.sum_subset (Finset.range_subset_range.2 hNT) (fun x _ hx => h0 x (by rw [Finset.mem_range] at hx; omega))]
  rw [show 512 * N = N * 512 by ring, Finset.sum_range_mul_split]
  refine Finset.sum_congr rfl fun k _ => ?_
  rw [← Fin.sum_univ_eq_sum_range (fun r => f (k * 512 + r))]
  exact Finset.sum_congr rfl fun r _ => by rw [mul_comm]

theorem att_blocks {T N : ℕ} (hN : s < 512 * N) (hT : s < T) (hNT : 512 * N ≤ T) {ε : EReal} (hε : 0 < ε) (hε' : ε ≠ ⊤)
    (S : ℕ → Fin 512 → EReal) (hS : ∀ k (r : Fin 512), S k r = lg (fun x => D x * (κ₂ : EReal)) s (512 * k + r.val)) :
    Ideal.div (∑ k ∈ Finset.range N, ∑ r : Fin 512, v (512 * k + r.val) * Ideal.exp2 (S k r - ⨆ k : Fin N, ⨆ r : Fin 512, S k.val r))
      (max (∑ k ∈ Finset.range N, ∑ r : Fin 512, Ideal.exp2 (S k r - ⨆ k : Fin N, ⨆ r : Fin 512, S k.val r)) ε) = att D v s T ε := by
  simp only [hS, wt_blocks D s hN hT hNT]
  rw [sum_blocks s (fun x => v x * wt D s T x) hN hNT (fun x hx => by unfold wt; rw [if_neg (by omega), mul_zero]),
    sum_blocks s (fun x => wt D s T x) hN hNT (fun x hx => by unfold wt; rw [if_neg (by omega)])]
  have hle := sum_le_card Finset.univ (fun x : Fin T => wt D s T x.val) (fun x _ => wt_le D s T x.val x.isLt)
  exact div_sum _ _ _ (lt_max_of_lt_right hε) (by
    intro h
    rcases max_eq_iff.1 h with ⟨h, -⟩ | ⟨h, -⟩
    · rw [h, top_le_iff] at hle; exact EReal.coe_ne_top _ hle
    · exact hε' h)

end Cert.SoftMath
-- ==== Proof.RefAt.lean ====
module

public import proofs.«01_k».proof.Proof.Gen.ReferenceIdeal.Run
public import Idealize.ShloMosaic.Lib.Claim
public import proofs.«01_k».proof.Proof.Math
public import Idealize.ShloMosaic.Lib.WordCmp
public import Idealize.ShloMosaic.Lib.Pointwise
@[expose] public section

set_option maxRecDepth 16384
set_option maxHeartbeats 400000
noncomputable section

/-! The reference's result, element by element. -/

namespace Cert.ReferenceIdeal.At

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ)

/-- The scaled products of query `s` of head `h` with the keys. -/
def DD (Q K : S4x8x8192x96.Idx → EReal) (b : Fin 4) (h : Fin 8) (s : Fin 8192) : ℕ → EReal := fun x =>
  if hx : x < 8192 then (∑ d : Fin 96, Q (ix4 b h s d) * K (ix4 b h ⟨x, hx⟩ d)) * Ideal.ofBits .f32 0x3DD105EC#32 else 0
/-- The values of head `h` in one lane. -/
def VD (X : S4x8x8192x64.Idx → EReal) (b : Fin 4) (h : Fin 8) (d : Fin 64) : ℕ → EReal := fun x =>
  if hx : x < 8192 then X (ix4 b h ⟨x, hx⟩ d) else 0

theorem sel (x s : Fin 8192) (u w : EReal) :
    Scalar.select (IntOp.cmpi CmpIPredicate.sle (BitVec.ofNat 32 x.val) (BitVec.ofNat 32 s.val)) u w = if x.val ≤ s.val then u else w := by
  have hx := x.isLt
  have hs := s.isLt
  have e : ∀ n : ℕ, n < 8192 → (BitVec.ofNat 32 n).toInt = n := fun n hn => by
    rw [BitVec.toInt_eq_toNat_of_lt (by rw [BitVec.toNat_ofNat]; omega), BitVec.toNat_ofNat]
    congr 1
    omega
  simp only [IntOp.cmpi, BitVec.sle, e _ hx, e _ hs, Nat.cast_le]
  by_cases h : x.val ≤ s.val <;> simp [h, Scalar.select]

theorem neg_inf : Ideal.ofBits .f32 0xFF800000#32 = (⊥ : EReal) := by
  simp [Ideal.ofBits, Ideal.ieee]

theorem fold_top (f : Fin 8192 → EReal) : Finset.fold max (⊥ : EReal) f Finset.univ = ⨆ x, f x := by
  refine eq_of_forall_ge_iff fun y => ?_
  rw [Finset.fold_max_le, iSup_le_iff]
  simp

theorem lg_eq (Q K : S4x8x8192x96.Idx → EReal) (b : Fin 4) (h : Fin 8) (s x : Fin 8192) :
    (if x.val ≤ s.val then (∑ d : Fin 96, Q (ix4 b h s d) * K (ix4 b h x d)) * Ideal.ofBits .f32 0x3DD105EC#32 else ⊥)
      = Cert.SoftMath.lg (DD Q K b h s) s.val x.val := by
  unfold Cert.SoftMath.lg DD
  rw [dif_pos x.isLt]

/-- A score of the masked softmax. -/
abbrev lgt (Q K : S4x8x8192x96.Idx → EReal) (b : Fin 4) (h : Fin 8) (s x : Fin 8192) (i : EReal) : EReal :=
  Scalar.select (IntOp.cmpi CmpIPredicate.sle (BitVec.ofNat 32 x.val) (BitVec.ofNat 32 s.val))
    ((∑ d : Fin 96, Q (ix4 b h s d) * K (ix4 b h x d)) * Ideal.ofBits .f32 0x3DD105EC#32) i
/-- A weight of the masked softmax. -/
abbrev wtt (Q K : S4x8x8192x96.Idx → EReal) (b : Fin 4) (h : Fin 8) (s x : Fin 8192) (i z : EReal) : EReal :=
  Scalar.select (IntOp.cmpi CmpIPredicate.sle (BitVec.ofNat 32 x.val) (BitVec.ofNat 32 s.val))
    (Ideal.exp (lgt Q K b h s x i - Finset.fold max (Ideal.ofBits .f32 0xFF800000#32) (fun y => lgt Q K b h s y i) Finset.univ)) z

theorem at_gen (Q K : S4x8x8192x96.Idx → EReal) (X : S4x8x8192x64.Idx → EReal) (b : Fin 4) (h : Fin 8) (s : Fin 8192) (d : Fin 64) (i z : EReal) (hi : i = ⊥) (hz : z = 0) :
    (∑ x : Fin 8192, Ideal.div (wtt Q K b h s x i z) (max (∑ x : Fin 8192, wtt Q K b h s x i z) (Ideal.ofBits .f32 0x0DA24260#32)) * X (ix4 b h x d))
      = Cert.SoftMath.att (DD Q K b h s) (VD X b h d) s.val 8192 (Ideal.ofBits .f32 0x0DA24260#32) := by
  subst hi hz
  simp only [wtt, lgt, sel, lg_eq, neg_inf, fold_top]
  unfold Cert.SoftMath.att
  refine Finset.sum_congr rfl fun x _ => ?_
  unfold VD
  rw [dif_pos x.isLt]
  rfl

theorem at_out (c : Dev nD) (b : Fin 4) (s : Fin 8192) (e : Fin 512) :
    (show S4x8192x512.Idx → EReal from Value.res_main_v25 m c) (ix3 b s e)
      = Cert.SoftMath.att (DD (m ((c.tc : Thread nD τ).loc main_arg0)) (m ((c.tc : Thread nD τ).loc main_arg1)) b ⟨e.val / 64, by omega⟩ s)
          (VD (m ((c.tc : Thread nD τ).loc main_arg2)) b ⟨e.val / 64, by omega⟩ ⟨e.val % 64, by omega⟩) s.val 8192 (Ideal.ofBits .f32 0x0DA24260#32) := by
  unfold Value.res_main_v25
  pointwise
  have z : (id (constant (F := Ideal) S_ FTy.f32 0#32) : S_.Idx → EReal) ix0 = 0 := by simp [constant, broadcast, FloatOps.ofBits]
  have i : (id (constant (F := Ideal) S_ FTy.f32 0xFF800000#32) : S_.Idx → EReal) ix0 = ⊥ := neg_inf
  exact at_gen (m ((c.tc : Thread nD τ).loc main_arg0)) (m ((c.tc : Thread nD τ).loc main_arg1)) (m ((c.tc : Thread nD τ).loc main_arg2)) b _ s _ _ _ i z

end Cert.ReferenceIdeal.At
-- ==== Proof.Algebra.lean ====
module

public import proofs.«01_k».proof.Proof.Launch2
public import proofs.«01_k».proof.Proof.RefAt
@[expose] public section

set_option maxRecDepth 16384
set_option maxHeartbeats 400000
noncomputable section

/-! What the attention leaves, element by element, is the reference's softmax. -/

namespace Cert.KernelIdeal.Alg

open Cert.KernelIdeal Cert.KernelIdeal.Gen Cert.KernelIdeal.Sem Cert.KernelIdeal.Run Cert.KernelIdeal.Entry
open Cert.ReferenceIdeal.At (DD VD)
open Cert.SoftMath (κ₂)
open Idealize.ShloMosaic Idealize.ShloMosaic.TcCoe

/-- The factor on the scores is the reference's, over the logarithm of two. -/
theorem kap_eq : kap = Ideal.ofBits .f32 0x3DD105EC#32 * (κ₂ : EReal) := by
  have h : Ideal.ofBits .f32 0x3DD105EC#32 = ((3424635 / 33554432 : ℝ) : EReal) := by
    simp [Ideal.ofBits, Ideal.ieee]
    rw [← EReal.coe_mul]
    congr 1
    norm_num
  rw [h, ← EReal.coe_mul]
  rfl

theorem eps_pos : (0 : EReal) < Ideal.ofBits .f32 0x0DA24260#32 ∧ Ideal.ofBits .f32 0x0DA24260#32 ≠ ⊤ := by
  constructor
  · simp [Ideal.ofBits, Ideal.ieee]
    rw [← EReal.coe_mul]
    exact EReal.coe_pos.2 (by positivity)
  · simp [Ideal.ofBits, Ideal.ieee]
    rw [← EReal.coe_mul]
    exact EReal.coe_ne_top _

variable {Xq : S4x8192x1024.Idx → EReal} {Xk : S4x8192x1536.Idx → EReal}
variable {Q K : S4x8x8192x96.Idx → EReal} {X : S4x8x8192x64.Idx → EReal}
/-- The queries lie padded, head beside head. -/
def HQ (Xq : S4x8192x1024.Idx → EReal) (Q : S4x8x8192x96.Idx → EReal) : Prop := ∀ b r (l : Fin 1024), Xq (ix3 b r l) = slot Q b r l.val
/-- The keys lie padded, head beside head. -/
def HK (Xk : S4x8192x1536.Idx → EReal) (K : S4x8x8192x96.Idx → EReal) : Prop := ∀ b r (l : Fin 1024), Xk (ix3 b r ⟨l.val, by omega⟩) = slot K b r l.val
/-- The values lie after the keys, head beside head. -/
def HV (Xk : S4x8192x1536.Idx → EReal) (X : S4x8x8192x64.Idx → EReal) : Prop :=
  ∀ b r (l : Fin 512), Xk (ix3 b r ⟨1024 + l.val, by omega⟩) = X (ix4 b ⟨l.val / 64, by omega⟩ r ⟨l.val % 64, by omega⟩)

variable (hq : HQ Xq Q) (hk : HK Xk K) (hv : HV Xk X)

theorem slot_in (Q : S4x8x8192x96.Idx → EReal) (b : Fin 4) (r : Fin 8192) (h : Fin 8) (d : Fin 96) (l : ℕ) (hl : l = 128 * h.val + d.val) :
    slot Q b r l = Q (ix4 b h r d) := by
  unfold slot
  rw [dif_pos (by omega)]
  exact congrArg _ (congrArg₂ (fun a e => ix4 b a r e) (Fin.ext (by show l / 128 = h.val; omega)) (Fin.ext (by show l % 128 = d.val; omega)))

include hq hk in
theorem dot_eq (b : Fin 4) (p : Fin 4) (i : Fin 2) (q : Fin 8) (c : Fin 1024) (g t : ℕ) (hg : g = 4 * b.val + p.val) (ht : t = g * 8 + q.val) (x : Fin 8192) :
    (∑ d : Fin 256, KK Xk g x.val d * headQ (QB Xq t) i.val (ix2 c d))
      = ∑ d : Fin 96, Q (ix4 b ⟨2 * p.val + i.val, by omega⟩ ⟨1024 * q.val + c.val, by omega⟩ d) * K (ix4 b ⟨2 * p.val + i.val, by omega⟩ x d) := by
  have hK : ∀ d : Fin 256, KK Xk g x.val d = slot K b x (256 * p.val + d.val) := fun d => by
    unfold KK
    rw [dif_pos ⟨by omega, x.isLt⟩]
    refine Eq.trans ?_ (hk b x ⟨256 * p.val + d.val, by omega⟩)
    exact congrArg _ (congrArg₂ (fun a e => ix3 a x e) (Fin.ext (by show g / 4 = b.val; omega)) (Fin.ext (by show 256 * (g % 4) + d.val = 256 * p.val + d.val; omega)))
  have hQ : ∀ d : Fin 256, headQ (QB Xq t) i.val (ix2 c d) = if 128 * i.val ≤ d.val ∧ d.val < 128 * (i.val + 1) then slot Q b ⟨1024 * q.val + c.val, by omega⟩ (256 * p.val + d.val) else 0 := fun d => by
    show (if 128 * i.val ≤ d.val ∧ d.val < 128 * (i.val + 1) then QB Xq t (ix3 0 c d) else 0) = _
    refine if_congr Iff.rfl ?_ rfl
    unfold QB
    rw [dif_pos (by omega)]
    refine Eq.trans ?_ (hq b ⟨1024 * q.val + c.val, by omega⟩ ⟨256 * p.val + d.val, by omega⟩)
    have e1 : (⟨t / 32, by omega⟩ : Fin 4) = b := Fin.ext (by show t / 32 = b.val; omega)
    have e2 : (⟨1024 * (t % 8) + c.val, by omega⟩ : Fin 8192) = ⟨1024 * q.val + c.val, by omega⟩ := Fin.ext (by show 1024 * (t % 8) + c.val = 1024 * q.val + c.val; omega)
    have e3 : (⟨256 * (t / 8 % 4) + d.val, by omega⟩ : Fin 1024) = ⟨256 * p.val + d.val, by omega⟩ := Fin.ext (by show 256 * (t / 8 % 4) + d.val = 256 * p.val + d.val; omega)
    show Xq (ix3 ⟨t / 32, _⟩ ⟨1024 * (t % 8) + c.val, _⟩ ⟨256 * (t / 8 % 4) + d.val, _⟩) = _
    rw [e1, e2, e3]
  simp only [hK, hQ]
  symm
  refine Finset.sum_of_injOn (fun d : Fin 96 => (⟨128 * i.val + d.val, by omega⟩ : Fin 256)) ?_ (fun _ _ => Finset.mem_coe.2 (Finset.mem_univ _)) ?_ ?_
  · intro a _ a' _ h
    have := congrArg Fin.val h
    simp only at this
    exact Fin.ext (by omega)
  · intro d _ hd
    by_cases h : 128 * i.val ≤ d.val ∧ d.val < 128 * (i.val + 1)
    · have h96 : ¬ d.val < 128 * i.val + 96 := fun h' => hd ⟨⟨d.val - 128 * i.val, by omega⟩, Finset.mem_coe.2 (Finset.mem_univ _), Fin.ext (by show 128 * i.val + (d.val - 128 * i.val) = d.val; omega)⟩
      rw [if_pos h]
      unfold slot
      rw [dif_neg (by omega), zero_mul]
    · rw [if_neg h, mul_zero]
  · intro d _
    simp only
    rw [if_pos (by constructor <;> omega), slot_in K b x ⟨2 * p.val + i.val, by omega⟩ d _ (by show _ = 128 * (2 * p.val + i.val) + d.val; omega),
      slot_in Q b _ ⟨2 * p.val + i.val, by omega⟩ d _ (by show _ = 128 * (2 * p.val + i.val) + d.val; omega), mul_comm]

include hv in
theorem val_eq (b : Fin 4) (p : Fin 4) (i : Fin 2) (g : ℕ) (hg : g = 4 * b.val + p.val) (d : Fin 64) (e : ℕ) (he : e + 64 ≤ 128) (hei : e = 64 * i.val) (x : ℕ) :
    lane (VV Xk g) e he x d = VD X b ⟨2 * p.val + i.val, by omega⟩ d x := by
  unfold lane VV VD
  by_cases hx : x < 8192
  · rw [dif_pos ⟨by omega, hx⟩, dif_pos hx]
    have h := hv b ⟨x, hx⟩ ⟨128 * p.val + (e + d.val), by omega⟩
    have e1 : (⟨g / 4, by omega⟩ : Fin 4) = b := Fin.ext (by show g / 4 = b.val; omega)
    have e2 : (⟨1024 + 128 * (g % 4) + (e + d.val), by omega⟩ : Fin 1536) = ⟨1024 + (128 * p.val + (e + d.val)), by omega⟩ := Fin.ext (by show 1024 + 128 * (g % 4) + (e + d.val) = 1024 + (128 * p.val + (e + d.val)); omega)
    show Xk (ix3 ⟨g / 4, _⟩ ⟨x, hx⟩ ⟨1024 + 128 * (g % 4) + (e + d.val), _⟩) = _
    rw [e1, e2]
    refine h.trans ?_
    exact congrArg _ (congrArg₂ (fun a e => ix4 b a ⟨x, hx⟩ e) (Fin.ext (by show (128 * p.val + (e + d.val)) / 64 = 2 * p.val + i.val; omega)) (Fin.ext (by show (128 * p.val + (e + d.val)) % 64 = d.val; omega)))
  · rw [dif_neg (fun h => hx h.2), dif_neg hx]

include hq hk hv in
theorem head_eq (b : Fin 4) (p : Fin 4) (i : Fin 2) (q : Fin 8) (c : Fin 1024) (g t : ℕ) (hg : g = 4 * b.val + p.val) (ht : t = g * 8 + q.val) (d : Fin 64) (e : ℕ) (he : e + 64 ≤ 128) (hei : e = 64 * i.val) :
    hd (sc (KK Xk g) (headQ (QB Xq t) i.val) q.val) (lane (VV Xk g) e he) (2 * q.val + 2) d c
      = Cert.SoftMath.att (DD Q K b ⟨2 * p.val + i.val, by omega⟩ ⟨1024 * q.val + c.val, by omega⟩) (VD X b ⟨2 * p.val + i.val, by omega⟩ d) (1024 * q.val + c.val) 8192 (Ideal.ofBits .f32 0x0DA24260#32) := by
  unfold hd
  simp only [val_eq hv b p i g hg d e he hei]
  refine Cert.SoftMath.att_blocks _ _ _ (N := 2 * q.val + 2) (by omega) (by omega) (by omega) eps_pos.1 eps_pos.2 (fun k r => sc (KK Xk g) (headQ (QB Xq t) i.val) q.val k r c) fun k r => ?_
  unfold sc Cert.SoftMath.lg scf
  by_cases h : 512 * k + r.val ≤ 1024 * q.val + c.val
  · rw [if_pos h, if_pos h]
    have hx : 512 * k + r.val < 8192 := by omega
    have := dot_eq hq hk b p i q c g t hg ht ⟨512 * k + r.val, hx⟩
    simp only at this
    unfold DD
    beta_reduce
    rw [dif_pos hx, this, kap_eq, mul_assoc]
  · rw [if_neg h, if_neg h]

theorem lane_congr (V : ℕ → Fin 128 → EReal) {e e' : ℕ} (h : e = e') (he : e + 64 ≤ 128) (he' : e' + 64 ≤ 128) : lane V e he = lane V e' he' := by
  subst h
  rfl

include hq hk hv in
theorem out_eq (b : Fin 4) (s : Fin 8192) (e : Fin 512) :
    OUT Xq Xk (ix3 b s e)
      = Cert.SoftMath.att (DD Q K b ⟨e.val / 64, by omega⟩ s) (VD X b ⟨e.val / 64, by omega⟩ ⟨e.val % 64, by omega⟩) s.val 8192 (Ideal.ofBits .f32 0x0DA24260#32) := by
  have key := head_eq hq hk hv b ⟨e.val / 128, by omega⟩ ⟨e.val / 64 % 2, by omega⟩ ⟨s.val / 1024, by omega⟩ ⟨s.val % 1024, by omega⟩
    (4 * b.val + e.val / 128) ((4 * b.val + e.val / 128) * 8 + s.val / 1024) rfl rfl ⟨e.val % 64, by omega⟩ (64 * (e.val / 64 % 2)) (by omega) rfl
  have e1 : (⟨2 * (e.val / 128) + e.val / 64 % 2, by omega⟩ : Fin 8) = ⟨e.val / 64, by omega⟩ := Fin.ext (by show 2 * (e.val / 128) + e.val / 64 % 2 = e.val / 64; omega)
  have e2 : (⟨1024 * (s.val / 1024) + s.val % 1024, by omega⟩ : Fin 8192) = s := Fin.ext (by show 1024 * (s.val / 1024) + s.val % 1024 = s.val; omega)
  have e3 : 1024 * (s.val / 1024) + s.val % 1024 = s.val := by omega
  simp only at key
  rw [e1, e2, e3] at key
  rw [← key]
  have t1 : ((4 * b.val + e.val / 128) * 8 + s.val / 1024) / 8 = 4 * b.val + e.val / 128 := by omega
  have t2 : ((4 * b.val + e.val / 128) * 8 + s.val / 1024) % 8 = s.val / 1024 := by omega
  show outB Xq Xk ((4 * b.val + e.val / 128) * 8 + s.val / 1024) (ix3 0 ⟨s.val % 1024, _⟩ ⟨e.val % 128, _⟩) = _
  unfold outB
  by_cases h : e.val % 128 < 64
  · rw [dif_pos (show ((ix3 (0 : Fin 1) (⟨s.val % 1024, by omega⟩ : Fin 1024) (⟨e.val % 128, by omega⟩ : Fin 128)) 2).val < 64 from h)]
    unfold H0
    rw [t1, t2]
    have i0 : e.val / 64 % 2 = 0 := by omega
    have d0 : (⟨e.val % 64, by omega⟩ : Fin 64) = ⟨e.val % 128, h⟩ := Fin.ext (by show e.val % 64 = e.val % 128; omega)
    rw [lane_congr _ (show 64 * (e.val / 64 % 2) = 0 by omega) _ (by decide)]
    simp only [i0, d0]
    rfl
  · rw [dif_neg (show ¬ ((ix3 (0 : Fin 1) (⟨s.val % 1024, by omega⟩ : Fin 1024) (⟨e.val % 128, by omega⟩ : Fin 128)) 2).val < 64 from h)]
    unfold H1
    rw [t1, t2]
    have i0 : e.val / 64 % 2 = 1 := by omega
    have d0 : (⟨e.val % 64, by omega⟩ : Fin 64) = ⟨e.val % 128 - 64, by omega⟩ := Fin.ext (by show e.val % 64 = e.val % 128 - 64; omega)
    rw [lane_congr _ (show 64 * (e.val / 64 % 2) = 64 by omega) _ (by decide)]
    simp only [i0, d0]
    rfl

end Cert.KernelIdeal.Alg
-- ==== Proof.Claims.lean ====
module

public import proofs.«01_k».proof.Defs
public import proofs.«01_k».proof.Proof.Algebra
@[expose] public section

set_option maxRecDepth 16384
noncomputable section

/-! The claims about the attention at the ideal instance. -/

namespace Cert.Proof.Attention

open Cert.KernelIdeal.Run Cert.KernelIdeal.Gen
open Idealize.ShloMosaic Idealize.ShloMosaic.TcCoe Idealize.SL.Sem

theorem frame_pi : Cert.quiescent_KernelIdeal (hKernelIdeal := Cert.KernelIdeal.Gen.facts) := fun m ρ _ =>
  θ_run_mono (θ_run_and (frame_of m ρ (dats m) (A_eq m) (θ_run_mono (run_main m ρ) fun _ h => h.1)) (run_main m ρ)) fun r h => ⟨h.1, h.2.2⟩

theorem frame_ri : Cert.quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems (by decide) r.2⟩

theorem preserves : Cert.preserves_Kernel_KernelIdeal :=
  ⟨IdealRules.named_const.statement Cert.KernelIdeal.κ "start" .f32 0xFCF0BDC2#32 ⊥ rfl,
    IdealRules.named_const.statement Cert.KernelIdeal.κ "scale_log2" .f32 0x3E16C740#32 (((3424635 / 33554432) * (Real.log 2)⁻¹ : ℝ) : EReal) rfl⟩

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (show Cert.KernelIdeal.S4x8192x512.Idx → EReal from Cert.ReferenceIdeal.Value.res_main_v25 m' c) = OUT (XQ m c) (XK m c) := by
  funext j
  have hj : j = ix3 (⟨(j 0).val, (j 0).isLt⟩ : Fin 4) (⟨(j 1).val, (j 1).isLt⟩ : Fin 8192) (⟨(j 2).val, (j 2).isLt⟩ : Fin 512) := by
    funext b; fin_cases b <;> rfl
  rw [hj]
  refine (Cert.ReferenceIdeal.At.at_out m' c _ _ _).trans ?_
  rw [h0, h1, h2]
  exact (Cert.KernelIdeal.Alg.out_eq (Q := m ((c.tc : Thread Cert.KernelIdeal.nD Cert.KernelIdeal.τ).loc Cert.KernelIdeal.main_arg0))
    (K := m ((c.tc : Thread Cert.KernelIdeal.nD Cert.KernelIdeal.τ).loc Cert.KernelIdeal.main_arg1))
    (X := m ((c.tc : Thread Cert.KernelIdeal.nD Cert.KernelIdeal.τ).loc Cert.KernelIdeal.main_arg2))
    (Cert.KernelIdeal.Entry.V_q m c) (Cert.KernelIdeal.Entry.V_k m c) (Cert.KernelIdeal.Entry.V_v m c) _ _ _).symm

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => OUT (XQ m c) (XK m c), ?_, ?_⟩
  · exact θ_run_mono (θ_run_and (frame_of m ρ (dats m) (A_eq m) (θ_run_mono (run_main m ρ) fun _ h => h.1)) (run_main m ρ))
      fun r h c => ⟨((h.2.1 c).1 4).trans (final m c), h.1 c⟩
  · exact θ_run_mono (Cert.ReferenceIdeal.Value.run (F := Ideal) m' ρ')
      fun r h c => ⟨(h c).1.trans (result_eq m m' c (hagree c).1 (hagree c).2.1 (hagree c).2.2), (h c).2⟩

end Cert.Proof.Attention
-- ==== Proof.KRun.lean ====
module

public import proofs.«01_k».proof.Proof.KOff
public import Idealize.ShloMosaic.PureOps.BitExact
public import proofs.«01_k».proof.Proof.Gen.Kernel.Frame
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000
set_option pp.maxSteps 300
noncomputable section

/-! The body of one grid point, its memory only. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Bits) ℕ (UR sig nD τ) ℕ

abbrev 𝒱₀ : Variants := Variants.none
variable (c : Dev nD) (i : grid0.Coords) (arg2 : Memref sig .tc .vmem S1x1024x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x512x512 .f32) (harg5 : arg5.IsWhole) (arg6 : Memref sig .tc .vmem S1x1024x128 .bf16) (harg6 : arg6.IsWhole)
  (arg7 : Memref sig .tc .vmem S16x512x1024 .f32) (harg7 : arg7.IsWhole) (arg8 : Memref sig .tc .vmem S16x128x512 .bf16) (harg8 : arg8.IsWhole)

/-- A part's triple, and the rest from its postcondition. -/
theorem seq {α β : Type} {p : Prog (TpuEff nD τ sig (Elt Bits) Λ₀ .tc) α} {k : α → Prog (TpuEff nD τ sig (Elt Bits) Λ₀ .tc) β} {P : sProp 𝕄G} {R : α → sProp 𝕄G} {Q : β → sProp 𝕄G}
    (h : P ⊢ wp frame (wpE (defs₀ (F := Bits)) 𝒱₀ (c : Thread nD τ) none) Set.univ p R) :
    iprop(P ∗ (∀ a, R a -∗ wp frame (wpE (defs₀ (F := Bits)) 𝒱₀ (c : Thread nD τ) none) Set.univ (k a) Q))
      ⊢ wp frame (wpE (defs₀ (F := Bits)) 𝒱₀ (c : Thread nD τ) none) Set.univ (p >>= k) Q := by
  rw [wp_bind]
  iintro ⟨HP, HQ⟩
  iapply wp_wand_r
  isplitl [HP]
  · iapply h $$ HP
  iexact HQ

/-- One group of eight key blocks. -/
theorem t1_trip (f3 f7) (v12 : FVec Bits S1024x256 .bf16) (v14 : FVec Bits S8x1024 .f32) (v33 c8 v34 : BitVec 32) (v35 : BitVec 1) (k : Fin (k0_t1_loop i).trips) (acc : FVec Bits S8x1024 .f32) :
    iprop((arg3.view.loc (c : Thread nD τ) ↦[arg3.view.set]{fullShare} f3) ∗ (arg7.view.loc (c : Thread nD τ) ↦[arg7.view.set]{fullShare} f7))
      ⊢ wp frame (wpE (defs₀ (F := Bits)) 𝒱₀ (c : Thread nD τ) none) Set.univ (k0_t1_body i arg2 harg2 arg3 harg3 arg4 harg4 arg5 harg5 arg6 harg6 arg7 harg7 arg8 harg8 v12 v14 v33 c8 v34 v35 k acc)
        (fun _ => (iprop(∃ g7, (arg3.view.loc (c : Thread nD τ) ↦[arg3.view.set]{fullShare} f3) ∗ (arg7.view.loc (c : Thread nD τ) ↦[arg7.view.set]{fullShare} g7)) : sProp 𝕄G)) := by
  have hk : k.val < (i 1).val / 4 := lt_of_lt_of_eq k.2 (k0_t1_trips i)
  skip
  unfold k0_t1_body
  iintro ⟨H3, H7⟩
  sl_exec
  sl_step
  iexists _
  isplitl [H3]; · iexact H3
  iexact H7

/-- One group of eight key blocks. -/
theorem t3_trip (f7 f8) (v12 : FVec Bits S1024x256 .bf16) (v15 : FVec Bits S8x1024 .f32) (v16 : FVec Bits S64x1024 .f32) (v50 v52 v53 : BitVec 32) (v60 : FVec Bits S8x1024 .f32) (v77 : BitVec 32) (v81 : FVec Bits S8x1024 .f32) (k : Fin (k0_t3_loop i).trips) (acc : FVec Bits S8x1024 .f32 × FVec Bits S64x1024 .f32) :
    iprop((arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_t3_body i arg2 harg2 arg3 harg3 arg4 harg4 arg5 harg5 arg6 harg6 arg7 harg7 arg8 harg8 v12 v15 v16 v50 v52 v53 v60 v77 v81 k acc)
        (fun _ => (iprop(∃ g7, (arg7.view.loc (c : Thread nD τ) ↦[arg7.view.set]{fullShare} g7) ∗ (arg8.view.loc (c : Thread nD τ) ↦[arg8.view.set]{fullShare} f8)) : sProp 𝕄G)) := by
  have hk : k.val < (i 1).val / 4 := lt_of_lt_of_eq k.2 (k0_t3_trips i)
  obtain ⟨a1, a2⟩ := acc
  unfold k0_t3_body
  iintro ⟨H7, H8⟩
  sl_exec
  sl_step
  iexists _
  isplitl [H7]; · iexact H7
  iexact H8

/-- One group of eight key blocks. -/
theorem t5_trip (f3 f7) (v124 : FVec Bits S1024x256 .bf16) (v126 : FVec Bits S8x1024 .f32) (v145 v146 : BitVec 32) (v157 : BitVec 1) (v158 : BitVec 32) (k : Fin (k0_t5_loop i).trips) (acc : FVec Bits S8x1024 .f32) :
    iprop((arg3.view.loc (c : Thread nD τ) ↦[arg3.view.set]{fullShare} f3) ∗ (arg7.view.loc (c : Thread nD τ) ↦[arg7.view.set]{fullShare} f7))
      ⊢ wp frame (wpE (defs₀ (F := Bits)) 𝒱₀ (c : Thread nD τ) none) Set.univ (k0_t5_body i arg2 harg2 arg3 harg3 arg4 harg4 arg5 harg5 arg6 harg6 arg7 harg7 arg8 harg8 v124 v126 v145 v146 v157 v158 k acc)
        (fun _ => (iprop(∃ g7, (arg3.view.loc (c : Thread nD τ) ↦[arg3.view.set]{fullShare} f3) ∗ (arg7.view.loc (c : Thread nD τ) ↦[arg7.view.set]{fullShare} g7)) : sProp 𝕄G)) := by
  have hk : k.val < (i 1).val / 4 := lt_of_lt_of_eq k.2 (k0_t5_trips i)
  skip
  unfold k0_t5_body
  iintro ⟨H3, H7⟩
  sl_exec
  sl_step
  iexists _
  isplitl [H3]; · iexact H3
  iexact H7

/-- One group of eight key blocks. -/
theorem t7_trip (f7 f8) (v195 : FVec Bits S1x1024 .f32) (c0_i32_86 : BitVec 32) (k : Fin (k0_t7_loop i).trips) (acc : FVec Bits S8x1024 .f32 × FVec Bits S64x1024 .f32) :
    iprop((arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_t7_body i arg2 harg2 arg3 harg3 arg4 harg4 arg5 harg5 arg6 harg6 arg7 harg7 arg8 harg8 v195 c0_i32_86 k acc)
        (fun _ => (iprop(∃ g7, (arg7.view.loc (c : Thread nD τ) ↦[arg7.view.set]{fullShare} g7) ∗ (arg8.view.loc (c : Thread nD τ) ↦[arg8.view.set]{fullShare} f8)) : sProp 𝕄G)) := by
  have hk : k.val < (i 1).val / 4 := lt_of_lt_of_eq k.2 (k0_t7_trips i)
  obtain ⟨a1, a2⟩ := acc
  unfold k0_t7_body
  iintro ⟨H7, H8⟩
  sl_exec
  sl_step
  iexists _
  isplitl [H7]; · iexact H7
  iexact H8

/-- The groups of eight key blocks of the first head's scores. -/
theorem p50 (f3 f7) (v12 : FVec Bits S1024x256 .bf16) (v14 : FVec Bits S8x1024 .f32) (v33 c8 v34 : BitVec 32) (v35 : BitVec 1) :
    iprop((arg3.view.loc (c : Thread nD τ) ↦[arg3.view.set]{fullShare} f3) ∗ (arg7.view.loc (c : Thread nD τ) ↦[arg7.view.set]{fullShare} f7))
      ⊢ wp frame (wpE (defs₀ (F := Bits)) 𝒱₀ (c : Thread nD τ) none) Set.univ (k0_part50 i arg2 harg2 arg3 harg3 arg4 harg4 arg5 harg5 arg6 harg6 arg7 harg7 arg8 harg8 v12 v14 v33 c8 v34 v35)
        (fun _ => (iprop(∃ g7, (arg3.view.loc (c : Thread nD τ) ↦[arg3.view.set]{fullShare} f3) ∗ (arg7.view.loc (c : Thread nD τ) ↦[arg7.view.set]{fullShare} g7)) : sProp 𝕄G)) := by
  rw [k0_part50_eq_skeleton]
  unfold k0_part50_skel
  iintro ⟨H3, H7⟩
  sl_exec
  sl_for (fun (k : ℕ) (acc : FVec Bits S8x1024 .f32) => (iprop(∃ g7, (arg3.view.loc (c : Thread nD τ) ↦[arg3.view.set]{fullShare} f3) ∗ (arg7.view.loc (c : Thread nD τ) ↦[arg7.view.set]{fullShare} g7)) : sProp 𝕄G)) $$ [H3 H7]
  · intro k acc
    iintro ⟨%g7, H3, H7⟩
    iapply (t1_trip c i arg2 harg2 arg3 harg3 arg4 harg4 arg5 harg5 arg6 harg6 arg7 harg7 arg8 harg8 f3 g7 v12 v14 v33 c8 v34 v35 k acc) $$ [H3 H7]
    isplitl [H3]; · iexact H3
    iexact H7
  · iexists f7
    isplitl [H3]; · iexact H3
    iexact H7
  iintro %acc ⟨%g7, H3, H7⟩
  sl_for0 (k0_t2_trips i)
  sl_exec
  sl_step
  iexists g7
  isplitl [H3]; · iexact H3
  iexact H7

/-- The first head's last 8 blocks. -/
theorem p51_8 (f3 f5 f7 f8) (v12 : FVec Bits S1024x256 .bf16) (v15 : FVec Bits S8x1024 .f32) (v16 : FVec Bits S64x1024 .f32) (v50 v52 v53 : BitVec 32) (v60 : FVec Bits S8x1024 .f32) (v77 : BitVec 32) (hr : (i 1).val % 4 = 3) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part51 i arg2 harg2 arg3 harg3 arg4 harg4 arg5 harg5 arg6 harg6 arg7 harg7 arg8 harg8 v12 v15 v16 v50 v52 v53 v60 v77)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8)) : sProp 𝕄G)) := by
  have hc2 := (k0_cond2_iff i).2 (by omega)
  have hc3 := (k0_cond3_iff i).2 (by omega)
  have hc4 := (k0_cond4_iff i).2 (by omega)
  have hc5 := (k0_cond5_iff i).2 (by omega)
  have hc6 := (k0_cond6_iff i).2 (by omega)
  have hc7 := (k0_cond7_iff i).2 (by omega)
  rw [k0_part51_eq_skeleton]
  unfold k0_part51_skel
  iintro ⟨H3, H5, H7, H8⟩
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} f8)) : sProp 𝕄G)) $$ [H7 H8]
  · intro k acc
    iintro ⟨%g7, H7, H8⟩
    iapply (t3_trip c i arg2 harg2 arg3 harg3 arg4 harg4 arg5 harg5 arg6 harg6 arg7 harg7 arg8 harg8 g7 f8 v12 v15 v16 v50 v52 v53 v60 v77 _ k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t4_trips i)
  sl_exec
  sl_step
  iexists g7
  isplitl [H3]; · iexact H3
  isplitl [H5]; · iexact H5
  isplitl [H7]; · iexact H7
  iexact H8

/-- The first head's last 6 blocks. -/
theorem p51_6 (f3 f5 f7 f8) (v12 : FVec Bits S1024x256 .bf16) (v15 : FVec Bits S8x1024 .f32) (v16 : FVec Bits S64x1024 .f32) (v50 v52 v53 : BitVec 32) (v60 : FVec Bits S8x1024 .f32) (v77 : BitVec 32) (hr : (i 1).val % 4 = 2) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part51 i arg2 harg2 arg3 harg3 arg4 harg4 arg5 harg5 arg6 harg6 arg7 harg7 arg8 harg8 v12 v15 v16 v50 v52 v53 v60 v77)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8)) : sProp 𝕄G)) := by
  have hc2 := (k0_cond2_iff i).2 (by omega)
  have hc3 := (k0_cond3_iff i).2 (by omega)
  have hc4 := (k0_cond4_iff i).not.2 (not_not.2 hr)
  have hc5 := (k0_cond5_iff i).2 (by omega)
  have hc6 := (k0_cond6_iff i).2 (by omega)
  have hc7 := (k0_cond7_iff i).not.2 (not_not.2 hr)
  rw [k0_part51_eq_skeleton]
  unfold k0_part51_skel
  iintro ⟨H3, H5, H7, H8⟩
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} f8)) : sProp 𝕄G)) $$ [H7 H8]
  · intro k acc
    iintro ⟨%g7, H7, H8⟩
    iapply (t3_trip c i arg2 harg2 arg3 harg3 arg4 harg4 arg5 harg5 arg6 harg6 arg7 harg7 arg8 harg8 g7 f8 v12 v15 v16 v50 v52 v53 v60 v77 _ k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t4_trips i)
  sl_exec
  sl_step
  iexists g7
  isplitl [H3]; · iexact H3
  isplitl [H5]; · iexact H5
  isplitl [H7]; · iexact H7
  iexact H8

/-- The first head's last 4 blocks. -/
theorem p51_4 (f3 f5 f7 f8) (v12 : FVec Bits S1024x256 .bf16) (v15 : FVec Bits S8x1024 .f32) (v16 : FVec Bits S64x1024 .f32) (v50 v52 v53 : BitVec 32) (v60 : FVec Bits S8x1024 .f32) (v77 : BitVec 32) (hr : (i 1).val % 4 = 1) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part51 i arg2 harg2 arg3 harg3 arg4 harg4 arg5 harg5 arg6 harg6 arg7 harg7 arg8 harg8 v12 v15 v16 v50 v52 v53 v60 v77)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8)) : sProp 𝕄G)) := by
  have hc2 := (k0_cond2_iff i).2 (by omega)
  have hc3 := (k0_cond3_iff i).not.2 (not_not.2 hr)
  have hc5 := (k0_cond5_iff i).2 (by omega)
  have hc6 := (k0_cond6_iff i).not.2 (not_not.2 hr)
  rw [k0_part51_eq_skeleton]
  unfold k0_part51_skel
  iintro ⟨H3, H5, H7, H8⟩
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} f8)) : sProp 𝕄G)) $$ [H7 H8]
  · intro k acc
    iintro ⟨%g7, H7, H8⟩
    iapply (t3_trip c i arg2 harg2 arg3 harg3 arg4 harg4 arg5 harg5 arg6 harg6 arg7 harg7 arg8 harg8 g7 f8 v12 v15 v16 v50 v52 v53 v60 v77 _ k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t4_trips i)
  sl_exec
  sl_step
  iexists g7
  isplitl [H3]; · iexact H3
  isplitl [H5]; · iexact H5
  isplitl [H7]; · iexact H7
  iexact H8

/-- The first head's last 2 blocks. -/
theorem p51_2 (f3 f5 f7 f8) (v12 : FVec Bits S1024x256 .bf16) (v15 : FVec Bits S8x1024 .f32) (v16 : FVec Bits S64x1024 .f32) (v50 v52 v53 : BitVec 32) (v60 : FVec Bits S8x1024 .f32) (v77 : BitVec 32) (hr : (i 1).val % 4 = 0) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part51 i arg2 harg2 arg3 harg3 arg4 harg4 arg5 harg5 arg6 harg6 arg7 harg7 arg8 harg8 v12 v15 v16 v50 v52 v53 v60 v77)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7) ∗ (arg8.view.loc (c : Thread nD τ) ↦[arg8.view.set]{fullShare} f8)) : sProp 𝕄G)) := by
  have hc2 := (k0_cond2_iff i).not.2 (not_not.2 hr)
  have hc5 := (k0_cond5_iff i).not.2 (not_not.2 hr)
  rw [k0_part51_eq_skeleton]
  unfold k0_part51_skel
  iintro ⟨H3, H5, H7, H8⟩
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} f8)) : sProp 𝕄G)) $$ [H7 H8]
  · intro k acc
    iintro ⟨%g7, H7, H8⟩
    iapply (t3_trip c i arg2 harg2 arg3 harg3 arg4 harg4 arg5 harg5 arg6 harg6 arg7 harg7 arg8 harg8 g7 f8 v12 v15 v16 v50 v52 v53 v60 v77 _ k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t4_trips i)
  sl_exec
  sl_step
  iexists g7
  isplitl [H3]; · iexact H3
  isplitl [H5]; · iexact H5
  isplitl [H7]; · iexact H7
  iexact H8

/-- The second head's scores, groups and the last 8 blocks. -/
theorem p53_8 (f3 f5 f7) (v124 : FVec Bits S1024x256 .bf16) (v126 : FVec Bits S8x1024 .f32) (v145 v146 : BitVec 32) (v157 : BitVec 1) (v158 : BitVec 32) (hr : (i 1).val % 4 = 3) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Bits)) 𝒱₀ (c : Thread nD τ) none) Set.univ (k0_part53 i arg2 harg2 arg3 harg3 arg4 harg4 arg5 harg5 arg6 harg6 arg7 harg7 arg8 harg8 v124 v126 v145 v146 v157 v158)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7)) : sProp 𝕄G)) := by
  have hc8 := (k0_cond8_iff i).2 (by omega)
  have hc9 := (k0_cond9_iff i).2 (by omega)
  have hc10 := (k0_cond10_iff i).2 (by omega)
  rw [k0_part53_eq_skeleton]
  unfold k0_part53_skel
  iintro ⟨H3, H5, H7⟩
  sl_exec
  sl_for (fun (k : ℕ) (acc : FVec Bits S8x1024 .f32) => (iprop(∃ g7, (arg3.view.loc (c : Thread nD τ) ↦[arg3.view.set]{fullShare} f3) ∗ (arg7.view.loc (c : Thread nD τ) ↦[arg7.view.set]{fullShare} g7)) : sProp 𝕄G)) $$ [H3 H7]
  · intro k acc
    iintro ⟨%g7, H3, H7⟩
    iapply (t5_trip c i arg2 harg2 arg3 harg3 arg4 harg4 arg5 harg5 arg6 harg6 arg7 harg7 arg8 harg8 f3 g7 v124 v126 v145 v146 v157 v158 k acc) $$ [H3 H7]
    isplitl [H3]; · iexact H3
    iexact H7
  · iexists f7
    isplitl [H3]; · iexact H3
    iexact H7
  iintro %acc ⟨%g7, H3, H7⟩
  sl_for0 (k0_t6_trips i)
  sl_exec
  sl_step
  iexists _
  isplitl [H3]; · iexact H3
  isplitl [H5]; · iexact H5
  iexact H7

/-- The second head's scores, groups and the last 6 blocks. -/
theorem p53_6 (f3 f5 f7) (v124 : FVec Bits S1024x256 .bf16) (v126 : FVec Bits S8x1024 .f32) (v145 v146 : BitVec 32) (v157 : BitVec 1) (v158 : BitVec 32) (hr : (i 1).val % 4 = 2) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Bits)) 𝒱₀ (c : Thread nD τ) none) Set.univ (k0_part53 i arg2 harg2 arg3 harg3 arg4 harg4 arg5 harg5 arg6 harg6 arg7 harg7 arg8 harg8 v124 v126 v145 v146 v157 v158)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7)) : sProp 𝕄G)) := by
  have hc8 := (k0_cond8_iff i).2 (by omega)
  have hc9 := (k0_cond9_iff i).2 (by omega)
  have hc10 := (k0_cond10_iff i).not.2 (not_not.2 hr)
  rw [k0_part53_eq_skeleton]
  unfold k0_part53_skel
  iintro ⟨H3, H5, H7⟩
  sl_exec
  sl_for (fun (k : ℕ) (acc : FVec Bits S8x1024 .f32) => (iprop(∃ g7, (arg3.view.loc (c : Thread nD τ) ↦[arg3.view.set]{fullShare} f3) ∗ (arg7.view.loc (c : Thread nD τ) ↦[arg7.view.set]{fullShare} g7)) : sProp 𝕄G)) $$ [H3 H7]
  · intro k acc
    iintro ⟨%g7, H3, H7⟩
    iapply (t5_trip c i arg2 harg2 arg3 harg3 arg4 harg4 arg5 harg5 arg6 harg6 arg7 harg7 arg8 harg8 f3 g7 v124 v126 v145 v146 v157 v158 k acc) $$ [H3 H7]
    isplitl [H3]; · iexact H3
    iexact H7
  · iexists f7
    isplitl [H3]; · iexact H3
    iexact H7
  iintro %acc ⟨%g7, H3, H7⟩
  sl_for0 (k0_t6_trips i)
  sl_exec
  sl_step
  iexists _
  isplitl [H3]; · iexact H3
  isplitl [H5]; · iexact H5
  iexact H7

/-- The second head's scores, groups and the last 4 blocks. -/
theorem p53_4 (f3 f5 f7) (v124 : FVec Bits S1024x256 .bf16) (v126 : FVec Bits S8x1024 .f32) (v145 v146 : BitVec 32) (v157 : BitVec 1) (v158 : BitVec 32) (hr : (i 1).val % 4 = 1) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Bits)) 𝒱₀ (c : Thread nD τ) none) Set.univ (k0_part53 i arg2 harg2 arg3 harg3 arg4 harg4 arg5 harg5 arg6 harg6 arg7 harg7 arg8 harg8 v124 v126 v145 v146 v157 v158)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7)) : sProp 𝕄G)) := by
  have hc8 := (k0_cond8_iff i).2 (by omega)
  have hc9 := (k0_cond9_iff i).not.2 (not_not.2 hr)
  rw [k0_part53_eq_skeleton]
  unfold k0_part53_skel
  iintro ⟨H3, H5, H7⟩
  sl_exec
  sl_for (fun (k : ℕ) (acc : FVec Bits S8x1024 .f32) => (iprop(∃ g7, (arg3.view.loc (c : Thread nD τ) ↦[arg3.view.set]{fullShare} f3) ∗ (arg7.view.loc (c : Thread nD τ) ↦[arg7.view.set]{fullShare} g7)) : sProp 𝕄G)) $$ [H3 H7]
  · intro k acc
    iintro ⟨%g7, H3, H7⟩
    iapply (t5_trip c i arg2 harg2 arg3 harg3 arg4 harg4 arg5 harg5 arg6 harg6 arg7 harg7 arg8 harg8 f3 g7 v124 v126 v145 v146 v157 v158 k acc) $$ [H3 H7]
    isplitl [H3]; · iexact H3
    iexact H7
  · iexists f7
    isplitl [H3]; · iexact H3
    iexact H7
  iintro %acc ⟨%g7, H3, H7⟩
  sl_for0 (k0_t6_trips i)
  sl_exec
  sl_step
  iexists _
  isplitl [H3]; · iexact H3
  isplitl [H5]; · iexact H5
  iexact H7

/-- The second head's scores, groups and the last 2 blocks. -/
theorem p53_2 (f3 f5 f7) (v124 : FVec Bits S1024x256 .bf16) (v126 : FVec Bits S8x1024 .f32) (v145 v146 : BitVec 32) (v157 : BitVec 1) (v158 : BitVec 32) (hr : (i 1).val % 4 = 0) :
    iprop((arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7))
      ⊢ wp frame (wpE (defs₀ (F := Bits)) 𝒱₀ (c : Thread nD τ) none) Set.univ (k0_part53 i arg2 harg2 arg3 harg3 arg4 harg4 arg5 harg5 arg6 harg6 arg7 harg7 arg8 harg8 v124 v126 v145 v146 v157 v158)
        (fun _ => (iprop(∃ g7, (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} g7)) : sProp 𝕄G)) := by
  have hc8 := (k0_cond8_iff i).not.2 (not_not.2 hr)
  rw [k0_part53_eq_skeleton]
  unfold k0_part53_skel
  iintro ⟨H3, H5, H7⟩
  sl_exec
  sl_for (fun (k : ℕ) (acc : FVec Bits S8x1024 .f32) => (iprop(∃ g7, (arg3.view.loc (c : Thread nD τ) ↦[arg3.view.set]{fullShare} f3) ∗ (arg7.view.loc (c : Thread nD τ) ↦[arg7.view.set]{fullShare} g7)) : sProp 𝕄G)) $$ [H3 H7]
  · intro k acc
    iintro ⟨%g7, H3, H7⟩
    iapply (t5_trip c i arg2 harg2 arg3 harg3 arg4 harg4 arg5 harg5 arg6 harg6 arg7 harg7 arg8 harg8 f3 g7 v124 v126 v145 v146 v157 v158 k acc) $$ [H3 H7]
    isplitl [H3]; · iexact H3
    iexact H7
  · iexists f7
    isplitl [H3]; · iexact H3
    iexact H7
  iintro %acc ⟨%g7, H3, H7⟩
  sl_for0 (k0_t6_trips i)
  sl_exec
  sl_step
  iexists _
  isplitl [H3]; · iexact H3
  isplitl [H5]; · iexact H5
  iexact H7

/-- The first query block of a pair of heads transposes the values. -/
theorem p49_first (f2 f4 f8) (h : (i 1).val = 0) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Bits)) 𝒱₀ (c : Thread nD τ) none) Set.univ (k0_part49 i arg2 harg2 arg3 harg3 arg4 harg4 arg5 harg5 arg6 harg6 arg7 harg7 arg8 harg8)
        (fun _ => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8)) : sProp 𝕄G)) := by
  have hz := (z_iff i).2 h
  rw [k0_part49_eq_skeleton]
  unfold k0_part49_skel
  iintro ⟨H2, H4, H8⟩
  sl_exec
  sl_step
  iexists _
  isplitl [H2]; · iexact H2
  isplitl [H4]; · iexact H4
  iexact H8

/-- A later query block finds them. -/
theorem p49_later (f2 f4 f8) (h : (i 1).val ≠ 0) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Bits)) 𝒱₀ (c : Thread nD τ) none) Set.univ (k0_part49 i arg2 harg2 arg3 harg3 arg4 harg4 arg5 harg5 arg6 harg6 arg7 harg7 arg8 harg8)
        (fun _ => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8)) : sProp 𝕄G)) := by
  have hz := (z_iff i).not.2 h
  rw [k0_part49_eq_skeleton]
  unfold k0_part49_skel
  iintro ⟨H2, H4, H8⟩
  sl_exec
  sl_step
  iexists _
  isplitl [H2]; · iexact H2
  isplitl [H4]; · iexact H4
  iexact H8

/-- The start of the body. -/
theorem p49 (f2 f4 f8) :
    iprop((arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} f8))
      ⊢ wp frame (wpE (defs₀ (F := Bits)) 𝒱₀ (c : Thread nD τ) none) Set.univ (k0_part49 i arg2 harg2 arg3 harg3 arg4 harg4 arg5 harg5 arg6 harg6 arg7 harg7 arg8 harg8)
        (fun _ => (iprop(∃ g8, (arg2.view.loc (c : Thread nD τ) ↦[arg2.view.set]{fullShare} f2) ∗ (arg4.view.loc (c : Thread nD τ) ↦[arg4.view.set]{fullShare} f4) ∗ (arg8.view.loc (c : Thread nD τ) ↦[arg8.view.set]{fullShare} g8)) : sProp 𝕄G)) := by
  by_cases h : (i 1).val = 0
  · exact p49_first c i arg2 harg2 arg3 harg3 arg4 harg4 arg5 harg5 arg6 harg6 arg7 harg7 arg8 harg8 f2 f4 f8 h
  · exact p49_later c i arg2 harg2 arg3 harg3 arg4 harg4 arg5 harg5 arg6 harg6 arg7 harg7 arg8 harg8 f2 f4 f8 h

/-- The second head's queries and its sums' start. -/
theorem p52 (arg1 : BitVec 32) (v4 : FVec Bits S1024x256 .bf16) (v5 : IVec S1024x256 32) (P : sProp 𝕄G) :
    P ⊢ wp frame (wpE (defs₀ (F := Bits)) 𝒱₀ (c : Thread nD τ) none) Set.univ (k0_part52 i arg2 harg2 arg3 harg3 arg4 harg4 arg5 harg5 arg6 harg6 arg7 harg7 arg8 harg8 arg1 v4 v5) (fun _ => P) := by
  rw [k0_part52_eq_skeleton]
  unfold k0_part52_skel
  iintro HP
  sl_exec
  sl_step
  iexact HP

/-- The whole body but its last store, at a query block whose last group has 8 key blocks. -/
theorem p54_8 (f2 f3 f4 f5 f6 f7 f8) (hr : (i 1).val % 4 = 3) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part54 i arg2 harg2 arg3 harg3 arg4 harg4 arg5 harg5 arg6 harg6 arg7 harg7 arg8 harg8)
        (fun _ => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8)) : sProp 𝕄G)) := by
  have hc11 := (k0_cond11_iff i).2 (by omega)
  have hc12 := (k0_cond12_iff i).2 (by omega)
  have hc13 := (k0_cond13_iff i).2 (by omega)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8))
  isplitl [H2 H4 H8]
  · isplitl [H2]; · iexact H2
    isplitl [H4]; · iexact H4
    iexact H8
  iintro %r1 ⟨%g8, H2, H4, H8⟩
  obtain ⟨arg1, v4, v5, v12, v14, v15, v16, v33, c8, v34, v35⟩ := r1
  dsimp only
  iapply (seq c (p50 c i arg2 harg2 arg3 harg3 arg4 harg4 arg5 harg5 arg6 harg6 arg7 harg7 arg8 harg8 f3 f7 v12 v14 v33 c8 v34 v35))
  isplitl [H3 H7]
  · isplitl [H3]; · iexact H3
    iexact H7
  iintro %r2 ⟨%g7, H3, H7⟩
  obtain ⟨v50, v52, v53, v60, v77⟩ := r2
  dsimp only
  iapply (seq c (p51_8 c i arg2 harg2 arg3 harg3 arg4 harg4 arg5 harg5 arg6 harg6 arg7 harg7 arg8 harg8 f3 f5 g7 g8 v12 v15 v16 v50 v52 v53 v60 v77 hr))
  isplitl [H3 H5 H7 H8]
  · isplitl [H3]; · iexact H3
    isplitl [H5]; · iexact H5
    isplitl [H7]; · iexact H7
    iexact H8
  iintro %v117 ⟨%g7, H3, H5, H7, H8⟩
  iapply (seq c (p52 c i arg2 harg2 arg3 harg3 arg4 harg4 arg5 harg5 arg6 harg6 arg7 harg7 arg8 harg8 arg1 v4 v5 _))
  isplitl [H3]; · iexact H3
  iintro %r3 H3
  obtain ⟨v124, v126, v127, v128, v145, v146, v157, v158⟩ := r3
  dsimp only
  iapply (seq c (p53_8 c i arg2 harg2 arg3 harg3 arg4 harg4 arg5 harg5 arg6 harg6 arg7 harg7 arg8 harg8 f3 f5 g7 v124 v126 v145 v146 v157 v158 hr))
  isplitl [H3 H5 H7]
  · isplitl [H3]; · iexact H3
    isplitl [H5]; · iexact H5
    iexact H7
  iintro %r4 ⟨%g7, H3, H5, H7⟩
  obtain ⟨v164, v165, v195, c0, v196, c1⟩ := r4
  dsimp only
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} g8)) : sProp 𝕄G)) $$ [H7 H8]
  · intro k acc
    iintro ⟨%g7, H7, H8⟩
    iapply (t7_trip c i arg2 harg2 arg3 harg3 arg4 harg4 arg5 harg5 arg6 harg6 arg7 harg7 arg8 harg8 g7 g8 v195 c0 k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  iexact H8

/-- The whole body but its last store, at a query block whose last group has 6 key blocks. -/
theorem p54_6 (f2 f3 f4 f5 f6 f7 f8) (hr : (i 1).val % 4 = 2) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part54 i arg2 harg2 arg3 harg3 arg4 harg4 arg5 harg5 arg6 harg6 arg7 harg7 arg8 harg8)
        (fun _ => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8)) : sProp 𝕄G)) := by
  have hc11 := (k0_cond11_iff i).2 (by omega)
  have hc12 := (k0_cond12_iff i).2 (by omega)
  have hc13 := (k0_cond13_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8))
  isplitl [H2 H4 H8]
  · isplitl [H2]; · iexact H2
    isplitl [H4]; · iexact H4
    iexact H8
  iintro %r1 ⟨%g8, H2, H4, H8⟩
  obtain ⟨arg1, v4, v5, v12, v14, v15, v16, v33, c8, v34, v35⟩ := r1
  dsimp only
  iapply (seq c (p50 c i arg2 harg2 arg3 harg3 arg4 harg4 arg5 harg5 arg6 harg6 arg7 harg7 arg8 harg8 f3 f7 v12 v14 v33 c8 v34 v35))
  isplitl [H3 H7]
  · isplitl [H3]; · iexact H3
    iexact H7
  iintro %r2 ⟨%g7, H3, H7⟩
  obtain ⟨v50, v52, v53, v60, v77⟩ := r2
  dsimp only
  iapply (seq c (p51_6 c i arg2 harg2 arg3 harg3 arg4 harg4 arg5 harg5 arg6 harg6 arg7 harg7 arg8 harg8 f3 f5 g7 g8 v12 v15 v16 v50 v52 v53 v60 v77 hr))
  isplitl [H3 H5 H7 H8]
  · isplitl [H3]; · iexact H3
    isplitl [H5]; · iexact H5
    isplitl [H7]; · iexact H7
    iexact H8
  iintro %v117 ⟨%g7, H3, H5, H7, H8⟩
  iapply (seq c (p52 c i arg2 harg2 arg3 harg3 arg4 harg4 arg5 harg5 arg6 harg6 arg7 harg7 arg8 harg8 arg1 v4 v5 _))
  isplitl [H3]; · iexact H3
  iintro %r3 H3
  obtain ⟨v124, v126, v127, v128, v145, v146, v157, v158⟩ := r3
  dsimp only
  iapply (seq c (p53_6 c i arg2 harg2 arg3 harg3 arg4 harg4 arg5 harg5 arg6 harg6 arg7 harg7 arg8 harg8 f3 f5 g7 v124 v126 v145 v146 v157 v158 hr))
  isplitl [H3 H5 H7]
  · isplitl [H3]; · iexact H3
    isplitl [H5]; · iexact H5
    iexact H7
  iintro %r4 ⟨%g7, H3, H5, H7⟩
  obtain ⟨v164, v165, v195, c0, v196, c1⟩ := r4
  dsimp only
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} g8)) : sProp 𝕄G)) $$ [H7 H8]
  · intro k acc
    iintro ⟨%g7, H7, H8⟩
    iapply (t7_trip c i arg2 harg2 arg3 harg3 arg4 harg4 arg5 harg5 arg6 harg6 arg7 harg7 arg8 harg8 g7 g8 v195 c0 k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  iexact H8

/-- The whole body but its last store, at a query block whose last group has 4 key blocks. -/
theorem p54_4 (f2 f3 f4 f5 f6 f7 f8) (hr : (i 1).val % 4 = 1) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part54 i arg2 harg2 arg3 harg3 arg4 harg4 arg5 harg5 arg6 harg6 arg7 harg7 arg8 harg8)
        (fun _ => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8)) : sProp 𝕄G)) := by
  have hc11 := (k0_cond11_iff i).2 (by omega)
  have hc12 := (k0_cond12_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8))
  isplitl [H2 H4 H8]
  · isplitl [H2]; · iexact H2
    isplitl [H4]; · iexact H4
    iexact H8
  iintro %r1 ⟨%g8, H2, H4, H8⟩
  obtain ⟨arg1, v4, v5, v12, v14, v15, v16, v33, c8, v34, v35⟩ := r1
  dsimp only
  iapply (seq c (p50 c i arg2 harg2 arg3 harg3 arg4 harg4 arg5 harg5 arg6 harg6 arg7 harg7 arg8 harg8 f3 f7 v12 v14 v33 c8 v34 v35))
  isplitl [H3 H7]
  · isplitl [H3]; · iexact H3
    iexact H7
  iintro %r2 ⟨%g7, H3, H7⟩
  obtain ⟨v50, v52, v53, v60, v77⟩ := r2
  dsimp only
  iapply (seq c (p51_4 c i arg2 harg2 arg3 harg3 arg4 harg4 arg5 harg5 arg6 harg6 arg7 harg7 arg8 harg8 f3 f5 g7 g8 v12 v15 v16 v50 v52 v53 v60 v77 hr))
  isplitl [H3 H5 H7 H8]
  · isplitl [H3]; · iexact H3
    isplitl [H5]; · iexact H5
    isplitl [H7]; · iexact H7
    iexact H8
  iintro %v117 ⟨%g7, H3, H5, H7, H8⟩
  iapply (seq c (p52 c i arg2 harg2 arg3 harg3 arg4 harg4 arg5 harg5 arg6 harg6 arg7 harg7 arg8 harg8 arg1 v4 v5 _))
  isplitl [H3]; · iexact H3
  iintro %r3 H3
  obtain ⟨v124, v126, v127, v128, v145, v146, v157, v158⟩ := r3
  dsimp only
  iapply (seq c (p53_4 c i arg2 harg2 arg3 harg3 arg4 harg4 arg5 harg5 arg6 harg6 arg7 harg7 arg8 harg8 f3 f5 g7 v124 v126 v145 v146 v157 v158 hr))
  isplitl [H3 H5 H7]
  · isplitl [H3]; · iexact H3
    isplitl [H5]; · iexact H5
    iexact H7
  iintro %r4 ⟨%g7, H3, H5, H7⟩
  obtain ⟨v164, v165, v195, c0, v196, c1⟩ := r4
  dsimp only
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} g8)) : sProp 𝕄G)) $$ [H7 H8]
  · intro k acc
    iintro ⟨%g7, H7, H8⟩
    iapply (t7_trip c i arg2 harg2 arg3 harg3 arg4 harg4 arg5 harg5 arg6 harg6 arg7 harg7 arg8 harg8 g7 g8 v195 c0 k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  iexact H8

/-- The whole body but its last store, at a query block whose last group has 2 key blocks. -/
theorem p54_2 (f2 f3 f4 f5 f6 f7 f8) (hr : (i 1).val % 4 = 0) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part54 i arg2 harg2 arg3 harg3 arg4 harg4 arg5 harg5 arg6 harg6 arg7 harg7 arg8 harg8)
        (fun _ => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8)) : sProp 𝕄G)) := by
  have hc11 := (k0_cond11_iff i).not.2 (not_not.2 hr)
  rw [k0_part54_eq_skeleton]
  unfold k0_part54_skel
  iintro ⟨H2, H3, H4, H5, H6, H7, H8⟩
  iapply (seq c (p49 c i arg2 harg2 arg3 harg3 arg4 harg4 arg5 harg5 arg6 harg6 arg7 harg7 arg8 harg8 f2 f4 f8))
  isplitl [H2 H4 H8]
  · isplitl [H2]; · iexact H2
    isplitl [H4]; · iexact H4
    iexact H8
  iintro %r1 ⟨%g8, H2, H4, H8⟩
  obtain ⟨arg1, v4, v5, v12, v14, v15, v16, v33, c8, v34, v35⟩ := r1
  dsimp only
  iapply (seq c (p50 c i arg2 harg2 arg3 harg3 arg4 harg4 arg5 harg5 arg6 harg6 arg7 harg7 arg8 harg8 f3 f7 v12 v14 v33 c8 v34 v35))
  isplitl [H3 H7]
  · isplitl [H3]; · iexact H3
    iexact H7
  iintro %r2 ⟨%g7, H3, H7⟩
  obtain ⟨v50, v52, v53, v60, v77⟩ := r2
  dsimp only
  iapply (seq c (p51_2 c i arg2 harg2 arg3 harg3 arg4 harg4 arg5 harg5 arg6 harg6 arg7 harg7 arg8 harg8 f3 f5 g7 g8 v12 v15 v16 v50 v52 v53 v60 v77 hr))
  isplitl [H3 H5 H7 H8]
  · isplitl [H3]; · iexact H3
    isplitl [H5]; · iexact H5
    isplitl [H7]; · iexact H7
    iexact H8
  iintro %v117 ⟨%g7, H3, H5, H7, H8⟩
  iapply (seq c (p52 c i arg2 harg2 arg3 harg3 arg4 harg4 arg5 harg5 arg6 harg6 arg7 harg7 arg8 harg8 arg1 v4 v5 _))
  isplitl [H3]; · iexact H3
  iintro %r3 H3
  obtain ⟨v124, v126, v127, v128, v145, v146, v157, v158⟩ := r3
  dsimp only
  iapply (seq c (p53_2 c i arg2 harg2 arg3 harg3 arg4 harg4 arg5 harg5 arg6 harg6 arg7 harg7 arg8 harg8 f3 f5 g7 v124 v126 v145 v146 v157 v158 hr))
  isplitl [H3 H5 H7]
  · isplitl [H3]; · iexact H3
    isplitl [H5]; · iexact H5
    iexact H7
  iintro %r4 ⟨%g7, H3, H5, H7⟩
  obtain ⟨v164, v165, v195, c0, v196, c1⟩ := r4
  dsimp only
  sl_exec
  sl_for (fun (k : ℕ) (acc : FVec Bits S8x1024 .f32 × FVec Bits S64x1024 .f32) => (iprop(∃ g7, (arg7.view.loc (c : Thread nD τ) ↦[arg7.view.set]{fullShare} g7) ∗ (arg8.view.loc (c : Thread nD τ) ↦[arg8.view.set]{fullShare} g8)) : sProp 𝕄G)) $$ [H7 H8]
  · intro k acc
    iintro ⟨%g7, H7, H8⟩
    iapply (t7_trip c i arg2 harg2 arg3 harg3 arg4 harg4 arg5 harg5 arg6 harg6 arg7 harg7 arg8 harg8 g7 g8 v195 c0 k acc) $$ [H7 H8]
    isplitl [H7]; · iexact H7
    iexact H8
  · iexists _
    isplitl [H7]; · iexact H7
    iexact H8
  iintro %acc ⟨%g7, H7, H8⟩
  obtain ⟨a1, a2⟩ := acc
  sl_exec
  sl_for0 (k0_t8_trips i)
  sl_exec
  sl_step
  iexists g7, g8
  isplitl [H2]; · iexact H2
  isplitl [H3]; · iexact H3
  isplitl [H4]; · iexact H4
  isplitl [H5]; · iexact H5
  isplitl [H6]; · iexact H6
  isplitl [H7]; · iexact H7
  iexact H8

/-- The whole body but its last store. -/
theorem p54 (f2 f3 f4 f5 f6 f7 f8) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (k0_part54 i arg2 harg2 arg3 harg3 arg4 harg4 arg5 harg5 arg6 harg6 arg7 harg7 arg8 harg8)
        (fun _ => (iprop(∃ g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8)) : sProp 𝕄G)) := by
  have h4 : (i 1).val % 4 = 0 ∨ (i 1).val % 4 = 1 ∨ (i 1).val % 4 = 2 ∨ (i 1).val % 4 = 3 := by omega
  rcases h4 with h | h | h | h
  · exact p54_2 c i arg2 harg2 arg3 harg3 arg4 harg4 arg5 harg5 arg6 harg6 arg7 harg7 arg8 harg8 f2 f3 f4 f5 f6 f7 f8 h
  · exact p54_4 c i arg2 harg2 arg3 harg3 arg4 harg4 arg5 harg5 arg6 harg6 arg7 harg7 arg8 harg8 f2 f3 f4 f5 f6 f7 f8 h
  · exact p54_6 c i arg2 harg2 arg3 harg3 arg4 harg4 arg5 harg5 arg6 harg6 arg7 harg7 arg8 harg8 f2 f3 f4 f5 f6 f7 f8 h
  · exact p54_8 c i arg2 harg2 arg3 harg3 arg4 harg4 arg5 harg5 arg6 harg6 arg7 harg7 arg8 harg8 f2 f3 f4 f5 f6 f7 f8 h

/-- The body at one grid point. -/
theorem body_run (f2 f3 f4 f5 f6 f7 f8) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
      ⊢ wp frame (wpE (defs₀ (F := Bits)) 𝒱₀ (c : Thread nD τ) none) Set.univ (cc0_flash_mla i arg2 harg2 arg3 harg3 arg4 harg4 arg5 harg5 arg6 harg6 arg7 harg7 arg8 harg8)
        (fun _ => (iprop(∃ g6 g7 g8, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8)) : sProp 𝕄G)) := by
  rw [cc0_flash_mla_eq_skeleton]
  unfold cc0_flash_mla_skel
  iintro ⟨H2, H3, H4, H5, H6, H7, H8⟩
  iapply (seq c (p54 c i arg2 harg2 arg3 harg3 arg4 harg4 arg5 harg5 arg6 harg6 arg7 harg7 arg8 harg8 f2 f3 f4 f5 f6 f7 f8))
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  iintro %r ⟨%g7, %g8, H2, H3, H4, H5, H6, H7, H8⟩
  sl_exec
  sl_step
  iexists _, g7, g8
  isplitl [H2]; · iexact H2
  isplitl [H3]; · iexact H3
  isplitl [H4]; · iexact H4
  isplitl [H5]; · iexact H5
  isplitl [H6]; · iexact H6
  isplitl [H7]; · iexact H7
  iexact H8

end Cert.Kernel.Run
-- ==== Proof.KLaunch.lean ====
module

public import proofs.«01_k».proof.Defs
public import proofs.«01_k».proof.Proof.KRun
public import Idealize.ShloMosaic.Lib.Pipeline.ValueKit
@[expose] public section

set_option maxRecDepth 16384
set_option maxHeartbeats 400000
noncomputable section

/-! The launch of the attention as printed: it runs, and its arguments stay. The output's contents are not named. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄G" => MT nD τ sig Unit (Elt Bits) ℕ (UR sig nD τ) ℕ

variable (m : (ℓ : Loc nD τ sig) → Buf (Elt Bits) ℓ) (ρ : Dev nD → PrngReg)

/-- The output's window: its contents are not named. -/
def fgt : Fin cfg0.W → Bool := fun w => w.val == 4

/-- What one grid point hands the next: the two scratch buffers and the generator's register. -/
def Φs (c : Dev nD) : sProp 𝕄G :=
  iprop((∃ f : Buf (Elt Bits) ((c : Thread nD τ).loc cc0_scratch0), ((c : Thread nD τ).loc cc0_scratch0) ↦{fullShare} f)
    ∗ (∃ f : Buf (Elt Bits) ((c : Thread nD τ).loc cc0_scratch1), ((c : Thread nD τ).loc cc0_scratch1) ↦{fullShare} f)
    ∗ ∃ r, prngReg c r)

def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
  Φ t := Φs c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄G :=
  iprop(Φs c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

def bodyPost (c : Dev nD) (t : Fin cfg0.N) : sProp 𝕄G :=
  iprop(Φs c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := Bits)) 𝒱₀ (c : Thread nD τ) none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  unfold owns Φs
  iintro ⟨⟨⟨%f7, H7⟩, ⟨%f8, H8⟩, Hr⟩, Ho, ⟨%d2, %f2, %hf2, H2⟩, ⟨%d3, %f3, %hf3, H3⟩, ⟨%d4, %f4, %hf4, H4⟩, ⟨%d5, %f5, %hf5, H5⟩, ⟨%d6, %f6, -, H6⟩⟩
  iapply wp_wand_r
  isplitl [H2 H3 H4 H5 H6 H7 H8]
  · iapply (body_run c (grid0.coords t) _ _ _ _ _ _ _ _ _ _ (Memref.whole cc0_scratch0) (Memref.isWhole_whole _) (Memref.whole cc0_scratch1) (Memref.isWhole_whole _) f2 f3 f4 f5 f6 f7 f8)
    isplitl [H2]; · iexact H2
    isplitl [H3]; · iexact H3
    isplitl [H4]; · iexact H4
    isplitl [H5]; · iexact H5
    isplitl [H6]; · iexact H6
    isplitl [H7]
    · simp only [Memref.view_whole, View.set_whole]; iexact H7
    simp only [Memref.view_whole, View.set_whole]; iexact H8
  iintro %_ ⟨%g6, %g7, %g8, H2, H3, H4, H5, H6, H7, H8⟩
  isplitl [H7 H8 Hr]
  · isplitl [H7]
    · iexists g7; simp only [Memref.view_whole, View.set_whole]; iexact H7
    isplitl [H8]
    · iexists g8; simp only [Memref.view_whole, View.set_whole]; iexact H8
    iexact Hr
  isplitl [Ho]; · iexact Ho
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _, g6; isplitr
  · ipureintro
    rfl
  iexact H6

theorem body_obligation (c : Dev nD) : BodyObligationLoose (dats m 0 c) (defs₀ (F := Bits)) Variants.none () Set.univ fgt := fun t => by
  rw [bigSep_W0, bigSep_W0]
  exact sound_body m c t

theorem hin (c : Dev nD) : (Pipeline.ΦA spec0 c : sProp 𝕄G) ⊢ (dats m 0 c).Φ 0 := by
  rw [show (dats m 0 c).Φ 0 = Φs c from rfl]
  unfold Pipeline.ΦA Φs
  rw [scopedRest0_eq]
  iintro ⟨⟨H7, H8⟩, Hr⟩
  isplitl [H7]; · iexact H7
  isplitl [H8]; · iexact H8
  iexact Hr

theorem hout (c : Dev nD) : (dats m 0 c).Φ (Fin.last cfg0.N) ⊢ (Pipeline.ΦA spec0 c : sProp 𝕄G) := by
  rw [show (dats m 0 c).Φ (Fin.last cfg0.N) = Φs c from rfl]
  unfold Pipeline.ΦA Φs
  rw [scopedRest0_eq]
  iintro ⟨H7, H8, Hr⟩
  isplitl [H7 H8]
  · isplitl [H7]; · iexact H7
    iexact H8
  iexact Hr

set_option backward.isDefEq.respectTransparency.types false in
/-- The run of the whole program as printed. -/
theorem run_main : θ_run defs (onTc (τ := τ) (main (F := Bits))) (s₀ m ρ)
    (fun r => Pipeline.RDat.FramePost cfg0 (fun c => (dats m 0 c).toRForget fgt) (V m) r ∧ r.2.sem = fun _ => 0) :=
  Pipeline.θ_run_frame_track_forget_shared cfgs (dats m) (0 : Fin 1) launch₀0 defs₀ Variants.none fgt m ρ main
    (fun c => body_obligation m c) (fun _ _ _ => rfl) (fun _ _ => rfl) (V m) (hmain m Variants.none) (fun _ _ => rfl)
    (hin m) (hout m) _ (fun _ h => h)

/-- The attention as printed runs, leaves its arguments, and leaves the machine at rest. -/
theorem frame_p : Cert.quiescent_Kernel (hKernel := Cert.Kernel.Gen.facts) := fun m ρ _ =>
  θ_run_mono (run_main m ρ) fun r h => ⟨fun c =>
    ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c)⟩, h.2⟩

end Cert.Kernel.Run
-- ==== Proof.FfnMath.lean ====
module

public import Idealize.ShloMosaic.PureOps.Ideal
@[expose] public section

set_option maxRecDepth 16384
set_option maxHeartbeats 400000
noncomputable section

/-! One row of the feed-forward part: what the kernel and the reference both compute, row by row. -/

namespace Cert.FfnMath

open Idealize.ShloMosaic

/-- The residual stream after the two halves of the output projection. -/
def proj (h : Fin 1024 → EReal) (a b : Fin 512 → EReal) (W : Fin 1024 → Fin 1024 → EReal) (d : Fin 1024) : EReal :=
  h d + (∑ k : Fin 512, a k * W ⟨k.val, by omega⟩ d + ∑ k : Fin 512, b k * W ⟨512 + k.val, by omega⟩ d)

/-- The root-mean-square norm. -/
def norm (h g : Fin 1024 → EReal) (d : Fin 1024) : EReal :=
  h d * Ideal.rsqrt (Ideal.div (∑ e, h e * h e) (Ideal.ofBits .f32 0x44800000#32) + Ideal.ofBits .f32 0x3727C5AC#32) * g d

/-- The residual stream after the gated feed-forward part, of the normed row `z`. -/
def ffn (h z : Fin 1024 → EReal) (Wg Wu : Fin 1024 → Fin 2816 → EReal) (Wd : Fin 2816 → Fin 1024 → EReal) (d : Fin 1024) : EReal :=
  h d + ∑ x, (∑ y, z y * Wg y x) * Ideal.logistic (∑ y, z y * Wg y x) * (∑ y, z y * Wu y x) * Wd x d

/-- The whole row before the final norm. -/
def mid (h : Fin 1024 → EReal) (a b : Fin 512 → EReal) (W : Fin 1024 → Fin 1024 → EReal) (g : Fin 1024 → EReal)
    (Wg Wu : Fin 1024 → Fin 2816 → EReal) (Wd : Fin 2816 → Fin 1024 → EReal) : Fin 1024 → EReal :=
  ffn (proj h a b W) (norm (proj h a b W) g) Wg Wu Wd

/-- The whole row. -/
def out (h : Fin 1024 → EReal) (a b : Fin 512 → EReal) (W : Fin 1024 → Fin 1024 → EReal) (g : Fin 1024 → EReal)
    (Wg Wu : Fin 1024 → Fin 2816 → EReal) (Wd : Fin 2816 → Fin 1024 → EReal) (g' : Fin 1024 → EReal) : Fin 1024 → EReal :=
  norm (mid h a b W g Wg Wu Wd) g'

end Cert.FfnMath
-- ==== Proof.FfnRef.lean ====
module

public import proofs.«01_k».proof.Proof.Gen.Reference2Ideal.Run
public import proofs.«01_k».proof.Proof.FfnMath
public import Idealize.ShloMosaic.Lib.Claim
public import Idealize.ShloMosaic.Lib.WordCmp
public import Idealize.ShloMosaic.Lib.Pointwise
@[expose] public section

set_option maxRecDepth 16384
set_option maxHeartbeats 400000
noncomputable section

/-! The feed-forward reference's result, row by row. -/

namespace Cert.Reference2Ideal.At

open Cert.Reference2Ideal Cert.Reference2Ideal.Gen
open Idealize.ShloMosaic Idealize.ShloMosaic.TcCoe Idealize.ShloMosaic.Tactic
open Idealize.SL.Sem

/-- The residual stream after the output projection. -/
def res1 (H : FVec Ideal S4x8192x1024 .f32) (A B : FVec Ideal S4x8192x512 .f32) (W : FVec Ideal S1024x1024 .f32) : FVec Ideal S4x8192x1024 .f32 :=
  addf H (Host.dotGeneral dot_S4x8192x1024_S1024x1024_S4x8192x1024_2_0_01_1_n_n none
    (concatenate S4x8192x1024 2 [⟨S4x8192x512, A⟩, ⟨S4x8192x512, B⟩] concatenates_S4x8192x512_S4x8192x512_S4x8192x1024_d2) W)
/-- The root-mean-square norm. -/
def norm (H : FVec Ideal S4x8192x1024 .f32) (g : FVec Ideal S1024 .f32) : FVec Ideal S4x8192x1024 .f32 :=
  mulf (mulf H (broadcastInDim S4x8192x1024 ![0, 1, 2] bcast_S4x8192x1_S4x8192x1024_0_1_2 (Host.rsqrt (addf
    (Host.divf (broadcastInDim S4x8192x1 ![0, 1] bcast_S4x8192_S4x8192x1_0_1
      (Host.reduceAdd (mulf H H) (constant S_ .f32 0x00000000#32) reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g))
/-- A product with one of the wide weights. -/
def wide (Z : FVec Ideal S4x8192x1024 .f32) (W : FVec Ideal S1024x2816 .f32) : FVec Ideal S4x8192x2816 .f32 :=
  Host.dotGeneral dot_S4x8192x1024_S1024x2816_S4x8192x2816_2_0_01_1_n_n none Z W
/-- The gated feed-forward part, added to the residual stream. -/
def res2 (H Z : FVec Ideal S4x8192x1024 .f32) (Wg Wu : FVec Ideal S1024x2816 .f32) (Wd : FVec Ideal S2816x1024 .f32) : FVec Ideal S4x8192x1024 .f32 :=
  addf H (Host.dotGeneral dot_S4x8192x2816_S2816x1024_S4x8192x1024_2_0_01_1_n_n none
    (mulf (mulf (wide Z Wg) (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf (wide Z Wg)))))) (wide Z Wu)) Wd)
/-- The reference as one expression of its arguments. -/
def whole (H : FVec Ideal S4x8192x1024 .f32) (A B : FVec Ideal S4x8192x512 .f32) (W : FVec Ideal S1024x1024 .f32) (g : FVec Ideal S1024 .f32)
    (Wg Wu : FVec Ideal S1024x2816 .f32) (Wd : FVec Ideal S2816x1024 .f32) (g' : FVec Ideal S1024 .f32) : FVec Ideal S32768x1024 .f32 :=
  shapeCast S32768x1024 (norm (res2 (res1 H A B W) (norm (res1 H A B W) g) Wg Wu Wd) g') shapeCasts_S4x8192x1024_S32768x1024

theorem res1_at (H : FVec Ideal S4x8192x1024 .f32) (A B : FVec Ideal S4x8192x512 .f32) (W : FVec Ideal S1024x1024 .f32) (b : Fin 4) (s : Fin 8192) (d : Fin 1024) :
    (res1 H A B W : S4x8192x1024.Idx → EReal) (ix3 b s d)
      = FfnMath.proj (fun e => H (ix3 b s e)) (fun e => A (ix3 b s e)) (fun e => B (ix3 b s e)) (fun k e => W (ix2 k e)) d := by
  pointwise [res1]
  rfl
theorem norm_at (H : FVec Ideal S4x8192x1024 .f32) (g : FVec Ideal S1024 .f32) (b : Fin 4) (s : Fin 8192) (d : Fin 1024) :
    (norm H g : S4x8192x1024.Idx → EReal) (ix3 b s d) = FfnMath.norm (fun e => H (ix3 b s e)) (fun e => g (ix1 e)) d := by
  pointwise [norm]
  rfl
theorem res2_at (H Z : FVec Ideal S4x8192x1024 .f32) (Wg Wu : FVec Ideal S1024x2816 .f32) (Wd : FVec Ideal S2816x1024 .f32) (b : Fin 4) (s : Fin 8192) (d : Fin 1024) :
    (res2 H Z Wg Wu Wd : S4x8192x1024.Idx → EReal) (ix3 b s d)
      = FfnMath.ffn (fun e => H (ix3 b s e)) (fun e => Z (ix3 b s e)) (fun k e => Wg (ix2 k e)) (fun k e => Wu (ix2 k e)) (fun k e => Wd (ix2 k e)) d := by
  pointwise [res2, wide]
  rfl
theorem cast_at (H : FVec Ideal S4x8192x1024 .f32) (n : Fin 32768) (d : Fin 1024) :
    (shapeCast S32768x1024 H shapeCasts_S4x8192x1024_S32768x1024 : S32768x1024.Idx → EReal) (ix2 n d)
      = H (ix3 ⟨n.val / 8192, by omega⟩ ⟨n.val % 8192, by omega⟩ d) := by
  pointwise

theorem whole_at (H : FVec Ideal S4x8192x1024 .f32) (A B : FVec Ideal S4x8192x512 .f32) (W : FVec Ideal S1024x1024 .f32) (g : FVec Ideal S1024 .f32)
    (Wg Wu : FVec Ideal S1024x2816 .f32) (Wd : FVec Ideal S2816x1024 .f32) (g' : FVec Ideal S1024 .f32) (n : Fin 32768) (d : Fin 1024) :
    (whole H A B W g Wg Wu Wd g' : S32768x1024.Idx → EReal) (ix2 n d)
      = FfnMath.out (fun e => H (ix3 ⟨n.val / 8192, by omega⟩ ⟨n.val % 8192, by omega⟩ e)) (fun e => A (ix3 ⟨n.val / 8192, by omega⟩ ⟨n.val % 8192, by omega⟩ e))
          (fun e => B (ix3 ⟨n.val / 8192, by omega⟩ ⟨n.val % 8192, by omega⟩ e)) (fun k e => W (ix2 k e)) (fun e => g (ix1 e))
          (fun k e => Wg (ix2 k e)) (fun k e => Wu (ix2 k e)) (fun k e => Wd (ix2 k e)) (fun e => g' (ix1 e)) d := by
  unfold whole
  rw [cast_at, norm_at]
  simp only [res2_at, norm_at, res1_at]
  rfl

theorem result_eq (m : (ℓ : Loc nD τ sig) → Buf (Elt Ideal) ℓ) (c : Dev nD) :
    Value.res_main_v35 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.Reference2Ideal.At
-- ==== Proof.FfnBlock.lean ====
module

public import proofs.«01_k».proof.Proof.Gen.Kernel2Ideal.Value
public import proofs.«01_k».proof.Proof.FfnMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Pipeline.ValueKit
@[expose] public section

set_option maxRecDepth 16384
set_option maxHeartbeats 400000
noncomputable section

/-! The feed-forward kernel: its block at an element, and the array its launch leaves. -/

namespace Cert.Kernel2Ideal.Block

open Cert.Kernel2Ideal Cert.Kernel2Ideal.Gen
open Idealize.ShloMosaic Idealize.ShloMosaic.TcCoe Idealize.ShloMosaic.Tactic
open Idealize.SL.Sem

/-! ## The payloads -/

theorem proj_at (x : Vec Ideal S512x1024 .f32) (oa ob : Vec Ideal S512x512 .bf16) (w1 w2 : Vec Ideal S512x1024 .bf16) (W : Fin 1024 → Fin 1024 → EReal)
    (h1 : ∀ (k : Fin 512) (d : Fin 1024), (w1 : S512x1024.Idx → EReal) (ix2 k d) = W ⟨k.val, by omega⟩ d)
    (h2 : ∀ (k : Fin 512) (d : Fin 1024), (w2 : S512x1024.Idx → EReal) (ix2 k d) = W ⟨512 + k.val, by omega⟩ d) (r : Fin 512) (d : Fin 1024) :
    (k0_pay2 (F := Ideal) x oa w1 ob w2 : S512x1024.Idx → EReal) (ix2 r d)
      = FfnMath.proj (fun e => x (ix2 r e)) (fun e => oa (ix2 r e)) (fun e => ob (ix2 r e)) W d := by
  pointwise [k0_pay2]
  unfold FfnMath.proj
  rw [add_assoc]
  simp only [h1, h2]

theorem norm_at (x : Vec Ideal S512x1024 .f32) (oa ob : Vec Ideal S512x512 .bf16) (w1 w2 : Vec Ideal S512x1024 .bf16) (g : Vec Ideal S1x1024 .f32) (r : Fin 512) (d : Fin 1024) :
    (k0_pay3 (F := Ideal) x oa w1 ob w2 g : S512x1024.Idx → EReal) (ix2 r d)
      = FfnMath.norm (fun e => (k0_pay2 (F := Ideal) x oa w1 ob w2 : S512x1024.Idx → EReal) (ix2 r e)) (fun e => g (ix2 0 e)) d := by
  pointwise [k0_pay3]
  rfl

theorem gate_at (x : Vec Ideal S512x1024 .f32) (oa ob : Vec Ideal S512x512 .bf16) (w1 w2 : Vec Ideal S512x1024 .bf16) (g : Vec Ideal S1x1024 .f32)
    (wg : Vec Ideal S1024x2816 .bf16) (r : Fin 512) (e : Fin 2816) :
    (k0_pay4 (F := Ideal) x oa w1 ob w2 g wg : S512x2816.Idx → EReal) (ix2 r e)
      = ∑ y : Fin 1024, (k0_pay3 (F := Ideal) x oa w1 ob w2 g : S512x1024.Idx → EReal) (ix2 r y) * (wg : S1024x2816.Idx → EReal) (ix2 y e) := by
  pointwise [k0_pay4]
theorem up_at (x : Vec Ideal S512x1024 .f32) (oa ob : Vec Ideal S512x512 .bf16) (w1 w2 : Vec Ideal S512x1024 .bf16) (g : Vec Ideal S1x1024 .f32)
    (wu : Vec Ideal S1024x2816 .bf16) (r : Fin 512) (e : Fin 2816) :
    (k0_pay5 (F := Ideal) x oa w1 ob w2 g wu : S512x2816.Idx → EReal) (ix2 r e)
      = ∑ y : Fin 1024, (k0_pay3 (F := Ideal) x oa w1 ob w2 g : S512x1024.Idx → EReal) (ix2 r y) * (wu : S1024x2816.Idx → EReal) (ix2 y e) := by
  pointwise [k0_pay5]
theorem sig_at (x : Vec Ideal S512x1024 .f32) (oa ob : Vec Ideal S512x512 .bf16) (w1 w2 : Vec Ideal S512x1024 .bf16) (g : Vec Ideal S1x1024 .f32)
    (wg : Vec Ideal S1024x2816 .bf16) (r : Fin 512) (e : Fin 2816) :
    (k0_pay6 (F := Ideal) x oa w1 ob w2 g wg : S512x2816.Idx → EReal) (ix2 r e)
      = Ideal.logistic ((k0_pay4 (F := Ideal) x oa w1 ob w2 g wg : S512x2816.Idx → EReal) (ix2 r e)) := by
  pointwise [k0_pay6]

theorem last_at (h : Vec Ideal S512x1024 .f32) (a b s : Vec Ideal S512x2816 .f32) (wd : Vec Ideal S2816x1024 .bf16) (g : Vec Ideal S1x1024 .f32) (r : Fin 512) (d : Fin 1024) :
    (k0_pay1 (F := Ideal) h a b s wd g : S512x1024.Idx → EReal) (ix2 r d)
      = FfnMath.norm (fun e => (h : S512x1024.Idx → EReal) (ix2 r e) + ∑ x : Fin 2816, (a : S512x2816.Idx → EReal) (ix2 r x) * (s : S512x2816.Idx → EReal) (ix2 r x) * (b : S512x2816.Idx → EReal) (ix2 r x) * (wd : S2816x1024.Idx → EReal) (ix2 x e))
          (fun e => g (ix2 0 e)) d := by
  pointwise [k0_pay1]
  rfl

/-! ## The block -/

theorem lo_at (X : Vec Ideal S1024x1024 .bf16) (k : Fin 512) (d : Fin 1024) :
    (View.ld X r0_2 : S512x1024.Idx → EReal) (ix2 k d) = X (ix2 ⟨k.val, by omega⟩ d) := by
  rw [View.ld_unit]
  pointwise
theorem hi_at (X : Vec Ideal S1024x1024 .bf16) (k : Fin 512) (d : Fin 1024) :
    (View.ld X r0_3 : S512x1024.Idx → EReal) (ix2 k d) = X (ix2 ⟨512 + k.val, by omega⟩ d) := by
  rw [View.ld_unit]
  pointwise

theorem zz : (![0, 0] : Fin 2 → ℕ) = fun _ => 0 := by decide

/-- The kernel's block, row by row. -/
theorem out_at (x0 : Vec Ideal S512x1024 .f32) (x1 x2 : Vec Ideal S512x512 .bf16) (x3 : Vec Ideal S1024x1024 .bf16) (x4 : Vec Ideal S1x1024 .f32)
    (x5 x6 : Vec Ideal S1024x2816 .bf16) (x7 : Vec Ideal S2816x1024 .bf16) (x8 : Vec Ideal S1x1024 .f32) (r : Fin 512) (d : Fin 1024) :
    (out0_9 (F := Ideal) x0 x1 x2 x3 x4 x5 x6 x7 x8 : S512x1024.Idx → EReal) (ix2 r d)
      = FfnMath.out (fun e => x0 (ix2 r e)) (fun e => x1 (ix2 r e)) (fun e => x2 (ix2 r e)) (fun k e => x3 (ix2 k e)) (fun e => x4 (ix2 0 e))
          (fun k e => x5 (ix2 k e)) (fun k e => x6 (ix2 k e)) (fun k e => x7 (ix2 k e)) (fun e => x8 (ix2 0 e)) d := by
  unfold out0_9
  rw [View.canon_cons_unit_zero zz]
  rw [View.ld_unit_zero zz _ x0, View.ld_unit_zero zz _ x1, View.ld_unit_zero zz _ x2, View.ld_unit_zero zz _ x4, View.ld_unit_zero zz _ x5,
    View.ld_unit_zero zz _ x6, View.ld_unit_zero zz _ x7, View.ld_unit_zero zz _ x8]
  rw [last_at]
  simp only [sig_at, gate_at, up_at, norm_at, proj_at _ _ _ _ _ (fun k e => x3 (ix2 k e)) (lo_at x3) (hi_at x3)]
  rfl

/-! ## The launch -/

theorem t_lt (t : Fin cfg0.N) : t.val < 64 := lt_of_lt_of_eq t.isLt N_0

/-- The windows' index maps. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem rd0 (t : Fin cfg0.N) (X : S32768x1024.Idx → EReal) (r : Fin 512) (d : Fin 1024) :
    ((cfg0.win 0).blk t).view.read (Elt Ideal) X (ix2 r d) = X (ix2 ⟨512 * t.val + r.val, by have := t_lt t; omega⟩ d) := by
  have ht := t_lt t
  blk_ext [idx t]
theorem rd1 (t : Fin cfg0.N) (X : S32768x512.Idx → EReal) (r : Fin 512) (d : Fin 512) :
    ((cfg0.win 1).blk t).view.read (Elt Ideal) X (ix2 r d) = X (ix2 ⟨512 * t.val + r.val, by have := t_lt t; omega⟩ d) := by
  have ht := t_lt t
  blk_ext [idx t]
theorem rd2 (t : Fin cfg0.N) (X : S32768x512.Idx → EReal) (r : Fin 512) (d : Fin 512) :
    ((cfg0.win 2).blk t).view.read (Elt Ideal) X (ix2 r d) = X (ix2 ⟨512 * t.val + r.val, by have := t_lt t; omega⟩ d) := by
  have ht := t_lt t
  blk_ext [idx t]
theorem rd3 (t : Fin cfg0.N) (X : S1024x1024.Idx → EReal) (r : Fin 1024) (d : Fin 1024) :
    ((cfg0.win 3).blk t).view.read (Elt Ideal) X (ix2 r d) = X (ix2 r d) := by
  blk_ext [idx t]
theorem rd4 (t : Fin cfg0.N) (X : S1x1024.Idx → EReal) (r : Fin 1) (d : Fin 1024) :
    ((cfg0.win 4).blk t).view.read (Elt Ideal) X (ix2 r d) = X (ix2 r d) := by
  blk_ext [idx t]
theorem rd5 (t : Fin cfg0.N) (X : S1024x2816.Idx → EReal) (r : Fin 1024) (d : Fin 2816) :
    ((cfg0.win 5).blk t).view.read (Elt Ideal) X (ix2 r d) = X (ix2 r d) := by
  blk_ext [idx t]
theorem rd6 (t : Fin cfg0.N) (X : S1024x2816.Idx → EReal) (r : Fin 1024) (d : Fin 2816) :
    ((cfg0.win 6).blk t).view.read (Elt Ideal) X (ix2 r d) = X (ix2 r d) := by
  blk_ext [idx t]
theorem rd7 (t : Fin cfg0.N) (X : S2816x1024.Idx → EReal) (r : Fin 2816) (d : Fin 1024) :
    ((cfg0.win 7).blk t).view.read (Elt Ideal) X (ix2 r d) = X (ix2 r d) := by
  blk_ext [idx t]
theorem rd8 (t : Fin cfg0.N) (X : S1x1024.Idx → EReal) (r : Fin 1) (d : Fin 1024) :
    ((cfg0.win 8).blk t).view.read (Elt Ideal) X (ix2 r d) = X (ix2 r d) := by
  blk_ext [idx t]
theorem rd9 (t : Fin cfg0.N) (X : S32768x1024.Idx → EReal) (r : Fin 512) (d : Fin 1024) :
    ((cfg0.win 9).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- The whole result, row by row, of the arrays at the call. -/
def OUT (X0 : S32768x1024.Idx → EReal) (X1 X2 : S32768x512.Idx → EReal) (X3 : S1024x1024.Idx → EReal) (X4 : S1x1024.Idx → EReal)
    (X5 X6 : S1024x2816.Idx → EReal) (X7 : S2816x1024.Idx → EReal) (X8 : S1x1024.Idx → EReal) : S32768x1024.Idx → EReal := fun j =>
  FfnMath.out (fun e => X0 (ix2 (j 0) e)) (fun e => X1 (ix2 (j 0) e)) (fun e => X2 (ix2 (j 0) e)) (fun k e => X3 (ix2 k e)) (fun e => X4 (ix2 0 e))
    (fun k e => X5 (ix2 k e)) (fun k e => X6 (ix2 k e)) (fun k e => X7 (ix2 k e)) (fun e => X8 (ix2 0 e)) (j 1)

theorem block_eq (t : Fin cfg0.N) (X0 : S32768x1024.Idx → EReal) (X1 X2 : S32768x512.Idx → EReal) (X3 : S1024x1024.Idx → EReal) (X4 : S1x1024.Idx → EReal)
    (X5 X6 : S1024x2816.Idx → EReal) (X7 : S2816x1024.Idx → EReal) (X8 : S1x1024.Idx → EReal) :
    (out0_9 (F := Ideal) (((cfg0.win 0).blk t).view.read (Elt Ideal) X0) (((cfg0.win 1).blk t).view.read (Elt Ideal) X1) (((cfg0.win 2).blk t).view.read (Elt Ideal) X2)
      (((cfg0.win 3).blk t).view.read (Elt Ideal) X3) (((cfg0.win 4).blk t).view.read (Elt Ideal) X4) (((cfg0.win 5).blk t).view.read (Elt Ideal) X5)
      (((cfg0.win 6).blk t).view.read (Elt Ideal) X6) (((cfg0.win 7).blk t).view.read (Elt Ideal) X7) (((cfg0.win 8).blk t).view.read (Elt Ideal) X8) : S512x1024.Idx → EReal)
      = ((cfg0.win 9).blk t).view.read (Elt Ideal) (OUT X0 X1 X2 X3 X4 X5 X6 X7 X8) :=
  ext2 (a := 512) (n := 1024) fun r d => by
    refine (out_at _ _ _ _ _ _ _ _ _ r d).trans (Eq.trans ?_ (rd9 t (OUT X0 X1 X2 X3 X4 X5 X6 X7 X8) r d).symm)
    have e0 := funext fun e => rd0 t X0 r e
    have e1 := funext fun e => rd1 t X1 r e
    have e2 := funext fun e => rd2 t X2 r e
    have e3 := funext fun k => funext fun e => rd3 t X3 k e
    have e4 := funext fun e => rd4 t X4 0 e
    have e5 := funext fun k => funext fun e => rd5 t X5 k e
    have e6 := funext fun k => funext fun e => rd6 t X6 k e
    have e7 := funext fun k => funext fun e => rd7 t X7 k e
    have e8 := funext fun e => rd8 t X8 0 e
    refine (congrArg₂ (fun f g => f g d) (?_ : FfnMath.out _ _ _ _ _ _ _ _ = FfnMath.out _ _ _ _ _ _ _ _) e8)
    rw [e0, e1, e2, e3, e4, e5, e6, e7]
    rfl

variable (m : (ℓ : Loc nD τ sig) → Buf (Elt Ideal) ℓ)

/-- The result of the call. -/
def result (c : Dev nD) : S32768x1024.Idx → EReal :=
  OUT (V m c main_v0) (V m c main_v2) (V m c main_v4) (V m c main_v5) (V m c main_v9) (V m c main_v6) (V m c main_v7) (V m c main_v8) (V m c main_v10)

/-- The array the call leaves. -/
theorem final (c : Dev nD) : (dats m 0 c).arrAt 9 cfg0.N = result m c := by
  refine (dats m 0 c).arrAt_eq_of_covers 9 _ (by decide +kernel) fun t hf y => ?_
  blk_simp
  rw [after0_9]
  exact congrFun (block_eq t (V m c main_v0) (V m c main_v2) (V m c main_v4) (V m c main_v5) (V m c main_v9) (V m c main_v6) (V m c main_v7) (V m c main_v8) (V m c main_v10)) y

/-! ## What the host hands the call -/

theorem V_x (c : Dev nD) (n : Fin 32768) (d : Fin 1024) : (show S32768x1024.Idx → EReal from V m c main_v0) (ix2 n d)
    = (show S4x8192x1024.Idx → EReal from m ((c : Thread nD τ).loc main_arg0)) (ix3 ⟨n.val / 8192, by omega⟩ ⟨n.val % 8192, by omega⟩ d) := by
  unfold V
  after_reads_at
theorem V_a (c : Dev nD) (n : Fin 32768) (d : Fin 512) : (show S32768x512.Idx → EReal from V m c main_v2) (ix2 n d)
    = (show S4x8192x512.Idx → EReal from m ((c : Thread nD τ).loc main_arg1)) (ix3 ⟨n.val / 8192, by omega⟩ ⟨n.val % 8192, by omega⟩ d) := by
  unfold V
  after_reads_at
theorem V_b (c : Dev nD) (n : Fin 32768) (d : Fin 512) : (show S32768x512.Idx → EReal from V m c main_v4) (ix2 n d)
    = (show S4x8192x512.Idx → EReal from m ((c : Thread nD τ).loc main_arg2)) (ix3 ⟨n.val / 8192, by omega⟩ ⟨n.val % 8192, by omega⟩ d) := by
  unfold V
  after_reads_at
theorem V_w (c : Dev nD) (k d : Fin 1024) : (show S1024x1024.Idx → EReal from V m c main_v5) (ix2 k d)
    = (show S1024x1024.Idx → EReal from m ((c : Thread nD τ).loc main_arg3)) (ix2 k d) := by
  unfold V
  after_reads_at
theorem V_g (c : Dev nD) (d : Fin 1024) : (show S1x1024.Idx → EReal from V m c main_v9) (ix2 0 d)
    = (show S1024.Idx → EReal from m ((c : Thread nD τ).loc main_arg4)) (ix1 d) := by
  unfold V
  after_reads_at
theorem V_wg (c : Dev nD) (k : Fin 1024) (d : Fin 2816) : (show S1024x2816.Idx → EReal from V m c main_v6) (ix2 k d)
    = (show S1024x2816.Idx → EReal from m ((c : Thread nD τ).loc main_arg5)) (ix2 k d) := by
  unfold V
  after_reads_at
theorem V_wu (c : Dev nD) (k : Fin 1024) (d : Fin 2816) : (show S1024x2816.Idx → EReal from V m c main_v7) (ix2 k d)
    = (show S1024x2816.Idx → EReal from m ((c : Thread nD τ).loc main_arg6)) (ix2 k d) := by
  unfold V
  after_reads_at
theorem V_wd (c : Dev nD) (k : Fin 2816) (d : Fin 1024) : (show S2816x1024.Idx → EReal from V m c main_v8) (ix2 k d)
    = (show S2816x1024.Idx → EReal from m ((c : Thread nD τ).loc main_arg7)) (ix2 k d) := by
  unfold V
  after_reads_at
theorem V_f (c : Dev nD) (d : Fin 1024) : (show S1x1024.Idx → EReal from V m c main_v10) (ix2 0 d)
    = (show S1024.Idx → EReal from m ((c : Thread nD τ).loc main_arg8)) (ix1 d) := by
  unfold V
  after_reads_at

end Cert.Kernel2Ideal.Block
-- ==== Proof.FfnClaims.lean ====
module

public import proofs.«01_k».proof.Defs
public import proofs.«01_k».proof.Proof.Gen.Kernel2.Frame
public import proofs.«01_k».proof.Proof.FfnRef
public import proofs.«01_k».proof.Proof.FfnBlock
@[expose] public section

set_option maxRecDepth 16384
noncomputable section

/-! The claims about the feed-forward call. -/

namespace Cert.Proof.Ffn

open Cert.Kernel2Ideal.Block Cert.Kernel2Ideal.Gen
open Idealize.ShloMosaic Idealize.ShloMosaic.TcCoe Idealize.SL.Sem

theorem frame_p : Cert.quiescent_Kernel2 (hKernel2 := Cert.Kernel2.Gen.facts) := fun m ρ _ =>
  Cert.Kernel2.Gen.frame (F := Bits) m ρ

theorem frame_pi : Cert.quiescent_Kernel2Ideal (hKernel2Ideal := Cert.Kernel2Ideal.Gen.facts) := fun m ρ _ =>
  Cert.Kernel2Ideal.Gen.frame (F := Ideal) m ρ

theorem frame_ri : Cert.quiescent_Reference2Ideal (hReference2Ideal := Cert.Reference2Ideal.Gen.facts) := fun m ρ _ =>
  θ_run_mono (Cert.Reference2Ideal.Value.run (F := Ideal) m ρ) fun r h => ⟨fun c => (h c).2, sem_eq_zero_of_no_sems (by decide) r.2⟩

theorem result_eq (m : (ℓ : Loc Cert.Kernel2Ideal.nD Cert.Kernel2Ideal.τ Cert.Kernel2Ideal.sig) → Buf (Elt Ideal) ℓ)
    (c : Dev Cert.Kernel2Ideal.nD) :
    Cert.Reference2Ideal.At.whole (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)) = result m c :=
  ext2 (a := 32768) (n := 1024) fun n d => by
    refine (Cert.Reference2Ideal.At.whole_at _ _ _ _ _ _ _ _ _ n d).trans ?_
    have e0 := funext fun e => V_x m c n e
    have e1 := funext fun e => V_a m c n e
    have e2 := funext fun e => V_b m c n e
    have e3 := funext fun k => funext fun e => V_w m c k e
    have e4 := funext fun e => V_g m c e
    have e5 := funext fun k => funext fun e => V_wg m c k e
    have e6 := funext fun k => funext fun e => V_wu m c k e
    have e7 := funext fun k => funext fun e => V_wd m c k e
    have e8 := funext fun e => V_f m c e
    refine Eq.symm (congrArg₂ (fun f g => f g d) (?_ : Cert.FfnMath.out _ _ _ _ _ _ _ _ = Cert.FfnMath.out _ _ _ _ _ _ _ _) e8)
    exact congr (congr (congr (congr (congr (congr (congr (congrArg Cert.FfnMath.out e0) e1) e2) e3) e4) e5) e6) e7

theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => result m c, ?_, ?_⟩
  · exact θ_run_mono (Cert.Kernel2Ideal.Value.run_blocks (F := Ideal) m ρ) fun r h c => ⟨(h c).1.trans (final m c), (h c).2⟩
  · refine θ_run_mono (Cert.Reference2Ideal.Value.run (F := Ideal) m' ρ') fun r h c => ⟨(h c).1.trans ?_, (h c).2⟩
    obtain ⟨h0, h1, h2, h3, h4, h5, h6, h7, h8⟩ := hagree c
    rw [Cert.Reference2Ideal.At.result_eq, h0, h1, h2, h3, h4, h5, h6, h7, h8]
    exact result_eq m c

end Cert.Proof.Ffn
-- ==== Proof.Ffn3Ref.lean ====
module

public import proofs.«01_k».proof.Proof.Gen.Reference3Ideal.Run
public import proofs.«01_k».proof.Proof.FfnMath
public import Idealize.ShloMosaic.Lib.Claim
public import Idealize.ShloMosaic.Lib.WordCmp
public import Idealize.ShloMosaic.Lib.Pointwise
@[expose] public section

set_option maxRecDepth 16384
set_option maxHeartbeats 400000
noncomputable section

/-! The result of the feed-forward reference without final norm, row by row. -/

namespace Cert.Reference3Ideal.At

open Cert.Reference3Ideal Cert.Reference3Ideal.Gen
open Idealize.ShloMosaic Idealize.ShloMosaic.TcCoe Idealize.ShloMosaic.Tactic
open Idealize.SL.Sem

/-- The residual stream after the output projection. -/
def res1 (H : FVec Ideal S4x8192x1024 .f32) (A B : FVec Ideal S4x8192x512 .f32) (W : FVec Ideal S1024x1024 .f32) : FVec Ideal S4x8192x1024 .f32 :=
  addf H (Host.dotGeneral dot_S4x8192x1024_S1024x1024_S4x8192x1024_2_0_01_1_n_n none
    (concatenate S4x8192x1024 2 [⟨S4x8192x512, A⟩, ⟨S4x8192x512, B⟩] concatenates_S4x8192x512_S4x8192x512_S4x8192x1024_d2) W)
/-- The root-mean-square norm. -/
def norm (H : FVec Ideal S4x8192x1024 .f32) (g : FVec Ideal S1024 .f32) : FVec Ideal S4x8192x1024 .f32 :=
  mulf (mulf H (broadcastInDim S4x8192x1024 ![0, 1, 2] bcast_S4x8192x1_S4x8192x1024_0_1_2 (Host.rsqrt (addf
    (Host.divf (broadcastInDim S4x8192x1 ![0, 1] bcast_S4x8192_S4x8192x1_0_1
      (Host.reduceAdd (mulf H H) (constant S_ .f32 0x00000000#32) reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g))
/-- A product with one of the wide weights. -/
def wide (Z : FVec Ideal S4x8192x1024 .f32) (W : FVec Ideal S1024x2816 .f32) : FVec Ideal S4x8192x2816 .f32 :=
  Host.dotGeneral dot_S4x8192x1024_S1024x2816_S4x8192x2816_2_0_01_1_n_n none Z W
/-- The gated feed-forward part, added to the residual stream. -/
def res2 (H Z : FVec Ideal S4x8192x1024 .f32) (Wg Wu : FVec Ideal S1024x2816 .f32) (Wd : FVec Ideal S2816x1024 .f32) : FVec Ideal S4x8192x1024 .f32 :=
  addf H (Host.dotGeneral dot_S4x8192x2816_S2816x1024_S4x8192x1024_2_0_01_1_n_n none
    (mulf (mulf (wide Z Wg) (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf (wide Z Wg)))))) (wide Z Wu)) Wd)
/-- The reference as one expression of its arguments. -/
def whole (H : FVec Ideal S4x8192x1024 .f32) (A B : FVec Ideal S4x8192x512 .f32) (W : FVec Ideal S1024x1024 .f32) (g : FVec Ideal S1024 .f32)
    (Wg Wu : FVec Ideal S1024x2816 .f32) (Wd : FVec Ideal S2816x1024 .f32) : FVec Ideal S32768x1024 .f32 :=
  shapeCast S32768x1024 (res2 (res1 H A B W) (norm (res1 H A B W) g) Wg Wu Wd) shapeCasts_S4x8192x1024_S32768x1024

theorem res1_at (H : FVec Ideal S4x8192x1024 .f32) (A B : FVec Ideal S4x8192x512 .f32) (W : FVec Ideal S1024x1024 .f32) (b : Fin 4) (s : Fin 8192) (d : Fin 1024) :
    (res1 H A B W : S4x8192x1024.Idx → EReal) (ix3 b s d)
      = FfnMath.proj (fun e => H (ix3 b s e)) (fun e => A (ix3 b s e)) (fun e => B (ix3 b s e)) (fun k e => W (ix2 k e)) d := by
  pointwise [res1]
  rfl
theorem norm_at (H : FVec Ideal S4x8192x1024 .f32) (g : FVec Ideal S1024 .f32) (b : Fin 4) (s : Fin 8192) (d : Fin 1024) :
    (norm H g : S4x8192x1024.Idx → EReal) (ix3 b s d) = FfnMath.norm (fun e => H (ix3 b s e)) (fun e => g (ix1 e)) d := by
  pointwise [norm]
  rfl
theorem res2_at (H Z : FVec Ideal S4x8192x1024 .f32) (Wg Wu : FVec Ideal S1024x2816 .f32) (Wd : FVec Ideal S2816x1024 .f32) (b : Fin 4) (s : Fin 8192) (d : Fin 1024) :
    (res2 H Z Wg Wu Wd : S4x8192x1024.Idx → EReal) (ix3 b s d)
      = FfnMath.ffn (fun e => H (ix3 b s e)) (fun e => Z (ix3 b s e)) (fun k e => Wg (ix2 k e)) (fun k e => Wu (ix2 k e)) (fun k e => Wd (ix2 k e)) d := by
  pointwise [res2, wide]
  rfl
theorem cast_at (H : FVec Ideal S4x8192x1024 .f32) (n : Fin 32768) (d : Fin 1024) :
    (shapeCast S32768x1024 H shapeCasts_S4x8192x1024_S32768x1024 : S32768x1024.Idx → EReal) (ix2 n d)
      = H (ix3 ⟨n.val / 8192, by omega⟩ ⟨n.val % 8192, by omega⟩ d) := by
  pointwise

theorem whole_at (H : FVec Ideal S4x8192x1024 .f32) (A B : FVec Ideal S4x8192x512 .f32) (W : FVec Ideal S1024x1024 .f32) (g : FVec Ideal S1024 .f32)
    (Wg Wu : FVec Ideal S1024x2816 .f32) (Wd : FVec Ideal S2816x1024 .f32) (n : Fin 32768) (d : Fin 1024) :
    (whole H A B W g Wg Wu Wd : S32768x1024.Idx → EReal) (ix2 n d)
      = FfnMath.mid (fun e => H (ix3 ⟨n.val / 8192, by omega⟩ ⟨n.val % 8192, by omega⟩ e)) (fun e => A (ix3 ⟨n.val / 8192, by omega⟩ ⟨n.val % 8192, by omega⟩ e))
          (fun e => B (ix3 ⟨n.val / 8192, by omega⟩ ⟨n.val % 8192, by omega⟩ e)) (fun k e => W (ix2 k e)) (fun e => g (ix1 e))
          (fun k e => Wg (ix2 k e)) (fun k e => Wu (ix2 k e)) (fun k e => Wd (ix2 k e)) d := by
  unfold whole
  rw [cast_at]
  simp only [res2_at, norm_at, res1_at]
  rfl

theorem result_eq (m : (ℓ : Loc nD τ sig) → Buf (Elt Ideal) ℓ) (c : Dev nD) :
    Value.res_main_v22 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.Reference3Ideal.At
-- ==== Proof.Ffn3Block.lean ====
module

public import proofs.«01_k».proof.Proof.Gen.Kernel3Ideal.Value
public import proofs.«01_k».proof.Proof.FfnMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Pipeline.ValueKit
@[expose] public section

set_option maxRecDepth 16384
set_option maxHeartbeats 400000
noncomputable section

/-! The feed-forward kernel without final norm: its block at an element, and the array its launch leaves. -/

namespace Cert.Kernel3Ideal.Block

open Cert.Kernel3Ideal Cert.Kernel3Ideal.Gen
open Idealize.ShloMosaic Idealize.ShloMosaic.TcCoe Idealize.ShloMosaic.Tactic
open Idealize.SL.Sem

/-! ## The payloads -/

theorem proj_at (x : Vec Ideal S512x1024 .f32) (oa ob : Vec Ideal S512x512 .bf16) (w1 w2 : Vec Ideal S512x1024 .bf16) (W : Fin 1024 → Fin 1024 → EReal)
    (h1 : ∀ (k : Fin 512) (d : Fin 1024), (w1 : S512x1024.Idx → EReal) (ix2 k d) = W ⟨k.val, by omega⟩ d)
    (h2 : ∀ (k : Fin 512) (d : Fin 1024), (w2 : S512x1024.Idx → EReal) (ix2 k d) = W ⟨512 + k.val, by omega⟩ d) (r : Fin 512) (d : Fin 1024) :
    (k0_pay2 (F := Ideal) x oa w1 ob w2 : S512x1024.Idx → EReal) (ix2 r d)
      = FfnMath.proj (fun e => x (ix2 r e)) (fun e => oa (ix2 r e)) (fun e => ob (ix2 r e)) W d := by
  pointwise [k0_pay2]
  unfold FfnMath.proj
  rw [add_assoc]
  simp only [h1, h2]

theorem norm_at (x : Vec Ideal S512x1024 .f32) (oa ob : Vec Ideal S512x512 .bf16) (w1 w2 : Vec Ideal S512x1024 .bf16) (g : Vec Ideal S1x1024 .f32) (r : Fin 512) (d : Fin 1024) :
    (k0_pay3 (F := Ideal) x oa w1 ob w2 g : S512x1024.Idx → EReal) (ix2 r d)
      = FfnMath.norm (fun e => (k0_pay2 (F := Ideal) x oa w1 ob w2 : S512x1024.Idx → EReal) (ix2 r e)) (fun e => g (ix2 0 e)) d := by
  pointwise [k0_pay3]
  rfl

theorem gate_at (x : Vec Ideal S512x1024 .f32) (oa ob : Vec Ideal S512x512 .bf16) (w1 w2 : Vec Ideal S512x1024 .bf16) (g : Vec Ideal S1x1024 .f32)
    (wg : Vec Ideal S1024x2816 .bf16) (r : Fin 512) (e : Fin 2816) :
    (k0_pay4 (F := Ideal) x oa w1 ob w2 g wg : S512x2816.Idx → EReal) (ix2 r e)
      = ∑ y : Fin 1024, (k0_pay3 (F := Ideal) x oa w1 ob w2 g : S512x1024.Idx → EReal) (ix2 r y) * (wg : S1024x2816.Idx → EReal) (ix2 y e) := by
  pointwise [k0_pay4]
theorem up_at (x : Vec Ideal S512x1024 .f32) (oa ob : Vec Ideal S512x512 .bf16) (w1 w2 : Vec Ideal S512x1024 .bf16) (g : Vec Ideal S1x1024 .f32)
    (wu : Vec Ideal S1024x2816 .bf16) (r : Fin 512) (e : Fin 2816) :
    (k0_pay5 (F := Ideal) x oa w1 ob w2 g wu : S512x2816.Idx → EReal) (ix2 r e)
      = ∑ y : Fin 1024, (k0_pay3 (F := Ideal) x oa w1 ob w2 g : S512x1024.Idx → EReal) (ix2 r y) * (wu : S1024x2816.Idx → EReal) (ix2 y e) := by
  pointwise [k0_pay5]
theorem sig_at (x : Vec Ideal S512x1024 .f32) (oa ob : Vec Ideal S512x512 .bf16) (w1 w2 : Vec Ideal S512x1024 .bf16) (g : Vec Ideal S1x1024 .f32)
    (wg : Vec Ideal S1024x2816 .bf16) (r : Fin 512) (e : Fin 2816) :
    (k0_pay6 (F := Ideal) x oa w1 ob w2 g wg : S512x2816.Idx → EReal) (ix2 r e)
      = Ideal.logistic ((k0_pay4 (F := Ideal) x oa w1 ob w2 g wg : S512x2816.Idx → EReal) (ix2 r e)) := by
  pointwise [k0_pay6]

theorem last_at (h : Vec Ideal S512x1024 .f32) (a b s : Vec Ideal S512x2816 .f32) (wd : Vec Ideal S2816x1024 .bf16) (r : Fin 512) (d : Fin 1024) :
    (k0_pay1 (F := Ideal) h a b s wd : S512x1024.Idx → EReal) (ix2 r d)
      = (h : S512x1024.Idx → EReal) (ix2 r d) + ∑ x : Fin 2816, (a : S512x2816.Idx → EReal) (ix2 r x) * (s : S512x2816.Idx → EReal) (ix2 r x) * (b : S512x2816.Idx → EReal) (ix2 r x) * (wd : S2816x1024.Idx → EReal) (ix2 x d) := by
  pointwise [k0_pay1]

/-! ## The block -/

theorem lo_at (X : Vec Ideal S1024x1024 .bf16) (k : Fin 512) (d : Fin 1024) :
    (View.ld X r0_2 : S512x1024.Idx → EReal) (ix2 k d) = X (ix2 ⟨k.val, by omega⟩ d) := by
  rw [View.ld_unit]
  pointwise
theorem hi_at (X : Vec Ideal S1024x1024 .bf16) (k : Fin 512) (d : Fin 1024) :
    (View.ld X r0_3 : S512x1024.Idx → EReal) (ix2 k d) = X (ix2 ⟨512 + k.val, by omega⟩ d) := by
  rw [View.ld_unit]
  pointwise

theorem zz : (![0, 0] : Fin 2 → ℕ) = fun _ => 0 := by decide

/-- The kernel's block, row by row. -/
theorem out_at (x0 : Vec Ideal S512x1024 .f32) (x1 x2 : Vec Ideal S512x512 .bf16) (x3 : Vec Ideal S1024x1024 .bf16) (x4 : Vec Ideal S1x1024 .f32)
    (x5 x6 : Vec Ideal S1024x2816 .bf16) (x7 : Vec Ideal S2816x1024 .bf16) (x8 : Vec Ideal S1x1024 .f32) (r : Fin 512) (d : Fin 1024) :
    (out0_9 (F := Ideal) x0 x1 x2 x3 x4 x5 x6 x7 x8 : S512x1024.Idx → EReal) (ix2 r d)
      = FfnMath.mid (fun e => x0 (ix2 r e)) (fun e => x1 (ix2 r e)) (fun e => x2 (ix2 r e)) (fun k e => x3 (ix2 k e)) (fun e => x4 (ix2 0 e))
          (fun k e => x5 (ix2 k e)) (fun k e => x6 (ix2 k e)) (fun k e => x7 (ix2 k e)) d := by
  unfold out0_9
  rw [View.canon_cons_unit_zero zz]
  rw [View.ld_unit_zero zz _ x0, View.ld_unit_zero zz _ x1, View.ld_unit_zero zz _ x2, View.ld_unit_zero zz _ x4, View.ld_unit_zero zz _ x5,
    View.ld_unit_zero zz _ x6, View.ld_unit_zero zz _ x7]
  rw [last_at]
  simp only [sig_at, gate_at, up_at, norm_at, proj_at _ _ _ _ _ (fun k e => x3 (ix2 k e)) (lo_at x3) (hi_at x3)]
  rfl

/-! ## The launch -/

theorem t_lt (t : Fin cfg0.N) : t.val < 64 := lt_of_lt_of_eq t.isLt N_0

/-- The windows' index maps. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem rd0 (t : Fin cfg0.N) (X : S32768x1024.Idx → EReal) (r : Fin 512) (d : Fin 1024) :
    ((cfg0.win 0).blk t).view.read (Elt Ideal) X (ix2 r d) = X (ix2 ⟨512 * t.val + r.val, by have := t_lt t; omega⟩ d) := by
  have ht := t_lt t
  blk_ext [idx t]
theorem rd1 (t : Fin cfg0.N) (X : S32768x512.Idx → EReal) (r : Fin 512) (d : Fin 512) :
    ((cfg0.win 1).blk t).view.read (Elt Ideal) X (ix2 r d) = X (ix2 ⟨512 * t.val + r.val, by have := t_lt t; omega⟩ d) := by
  have ht := t_lt t
  blk_ext [idx t]
theorem rd2 (t : Fin cfg0.N) (X : S32768x512.Idx → EReal) (r : Fin 512) (d : Fin 512) :
    ((cfg0.win 2).blk t).view.read (Elt Ideal) X (ix2 r d) = X (ix2 ⟨512 * t.val + r.val, by have := t_lt t; omega⟩ d) := by
  have ht := t_lt t
  blk_ext [idx t]
theorem rd3 (t : Fin cfg0.N) (X : S1024x1024.Idx → EReal) (r : Fin 1024) (d : Fin 1024) :
    ((cfg0.win 3).blk t).view.read (Elt Ideal) X (ix2 r d) = X (ix2 r d) := by
  blk_ext [idx t]
theorem rd4 (t : Fin cfg0.N) (X : S1x1024.Idx → EReal) (r : Fin 1) (d : Fin 1024) :
    ((cfg0.win 4).blk t).view.read (Elt Ideal) X (ix2 r d) = X (ix2 r d) := by
  blk_ext [idx t]
theorem rd5 (t : Fin cfg0.N) (X : S1024x2816.Idx → EReal) (r : Fin 1024) (d : Fin 2816) :
    ((cfg0.win 5).blk t).view.read (Elt Ideal) X (ix2 r d) = X (ix2 r d) := by
  blk_ext [idx t]
theorem rd6 (t : Fin cfg0.N) (X : S1024x2816.Idx → EReal) (r : Fin 1024) (d : Fin 2816) :
    ((cfg0.win 6).blk t).view.read (Elt Ideal) X (ix2 r d) = X (ix2 r d) := by
  blk_ext [idx t]
theorem rd7 (t : Fin cfg0.N) (X : S2816x1024.Idx → EReal) (r : Fin 2816) (d : Fin 1024) :
    ((cfg0.win 7).blk t).view.read (Elt Ideal) X (ix2 r d) = X (ix2 r d) := by
  blk_ext [idx t]
theorem rd9 (t : Fin cfg0.N) (X : S32768x1024.Idx → EReal) (r : Fin 512) (d : Fin 1024) :
    ((cfg0.win 9).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- The whole result, row by row, of the arrays at the call. -/
def OUT (X0 : S32768x1024.Idx → EReal) (X1 X2 : S32768x512.Idx → EReal) (X3 : S1024x1024.Idx → EReal) (X4 : S1x1024.Idx → EReal)
    (X5 X6 : S1024x2816.Idx → EReal) (X7 : S2816x1024.Idx → EReal) : S32768x1024.Idx → EReal := fun j =>
  FfnMath.mid (fun e => X0 (ix2 (j 0) e)) (fun e => X1 (ix2 (j 0) e)) (fun e => X2 (ix2 (j 0) e)) (fun k e => X3 (ix2 k e)) (fun e => X4 (ix2 0 e))
    (fun k e => X5 (ix2 k e)) (fun k e => X6 (ix2 k e)) (fun k e => X7 (ix2 k e)) (j 1)

theorem block_eq (t : Fin cfg0.N) (X0 : S32768x1024.Idx → EReal) (X1 X2 : S32768x512.Idx → EReal) (X3 : S1024x1024.Idx → EReal) (X4 : S1x1024.Idx → EReal)
    (X5 X6 : S1024x2816.Idx → EReal) (X7 : S2816x1024.Idx → EReal) (X8 : S1x1024.Idx → EReal) :
    (out0_9 (F := Ideal) (((cfg0.win 0).blk t).view.read (Elt Ideal) X0) (((cfg0.win 1).blk t).view.read (Elt Ideal) X1) (((cfg0.win 2).blk t).view.read (Elt Ideal) X2)
      (((cfg0.win 3).blk t).view.read (Elt Ideal) X3) (((cfg0.win 4).blk t).view.read (Elt Ideal) X4) (((cfg0.win 5).blk t).view.read (Elt Ideal) X5)
      (((cfg0.win 6).blk t).view.read (Elt Ideal) X6) (((cfg0.win 7).blk t).view.read (Elt Ideal) X7) (((cfg0.win 8).blk t).view.read (Elt Ideal) X8) : S512x1024.Idx → EReal)
      = ((cfg0.win 9).blk t).view.read (Elt Ideal) (OUT X0 X1 X2 X3 X4 X5 X6 X7) :=
  ext2 (a := 512) (n := 1024) fun r d => by
    refine (out_at _ _ _ _ _ _ _ _ _ r d).trans (Eq.trans ?_ (rd9 t (OUT X0 X1 X2 X3 X4 X5 X6 X7) r d).symm)
    have e0 := funext fun e => rd0 t X0 r e
    have e1 := funext fun e => rd1 t X1 r e
    have e2 := funext fun e => rd2 t X2 r e
    have e3 := funext fun k => funext fun e => rd3 t X3 k e
    have e4 := funext fun e => rd4 t X4 0 e
    have e5 := funext fun k => funext fun e => rd5 t X5 k e
    have e6 := funext fun k => funext fun e => rd6 t X6 k e
    have e7 := funext fun k => funext fun e => rd7 t X7 k e
    refine congrFun (?_ : FfnMath.mid _ _ _ _ _ _ _ _ = FfnMath.mid _ _ _ _ _ _ _ _) d
    rw [e0, e1, e2, e3, e4, e5, e6, e7]
    rfl

variable (m : (ℓ : Loc nD τ sig) → Buf (Elt Ideal) ℓ)

/-- The result of the call. -/
def result (c : Dev nD) : S32768x1024.Idx → EReal :=
  OUT (V m c main_v0) (V m c main_v2) (V m c main_v4) (V m c main_v5) (V m c main_v9) (V m c main_v6) (V m c main_v7) (V m c main_v8)

theorem result_at (c : Dev nD) (n : Fin 32768) (d : Fin 1024) : result m c (ix2 n d)
    = FfnMath.mid (fun e => (V m c main_v0 : S32768x1024.Idx → EReal) (ix2 n e)) (fun e => (V m c main_v2 : S32768x512.Idx → EReal) (ix2 n e))
      (fun e => (V m c main_v4 : S32768x512.Idx → EReal) (ix2 n e)) (fun k e => (V m c main_v5 : S1024x1024.Idx → EReal) (ix2 k e))
      (fun e => (V m c main_v9 : S1x1024.Idx → EReal) (ix2 0 e)) (fun k e => (V m c main_v6 : S1024x2816.Idx → EReal) (ix2 k e))
      (fun k e => (V m c main_v7 : S1024x2816.Idx → EReal) (ix2 k e)) (fun k e => (V m c main_v8 : S2816x1024.Idx → EReal) (ix2 k e)) d := rfl

/-- The array the call leaves. -/
theorem final (c : Dev nD) : (dats m 0 c).arrAt 9 cfg0.N = result m c := by
  refine (dats m 0 c).arrAt_eq_of_covers 9 _ (by decide +kernel) fun t hf y => ?_
  blk_simp
  rw [after0_9]
  exact congrFun (block_eq t (V m c main_v0) (V m c main_v2) (V m c main_v4) (V m c main_v5) (V m c main_v9) (V m c main_v6) (V m c main_v7) (V m c main_v8) (V m c main_v10)) y

/-! ## What the host hands the call -/

theorem V_x (c : Dev nD) (n : Fin 32768) (d : Fin 1024) : (show S32768x1024.Idx → EReal from V m c main_v0) (ix2 n d)
    = (show S4x8192x1024.Idx → EReal from m ((c : Thread nD τ).loc main_arg0)) (ix3 ⟨n.val / 8192, by omega⟩ ⟨n.val % 8192, by omega⟩ d) := by
  unfold V
  after_reads_at
theorem V_a (c : Dev nD) (n : Fin 32768) (d : Fin 512) : (show S32768x512.Idx → EReal from V m c main_v2) (ix2 n d)
    = (show S4x8192x512.Idx → EReal from m ((c : Thread nD τ).loc main_arg1)) (ix3 ⟨n.val / 8192, by omega⟩ ⟨n.val % 8192, by omega⟩ d) := by
  unfold V
  after_reads_at
theorem V_b (c : Dev nD) (n : Fin 32768) (d : Fin 512) : (show S32768x512.Idx → EReal from V m c main_v4) (ix2 n d)
    = (show S4x8192x512.Idx → EReal from m ((c : Thread nD τ).loc main_arg2)) (ix3 ⟨n.val / 8192, by omega⟩ ⟨n.val % 8192, by omega⟩ d) := by
  unfold V
  after_reads_at
theorem V_w (c : Dev nD) (k d : Fin 1024) : (show S1024x1024.Idx → EReal from V m c main_v5) (ix2 k d)
    = (show S1024x1024.Idx → EReal from m ((c : Thread nD τ).loc main_arg3)) (ix2 k d) := by
  unfold V
  after_reads_at
theorem V_g (c : Dev nD) (d : Fin 1024) : (show S1x1024.Idx → EReal from V m c main_v9) (ix2 0 d)
    = (show S1024.Idx → EReal from m ((c : Thread nD τ).loc main_arg4)) (ix1 d) := by
  unfold V
  after_reads_at
theorem V_wg (c : Dev nD) (k : Fin 1024) (d : Fin 2816) : (show S1024x2816.Idx → EReal from V m c main_v6) (ix2 k d)
    = (show S1024x2816.Idx → EReal from m ((c : Thread nD τ).loc main_arg5)) (ix2 k d) := by
  unfold V
  after_reads_at
theorem V_wu (c : Dev nD) (k : Fin 1024) (d : Fin 2816) : (show S1024x2816.Idx → EReal from V m c main_v7) (ix2 k d)
    = (show S1024x2816.Idx → EReal from m ((c : Thread nD τ).loc main_arg6)) (ix2 k d) := by
  unfold V
  after_reads_at
theorem V_wd (c : Dev nD) (k : Fin 2816) (d : Fin 1024) : (show S2816x1024.Idx → EReal from V m c main_v8) (ix2 k d)
    = (show S2816x1024.Idx → EReal from m ((c : Thread nD τ).loc main_arg7)) (ix2 k d) := by
  unfold V
  after_reads_at

end Cert.Kernel3Ideal.Block
-- ==== Proof.Ffn3Claims.lean ====
module

public import proofs.«01_k».proof.Defs
public import proofs.«01_k».proof.Proof.Gen.Kernel3.Frame
public import proofs.«01_k».proof.Proof.Ffn3Ref
public import proofs.«01_k».proof.Proof.Ffn3Block
@[expose] public section

set_option maxRecDepth 16384
noncomputable section

/-! The claims about the feed-forward call without final norm. -/

namespace Cert.Proof.Ffn3

open Cert.Kernel3Ideal.Block Cert.Kernel3Ideal.Gen
open Idealize.ShloMosaic Idealize.ShloMosaic.TcCoe Idealize.SL.Sem

theorem frame_p : Cert.quiescent_Kernel3 (hKernel3 := Cert.Kernel3.Gen.facts) := fun m ρ _ =>
  Cert.Kernel3.Gen.frame (F := Bits) m ρ

theorem frame_pi : Cert.quiescent_Kernel3Ideal (hKernel3Ideal := Cert.Kernel3Ideal.Gen.facts) := fun m ρ _ =>
  Cert.Kernel3Ideal.Gen.frame (F := Ideal) m ρ

theorem frame_ri : Cert.quiescent_Reference3Ideal (hReference3Ideal := Cert.Reference3Ideal.Gen.facts) := fun m ρ _ =>
  θ_run_mono (Cert.Reference3Ideal.Value.run (F := Ideal) m ρ) fun r h => ⟨fun c => (h c).2, sem_eq_zero_of_no_sems (by decide) r.2⟩

theorem result_eq (m : (ℓ : Loc Cert.Kernel3Ideal.nD Cert.Kernel3Ideal.τ Cert.Kernel3Ideal.sig) → Buf (Elt Ideal) ℓ)
    (c : Dev Cert.Kernel3Ideal.nD) :
    Cert.Reference3Ideal.At.whole (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7)) = result m c :=
  ext2 (a := 32768) (n := 1024) fun n d => by
    refine (Cert.Reference3Ideal.At.whole_at _ _ _ _ _ _ _ _ n d).trans ?_
    have e0 := funext fun e => V_x m c n e
    have e1 := funext fun e => V_a m c n e
    have e2 := funext fun e => V_b m c n e
    have e3 := funext fun k => funext fun e => V_w m c k e
    have e4 := funext fun e => V_g m c e
    have e5 := funext fun k => funext fun e => V_wg m c k e
    have e6 := funext fun k => funext fun e => V_wu m c k e
    have e7 := funext fun k => funext fun e => V_wd m c k e
    refine Eq.trans (Eq.symm ?_) (result_at m c n d).symm
    exact congrArg (fun f => f d) (congr (congr (congr (congr (congr (congr (congr (congrArg Cert.FfnMath.mid e0) e1) e2) e3) e4) e5) e6) e7)

theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => result m c, ?_, ?_⟩
  · exact θ_run_mono (Cert.Kernel3Ideal.Value.run_blocks (F := Ideal) m ρ) fun r h c => ⟨(h c).1.trans (final m c), (h c).2⟩
  · refine θ_run_mono (Cert.Reference3Ideal.Value.run (F := Ideal) m' ρ') fun r h c => ⟨(h c).1.trans ?_, (h c).2⟩
    obtain ⟨h0, h1, h2, h3, h4, h5, h6, h7, h8⟩ := hagree c
    rw [Cert.Reference3Ideal.At.result_eq, h0, h1, h2, h3, h4, h5, h6, h7]
    exact result_eq m c

end Cert.Proof.Ffn3
-- ==== Proof.EvenMath.lean ====
module

public import proofs.«01_k».proof.Proof.FfnMath
@[expose] public section

set_option maxRecDepth 16384
noncomputable section

/-! One row of the even layers' input projection: the rotary embedding as the kernel's tables of 128 lanes give it, and as
the rotation of the first sixteen entries of every head. -/

namespace Cert.EvenMath

open Idealize.ShloMosaic

/-- The row with rotation by tables: lanes 8 to the right and 8 to the left inside each 128. -/
def byTables (y : Fin 3072 → EReal) (C S1 S2 : Fin 128 → EReal) (e : Fin 3072) : EReal :=
  if e.val < 2048 then
    y e * C ⟨e.val % 128, by omega⟩ + y ⟨128 * (e.val / 128) + (e.val % 128 + 8) % 128, by omega⟩ * S1 ⟨e.val % 128, by omega⟩
      + y ⟨128 * (e.val / 128) + (e.val % 128 + 120) % 128, by omega⟩ * S2 ⟨e.val % 128, by omega⟩
  else y e

/-- The row with the first sixteen entries of every 64 rotated. -/
def out (y : Fin 3072 → EReal) (c s : Fin 8 → EReal) (e : Fin 3072) : EReal :=
  if e.val < 2048 then
    if h : e.val % 64 < 8 then y e * c ⟨e.val % 64, h⟩ - y ⟨(e.val + 8) % 3072, by omega⟩ * s ⟨e.val % 64, h⟩
    else if h' : e.val % 64 < 16 then y e * c ⟨e.val % 64 - 8, by omega⟩ + y ⟨e.val - 8, by omega⟩ * s ⟨e.val % 64 - 8, by omega⟩
    else y e
  else y e

/-- The three tables. -/
def tabC (c : Fin 8 → EReal) (l : Fin 128) : EReal :=
  if h : l.val % 64 < 8 then c ⟨l.val % 64, h⟩ else if h' : l.val % 64 < 16 then c ⟨l.val % 64 - 8, by omega⟩ else 1
def tabS1 (s : Fin 8 → EReal) (l : Fin 128) : EReal := if h : l.val % 64 < 8 then -s ⟨l.val % 64, h⟩ else 0
def tabS2 (s : Fin 8 → EReal) (l : Fin 128) : EReal :=
  if h : 8 ≤ l.val % 64 ∧ l.val % 64 < 16 then s ⟨l.val % 64 - 8, by omega⟩ else 0

theorem tables (y : Fin 3072 → EReal) (c s : Fin 8 → EReal) (e : Fin 3072) :
    byTables y (tabC c) (tabS1 s) (tabS2 s) e = out y c s e := by
  unfold byTables out tabC tabS1 tabS2
  by_cases he : e.val < 2048
  · simp only [he, if_true]
    have hm : e.val % 128 % 64 = e.val % 64 := by omega
    simp only [hm]
    by_cases h8 : e.val % 64 < 8
    · rw [dif_pos h8, dif_pos h8, dif_pos h8, dif_neg (by omega), mul_zero, add_zero, mul_neg, sub_eq_add_neg]
      have hi : (⟨128 * (e.val / 128) + (e.val % 128 + 8) % 128, by omega⟩ : Fin 3072) = ⟨(e.val + 8) % 3072, by omega⟩ :=
        Fin.ext (by simp only; omega)
      rw [hi]
    · by_cases h16 : e.val % 64 < 16
      · rw [dif_neg h8, dif_pos h16, dif_neg h8, dif_pos ⟨by omega, h16⟩, dif_neg h8, dif_pos h16, mul_zero, add_zero]
        have hi : (⟨128 * (e.val / 128) + (e.val % 128 + 120) % 128, by omega⟩ : Fin 3072) = ⟨e.val - 8, by omega⟩ :=
          Fin.ext (by simp only; omega)
        rw [hi]
      · rw [dif_neg h8, dif_neg h16, dif_neg h8, dif_neg (by omega), dif_neg h8, dif_neg h16, mul_one, mul_zero, mul_zero, add_zero, add_zero]
  · rw [if_neg he, if_neg he]

/-- Where a column of the call's weight stands in the layer's. -/
def sel (e : Fin 3072) : Fin 3072 :=
  if e.val < 1024 then e else if h : e.val < 2048 then ⟨e.val + 512, by omega⟩ else if h' : e.val < 2560 then ⟨e.val - 1024, by omega⟩ else e

/-- One section of 512 columns, the first sixteen entries of every 64 rotated. -/
def rope (y : Fin 512 → EReal) (c s : Fin 8 → EReal) (d : Fin 512) : EReal :=
  if h : d.val % 64 < 8 then y d * c ⟨d.val % 64, h⟩ - y ⟨d.val / 64 * 64 + (8 + d.val % 64), by omega⟩ * s ⟨d.val % 64, h⟩
  else if h' : d.val % 64 - 8 < 8 then y d * c ⟨d.val % 64 - 8, h'⟩ + y ⟨d.val / 64 * 64 + (d.val % 64 - 8), by omega⟩ * s ⟨d.val % 64 - 8, h'⟩
  else y d

theorem out_rope (y : Fin 3072 → EReal) (c s : Fin 8 → EReal) (p : ℕ) (hp : p ≤ 1536) (h64 : p % 64 = 0) (d : Fin 512) :
    out y c s ⟨p + d.val, by omega⟩ = rope (fun d => y ⟨p + d.val, by omega⟩) c s d := by
  have hd := d.isLt
  have hm : (p + d.val) % 64 = d.val % 64 := by omega
  unfold out rope
  rw [if_pos (by simp only; omega)]
  simp only [hm]
  by_cases h8 : d.val % 64 < 8
  · rw [dif_pos h8, dif_pos h8]
    have hi : (⟨(p + d.val + 8) % 3072, by omega⟩ : Fin 3072) = ⟨p + (d.val / 64 * 64 + (8 + d.val % 64)), by omega⟩ := Fin.ext (by simp only; omega)
    rw [hi]
  · by_cases h16 : d.val % 64 < 16
    · rw [dif_neg h8, dif_neg h8, dif_pos h16, dif_pos (by omega)]
      have hi : (⟨p + d.val - 8, by omega⟩ : Fin 3072) = ⟨p + (d.val / 64 * 64 + (d.val % 64 - 8)), by omega⟩ := Fin.ext (by simp only; omega)
      rw [hi]
    · rw [dif_neg h8, dif_neg h8, dif_neg h16, dif_neg (by omega)]

theorem out_rest (y : Fin 3072 → EReal) (c s : Fin 8 → EReal) (e : Fin 3072) (h : ¬ e.val < 2048) : out y c s e = y e := if_neg h
theorem sel_va (e : Fin 3072) (h : ¬ e.val < 2048) (h' : e.val < 2560) : sel e = ⟨e.val - 1024, by omega⟩ := by
  unfold sel
  rw [if_neg (by omega), dif_neg h, dif_pos h']
theorem sel_vb (e : Fin 3072) (h : ¬ e.val < 2560) : sel e = e := by
  unfold sel
  rw [if_neg (by omega), dif_neg (by omega), dif_neg h]

/-- A case distinction has a value that each of its cases has. -/
theorem cases {α : Type} {P : Prop} [Decidable P] {f : P → α} {g : ¬ P → α} {r : α} (e : ∀ h, f h = r) (e' : ∀ h, g h = r) : (if h : P then f h else g h) = r := by
  by_cases h : P
  · rw [dif_pos h]; exact e h
  · rw [dif_neg h]; exact e' h

end Cert.EvenMath
-- ==== Proof.EvenRef.lean ====
module

public import proofs.«01_k».proof.Proof.Gen.Reference4Ideal.Run
public import proofs.«01_k».proof.Proof.EvenMath
public import Idealize.ShloMosaic.Lib.Claim
public import Idealize.ShloMosaic.Lib.WordCmp
public import Idealize.ShloMosaic.Lib.Pointwise
@[expose] public section

set_option maxRecDepth 16384
set_option maxHeartbeats 1000000
noncomputable section

/-! The result of the reference of the even layers' input projection, row by row. -/

namespace Cert.Reference4Ideal.At

open Cert.Reference4Ideal Cert.Reference4Ideal.Gen
open Idealize.ShloMosaic Idealize.ShloMosaic.TcCoe Idealize.ShloMosaic.Tactic
open Idealize.SL.Sem

/-- The root-mean-square norm. -/
def norm (H : FVec Ideal S4x8192x1024 .f32) (g : FVec Ideal S1024 .f32) : FVec Ideal S4x8192x1024 .f32 :=
  mulf (mulf H (broadcastInDim S4x8192x1024 ![0, 1, 2] bcast_S4x8192x1_S4x8192x1024_0_1_2 (Host.rsqrt (addf
    (Host.divf (broadcastInDim S4x8192x1 ![0, 1] bcast_S4x8192_S4x8192x1_0_1
      (Host.reduceAdd (mulf H H) (constant S_ .f32 0x00000000#32) reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g))
/-- The product with the weight. -/
def prod (Z : FVec Ideal S4x8192x1024 .f32) (W : FVec Ideal S1024x3072 .f32) : FVec Ideal S4x8192x3072 .f32 :=
  Host.dotGeneral dot_S4x8192x1024_S1024x3072_S4x8192x3072_2_0_01_1_n_n none Z W
/-- The rotation angles of the positions. -/
def ang (P : (⟨S4x8192, .i32⟩ : BufTy).Contents (Elt Ideal)) : FVec Ideal S4x8192x8 .f32 :=
  mulf (broadcastInDim S4x8192x8 ![0, 1, 2] bcast_S4x8192x1_S4x8192x8_0_1_2 (broadcastInDim S4x8192x1 ![0, 1] bcast_S4x8192_S4x8192x1_0_1 (sitofp .f32 P)))
    (broadcastInDim S4x8192x8 ![0, 1, 2] bcast_S1x1x8_S4x8192x8_0_1_2 (broadcastInDim S1x1x8 ![2] bcast_S8_S1x1x8_2
      (Host.divf (broadcastInDim S8 ![] bcast_S_S8 (constant S_ .f32 0x3F800000#32))
        (Host.powf (broadcastInDim S8 ![] bcast_S_S8 (constant S_ .f32 0x48F42400#32))
          (Host.divf (addf (broadcastInDim S8 ![] bcast_S_S8 (constant S_ .f32 0x00000000#32))
            (mulf (broadcastInDim S8 ![] bcast_S_S8 (constant S_ .f32 0x40000000#32)) (sitofp .f32 (iotaInDim S8 32 0))))
            (broadcastInDim S8 ![] bcast_S_S8 (constant S_ .f32 0x41800000#32)))))))
/-- The rotary embedding of a section of eight heads. -/
def rope (Y : FVec Ideal S4x8192x512 .f32) (C S : FVec Ideal S4x8192x8 .f32) : FVec Ideal S4x8192x512 .f32 :=
  shapeCast S4x8192x512 (concatenate S4x8192x8x64 3
    [⟨S4x8192x8x8, subf (mulf (extractStridedSlice S4x8192x8x8 ![0, 0, 0, 0] (shapeCast S4x8192x8x64 Y shapeCasts_S4x8192x512_S4x8192x8x64) slices_S4x8192x8x64_S4x8192x8x8_0_0_0_0)
        (broadcastInDim S4x8192x8x8 ![0, 1, 2, 3] bcast_S4x8192x1x8_S4x8192x8x8_0_1_2_3 (broadcastInDim S4x8192x1x8 ![0, 1, 3] bcast_S4x8192x8_S4x8192x1x8_0_1_3 C)))
      (mulf (extractStridedSlice S4x8192x8x8 ![0, 0, 0, 8] (shapeCast S4x8192x8x64 Y shapeCasts_S4x8192x512_S4x8192x8x64) slices_S4x8192x8x64_S4x8192x8x8_0_0_0_8)
        (broadcastInDim S4x8192x8x8 ![0, 1, 2, 3] bcast_S4x8192x1x8_S4x8192x8x8_0_1_2_3 (broadcastInDim S4x8192x1x8 ![0, 1, 3] bcast_S4x8192x8_S4x8192x1x8_0_1_3 S)))⟩,
     ⟨S4x8192x8x8, addf (mulf (extractStridedSlice S4x8192x8x8 ![0, 0, 0, 8] (shapeCast S4x8192x8x64 Y shapeCasts_S4x8192x512_S4x8192x8x64) slices_S4x8192x8x64_S4x8192x8x8_0_0_0_8)
        (broadcastInDim S4x8192x8x8 ![0, 1, 2, 3] bcast_S4x8192x1x8_S4x8192x8x8_0_1_2_3 (broadcastInDim S4x8192x1x8 ![0, 1, 3] bcast_S4x8192x8_S4x8192x1x8_0_1_3 C)))
      (mulf (extractStridedSlice S4x8192x8x8 ![0, 0, 0, 0] (shapeCast S4x8192x8x64 Y shapeCasts_S4x8192x512_S4x8192x8x64) slices_S4x8192x8x64_S4x8192x8x8_0_0_0_0)
        (broadcastInDim S4x8192x8x8 ![0, 1, 2, 3] bcast_S4x8192x1x8_S4x8192x8x8_0_1_2_3 (broadcastInDim S4x8192x1x8 ![0, 1, 3] bcast_S4x8192x8_S4x8192x1x8_0_1_3 S)))⟩,
     ⟨S4x8192x8x48, extractStridedSlice S4x8192x8x48 ![0, 0, 0, 16] (shapeCast S4x8192x8x64 Y shapeCasts_S4x8192x512_S4x8192x8x64) slices_S4x8192x8x64_S4x8192x8x48_0_0_0_16⟩]
    concatenates_S4x8192x8x8_S4x8192x8x8_S4x8192x8x48_S4x8192x8x64_d3) shapeCasts_S4x8192x8x64_S4x8192x512
/-- The sections put together. -/
def joined (Y : FVec Ideal S4x8192x3072 .f32) (C S : FVec Ideal S4x8192x8 .f32) : FVec Ideal S4x8192x3072 .f32 :=
  concatenate S4x8192x3072 2
    [⟨S4x8192x512, rope (extractStridedSlice S4x8192x512 ![0, 0, 0] Y slices_S4x8192x3072_S4x8192x512_0_0_0) C S⟩,
     ⟨S4x8192x512, rope (extractStridedSlice S4x8192x512 ![0, 0, 512] Y slices_S4x8192x3072_S4x8192x512_0_0_512) C S⟩,
     ⟨S4x8192x512, rope (extractStridedSlice S4x8192x512 ![0, 0, 1536] Y slices_S4x8192x3072_S4x8192x512_0_0_1536) C S⟩,
     ⟨S4x8192x512, rope (extractStridedSlice S4x8192x512 ![0, 0, 2048] Y slices_S4x8192x3072_S4x8192x512_0_0_2048) C S⟩,
     ⟨S4x8192x512, extractStridedSlice S4x8192x512 ![0, 0, 1024] Y slices_S4x8192x3072_S4x8192x512_0_0_1024⟩,
     ⟨S4x8192x512, extractStridedSlice S4x8192x512 ![0, 0, 2560] Y slices_S4x8192x3072_S4x8192x512_0_0_2560⟩]
    concatenates_S4x8192x512_S4x8192x512_S4x8192x512_S4x8192x512_S4x8192x512_S4x8192x512_S4x8192x3072_d2
/-- The reference as one expression of its arguments. -/
def whole (H : FVec Ideal S4x8192x1024 .f32) (g : FVec Ideal S1024 .f32) (W : FVec Ideal S1024x3072 .f32) (P : (⟨S4x8192, .i32⟩ : BufTy).Contents (Elt Ideal)) : FVec Ideal S32768x3072 .bf16 :=
  truncf .bf16 (shapeCast S32768x3072 (joined (prod (norm H g) W) (Host.cos (ang P)) (Host.sin (ang P))) shapeCasts_S4x8192x3072_S32768x3072) bitsLt_bf16_f32

theorem norm_at (H : FVec Ideal S4x8192x1024 .f32) (g : FVec Ideal S1024 .f32) (b : Fin 4) (s : Fin 8192) (d : Fin 1024) :
    (norm H g : S4x8192x1024.Idx → EReal) (ix3 b s d) = FfnMath.norm (fun e => H (ix3 b s e)) (fun e => g (ix1 e)) d := by
  pointwise [norm]
  rfl
theorem prod_at (Z : FVec Ideal S4x8192x1024 .f32) (W : FVec Ideal S1024x3072 .f32) (b : Fin 4) (s : Fin 8192) (e : Fin 3072) :
    (prod Z W : S4x8192x3072.Idx → EReal) (ix3 b s e) = ∑ k : Fin 1024, (Z : S4x8192x1024.Idx → EReal) (ix3 b s k) * (W : S1024x3072.Idx → EReal) (ix2 k e) := by
  pointwise [prod]
theorem rope_at (Y : FVec Ideal S4x8192x512 .f32) (C S : FVec Ideal S4x8192x8 .f32) (b : Fin 4) (s : Fin 8192) (d : Fin 512) :
    (rope Y C S : S4x8192x512.Idx → EReal) (ix3 b s d)
      = EvenMath.rope (fun d => Y (ix3 b s d)) (fun j => C (ix3 b s j)) (fun j => S (ix3 b s j)) d := by
  have hd := d.isLt
  pointwise [rope]
  unfold EvenMath.rope
  refine dite_congr rfl (fun h1 => rfl) fun h1 => dite_congr rfl (fun h2 => ?_) fun h2 => ?_
  · have h1' : ¬ d.val % 64 < 8 := h1
    have hi : (⟨d.val / 64 * 64 + (8 + (d.val % 64 - 8)), by omega⟩ : Fin 512) = d := Fin.ext (by simp only; omega)
    exact congrArg (fun z => Y (ix3 b s z) * C (ix3 b s ⟨d.val % 64 - 8, h2⟩) + Y (ix3 b s ⟨d.val / 64 * 64 + (d.val % 64 - 8), by omega⟩) * S (ix3 b s ⟨d.val % 64 - 8, h2⟩)) hi
  · have h1' : ¬ d.val % 64 < 8 := h1
    have h2' : ¬ d.val % 64 - 8 < 8 := h2
    have hi : (⟨d.val / 64 * 64 + (16 + (d.val % 64 - 8 - 8)), by omega⟩ : Fin 512) = d := Fin.ext (by simp only; omega)
    exact congrArg (fun z => Y (ix3 b s z)) hi

theorem sec_at (Y : FVec Ideal S4x8192x3072 .f32) (C S : FVec Ideal S4x8192x8 .f32) (o p : ℕ) (h : S4x8192x3072.Slices ![0, 0, o] S4x8192x512)
    (ho : o ≤ 2560) (hp : p ≤ 1536) (h64 : p % 64 = 0) (hs : ∀ d : Fin 512, EvenMath.sel ⟨p + d.val, by omega⟩ = ⟨o + d.val, by omega⟩)
    (b : Fin 4) (s : Fin 8192) (d : Fin 512) (e : Fin 3072) (he : e.val = p + d.val) :
    (rope (extractStridedSlice S4x8192x512 ![0, 0, o] Y h) C S : S4x8192x512.Idx → EReal) (ix3 b s d)
      = EvenMath.out (fun e => Y (ix3 b s (EvenMath.sel e))) (fun j => C (ix3 b s j)) (fun j => S (ix3 b s j)) e := by
  have ee : e = ⟨p + d.val, by omega⟩ := Fin.ext he
  have es : (fun d : Fin 512 => (extractStridedSlice S4x8192x512 ![0, 0, o] Y h : S4x8192x512.Idx → EReal) (ix3 b s d)) = fun d => Y (ix3 b s ⟨o + d.val, by omega⟩) := by
    funext d
    pointwise
  rw [rope_at, ee, EvenMath.out_rope _ _ _ p hp h64, es]
  simp only [hs]

theorem joined_at (Y : FVec Ideal S4x8192x3072 .f32) (C S : FVec Ideal S4x8192x8 .f32) (b : Fin 4) (s : Fin 8192) (e : Fin 3072) :
    (joined Y C S : S4x8192x3072.Idx → EReal) (ix3 b s e)
      = EvenMath.out (fun e => Y (ix3 b s (EvenMath.sel e))) (fun j => C (ix3 b s j)) (fun j => S (ix3 b s j)) e := by
  have he := e.isLt
  pointwise [joined]
  refine EvenMath.cases (fun h1 => ?_) fun h1 => EvenMath.cases (fun h2 => ?_) fun h2 => EvenMath.cases (fun h3 => ?_) fun h3 =>
    EvenMath.cases (fun h4 => ?_) fun h4 => EvenMath.cases (fun h5 => ?_) fun h5 => ?_
  · refine sec_at Y C S 0 0 _ (by omega) (by omega) rfl (fun d => ?_) b s _ e (by simp only; omega)
    unfold EvenMath.sel
    exact if_pos (by simp only; omega)
  · refine sec_at Y C S 512 512 _ (by omega) (by omega) rfl (fun d => ?_) b s _ e (by simp only; omega)
    unfold EvenMath.sel
    exact if_pos (by simp only; omega)
  · refine sec_at Y C S 1536 1024 _ (by omega) (by omega) rfl (fun d => ?_) b s _ e (by simp only; omega)
    unfold EvenMath.sel
    rw [if_neg (by simp only; omega), dif_pos (by simp only; omega)]
    exact Fin.ext (by simp only; omega)
  · refine sec_at Y C S 2048 1536 _ (by omega) (by omega) rfl (fun d => ?_) b s _ e (by simp only; omega)
    unfold EvenMath.sel
    rw [if_neg (by simp only; omega), dif_pos (by simp only; omega)]
    exact Fin.ext (by simp only; omega)
  · refine Eq.symm ((EvenMath.out_rest _ _ _ e (by omega)).trans (congrArg (fun z => Y (ix3 b s z)) ((EvenMath.sel_va e (by omega) (by omega)).trans ?_)))
    exact Fin.ext (by simp only; omega)
  · refine Eq.symm ((EvenMath.out_rest _ _ _ e (by omega)).trans (congrArg (fun z => Y (ix3 b s z)) ((EvenMath.sel_vb e (by omega)).trans ?_)))
    exact Fin.ext (by simp only; omega)

theorem cast_at (Y : FVec Ideal S4x8192x3072 .f32) (n : Fin 32768) (d : Fin 3072) :
    (truncf .bf16 (shapeCast S32768x3072 Y shapeCasts_S4x8192x3072_S32768x3072) bitsLt_bf16_f32 : S32768x3072.Idx → EReal) (ix2 n d)
      = Y (ix3 ⟨n.val / 8192, by omega⟩ ⟨n.val % 8192, by omega⟩ d) := by
  pointwise

theorem whole_at (H : FVec Ideal S4x8192x1024 .f32) (g : FVec Ideal S1024 .f32) (W : FVec Ideal S1024x3072 .f32) (P : (⟨S4x8192, .i32⟩ : BufTy).Contents (Elt Ideal)) (n : Fin 32768) (e : Fin 3072) :
    (whole H g W P : S32768x3072.Idx → EReal) (ix2 n e)
      = EvenMath.out (fun e => ∑ k : Fin 1024, FfnMath.norm (fun e => H (ix3 ⟨n.val / 8192, by omega⟩ ⟨n.val % 8192, by omega⟩ e)) (fun e => g (ix1 e)) k * W (ix2 k (EvenMath.sel e)))
          (fun j => (Host.cos (ang P) : S4x8192x8.Idx → EReal) (ix3 ⟨n.val / 8192, by omega⟩ ⟨n.val % 8192, by omega⟩ j))
          (fun j => (Host.sin (ang P) : S4x8192x8.Idx → EReal) (ix3 ⟨n.val / 8192, by omega⟩ ⟨n.val % 8192, by omega⟩ j)) e := by
  unfold whole
  rw [cast_at, joined_at]
  simp only [prod_at, norm_at]

theorem result_eq (m : (ℓ : Loc nD τ sig) → Buf (Elt Ideal) ℓ) (c : Dev nD) :
    Value.res_main_v113 m c = whole (m ((c.tc : Thread nD τ).loc main_arg0)) (m ((c.tc : Thread nD τ).loc main_arg1)) (m ((c.tc : Thread nD τ).loc main_arg2))
      (m ((c.tc : Thread nD τ).loc main_arg3)) := rfl

end Cert.Reference4Ideal.At
-- ==== Proof.EvenBlock.lean ====
module

public import proofs.«01_k».proof.Proof.Gen.Kernel4Ideal.Value
public import proofs.«01_k».proof.Proof.EvenMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Writes
public import Idealize.ShloMosaic.Lib.Pipeline.Value
public import Idealize.ShloMosaic.Lib.Pipeline.ValueKit
@[expose] public section

set_option maxRecDepth 16384
set_option maxHeartbeats 1000000
noncomputable section

/-! The input projection of the even layers: its block at an element, and the array its launch leaves. -/

namespace Cert.Kernel4Ideal.Block

open Cert.Kernel4Ideal Cert.Kernel4Ideal.Gen
open Idealize.ShloMosaic Idealize.ShloMosaic.TcCoe Idealize.ShloMosaic.Tactic
open Idealize.SL.Sem

theorem zz : (![0, 0] : Fin 2 → ℕ) = fun _ => 0 := by decide

/-! ## The payloads -/

theorem norm_at (x : Vec Ideal S512x1024 .f32) (g : Vec Ideal S1x1024 .f32) (r : Fin 512) (d : Fin 1024) :
    (k0_pay3 (F := Ideal) x g : S512x1024.Idx → EReal) (ix2 r d) = FfnMath.norm (fun e => x (ix2 r e)) (fun e => g (ix2 0 e)) d := by
  pointwise [k0_pay3]
  rfl

/-- One chunk of 512 columns of the product. -/
def chunk (Z : FVec Ideal S512x1024 .bf16) (W : FVec Ideal S1024x512 .bf16) : FVec Ideal S512x512 .f32 :=
  matmul dot_S512x1024_S1024x512_S512x512_1_0_0_1_n_n none Z W (constant S512x512 .f32 0x00000000#32)

theorem chunk_at (Z : FVec Ideal S512x1024 .bf16) (X : Vec Ideal S1024x3072 .bf16) (o : ℕ) (inb : ∀ a : Fin 2, (![0, o] : Fin 2 → ℕ) a + (![1024, 512] : Fin 2 → ℕ) a ≤ S1024x3072.size a)
    (r : Fin 512) (e : Fin 512) (he : o + e.val < 3072) :
    (chunk Z (View.ld X (Rect.unit (s := S1024x3072) ![0, o] ![1024, 512] inb)) : S512x512.Idx → EReal) (ix2 r e)
      = ∑ k : Fin 1024, (Z : S512x1024.Idx → EReal) (ix2 r k) * (X : S1024x3072.Idx → EReal) (ix2 k ⟨o + e.val, he⟩) := by
  rw [View.ld_unit]
  pointwise [chunk]

/-- The rotation of 128 lanes of a chunk. -/
def seg (o : ℕ) (h : S512x512.Slices ![0, o] S512x128) (Y : FVec Ideal S512x512 .f32) (c s1 s2 : FVec Ideal S512x128 .f32) : FVec Ideal S512x128 .bf16 :=
  truncf .bf16 (addf (addf (mulf (extractStridedSlice S512x128 ![0, o] Y h) c)
    (mulf (dynamicRotate 1 120#32 none (extractStridedSlice S512x128 ![0, o] Y h) rotates_S512x128_d1) s1))
    (mulf (dynamicRotate 1 8#32 none (extractStridedSlice S512x128 ![0, o] Y h) rotates_S512x128_d1) s2)) bitsLt_bf16_f32

theorem seg_at (o : ℕ) (h : S512x512.Slices ![0, o] S512x128) (ho : o + 128 ≤ 512) (Y : FVec Ideal S512x512 .f32) (c s1 s2 : FVec Ideal S512x128 .f32) (r : Fin 512) (l : Fin 128) :
    (seg o h Y c s1 s2 : S512x128.Idx → EReal) (ix2 r l)
      = Y (ix2 r ⟨o + l.val, by omega⟩) * c (ix2 r l) + Y (ix2 r ⟨o + (l.val + 8) % 128, by omega⟩) * s1 (ix2 r l)
        + Y (ix2 r ⟨o + (l.val + 120) % 128, by omega⟩) * s2 (ix2 r l) := by
  have h1 : (l.val + 8) % 128 = (l.val + 128 - 120) % 128 := by omega
  have h2 : (l.val + 120) % 128 = (l.val + 128 - 8) % 128 := by omega
  simp only [h1, h2]
  pointwise [seg]

/-! ## The block -/

/-- The block, row by row. -/
def G (x0 : Vec Ideal S512x1024 .f32) (x1 : Vec Ideal S1x1024 .f32) (x2 : Vec Ideal S1024x3072 .bf16) (x3 x4 x5 : Vec Ideal S512x128 .f32) : S512x3072.Idx → EReal := fun j =>
  EvenMath.byTables (fun e => ∑ k : Fin 1024, (k0_pay3 (F := Ideal) x0 x1 : S512x1024.Idx → EReal) (ix2 (j 0) k) * (x2 : S1024x3072.Idx → EReal) (ix2 k e))
    (fun l => (x3 : S512x128.Idx → EReal) (ix2 (j 0) l)) (fun l => (x4 : S512x128.Idx → EReal) (ix2 (j 0) l)) (fun l => (x5 : S512x128.Idx → EReal) (ix2 (j 0) l)) (j 1)

theorem seg_eq (x0 : Vec Ideal S512x1024 .f32) (x1 : Vec Ideal S1x1024 .f32) (x2 : Vec Ideal S1024x3072 .bf16) (x3 x4 x5 : Vec Ideal S512x128 .f32) (q o p : ℕ)
    (h : S512x512.Slices ![0, o] S512x128) (inb : ∀ a : Fin 2, (![0, q] : Fin 2 → ℕ) a + (![1024, 512] : Fin 2 → ℕ) a ≤ S1024x3072.size a)
    (inb' : ∀ a : Fin 2, (![0, p] : Fin 2 → ℕ) a + (![512, 128] : Fin 2 → ℕ) a ≤ S512x3072.size a)
    (ho : o + 128 ≤ 512) (hq : q ≤ 1536) (hp : p = q + o) (hd : p % 128 = 0) (x : S512x128.Idx) :
    (seg o h (chunk (k0_pay3 (F := Ideal) x0 x1) (View.ld x2 (Rect.unit (s := S1024x3072) ![0, q] ![1024, 512] inb))) x3 x4 x5 : S512x128.Idx → EReal) x
      = G x0 x1 x2 x3 x4 x5 ((Rect.unit (s := S512x3072) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x3072) ![0, p] ![512, 128] inb').emb (ix2 r l) = ix2 r (⟨p + l.val, by omega⟩ : Fin 3072) := by
    funext b
    fin_cases b <;> exact Fin.ext (by simp [Rect.emb_apply, ix2])
  rw [em, seg_at o h ho, chunk_at (he := by simp only; omega), chunk_at (he := by simp only; omega), chunk_at (he := by simp only; omega)]
  show _ = EvenMath.byTables _ _ _ _ (⟨p + l.val, by omega⟩ : Fin 3072)
  unfold EvenMath.byTables
  rw [if_pos (by simp only; omega)]
  have i0 : (⟨(p + l.val) % 128, by omega⟩ : Fin 128) = l := Fin.ext (by simp only; omega)
  have i1 : (⟨128 * ((p + l.val) / 128) + ((p + l.val) % 128 + 8) % 128, by omega⟩ : Fin 3072) = ⟨q + (o + (l.val + 8) % 128), by omega⟩ := Fin.ext (by simp only; omega)
  have i2 : (⟨128 * ((p + l.val) / 128) + ((p + l.val) % 128 + 120) % 128, by omega⟩ : Fin 3072) = ⟨q + (o + (l.val + 120) % 128), by omega⟩ := Fin.ext (by simp only; omega)
  have i3 : (⟨p + l.val, by omega⟩ : Fin 3072) = ⟨q + (o + l.val), by omega⟩ := Fin.ext (by simp only; omega)
  simp only [i0, i1, i2, i3]
  rfl

theorem rest_eq (x0 : Vec Ideal S512x1024 .f32) (x1 : Vec Ideal S1x1024 .f32) (x2 : Vec Ideal S1024x3072 .bf16) (x3 x4 x5 : Vec Ideal S512x128 .f32) (q : ℕ)
    (inb : ∀ a : Fin 2, (![0, q] : Fin 2 → ℕ) a + (![1024, 512] : Fin 2 → ℕ) a ≤ S1024x3072.size a)
    (inb' : ∀ a : Fin 2, (![0, q] : Fin 2 → ℕ) a + (![512, 512] : Fin 2 → ℕ) a ≤ S512x3072.size a)
    (hq : q ≤ 2560) (hq' : 2048 ≤ q) (x : S512x512.Idx) :
    (truncf .bf16 (chunk (k0_pay3 (F := Ideal) x0 x1) (View.ld x2 (Rect.unit (s := S1024x3072) ![0, q] ![1024, 512] inb))) bitsLt_bf16_f32 : S512x512.Idx → EReal) x
      = G x0 x1 x2 x3 x4 x5 ((Rect.unit (s := S512x3072) ![0, q] ![512, 512] inb').emb x) := by
  have ex : x = ix2 (⟨(x 0).val, (x 0).isLt⟩ : Fin 512) (⟨(x 1).val, (x 1).isLt⟩ : Fin 512) := by
    funext b
    fin_cases b <;> rfl
  rw [ex]
  generalize (⟨(x 0).val, (x 0).isLt⟩ : Fin 512) = r
  generalize (⟨(x 1).val, (x 1).isLt⟩ : Fin 512) = l
  have hl := l.isLt
  have em : (Rect.unit (s := S512x3072) ![0, q] ![512, 512] inb').emb (ix2 r l) = ix2 r (⟨q + l.val, by omega⟩ : Fin 3072) := by
    funext b
    fin_cases b <;> exact Fin.ext (by simp [Rect.emb_apply, ix2])
  rw [em]
  show _ = EvenMath.byTables _ _ _ _ (⟨q + l.val, by omega⟩ : Fin 3072)
  unfold EvenMath.byTables
  rw [if_neg (by simp only; omega)]
  exact chunk_at (k0_pay3 (F := Ideal) x0 x1) x2 q inb r l (by omega)

theorem out_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x3072 .bf16) (harg7 : arg7.IsWhole)
    (x0 : Vec Ideal S512x1024 .f32) (x1 : Vec Ideal S1x1024 .f32) (x2 : Vec Ideal S1024x3072 .bf16) (x3 x4 x5 : Vec Ideal S512x128 .f32) (y : S512x3072.Idx) :
    (out0_A_6 (F := Ideal) c i arg1 harg1 arg2 harg2 arg3 harg3 arg4 harg4 arg5 harg5 arg6 harg6 arg7 harg7 x0 x1 x2 x3 x4 x5 : S512x3072.Idx → EReal) y
      = G x0 x1 x2 x3 x4 x5 y := by
  have z0 : ∀ inb, View.ld x0 (Rect.unit (s := S512x1024) ![0, 0] ![512, 1024] inb) = x0 := fun _ => View.ld_unit_zero zz _ x0
  have z1 : ∀ inb, View.ld x1 (Rect.unit (s := S1x1024) ![0, 0] ![1, 1024] inb) = x1 := fun _ => View.ld_unit_zero zz _ x1
  have z2 : ∀ (v : Vec Ideal S512x128 .f32) inb, View.ld v (Rect.unit (s := S512x128) ![0, 0] ![512, 128] inb) = v := fun v _ => View.ld_unit_zero zz _ v
  unfold out0_A_6
  refine View.read_writes_apply_of_pieces VO0_6 _ (G x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl <;> intro x <;> dsimp only
  all_goals simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, shapeCast_self, View.readAt_eq_ld, harg1.read_unread, harg2.read_unread, harg3.read_unread,
    harg4.read_unread, harg5.read_unread, harg6.read_unread, z0, z1, z2]
  all_goals first
    | exact seg_eq x0 x1 x2 x3 x4 x5 _ _ _ _ _ _ (by norm_num) (by norm_num) (by norm_num) (by norm_num) x
    | exact rest_eq x0 x1 x2 x3 x4 x5 _ _ _ (by norm_num) (by norm_num) x

/-! ## The launch -/

theorem t_lt (t : Fin cfg0.N) : t.val < 64 := lt_of_lt_of_eq t.isLt N_0

/-- The windows' index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem rd0 (t : Fin cfg0.N) (X : S32768x1024.Idx → EReal) (r : Fin 512) (d : Fin 1024) :
    ((cfg0.win 0).blk t).view.read (Elt Ideal) X (ix2 r d) = X (ix2 ⟨512 * t.val + r.val, by have := t_lt t; omega⟩ d) := by
  have ht := t_lt t
  blk_ext [idx t]
theorem rd1 (t : Fin cfg0.N) (X : S1x1024.Idx → EReal) (r : Fin 1) (d : Fin 1024) :
    ((cfg0.win 1).blk t).view.read (Elt Ideal) X (ix2 r d) = X (ix2 r d) := by
  blk_ext [idx t]
theorem rd2 (t : Fin cfg0.N) (X : S1024x3072.Idx → EReal) (r : Fin 1024) (d : Fin 3072) :
    ((cfg0.win 2).blk t).view.read (Elt Ideal) X (ix2 r d) = X (ix2 r d) := by
  blk_ext [idx t]
theorem rd3 (t : Fin cfg0.N) (X : S32768x128.Idx → EReal) (r : Fin 512) (d : Fin 128) :
    ((cfg0.win 3).blk t).view.read (Elt Ideal) X (ix2 r d) = X (ix2 ⟨512 * t.val + r.val, by have := t_lt t; omega⟩ d) := by
  have ht := t_lt t
  blk_ext [idx t]
theorem rd4 (t : Fin cfg0.N) (X : S32768x128.Idx → EReal) (r : Fin 512) (d : Fin 128) :
    ((cfg0.win 4).blk t).view.read (Elt Ideal) X (ix2 r d) = X (ix2 ⟨512 * t.val + r.val, by have := t_lt t; omega⟩ d) := by
  have ht := t_lt t
  blk_ext [idx t]
theorem rd5 (t : Fin cfg0.N) (X : S32768x128.Idx → EReal) (r : Fin 512) (d : Fin 128) :
    ((cfg0.win 5).blk t).view.read (Elt Ideal) X (ix2 r d) = X (ix2 ⟨512 * t.val + r.val, by have := t_lt t; omega⟩ d) := by
  have ht := t_lt t
  blk_ext [idx t]
theorem rd6 (t : Fin cfg0.N) (X : S32768x3072.Idx → EReal) (r : Fin 512) (d : Fin 3072) :
    ((cfg0.win 6).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- One row of the result, of a row of the stream, the gain, the weight and the rows of the tables. -/
def row (h g : Fin 1024 → EReal) (W : Fin 1024 → Fin 3072 → EReal) (C S1 S2 : Fin 128 → EReal) : Fin 3072 → EReal :=
  EvenMath.byTables (fun e => ∑ k : Fin 1024, FfnMath.norm h g k * W k e) C S1 S2

theorem G_at (x0 : Vec Ideal S512x1024 .f32) (x1 : Vec Ideal S1x1024 .f32) (x2 : Vec Ideal S1024x3072 .bf16) (x3 x4 x5 : Vec Ideal S512x128 .f32) (r : Fin 512) (d : Fin 3072) :
    G x0 x1 x2 x3 x4 x5 (ix2 r d) = row (fun e => x0 (ix2 r e)) (fun e => x1 (ix2 0 e)) (fun k e => x2 (ix2 k e)) (fun l => x3 (ix2 r l)) (fun l => x4 (ix2 r l)) (fun l => x5 (ix2 r l)) d := by
  have e : ∀ k : Fin 1024, (k0_pay3 (F := Ideal) x0 x1 : S512x1024.Idx → EReal) (ix2 r k) = FfnMath.norm (fun e => x0 (ix2 r e)) (fun e => x1 (ix2 0 e)) k := fun k => norm_at x0 x1 r k
  show EvenMath.byTables (fun e => ∑ k : Fin 1024, (k0_pay3 (F := Ideal) x0 x1 : S512x1024.Idx → EReal) (ix2 r k) * (x2 : S1024x3072.Idx → EReal) (ix2 k e)) _ _ _ d = _
  simp only [e]
  rfl

/-- The whole result, row by row, of the arrays at the call. -/
def OUT (X0 : S32768x1024.Idx → EReal) (X1 : S1x1024.Idx → EReal) (X2 : S1024x3072.Idx → EReal) (X3 X4 X5 : S32768x128.Idx → EReal) : S32768x3072.Idx → EReal := fun j =>
  row (fun e => X0 (ix2 (j 0) e)) (fun e => X1 (ix2 0 e)) (fun k e => X2 (ix2 k e)) (fun l => X3 (ix2 (j 0) l)) (fun l => X4 (ix2 (j 0) l)) (fun l => X5 (ix2 (j 0) l)) (j 1)

theorem block_eq (t : Fin cfg0.N) (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x3072 .bf16) (harg7 : arg7.IsWhole)
    (X0 : S32768x1024.Idx → EReal) (X1 : S1x1024.Idx → EReal) (X2 : S1024x3072.Idx → EReal) (X3 X4 X5 : S32768x128.Idx → EReal) :
    (out0_A_6 (F := Ideal) c i arg1 harg1 arg2 harg2 arg3 harg3 arg4 harg4 arg5 harg5 arg6 harg6 arg7 harg7 (((cfg0.win 0).blk t).view.read (Elt Ideal) X0) (((cfg0.win 1).blk t).view.read (Elt Ideal) X1)
      (((cfg0.win 2).blk t).view.read (Elt Ideal) X2) (((cfg0.win 3).blk t).view.read (Elt Ideal) X3) (((cfg0.win 4).blk t).view.read (Elt Ideal) X4)
      (((cfg0.win 5).blk t).view.read (Elt Ideal) X5) : S512x3072.Idx → EReal)
      = ((cfg0.win 6).blk t).view.read (Elt Ideal) (OUT X0 X1 X2 X3 X4 X5) :=
  ext2 (a := 512) (n := 3072) fun r d => by
    refine (out_at c i arg1 harg1 arg2 harg2 arg3 harg3 arg4 harg4 arg5 harg5 arg6 harg6 arg7 harg7 _ _ _ _ _ _ (ix2 r d)).trans ((G_at _ _ _ _ _ _ r d).trans (Eq.trans ?_ (rd6 t (OUT X0 X1 X2 X3 X4 X5) r d).symm))
    have e0 := funext fun e => rd0 t X0 r e
    have e1 := funext fun e => rd1 t X1 0 e
    have e2 := funext fun k => funext fun e => rd2 t X2 k e
    have e3 := funext fun l => rd3 t X3 r l
    have e4 := funext fun l => rd4 t X4 r l
    have e5 := funext fun l => rd5 t X5 r l
    exact congrArg (fun f => f d) (congr (congr (congr (congr (congr (congrArg row e0) e1) e2) e3) e4) e5)

variable (m : (ℓ : Loc nD τ sig) → Buf (Elt Ideal) ℓ)

/-- The result of the call. -/
def result (c : Dev nD) : S32768x3072.Idx → EReal :=
  OUT (V m c main_v50) (V m c main_v51) (V m c main_v49) (V m c main_v33) (V m c main_v37) (V m c main_v41)

theorem result_at (c : Dev nD) (n : Fin 32768) (d : Fin 3072) : result m c (ix2 n d)
    = row (fun e => (V m c main_v50 : S32768x1024.Idx → EReal) (ix2 n e)) (fun e => (V m c main_v51 : S1x1024.Idx → EReal) (ix2 0 e))
      (fun k e => (V m c main_v49 : S1024x3072.Idx → EReal) (ix2 k e)) (fun l => (V m c main_v33 : S32768x128.Idx → EReal) (ix2 n l))
      (fun l => (V m c main_v37 : S32768x128.Idx → EReal) (ix2 n l)) (fun l => (V m c main_v41 : S32768x128.Idx → EReal) (ix2 n l)) d := rfl

/-- The array the call leaves. -/
theorem final (c : Dev nD) : (dats m 0 c).arrAt 6 cfg0.N = result m c := by
  refine (dats m 0 c).arrAt_eq_of_covers 6 _ (by decide +kernel) fun t hf y => ?_
  blk_simp
  rw [after0_6]
  exact congrFun (block_eq t c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (V m c main_v50) (V m c main_v51) (V m c main_v49) (V m c main_v33) (V m c main_v37) (V m c main_v41)) y

end Cert.Kernel4Ideal.Block
-- ==== Proof.EvenHost.lean ====
module

public import proofs.«01_k».proof.Proof.EvenBlock
@[expose] public section

set_option maxRecDepth 16384
set_option maxHeartbeats 1000000
noncomputable section

/-! What the host hands the input projection of the even layers. -/

namespace Cert.Kernel4Ideal.Block

open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ)

theorem V_x (c : Dev nD) (n : Fin 32768) (d : Fin 1024) : (show S32768x1024.Idx → EReal from V m c main_v50) (ix2 n d)
    = (show S4x8192x1024.Idx → EReal from m ((c : Thread nD τ).loc main_arg0)) (ix3 ⟨n.val / 8192, by omega⟩ ⟨n.val % 8192, by omega⟩ d) := by
  unfold V
  after_reads_at
theorem V_g (c : Dev nD) (d : Fin 1024) : (show S1x1024.Idx → EReal from V m c main_v51) (ix2 0 d)
    = (show S1024.Idx → EReal from m ((c : Thread nD τ).loc main_arg1)) (ix1 d) := by
  unfold V
  after_reads_at

theorem w_lo (c : Dev nD) (k : Fin 1024) (d : Fin 2048) :
    (StableHlo.upto hostOps0 (fun b => m (c, b)) 60 (Proc.tc.devRef main_v44) : S1024x2048.Idx → EReal) (ix2 k d)
      = (show S1024x3072.Idx → EReal from m ((c : Thread nD τ).loc main_arg2)) (ix2 k (EvenMath.sel ⟨d.val, by omega⟩)) := by
  have hd := d.isLt
  have e : EvenMath.sel ⟨d.val, by omega⟩ = if h : d.val < 1024 then ⟨d.val, by omega⟩ else ⟨1536 + (d.val - 1024), by omega⟩ := by
    unfold EvenMath.sel
    by_cases h1 : d.val < 1024
    · rw [if_pos h1, dif_pos h1]
    · rw [if_neg h1, dif_pos hd, dif_neg h1]
      exact Fin.ext (by simp only; omega)
  rw [e]
  after_reads_at
  split_ifs <;> rfl

theorem w_hi (c : Dev nD) (k : Fin 1024) (d : Fin 1024) :
    (StableHlo.upto hostOps0 (fun b => m (c, b)) 60 (Proc.tc.devRef main_v47) : S1024x1024.Idx → EReal) (ix2 k d)
      = (show S1024x3072.Idx → EReal from m ((c : Thread nD τ).loc main_arg2)) (ix2 k (EvenMath.sel ⟨2048 + d.val, by omega⟩)) := by
  have hd := d.isLt
  have e : EvenMath.sel ⟨2048 + d.val, by omega⟩ = if h : d.val < 512 then ⟨1024 + d.val, by omega⟩ else ⟨2560 + (d.val - 512), by omega⟩ := by
    unfold EvenMath.sel
    rw [if_neg (by simp only; omega), dif_neg (by simp only; omega)]
    by_cases h1 : d.val < 512
    · rw [dif_pos (by simp only; omega), dif_pos h1]
      exact Fin.ext (by simp only; omega)
    · rw [dif_neg (by simp only; omega), dif_neg h1]
      exact Fin.ext (by simp only; omega)
  rw [e]
  after_reads_at
  split_ifs <;> rfl

theorem V_w (c : Dev nD) (k : Fin 1024) (d : Fin 3072) : (show S1024x3072.Idx → EReal from V m c main_v49) (ix2 k d)
    = (show S1024x3072.Idx → EReal from m ((c : Thread nD τ).loc main_arg2)) (ix2 k (EvenMath.sel d)) := by
  have hd := d.isLt
  unfold V
  after_reads_at
  by_cases h : d.val < 2048
  · rw [dif_pos h]
    exact w_lo m c k ⟨d.val, h⟩
  · rw [dif_neg h]
    refine (w_hi m c k ⟨d.val - 2048, by omega⟩).trans ?_
    have e : (⟨2048 + (d.val - 2048), by omega⟩ : Fin 3072) = d := Fin.ext (by simp only; omega)
    exact congrArg (fun z => (show S1024x3072.Idx → EReal from m ((c : Thread nD τ).loc main_arg2)) (ix2 k (EvenMath.sel z))) e

/-- The rotation angles of the positions. -/
def ang (P : (⟨S4x8192, .i32⟩ : BufTy).Contents (Elt Ideal)) : FVec Ideal S4x8192x8 .f32 :=
  mulf (broadcastInDim S4x8192x8 ![0, 1, 2] bcast_S4x8192x1_S4x8192x8_0_1_2 (broadcastInDim S4x8192x1 ![0, 1] bcast_S4x8192_S4x8192x1_0_1 (sitofp .f32 P)))
    (broadcastInDim S4x8192x8 ![0, 1, 2] bcast_S1x1x8_S4x8192x8_0_1_2 (broadcastInDim S1x1x8 ![2] bcast_S8_S1x1x8_2
      (Host.divf (broadcastInDim S8 ![] bcast_S_S8 (constant S_ .f32 0x3F800000#32))
        (Host.powf (broadcastInDim S8 ![] bcast_S_S8 (constant S_ .f32 0x48F42400#32))
          (Host.divf (addf (broadcastInDim S8 ![] bcast_S_S8 (constant S_ .f32 0x00000000#32))
            (mulf (broadcastInDim S8 ![] bcast_S_S8 (constant S_ .f32 0x40000000#32)) (sitofp .f32 (iotaInDim S8 32 0))))
            (broadcastInDim S8 ![] bcast_S_S8 (constant S_ .f32 0x41800000#32)))))))

/-- Their cosines and sines. -/
def cosT (P : (⟨S4x8192, .i32⟩ : BufTy).Contents (Elt Ideal)) : S4x8192x8.Idx → EReal := Host.cos (ang P)
def sinT (P : (⟨S4x8192, .i32⟩ : BufTy).Contents (Elt Ideal)) : S4x8192x8.Idx → EReal := Host.sin (ang P)

theorem cos_at (c : Dev nD) (b : Fin 4) (s : Fin 8192) (l : Fin 8) :
    (show S4x8192x8.Idx → EReal from StableHlo.upto hostOps0 (fun b => m (c, b)) 30 (Proc.tc.devRef main_v17)) (ix3 b s l) = cosT (m ((c : Thread nD τ).loc main_arg3)) (ix3 b s l) := by
  refine congrFun (?_ : (show S4x8192x8.Idx → EReal from _) = _) (ix3 b s l)
  after_reads_simp
  rfl

theorem one_at (c : Dev nD) (b : Fin 4) (s : Fin 8192) (l : Fin 48) :
    (show S4x8192x48.Idx → EReal from StableHlo.upto hostOps0 (fun b => m (c, b)) 30 (Proc.tc.devRef main_v21)) (ix3 b s l) = 1 := by
  after_reads_at

theorem neg_at (c : Dev nD) (b : Fin 4) (s : Fin 8192) (l : Fin 8) :
    (show S4x8192x8.Idx → EReal from StableHlo.upto hostOps0 (fun b => m (c, b)) 36 (Proc.tc.devRef main_v24)) (ix3 b s l) = -sinT (m ((c : Thread nD τ).loc main_arg3)) (ix3 b s l) := by
  refine congrFun (?_ : (show S4x8192x8.Idx → EReal from _) = fun i => -sinT (m ((c : Thread nD τ).loc main_arg3)) i) (ix3 b s l)
  after_reads_simp
  rfl

theorem zero1_at (c : Dev nD) (b : Fin 4) (s : Fin 8192) (l : Fin 8) :
    (show S4x8192x8.Idx → EReal from StableHlo.upto hostOps0 (fun b => m (c, b)) 36 (Proc.tc.devRef main_v19)) (ix3 b s l) = 0 := by
  after_reads_at

theorem zero2_at (c : Dev nD) (b : Fin 4) (s : Fin 8192) (l : Fin 48) :
    (show S4x8192x48.Idx → EReal from StableHlo.upto hostOps0 (fun b => m (c, b)) 36 (Proc.tc.devRef main_v25)) (ix3 b s l) = 0 := by
  after_reads_at

theorem sin_at (c : Dev nD) (b : Fin 4) (s : Fin 8192) (l : Fin 8) :
    (show S4x8192x8.Idx → EReal from StableHlo.upto hostOps0 (fun b => m (c, b)) 41 (Proc.tc.devRef main_v18)) (ix3 b s l) = sinT (m ((c : Thread nD τ).loc main_arg3)) (ix3 b s l) := by
  refine congrFun (?_ : (show S4x8192x8.Idx → EReal from _) = _) (ix3 b s l)
  after_reads_simp
  rfl

theorem zero3_at (c : Dev nD) (b : Fin 4) (s : Fin 8192) (l : Fin 8) :
    (show S4x8192x8.Idx → EReal from StableHlo.upto hostOps0 (fun b => m (c, b)) 41 (Proc.tc.devRef main_v19)) (ix3 b s l) = 0 := by
  after_reads_at

theorem zero4_at (c : Dev nD) (b : Fin 4) (s : Fin 8192) (l : Fin 48) :
    (show S4x8192x48.Idx → EReal from StableHlo.upto hostOps0 (fun b => m (c, b)) 41 (Proc.tc.devRef main_v28)) (ix3 b s l) = 0 := by
  after_reads_at

theorem pick {k : ℕ} (f0 : k < 0 → EReal) (f1 : ¬ k < 0 → k < 8 → EReal) (f2 : ¬ k < 0 → ¬ k < 8 → k - 8 < 8 → EReal) (f3 : ¬ k < 0 → ¬ k < 8 → ¬ k - 8 < 8 → EReal) (r : EReal)
    (e1 : ∀ h h', f1 h h' = r) (e2 : ∀ h h' h'', f2 h h' h'' = r) (e3 : ∀ h h' h'', f3 h h' h'' = r) :
    (if h : k < 0 then f0 h else if h' : k < 8 then f1 h h' else if h'' : k - 8 < 8 then f2 h h' h'' else f3 h h' h'') = r := by
  rw [dif_neg (Nat.not_lt_zero k)]
  split_ifs with h h'
  · exact e1 _ h
  · exact e2 _ h h'
  · exact e3 _ h h'

theorem V_c (c : Dev nD) (n : Fin 32768) (l : Fin 128) : (show S32768x128.Idx → EReal from V m c main_v33) (ix2 n l)
    = EvenMath.tabC (fun j => cosT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (cos_at m c _ _ _).trans (Eq.symm ?_)
    unfold EvenMath.tabC
    split_ifs <;> first | rfl | omega
  · refine (cos_at m c _ _ _).trans (Eq.symm ?_)
    unfold EvenMath.tabC
    split_ifs <;> first | rfl | omega
  · refine (one_at m c _ _ _).trans (Eq.symm ?_)
    unfold EvenMath.tabC
    split_ifs <;> first | rfl | omega

theorem V_s1 (c : Dev nD) (n : Fin 32768) (l : Fin 128) : (show S32768x128.Idx → EReal from V m c main_v37) (ix2 n l)
    = EvenMath.tabS1 (fun j => sinT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (neg_at m c _ _ _).trans (Eq.symm ?_)
    unfold EvenMath.tabS1
    split_ifs <;> first | rfl | omega
  · refine (zero1_at m c _ _ _).trans (Eq.symm ?_)
    unfold EvenMath.tabS1
    split_ifs <;> first | rfl | omega
  · refine (zero2_at m c _ _ _).trans (Eq.symm ?_)
    unfold EvenMath.tabS1
    split_ifs <;> first | rfl | omega

theorem V_s2 (c : Dev nD) (n : Fin 32768) (l : Fin 128) : (show S32768x128.Idx → EReal from V m c main_v41) (ix2 n l)
    = EvenMath.tabS2 (fun j => sinT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (zero3_at m c _ _ _).trans (Eq.symm ?_)
    unfold EvenMath.tabS2
    split_ifs <;> first | rfl | omega
  · refine (sin_at m c _ _ _).trans (Eq.symm ?_)
    unfold EvenMath.tabS2
    split_ifs <;> first | rfl | omega
  · refine (zero4_at m c _ _ _).trans (Eq.symm ?_)
    unfold EvenMath.tabS2
    split_ifs <;> first | rfl | omega

end Cert.Kernel4Ideal.Block
-- ==== Proof.EvenClaims.lean ====
module

public import proofs.«01_k».proof.Defs
public import proofs.«01_k».proof.Proof.Gen.Kernel4.Frame
public import proofs.«01_k».proof.Proof.EvenRef
public import proofs.«01_k».proof.Proof.EvenHost
@[expose] public section

set_option maxRecDepth 16384
noncomputable section

/-! The claims about the input projection of the even layers. -/

namespace Cert.Proof.Even

open Cert.Kernel4Ideal.Block Cert.Kernel4Ideal.Gen
open Idealize.ShloMosaic Idealize.ShloMosaic.TcCoe Idealize.SL.Sem

theorem frame_p : Cert.quiescent_Kernel4 (hKernel4 := Cert.Kernel4.Gen.facts) := fun m ρ _ =>
  Cert.Kernel4.Gen.frame (F := Bits) m ρ

theorem frame_pi : Cert.quiescent_Kernel4Ideal (hKernel4Ideal := Cert.Kernel4Ideal.Gen.facts) := fun m ρ _ =>
  Cert.Kernel4Ideal.Gen.frame (F := Ideal) m ρ

theorem frame_ri : Cert.quiescent_Reference4Ideal (hReference4Ideal := Cert.Reference4Ideal.Gen.facts) := fun m ρ _ =>
  θ_run_mono (Cert.Reference4Ideal.Value.run (F := Ideal) m ρ) fun r h => ⟨fun c => (h c).2, sem_eq_zero_of_no_sems (by decide) r.2⟩

theorem result_eq (m : (ℓ : Loc Cert.Kernel4Ideal.nD Cert.Kernel4Ideal.τ Cert.Kernel4Ideal.sig) → Buf (Elt Ideal) ℓ)
    (c : Dev Cert.Kernel4Ideal.nD) :
    Cert.Reference4Ideal.At.whole (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) = result m c :=
  ext2 (a := 32768) (n := 3072) fun n d => by
    refine (Cert.Reference4Ideal.At.whole_at _ _ _ _ n d).trans ?_
    have e0 := funext fun e => V_x m c n e
    have e1 := funext fun e => V_g m c e
    have e2 := funext fun k => funext fun e => V_w m c k e
    have e3 := funext fun l => V_c m c n l
    have e4 := funext fun l => V_s1 m c n l
    have e5 := funext fun l => V_s2 m c n l
    refine Eq.trans (Eq.symm ?_) (result_at m c n d).symm
    refine (congrArg (fun f => f d) (congr (congr (congr (congr (congr (congrArg row e0) e1) e2) e3) e4) e5)).trans ?_
    exact Cert.EvenMath.tables _ _ _ d

theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => result m c, ?_, ?_⟩
  · exact θ_run_mono (Cert.Kernel4Ideal.Value.run_blocks (F := Ideal) m ρ) fun r h c => ⟨(h c).1.trans (final m c), (h c).2⟩
  · refine θ_run_mono (Cert.Reference4Ideal.Value.run (F := Ideal) m' ρ') fun r h c => ⟨(h c).1.trans ?_, (h c).2⟩
    obtain ⟨h0, h1, h2, h3⟩ := hagree c
    rw [Cert.Reference4Ideal.At.result_eq, h0, h1, h2, h3]
    exact result_eq m c

end Cert.Proof.Even
-- ==== Proof.OddMath.lean ====
module

public import proofs.«01_k».proof.Proof.EvenMath
@[expose] public section

set_option maxRecDepth 16384
noncomputable section

/-! One row of the odd layers' input projection: the columns in the order of the call, and the rotary embedding of its first
768 of them, by tables of 128 lanes and head by head. -/

namespace Cert.OddMath

open Idealize.ShloMosaic

/-- Every entry rotated by tables: lanes 8 to the right and 8 to the left inside each 128. -/
def byTables (y : Fin 768 → EReal) (C S1 S2 : Fin 128 → EReal) (e : Fin 768) : EReal :=
  y e * C ⟨e.val % 128, by omega⟩ + y ⟨128 * (e.val / 128) + (e.val % 128 + 8) % 128, by omega⟩ * S1 ⟨e.val % 128, by omega⟩
    + y ⟨128 * (e.val / 128) + (e.val % 128 + 120) % 128, by omega⟩ * S2 ⟨e.val % 128, by omega⟩

/-- A section of whole heads, the first sixteen entries of every 64 rotated. -/
def rope {w : ℕ} (hw : w % 64 = 0) (y : Fin w → EReal) (c s : Fin 8 → EReal) (d : Fin w) : EReal :=
  if h : d.val % 64 < 8 then y d * c ⟨d.val % 64, h⟩ - y ⟨d.val / 64 * 64 + (8 + d.val % 64), by omega⟩ * s ⟨d.val % 64, h⟩
  else if h' : d.val % 64 - 8 < 8 then y d * c ⟨d.val % 64 - 8, h'⟩ + y ⟨d.val / 64 * 64 + (d.val % 64 - 8), by omega⟩ * s ⟨d.val % 64 - 8, h'⟩
  else y d

theorem tables (y : Fin 768 → EReal) (c s : Fin 8 → EReal) (e : Fin 768) :
    byTables y (EvenMath.tabC c) (EvenMath.tabS1 s) (EvenMath.tabS2 s) e = rope (by norm_num) y c s e := by
  unfold byTables rope EvenMath.tabC EvenMath.tabS1 EvenMath.tabS2
  have hm : e.val % 128 % 64 = e.val % 64 := by omega
  simp only [hm]
  by_cases h8 : e.val % 64 < 8
  · rw [dif_pos h8, dif_pos h8, dif_pos h8, dif_neg (by omega), mul_zero, add_zero, mul_neg, sub_eq_add_neg]
    have hi : (⟨128 * (e.val / 128) + (e.val % 128 + 8) % 128, by omega⟩ : Fin 768) = ⟨e.val / 64 * 64 + (8 + e.val % 64), by omega⟩ :=
      Fin.ext (by simp only; omega)
    rw [hi]
  · by_cases h16 : e.val % 64 < 16
    · rw [dif_neg h8, dif_pos h16, dif_neg h8, dif_pos ⟨by omega, h16⟩, dif_neg h8, dif_pos (by omega), mul_zero, add_zero]
      have hi : (⟨128 * (e.val / 128) + (e.val % 128 + 120) % 128, by omega⟩ : Fin 768) = ⟨e.val / 64 * 64 + (e.val % 64 - 8), by omega⟩ :=
        Fin.ext (by simp only; omega)
      rw [hi]
    · rw [dif_neg h8, dif_neg h16, dif_neg h8, dif_neg (by omega), dif_neg h8, dif_neg (by omega), mul_one, mul_zero, mul_zero, add_zero, add_zero]

/-- Rotating a section is rotating the row that the section is part of. -/
theorem rope_part {w v : ℕ} (hw : w % 64 = 0) (hv : v % 64 = 0) (y : Fin w → EReal) (c s : Fin 8 → EReal) (p : ℕ) (h64 : p % 64 = 0) (hp : p + v ≤ w) (d : Fin v) :
    rope hw y c s ⟨p + d.val, by omega⟩ = rope hv (fun d => y ⟨p + d.val, by omega⟩) c s d := by
  have hd := d.isLt
  have hm : (p + d.val) % 64 = d.val % 64 := by omega
  unfold rope
  simp only [hm]
  by_cases h8 : d.val % 64 < 8
  · rw [dif_pos h8, dif_pos h8]
    have hi : (⟨(p + d.val) / 64 * 64 + (8 + d.val % 64), by omega⟩ : Fin w) = ⟨p + (d.val / 64 * 64 + (8 + d.val % 64)), by omega⟩ := Fin.ext (by simp only; omega)
    rw [hi]
  · by_cases h16 : d.val % 64 - 8 < 8
    · rw [dif_neg h8, dif_neg h8, dif_pos h16, dif_pos h16]
      have hi : (⟨(p + d.val) / 64 * 64 + (d.val % 64 - 8), by omega⟩ : Fin w) = ⟨p + (d.val / 64 * 64 + (d.val % 64 - 8)), by omega⟩ := Fin.ext (by simp only; omega)
      rw [hi]
    · rw [dif_neg h8, dif_neg h8, dif_neg h16, dif_neg h16]

/-- Where a column of the call stands in the layer's 1720; 1720 for a column of zeros. -/
def pos (e : ℕ) : ℕ :=
  if e < 512 then e else if e < 640 then e + 256 else if e < 768 then e + 384 else if e < 1024 then e - 256
  else if e < 1152 then e - 128 else if e < 1280 then e else if e < 1664 then e + 24 else if e < 1688 then e - 384
  else if e < 1856 then 1720 else if e < 1888 then e - 168 else 1720

theorem pos_cmp {e : ℕ} (h : 768 ≤ e) (h' : e < 1024) : pos e = e - 256 := by
  unfold pos
  rw [if_neg (by omega), if_neg (by omega), if_neg (by omega), if_pos h']
theorem pos_vslc {e : ℕ} (h : 1024 ≤ e) (h' : e < 1152) : pos e = e - 128 := by
  unfold pos
  rw [if_neg (by omega), if_neg (by omega), if_neg (by omega), if_neg (by omega), if_pos h']
theorem pos_vwin {e : ℕ} (h : 1152 ≤ e) (h' : e < 1280) : pos e = e := by
  unfold pos
  rw [if_neg (by omega), if_neg (by omega), if_neg (by omega), if_neg (by omega), if_neg (by omega), if_pos h']
theorem pos_lat {e : ℕ} (h : 1280 ≤ e) (h' : e < 1664) : pos e = e + 24 := by
  unfold pos
  rw [if_neg (by omega), if_neg (by omega), if_neg (by omega), if_neg (by omega), if_neg (by omega), if_neg (by omega), if_pos h']
theorem pos_gate {e : ℕ} (h : 1664 ≤ e) (h' : e < 1688) : pos e = e - 384 := by
  unfold pos
  rw [if_neg (by omega), if_neg (by omega), if_neg (by omega), if_neg (by omega), if_neg (by omega), if_neg (by omega), if_neg (by omega), if_pos h']
theorem pos_gap {e : ℕ} (h : 1688 ≤ e) (h' : e < 1856) : pos e = 1720 := by
  unfold pos
  rw [if_neg (by omega), if_neg (by omega), if_neg (by omega), if_neg (by omega), if_neg (by omega), if_neg (by omega), if_neg (by omega), if_neg (by omega), if_pos h']
theorem pos_pe {e : ℕ} (h : 1856 ≤ e) (h' : e < 1888) : pos e = e - 168 := by
  unfold pos
  rw [if_neg (by omega), if_neg (by omega), if_neg (by omega), if_neg (by omega), if_neg (by omega), if_neg (by omega), if_neg (by omega), if_neg (by omega), if_neg (by omega), if_pos h']
theorem pos_end {e : ℕ} (h : 1888 ≤ e) : pos e = 1720 := by
  unfold pos
  rw [if_neg (by omega), if_neg (by omega), if_neg (by omega), if_neg (by omega), if_neg (by omega), if_neg (by omega), if_neg (by omega), if_neg (by omega), if_neg (by omega), if_neg (by omega)]

/-- The layer's columns in the order of the call, with zeros between them. -/
def col (w : Fin 1720 → EReal) (e : ℕ) : EReal := if h : pos e < 1720 then w ⟨pos e, h⟩ else 0

theorem col_eq (w : Fin 1720 → EReal) (e n : ℕ) (hn : n < 1720) (h : pos e = n) : col w e = w ⟨n, hn⟩ := by
  unfold col
  rw [dif_pos (by omega)]
  exact congrArg w (Fin.ext h)

theorem col_zero (w : Fin 1720 → EReal) (e : ℕ) (h : pos e = 1720) : col w e = 0 := by
  unfold col
  rw [dif_neg (by omega)]

/-- The product with a column of the call's weight is the column of the product. -/
theorem sum_col (z : Fin 1024 → EReal) (W : Fin 1024 → Fin 1720 → EReal) (e : ℕ) :
    ∑ k, z k * col (W k) e = col (fun e => ∑ k, z k * W k e) e := by
  by_cases h : pos e < 1720
  · simp only [col, dif_pos h]
  · simp only [col, dif_neg h, mul_zero, Finset.sum_const_zero]

end Cert.OddMath
-- ==== Proof.OddRef.lean ====
module

public import proofs.«01_k».proof.Proof.Gen.Reference5Ideal.Run
public import proofs.«01_k».proof.Proof.OddMath
public import Idealize.ShloMosaic.Lib.Claim
public import Idealize.ShloMosaic.Lib.WordCmp
public import Idealize.ShloMosaic.Lib.Pointwise
@[expose] public section

set_option maxRecDepth 16384
set_option maxHeartbeats 1000000
noncomputable section

/-! The results of the reference of the odd layers' input projection, row by row. -/

namespace Cert.Reference5Ideal.At

open Cert.Reference5Ideal Cert.Reference5Ideal.Gen
open Idealize.ShloMosaic Idealize.ShloMosaic.TcCoe Idealize.ShloMosaic.Tactic
open Idealize.SL.Sem

/-- The root-mean-square norm. -/
def norm (H : FVec Ideal S4x8192x1024 .f32) (g : FVec Ideal S1024 .f32) : FVec Ideal S4x8192x1024 .f32 :=
  mulf (mulf H (broadcastInDim S4x8192x1024 ![0, 1, 2] bcast_S4x8192x1_S4x8192x1024_0_1_2 (Host.rsqrt (addf
    (Host.divf (broadcastInDim S4x8192x1 ![0, 1] bcast_S4x8192_S4x8192x1_0_1
      (Host.reduceAdd (mulf H H) (constant S_ .f32 0x00000000#32) reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g))
/-- The product with the weight. -/
def prod (Z : FVec Ideal S4x8192x1024 .f32) (W : FVec Ideal S1024x1720 .f32) : FVec Ideal S4x8192x1720 .f32 :=
  Host.dotGeneral dot_S4x8192x1024_S1024x1720_S4x8192x1720_2_0_01_1_n_n none Z W
/-- The rotation angles of the positions. -/
def ang (P : (⟨S4x8192, .i32⟩ : BufTy).Contents (Elt Ideal)) : FVec Ideal S4x8192x8 .f32 :=
  mulf (broadcastInDim S4x8192x8 ![0, 1, 2] bcast_S4x8192x1_S4x8192x8_0_1_2 (broadcastInDim S4x8192x1 ![0, 1] bcast_S4x8192_S4x8192x1_0_1 (sitofp .f32 P)))
    (broadcastInDim S4x8192x8 ![0, 1, 2] bcast_S1x1x8_S4x8192x8_0_1_2 (broadcastInDim S1x1x8 ![2] bcast_S8_S1x1x8_2
      (Host.divf (broadcastInDim S8 ![] bcast_S_S8 (constant S_ .f32 0x3F800000#32))
        (Host.powf (broadcastInDim S8 ![] bcast_S_S8 (constant S_ .f32 0x48F42400#32))
          (Host.divf (addf (broadcastInDim S8 ![] bcast_S_S8 (constant S_ .f32 0x00000000#32))
            (mulf (broadcastInDim S8 ![] bcast_S_S8 (constant S_ .f32 0x40000000#32)) (sitofp .f32 (iotaInDim S8 32 0))))
            (broadcastInDim S8 ![] bcast_S_S8 (constant S_ .f32 0x41800000#32)))))))
/-- The rotary embedding of a section of eight heads. -/
def rope512 (Y : FVec Ideal S4x8192x512 .f32) (C S : FVec Ideal S4x8192x8 .f32) : FVec Ideal S4x8192x512 .f32 :=
  shapeCast S4x8192x512 (concatenate S4x8192x8x64 3
    [⟨S4x8192x8x8, subf (mulf (extractStridedSlice S4x8192x8x8 ![0, 0, 0, 0] (shapeCast S4x8192x8x64 Y shapeCasts_S4x8192x512_S4x8192x8x64) slices_S4x8192x8x64_S4x8192x8x8_0_0_0_0)
        (broadcastInDim S4x8192x8x8 ![0, 1, 2, 3] bcast_S4x8192x1x8_S4x8192x8x8_0_1_2_3 (broadcastInDim S4x8192x1x8 ![0, 1, 3] bcast_S4x8192x8_S4x8192x1x8_0_1_3 C)))
      (mulf (extractStridedSlice S4x8192x8x8 ![0, 0, 0, 8] (shapeCast S4x8192x8x64 Y shapeCasts_S4x8192x512_S4x8192x8x64) slices_S4x8192x8x64_S4x8192x8x8_0_0_0_8)
        (broadcastInDim S4x8192x8x8 ![0, 1, 2, 3] bcast_S4x8192x1x8_S4x8192x8x8_0_1_2_3 (broadcastInDim S4x8192x1x8 ![0, 1, 3] bcast_S4x8192x8_S4x8192x1x8_0_1_3 S)))⟩,
     ⟨S4x8192x8x8, addf (mulf (extractStridedSlice S4x8192x8x8 ![0, 0, 0, 8] (shapeCast S4x8192x8x64 Y shapeCasts_S4x8192x512_S4x8192x8x64) slices_S4x8192x8x64_S4x8192x8x8_0_0_0_8)
        (broadcastInDim S4x8192x8x8 ![0, 1, 2, 3] bcast_S4x8192x1x8_S4x8192x8x8_0_1_2_3 (broadcastInDim S4x8192x1x8 ![0, 1, 3] bcast_S4x8192x8_S4x8192x1x8_0_1_3 C)))
      (mulf (extractStridedSlice S4x8192x8x8 ![0, 0, 0, 0] (shapeCast S4x8192x8x64 Y shapeCasts_S4x8192x512_S4x8192x8x64) slices_S4x8192x8x64_S4x8192x8x8_0_0_0_0)
        (broadcastInDim S4x8192x8x8 ![0, 1, 2, 3] bcast_S4x8192x1x8_S4x8192x8x8_0_1_2_3 (broadcastInDim S4x8192x1x8 ![0, 1, 3] bcast_S4x8192x8_S4x8192x1x8_0_1_3 S)))⟩,
     ⟨S4x8192x8x48, extractStridedSlice S4x8192x8x48 ![0, 0, 0, 16] (shapeCast S4x8192x8x64 Y shapeCasts_S4x8192x512_S4x8192x8x64) slices_S4x8192x8x64_S4x8192x8x48_0_0_0_16⟩]
    concatenates_S4x8192x8x8_S4x8192x8x8_S4x8192x8x48_S4x8192x8x64_d3) shapeCasts_S4x8192x8x64_S4x8192x512
/-- The rotary embedding of a section of two heads. -/
def rope128 (Y : FVec Ideal S4x8192x128 .f32) (C S : FVec Ideal S4x8192x8 .f32) : FVec Ideal S4x8192x128 .f32 :=
  shapeCast S4x8192x128 (concatenate S4x8192x2x64 3
    [⟨S4x8192x2x8, subf (mulf (extractStridedSlice S4x8192x2x8 ![0, 0, 0, 0] (shapeCast S4x8192x2x64 Y shapeCasts_S4x8192x128_S4x8192x2x64) slices_S4x8192x2x64_S4x8192x2x8_0_0_0_0)
        (broadcastInDim S4x8192x2x8 ![0, 1, 2, 3] bcast_S4x8192x1x8_S4x8192x2x8_0_1_2_3 (broadcastInDim S4x8192x1x8 ![0, 1, 3] bcast_S4x8192x8_S4x8192x1x8_0_1_3 C)))
      (mulf (extractStridedSlice S4x8192x2x8 ![0, 0, 0, 8] (shapeCast S4x8192x2x64 Y shapeCasts_S4x8192x128_S4x8192x2x64) slices_S4x8192x2x64_S4x8192x2x8_0_0_0_8)
        (broadcastInDim S4x8192x2x8 ![0, 1, 2, 3] bcast_S4x8192x1x8_S4x8192x2x8_0_1_2_3 (broadcastInDim S4x8192x1x8 ![0, 1, 3] bcast_S4x8192x8_S4x8192x1x8_0_1_3 S)))⟩,
     ⟨S4x8192x2x8, addf (mulf (extractStridedSlice S4x8192x2x8 ![0, 0, 0, 8] (shapeCast S4x8192x2x64 Y shapeCasts_S4x8192x128_S4x8192x2x64) slices_S4x8192x2x64_S4x8192x2x8_0_0_0_8)
        (broadcastInDim S4x8192x2x8 ![0, 1, 2, 3] bcast_S4x8192x1x8_S4x8192x2x8_0_1_2_3 (broadcastInDim S4x8192x1x8 ![0, 1, 3] bcast_S4x8192x8_S4x8192x1x8_0_1_3 C)))
      (mulf (extractStridedSlice S4x8192x2x8 ![0, 0, 0, 0] (shapeCast S4x8192x2x64 Y shapeCasts_S4x8192x128_S4x8192x2x64) slices_S4x8192x2x64_S4x8192x2x8_0_0_0_0)
        (broadcastInDim S4x8192x2x8 ![0, 1, 2, 3] bcast_S4x8192x1x8_S4x8192x2x8_0_1_2_3 (broadcastInDim S4x8192x1x8 ![0, 1, 3] bcast_S4x8192x8_S4x8192x1x8_0_1_3 S)))⟩,
     ⟨S4x8192x2x48, extractStridedSlice S4x8192x2x48 ![0, 0, 0, 16] (shapeCast S4x8192x2x64 Y shapeCasts_S4x8192x128_S4x8192x2x64) slices_S4x8192x2x64_S4x8192x2x48_0_0_0_16⟩]
    concatenates_S4x8192x2x8_S4x8192x2x8_S4x8192x2x48_S4x8192x2x64_d3) shapeCasts_S4x8192x2x64_S4x8192x128
/-- The rotated sections put together. -/
def joinedR (Y : FVec Ideal S4x8192x1720 .f32) (C S : FVec Ideal S4x8192x8 .f32) : FVec Ideal S4x8192x768 .f32 :=
  concatenate S4x8192x768 2
    [⟨S4x8192x512, rope512 (extractStridedSlice S4x8192x512 ![0, 0, 0] Y slices_S4x8192x1720_S4x8192x512_0_0_0) C S⟩,
     ⟨S4x8192x128, rope128 (extractStridedSlice S4x8192x128 ![0, 0, 768] Y slices_S4x8192x1720_S4x8192x128_0_0_768) C S⟩,
     ⟨S4x8192x128, rope128 (extractStridedSlice S4x8192x128 ![0, 0, 1024] Y slices_S4x8192x1720_S4x8192x128_0_0_1024) C S⟩]
    concatenates_S4x8192x512_S4x8192x128_S4x8192x128_S4x8192x768_d2
/-- The other sections put together. -/
def joinedP (Y : FVec Ideal S4x8192x1720 .f32) : FVec Ideal S4x8192x1152 .f32 :=
  concatenate S4x8192x1152 2
    [⟨S4x8192x128, extractStridedSlice S4x8192x128 ![0, 0, 512] Y slices_S4x8192x1720_S4x8192x128_0_0_512⟩,
     ⟨S4x8192x128, extractStridedSlice S4x8192x128 ![0, 0, 640] Y slices_S4x8192x1720_S4x8192x128_0_0_640⟩,
     ⟨S4x8192x128, extractStridedSlice S4x8192x128 ![0, 0, 896] Y slices_S4x8192x1720_S4x8192x128_0_0_896⟩,
     ⟨S4x8192x128, extractStridedSlice S4x8192x128 ![0, 0, 1152] Y slices_S4x8192x1720_S4x8192x128_0_0_1152⟩,
     ⟨S4x8192x256, extractStridedSlice S4x8192x256 ![0, 0, 1304] Y slices_S4x8192x1720_S4x8192x256_0_0_1304⟩,
     ⟨S4x8192x128, extractStridedSlice S4x8192x128 ![0, 0, 1560] Y slices_S4x8192x1720_S4x8192x128_0_0_1560⟩,
     ⟨S4x8192x24, extractStridedSlice S4x8192x24 ![0, 0, 1280] Y slices_S4x8192x1720_S4x8192x24_0_0_1280⟩,
     ⟨S4x8192x104, broadcastInDim S4x8192x104 ![] bcast_S_S4x8192x104 (constant S_ .f32 0x00000000#32)⟩,
     ⟨S4x8192x64, broadcastInDim S4x8192x64 ![] bcast_S_S4x8192x64 (constant S_ .f32 0x00000000#32)⟩,
     ⟨S4x8192x32, extractStridedSlice S4x8192x32 ![0, 0, 1688] Y slices_S4x8192x1720_S4x8192x32_0_0_1688⟩,
     ⟨S4x8192x32, broadcastInDim S4x8192x32 ![] bcast_S_S4x8192x32 (constant S_ .f32 0x00000000#32)⟩]
    concatenates_S4x8192x128_S4x8192x128_S4x8192x128_S4x8192x128_S4x8192x256_S4x8192x128_S4x8192x24_S4x8192x104_S4x8192x64_S4x8192x32_S4x8192x32_S4x8192x1152_d2
/-- The reference's results, each as one expression of the arguments. -/
def whole (H : FVec Ideal S4x8192x1024 .f32) (g : FVec Ideal S1024 .f32) (W : FVec Ideal S1024x1720 .f32) (P : (⟨S4x8192, .i32⟩ : BufTy).Contents (Elt Ideal)) : FVec Ideal S32768x768 .bf16 :=
  truncf .bf16 (shapeCast S32768x768 (joinedR (prod (norm H g) W) (Host.cos (ang P)) (Host.sin (ang P))) shapeCasts_S4x8192x768_S32768x768) bitsLt_bf16_f32
def whole' (H : FVec Ideal S4x8192x1024 .f32) (g : FVec Ideal S1024 .f32) (W : FVec Ideal S1024x1720 .f32) : FVec Ideal S32768x1152 .f32 :=
  shapeCast S32768x1152 (joinedP (prod (norm H g) W)) shapeCasts_S4x8192x1152_S32768x1152

theorem norm_at (H : FVec Ideal S4x8192x1024 .f32) (g : FVec Ideal S1024 .f32) (b : Fin 4) (s : Fin 8192) (d : Fin 1024) :
    (norm H g : S4x8192x1024.Idx → EReal) (ix3 b s d) = FfnMath.norm (fun e => H (ix3 b s e)) (fun e => g (ix1 e)) d := by
  pointwise [norm]
  rfl
theorem prod_at (Z : FVec Ideal S4x8192x1024 .f32) (W : FVec Ideal S1024x1720 .f32) (b : Fin 4) (s : Fin 8192) (e : Fin 1720) :
    (prod Z W : S4x8192x1720.Idx → EReal) (ix3 b s e) = ∑ k : Fin 1024, (Z : S4x8192x1024.Idx → EReal) (ix3 b s k) * (W : S1024x1720.Idx → EReal) (ix2 k e) := by
  pointwise [prod]
theorem rope512_at (Y : FVec Ideal S4x8192x512 .f32) (C S : FVec Ideal S4x8192x8 .f32) (b : Fin 4) (s : Fin 8192) (d : Fin 512) :
    (rope512 Y C S : S4x8192x512.Idx → EReal) (ix3 b s d)
      = OddMath.rope (by norm_num) (fun d => Y (ix3 b s d)) (fun j => C (ix3 b s j)) (fun j => S (ix3 b s j)) d := by
  have hd := d.isLt
  pointwise [rope512]
  unfold OddMath.rope
  refine dite_congr rfl (fun h1 => rfl) fun h1 => dite_congr rfl (fun h2 => ?_) fun h2 => ?_
  · have h1' : ¬ d.val % 64 < 8 := h1
    have hi : (⟨d.val / 64 * 64 + (8 + (d.val % 64 - 8)), by omega⟩ : Fin 512) = d := Fin.ext (by simp only; omega)
    exact congrArg (fun z => Y (ix3 b s z) * C (ix3 b s ⟨d.val % 64 - 8, h2⟩) + Y (ix3 b s ⟨d.val / 64 * 64 + (d.val % 64 - 8), by omega⟩) * S (ix3 b s ⟨d.val % 64 - 8, h2⟩)) hi
  · have h1' : ¬ d.val % 64 < 8 := h1
    have h2' : ¬ d.val % 64 - 8 < 8 := h2
    have hi : (⟨d.val / 64 * 64 + (16 + (d.val % 64 - 8 - 8)), by omega⟩ : Fin 512) = d := Fin.ext (by simp only; omega)
    exact congrArg (fun z => Y (ix3 b s z)) hi

theorem sec512_at (Y : FVec Ideal S4x8192x1720 .f32) (C S : FVec Ideal S4x8192x8 .f32) (o p : ℕ) (h : S4x8192x1720.Slices ![0, 0, o] S4x8192x512)
    (ho : o + 512 ≤ 1720) (hp : p + 512 ≤ 768) (h64 : p % 64 = 0) (hs : ∀ d : ℕ, d < 512 → OddMath.pos (p + d) = o + d)
    (b : Fin 4) (s : Fin 8192) (d : Fin 512) (e : Fin 768) (he : e.val = p + d.val) :
    (rope512 (extractStridedSlice S4x8192x512 ![0, 0, o] Y h) C S : S4x8192x512.Idx → EReal) (ix3 b s d)
      = OddMath.rope (by norm_num) (fun e => OddMath.col (fun e => Y (ix3 b s e)) e.val) (fun j => C (ix3 b s j)) (fun j => S (ix3 b s j)) e := by
  have ee : e = ⟨p + d.val, by omega⟩ := Fin.ext he
  have es : (fun d : Fin 512 => (extractStridedSlice S4x8192x512 ![0, 0, o] Y h : S4x8192x512.Idx → EReal) (ix3 b s d))
      = fun d => OddMath.col (fun e => Y (ix3 b s e)) (p + d.val) := by
    funext d
    rw [OddMath.col_eq _ _ (o + d.val) (by omega) (hs d.val d.isLt)]
    pointwise
  rw [rope512_at, ee, OddMath.rope_part (by norm_num) (by norm_num) _ _ _ p h64 hp, es]

theorem rope128_at (Y : FVec Ideal S4x8192x128 .f32) (C S : FVec Ideal S4x8192x8 .f32) (b : Fin 4) (s : Fin 8192) (d : Fin 128) :
    (rope128 Y C S : S4x8192x128.Idx → EReal) (ix3 b s d)
      = OddMath.rope (by norm_num) (fun d => Y (ix3 b s d)) (fun j => C (ix3 b s j)) (fun j => S (ix3 b s j)) d := by
  have hd := d.isLt
  pointwise [rope128]
  unfold OddMath.rope
  refine dite_congr rfl (fun h1 => rfl) fun h1 => dite_congr rfl (fun h2 => ?_) fun h2 => ?_
  · have h1' : ¬ d.val % 64 < 8 := h1
    have hi : (⟨d.val / 64 * 64 + (8 + (d.val % 64 - 8)), by omega⟩ : Fin 128) = d := Fin.ext (by simp only; omega)
    exact congrArg (fun z => Y (ix3 b s z) * C (ix3 b s ⟨d.val % 64 - 8, h2⟩) + Y (ix3 b s ⟨d.val / 64 * 64 + (d.val % 64 - 8), by omega⟩) * S (ix3 b s ⟨d.val % 64 - 8, h2⟩)) hi
  · have h1' : ¬ d.val % 64 < 8 := h1
    have h2' : ¬ d.val % 64 - 8 < 8 := h2
    have hi : (⟨d.val / 64 * 64 + (16 + (d.val % 64 - 8 - 8)), by omega⟩ : Fin 128) = d := Fin.ext (by simp only; omega)
    exact congrArg (fun z => Y (ix3 b s z)) hi

theorem sec128_at (Y : FVec Ideal S4x8192x1720 .f32) (C S : FVec Ideal S4x8192x8 .f32) (o p : ℕ) (h : S4x8192x1720.Slices ![0, 0, o] S4x8192x128)
    (ho : o + 128 ≤ 1720) (hp : p + 128 ≤ 768) (h64 : p % 64 = 0) (hs : ∀ d : ℕ, d < 128 → OddMath.pos (p + d) = o + d)
    (b : Fin 4) (s : Fin 8192) (d : Fin 128) (e : Fin 768) (he : e.val = p + d.val) :
    (rope128 (extractStridedSlice S4x8192x128 ![0, 0, o] Y h) C S : S4x8192x128.Idx → EReal) (ix3 b s d)
      = OddMath.rope (by norm_num) (fun e => OddMath.col (fun e => Y (ix3 b s e)) e.val) (fun j => C (ix3 b s j)) (fun j => S (ix3 b s j)) e := by
  have ee : e = ⟨p + d.val, by omega⟩ := Fin.ext he
  have es : (fun d : Fin 128 => (extractStridedSlice S4x8192x128 ![0, 0, o] Y h : S4x8192x128.Idx → EReal) (ix3 b s d))
      = fun d => OddMath.col (fun e => Y (ix3 b s e)) (p + d.val) := by
    funext d
    rw [OddMath.col_eq _ _ (o + d.val) (by omega) (hs d.val d.isLt)]
    pointwise
  rw [rope128_at, ee, OddMath.rope_part (by norm_num) (by norm_num) _ _ _ p h64 hp, es]

theorem joinedR_at (Y : FVec Ideal S4x8192x1720 .f32) (C S : FVec Ideal S4x8192x8 .f32) (b : Fin 4) (s : Fin 8192) (e : Fin 768) :
    (joinedR Y C S : S4x8192x768.Idx → EReal) (ix3 b s e)
      = OddMath.rope (by norm_num) (fun e => OddMath.col (fun e => Y (ix3 b s e)) e.val) (fun j => C (ix3 b s j)) (fun j => S (ix3 b s j)) e := by
  have he := e.isLt
  pointwise [joinedR]
  refine EvenMath.cases (fun h1 => ?_) fun h1 => EvenMath.cases (fun h2 => ?_) fun h2 => ?_
  · exact sec512_at Y C S 0 0 _ (by norm_num) (by norm_num) rfl (fun d hd => (by unfold OddMath.pos; split_ifs <;> omega)) b s _ e (by simp only; omega)
  · exact sec128_at Y C S 768 512 _ (by norm_num) (by norm_num) rfl (fun d hd => (by unfold OddMath.pos; split_ifs <;> omega)) b s _ e (by simp only; omega)
  · exact sec128_at Y C S 1024 640 _ (by norm_num) (by norm_num) rfl (fun d hd => (by unfold OddMath.pos; split_ifs <;> omega)) b s _ e (by simp only; omega)

theorem joinedP_at (Y : FVec Ideal S4x8192x1720 .f32) (b : Fin 4) (s : Fin 8192) (e : Fin 1152) :
    (joinedP Y : S4x8192x1152.Idx → EReal) (ix3 b s e) = OddMath.col (fun e => Y (ix3 b s e)) (768 + e.val) := by
  have he := e.isLt
  pointwise [joinedP]
  refine EvenMath.cases (fun h1 => ?_) fun h1 => EvenMath.cases (fun h2 => ?_) fun h2 => EvenMath.cases (fun h3 => ?_) fun h3 => EvenMath.cases (fun h4 => ?_) fun h4 => EvenMath.cases (fun h5 => ?_) fun h5 => EvenMath.cases (fun h6 => ?_) fun h6 => EvenMath.cases (fun h7 => ?_) fun h7 => EvenMath.cases (fun h8 => ?_) fun h8 => EvenMath.cases (fun h9 => ?_) fun h9 => EvenMath.cases (fun h10 => ?_) fun h10 => ?_
  · exact (OddMath.col_eq (fun e => Y (ix3 b s e)) (768 + e.val) (512 + (e.val)) (by (try simp only [Nat.sub_sub, Nat.reduceAdd] at *); omega) (by (try simp only [Nat.sub_sub, Nat.reduceAdd] at *); rw [OddMath.pos_cmp (by omega) (by omega)] <;> omega)).symm
  · exact (OddMath.col_eq (fun e => Y (ix3 b s e)) (768 + e.val) (640 + (e.val - 128)) (by (try simp only [Nat.sub_sub, Nat.reduceAdd] at *); omega) (by (try simp only [Nat.sub_sub, Nat.reduceAdd] at *); rw [OddMath.pos_cmp (by omega) (by omega)] <;> omega)).symm
  · exact (OddMath.col_eq (fun e => Y (ix3 b s e)) (768 + e.val) (896 + (e.val - 128 - 128)) (by (try simp only [Nat.sub_sub, Nat.reduceAdd] at *); omega) (by (try simp only [Nat.sub_sub, Nat.reduceAdd] at *); rw [OddMath.pos_vslc (by omega) (by omega)] <;> omega)).symm
  · exact (OddMath.col_eq (fun e => Y (ix3 b s e)) (768 + e.val) (1152 + (e.val - 128 - 128 - 128)) (by (try simp only [Nat.sub_sub, Nat.reduceAdd] at *); omega) (by (try simp only [Nat.sub_sub, Nat.reduceAdd] at *); rw [OddMath.pos_vwin (by omega) (by omega)] <;> omega)).symm
  · exact (OddMath.col_eq (fun e => Y (ix3 b s e)) (768 + e.val) (1304 + (e.val - 128 - 128 - 128 - 128)) (by (try simp only [Nat.sub_sub, Nat.reduceAdd] at *); omega) (by (try simp only [Nat.sub_sub, Nat.reduceAdd] at *); rw [OddMath.pos_lat (by omega) (by omega)] <;> omega)).symm
  · exact (OddMath.col_eq (fun e => Y (ix3 b s e)) (768 + e.val) (1560 + (e.val - 128 - 128 - 128 - 128 - 256)) (by (try simp only [Nat.sub_sub, Nat.reduceAdd] at *); omega) (by (try simp only [Nat.sub_sub, Nat.reduceAdd] at *); rw [OddMath.pos_lat (by omega) (by omega)] <;> omega)).symm
  · exact (OddMath.col_eq (fun e => Y (ix3 b s e)) (768 + e.val) (1280 + (e.val - 128 - 128 - 128 - 128 - 256 - 128)) (by (try simp only [Nat.sub_sub, Nat.reduceAdd] at *); omega) (by (try simp only [Nat.sub_sub, Nat.reduceAdd] at *); rw [OddMath.pos_gate (by omega) (by omega)] <;> omega)).symm
  · exact (OddMath.col_zero (fun e => Y (ix3 b s e)) (768 + e.val) (by (try simp only [Nat.sub_sub, Nat.reduceAdd] at *); exact OddMath.pos_gap (by omega) (by omega))).symm
  · exact (OddMath.col_zero (fun e => Y (ix3 b s e)) (768 + e.val) (by (try simp only [Nat.sub_sub, Nat.reduceAdd] at *); exact OddMath.pos_gap (by omega) (by omega))).symm
  · exact (OddMath.col_eq (fun e => Y (ix3 b s e)) (768 + e.val) (1688 + (e.val - 128 - 128 - 128 - 128 - 256 - 128 - 24 - 104 - 64)) (by (try simp only [Nat.sub_sub, Nat.reduceAdd] at *); omega) (by (try simp only [Nat.sub_sub, Nat.reduceAdd] at *); rw [OddMath.pos_pe (by omega) (by omega)] <;> omega)).symm
  · exact (OddMath.col_zero (fun e => Y (ix3 b s e)) (768 + e.val) (by (try simp only [Nat.sub_sub, Nat.reduceAdd] at *); exact OddMath.pos_end (by omega))).symm

theorem cast_at (Y : FVec Ideal S4x8192x768 .f32) (n : Fin 32768) (d : Fin 768) :
    (truncf .bf16 (shapeCast S32768x768 Y shapeCasts_S4x8192x768_S32768x768) bitsLt_bf16_f32 : S32768x768.Idx → EReal) (ix2 n d)
      = Y (ix3 ⟨n.val / 8192, by omega⟩ ⟨n.val % 8192, by omega⟩ d) := by
  pointwise
theorem cast'_at (Y : FVec Ideal S4x8192x1152 .f32) (n : Fin 32768) (d : Fin 1152) :
    (shapeCast S32768x1152 Y shapeCasts_S4x8192x1152_S32768x1152 : S32768x1152.Idx → EReal) (ix2 n d)
      = Y (ix3 ⟨n.val / 8192, by omega⟩ ⟨n.val % 8192, by omega⟩ d) := by
  pointwise

/-- One row of the reference's product. -/
def line (H : FVec Ideal S4x8192x1024 .f32) (g : FVec Ideal S1024 .f32) (W : FVec Ideal S1024x1720 .f32) (n : Fin 32768) (e : Fin 1720) : EReal :=
  ∑ k : Fin 1024, FfnMath.norm (fun e => H (ix3 ⟨n.val / 8192, by omega⟩ ⟨n.val % 8192, by omega⟩ e)) (fun e => g (ix1 e)) k * W (ix2 k e)

theorem whole_at (H : FVec Ideal S4x8192x1024 .f32) (g : FVec Ideal S1024 .f32) (W : FVec Ideal S1024x1720 .f32) (P : (⟨S4x8192, .i32⟩ : BufTy).Contents (Elt Ideal)) (n : Fin 32768) (e : Fin 768) :
    (whole H g W P : S32768x768.Idx → EReal) (ix2 n e)
      = OddMath.rope (by norm_num) (fun e => OddMath.col (line H g W n) e.val)
          (fun j => (Host.cos (ang P) : S4x8192x8.Idx → EReal) (ix3 ⟨n.val / 8192, by omega⟩ ⟨n.val % 8192, by omega⟩ j))
          (fun j => (Host.sin (ang P) : S4x8192x8.Idx → EReal) (ix3 ⟨n.val / 8192, by omega⟩ ⟨n.val % 8192, by omega⟩ j)) e := by
  unfold whole
  rw [cast_at, joinedR_at]
  simp only [prod_at, norm_at]
  rfl

theorem whole'_at (H : FVec Ideal S4x8192x1024 .f32) (g : FVec Ideal S1024 .f32) (W : FVec Ideal S1024x1720 .f32) (n : Fin 32768) (e : Fin 1152) :
    (whole' H g W : S32768x1152.Idx → EReal) (ix2 n e) = OddMath.col (line H g W n) (768 + e.val) := by
  unfold whole'
  rw [cast'_at, joinedP_at]
  simp only [prod_at, norm_at]
  rfl

theorem result_eq (m : (ℓ : Loc nD τ sig) → Buf (Elt Ideal) ℓ) (c : Dev nD) :
    Value.res_out0 m c = whole (m ((c.tc : Thread nD τ).loc main_arg0)) (m ((c.tc : Thread nD τ).loc main_arg1)) (m ((c.tc : Thread nD τ).loc main_arg2))
      (m ((c.tc : Thread nD τ).loc main_arg3)) := rfl
theorem result'_eq (m : (ℓ : Loc nD τ sig) → Buf (Elt Ideal) ℓ) (c : Dev nD) :
    Value.res_out1 m c = whole' (m ((c.tc : Thread nD τ).loc main_arg0)) (m ((c.tc : Thread nD τ).loc main_arg1)) (m ((c.tc : Thread nD τ).loc main_arg2)) := rfl

end Cert.Reference5Ideal.At
-- ==== Proof.OddBlock.lean ====
module

public import proofs.«01_k».proof.Proof.Gen.Kernel5Ideal.Value
public import proofs.«01_k».proof.Proof.OddMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Writes
public import Idealize.ShloMosaic.Lib.Pipeline.Value
public import Idealize.ShloMosaic.Lib.Pipeline.ValueKit
@[expose] public section

set_option maxRecDepth 16384
set_option maxHeartbeats 1000000
noncomputable section

/-! The input projection of the odd layers: its two blocks at an element, and the arrays its launch leaves. -/

namespace Cert.Kernel5Ideal.Block

open Cert.Kernel5Ideal Cert.Kernel5Ideal.Gen
open Idealize.ShloMosaic Idealize.ShloMosaic.TcCoe Idealize.ShloMosaic.Tactic
open Idealize.SL.Sem

theorem zz : (![0, 0] : Fin 2 → ℕ) = fun _ => 0 := by decide

/-! ## The payloads -/

theorem norm_at (x : Vec Ideal S512x1024 .f32) (g : Vec Ideal S1x1024 .f32) (r : Fin 512) (d : Fin 1024) :
    (k0_pay5 (F := Ideal) x g : S512x1024.Idx → EReal) (ix2 r d) = FfnMath.norm (fun e => x (ix2 r e)) (fun e => g (ix2 0 e)) d := by
  pointwise [k0_pay5]
  rfl

/-- A chunk of 512 columns of the product. -/
def chunk512 (Z : FVec Ideal S512x1024 .bf16) (W : FVec Ideal S1024x512 .bf16) : FVec Ideal S512x512 .f32 :=
  matmul dot_S512x1024_S1024x512_S512x512_1_0_0_1_n_n none Z W (constant S512x512 .f32 0x00000000#32)

theorem chunk512_at (Z : FVec Ideal S512x1024 .bf16) (X : Vec Ideal S1024x1920 .bf16) (o : ℕ) (inb : ∀ a : Fin 2, (![0, o] : Fin 2 → ℕ) a + (![1024, 512] : Fin 2 → ℕ) a ≤ S1024x1920.size a)
    (r : Fin 512) (e : Fin 512) (he : o + e.val < 1920) :
    (chunk512 Z (View.ld X (Rect.unit (s := S1024x1920) ![0, o] ![1024, 512] inb)) : S512x512.Idx → EReal) (ix2 r e)
      = ∑ k : Fin 1024, (Z : S512x1024.Idx → EReal) (ix2 r k) * (X : S1024x1920.Idx → EReal) (ix2 k ⟨o + e.val, he⟩) := by
  rw [View.ld_unit]
  pointwise [chunk512]

/-- A chunk of 256 columns of the product. -/
def chunk256 (Z : FVec Ideal S512x1024 .bf16) (W : FVec Ideal S1024x256 .bf16) : FVec Ideal S512x256 .f32 :=
  matmul dot_S512x1024_S1024x256_S512x256_1_0_0_1_n_n none Z W (constant S512x256 .f32 0x00000000#32)

theorem chunk256_at (Z : FVec Ideal S512x1024 .bf16) (X : Vec Ideal S1024x1920 .bf16) (o : ℕ) (inb : ∀ a : Fin 2, (![0, o] : Fin 2 → ℕ) a + (![1024, 256] : Fin 2 → ℕ) a ≤ S1024x1920.size a)
    (r : Fin 512) (e : Fin 256) (he : o + e.val < 1920) :
    (chunk256 Z (View.ld X (Rect.unit (s := S1024x1920) ![0, o] ![1024, 256] inb)) : S512x256.Idx → EReal) (ix2 r e)
      = ∑ k : Fin 1024, (Z : S512x1024.Idx → EReal) (ix2 r k) * (X : S1024x1920.Idx → EReal) (ix2 k ⟨o + e.val, he⟩) := by
  rw [View.ld_unit]
  pointwise [chunk256]

/-- A chunk of 128 columns of the product. -/
def chunk128 (Z : FVec Ideal S512x1024 .bf16) (W : FVec Ideal S1024x128 .bf16) : FVec Ideal S512x128 .f32 :=
  matmul dot_S512x1024_S1024x128_S512x128_1_0_0_1_n_n none Z W (constant S512x128 .f32 0x00000000#32)

theorem chunk128_at (Z : FVec Ideal S512x1024 .bf16) (X : Vec Ideal S1024x1920 .bf16) (o : ℕ) (inb : ∀ a : Fin 2, (![0, o] : Fin 2 → ℕ) a + (![1024, 128] : Fin 2 → ℕ) a ≤ S1024x1920.size a)
    (r : Fin 512) (e : Fin 128) (he : o + e.val < 1920) :
    (chunk128 Z (View.ld X (Rect.unit (s := S1024x1920) ![0, o] ![1024, 128] inb)) : S512x128.Idx → EReal) (ix2 r e)
      = ∑ k : Fin 1024, (Z : S512x1024.Idx → EReal) (ix2 r k) * (X : S1024x1920.Idx → EReal) (ix2 k ⟨o + e.val, he⟩) := by
  rw [View.ld_unit]
  pointwise [chunk128]

/-- The rotation of 128 lanes of a chunk of 512 columns. -/
def seg512 (o : ℕ) (h : S512x512.Slices ![0, o] S512x128) (Y : FVec Ideal S512x512 .f32) (c s1 s2 : FVec Ideal S512x128 .f32) : FVec Ideal S512x128 .bf16 :=
  truncf .bf16 (addf (addf (mulf (extractStridedSlice S512x128 ![0, o] Y h) c)
    (mulf (dynamicRotate 1 120#32 none (extractStridedSlice S512x128 ![0, o] Y h) rotates_S512x128_d1) s1))
    (mulf (dynamicRotate 1 8#32 none (extractStridedSlice S512x128 ![0, o] Y h) rotates_S512x128_d1) s2)) bitsLt_bf16_f32

theorem seg512_at (o : ℕ) (h : S512x512.Slices ![0, o] S512x128) (ho : o + 128 ≤ 512) (Y : FVec Ideal S512x512 .f32) (c s1 s2 : FVec Ideal S512x128 .f32) (r : Fin 512) (l : Fin 128) :
    (seg512 o h Y c s1 s2 : S512x128.Idx → EReal) (ix2 r l)
      = Y (ix2 r ⟨o + l.val, by omega⟩) * c (ix2 r l) + Y (ix2 r ⟨o + (l.val + 8) % 128, by omega⟩) * s1 (ix2 r l)
        + Y (ix2 r ⟨o + (l.val + 120) % 128, by omega⟩) * s2 (ix2 r l) := by
  have h1 : (l.val + 8) % 128 = (l.val + 128 - 120) % 128 := by omega
  have h2 : (l.val + 120) % 128 = (l.val + 128 - 8) % 128 := by omega
  simp only [h1, h2]
  pointwise [seg512]

/-- The rotation of 128 lanes of a chunk of 256 columns. -/
def seg256 (o : ℕ) (h : S512x256.Slices ![0, o] S512x128) (Y : FVec Ideal S512x256 .f32) (c s1 s2 : FVec Ideal S512x128 .f32) : FVec Ideal S512x128 .bf16 :=
  truncf .bf16 (addf (addf (mulf (extractStridedSlice S512x128 ![0, o] Y h) c)
    (mulf (dynamicRotate 1 120#32 none (extractStridedSlice S512x128 ![0, o] Y h) rotates_S512x128_d1) s1))
    (mulf (dynamicRotate 1 8#32 none (extractStridedSlice S512x128 ![0, o] Y h) rotates_S512x128_d1) s2)) bitsLt_bf16_f32

theorem seg256_at (o : ℕ) (h : S512x256.Slices ![0, o] S512x128) (ho : o + 128 ≤ 256) (Y : FVec Ideal S512x256 .f32) (c s1 s2 : FVec Ideal S512x128 .f32) (r : Fin 512) (l : Fin 128) :
    (seg256 o h Y c s1 s2 : S512x128.Idx → EReal) (ix2 r l)
      = Y (ix2 r ⟨o + l.val, by omega⟩) * c (ix2 r l) + Y (ix2 r ⟨o + (l.val + 8) % 128, by omega⟩) * s1 (ix2 r l)
        + Y (ix2 r ⟨o + (l.val + 120) % 128, by omega⟩) * s2 (ix2 r l) := by
  have h1 : (l.val + 8) % 128 = (l.val + 128 - 120) % 128 := by omega
  have h2 : (l.val + 120) % 128 = (l.val + 128 - 8) % 128 := by omega
  simp only [h1, h2]
  pointwise [seg256]

/-! ## The blocks -/

/-- The rotated block, row by row. -/
def G (x0 : Vec Ideal S512x1024 .f32) (x1 : Vec Ideal S1x1024 .f32) (x2 : Vec Ideal S1024x1920 .bf16) (x3 x4 x5 : Vec Ideal S512x128 .f32) : S512x768.Idx → EReal := fun j =>
  OddMath.byTables (fun e => ∑ k : Fin 1024, (k0_pay5 (F := Ideal) x0 x1 : S512x1024.Idx → EReal) (ix2 (j 0) k) * (x2 : S1024x1920.Idx → EReal) (ix2 k ⟨e.val, by omega⟩))
    (fun l => (x3 : S512x128.Idx → EReal) (ix2 (j 0) l)) (fun l => (x4 : S512x128.Idx → EReal) (ix2 (j 0) l)) (fun l => (x5 : S512x128.Idx → EReal) (ix2 (j 0) l)) (j 1)

/-- The other block. -/
def other (x0 : Vec Ideal S512x1024 .f32) (x1 : Vec Ideal S1x1024 .f32) (x2 : Vec Ideal S1024x1920 .bf16) (r : Fin 512) (d : Fin 1152) : EReal :=
  ∑ k : Fin 1024, (k0_pay5 (F := Ideal) x0 x1 : S512x1024.Idx → EReal) (ix2 r k) * (x2 : S1024x1920.Idx → EReal) (ix2 k ⟨768 + d.val, by omega⟩)
def G' (x0 : Vec Ideal S512x1024 .f32) (x1 : Vec Ideal S1x1024 .f32) (x2 : Vec Ideal S1024x1920 .bf16) : S512x1152.Idx → EReal := fun j => other x0 x1 x2 (j 0) (j 1)

theorem seg512_eq (x0 : Vec Ideal S512x1024 .f32) (x1 : Vec Ideal S1x1024 .f32) (x2 : Vec Ideal S1024x1920 .bf16) (x3 x4 x5 : Vec Ideal S512x128 .f32) (q o p : ℕ)
    (h : S512x512.Slices ![0, o] S512x128) (inb : ∀ a : Fin 2, (![0, q] : Fin 2 → ℕ) a + (![1024, 512] : Fin 2 → ℕ) a ≤ S1024x1920.size a)
    (inb' : ∀ a : Fin 2, (![0, p] : Fin 2 → ℕ) a + (![512, 128] : Fin 2 → ℕ) a ≤ S512x768.size a)
    (ho : o + 128 ≤ 512) (hq : q + 512 ≤ 768) (hp : p = q + o) (hd : p % 128 = 0) (x : S512x128.Idx) :
    (seg512 o h (chunk512 (k0_pay5 (F := Ideal) x0 x1) (View.ld x2 (Rect.unit (s := S1024x1920) ![0, q] ![1024, 512] inb))) x3 x4 x5 : S512x128.Idx → EReal) x
      = G x0 x1 x2 x3 x4 x5 ((Rect.unit (s := S512x768) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x768) ![0, p] ![512, 128] inb').emb (ix2 r l) = ix2 r (⟨p + l.val, by omega⟩ : Fin 768) := by
    funext b
    fin_cases b <;> exact Fin.ext (by simp [Rect.emb_apply, ix2])
  rw [em, seg512_at o h ho, chunk512_at (he := by simp only; omega), chunk512_at (he := by simp only; omega), chunk512_at (he := by simp only; omega)]
  show _ = OddMath.byTables _ _ _ _ (⟨p + l.val, by omega⟩ : Fin 768)
  unfold OddMath.byTables
  have i0 : (⟨(p + l.val) % 128, by omega⟩ : Fin 128) = l := Fin.ext (by simp only; omega)
  have i1 : 128 * ((p + l.val) / 128) + ((p + l.val) % 128 + 8) % 128 = q + (o + (l.val + 8) % 128) := by omega
  have i2 : 128 * ((p + l.val) / 128) + ((p + l.val) % 128 + 120) % 128 = q + (o + (l.val + 120) % 128) := by omega
  have i3 : p + l.val = q + (o + l.val) := by omega
  simp only [i0, i1, i2]
  simp only [i3]
  rfl

theorem seg256_eq (x0 : Vec Ideal S512x1024 .f32) (x1 : Vec Ideal S1x1024 .f32) (x2 : Vec Ideal S1024x1920 .bf16) (x3 x4 x5 : Vec Ideal S512x128 .f32) (q o p : ℕ)
    (h : S512x256.Slices ![0, o] S512x128) (inb : ∀ a : Fin 2, (![0, q] : Fin 2 → ℕ) a + (![1024, 256] : Fin 2 → ℕ) a ≤ S1024x1920.size a)
    (inb' : ∀ a : Fin 2, (![0, p] : Fin 2 → ℕ) a + (![512, 128] : Fin 2 → ℕ) a ≤ S512x768.size a)
    (ho : o + 128 ≤ 256) (hq : q + 256 ≤ 768) (hp : p = q + o) (hd : p % 128 = 0) (x : S512x128.Idx) :
    (seg256 o h (chunk256 (k0_pay5 (F := Ideal) x0 x1) (View.ld x2 (Rect.unit (s := S1024x1920) ![0, q] ![1024, 256] inb))) x3 x4 x5 : S512x128.Idx → EReal) x
      = G x0 x1 x2 x3 x4 x5 ((Rect.unit (s := S512x768) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x768) ![0, p] ![512, 128] inb').emb (ix2 r l) = ix2 r (⟨p + l.val, by omega⟩ : Fin 768) := by
    funext b
    fin_cases b <;> exact Fin.ext (by simp [Rect.emb_apply, ix2])
  rw [em, seg256_at o h ho, chunk256_at (he := by simp only; omega), chunk256_at (he := by simp only; omega), chunk256_at (he := by simp only; omega)]
  show _ = OddMath.byTables _ _ _ _ (⟨p + l.val, by omega⟩ : Fin 768)
  unfold OddMath.byTables
  have i0 : (⟨(p + l.val) % 128, by omega⟩ : Fin 128) = l := Fin.ext (by simp only; omega)
  have i1 : 128 * ((p + l.val) / 128) + ((p + l.val) % 128 + 8) % 128 = q + (o + (l.val + 8) % 128) := by omega
  have i2 : 128 * ((p + l.val) / 128) + ((p + l.val) % 128 + 120) % 128 = q + (o + (l.val + 120) % 128) := by omega
  have i3 : p + l.val = q + (o + l.val) := by omega
  simp only [i0, i1, i2]
  simp only [i3]
  rfl

theorem rest512_eq (x0 : Vec Ideal S512x1024 .f32) (x1 : Vec Ideal S1x1024 .f32) (x2 : Vec Ideal S1024x1920 .bf16) (x3 x4 x5 : Vec Ideal S512x128 .f32) (q p : ℕ)
    (inb : ∀ a : Fin 2, (![0, q] : Fin 2 → ℕ) a + (![1024, 512] : Fin 2 → ℕ) a ≤ S1024x1920.size a)
    (inb' : ∀ a : Fin 2, (![0, p] : Fin 2 → ℕ) a + (![512, 512] : Fin 2 → ℕ) a ≤ S512x1152.size a)
    (hq : q = 768 + p) (hp : p + 512 ≤ 1152) (x : S512x512.Idx) :
    (chunk512 (k0_pay5 (F := Ideal) x0 x1) (View.ld x2 (Rect.unit (s := S1024x1920) ![0, q] ![1024, 512] inb)) : S512x512.Idx → EReal) x
      = G' x0 x1 x2 ((Rect.unit (s := S512x1152) ![0, p] ![512, 512] inb').emb x) := by
  have ex : x = ix2 (⟨(x 0).val, (x 0).isLt⟩ : Fin 512) (⟨(x 1).val, (x 1).isLt⟩ : Fin 512) := by
    funext b
    fin_cases b <;> rfl
  rw [ex]
  generalize (⟨(x 0).val, (x 0).isLt⟩ : Fin 512) = r
  generalize (⟨(x 1).val, (x 1).isLt⟩ : Fin 512) = l
  have hl := l.isLt
  have em : (Rect.unit (s := S512x1152) ![0, p] ![512, 512] inb').emb (ix2 r l) = ix2 r (⟨p + l.val, by omega⟩ : Fin 1152) := by
    funext b
    fin_cases b <;> exact Fin.ext (by simp [Rect.emb_apply, ix2])
  rw [em]
  subst hq
  refine (chunk512_at (k0_pay5 (F := Ideal) x0 x1) x2 (768 + p) inb r l (by omega)).trans ?_
  have i : (⟨768 + p + l.val, by omega⟩ : Fin 1920) = ⟨768 + (p + l.val), by omega⟩ := Fin.ext (by simp only; omega)
  rw [i]
  rfl

theorem rest128_eq (x0 : Vec Ideal S512x1024 .f32) (x1 : Vec Ideal S1x1024 .f32) (x2 : Vec Ideal S1024x1920 .bf16) (x3 x4 x5 : Vec Ideal S512x128 .f32) (q p : ℕ)
    (inb : ∀ a : Fin 2, (![0, q] : Fin 2 → ℕ) a + (![1024, 128] : Fin 2 → ℕ) a ≤ S1024x1920.size a)
    (inb' : ∀ a : Fin 2, (![0, p] : Fin 2 → ℕ) a + (![512, 128] : Fin 2 → ℕ) a ≤ S512x1152.size a)
    (hq : q = 768 + p) (hp : p + 128 ≤ 1152) (x : S512x128.Idx) :
    (chunk128 (k0_pay5 (F := Ideal) x0 x1) (View.ld x2 (Rect.unit (s := S1024x1920) ![0, q] ![1024, 128] inb)) : S512x128.Idx → EReal) x
      = G' x0 x1 x2 ((Rect.unit (s := S512x1152) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x1152) ![0, p] ![512, 128] inb').emb (ix2 r l) = ix2 r (⟨p + l.val, by omega⟩ : Fin 1152) := by
    funext b
    fin_cases b <;> exact Fin.ext (by simp [Rect.emb_apply, ix2])
  rw [em]
  subst hq
  refine (chunk128_at (k0_pay5 (F := Ideal) x0 x1) x2 (768 + p) inb r l (by omega)).trans ?_
  have i : (⟨768 + p + l.val, by omega⟩ : Fin 1920) = ⟨768 + (p + l.val), by omega⟩ := Fin.ext (by simp only; omega)
  rw [i]
  rfl

theorem out6_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x768 .bf16) (harg7 : arg7.IsWhole) (arg8 : Memref sig .tc .vmem S512x1152 .f32) (harg8 : arg8.IsWhole)
    (x0 : Vec Ideal S512x1024 .f32) (x1 : Vec Ideal S1x1024 .f32) (x2 : Vec Ideal S1024x1920 .bf16) (x3 x4 x5 : Vec Ideal S512x128 .f32) (y : S512x768.Idx) :
    (out0_A_6 (F := Ideal) c i arg1 harg1 arg2 harg2 arg3 harg3 arg4 harg4 arg5 harg5 arg6 harg6 arg7 harg7 arg8 harg8 x0 x1 x2 x3 x4 x5 : S512x768.Idx → EReal) y
      = G x0 x1 x2 x3 x4 x5 y := by
  have z0 : ∀ inb, View.ld x0 (Rect.unit (s := S512x1024) ![0, 0] ![512, 1024] inb) = x0 := fun _ => View.ld_unit_zero zz _ x0
  have z1 : ∀ inb, View.ld x1 (Rect.unit (s := S1x1024) ![0, 0] ![1, 1024] inb) = x1 := fun _ => View.ld_unit_zero zz _ x1
  have z2 : ∀ (v : Vec Ideal S512x128 .f32) inb, View.ld v (Rect.unit (s := S512x128) ![0, 0] ![512, 128] inb) = v := fun v _ => View.ld_unit_zero zz _ v
  unfold out0_A_6
  refine View.read_writes_apply_of_pieces VO0_6 _ (G x0 x1 x2 x3 x4 x5) _ ?_ y (cover0_A_6 c i arg1 harg1 arg2 harg2 arg3 harg3 arg4 harg4 arg5 harg5 arg6 harg6 arg7 harg7 arg8 harg8 x0 x1 x2 x3 x4 x5 y)
  unfold kernelRun0_A
  dsimp only
  intro p hp
  simp only [List.mem_cons, List.mem_nil_iff, or_false] at hp
  rcases hp with rfl | rfl | rfl | rfl | rfl | rfl <;> intro x <;> dsimp only
  all_goals simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, k0_pay1, k0_pay2, k0_pay3, k0_pay4, k0_pay6, k0_pay7, k0_pay8, k0_pay9, k0_pay10, k0_pay11, k0_pay12, k0_pay13, k0_pay14, k0_pay15, k0_pay16, k0_pay17, shapeCast_self, View.readAt_eq_ld, harg1.read_unread, harg2.read_unread, harg3.read_unread,
    harg4.read_unread, harg5.read_unread, harg6.read_unread, z0, z1, z2]
  · exact seg256_eq x0 x1 x2 x3 x4 x5 512 128 640 _ _ _ (by norm_num) (by norm_num) (by norm_num) (by norm_num) x
  · exact seg256_eq x0 x1 x2 x3 x4 x5 512 0 512 _ _ _ (by norm_num) (by norm_num) (by norm_num) (by norm_num) x
  · exact seg512_eq x0 x1 x2 x3 x4 x5 0 384 384 _ _ _ (by norm_num) (by norm_num) (by norm_num) (by norm_num) x
  · exact seg512_eq x0 x1 x2 x3 x4 x5 0 256 256 _ _ _ (by norm_num) (by norm_num) (by norm_num) (by norm_num) x
  · exact seg512_eq x0 x1 x2 x3 x4 x5 0 128 128 _ _ _ (by norm_num) (by norm_num) (by norm_num) (by norm_num) x
  · exact seg512_eq x0 x1 x2 x3 x4 x5 0 0 0 _ _ _ (by norm_num) (by norm_num) (by norm_num) (by norm_num) x

theorem out7_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x768 .bf16) (harg7 : arg7.IsWhole) (arg8 : Memref sig .tc .vmem S512x1152 .f32) (harg8 : arg8.IsWhole)
    (x0 : Vec Ideal S512x1024 .f32) (x1 : Vec Ideal S1x1024 .f32) (x2 : Vec Ideal S1024x1920 .bf16) (x3 x4 x5 : Vec Ideal S512x128 .f32) (y : S512x1152.Idx) :
    (out0_A_7 (F := Ideal) c i arg1 harg1 arg2 harg2 arg3 harg3 arg4 harg4 arg5 harg5 arg6 harg6 arg7 harg7 arg8 harg8 x0 x1 x2 x3 x4 x5 : S512x1152.Idx → EReal) y
      = G' x0 x1 x2 y := by
  have z0 : ∀ inb, View.ld x0 (Rect.unit (s := S512x1024) ![0, 0] ![512, 1024] inb) = x0 := fun _ => View.ld_unit_zero zz _ x0
  have z1 : ∀ inb, View.ld x1 (Rect.unit (s := S1x1024) ![0, 0] ![1, 1024] inb) = x1 := fun _ => View.ld_unit_zero zz _ x1
  have z2 : ∀ (v : Vec Ideal S512x128 .f32) inb, View.ld v (Rect.unit (s := S512x128) ![0, 0] ![512, 128] inb) = v := fun v _ => View.ld_unit_zero zz _ v
  unfold out0_A_7
  refine View.read_writes_apply_of_pieces VO0_7 _ (G' x0 x1 x2) _ ?_ y (cover0_A_7 c i arg1 harg1 arg2 harg2 arg3 harg3 arg4 harg4 arg5 harg5 arg6 harg6 arg7 harg7 arg8 harg8 x0 x1 x2 x3 x4 x5 y)
  unfold kernelRun0_A
  dsimp only
  intro p hp
  simp only [List.mem_cons, List.mem_nil_iff, or_false] at hp
  rcases hp with rfl | rfl | rfl <;> intro x <;> dsimp only
  all_goals simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, k0_pay1, k0_pay2, k0_pay3, k0_pay4, k0_pay6, k0_pay7, k0_pay8, k0_pay9, k0_pay10, k0_pay11, k0_pay12, k0_pay13, k0_pay14, k0_pay15, k0_pay16, k0_pay17, shapeCast_self, View.readAt_eq_ld, harg1.read_unread, harg2.read_unread, harg3.read_unread,
    harg4.read_unread, harg5.read_unread, harg6.read_unread, z0, z1, z2]
  · exact rest128_eq x0 x1 x2 x3 x4 x5 1792 1024 _ _ (by norm_num) (by norm_num) x
  · exact rest512_eq x0 x1 x2 x3 x4 x5 1280 512 _ _ (by norm_num) (by norm_num) x
  · exact rest512_eq x0 x1 x2 x3 x4 x5 768 0 _ _ (by norm_num) (by norm_num) x

/-! ## The launch -/

theorem t_lt (t : Fin cfg0.N) : t.val < 64 := lt_of_lt_of_eq t.isLt N_0

/-- The windows' index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem rd0 (t : Fin cfg0.N) (X : S32768x1024.Idx → EReal) (r : Fin 512) (d : Fin 1024) :
    ((cfg0.win 0).blk t).view.read (Elt Ideal) X (ix2 r d) = X (ix2 ⟨512 * t.val + r.val, by have := t_lt t; omega⟩ d) := by
  have ht := t_lt t
  blk_ext [idx t]
theorem rd1 (t : Fin cfg0.N) (X : S1x1024.Idx → EReal) (r : Fin 1) (d : Fin 1024) :
    ((cfg0.win 1).blk t).view.read (Elt Ideal) X (ix2 r d) = X (ix2 r d) := by
  blk_ext [idx t]
theorem rd2 (t : Fin cfg0.N) (X : S1024x1920.Idx → EReal) (r : Fin 1024) (d : Fin 1920) :
    ((cfg0.win 2).blk t).view.read (Elt Ideal) X (ix2 r d) = X (ix2 r d) := by
  blk_ext [idx t]
theorem rd3 (t : Fin cfg0.N) (X : S32768x128.Idx → EReal) (r : Fin 512) (d : Fin 128) :
    ((cfg0.win 3).blk t).view.read (Elt Ideal) X (ix2 r d) = X (ix2 ⟨512 * t.val + r.val, by have := t_lt t; omega⟩ d) := by
  have ht := t_lt t
  blk_ext [idx t]
theorem rd4 (t : Fin cfg0.N) (X : S32768x128.Idx → EReal) (r : Fin 512) (d : Fin 128) :
    ((cfg0.win 4).blk t).view.read (Elt Ideal) X (ix2 r d) = X (ix2 ⟨512 * t.val + r.val, by have := t_lt t; omega⟩ d) := by
  have ht := t_lt t
  blk_ext [idx t]
theorem rd5 (t : Fin cfg0.N) (X : S32768x128.Idx → EReal) (r : Fin 512) (d : Fin 128) :
    ((cfg0.win 5).blk t).view.read (Elt Ideal) X (ix2 r d) = X (ix2 ⟨512 * t.val + r.val, by have := t_lt t; omega⟩ d) := by
  have ht := t_lt t
  blk_ext [idx t]
theorem rd6 (t : Fin cfg0.N) (X : S32768x768.Idx → EReal) (r : Fin 512) (d : Fin 768) :
    ((cfg0.win 6).blk t).view.read (Elt Ideal) X (ix2 r d) = X (ix2 ⟨512 * t.val + r.val, by have := t_lt t; omega⟩ d) := by
  have ht := t_lt t
  blk_ext [idx t]
theorem rd7 (t : Fin cfg0.N) (X : S32768x1152.Idx → EReal) (r : Fin 512) (d : Fin 1152) :
    ((cfg0.win 7).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- One row of the product, of a row of the stream, the gain and the weight. -/
def prod (h g : Fin 1024 → EReal) (W : Fin 1024 → Fin 1920 → EReal) (e : Fin 1920) : EReal := ∑ k : Fin 1024, FfnMath.norm h g k * W k e
/-- One row of the rotated result. -/
def row (h g : Fin 1024 → EReal) (W : Fin 1024 → Fin 1920 → EReal) (C S1 S2 : Fin 128 → EReal) : Fin 768 → EReal :=
  OddMath.byTables (fun e => prod h g W ⟨e.val, by omega⟩) C S1 S2
/-- One row of the other result. -/
def row' (h g : Fin 1024 → EReal) (W : Fin 1024 → Fin 1920 → EReal) (d : Fin 1152) : EReal := prod h g W ⟨768 + d.val, by omega⟩

theorem G_at (x0 : Vec Ideal S512x1024 .f32) (x1 : Vec Ideal S1x1024 .f32) (x2 : Vec Ideal S1024x1920 .bf16) (x3 x4 x5 : Vec Ideal S512x128 .f32) (r : Fin 512) (d : Fin 768) :
    G x0 x1 x2 x3 x4 x5 (ix2 r d) = row (fun e => x0 (ix2 r e)) (fun e => x1 (ix2 0 e)) (fun k e => x2 (ix2 k e)) (fun l => x3 (ix2 r l)) (fun l => x4 (ix2 r l)) (fun l => x5 (ix2 r l)) d := by
  have e : ∀ k : Fin 1024, (k0_pay5 (F := Ideal) x0 x1 : S512x1024.Idx → EReal) (ix2 r k) = FfnMath.norm (fun e => x0 (ix2 r e)) (fun e => x1 (ix2 0 e)) k := fun k => norm_at x0 x1 r k
  show OddMath.byTables (fun e => ∑ k : Fin 1024, (k0_pay5 (F := Ideal) x0 x1 : S512x1024.Idx → EReal) (ix2 r k) * (x2 : S1024x1920.Idx → EReal) (ix2 k ⟨e.val, by omega⟩)) _ _ _ d = _
  simp only [e]
  rfl

theorem G'_at (x0 : Vec Ideal S512x1024 .f32) (x1 : Vec Ideal S1x1024 .f32) (x2 : Vec Ideal S1024x1920 .bf16) (r : Fin 512) (d : Fin 1152) :
    G' x0 x1 x2 (ix2 r d) = row' (fun e => x0 (ix2 r e)) (fun e => x1 (ix2 0 e)) (fun k e => x2 (ix2 k e)) d := by
  have e : ∀ k : Fin 1024, (k0_pay5 (F := Ideal) x0 x1 : S512x1024.Idx → EReal) (ix2 r k) = FfnMath.norm (fun e => x0 (ix2 r e)) (fun e => x1 (ix2 0 e)) k := fun k => norm_at x0 x1 r k
  show other x0 x1 x2 r d = _
  unfold other
  simp only [e]
  rfl

/-- The whole results, row by row, of the arrays at the call. -/
def OUT (X0 : S32768x1024.Idx → EReal) (X1 : S1x1024.Idx → EReal) (X2 : S1024x1920.Idx → EReal) (X3 X4 X5 : S32768x128.Idx → EReal) : S32768x768.Idx → EReal := fun j =>
  row (fun e => X0 (ix2 (j 0) e)) (fun e => X1 (ix2 0 e)) (fun k e => X2 (ix2 k e)) (fun l => X3 (ix2 (j 0) l)) (fun l => X4 (ix2 (j 0) l)) (fun l => X5 (ix2 (j 0) l)) (j 1)
def OUT' (X0 : S32768x1024.Idx → EReal) (X1 : S1x1024.Idx → EReal) (X2 : S1024x1920.Idx → EReal) : S32768x1152.Idx → EReal := fun j =>
  row' (fun e => X0 (ix2 (j 0) e)) (fun e => X1 (ix2 0 e)) (fun k e => X2 (ix2 k e)) (j 1)

theorem block6_eq (t : Fin cfg0.N) (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x768 .bf16) (harg7 : arg7.IsWhole) (arg8 : Memref sig .tc .vmem S512x1152 .f32) (harg8 : arg8.IsWhole)
    (X0 : S32768x1024.Idx → EReal) (X1 : S1x1024.Idx → EReal) (X2 : S1024x1920.Idx → EReal) (X3 X4 X5 : S32768x128.Idx → EReal) :
    (out0_A_6 (F := Ideal) c i arg1 harg1 arg2 harg2 arg3 harg3 arg4 harg4 arg5 harg5 arg6 harg6 arg7 harg7 arg8 harg8 (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) : S512x768.Idx → EReal)
      = ((cfg0.win 6).blk t).view.read (Elt Ideal) (OUT X0 X1 X2 X3 X4 X5) :=
  ext2 (a := 512) (n := 768) fun r d => by
    refine (out6_at c i arg1 harg1 arg2 harg2 arg3 harg3 arg4 harg4 arg5 harg5 arg6 harg6 arg7 harg7 arg8 harg8 _ _ _ _ _ _ (ix2 r d)).trans ((G_at _ _ _ _ _ _ r d).trans (Eq.trans ?_ (rd6 t (OUT X0 X1 X2 X3 X4 X5) r d).symm))
    have e0 := funext fun e => rd0 t X0 r e
    have e1 := funext fun e => rd1 t X1 0 e
    have e2 := funext fun k => funext fun e => rd2 t X2 k e
    have e3 := funext fun l => rd3 t X3 r l
    have e4 := funext fun l => rd4 t X4 r l
    have e5 := funext fun l => rd5 t X5 r l
    exact congrArg (fun f => f d) (congr (congr (congr (congr (congr (congrArg row e0) e1) e2) e3) e4) e5)

theorem block7_eq (t : Fin cfg0.N) (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x768 .bf16) (harg7 : arg7.IsWhole) (arg8 : Memref sig .tc .vmem S512x1152 .f32) (harg8 : arg8.IsWhole)
    (X0 : S32768x1024.Idx → EReal) (X1 : S1x1024.Idx → EReal) (X2 : S1024x1920.Idx → EReal) (X3 X4 X5 : S32768x128.Idx → EReal) :
    (out0_A_7 (F := Ideal) c i arg1 harg1 arg2 harg2 arg3 harg3 arg4 harg4 arg5 harg5 arg6 harg6 arg7 harg7 arg8 harg8 (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) : S512x1152.Idx → EReal)
      = ((cfg0.win 7).blk t).view.read (Elt Ideal) (OUT' X0 X1 X2) :=
  ext2 (a := 512) (n := 1152) fun r d => by
    refine (out7_at c i arg1 harg1 arg2 harg2 arg3 harg3 arg4 harg4 arg5 harg5 arg6 harg6 arg7 harg7 arg8 harg8 _ _ _ _ _ _ (ix2 r d)).trans ((G'_at _ _ _ r d).trans (Eq.trans ?_ (rd7 t (OUT' X0 X1 X2) r d).symm))
    have e0 := funext fun e => rd0 t X0 r e
    have e1 := funext fun e => rd1 t X1 0 e
    have e2 := funext fun k => funext fun e => rd2 t X2 k e
    exact congrArg (fun f => f d) (congr (congr (congrArg row' e0) e1) e2)

variable (m : (ℓ : Loc nD τ sig) → Buf (Elt Ideal) ℓ)

/-- The results of the call. -/
def result (c : Dev nD) : S32768x768.Idx → EReal := OUT (V m c main_v57) (V m c main_v60) (V m c main_v59) (V m c main_v33) (V m c main_v37) (V m c main_v41)
def result' (c : Dev nD) : S32768x1152.Idx → EReal := OUT' (V m c main_v57) (V m c main_v60) (V m c main_v59)

theorem result_at (c : Dev nD) (n : Fin 32768) (d : Fin 768) : result m c (ix2 n d)
    = row (fun e => (V m c main_v57 : S32768x1024.Idx → EReal) (ix2 n e)) (fun e => (V m c main_v60 : S1x1024.Idx → EReal) (ix2 0 e)) (fun k e => (V m c main_v59 : S1024x1920.Idx → EReal) (ix2 k e))
      (fun l => (V m c main_v33 : S32768x128.Idx → EReal) (ix2 n l)) (fun l => (V m c main_v37 : S32768x128.Idx → EReal) (ix2 n l))
      (fun l => (V m c main_v41 : S32768x128.Idx → EReal) (ix2 n l)) d := rfl
theorem result'_at (c : Dev nD) (n : Fin 32768) (d : Fin 1152) : result' m c (ix2 n d)
    = row' (fun e => (V m c main_v57 : S32768x1024.Idx → EReal) (ix2 n e)) (fun e => (V m c main_v60 : S1x1024.Idx → EReal) (ix2 0 e)) (fun k e => (V m c main_v59 : S1024x1920.Idx → EReal) (ix2 k e)) d := rfl

/-- The arrays the call leaves. -/
theorem final (c : Dev nD) : (dats m 0 c).arrAt 6 cfg0.N = result m c := by
  refine (dats m 0 c).arrAt_eq_of_covers 6 _ (by decide +kernel) fun t hf y => ?_
  blk_simp
  rw [after0_6]
  exact congrFun (block6_eq t c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (V m c main_v57) (V m c main_v60) (V m c main_v59) (V m c main_v33) (V m c main_v37) (V m c main_v41)) y
theorem final' (c : Dev nD) : (dats m 0 c).arrAt 7 cfg0.N = result' m c := by
  refine (dats m 0 c).arrAt_eq_of_covers 7 _ (by decide +kernel) fun t hf y => ?_
  blk_simp
  rw [after0_7]
  exact congrFun (block7_eq t c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (V m c main_v57) (V m c main_v60) (V m c main_v59) (V m c main_v33) (V m c main_v37) (V m c main_v41)) y

end Cert.Kernel5Ideal.Block
-- ==== Proof.OddHost.lean ====
module

public import proofs.«01_k».proof.Proof.OddBlock
@[expose] public section

set_option maxRecDepth 16384
set_option maxHeartbeats 1000000
noncomputable section

/-! What the host hands the input projection of the odd layers. -/

namespace Cert.Kernel5Ideal.Block

open Cert.Kernel5Ideal Cert.Kernel5Ideal.Gen
open Idealize.ShloMosaic Idealize.ShloMosaic.TcCoe Idealize.ShloMosaic.Tactic
open Idealize.SL.Sem

variable (m : (ℓ : Loc nD τ sig) → Buf (Elt Ideal) ℓ)

theorem V_x (c : Dev nD) (n : Fin 32768) (d : Fin 1024) : (show S32768x1024.Idx → EReal from V m c main_v57) (ix2 n d)
    = (show S4x8192x1024.Idx → EReal from m ((c : Thread nD τ).loc main_arg0)) (ix3 ⟨n.val / 8192, by omega⟩ ⟨n.val % 8192, by omega⟩ d) := by
  unfold V
  after_reads_at
theorem V_g (c : Dev nD) (d : Fin 1024) : (show S1x1024.Idx → EReal from V m c main_v60) (ix2 0 d)
    = (show S1024.Idx → EReal from m ((c : Thread nD τ).loc main_arg1)) (ix1 d) := by
  unfold V
  after_reads_at

theorem w_r (c : Dev nD) (k : Fin 1024) (d : Fin 768) :
    (StableHlo.upto [hostOps0, hostOps0_1, hostOps0_2, hostOps0_3, hostOps0_4].flatten (fun b => m (c, b)) 74 (Proc.tc.devRef main_v45) : S1024x768.Idx → EReal) (ix2 k d)
      = OddMath.col (fun e => (show S1024x1720.Idx → EReal from m ((c : Thread nD τ).loc main_arg2)) (ix2 k e)) d.val := by
  have hd := d.isLt
  after_reads_at
  refine EvenMath.cases (fun h1 => ?_) fun h1 => EvenMath.cases (fun h2 => ?_) fun h2 => ?_
  · refine Eq.trans ?_ (OddMath.col_eq (fun e => (show S1024x1720.Idx → EReal from m ((c : Thread nD τ).loc main_arg2)) (ix2 k e)) (d.val) (d.val) (by omega) (by unfold OddMath.pos; split_ifs <;> omega)).symm
    first | rfl | after_reads_at
  · refine Eq.trans ?_ (OddMath.col_eq (fun e => (show S1024x1720.Idx → EReal from m ((c : Thread nD τ).loc main_arg2)) (ix2 k e)) (d.val) (768 + (d.val - 512)) (by omega) (by unfold OddMath.pos; split_ifs <;> omega)).symm
    first | rfl | after_reads_at
  · refine Eq.trans ?_ (OddMath.col_eq (fun e => (show S1024x1720.Idx → EReal from m ((c : Thread nD τ).loc main_arg2)) (ix2 k e)) (d.val) (1024 + (d.val - 512 - 128)) (by omega) (by unfold OddMath.pos; split_ifs <;> omega)).symm
    first | rfl | after_reads_at

theorem w_p (c : Dev nD) (k : Fin 1024) (d : Fin 1024) :
    (StableHlo.upto [hostOps0, hostOps0_1, hostOps0_2, hostOps0_3, hostOps0_4].flatten (fun b => m (c, b)) 74 (Proc.tc.devRef main_v54) : S1024x1024.Idx → EReal) (ix2 k d)
      = OddMath.col (fun e => (show S1024x1720.Idx → EReal from m ((c : Thread nD τ).loc main_arg2)) (ix2 k e)) (768 + d.val) := by
  have hd := d.isLt
  after_reads_at
  refine EvenMath.cases (fun h0 => ?_) fun h0 => ?_
  refine EvenMath.cases (fun h1 => ?_) fun h1 => EvenMath.cases (fun h2 => ?_) fun h2 => EvenMath.cases (fun h3 => ?_) fun h3 => EvenMath.cases (fun h4 => ?_) fun h4 =>
    EvenMath.cases (fun h5 => ?_) fun h5 => EvenMath.cases (fun h6 => ?_) fun h6 => ?_
  · refine Eq.trans ?_ (OddMath.col_eq (fun e => (show S1024x1720.Idx → EReal from m ((c : Thread nD τ).loc main_arg2)) (ix2 k e)) (768 + d.val) (512 + (d.val)) (by (try simp only [Nat.sub_sub, Nat.reduceAdd] at *); omega) (by (try simp only [Nat.sub_sub, Nat.reduceAdd] at *); rw [OddMath.pos_cmp (by omega) (by omega)] <;> omega)).symm
    first | rfl | after_reads_at
  · refine Eq.trans ?_ (OddMath.col_eq (fun e => (show S1024x1720.Idx → EReal from m ((c : Thread nD τ).loc main_arg2)) (ix2 k e)) (768 + d.val) (640 + (d.val - 128)) (by (try simp only [Nat.sub_sub, Nat.reduceAdd] at *); omega) (by (try simp only [Nat.sub_sub, Nat.reduceAdd] at *); rw [OddMath.pos_cmp (by omega) (by omega)] <;> omega)).symm
    first | rfl | after_reads_at
  · refine Eq.trans ?_ (OddMath.col_eq (fun e => (show S1024x1720.Idx → EReal from m ((c : Thread nD τ).loc main_arg2)) (ix2 k e)) (768 + d.val) (896 + (d.val - 128 - 128)) (by (try simp only [Nat.sub_sub, Nat.reduceAdd] at *); omega) (by (try simp only [Nat.sub_sub, Nat.reduceAdd] at *); rw [OddMath.pos_vslc (by omega) (by omega)] <;> omega)).symm
    first | rfl | after_reads_at
  · refine Eq.trans ?_ (OddMath.col_eq (fun e => (show S1024x1720.Idx → EReal from m ((c : Thread nD τ).loc main_arg2)) (ix2 k e)) (768 + d.val) (1152 + (d.val - 128 - 128 - 128)) (by (try simp only [Nat.sub_sub, Nat.reduceAdd] at *); omega) (by (try simp only [Nat.sub_sub, Nat.reduceAdd] at *); rw [OddMath.pos_vwin (by omega) (by omega)] <;> omega)).symm
    first | rfl | after_reads_at
  · refine Eq.trans ?_ (OddMath.col_eq (fun e => (show S1024x1720.Idx → EReal from m ((c : Thread nD τ).loc main_arg2)) (ix2 k e)) (768 + d.val) (1304 + (d.val - 128 - 128 - 128 - 128)) (by (try simp only [Nat.sub_sub, Nat.reduceAdd] at *); omega) (by (try simp only [Nat.sub_sub, Nat.reduceAdd] at *); rw [OddMath.pos_lat (by omega) (by omega)] <;> omega)).symm
    first | rfl | after_reads_at
  · refine Eq.trans ?_ (OddMath.col_eq (fun e => (show S1024x1720.Idx → EReal from m ((c : Thread nD τ).loc main_arg2)) (ix2 k e)) (768 + d.val) (1560 + (d.val - 128 - 128 - 128 - 128 - 256)) (by (try simp only [Nat.sub_sub, Nat.reduceAdd] at *); omega) (by (try simp only [Nat.sub_sub, Nat.reduceAdd] at *); rw [OddMath.pos_lat (by omega) (by omega)] <;> omega)).symm
    first | rfl | after_reads_at
  · refine Eq.trans ?_ (OddMath.col_eq (fun e => (show S1024x1720.Idx → EReal from m ((c : Thread nD τ).loc main_arg2)) (ix2 k e)) (768 + d.val) (1280 + (d.val - 128 - 128 - 128 - 128 - 256 - 128)) (by (try simp only [Nat.sub_sub, Nat.reduceAdd] at *); omega) (by (try simp only [Nat.sub_sub, Nat.reduceAdd] at *); rw [OddMath.pos_gate (by omega) (by omega)] <;> omega)).symm
    first | rfl | after_reads_at
  · refine Eq.trans ?_ (OddMath.col_zero (fun e => (show S1024x1720.Idx → EReal from m ((c : Thread nD τ).loc main_arg2)) (ix2 k e)) (768 + d.val) (by (try simp only [Nat.sub_sub, Nat.reduceAdd] at *); exact OddMath.pos_gap (by omega) (by omega))).symm
    simp [FloatOps.sitofp]

theorem w_pe (c : Dev nD) (k : Fin 1024) (d : Fin 128) :
    (StableHlo.upto [hostOps0, hostOps0_1, hostOps0_2, hostOps0_3, hostOps0_4].flatten (fun b => m (c, b)) 74 (Proc.tc.devRef main_v56) : S1024x128.Idx → EReal) (ix2 k d)
      = OddMath.col (fun e => (show S1024x1720.Idx → EReal from m ((c : Thread nD τ).loc main_arg2)) (ix2 k e)) (1792 + d.val) := by
  have hd := d.isLt
  after_reads_at
  refine EvenMath.cases (fun h => ?_) fun h => ?_
  · exact (OddMath.col_eq (fun e => (show S1024x1720.Idx → EReal from m ((c : Thread nD τ).loc main_arg2)) (ix2 k e)) (1792 + d.val) (1688 + (d.val - 64)) (by omega) (by unfold OddMath.pos; split_ifs <;> omega)).symm
  · refine Eq.trans ?_ (OddMath.col_zero (fun e => (show S1024x1720.Idx → EReal from m ((c : Thread nD τ).loc main_arg2)) (ix2 k e)) (1792 + d.val) (by unfold OddMath.pos; split_ifs <;> omega)).symm
    simp [FloatOps.sitofp]

theorem V_w (c : Dev nD) (k : Fin 1024) (d : Fin 1920) : (show S1024x1920.Idx → EReal from V m c main_v59) (ix2 k d)
    = OddMath.col (fun e => (show S1024x1720.Idx → EReal from m ((c : Thread nD τ).loc main_arg2)) (ix2 k e)) d.val := by
  have hd := d.isLt
  unfold V
  after_reads_at
  refine EvenMath.cases (fun h1 => ?_) fun h1 => EvenMath.cases (fun h2 => ?_) fun h2 => ?_
  · exact w_r m c k ⟨d.val, h1⟩
  · refine (w_p m c k ⟨d.val - 768, h2⟩).trans (congrArg (OddMath.col _) ?_)
    show 768 + (d.val - 768) = d.val
    omega
  · refine (w_pe m c k ⟨d.val - 768 - 1024, by omega⟩).trans (congrArg (OddMath.col _) ?_)
    show 1792 + (d.val - 768 - 1024) = d.val
    omega

/-- The rotation angles of the positions. -/
def ang (P : (⟨S4x8192, .i32⟩ : BufTy).Contents (Elt Ideal)) : FVec Ideal S4x8192x8 .f32 :=
  mulf (broadcastInDim S4x8192x8 ![0, 1, 2] bcast_S4x8192x1_S4x8192x8_0_1_2 (broadcastInDim S4x8192x1 ![0, 1] bcast_S4x8192_S4x8192x1_0_1 (sitofp .f32 P)))
    (broadcastInDim S4x8192x8 ![0, 1, 2] bcast_S1x1x8_S4x8192x8_0_1_2 (broadcastInDim S1x1x8 ![2] bcast_S8_S1x1x8_2
      (Host.divf (broadcastInDim S8 ![] bcast_S_S8 (constant S_ .f32 0x3F800000#32))
        (Host.powf (broadcastInDim S8 ![] bcast_S_S8 (constant S_ .f32 0x48F42400#32))
          (Host.divf (addf (broadcastInDim S8 ![] bcast_S_S8 (constant S_ .f32 0x00000000#32))
            (mulf (broadcastInDim S8 ![] bcast_S_S8 (constant S_ .f32 0x40000000#32)) (sitofp .f32 (iotaInDim S8 32 0))))
            (broadcastInDim S8 ![] bcast_S_S8 (constant S_ .f32 0x41800000#32)))))))

/-- Their cosines and sines. -/
def cosT (P : (⟨S4x8192, .i32⟩ : BufTy).Contents (Elt Ideal)) : S4x8192x8.Idx → EReal := Host.cos (ang P)
def sinT (P : (⟨S4x8192, .i32⟩ : BufTy).Contents (Elt Ideal)) : S4x8192x8.Idx → EReal := Host.sin (ang P)

theorem cos_at (c : Dev nD) (b : Fin 4) (s : Fin 8192) (l : Fin 8) :
    (show S4x8192x8.Idx → EReal from StableHlo.upto hostOps0 (fun b => m (c, b)) 30 (Proc.tc.devRef main_v17)) (ix3 b s l) = cosT (m ((c : Thread nD τ).loc main_arg3)) (ix3 b s l) := by
  refine congrFun (?_ : (show S4x8192x8.Idx → EReal from _) = _) (ix3 b s l)
  after_reads_simp
  rfl

theorem one_at (c : Dev nD) (b : Fin 4) (s : Fin 8192) (l : Fin 48) :
    (show S4x8192x48.Idx → EReal from StableHlo.upto hostOps0 (fun b => m (c, b)) 30 (Proc.tc.devRef main_v21)) (ix3 b s l) = 1 := by
  after_reads_at

theorem neg_at (c : Dev nD) (b : Fin 4) (s : Fin 8192) (l : Fin 8) :
    (show S4x8192x8.Idx → EReal from StableHlo.upto hostOps0 (fun b => m (c, b)) 36 (Proc.tc.devRef main_v24)) (ix3 b s l) = -sinT (m ((c : Thread nD τ).loc main_arg3)) (ix3 b s l) := by
  refine congrFun (?_ : (show S4x8192x8.Idx → EReal from _) = fun i => -sinT (m ((c : Thread nD τ).loc main_arg3)) i) (ix3 b s l)
  after_reads_simp
  rfl

theorem zero1_at (c : Dev nD) (b : Fin 4) (s : Fin 8192) (l : Fin 8) :
    (show S4x8192x8.Idx → EReal from StableHlo.upto hostOps0 (fun b => m (c, b)) 36 (Proc.tc.devRef main_v19)) (ix3 b s l) = 0 := by
  after_reads_at

theorem zero2_at (c : Dev nD) (b : Fin 4) (s : Fin 8192) (l : Fin 48) :
    (show S4x8192x48.Idx → EReal from StableHlo.upto hostOps0 (fun b => m (c, b)) 36 (Proc.tc.devRef main_v25)) (ix3 b s l) = 0 := by
  after_reads_at

theorem sin_at (c : Dev nD) (b : Fin 4) (s : Fin 8192) (l : Fin 8) :
    (show S4x8192x8.Idx → EReal from StableHlo.upto hostOps0 (fun b => m (c, b)) 41 (Proc.tc.devRef main_v18)) (ix3 b s l) = sinT (m ((c : Thread nD τ).loc main_arg3)) (ix3 b s l) := by
  refine congrFun (?_ : (show S4x8192x8.Idx → EReal from _) = _) (ix3 b s l)
  after_reads_simp
  rfl

theorem zero3_at (c : Dev nD) (b : Fin 4) (s : Fin 8192) (l : Fin 8) :
    (show S4x8192x8.Idx → EReal from StableHlo.upto hostOps0 (fun b => m (c, b)) 41 (Proc.tc.devRef main_v19)) (ix3 b s l) = 0 := by
  after_reads_at

theorem zero4_at (c : Dev nD) (b : Fin 4) (s : Fin 8192) (l : Fin 48) :
    (show S4x8192x48.Idx → EReal from StableHlo.upto hostOps0 (fun b => m (c, b)) 41 (Proc.tc.devRef main_v28)) (ix3 b s l) = 0 := by
  after_reads_at

theorem pick {k : ℕ} (f0 : k < 0 → EReal) (f1 : ¬ k < 0 → k < 8 → EReal) (f2 : ¬ k < 0 → ¬ k < 8 → k - 8 < 8 → EReal) (f3 : ¬ k < 0 → ¬ k < 8 → ¬ k - 8 < 8 → EReal) (r : EReal)
    (e1 : ∀ h h', f1 h h' = r) (e2 : ∀ h h' h'', f2 h h' h'' = r) (e3 : ∀ h h' h'', f3 h h' h'' = r) :
    (if h : k < 0 then f0 h else if h' : k < 8 then f1 h h' else if h'' : k - 8 < 8 then f2 h h' h'' else f3 h h' h'') = r := by
  rw [dif_neg (Nat.not_lt_zero k)]
  split_ifs with h h'
  · exact e1 _ h
  · exact e2 _ h h'
  · exact e3 _ h h'

theorem V_c (c : Dev nD) (n : Fin 32768) (l : Fin 128) : (show S32768x128.Idx → EReal from V m c main_v33) (ix2 n l)
    = EvenMath.tabC (fun j => cosT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (cos_at m c _ _ _).trans (Eq.symm ?_)
    unfold EvenMath.tabC
    split_ifs <;> first | rfl | omega
  · refine (cos_at m c _ _ _).trans (Eq.symm ?_)
    unfold EvenMath.tabC
    split_ifs <;> first | rfl | omega
  · refine (one_at m c _ _ _).trans (Eq.symm ?_)
    unfold EvenMath.tabC
    split_ifs <;> first | rfl | omega

theorem V_s1 (c : Dev nD) (n : Fin 32768) (l : Fin 128) : (show S32768x128.Idx → EReal from V m c main_v37) (ix2 n l)
    = EvenMath.tabS1 (fun j => sinT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (neg_at m c _ _ _).trans (Eq.symm ?_)
    unfold EvenMath.tabS1
    split_ifs <;> first | rfl | omega
  · refine (zero1_at m c _ _ _).trans (Eq.symm ?_)
    unfold EvenMath.tabS1
    split_ifs <;> first | rfl | omega
  · refine (zero2_at m c _ _ _).trans (Eq.symm ?_)
    unfold EvenMath.tabS1
    split_ifs <;> first | rfl | omega

theorem V_s2 (c : Dev nD) (n : Fin 32768) (l : Fin 128) : (show S32768x128.Idx → EReal from V m c main_v41) (ix2 n l)
    = EvenMath.tabS2 (fun j => sinT (m ((c : Thread nD τ).loc main_arg3)) (ix3 ⟨n.val / 8192, by omega⟩ ⟨n.val % 8192, by omega⟩ j)) l := by
  have hl := l.isLt
  unfold V
  after_reads_at
  refine pick _ _ _ _ _ (fun _ h => ?_) (fun _ h h' => ?_) fun _ h h' => ?_
  · refine (zero3_at m c _ _ _).trans (Eq.symm ?_)
    unfold EvenMath.tabS2
    split_ifs <;> first | rfl | omega
  · refine (sin_at m c _ _ _).trans (Eq.symm ?_)
    unfold EvenMath.tabS2
    split_ifs <;> first | rfl | omega
  · refine (zero4_at m c _ _ _).trans (Eq.symm ?_)
    unfold EvenMath.tabS2
    split_ifs <;> first | rfl | omega

end Cert.Kernel5Ideal.Block
-- ==== Proof.OddClaims.lean ====
module

public import proofs.«01_k».proof.Defs
public import proofs.«01_k».proof.Proof.Gen.Kernel5.Frame
public import proofs.«01_k».proof.Proof.OddRef
public import proofs.«01_k».proof.Proof.OddHost
@[expose] public section

set_option maxRecDepth 16384
noncomputable section

/-! The claims about the input projection of the odd layers. -/

namespace Cert.Proof.Odd

open Cert.Kernel5Ideal.Block Cert.Kernel5Ideal.Gen
open Idealize.ShloMosaic Idealize.ShloMosaic.TcCoe Idealize.SL.Sem

theorem frame_p : Cert.quiescent_Kernel5 (hKernel5 := Cert.Kernel5.Gen.facts) := fun m ρ _ =>
  Cert.Kernel5.Gen.frame (F := Bits) m ρ

theorem frame_pi : Cert.quiescent_Kernel5Ideal (hKernel5Ideal := Cert.Kernel5Ideal.Gen.facts) := fun m ρ _ =>
  Cert.Kernel5Ideal.Gen.frame (F := Ideal) m ρ

theorem frame_ri : Cert.quiescent_Reference5Ideal (hReference5Ideal := Cert.Reference5Ideal.Gen.facts) := fun m ρ _ =>
  θ_run_mono (Cert.Reference5Ideal.Value.run (F := Ideal) m ρ) fun r h => ⟨fun c => (h c).2.2, sem_eq_zero_of_no_sems (by decide) r.2⟩

variable (m : (ℓ : Loc Cert.Kernel5Ideal.nD Cert.Kernel5Ideal.τ Cert.Kernel5Ideal.sig) → Buf (Elt Ideal) ℓ) (c : Dev Cert.Kernel5Ideal.nD)

/-- A row of the call's product is the row of the reference's, its columns in the order of the call. -/
theorem prod_eq (n : Fin 32768) (e : Fin 1920) :
    prod (fun e => (V m c Cert.Kernel5Ideal.main_v57 : Cert.Kernel5Ideal.S32768x1024.Idx → EReal) (ix2 n e)) (fun e => (V m c Cert.Kernel5Ideal.main_v60 : Cert.Kernel5Ideal.S1x1024.Idx → EReal) (ix2 0 e))
      (fun k e => (V m c Cert.Kernel5Ideal.main_v59 : Cert.Kernel5Ideal.S1024x1920.Idx → EReal) (ix2 k e)) e
      = Cert.OddMath.col (Cert.Reference5Ideal.At.line (m ((c.tc : Thread Cert.Kernel5Ideal.nD Cert.Kernel5Ideal.τ).loc Cert.Kernel5Ideal.main_arg0))
          (m ((c.tc : Thread Cert.Kernel5Ideal.nD Cert.Kernel5Ideal.τ).loc Cert.Kernel5Ideal.main_arg1))
          (m ((c.tc : Thread Cert.Kernel5Ideal.nD Cert.Kernel5Ideal.τ).loc Cert.Kernel5Ideal.main_arg2)) n) e.val := by
  have e0 := funext fun e => V_x m c n e
  have e1 := funext fun e => V_g m c e
  have e2 := funext fun k => funext fun e => V_w m c k e
  refine (congrArg (fun f => f e) (congr (congr (congrArg prod e0) e1) e2)).trans ?_
  exact Cert.OddMath.sum_col _ _ e.val

theorem result_eq :
    Cert.Reference5Ideal.At.whole (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3)) = result m c :=
  ext2 (a := 32768) (n := 768) fun n d => by
    refine (Cert.Reference5Ideal.At.whole_at _ _ _ _ n d).trans ?_
    have e0 := funext fun e : Fin 768 => prod_eq m c n ⟨e.val, by omega⟩
    have e3 := funext fun l => V_c m c n l
    have e4 := funext fun l => V_s1 m c n l
    have e5 := funext fun l => V_s2 m c n l
    refine Eq.trans (Eq.symm ?_) (result_at m c n d).symm
    refine (congrArg (fun f => f d) (congr (congr (congr (congrArg Cert.OddMath.byTables e0) e3) e4) e5)).trans ?_
    exact Cert.OddMath.tables _ _ _ d

theorem result'_eq :
    Cert.Reference5Ideal.At.whole' (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)) = result' m c :=
  ext2 (a := 32768) (n := 1152) fun n d =>
    (Cert.Reference5Ideal.At.whole'_at _ _ _ n d).trans ((prod_eq m c n ⟨768 + d.val, by omega⟩).symm.trans (result'_at m c n d).symm)

theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => result m c, fun c => result' m c, ?_, ?_⟩
  · exact θ_run_mono (Cert.Kernel5Ideal.Value.run_blocks (F := Ideal) m ρ) fun r h c => ⟨(h c).1.trans (final m c), (h c).2.1.trans (final' m c), (h c).2.2⟩
  · refine θ_run_mono (Cert.Reference5Ideal.Value.run (F := Ideal) m' ρ') fun r h c => ⟨(h c).1.trans ?_, (h c).2.1.trans ?_, (h c).2.2⟩
    · obtain ⟨h0, h1, h2, h3⟩ := hagree c
      refine (Cert.Reference5Ideal.At.result_eq m' c).trans ?_
      rw [h0, h1, h2, h3]
      exact result_eq m c
    · obtain ⟨h0, h1, h2, h3⟩ := hagree c
      refine (Cert.Reference5Ideal.At.result'_eq m' c).trans ?_
      rw [h0, h1, h2]
      exact result'_eq m c

end Cert.Proof.Odd
-- ==== Proof.LatMath.lean ====
module

public import proofs.«01_k».proof.Proof.EvenMath
@[expose] public section

set_option maxRecDepth 16384
noncomputable section

/-! One row of the projection of the latent queries: heads of 96 entries in slots of 128 lanes, the last 32 entries of a head rotated, by
tables of 128 lanes and head by head. -/

namespace Cert.LatMath

open Idealize.ShloMosaic

/-- The root-mean-square norm of a latent. -/
def norm (h g : Fin 256 → EReal) (d : Fin 256) : EReal :=
  h d * Ideal.rsqrt (Ideal.div (∑ e, h e * h e) (Ideal.ofBits .f32 0x43800000#32) + Ideal.ofBits .f32 0x3727C5AC#32) * g d

/-- The row with rotation by tables: lanes 16 to the right and 16 to the left inside each 128. -/
def byTables (y : Fin 1024 → EReal) (C S1 S2 : Fin 128 → EReal) (e : Fin 1024) : EReal :=
  y e * C ⟨e.val % 128, by omega⟩ + y ⟨128 * (e.val / 128) + (e.val % 128 + 16) % 128, by omega⟩ * S1 ⟨e.val % 128, by omega⟩
    + y ⟨128 * (e.val / 128) + (e.val % 128 + 112) % 128, by omega⟩ * S2 ⟨e.val % 128, by omega⟩

/-- The row with entries 64 to 96 of every 128 rotated. -/
def out (y : Fin 1024 → EReal) (c s : Fin 16 → EReal) (e : Fin 1024) : EReal :=
  if h : e.val % 128 < 64 then y e
  else if h' : e.val % 128 - 64 < 16 then
    y e * c ⟨e.val % 128 - 64, h'⟩ - y ⟨(e.val + 16) % 1024, by omega⟩ * s ⟨e.val % 128 - 64, h'⟩
  else if h'' : e.val % 128 - 64 - 16 < 16 then
    y e * c ⟨e.val % 128 - 64 - 16, h''⟩ + y ⟨e.val - 16, by omega⟩ * s ⟨e.val % 128 - 64 - 16, h''⟩
  else y e

/-- The three tables. -/
def tabC (c : Fin 16 → EReal) (l : Fin 128) : EReal :=
  if h : l.val < 64 then 1 else if h' : l.val - 64 < 16 then c ⟨l.val - 64, h'⟩
  else if h'' : l.val - 64 - 16 < 16 then c ⟨l.val - 64 - 16, h''⟩ else 1
def tabS1 (s : Fin 16 → EReal) (l : Fin 128) : EReal :=
  if h : l.val < 64 then 0 else if h' : l.val - 64 < 16 then -s ⟨l.val - 64, h'⟩
  else if h'' : l.val - 64 - 16 < 16 then 0 else 0
def tabS2 (s : Fin 16 → EReal) (l : Fin 128) : EReal :=
  if h : l.val < 64 then 0 else if h' : l.val - 64 < 16 then 0
  else if h'' : l.val - 64 - 16 < 16 then s ⟨l.val - 64 - 16, h''⟩ else 0

theorem tables (y : Fin 1024 → EReal) (c s : Fin 16 → EReal) (e : Fin 1024) :
    byTables y (tabC c) (tabS1 s) (tabS2 s) e = out y c s e := by
  have he := e.isLt
  unfold byTables out tabC tabS1 tabS2
  by_cases h : e.val % 128 < 64
  · simp only [dif_pos h, mul_one, mul_zero, add_zero]
  · by_cases h' : e.val % 128 - 64 < 16
    · have hi : (⟨128 * (e.val / 128) + (e.val % 128 + 16) % 128, by omega⟩ : Fin 1024) = ⟨(e.val + 16) % 1024, by omega⟩ :=
        Fin.ext (by simp only; omega)
      simp only [dif_neg h, dif_pos h', mul_zero, add_zero, mul_neg, sub_eq_add_neg, hi]
    · by_cases h'' : e.val % 128 - 64 - 16 < 16
      · have hi : (⟨128 * (e.val / 128) + (e.val % 128 + 112) % 128, by omega⟩ : Fin 1024) = ⟨e.val - 16, by omega⟩ :=
          Fin.ext (by simp only; omega)
        simp only [dif_neg h, dif_neg h', dif_pos h'', mul_zero, add_zero, hi]
      · simp only [dif_neg h, dif_neg h', dif_neg h'', mul_one, mul_zero, add_zero]

/-- A row of heads of 96 entries in slots of 128, the rest of each slot zero. -/
def col (w : Fin 768 → EReal) (e : Fin 1024) : EReal :=
  if h : e.val % 128 < 96 then w ⟨e.val / 128 * 96 + e.val % 128, by omega⟩ else 0

theorem col_eq (w : Fin 768 → EReal) (e : Fin 1024) (n : ℕ) (hn : n < 768) (h : e.val % 128 < 96) (he : e.val / 128 * 96 + e.val % 128 = n) : col w e = w ⟨n, hn⟩ := by
  subst he
  exact dif_pos h

theorem sum_col (z : Fin 256 → EReal) (W : Fin 256 → Fin 768 → EReal) (e : Fin 1024) :
    ∑ k, z k * col (W k) e = col (fun e => ∑ k, z k * W k e) e := by
  by_cases h : e.val % 128 < 96
  · simp only [col, dif_pos h]
  · simp only [col, dif_neg h, mul_zero, Finset.sum_const_zero]

end Cert.LatMath
-- ==== Proof.LatRef.lean ====
module

public import proofs.«01_k».proof.Proof.Gen.Reference6Ideal.Run
public import proofs.«01_k».proof.Proof.LatMath
public import Idealize.ShloMosaic.Lib.Claim
public import Idealize.ShloMosaic.Lib.WordCmp
public import Idealize.ShloMosaic.Lib.Pointwise
@[expose] public section

set_option maxRecDepth 16384
set_option maxHeartbeats 1000000
noncomputable section

/-! The result of the reference of the projection of the latent queries, row by row. -/

namespace Cert.Reference6Ideal.At

open Cert.Reference6Ideal Cert.Reference6Ideal.Gen
open Idealize.ShloMosaic Idealize.ShloMosaic.TcCoe Idealize.ShloMosaic.Tactic
open Idealize.SL.Sem

/-- The latent: 256 columns of the stream from column 512 on. -/
def lat (Y : FVec Ideal S32768x1152 .f32) : FVec Ideal S4x8192x256 .f32 :=
  extractStridedSlice S4x8192x256 ![0, 0, 512] (shapeCast S4x8192x1152 Y shapeCasts_S32768x1152_S4x8192x1152) slices_S4x8192x1152_S4x8192x256_0_0_512
/-- The root-mean-square norm. -/
def norm (H : FVec Ideal S4x8192x256 .f32) (g : FVec Ideal S256 .f32) : FVec Ideal S4x8192x256 .f32 :=
  mulf (mulf H (broadcastInDim S4x8192x256 ![0, 1, 2] bcast_S4x8192x1_S4x8192x256_0_1_2 (Host.rsqrt (addf
    (Host.divf (broadcastInDim S4x8192x1 ![0, 1] bcast_S4x8192_S4x8192x1_0_1
      (Host.reduceAdd (mulf H H) (constant S_ .f32 0x00000000#32) reducesTo_S4x8192x256_S4x8192_d2 h_S_))
      (broadcastInDim S4x8192x1 ![] bcast_S_S4x8192x1 (constant S_ .f32 0x43800000#32)))
    (broadcastInDim S4x8192x1 ![] bcast_S_S4x8192x1 (constant S_ .f32 0x3727C5AC#32))))))
    (broadcastInDim S4x8192x256 ![0, 1, 2] bcast_S1x1x256_S4x8192x256_0_1_2 (broadcastInDim S1x1x256 ![2] bcast_S256_S1x1x256_2 g))
/-- The product with the weight, in heads. -/
def prod (Z : FVec Ideal S4x8192x256 .f32) (W : FVec Ideal S256x768 .f32) : FVec Ideal S4x8192x8x96 .f32 :=
  shapeCast S4x8192x8x96 (Host.dotGeneral dot_S4x8192x256_S256x768_S4x8192x768_2_0_01_1_n_n none Z W) shapeCasts_S4x8192x768_S4x8192x8x96
/-- The rotation angles of the positions. -/
def ang (P : (⟨S4x8192, .i32⟩ : BufTy).Contents (Elt Ideal)) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp .f32 P)))
    (broadcastInDim S4x8192x16 ![0, 1, 2] bcast_S1x1x16_S4x8192x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))
/-- The rotary embedding of the last 32 entries of each head. -/
def rope (Y : FVec Ideal S4x8192x8x96 .f32) (C S : FVec Ideal S4x8192x16 .f32) : FVec Ideal S4x8192x8x32 .f32 :=
  concatenate S4x8192x8x32 3
    [⟨S4x8192x8x16, subf (mulf (extractStridedSlice S4x8192x8x16 ![0, 0, 0, 0] (extractStridedSlice S4x8192x8x32 ![0, 0, 0, 64] Y slices_S4x8192x8x96_S4x8192x8x32_0_0_0_64) slices_S4x8192x8x32_S4x8192x8x16_0_0_0_0) (broadcastInDim S4x8192x8x16 ![0, 1, 2, 3] bcast_S4x8192x1x16_S4x8192x8x16_0_1_2_3 (broadcastInDim S4x8192x1x16 ![0, 1, 3] bcast_S4x8192x16_S4x8192x1x16_0_1_3 C)))
      (mulf (extractStridedSlice S4x8192x8x16 ![0, 0, 0, 16] (extractStridedSlice S4x8192x8x32 ![0, 0, 0, 64] Y slices_S4x8192x8x96_S4x8192x8x32_0_0_0_64) slices_S4x8192x8x32_S4x8192x8x16_0_0_0_16) (broadcastInDim S4x8192x8x16 ![0, 1, 2, 3] bcast_S4x8192x1x16_S4x8192x8x16_0_1_2_3 (broadcastInDim S4x8192x1x16 ![0, 1, 3] bcast_S4x8192x16_S4x8192x1x16_0_1_3 S)))⟩,
     ⟨S4x8192x8x16, addf (mulf (extractStridedSlice S4x8192x8x16 ![0, 0, 0, 16] (extractStridedSlice S4x8192x8x32 ![0, 0, 0, 64] Y slices_S4x8192x8x96_S4x8192x8x32_0_0_0_64) slices_S4x8192x8x32_S4x8192x8x16_0_0_0_16) (broadcastInDim S4x8192x8x16 ![0, 1, 2, 3] bcast_S4x8192x1x16_S4x8192x8x16_0_1_2_3 (broadcastInDim S4x8192x1x16 ![0, 1, 3] bcast_S4x8192x16_S4x8192x1x16_0_1_3 C)))
      (mulf (extractStridedSlice S4x8192x8x16 ![0, 0, 0, 0] (extractStridedSlice S4x8192x8x32 ![0, 0, 0, 64] Y slices_S4x8192x8x96_S4x8192x8x32_0_0_0_64) slices_S4x8192x8x32_S4x8192x8x16_0_0_0_0) (broadcastInDim S4x8192x8x16 ![0, 1, 2, 3] bcast_S4x8192x1x16_S4x8192x8x16_0_1_2_3 (broadcastInDim S4x8192x1x16 ![0, 1, 3] bcast_S4x8192x16_S4x8192x1x16_0_1_3 S)))⟩,
     ⟨S4x8192x8x0, extractStridedSlice S4x8192x8x0 ![0, 0, 0, 32] (extractStridedSlice S4x8192x8x32 ![0, 0, 0, 64] Y slices_S4x8192x8x96_S4x8192x8x32_0_0_0_64) slices_S4x8192x8x32_S4x8192x8x0_0_0_0_32⟩]
    concatenates_S4x8192x8x16_S4x8192x8x16_S4x8192x8x0_S4x8192x8x32_d3
/-- The heads in slots of 128. -/
def joined (Y : FVec Ideal S4x8192x8x96 .f32) (C S : FVec Ideal S4x8192x16 .f32) : FVec Ideal S4x8192x8x128 .f32 :=
  concatenate S4x8192x8x128 3
    [⟨S4x8192x8x64, extractStridedSlice S4x8192x8x64 ![0, 0, 0, 0] Y slices_S4x8192x8x96_S4x8192x8x64_0_0_0_0⟩,
     ⟨S4x8192x8x32, rope Y C S⟩,
     ⟨S4x8192x8x32, broadcastInDim S4x8192x8x32 ![] bcast_S_S4x8192x8x32 (constant S_ .f32 0x00000000#32)⟩]
    concatenates_S4x8192x8x64_S4x8192x8x32_S4x8192x8x32_S4x8192x8x128_d3
/-- The reference as one expression of its arguments. -/
def whole (Y : FVec Ideal S32768x1152 .f32) (g : FVec Ideal S256 .f32) (W : FVec Ideal S256x768 .f32) (P : (⟨S4x8192, .i32⟩ : BufTy).Contents (Elt Ideal)) : FVec Ideal S32768x1024 .bf16 :=
  truncf .bf16 (shapeCast S32768x1024 (joined (prod (norm (lat Y) g) W) (Host.cos (ang P)) (Host.sin (ang P))) shapeCasts_S4x8192x8x128_S32768x1024) bitsLt_bf16_f32

theorem lat_at (Y : FVec Ideal S32768x1152 .f32) (b : Fin 4) (s : Fin 8192) (d : Fin 256) :
    (lat Y : S4x8192x256.Idx → EReal) (ix3 b s d) = Y (ix2 ⟨b.val * 8192 + s.val, by omega⟩ ⟨512 + d.val, by omega⟩) := by
  pointwise [lat]
theorem norm_at (H : FVec Ideal S4x8192x256 .f32) (g : FVec Ideal S256 .f32) (b : Fin 4) (s : Fin 8192) (d : Fin 256) :
    (norm H g : S4x8192x256.Idx → EReal) (ix3 b s d) = LatMath.norm (fun e => H (ix3 b s e)) (fun e => g (ix1 e)) d := by
  pointwise [norm]
  rfl
theorem prod_at (Z : FVec Ideal S4x8192x256 .f32) (W : FVec Ideal S256x768 .f32) (b : Fin 4) (s : Fin 8192) (h : Fin 8) (l : Fin 96) :
    (prod Z W : S4x8192x8x96.Idx → EReal) (ix4 b s h l) = ∑ k : Fin 256, (Z : S4x8192x256.Idx → EReal) (ix3 b s k) * (W : S256x768.Idx → EReal) (ix2 k ⟨h.val * 96 + l.val, by omega⟩) := by
  pointwise [prod]
theorem rope_at (Y : FVec Ideal S4x8192x8x96 .f32) (C S : FVec Ideal S4x8192x16 .f32) (b : Fin 4) (s : Fin 8192) (h : Fin 8) (l : Fin 32) :
    (rope Y C S : S4x8192x8x32.Idx → EReal) (ix4 b s h l)
      = if h' : l.val < 16 then Y (ix4 b s h ⟨64 + l.val, by omega⟩) * C (ix3 b s ⟨l.val, h'⟩) - Y (ix4 b s h ⟨64 + (16 + l.val), by omega⟩) * S (ix3 b s ⟨l.val, h'⟩)
        else Y (ix4 b s h ⟨64 + (16 + (l.val - 16)), by omega⟩) * C (ix3 b s ⟨l.val - 16, by omega⟩) + Y (ix4 b s h ⟨64 + (l.val - 16), by omega⟩) * S (ix3 b s ⟨l.val - 16, by omega⟩) := by
  have hl := l.isLt
  pointwise [rope]
  refine dite_congr rfl (fun h1 => rfl) fun h1 => ?_
  have h1' : ¬ l.val < 16 := h1
  exact dif_pos (by omega)
theorem joined_at (Y : FVec Ideal S4x8192x8x96 .f32) (C S : FVec Ideal S4x8192x16 .f32) (b : Fin 4) (s : Fin 8192) (h : Fin 8) (l : Fin 128) :
    (joined Y C S : S4x8192x8x128.Idx → EReal) (ix4 b s h l)
      = if h' : l.val < 64 then Y (ix4 b s h ⟨l.val, by omega⟩)
        else if h' : l.val - 64 < 32 then (rope Y C S : S4x8192x8x32.Idx → EReal) (ix4 b s h ⟨l.val - 64, h'⟩)
        else 0 := by
  have hl := l.isLt
  pointwise [joined]
theorem cast_at (Y : FVec Ideal S4x8192x8x128 .f32) (n : Fin 32768) (d : Fin 1024) :
    (truncf .bf16 (shapeCast S32768x1024 Y shapeCasts_S4x8192x8x128_S32768x1024) bitsLt_bf16_f32 : S32768x1024.Idx → EReal) (ix2 n d)
      = Y (ix4 ⟨n.val / 8192, by omega⟩ ⟨n.val % 8192, by omega⟩ ⟨d.val / 128, by omega⟩ ⟨d.val % 128, by omega⟩) := by
  pointwise

/-- A row of the product. -/
def line (z : Fin 256 → EReal) (W : FVec Ideal S256x768 .f32) (d : Fin 768) : EReal := ∑ k : Fin 256, z k * (W : S256x768.Idx → EReal) (ix2 k d)

theorem whole_at (Y : FVec Ideal S32768x1152 .f32) (g : FVec Ideal S256 .f32) (W : FVec Ideal S256x768 .f32) (P : (⟨S4x8192, .i32⟩ : BufTy).Contents (Elt Ideal)) (n : Fin 32768) (e : Fin 1024) :
    (whole Y g W P : S32768x1024.Idx → EReal) (ix2 n e)
      = LatMath.out (LatMath.col (line (LatMath.norm (fun e => Y (ix2 n ⟨512 + e.val, by omega⟩)) (fun e => g (ix1 e))) W))
          (fun j => (Host.cos (ang P) : S4x8192x16.Idx → EReal) (ix3 ⟨n.val / 8192, by omega⟩ ⟨n.val % 8192, by omega⟩ j))
          (fun j => (Host.sin (ang P) : S4x8192x16.Idx → EReal) (ix3 ⟨n.val / 8192, by omega⟩ ⟨n.val % 8192, by omega⟩ j)) e := by
  have he := e.isLt
  have hn : (⟨n.val / 8192 * 8192 + n.val % 8192, by omega⟩ : Fin 32768) = n := Fin.ext (by simp only; omega)
  have hp : ∀ (l : Fin 96), (prod (norm (lat Y) g) W : S4x8192x8x96.Idx → EReal) (ix4 ⟨n.val / 8192, by omega⟩ ⟨n.val % 8192, by omega⟩ ⟨e.val / 128, by omega⟩ l)
      = line (LatMath.norm (fun e => Y (ix2 n ⟨512 + e.val, by omega⟩)) (fun e => g (ix1 e))) W ⟨e.val / 128 * 96 + l.val, by omega⟩ := by
    intro l
    rw [prod_at]
    simp only [norm_at, lat_at, hn]
    rfl
  unfold whole
  rw [cast_at, joined_at]
  generalize line (LatMath.norm (fun e => Y (ix2 n ⟨512 + e.val, by omega⟩)) (fun e => g (ix1 e))) W = y at hp ⊢
  unfold LatMath.out
  refine dite_congr rfl (fun h => ?_) fun h => ?_
  · exact (hp _).trans (LatMath.col_eq y e _ _ (lt_trans h (by norm_num)) rfl).symm
  have h' : ¬ e.val % 128 < 64 := h
  simp only [rope_at, hp]
  by_cases h1 : e.val % 128 - 64 < 16
  · have h2 : e.val % 128 - 64 < 32 := by omega
    rw [dif_pos h2, dif_pos h1, dif_pos h1, LatMath.col_eq y e (e.val / 128 * 96 + (64 + (e.val % 128 - 64))) (by omega) (by omega) (by omega),
      LatMath.col_eq y ⟨(e.val + 16) % 1024, by omega⟩ (e.val / 128 * 96 + (64 + (16 + (e.val % 128 - 64)))) (by omega) (by simp only; omega) (by simp only; omega)]
  · by_cases h3 : e.val % 128 - 64 - 16 < 16
    · have h2 : e.val % 128 - 64 < 32 := by omega
      rw [dif_pos h2, dif_neg h1, dif_neg h1, dif_pos h3, LatMath.col_eq y e (e.val / 128 * 96 + (64 + (16 + (e.val % 128 - 64 - 16)))) (by omega) (by omega) (by omega),
        LatMath.col_eq y ⟨e.val - 16, by omega⟩ (e.val / 128 * 96 + (64 + (e.val % 128 - 64 - 16))) (by omega) (by simp only; omega) (by simp only; omega)]
    · have h2 : ¬ e.val % 128 - 64 < 32 := by omega
      rw [dif_neg h2, dif_neg h1, dif_neg h3]
      unfold LatMath.col
      rw [dif_neg (by omega)]

theorem result_eq (m : (ℓ : Loc nD τ sig) → Buf (Elt Ideal) ℓ) (c : Dev nD) :
    Value.res_main_v57 m c = whole (m ((c.tc : Thread nD τ).loc main_arg0)) (m ((c.tc : Thread nD τ).loc main_arg1)) (m ((c.tc : Thread nD τ).loc main_arg2))
      (m ((c.tc : Thread nD τ).loc main_arg3)) := rfl

end Cert.Reference6Ideal.At
-- ==== Proof.LatBlock.lean ====
module

public import proofs.«01_k».proof.Proof.Gen.Kernel6Ideal.Value
public import proofs.«01_k».proof.Proof.LatMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Writes
public import Idealize.ShloMosaic.Lib.Pipeline.Value
public import Idealize.ShloMosaic.Lib.Pipeline.ValueKit
@[expose] public section

set_option maxRecDepth 16384
set_option maxHeartbeats 1000000
noncomputable section

/-! The projection of the latent queries: its block at an element, and the array its launch leaves. -/

namespace Cert.Kernel6Ideal.Block

open Cert.Kernel6Ideal Cert.Kernel6Ideal.Gen
open Idealize.ShloMosaic Idealize.ShloMosaic.TcCoe Idealize.ShloMosaic.Tactic
open Idealize.SL.Sem

theorem zz : (![0, 0] : Fin 2 → ℕ) = fun _ => 0 := by decide

/-! ## The payloads -/

theorem norm_at (x : Vec Ideal S512x256 .f32) (g : Vec Ideal S1x256 .f32) (r : Fin 512) (d : Fin 256) :
    (k0_pay2 (F := Ideal) x g : S512x256.Idx → EReal) (ix2 r d) = LatMath.norm (fun e => x (ix2 r e)) (fun e => g (ix2 0 e)) d := by
  pointwise [k0_pay2]
  rfl

/-- One chunk of 512 columns of the product. -/
def chunk (Z : FVec Ideal S512x256 .bf16) (W : FVec Ideal S256x512 .bf16) : FVec Ideal S512x512 .f32 :=
  matmul dot_S512x256_S256x512_S512x512_1_0_0_1_n_n none Z W (constant S512x512 .f32 0x00000000#32)

theorem chunk_at (Z : FVec Ideal S512x256 .bf16) (X : Vec Ideal S256x1024 .bf16) (o : ℕ) (inb : ∀ a : Fin 2, (![0, o] : Fin 2 → ℕ) a + (![256, 512] : Fin 2 → ℕ) a ≤ S256x1024.size a)
    (r : Fin 512) (e : Fin 512) (he : o + e.val < 1024) :
    (chunk Z (View.ld X (Rect.unit (s := S256x1024) ![0, o] ![256, 512] inb)) : S512x512.Idx → EReal) (ix2 r e)
      = ∑ k : Fin 256, (Z : S512x256.Idx → EReal) (ix2 r k) * (X : S256x1024.Idx → EReal) (ix2 k ⟨o + e.val, he⟩) := by
  rw [View.ld_unit]
  pointwise [chunk]

/-- The rotation of 128 lanes of a chunk. -/
def seg (o : ℕ) (h : S512x512.Slices ![0, o] S512x128) (Y : FVec Ideal S512x512 .f32) (c s1 s2 : FVec Ideal S512x128 .f32) : FVec Ideal S512x128 .bf16 :=
  truncf .bf16 (addf (addf (mulf (extractStridedSlice S512x128 ![0, o] Y h) c)
    (mulf (dynamicRotate 1 112#32 none (extractStridedSlice S512x128 ![0, o] Y h) rotates_S512x128_d1) s1))
    (mulf (dynamicRotate 1 16#32 none (extractStridedSlice S512x128 ![0, o] Y h) rotates_S512x128_d1) s2)) bitsLt_bf16_f32

theorem seg_at (o : ℕ) (h : S512x512.Slices ![0, o] S512x128) (ho : o + 128 ≤ 512) (Y : FVec Ideal S512x512 .f32) (c s1 s2 : FVec Ideal S512x128 .f32) (r : Fin 512) (l : Fin 128) :
    (seg o h Y c s1 s2 : S512x128.Idx → EReal) (ix2 r l)
      = Y (ix2 r ⟨o + l.val, by omega⟩) * c (ix2 r l) + Y (ix2 r ⟨o + (l.val + 16) % 128, by omega⟩) * s1 (ix2 r l)
        + Y (ix2 r ⟨o + (l.val + 112) % 128, by omega⟩) * s2 (ix2 r l) := by
  have h1 : (l.val + 16) % 128 = (l.val + 128 - 112) % 128 := by omega
  have h2 : (l.val + 112) % 128 = (l.val + 128 - 16) % 128 := by omega
  simp only [h1, h2]
  pointwise [seg]

/-! ## The block -/

/-- The block, row by row. -/
def G (x0 : Vec Ideal S512x256 .f32) (x1 : Vec Ideal S1x256 .f32) (x2 : Vec Ideal S256x1024 .bf16) (x3 x4 x5 : Vec Ideal S512x128 .f32) : S512x1024.Idx → EReal := fun j =>
  LatMath.byTables (fun e => ∑ k : Fin 256, (k0_pay2 (F := Ideal) x0 x1 : S512x256.Idx → EReal) (ix2 (j 0) k) * (x2 : S256x1024.Idx → EReal) (ix2 k e))
    (fun l => (x3 : S512x128.Idx → EReal) (ix2 (j 0) l)) (fun l => (x4 : S512x128.Idx → EReal) (ix2 (j 0) l)) (fun l => (x5 : S512x128.Idx → EReal) (ix2 (j 0) l)) (j 1)

theorem seg_eq (x0 : Vec Ideal S512x256 .f32) (x1 : Vec Ideal S1x256 .f32) (x2 : Vec Ideal S256x1024 .bf16) (x3 x4 x5 : Vec Ideal S512x128 .f32) (q o p : ℕ)
    (h : S512x512.Slices ![0, o] S512x128) (inb : ∀ a : Fin 2, (![0, q] : Fin 2 → ℕ) a + (![256, 512] : Fin 2 → ℕ) a ≤ S256x1024.size a)
    (inb' : ∀ a : Fin 2, (![0, p] : Fin 2 → ℕ) a + (![512, 128] : Fin 2 → ℕ) a ≤ S512x1024.size a)
    (ho : o + 128 ≤ 512) (hq : q ≤ 512) (hp : p = q + o) (hd : p % 128 = 0) (x : S512x128.Idx) :
    (seg o h (chunk (k0_pay2 (F := Ideal) x0 x1) (View.ld x2 (Rect.unit (s := S256x1024) ![0, q] ![256, 512] inb))) x3 x4 x5 : S512x128.Idx → EReal) x
      = G x0 x1 x2 x3 x4 x5 ((Rect.unit (s := S512x1024) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x1024) ![0, p] ![512, 128] inb').emb (ix2 r l) = ix2 r (⟨p + l.val, by omega⟩ : Fin 1024) := by
    funext b
    fin_cases b <;> exact Fin.ext (by simp [Rect.emb_apply, ix2])
  rw [em, seg_at o h ho, chunk_at (he := by simp only; omega), chunk_at (he := by simp only; omega), chunk_at (he := by simp only; omega)]
  show _ = LatMath.byTables _ _ _ _ (⟨p + l.val, by omega⟩ : Fin 1024)
  unfold LatMath.byTables
  have i0 : (⟨(p + l.val) % 128, by omega⟩ : Fin 128) = l := Fin.ext (by simp only; omega)
  have i1 : (⟨128 * ((p + l.val) / 128) + ((p + l.val) % 128 + 16) % 128, by omega⟩ : Fin 1024) = ⟨q + (o + (l.val + 16) % 128), by omega⟩ := Fin.ext (by simp only; omega)
  have i2 : (⟨128 * ((p + l.val) / 128) + ((p + l.val) % 128 + 112) % 128, by omega⟩ : Fin 1024) = ⟨q + (o + (l.val + 112) % 128), by omega⟩ := Fin.ext (by simp only; omega)
  have i3 : (⟨p + l.val, by omega⟩ : Fin 1024) = ⟨q + (o + l.val), by omega⟩ := Fin.ext (by simp only; omega)
  simp only [i0, i1, i2, i3]
  rfl

theorem out_at (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S256x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole)
    (x0 : Vec Ideal S512x256 .f32) (x1 : Vec Ideal S1x256 .f32) (x2 : Vec Ideal S256x1024 .bf16) (x3 x4 x5 : Vec Ideal S512x128 .f32) (y : S512x1024.Idx) :
    (out0_A_6 (F := Ideal) c i arg1 harg1 arg2 harg2 arg3 harg3 arg4 harg4 arg5 harg5 arg6 harg6 arg7 harg7 x0 x1 x2 x3 x4 x5 : S512x1024.Idx → EReal) y
      = G x0 x1 x2 x3 x4 x5 y := by
  have z0 : ∀ inb, View.ld x0 (Rect.unit (s := S512x256) ![0, 0] ![512, 256] inb) = x0 := fun _ => View.ld_unit_zero zz _ x0
  have z1 : ∀ inb, View.ld x1 (Rect.unit (s := S1x256) ![0, 0] ![1, 256] inb) = x1 := fun _ => View.ld_unit_zero zz _ x1
  have z2 : ∀ (v : Vec Ideal S512x128 .f32) inb, View.ld v (Rect.unit (s := S512x128) ![0, 0] ![512, 128] inb) = v := fun v _ => View.ld_unit_zero zz _ v
  unfold out0_A_6
  refine View.read_writes_apply_of_pieces VO0_6 _ (G x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  intro p hp
  simp only [List.mem_cons, List.mem_nil_iff, or_false] at hp
  rcases hp with rfl | rfl | rfl | rfl | rfl | rfl | rfl | rfl <;> intro x <;> dsimp only
  all_goals simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self, View.readAt_eq_ld, harg1.read_unread, harg2.read_unread, harg3.read_unread,
    harg4.read_unread, harg5.read_unread, harg6.read_unread, z0, z1, z2]
  all_goals exact seg_eq x0 x1 x2 x3 x4 x5 _ _ _ _ _ _ (by norm_num) (by norm_num) (by norm_num) (by norm_num) x

end Cert.Kernel6Ideal.Block
-- ==== Proof.LatLaunch.lean ====
module

public import proofs.«01_k».proof.Proof.LatBlock
@[expose] public section

set_option maxRecDepth 16384
set_option maxHeartbeats 1000000
noncomputable section

/-! The launch of the projection of the latent queries: its result, row by row. -/

namespace Cert.Kernel6Ideal.Block

open Cert.Kernel6Ideal Cert.Kernel6Ideal.Gen
open Idealize.ShloMosaic Idealize.ShloMosaic.TcCoe Idealize.ShloMosaic.Tactic
open Idealize.SL.Sem

/-! ## The launch -/

theorem t_lt (t : Fin cfg0.N) : t.val < 64 := lt_of_lt_of_eq t.isLt N_0

/-- The windows' index maps. -/
theorem idx : ∀ t : Fin cfg0.N, win0_0.index t = ![t.val, 2] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The block of the stream at a point: 512 rows of its columns from 512 on. -/
theorem rd0 (c : Dev nD) (t : Fin cfg0.N) (r : Fin 512) (d : Fin 256) :
    (X0_0 m c t : S512x256.Idx → EReal) (ix2 r d) = (V m c main_arg0 : S32768x1152.Idx → EReal) (ix2 ⟨512 * t.val + r.val, by have := t_lt t; omega⟩ ⟨512 + d.val, by omega⟩) := by
  have ht := t_lt t
  have hi := (idx t).1
  have e0 : win0_0.index t 0 = t.val := congrFun hi 0
  have e1 : win0_0.index t 1 = 2 := congrFun hi 1
  unfold X0_0 Pipeline.Window.fill
  rw [dif_pos (moved0_0 t _)]
  unfold iblk
  refine congrArg (V m c main_arg0 : S32768x1152.Idx → EReal) (funext fun a => Fin.ext ?_)
  fin_cases a
  · show win0_0.index t 0 * 512 + 1 * r.val = 512 * t.val + r.val
    rw [e0]; omega
  · show win0_0.index t 1 * 256 + 1 * d.val = 512 + d.val
    rw [e1]; omega
theorem rd1 (t : Fin cfg0.N) (X : S1x256.Idx → EReal) (r : Fin 1) (d : Fin 256) :
    ((cfg0.win 1).blk t).view.read (Elt Ideal) X (ix2 r d) = X (ix2 r d) := by
  blk_ext [idx t]
theorem rd2 (t : Fin cfg0.N) (X : S256x1024.Idx → EReal) (r : Fin 256) (d : Fin 1024) :
    ((cfg0.win 2).blk t).view.read (Elt Ideal) X (ix2 r d) = X (ix2 r d) := by
  blk_ext [idx t]
theorem rd3 (t : Fin cfg0.N) (X : S32768x128.Idx → EReal) (r : Fin 512) (d : Fin 128) :
    ((cfg0.win 3).blk t).view.read (Elt Ideal) X (ix2 r d) = X (ix2 ⟨512 * t.val + r.val, by have := t_lt t; omega⟩ d) := by
  have ht := t_lt t
  blk_ext [idx t]
theorem rd4 (t : Fin cfg0.N) (X : S32768x128.Idx → EReal) (r : Fin 512) (d : Fin 128) :
    ((cfg0.win 4).blk t).view.read (Elt Ideal) X (ix2 r d) = X (ix2 ⟨512 * t.val + r.val, by have := t_lt t; omega⟩ d) := by
  have ht := t_lt t
  blk_ext [idx t]
theorem rd5 (t : Fin cfg0.N) (X : S32768x128.Idx → EReal) (r : Fin 512) (d : Fin 128) :
    ((cfg0.win 5).blk t).view.read (Elt Ideal) X (ix2 r d) = X (ix2 ⟨512 * t.val + r.val, by have := t_lt t; omega⟩ d) := by
  have ht := t_lt t
  blk_ext [idx t]
theorem rd6 (t : Fin cfg0.N) (X : S32768x1024.Idx → EReal) (r : Fin 512) (d : Fin 1024) :
    ((cfg0.win 6).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- One row of the result, of a row of the stream, the gain, the weight and the rows of the tables. -/
def row (h g : Fin 256 → EReal) (W : Fin 256 → Fin 1024 → EReal) (C S1 S2 : Fin 128 → EReal) : Fin 1024 → EReal :=
  LatMath.byTables (fun e => ∑ k : Fin 256, LatMath.norm h g k * W k e) C S1 S2

theorem G_at (x0 : Vec Ideal S512x256 .f32) (x1 : Vec Ideal S1x256 .f32) (x2 : Vec Ideal S256x1024 .bf16) (x3 x4 x5 : Vec Ideal S512x128 .f32) (r : Fin 512) (d : Fin 1024) :
    G x0 x1 x2 x3 x4 x5 (ix2 r d) = row (fun e => x0 (ix2 r e)) (fun e => x1 (ix2 0 e)) (fun k e => x2 (ix2 k e)) (fun l => x3 (ix2 r l)) (fun l => x4 (ix2 r l)) (fun l => x5 (ix2 r l)) d := by
  have e : ∀ k : Fin 256, (k0_pay2 (F := Ideal) x0 x1 : S512x256.Idx → EReal) (ix2 r k) = LatMath.norm (fun e => x0 (ix2 r e)) (fun e => x1 (ix2 0 e)) k := fun k => norm_at x0 x1 r k
  show LatMath.byTables (fun e => ∑ k : Fin 256, (k0_pay2 (F := Ideal) x0 x1 : S512x256.Idx → EReal) (ix2 r k) * (x2 : S256x1024.Idx → EReal) (ix2 k e)) _ _ _ d = _
  simp only [e]
  rfl

/-- The whole result, row by row, of the arrays at the call. -/
def OUT (X0 : S32768x1152.Idx → EReal) (X1 : S1x256.Idx → EReal) (X2 : S256x1024.Idx → EReal) (X3 X4 X5 : S32768x128.Idx → EReal) : S32768x1024.Idx → EReal := fun j =>
  row (fun e => X0 (ix2 (j 0) ⟨512 + e.val, by omega⟩)) (fun e => X1 (ix2 0 e)) (fun k e => X2 (ix2 k e)) (fun l => X3 (ix2 (j 0) l)) (fun l => X4 (ix2 (j 0) l)) (fun l => X5 (ix2 (j 0) l)) (j 1)

theorem block_eq (X0 : S32768x1152.Idx → EReal) (x0 : Vec Ideal S512x256 .f32) (t : Fin cfg0.N) (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S256x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole)
    (X1 : S1x256.Idx → EReal) (X2 : S256x1024.Idx → EReal) (X3 X4 X5 : S32768x128.Idx → EReal)
    (h0 : ∀ (r : Fin 512) (e : Fin 256), (x0 : S512x256.Idx → EReal) (ix2 r e) = X0 (ix2 ⟨512 * t.val + r.val, by have := t_lt t; omega⟩ ⟨512 + e.val, by omega⟩)) :
    (out0_A_6 (F := Ideal) c i arg1 harg1 arg2 harg2 arg3 harg3 arg4 harg4 arg5 harg5 arg6 harg6 arg7 harg7 x0 (((cfg0.win 1).blk t).view.read (Elt Ideal) X1)
      (((cfg0.win 2).blk t).view.read (Elt Ideal) X2) (((cfg0.win 3).blk t).view.read (Elt Ideal) X3) (((cfg0.win 4).blk t).view.read (Elt Ideal) X4)
      (((cfg0.win 5).blk t).view.read (Elt Ideal) X5) : S512x1024.Idx → EReal)
      = ((cfg0.win 6).blk t).view.read (Elt Ideal) (OUT X0 X1 X2 X3 X4 X5) :=
  ext2 (a := 512) (n := 1024) fun r d => by
    refine (out_at c i arg1 harg1 arg2 harg2 arg3 harg3 arg4 harg4 arg5 harg5 arg6 harg6 arg7 harg7 _ _ _ _ _ _ (ix2 r d)).trans ((G_at _ _ _ _ _ _ r d).trans (Eq.trans ?_ (rd6 t (OUT X0 X1 X2 X3 X4 X5) r d).symm))
    have e0 := funext fun e => h0 r e
    have e1 := funext fun e => rd1 t X1 0 e
    have e2 := funext fun k => funext fun e => rd2 t X2 k e
    have e3 := funext fun l => rd3 t X3 r l
    have e4 := funext fun l => rd4 t X4 r l
    have e5 := funext fun l => rd5 t X5 r l
    exact congrArg (fun f => f d) (congr (congr (congr (congr (congr (congrArg row e0) e1) e2) e3) e4) e5)

/-- The result of the call. -/
def result (c : Dev nD) : S32768x1024.Idx → EReal :=
  OUT (V m c main_arg0) (V m c main_v46) (V m c main_v45) (V m c main_v33) (V m c main_v37) (V m c main_v41)

theorem result_at (c : Dev nD) (n : Fin 32768) (d : Fin 1024) : result m c (ix2 n d)
    = row (fun e => (V m c main_arg0 : S32768x1152.Idx → EReal) (ix2 n ⟨512 + e.val, by omega⟩)) (fun e => (V m c main_v46 : S1x256.Idx → EReal) (ix2 0 e))
      (fun k e => (V m c main_v45 : S256x1024.Idx → EReal) (ix2 k e)) (fun l => (V m c main_v33 : S32768x128.Idx → EReal) (ix2 n l))
      (fun l => (V m c main_v37 : S32768x128.Idx → EReal) (ix2 n l)) (fun l => (V m c main_v41 : S32768x128.Idx → EReal) (ix2 n l)) d := rfl

/-- The array the call leaves. -/
theorem final (c : Dev nD) : (dats m 0 c).arrAt 6 cfg0.N = result m c := by
  refine (dats m 0 c).arrAt_eq_of_covers 6 _ (by decide +kernel) fun t hf y => ?_
  blk_simp
  rw [after0_6]
  exact congrFun (block_eq (V m c main_arg0) (X0_0 m c t) t c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (V m c main_v46) (V m c main_v45) (V m c main_v33) (V m c main_v37) (V m c main_v41) (rd0 m c t)) y

end Cert.Kernel6Ideal.Block
-- ==== Proof.LatHost.lean ====
module

public import proofs.«01_k».proof.Proof.LatLaunch
@[expose] public section

set_option maxRecDepth 16384
set_option maxHeartbeats 1000000
noncomputable section

/-! What the host hands the projection of the latent queries. -/

namespace Cert.Kernel6Ideal.Block

open Cert.Kernel6Ideal Cert.Kernel6Ideal.Gen
open Idealize.ShloMosaic Idealize.ShloMosaic.TcCoe Idealize.ShloMosaic.Tactic
open Idealize.SL.Sem

variable (m : (ℓ : Loc nD τ sig) → Buf (Elt Ideal) ℓ)

theorem V_x (c : Dev nD) (n : Fin 32768) (d : Fin 1152) : (show S32768x1152.Idx → EReal from V m c main_arg0) (ix2 n d)
    = (show S32768x1152.Idx → EReal from m ((c : Thread nD τ).loc main_arg0)) (ix2 n d) := by
  unfold V
  after_reads_at
theorem V_g (c : Dev nD) (d : Fin 256) : (show S1x256.Idx → EReal from V m c main_v46) (ix2 0 d)
    = (show S256.Idx → EReal from m ((c : Thread nD τ).loc main_arg1)) (ix1 d) := by
  unfold V
  after_reads_at

theorem V_w (c : Dev nD) (k : Fin 256) (d : Fin 1024) : (show S256x1024.Idx → EReal from V m c main_v45) (ix2 k d)
    = LatMath.col (fun e => (show S256x768.Idx → EReal from m ((c : Thread nD τ).loc main_arg2)) (ix2 k e)) d := by
  have hd := d.isLt
  unfold V
  after_reads_at
  refine EvenMath.cases (fun h => ?_) fun h => ?_
  · refine Eq.trans ?_ (LatMath.col_eq (fun e => (show S256x768.Idx → EReal from m ((c : Thread nD τ).loc main_arg2)) (ix2 k e)) d (d.val / 128 * 96 + d.val % 128) (by omega) h.2 rfl).symm
    first | rfl | after_reads_at
  · unfold LatMath.col
    rw [dif_neg fun h2 => h ⟨by omega, h2⟩]
    simp [FloatOps.sitofp]

/-- The rotation angles of the positions. -/
def ang (P : (⟨S4x8192, .i32⟩ : BufTy).Contents (Elt Ideal)) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp .f32 P)))
    (broadcastInDim S4x8192x16 ![0, 1, 2] bcast_S1x1x16_S4x8192x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))

/-- Their cosines and sines. -/
def cosT (P : (⟨S4x8192, .i32⟩ : BufTy).Contents (Elt Ideal)) : S4x8192x16.Idx → EReal := Host.cos (ang P)
def sinT (P : (⟨S4x8192, .i32⟩ : BufTy).Contents (Elt Ideal)) : S4x8192x16.Idx → EReal := Host.sin (ang P)

theorem leafC_0 (c : Dev nD) (b : Fin 4) (s : Fin 8192) (l : Fin 64) :
    (show S4x8192x64.Idx → EReal from StableHlo.upto hostOps0 (fun b => m (c, b)) 30 (Proc.tc.devRef main_v20)) (ix3 b s l) = 1 := by
  after_reads_at

theorem leafC_1 (c : Dev nD) (b : Fin 4) (s : Fin 8192) (l : Fin 16) :
    (show S4x8192x16.Idx → EReal from StableHlo.upto hostOps0 (fun b => m (c, b)) 30 (Proc.tc.devRef main_v17)) (ix3 b s l) = cosT (m ((c : Thread nD τ).loc main_arg3)) (ix3 b s l) := by
  refine congrFun (?_ : (show S4x8192x16.Idx → EReal from _) = _) (ix3 b s l)
  after_reads_simp
  rfl

theorem leafC_3 (c : Dev nD) (b : Fin 4) (s : Fin 8192) (l : Fin 32) :
    (show S4x8192x32.Idx → EReal from StableHlo.upto hostOps0 (fun b => m (c, b)) 30 (Proc.tc.devRef main_v21)) (ix3 b s l) = 1 := by
  after_reads_at

theorem V_c (c : Dev nD) (n : Fin 32768) (l : Fin 128) : (show S32768x128.Idx → EReal from V m c main_v33) (ix2 n l)
    = LatMath.tabC (fun j => cosT (m ((c : Thread nD τ).loc main_arg3)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafC_0 m c _ _ _).trans (Eq.symm (dif_pos h))
  · refine (leafC_1 m c _ _ _).trans (Eq.symm ((dif_neg h).trans (dif_pos h')))
  · refine (leafC_1 m c _ _ _).trans (Eq.symm ((dif_neg h).trans ((dif_neg h').trans (dif_pos h''))))
  · refine (leafC_3 m c _ _ _).trans (Eq.symm ((dif_neg h).trans ((dif_neg h').trans (dif_neg h''))))

theorem leafS1_0 (c : Dev nD) (b : Fin 4) (s : Fin 8192) (l : Fin 64) :
    (show S4x8192x64.Idx → EReal from StableHlo.upto hostOps0 (fun b => m (c, b)) 36 (Proc.tc.devRef main_v23)) (ix3 b s l) = 0 := by
  after_reads_at

theorem leafS1_1 (c : Dev nD) (b : Fin 4) (s : Fin 8192) (l : Fin 16) :
    (show S4x8192x16.Idx → EReal from StableHlo.upto hostOps0 (fun b => m (c, b)) 36 (Proc.tc.devRef main_v24)) (ix3 b s l) = -sinT (m ((c : Thread nD τ).loc main_arg3)) (ix3 b s l) := by
  refine congrFun (?_ : (show S4x8192x16.Idx → EReal from _) = fun i => -sinT (m ((c : Thread nD τ).loc main_arg3)) i) (ix3 b s l)
  after_reads_simp
  rfl

theorem leafS1_2 (c : Dev nD) (b : Fin 4) (s : Fin 8192) (l : Fin 16) :
    (show S4x8192x16.Idx → EReal from StableHlo.upto hostOps0 (fun b => m (c, b)) 36 (Proc.tc.devRef main_v19)) (ix3 b s l) = 0 := by
  after_reads_at

theorem leafS1_3 (c : Dev nD) (b : Fin 4) (s : Fin 8192) (l : Fin 32) :
    (show S4x8192x32.Idx → EReal from StableHlo.upto hostOps0 (fun b => m (c, b)) 36 (Proc.tc.devRef main_v25)) (ix3 b s l) = 0 := by
  after_reads_at

theorem V_s1 (c : Dev nD) (n : Fin 32768) (l : Fin 128) : (show S32768x128.Idx → EReal from V m c main_v37) (ix2 n l)
    = LatMath.tabS1 (fun j => sinT (m ((c : Thread nD τ).loc main_arg3)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafS1_0 m c _ _ _).trans (Eq.symm (dif_pos h))
  · refine (leafS1_1 m c _ _ _).trans (Eq.symm ((dif_neg h).trans (dif_pos h')))
  · refine (leafS1_2 m c _ _ _).trans (Eq.symm ((dif_neg h).trans ((dif_neg h').trans (dif_pos h''))))
  · refine (leafS1_3 m c _ _ _).trans (Eq.symm ((dif_neg h).trans ((dif_neg h').trans (dif_neg h''))))

theorem leafS2_0 (c : Dev nD) (b : Fin 4) (s : Fin 8192) (l : Fin 64) :
    (show S4x8192x64.Idx → EReal from StableHlo.upto hostOps0 (fun b => m (c, b)) 41 (Proc.tc.devRef main_v27)) (ix3 b s l) = 0 := by
  after_reads_at

theorem leafS2_1 (c : Dev nD) (b : Fin 4) (s : Fin 8192) (l : Fin 16) :
    (show S4x8192x16.Idx → EReal from StableHlo.upto hostOps0 (fun b => m (c, b)) 41 (Proc.tc.devRef main_v19)) (ix3 b s l) = 0 := by
  after_reads_at

theorem leafS2_2 (c : Dev nD) (b : Fin 4) (s : Fin 8192) (l : Fin 16) :
    (show S4x8192x16.Idx → EReal from StableHlo.upto hostOps0 (fun b => m (c, b)) 41 (Proc.tc.devRef main_v18)) (ix3 b s l) = sinT (m ((c : Thread nD τ).loc main_arg3)) (ix3 b s l) := by
  refine congrFun (?_ : (show S4x8192x16.Idx → EReal from _) = _) (ix3 b s l)
  after_reads_simp
  rfl

theorem leafS2_3 (c : Dev nD) (b : Fin 4) (s : Fin 8192) (l : Fin 32) :
    (show S4x8192x32.Idx → EReal from StableHlo.upto hostOps0 (fun b => m (c, b)) 41 (Proc.tc.devRef main_v28)) (ix3 b s l) = 0 := by
  after_reads_at

theorem V_s2 (c : Dev nD) (n : Fin 32768) (l : Fin 128) : (show S32768x128.Idx → EReal from V m c main_v41) (ix2 n l)
    = LatMath.tabS2 (fun j => sinT (m ((c : Thread nD τ).loc main_arg3)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafS2_0 m c _ _ _).trans (Eq.symm (dif_pos h))
  · refine (leafS2_1 m c _ _ _).trans (Eq.symm ((dif_neg h).trans (dif_pos h')))
  · refine (leafS2_2 m c _ _ _).trans (Eq.symm ((dif_neg h).trans ((dif_neg h').trans (dif_pos h''))))
  · refine (leafS2_3 m c _ _ _).trans (Eq.symm ((dif_neg h).trans ((dif_neg h').trans (dif_neg h''))))

end Cert.Kernel6Ideal.Block
-- ==== Proof.LatClaims.lean ====
module

public import proofs.«01_k».proof.Defs
public import proofs.«01_k».proof.Proof.Gen.Kernel6.Frame
public import proofs.«01_k».proof.Proof.LatRef
public import proofs.«01_k».proof.Proof.LatHost
@[expose] public section

set_option maxRecDepth 16384
noncomputable section

/-! The claims about the projection of the latent queries. -/

namespace Cert.Proof.Lat

open Cert.Kernel6Ideal.Block Cert.Kernel6Ideal.Gen
open Idealize.ShloMosaic Idealize.ShloMosaic.TcCoe Idealize.SL.Sem

theorem frame_p : Cert.quiescent_Kernel6 (hKernel6 := Cert.Kernel6.Gen.facts) := fun m ρ _ =>
  Cert.Kernel6.Gen.frame (F := Bits) m ρ

theorem frame_pi : Cert.quiescent_Kernel6Ideal (hKernel6Ideal := Cert.Kernel6Ideal.Gen.facts) := fun m ρ _ =>
  Cert.Kernel6Ideal.Gen.frame (F := Ideal) m ρ

theorem frame_ri : Cert.quiescent_Reference6Ideal (hReference6Ideal := Cert.Reference6Ideal.Gen.facts) := fun m ρ _ =>
  θ_run_mono (Cert.Reference6Ideal.Value.run (F := Ideal) m ρ) fun r h => ⟨fun c => (h c).2, sem_eq_zero_of_no_sems (by decide) r.2⟩

theorem result_eq (m : (ℓ : Loc Cert.Kernel6Ideal.nD Cert.Kernel6Ideal.τ Cert.Kernel6Ideal.sig) → Buf (Elt Ideal) ℓ)
    (c : Dev Cert.Kernel6Ideal.nD) :
    Cert.Reference6Ideal.At.whole (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3)) = result m c :=
  ext2 (a := 32768) (n := 1024) fun n d => by
    refine (Cert.Reference6Ideal.At.whole_at _ _ _ _ n d).trans ?_
    have e0 := funext fun e : Fin 256 => V_x m c n ⟨512 + e.val, by omega⟩
    have e1 := funext fun e => V_g m c e
    have e2 := funext fun k => funext fun e => V_w m c k e
    have e3 := funext fun l => V_c m c n l
    have e4 := funext fun l => V_s1 m c n l
    have e5 := funext fun l => V_s2 m c n l
    refine Eq.trans (Eq.symm ?_) (result_at m c n d).symm
    refine (congrArg (fun f => f d) (congr (congr (congr (congr (congr (congrArg row e0) e1) e2) e3) e4) e5)).trans ?_
    refine (Cert.LatMath.tables _ _ _ d).trans ?_
    exact congrArg (fun y => Cert.LatMath.out y _ _ d) (funext fun e => Cert.LatMath.sum_col _ _ e)

theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨fun c => result m c, ?_, ?_⟩
  · exact θ_run_mono (Cert.Kernel6Ideal.Value.run_blocks (F := Ideal) m ρ) fun r h c => ⟨(h c).1.trans (final m c), (h c).2⟩
  · refine θ_run_mono (Cert.Reference6Ideal.Value.run (F := Ideal) m' ρ') fun r h c => ⟨(h c).1.trans ?_, (h c).2⟩
    obtain ⟨h0, h1, h2, h3⟩ := hagree c
    rw [Cert.Reference6Ideal.At.result_eq, h0, h1, h2, h3]
    exact result_eq m c

end Cert.Proof.Lat
-- ==== Proof.KvMath.lean ====
module

public import proofs.«01_k».proof.Proof.LatMath
@[expose] public section

set_option maxRecDepth 16384
noncomputable section

/-! One row of the projection of the latent keys and values: eight slots of 128 lanes with a head's key and the shared rotated part,
then the eight heads' values side by side. -/

namespace Cert.KvMath

open Idealize.ShloMosaic

/-- The root-mean-square norm of a latent. -/
def norm (h g : Fin 128 → EReal) (d : Fin 128) : EReal :=
  h d * Ideal.rsqrt (Ideal.div (∑ e, h e * h e) (Ideal.ofBits .f32 0x43000000#32) + Ideal.ofBits .f32 0x3727C5AC#32) * g d

/-- The row with the shared part added to every slot, rotated by tables. -/
def byTables (y : Fin 1536 → EReal) (a C S1 S2 : Fin 128 → EReal) (e : Fin 1536) : EReal :=
  if h : e.val < 1024 then y e + (a ⟨e.val % 128, by omega⟩ * C ⟨e.val % 128, by omega⟩ + a ⟨(e.val % 128 + 16) % 128, by omega⟩ * S1 ⟨e.val % 128, by omega⟩
    + a ⟨(e.val % 128 + 112) % 128, by omega⟩ * S2 ⟨e.val % 128, by omega⟩)
  else y e

/-- The shared part in its slot. -/
def slot (k : Fin 32 → EReal) (l : Fin 128) : EReal :=
  if h : l.val < 64 then 0 else if h' : l.val - 64 < 32 then k ⟨l.val - 64, h'⟩ else 0

/-- The columns of the weight in the order of the call: keys in slots, the rest of each slot zero, then values. -/
def col (w : Fin 1024 → EReal) (e : Fin 1536) : EReal :=
  if h : e.val < 1024 then if h' : e.val % 128 < 64 then w ⟨e.val / 128 * 128 + e.val % 128, by omega⟩ else 0
  else w ⟨(e.val - 1024) / 64 * 128 + (64 + (e.val - 1024) % 64), by omega⟩

theorem sum_col (z : Fin 128 → EReal) (W : Fin 128 → Fin 1024 → EReal) (e : Fin 1536) :
    ∑ k, z k * col (W k) e = col (fun e => ∑ k, z k * W k e) e := by
  by_cases h : e.val < 1024
  · by_cases h' : e.val % 128 < 64
    · simp only [col, dif_pos h, dif_pos h']
    · simp only [col, dif_pos h, dif_neg h', mul_zero, Finset.sum_const_zero]
  · simp only [col, dif_neg h]

/-- The rotation of the shared part. -/
def rope (k : Fin 32 → EReal) (c s : Fin 16 → EReal) (l : Fin 32) : EReal :=
  if h : l.val < 16 then k l * c ⟨l.val, h⟩ - k ⟨16 + l.val, by omega⟩ * s ⟨l.val, h⟩
  else k l * c ⟨l.val - 16, by omega⟩ + k ⟨l.val - 16, by omega⟩ * s ⟨l.val - 16, by omega⟩

/-- The row with the shared part rotated. -/
def out (w : Fin 1024 → EReal) (k : Fin 32 → EReal) (c s : Fin 16 → EReal) (e : Fin 1536) : EReal :=
  if h : e.val < 1024 then
    if h' : e.val % 128 < 64 then w ⟨e.val / 128 * 128 + e.val % 128, by omega⟩
    else if h'' : e.val % 128 - 64 < 32 then rope k c s ⟨e.val % 128 - 64, h''⟩ else 0
  else w ⟨(e.val - 1024) / 64 * 128 + (64 + (e.val - 1024) % 64), by omega⟩

theorem tables (w : Fin 1024 → EReal) (k : Fin 32 → EReal) (c s : Fin 16 → EReal) (e : Fin 1536) :
    byTables (col w) (slot k) (LatMath.tabC c) (LatMath.tabS1 s) (LatMath.tabS2 s) e = out w k c s e := by
  have he := e.isLt
  unfold byTables out
  by_cases h : e.val < 1024
  · rw [dif_pos h, dif_pos h]
    have t := LatMath.tables (fun e : Fin 1024 => slot k ⟨e.val % 128, by omega⟩) c s ⟨e.val, h⟩
    unfold LatMath.byTables at t
    simp only at t
    have i1 : (128 * (e.val / 128) + (e.val % 128 + 16) % 128) % 128 = (e.val % 128 + 16) % 128 := by omega
    have i2 : (128 * (e.val / 128) + (e.val % 128 + 112) % 128) % 128 = (e.val % 128 + 112) % 128 := by omega
    simp only [i1, i2] at t
    rw [t]
    unfold LatMath.out col
    simp only [dif_pos h]
    by_cases h1 : e.val % 128 < 64
    · have s0 : slot k ⟨e.val % 128, by omega⟩ = 0 := dif_pos h1
      rw [dif_pos h1, dif_pos h1, dif_pos h1, s0, add_zero]
    · rw [dif_neg h1, dif_neg h1, dif_neg h1, zero_add]
      have sl : ∀ (l : ℕ) (hl : l < 128) (h : ¬ l < 64) (h' : l - 64 < 32), slot k ⟨l, hl⟩ = k ⟨l - 64, h'⟩ := fun l hl h h' => (dif_neg h).trans (dif_pos h')
      by_cases h2 : e.val % 128 - 64 < 16
      · have h3 : e.val % 128 - 64 < 32 := by omega
        have i3 : (⟨(e.val + 16) % 1024 % 128 - 64, by omega⟩ : Fin 32) = ⟨16 + (e.val % 128 - 64), by omega⟩ := Fin.ext (by simp only; omega)
        rw [dif_pos h2, dif_pos h3, sl _ _ h1 h3, sl ((e.val + 16) % 1024 % 128) (by omega) (by omega) (by omega), i3]
        simp only [rope, dif_pos h2]
      · by_cases h4 : e.val % 128 - 64 - 16 < 16
        · have h3 : e.val % 128 - 64 < 32 := by omega
          have i3 : (⟨(e.val - 16) % 128 - 64, by omega⟩ : Fin 32) = ⟨e.val % 128 - 64 - 16, by omega⟩ := Fin.ext (by simp only; omega)
          rw [dif_neg h2, dif_pos h4, dif_pos h3, sl _ _ h1 h3, sl ((e.val - 16) % 128) (by omega) (by omega) (by omega), i3]
          simp only [rope, dif_neg h2]
        · have h3 : ¬ e.val % 128 - 64 < 32 := by omega
          rw [dif_neg h2, dif_neg h4, dif_neg h3]
          exact (dif_neg h1).trans (dif_neg h3)
  · rw [dif_neg h, dif_neg h]
    exact dif_neg h

end Cert.KvMath
-- ==== Proof.KvRef.lean ====
module

public import proofs.«01_k».proof.Proof.Gen.Reference7Ideal.Run
public import proofs.«01_k».proof.Proof.KvMath
public import Idealize.ShloMosaic.Lib.Claim
public import Idealize.ShloMosaic.Lib.WordCmp
public import Idealize.ShloMosaic.Lib.Pointwise
@[expose] public section

set_option maxRecDepth 16384
set_option maxHeartbeats 1000000
noncomputable section

/-! The result of the reference of the projection of the latent keys and values, row by row. -/

namespace Cert.Reference7Ideal.At

open Cert.Reference7Ideal Cert.Reference7Ideal.Gen
open Idealize.ShloMosaic Idealize.ShloMosaic.TcCoe Idealize.ShloMosaic.Tactic
open Idealize.SL.Sem

/-- The root-mean-square norm. -/
def norm (H : FVec Ideal S4x8192x128 .f32) (g : FVec Ideal S128 .f32) : FVec Ideal S4x8192x128 .f32 :=
  mulf (mulf H (broadcastInDim S4x8192x128 ![0, 1, 2] bcast_S4x8192x1_S4x8192x128_0_1_2 (Host.rsqrt (addf
    (Host.divf (broadcastInDim S4x8192x1 ![0, 1] bcast_S4x8192_S4x8192x1_0_1
      (Host.reduceAdd (mulf H H) (constant S_ .f32 0x00000000#32) reducesTo_S4x8192x128_S4x8192_d2 h_S_))
      (broadcastInDim S4x8192x1 ![] bcast_S_S4x8192x1 (constant S_ .f32 0x43000000#32)))
    (broadcastInDim S4x8192x1 ![] bcast_S_S4x8192x1 (constant S_ .f32 0x3727C5AC#32))))))
    (broadcastInDim S4x8192x128 ![0, 1, 2] bcast_S1x1x128_S4x8192x128_0_1_2 (broadcastInDim S1x1x128 ![2] bcast_S128_S1x1x128_2 g))
/-- The product with the weight, in heads. -/
def prod (Z : FVec Ideal S4x8192x128 .f32) (W : FVec Ideal S128x1024 .f32) : FVec Ideal S4x8192x8x128 .f32 :=
  shapeCast S4x8192x8x128 (Host.dotGeneral dot_S4x8192x128_S128x1024_S4x8192x1024_2_0_01_1_n_n none Z W) shapeCasts_S4x8192x1024_S4x8192x8x128
/-- The rotation angles of the positions. -/
def ang (P : (⟨S4x8192, .i32⟩ : BufTy).Contents (Elt Ideal)) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp .f32 P)))
    (broadcastInDim S4x8192x16 ![0, 1, 2] bcast_S1x1x16_S4x8192x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))
/-- The rotary embedding of the shared part of the keys. -/
def rope (K : FVec Ideal S4x8192x32 .f32) (C S : FVec Ideal S4x8192x16 .f32) : FVec Ideal S4x8192x32 .f32 :=
  concatenate S4x8192x32 2
    [⟨S4x8192x16, subf (mulf (extractStridedSlice S4x8192x16 ![0, 0, 0] K slices_S4x8192x32_S4x8192x16_0_0_0) C) (mulf (extractStridedSlice S4x8192x16 ![0, 0, 16] K slices_S4x8192x32_S4x8192x16_0_0_16) S)⟩,
     ⟨S4x8192x16, addf (mulf (extractStridedSlice S4x8192x16 ![0, 0, 16] K slices_S4x8192x32_S4x8192x16_0_0_16) C) (mulf (extractStridedSlice S4x8192x16 ![0, 0, 0] K slices_S4x8192x32_S4x8192x16_0_0_0) S)⟩,
     ⟨S4x8192x0, extractStridedSlice S4x8192x0 ![0, 0, 32] K slices_S4x8192x32_S4x8192x0_0_0_32⟩]
    concatenates_S4x8192x16_S4x8192x16_S4x8192x0_S4x8192x32_d2
/-- The keys in slots of 128. -/
def joined (Y : FVec Ideal S4x8192x8x128 .f32) (R : FVec Ideal S4x8192x32 .f32) : FVec Ideal S4x8192x8x128 .f32 :=
  concatenate S4x8192x8x128 3
    [⟨S4x8192x8x64, extractStridedSlice S4x8192x8x64 ![0, 0, 0, 0] Y slices_S4x8192x8x128_S4x8192x8x64_0_0_0_0⟩,
     ⟨S4x8192x8x32, broadcastInDim S4x8192x8x32 ![0, 1, 2, 3] bcast_S4x8192x1x32_S4x8192x8x32_0_1_2_3 (broadcastInDim S4x8192x1x32 ![0, 1, 3] bcast_S4x8192x32_S4x8192x1x32_0_1_3 R)⟩,
     ⟨S4x8192x8x32, broadcastInDim S4x8192x8x32 ![] bcast_S_S4x8192x8x32 (constant S_ .f32 0x00000000#32)⟩]
    concatenates_S4x8192x8x64_S4x8192x8x32_S4x8192x8x32_S4x8192x8x128_d3
/-- The keys and the values side by side. -/
def both (J Y : FVec Ideal S4x8192x8x128 .f32) : FVec Ideal S32768x1536 .bf16 :=
  truncf .bf16 (concatenate S32768x1536 1
    [⟨S32768x1024, shapeCast S32768x1024 J shapeCasts_S4x8192x8x128_S32768x1024⟩,
     ⟨S32768x512, shapeCast S32768x512 (extractStridedSlice S4x8192x8x64 ![0, 0, 0, 64] Y slices_S4x8192x8x128_S4x8192x8x64_0_0_0_64) shapeCasts_S4x8192x8x64_S32768x512⟩]
    concatenates_S32768x1024_S32768x512_S32768x1536_d1) bitsLt_bf16_f32
/-- The reference as one expression of its arguments. -/
def whole (X : FVec Ideal S4x8192x128 .f32) (K : FVec Ideal S4x8192x32 .f32) (g : FVec Ideal S128 .f32) (W : FVec Ideal S128x1024 .f32) (P : (⟨S4x8192, .i32⟩ : BufTy).Contents (Elt Ideal)) : FVec Ideal S32768x1536 .bf16 :=
  both (joined (prod (norm X g) W) (rope K (Host.cos (ang P)) (Host.sin (ang P)))) (prod (norm X g) W)

theorem norm_at (H : FVec Ideal S4x8192x128 .f32) (g : FVec Ideal S128 .f32) (b : Fin 4) (s : Fin 8192) (d : Fin 128) :
    (norm H g : S4x8192x128.Idx → EReal) (ix3 b s d) = KvMath.norm (fun e => H (ix3 b s e)) (fun e => g (ix1 e)) d := by
  pointwise [norm]
  rfl
theorem prod_at (Z : FVec Ideal S4x8192x128 .f32) (W : FVec Ideal S128x1024 .f32) (b : Fin 4) (s : Fin 8192) (h : Fin 8) (l : Fin 128) :
    (prod Z W : S4x8192x8x128.Idx → EReal) (ix4 b s h l) = ∑ k : Fin 128, (Z : S4x8192x128.Idx → EReal) (ix3 b s k) * (W : S128x1024.Idx → EReal) (ix2 k ⟨h.val * 128 + l.val, by omega⟩) := by
  pointwise [prod]
theorem rope_at (K : FVec Ideal S4x8192x32 .f32) (C S : FVec Ideal S4x8192x16 .f32) (b : Fin 4) (s : Fin 8192) (l : Fin 32) :
    (rope K C S : S4x8192x32.Idx → EReal) (ix3 b s l)
      = KvMath.rope (fun j => K (ix3 b s j)) (fun j => C (ix3 b s j)) (fun j => S (ix3 b s j)) l := by
  have hl := l.isLt
  unfold KvMath.rope
  pointwise [rope]
  refine dite_congr rfl (fun h1 => rfl) fun h1 => ?_
  have h1' : ¬ l.val < 16 := h1
  have i : (⟨16 + (l.val - 16), by omega⟩ : Fin 32) = l := Fin.ext (by simp only; omega)
  simp only [i]
  exact dif_pos (by omega)
theorem joined_at (Y : FVec Ideal S4x8192x8x128 .f32) (R : FVec Ideal S4x8192x32 .f32) (b : Fin 4) (s : Fin 8192) (h : Fin 8) (l : Fin 128) :
    (joined Y R : S4x8192x8x128.Idx → EReal) (ix4 b s h l)
      = if h' : l.val < 64 then Y (ix4 b s h ⟨l.val, by omega⟩)
        else if h' : l.val - 64 < 32 then (R : S4x8192x32.Idx → EReal) (ix3 b s ⟨l.val - 64, h'⟩)
        else 0 := by
  have hl := l.isLt
  pointwise [joined]
theorem both_at (J Y : FVec Ideal S4x8192x8x128 .f32) (n : Fin 32768) (e : Fin 1536) :
    (both J Y : S32768x1536.Idx → EReal) (ix2 n e)
      = if h : e.val < 1024 then J (ix4 ⟨n.val / 8192, by omega⟩ ⟨n.val % 8192, by omega⟩ ⟨e.val / 128, by omega⟩ ⟨e.val % 128, by omega⟩)
        else Y (ix4 ⟨n.val / 8192, by omega⟩ ⟨n.val % 8192, by omega⟩ ⟨(e.val - 1024) / 64, by omega⟩ ⟨64 + (e.val - 1024) % 64, by omega⟩) := by
  have he := e.isLt
  pointwise [both]

/-- A row of the product. -/
def line (z : Fin 128 → EReal) (W : FVec Ideal S128x1024 .f32) (d : Fin 1024) : EReal := ∑ k : Fin 128, z k * (W : S128x1024.Idx → EReal) (ix2 k d)

theorem whole_at (X : FVec Ideal S4x8192x128 .f32) (K : FVec Ideal S4x8192x32 .f32) (g : FVec Ideal S128 .f32) (W : FVec Ideal S128x1024 .f32) (P : (⟨S4x8192, .i32⟩ : BufTy).Contents (Elt Ideal)) (n : Fin 32768) (e : Fin 1536) :
    (whole X K g W P : S32768x1536.Idx → EReal) (ix2 n e)
      = KvMath.out (line (KvMath.norm (fun e => X (ix3 ⟨n.val / 8192, by omega⟩ ⟨n.val % 8192, by omega⟩ e)) (fun e => g (ix1 e))) W)
          (fun j => K (ix3 ⟨n.val / 8192, by omega⟩ ⟨n.val % 8192, by omega⟩ j))
          (fun j => (Host.cos (ang P) : S4x8192x16.Idx → EReal) (ix3 ⟨n.val / 8192, by omega⟩ ⟨n.val % 8192, by omega⟩ j))
          (fun j => (Host.sin (ang P) : S4x8192x16.Idx → EReal) (ix3 ⟨n.val / 8192, by omega⟩ ⟨n.val % 8192, by omega⟩ j)) e := by
  have he := e.isLt
  have hp : ∀ (h : Fin 8) (l : Fin 128), (prod (norm X g) W : S4x8192x8x128.Idx → EReal) (ix4 ⟨n.val / 8192, by omega⟩ ⟨n.val % 8192, by omega⟩ h l)
      = line (KvMath.norm (fun e => X (ix3 ⟨n.val / 8192, by omega⟩ ⟨n.val % 8192, by omega⟩ e)) (fun e => g (ix1 e))) W ⟨h.val * 128 + l.val, by omega⟩ := by
    intro h l
    rw [prod_at]
    simp only [norm_at]
    rfl
  unfold whole
  rw [both_at]
  simp only [joined_at, hp, rope_at]
  rfl

theorem result_eq (m : (ℓ : Loc nD τ sig) → Buf (Elt Ideal) ℓ) (c : Dev nD) :
    Value.res_main_v53 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Reference7Ideal.At
-- ==== Proof.KvBlock.lean ====
module

public import proofs.«01_k».proof.Proof.Gen.Kernel7Ideal.Value
public import proofs.«01_k».proof.Proof.KvMath
public import Idealize.ShloMosaic.Lib.Claim
public import Idealize.ShloMosaic.Lib.StableHlo.ReadAt
public import Idealize.ShloMosaic.Lib.WordCmp
public import Idealize.ShloMosaic.Lib.Pointwise
public import Idealize.ShloMosaic.Lib.Writes
public import Idealize.ShloMosaic.Lib.Pipeline.Value
public import Idealize.ShloMosaic.Lib.Pipeline.ValueKit
@[expose] public section

set_option maxRecDepth 16384
set_option maxHeartbeats 1000000
noncomputable section

/-! The projection of the latent keys and values: its block at an element, and the array its launch leaves. -/

namespace Cert.Kernel7Ideal.Block

open Cert.Kernel7Ideal Cert.Kernel7Ideal.Gen
open Idealize.ShloMosaic Idealize.ShloMosaic.TcCoe Idealize.ShloMosaic.Tactic
open Idealize.SL.Sem

theorem zz : (![0, 0] : Fin 2 → ℕ) = fun _ => 0 := by decide

/-! ## The payloads -/

theorem norm_at (x : Vec Ideal S512x128 .f32) (g : Vec Ideal S1x128 .f32) (r : Fin 512) (d : Fin 128) :
    (k0_pay2 (F := Ideal) x g : S512x128.Idx → EReal) (ix2 r d) = KvMath.norm (fun e => x (ix2 r e)) (fun e => g (ix2 0 e)) d := by
  pointwise [k0_pay2]
  rfl

/-- One chunk of 512 columns of the product. -/
def chunk (Z : FVec Ideal S512x128 .bf16) (W : FVec Ideal S128x512 .bf16) : FVec Ideal S512x512 .f32 :=
  matmul dot_S512x128_S128x512_S512x512_1_0_0_1_n_n none Z W (constant S512x512 .f32 0x00000000#32)

theorem chunk_at (Z : FVec Ideal S512x128 .bf16) (X : Vec Ideal S128x1536 .bf16) (o : ℕ) (inb : ∀ a : Fin 2, (![0, o] : Fin 2 → ℕ) a + (![128, 512] : Fin 2 → ℕ) a ≤ S128x1536.size a)
    (r : Fin 512) (e : Fin 512) (he : o + e.val < 1536) :
    (chunk Z (View.ld X (Rect.unit (s := S128x1536) ![0, o] ![128, 512] inb)) : S512x512.Idx → EReal) (ix2 r e)
      = ∑ k : Fin 128, (Z : S512x128.Idx → EReal) (ix2 r k) * (X : S128x1536.Idx → EReal) (ix2 k ⟨o + e.val, he⟩) := by
  rw [View.ld_unit]
  pointwise [chunk]

/-- The rotation of the shared part. -/
theorem add_at (x c s1 s2 : Vec Ideal S512x128 .f32) (r : Fin 512) (l : Fin 128) :
    (k0_pay3 (F := Ideal) x c s1 s2 : S512x128.Idx → EReal) (ix2 r l)
      = x (ix2 r l) * c (ix2 r l) + x (ix2 r ⟨(l.val + 16) % 128, by omega⟩) * s1 (ix2 r l)
        + x (ix2 r ⟨(l.val + 112) % 128, by omega⟩) * s2 (ix2 r l) := by
  have h1 : (l.val + 16) % 128 = (l.val + 128 - 112) % 128 := by omega
  have h2 : (l.val + 112) % 128 = (l.val + 128 - 16) % 128 := by omega
  simp only [h1, h2]
  pointwise [k0_pay3]

/-- 128 lanes of a chunk with the rotated shared part added. -/
def seg (o : ℕ) (h : S512x512.Slices ![0, o] S512x128) (Y : FVec Ideal S512x512 .f32) (A : FVec Ideal S512x128 .f32) : FVec Ideal S512x128 .bf16 :=
  truncf .bf16 (addf (extractStridedSlice S512x128 ![0, o] Y h) A) bitsLt_bf16_f32

theorem seg_at (o : ℕ) (h : S512x512.Slices ![0, o] S512x128) (ho : o + 128 ≤ 512) (Y : FVec Ideal S512x512 .f32) (A : FVec Ideal S512x128 .f32) (r : Fin 512) (l : Fin 128) :
    (seg o h Y A : S512x128.Idx → EReal) (ix2 r l) = Y (ix2 r ⟨o + l.val, by omega⟩) + A (ix2 r l) := by
  pointwise [seg]

/-! ## The block -/

/-- The block, row by row. -/
def G (x0 : Vec Ideal S512x128 .f32) (x1 : Vec Ideal S1x128 .f32) (x2 : Vec Ideal S128x1536 .bf16) (x3 x4 x5 x6 : Vec Ideal S512x128 .f32) : S512x1536.Idx → EReal := fun j =>
  KvMath.byTables (fun e => ∑ k : Fin 128, (k0_pay2 (F := Ideal) x0 x1 : S512x128.Idx → EReal) (ix2 (j 0) k) * (x2 : S128x1536.Idx → EReal) (ix2 k e))
    (fun l => (x6 : S512x128.Idx → EReal) (ix2 (j 0) l))
    (fun l => (x3 : S512x128.Idx → EReal) (ix2 (j 0) l)) (fun l => (x4 : S512x128.Idx → EReal) (ix2 (j 0) l)) (fun l => (x5 : S512x128.Idx → EReal) (ix2 (j 0) l)) (j 1)

theorem seg_eq (x0 : Vec Ideal S512x128 .f32) (x1 : Vec Ideal S1x128 .f32) (x2 : Vec Ideal S128x1536 .bf16) (x3 x4 x5 x6 : Vec Ideal S512x128 .f32) (q o p : ℕ)
    (h : S512x512.Slices ![0, o] S512x128) (inb : ∀ a : Fin 2, (![0, q] : Fin 2 → ℕ) a + (![128, 512] : Fin 2 → ℕ) a ≤ S128x1536.size a)
    (inb' : ∀ a : Fin 2, (![0, p] : Fin 2 → ℕ) a + (![512, 128] : Fin 2 → ℕ) a ≤ S512x1536.size a)
    (ho : o + 128 ≤ 512) (hq : q ≤ 512) (hp : p = q + o) (hd : p % 128 = 0) (x : S512x128.Idx) :
    (seg o h (chunk (k0_pay2 (F := Ideal) x0 x1) (View.ld x2 (Rect.unit (s := S128x1536) ![0, q] ![128, 512] inb))) (k0_pay3 (F := Ideal) x6 x3 x4 x5) : S512x128.Idx → EReal) x
      = G x0 x1 x2 x3 x4 x5 x6 ((Rect.unit (s := S512x1536) ![0, p] ![512, 128] inb').emb x) := by
  have ex : x = ix2 (⟨(x 0).val, (x 0).isLt⟩ : Fin 512) (⟨(x 1).val, (x 1).isLt⟩ : Fin 128) := by
    funext b
    fin_cases b <;> rfl
  rw [ex]
  generalize (⟨(x 0).val, (x 0).isLt⟩ : Fin 512) = r
  generalize (⟨(x 1).val, (x 1).isLt⟩ : Fin 128) = l
  have hl := l.isLt
  have em : (Rect.unit (s := S512x1536) ![0, p] ![512, 128] inb').emb (ix2 r l) = ix2 r (⟨p + l.val, by omega⟩ : Fin 1536) := by
    funext b
    fin_cases b <;> exact Fin.ext (by simp [Rect.emb_apply, ix2])
  rw [em, seg_at o h ho, add_at, chunk_at (he := by simp only; omega)]
  show _ = KvMath.byTables _ _ _ _ _ (⟨p + l.val, by omega⟩ : Fin 1536)
  unfold KvMath.byTables
  rw [dif_pos (show (⟨p + l.val, by omega⟩ : Fin 1536).val < 1024 by simp only; omega)]
  have i0 : (p + l.val) % 128 = l.val := by omega
  have i3 : (⟨p + l.val, by omega⟩ : Fin 1536) = ⟨q + (o + l.val), by omega⟩ := Fin.ext (by simp only; omega)
  simp only [i0, i3]
  rfl

theorem rest_eq (x0 : Vec Ideal S512x128 .f32) (x1 : Vec Ideal S1x128 .f32) (x2 : Vec Ideal S128x1536 .bf16) (x3 x4 x5 x6 : Vec Ideal S512x128 .f32) (q : ℕ)
    (inb : ∀ a : Fin 2, (![0, q] : Fin 2 → ℕ) a + (![128, 512] : Fin 2 → ℕ) a ≤ S128x1536.size a)
    (inb' : ∀ a : Fin 2, (![0, q] : Fin 2 → ℕ) a + (![512, 512] : Fin 2 → ℕ) a ≤ S512x1536.size a)
    (hq : q ≤ 1024) (hq' : 1024 ≤ q) (x : S512x512.Idx) :
    (truncf .bf16 (chunk (k0_pay2 (F := Ideal) x0 x1) (View.ld x2 (Rect.unit (s := S128x1536) ![0, q] ![128, 512] inb))) bitsLt_bf16_f32 : S512x512.Idx → EReal) x
      = G x0 x1 x2 x3 x4 x5 x6 ((Rect.unit (s := S512x1536) ![0, q] ![512, 512] inb').emb x) := by
  have ex : x = ix2 (⟨(x 0).val, (x 0).isLt⟩ : Fin 512) (⟨(x 1).val, (x 1).isLt⟩ : Fin 512) := by
    funext b
    fin_cases b <;> rfl
  rw [ex]
  generalize (⟨(x 0).val, (x 0).isLt⟩ : Fin 512) = r
  generalize (⟨(x 1).val, (x 1).isLt⟩ : Fin 512) = l
  have hl := l.isLt
  have em : (Rect.unit (s := S512x1536) ![0, q] ![512, 512] inb').emb (ix2 r l) = ix2 r (⟨q + l.val, by omega⟩ : Fin 1536) := by
    funext b
    fin_cases b <;> exact Fin.ext (by simp [Rect.emb_apply, ix2])
  rw [em]
  show _ = KvMath.byTables _ _ _ _ _ (⟨q + l.val, by omega⟩ : Fin 1536)
  unfold KvMath.byTables
  rw [dif_neg (show ¬ (⟨q + l.val, by omega⟩ : Fin 1536).val < 1024 by simp only; omega)]
  exact chunk_at (k0_pay2 (F := Ideal) x0 x1) x2 q inb r l (by omega)

theorem out_at (c : Dev nD) (i : grid0.Coords) (arg1 : Memref sig .tc .vmem S512x128 .f32) (harg1 : arg1.IsWhole) (arg2 : Memref sig .tc .vmem S1x128 .f32) (harg2 : arg2.IsWhole) (arg3 : Memref sig .tc .vmem S128x1536 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole)
    (x0 : Vec Ideal S512x128 .f32) (x1 : Vec Ideal S1x128 .f32) (x2 : Vec Ideal S128x1536 .bf16) (x3 x4 x5 x6 : Vec Ideal S512x128 .f32) (y : S512x1536.Idx) :
    (out0_A_7 (F := Ideal) c i arg1 harg1 arg2 harg2 arg3 harg3 arg4 harg4 arg5 harg5 arg6 harg6 arg7 harg7 arg8 harg8 x0 x1 x2 x3 x4 x5 x6 : S512x1536.Idx → EReal) y
      = G x0 x1 x2 x3 x4 x5 x6 y := by
  have z0 : ∀ inb, View.ld x0 (Rect.unit (s := S512x128) ![0, 0] ![512, 128] inb) = x0 := fun _ => View.ld_unit_zero zz _ x0
  have z1 : ∀ inb, View.ld x1 (Rect.unit (s := S1x128) ![0, 0] ![1, 128] inb) = x1 := fun _ => View.ld_unit_zero zz _ x1
  have z2 : ∀ (v : Vec Ideal S512x128 .f32) inb, View.ld v (Rect.unit (s := S512x128) ![0, 0] ![512, 128] inb) = v := fun v _ => View.ld_unit_zero zz _ v
  unfold out0_A_7
  refine View.read_writes_apply_of_pieces VO0_7 _ (G x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  unfold kernelRun0_A
  dsimp only
  intro p hp
  simp only [List.mem_cons, List.mem_nil_iff, or_false] at hp
  rcases hp with rfl | rfl | rfl | rfl | rfl | rfl | rfl | rfl | rfl <;> intro x <;> dsimp only
  all_goals simp only [kernelRun0_A.sl.r, kernelRun0_A.sl.r_1, kernelRun0_A.sl.r_2, kernelRun0_A.sl.r_3, k0_pay1, k0_pay4, k0_pay5, k0_pay6, k0_pay7, k0_pay8, k0_pay9, k0_pay10, k0_pay11, k0_pay12, k0_pay13, shapeCast_self, View.readAt_eq_ld, harg1.read_unread, harg2.read_unread, harg3.read_unread,
    harg4.read_unread, harg5.read_unread, harg6.read_unread, harg7.read_unread, z0, z1, z2]
  all_goals first
    | exact seg_eq x0 x1 x2 x3 x4 x5 x6 _ _ _ _ _ _ (by norm_num) (by norm_num) (by norm_num) (by norm_num) x
    | exact rest_eq x0 x1 x2 x3 x4 x5 x6 _ _ _ (by norm_num) (by norm_num) x

end Cert.Kernel7Ideal.Block
-- ==== Proof.KvLaunch.lean ====
module

public import proofs.«01_k».proof.Proof.KvBlock
@[expose] public section

set_option maxRecDepth 16384
set_option maxHeartbeats 1000000
noncomputable section

/-! The launch of the projection of the latent keys and values: its result, row by row. -/

namespace Cert.Kernel7Ideal.Block

open Cert.Kernel7Ideal Cert.Kernel7Ideal.Gen
open Idealize.ShloMosaic Idealize.ShloMosaic.TcCoe Idealize.ShloMosaic.Tactic
open Idealize.SL.Sem

/-! ## The launch -/

theorem t_lt (t : Fin cfg0.N) : t.val < 64 := lt_of_lt_of_eq t.isLt N_0

/-- The windows' index maps. -/
theorem idx : ∀ t : Fin cfg0.N, win0_0.index t = ![t.val, 6] ∧ win0_1.index t = ![0, 0] ∧ win0_2.index t = ![0, 0]
    ∧ win0_3.index t = ![t.val, 0] ∧ win0_4.index t = ![t.val, 0] ∧ win0_5.index t = ![t.val, 0] ∧ win0_6.index t = ![t.val, 8] ∧ win0_7.index t = ![t.val, 0] :=
  (by decide +kernel : ∀ t : Fin grid0.N, _)

variable (m : (ℓ : Loc nD τ sig) → Buf (Elt Ideal) ℓ)

/-- The latents at a point: 512 rows of the columns from 768 on. -/
theorem rd0 (t : Fin cfg0.N) (X : S32768x1152.Idx → EReal) (r : Fin 512) (d : Fin 128) :
    ((cfg0.win 0).blk t).view.read (Elt Ideal) X (ix2 r d) = X (ix2 ⟨512 * t.val + r.val, by have := t_lt t; omega⟩ ⟨768 + d.val, by omega⟩) := by
  have ht := t_lt t
  blk_ext [idx t]
/-- The shared part at a point: 512 rows of the columns from 1024 on. -/
theorem rd6 (t : Fin cfg0.N) (X : S32768x1152.Idx → EReal) (r : Fin 512) (d : Fin 128) :
    ((cfg0.win 6).blk t).view.read (Elt Ideal) X (ix2 r d) = X (ix2 ⟨512 * t.val + r.val, by have := t_lt t; omega⟩ ⟨1024 + d.val, by omega⟩) := by
  have ht := t_lt t
  blk_ext [idx t]
theorem rd1 (t : Fin cfg0.N) (X : S1x128.Idx → EReal) (r : Fin 1) (d : Fin 128) :
    ((cfg0.win 1).blk t).view.read (Elt Ideal) X (ix2 r d) = X (ix2 r d) := by
  blk_ext [idx t]
theorem rd2 (t : Fin cfg0.N) (X : S128x1536.Idx → EReal) (r : Fin 128) (d : Fin 1536) :
    ((cfg0.win 2).blk t).view.read (Elt Ideal) X (ix2 r d) = X (ix2 r d) := by
  blk_ext [idx t]
theorem rd3 (t : Fin cfg0.N) (X : S32768x128.Idx → EReal) (r : Fin 512) (d : Fin 128) :
    ((cfg0.win 3).blk t).view.read (Elt Ideal) X (ix2 r d) = X (ix2 ⟨512 * t.val + r.val, by have := t_lt t; omega⟩ d) := by
  have ht := t_lt t
  blk_ext [idx t]
theorem rd4 (t : Fin cfg0.N) (X : S32768x128.Idx → EReal) (r : Fin 512) (d : Fin 128) :
    ((cfg0.win 4).blk t).view.read (Elt Ideal) X (ix2 r d) = X (ix2 ⟨512 * t.val + r.val, by have := t_lt t; omega⟩ d) := by
  have ht := t_lt t
  blk_ext [idx t]
theorem rd5 (t : Fin cfg0.N) (X : S32768x128.Idx → EReal) (r : Fin 512) (d : Fin 128) :
    ((cfg0.win 5).blk t).view.read (Elt Ideal) X (ix2 r d) = X (ix2 ⟨512 * t.val + r.val, by have := t_lt t; omega⟩ d) := by
  have ht := t_lt t
  blk_ext [idx t]
theorem rd7 (t : Fin cfg0.N) (X : S32768x1536.Idx → EReal) (r : Fin 512) (d : Fin 1536) :
    ((cfg0.win 7).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- One row of the result, of the latent, the gain, the weight, the shared part and the rows of the tables. -/
def row (h g : Fin 128 → EReal) (W : Fin 128 → Fin 1536 → EReal) (A C S1 S2 : Fin 128 → EReal) : Fin 1536 → EReal :=
  KvMath.byTables (fun e => ∑ k : Fin 128, KvMath.norm h g k * W k e) A C S1 S2

theorem G_at (x0 : Vec Ideal S512x128 .f32) (x1 : Vec Ideal S1x128 .f32) (x2 : Vec Ideal S128x1536 .bf16) (x3 x4 x5 x6 : Vec Ideal S512x128 .f32) (r : Fin 512) (d : Fin 1536) :
    G x0 x1 x2 x3 x4 x5 x6 (ix2 r d) = row (fun e => x0 (ix2 r e)) (fun e => x1 (ix2 0 e)) (fun k e => x2 (ix2 k e)) (fun l => x6 (ix2 r l)) (fun l => x3 (ix2 r l)) (fun l => x4 (ix2 r l)) (fun l => x5 (ix2 r l)) d := by
  have e : ∀ k : Fin 128, (k0_pay2 (F := Ideal) x0 x1 : S512x128.Idx → EReal) (ix2 r k) = KvMath.norm (fun e => x0 (ix2 r e)) (fun e => x1 (ix2 0 e)) k := fun k => norm_at x0 x1 r k
  show KvMath.byTables (fun e => ∑ k : Fin 128, (k0_pay2 (F := Ideal) x0 x1 : S512x128.Idx → EReal) (ix2 r k) * (x2 : S128x1536.Idx → EReal) (ix2 k e)) _ _ _ _ d = _
  simp only [e]
  rfl

/-- The whole result, row by row, of the arrays at the call. -/
def OUT (X0 : S32768x1152.Idx → EReal) (X1 : S1x128.Idx → EReal) (X2 : S128x1536.Idx → EReal) (X3 X4 X5 : S32768x128.Idx → EReal) : S32768x1536.Idx → EReal := fun j =>
  row (fun e => X0 (ix2 (j 0) ⟨768 + e.val, by omega⟩)) (fun e => X1 (ix2 0 e)) (fun k e => X2 (ix2 k e)) (fun l => X0 (ix2 (j 0) ⟨1024 + l.val, by omega⟩)) (fun l => X3 (ix2 (j 0) l)) (fun l => X4 (ix2 (j 0) l)) (fun l => X5 (ix2 (j 0) l)) (j 1)

theorem block_eq (t : Fin cfg0.N) (c : Dev nD) (i : grid0.Coords) (arg1 : Memref sig .tc .vmem S512x128 .f32) (harg1 : arg1.IsWhole) (arg2 : Memref sig .tc .vmem S1x128 .f32) (harg2 : arg2.IsWhole) (arg3 : Memref sig .tc .vmem S128x1536 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole)
    (X0 : S32768x1152.Idx → EReal) (X1 : S1x128.Idx → EReal) (X2 : S128x1536.Idx → EReal) (X3 X4 X5 : S32768x128.Idx → EReal) :
    (out0_A_7 (F := Ideal) c i arg1 harg1 arg2 harg2 arg3 harg3 arg4 harg4 arg5 harg5 arg6 harg6 arg7 harg7 arg8 harg8 (((cfg0.win 0).blk t).view.read (Elt Ideal) X0) (((cfg0.win 1).blk t).view.read (Elt Ideal) X1)
      (((cfg0.win 2).blk t).view.read (Elt Ideal) X2) (((cfg0.win 3).blk t).view.read (Elt Ideal) X3) (((cfg0.win 4).blk t).view.read (Elt Ideal) X4)
      (((cfg0.win 5).blk t).view.read (Elt Ideal) X5) (((cfg0.win 6).blk t).view.read (Elt Ideal) X0) : S512x1536.Idx → EReal)
      = ((cfg0.win 7).blk t).view.read (Elt Ideal) (OUT X0 X1 X2 X3 X4 X5) :=
  ext2 (a := 512) (n := 1536) fun r d => by
    refine (out_at c i arg1 harg1 arg2 harg2 arg3 harg3 arg4 harg4 arg5 harg5 arg6 harg6 arg7 harg7 arg8 harg8 _ _ _ _ _ _ _ (ix2 r d)).trans ((G_at _ _ _ _ _ _ _ r d).trans (Eq.trans ?_ (rd7 t (OUT X0 X1 X2 X3 X4 X5) r d).symm))
    have e0 := funext fun e => rd0 t X0 r e
    have e1 := funext fun e => rd1 t X1 0 e
    have e2 := funext fun k => funext fun e => rd2 t X2 k e
    have e3 := funext fun l => rd3 t X3 r l
    have e4 := funext fun l => rd4 t X4 r l
    have e5 := funext fun l => rd5 t X5 r l
    have e6 := funext fun l => rd6 t X0 r l
    exact congrArg (fun f => f d) (congr (congr (congr (congr (congr (congr (congrArg row e0) e1) e2) e6) e3) e4) e5)

/-- The result of the call. -/
def result (c : Dev nD) : S32768x1536.Idx → EReal :=
  OUT (V m c main_v46) (V m c main_v55) (V m c main_v54) (V m c main_v33) (V m c main_v37) (V m c main_v41)

theorem result_at (c : Dev nD) (n : Fin 32768) (d : Fin 1536) : result m c (ix2 n d)
    = row (fun e => (V m c main_v46 : S32768x1152.Idx → EReal) (ix2 n ⟨768 + e.val, by omega⟩)) (fun e => (V m c main_v55 : S1x128.Idx → EReal) (ix2 0 e))
      (fun k e => (V m c main_v54 : S128x1536.Idx → EReal) (ix2 k e)) (fun l => (V m c main_v46 : S32768x1152.Idx → EReal) (ix2 n ⟨1024 + l.val, by omega⟩)) (fun l => (V m c main_v33 : S32768x128.Idx → EReal) (ix2 n l))
      (fun l => (V m c main_v37 : S32768x128.Idx → EReal) (ix2 n l)) (fun l => (V m c main_v41 : S32768x128.Idx → EReal) (ix2 n l)) d := rfl

/-- The array the call leaves. -/
theorem final (c : Dev nD) : (dats m 0 c).arrAt 7 cfg0.N = result m c := by
  refine (dats m 0 c).arrAt_eq_of_covers 7 _ (by decide +kernel) fun t hf y => ?_
  blk_simp
  rw [after0_7]
  exact congrFun (block_eq t c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (V m c main_v46) (V m c main_v55) (V m c main_v54) (V m c main_v33) (V m c main_v37) (V m c main_v41)) y

end Cert.Kernel7Ideal.Block
-- ==== Proof.KvHost.lean ====
module

public import proofs.«01_k».proof.Proof.KvLaunch
@[expose] public section

set_option maxRecDepth 16384
set_option maxHeartbeats 1000000
noncomputable section

/-! What the host hands the projection of the latent keys and values. -/

namespace Cert.Kernel7Ideal.Block

open Cert.Kernel7Ideal Cert.Kernel7Ideal.Gen
open Idealize.ShloMosaic Idealize.ShloMosaic.TcCoe Idealize.ShloMosaic.Tactic
open Idealize.SL.Sem

variable (m : (ℓ : Loc nD τ sig) → Buf (Elt Ideal) ℓ)

theorem V_x (c : Dev nD) (n : Fin 32768) (d : Fin 128) : (show S32768x1152.Idx → EReal from V m c main_v46) (ix2 n ⟨768 + d.val, by omega⟩)
    = (show S4x8192x128.Idx → EReal from m ((c : Thread nD τ).loc main_arg0)) (ix3 ⟨n.val / 8192, by omega⟩ ⟨n.val % 8192, by omega⟩ d) := by
  have hd := d.isLt
  unfold V
  after_reads_at
  refine congrFun (?_ : (show S4x8192x128.Idx → EReal from _) = _) _
  after_reads_simp

theorem V_a (c : Dev nD) (n : Fin 32768) (l : Fin 128) : (show S32768x1152.Idx → EReal from V m c main_v46) (ix2 n ⟨1024 + l.val, by omega⟩)
    = KvMath.slot (fun j => (show S4x8192x32.Idx → EReal from m ((c : Thread nD τ).loc main_arg1)) (ix3 ⟨n.val / 8192, by omega⟩ ⟨n.val % 8192, by omega⟩ j)) l := by
  have hl := l.isLt
  unfold V
  after_reads_at
  unfold KvMath.slot
  refine EvenMath.cases (fun h => ?_) fun h => EvenMath.cases (fun h' => ?_) fun h' => EvenMath.cases (fun h2 => ?_) fun h2 => EvenMath.cases (fun h3 => ?_) fun h3 => ?_
  · exact absurd h (by omega)
  · exact absurd h' (by omega)
  · rw [dif_pos (by omega)]
    try after_reads_at
  · rw [dif_neg (by omega), dif_pos (by omega)]
    first | rfl | exact congrArg (show S4x8192x32.Idx → EReal from m ((c : Thread nD τ).loc main_arg1)) (congrArg (ix3 _ _) (Fin.ext (by simp only; omega)))
  · rw [dif_neg (by omega), dif_neg (by omega)]
    try after_reads_at

theorem V_g (c : Dev nD) (d : Fin 128) : (show S1x128.Idx → EReal from V m c main_v55) (ix2 0 d)
    = (show S128.Idx → EReal from m ((c : Thread nD τ).loc main_arg2)) (ix1 d) := by
  unfold V
  after_reads_at

theorem w_k (c : Dev nD) (k : Fin 128) (d : Fin 1024) :
    (StableHlo.upto [hostOps0, hostOps0_1, hostOps0_2].flatten (fun b => m (c, b)) 70 (Proc.tc.devRef main_v50) : S128x1024.Idx → EReal) (ix2 k d)
      = KvMath.col (fun e => (show S128x1024.Idx → EReal from m ((c : Thread nD τ).loc main_arg3)) (ix2 k e)) ⟨d.val, by omega⟩ := by
  have hd := d.isLt
  after_reads_at
  refine EvenMath.cases (fun h => ?_) fun h => ?_
  · exact Eq.symm ((dif_pos (c := d.val < 1024) hd).trans (dif_pos (c := d.val % 128 < 64) h.2))
  · have h2 : ¬ d.val % 128 < 64 := fun h2 => h ⟨by omega, h2⟩
    refine Eq.trans ?_ (Eq.symm ((dif_pos (c := d.val < 1024) hd).trans (dif_neg (c := d.val % 128 < 64) h2)))
    simp [FloatOps.sitofp]

theorem w_v (c : Dev nD) (k : Fin 128) (d : Fin 512) :
    (StableHlo.upto [hostOps0, hostOps0_1, hostOps0_2].flatten (fun b => m (c, b)) 70 (Proc.tc.devRef main_v52) : S128x512.Idx → EReal) (ix2 k d)
      = KvMath.col (fun e => (show S128x1024.Idx → EReal from m ((c : Thread nD τ).loc main_arg3)) (ix2 k e)) ⟨1024 + d.val, by omega⟩ := by
  have hd := d.isLt
  after_reads_at
  unfold KvMath.col
  rw [dif_neg (show ¬ (⟨1024 + d.val, by omega⟩ : Fin 1536).val < 1024 by simp only; omega)]
  simp only [Nat.add_sub_cancel_left]

theorem V_w (c : Dev nD) (k : Fin 128) (d : Fin 1536) : (show S128x1536.Idx → EReal from V m c main_v54) (ix2 k d)
    = KvMath.col (fun e => (show S128x1024.Idx → EReal from m ((c : Thread nD τ).loc main_arg3)) (ix2 k e)) d := by
  have hd := d.isLt
  unfold V
  after_reads_at
  refine EvenMath.cases (fun h => ?_) fun h => ?_
  · exact w_k m c k ⟨d.val, h⟩
  · have h' : ¬ d.val < 1024 := h
    refine (w_v m c k ⟨d.val - 1024, by omega⟩).trans (congrArg _ (Fin.ext ?_))
    simp only
    omega

/-- The rotation angles of the positions. -/
def ang (P : (⟨S4x8192, .i32⟩ : BufTy).Contents (Elt Ideal)) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp .f32 P)))
    (broadcastInDim S4x8192x16 ![0, 1, 2] bcast_S1x1x16_S4x8192x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))

/-- Their cosines and sines. -/
def cosT (P : (⟨S4x8192, .i32⟩ : BufTy).Contents (Elt Ideal)) : S4x8192x16.Idx → EReal := Host.cos (ang P)
def sinT (P : (⟨S4x8192, .i32⟩ : BufTy).Contents (Elt Ideal)) : S4x8192x16.Idx → EReal := Host.sin (ang P)

theorem leafC_0 (c : Dev nD) (b : Fin 4) (s : Fin 8192) (l : Fin 64) :
    (show S4x8192x64.Idx → EReal from StableHlo.upto hostOps0 (fun b => m (c, b)) 30 (Proc.tc.devRef main_v20)) (ix3 b s l) = 1 := by
  after_reads_at

theorem leafC_1 (c : Dev nD) (b : Fin 4) (s : Fin 8192) (l : Fin 16) :
    (show S4x8192x16.Idx → EReal from StableHlo.upto hostOps0 (fun b => m (c, b)) 30 (Proc.tc.devRef main_v17)) (ix3 b s l) = cosT (m ((c : Thread nD τ).loc main_arg4)) (ix3 b s l) := by
  refine congrFun (?_ : (show S4x8192x16.Idx → EReal from _) = _) (ix3 b s l)
  after_reads_simp
  rfl

theorem leafC_3 (c : Dev nD) (b : Fin 4) (s : Fin 8192) (l : Fin 32) :
    (show S4x8192x32.Idx → EReal from StableHlo.upto hostOps0 (fun b => m (c, b)) 30 (Proc.tc.devRef main_v21)) (ix3 b s l) = 1 := by
  after_reads_at

theorem V_c (c : Dev nD) (n : Fin 32768) (l : Fin 128) : (show S32768x128.Idx → EReal from V m c main_v33) (ix2 n l)
    = LatMath.tabC (fun j => cosT (m ((c : Thread nD τ).loc main_arg4)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafC_0 m c _ _ _).trans (Eq.symm (dif_pos h))
  · refine (leafC_1 m c _ _ _).trans (Eq.symm ((dif_neg h).trans (dif_pos h')))
  · refine (leafC_1 m c _ _ _).trans (Eq.symm ((dif_neg h).trans ((dif_neg h').trans (dif_pos h''))))
  · refine (leafC_3 m c _ _ _).trans (Eq.symm ((dif_neg h).trans ((dif_neg h').trans (dif_neg h''))))

theorem leafS1_0 (c : Dev nD) (b : Fin 4) (s : Fin 8192) (l : Fin 64) :
    (show S4x8192x64.Idx → EReal from StableHlo.upto hostOps0 (fun b => m (c, b)) 36 (Proc.tc.devRef main_v23)) (ix3 b s l) = 0 := by
  after_reads_at

theorem leafS1_1 (c : Dev nD) (b : Fin 4) (s : Fin 8192) (l : Fin 16) :
    (show S4x8192x16.Idx → EReal from StableHlo.upto hostOps0 (fun b => m (c, b)) 36 (Proc.tc.devRef main_v24)) (ix3 b s l) = -sinT (m ((c : Thread nD τ).loc main_arg4)) (ix3 b s l) := by
  refine congrFun (?_ : (show S4x8192x16.Idx → EReal from _) = fun i => -sinT (m ((c : Thread nD τ).loc main_arg4)) i) (ix3 b s l)
  after_reads_simp
  rfl

theorem leafS1_2 (c : Dev nD) (b : Fin 4) (s : Fin 8192) (l : Fin 16) :
    (show S4x8192x16.Idx → EReal from StableHlo.upto hostOps0 (fun b => m (c, b)) 36 (Proc.tc.devRef main_v19)) (ix3 b s l) = 0 := by
  after_reads_at

theorem leafS1_3 (c : Dev nD) (b : Fin 4) (s : Fin 8192) (l : Fin 32) :
    (show S4x8192x32.Idx → EReal from StableHlo.upto hostOps0 (fun b => m (c, b)) 36 (Proc.tc.devRef main_v25)) (ix3 b s l) = 0 := by
  after_reads_at

theorem V_s1 (c : Dev nD) (n : Fin 32768) (l : Fin 128) : (show S32768x128.Idx → EReal from V m c main_v37) (ix2 n l)
    = LatMath.tabS1 (fun j => sinT (m ((c : Thread nD τ).loc main_arg4)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafS1_0 m c _ _ _).trans (Eq.symm (dif_pos h))
  · refine (leafS1_1 m c _ _ _).trans (Eq.symm ((dif_neg h).trans (dif_pos h')))
  · refine (leafS1_2 m c _ _ _).trans (Eq.symm ((dif_neg h).trans ((dif_neg h').trans (dif_pos h''))))
  · refine (leafS1_3 m c _ _ _).trans (Eq.symm ((dif_neg h).trans ((dif_neg h').trans (dif_neg h''))))

theorem leafS2_0 (c : Dev nD) (b : Fin 4) (s : Fin 8192) (l : Fin 64) :
    (show S4x8192x64.Idx → EReal from StableHlo.upto hostOps0 (fun b => m (c, b)) 41 (Proc.tc.devRef main_v27)) (ix3 b s l) = 0 := by
  after_reads_at

theorem leafS2_1 (c : Dev nD) (b : Fin 4) (s : Fin 8192) (l : Fin 16) :
    (show S4x8192x16.Idx → EReal from StableHlo.upto hostOps0 (fun b => m (c, b)) 41 (Proc.tc.devRef main_v19)) (ix3 b s l) = 0 := by
  after_reads_at

theorem leafS2_2 (c : Dev nD) (b : Fin 4) (s : Fin 8192) (l : Fin 16) :
    (show S4x8192x16.Idx → EReal from StableHlo.upto hostOps0 (fun b => m (c, b)) 41 (Proc.tc.devRef main_v18)) (ix3 b s l) = sinT (m ((c : Thread nD τ).loc main_arg4)) (ix3 b s l) := by
  refine congrFun (?_ : (show S4x8192x16.Idx → EReal from _) = _) (ix3 b s l)
  after_reads_simp
  rfl

theorem leafS2_3 (c : Dev nD) (b : Fin 4) (s : Fin 8192) (l : Fin 32) :
    (show S4x8192x32.Idx → EReal from StableHlo.upto hostOps0 (fun b => m (c, b)) 41 (Proc.tc.devRef main_v28)) (ix3 b s l) = 0 := by
  after_reads_at

theorem V_s2 (c : Dev nD) (n : Fin 32768) (l : Fin 128) : (show S32768x128.Idx → EReal from V m c main_v41) (ix2 n l)
    = LatMath.tabS2 (fun j => sinT (m ((c : Thread nD τ).loc main_arg4)) (ix3 ⟨n.val / 8192, by omega⟩ ⟨n.val % 8192, by omega⟩ j)) l := by
  have hl := l.isLt
  unfold V
  after_reads_at
  refine EvenMath.cases (fun h => ?_) fun h => EvenMath.cases (fun h' => ?_) fun h' => EvenMath.cases (fun h'' => ?_) fun h'' => ?_
  · refine (leafS2_0 m c _ _ _).trans (Eq.symm (dif_pos h))
  · refine (leafS2_1 m c _ _ _).trans (Eq.symm ((dif_neg h).trans (dif_pos h')))
  · refine (leafS2_2 m c _ _ _).trans (Eq.symm ((dif_neg h).trans ((dif_neg h').trans (dif_pos h''))))
  · refine (leafS2_3 m c _ _ _).trans (Eq.symm ((dif_neg h).trans ((dif_neg h').trans (dif_neg h''))))

end Cert.Kernel7Ideal.Block
-- ==== Proof.KvClaims.lean ====
module

public import proofs.«01_k».proof.Defs
public import proofs.«01_k».proof.Proof.Gen.Kernel7.Frame
public import proofs.«01_k».proof.Proof.KvRef
public import proofs.«01_k».proof.Proof.KvHost
@[expose] public section

set_option maxRecDepth 16384
noncomputable section

/-! The claims about the projection of the latent keys and values. -/

namespace Cert.Proof.Kv

open Cert.Kernel7Ideal.Block Cert.Kernel7Ideal.Gen
open Idealize.ShloMosaic Idealize.ShloMosaic.TcCoe Idealize.SL.Sem

theorem frame_p : Cert.quiescent_Kernel7 (hKernel7 := Cert.Kernel7.Gen.facts) := fun m ρ _ =>
  Cert.Kernel7.Gen.frame (F := Bits) m ρ

theorem frame_pi : Cert.quiescent_Kernel7Ideal (hKernel7Ideal := Cert.Kernel7Ideal.Gen.facts) := fun m ρ _ =>
  Cert.Kernel7Ideal.Gen.frame (F := Ideal) m ρ

theorem frame_ri : Cert.quiescent_Reference7Ideal (hReference7Ideal := Cert.Reference7Ideal.Gen.facts) := fun m ρ _ =>
  θ_run_mono (Cert.Reference7Ideal.Value.run (F := Ideal) m ρ) fun r h => ⟨fun c => (h c).2, sem_eq_zero_of_no_sems (by decide) r.2⟩

theorem result_eq (m : (ℓ : Loc Cert.Kernel7Ideal.nD Cert.Kernel7Ideal.τ Cert.Kernel7Ideal.sig) → Buf (Elt Ideal) ℓ)
    (c : Dev Cert.Kernel7Ideal.nD) :
    Cert.Reference7Ideal.At.whole (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4)) = result m c :=
  ext2 (a := 32768) (n := 1536) fun n d => by
    refine (Cert.Reference7Ideal.At.whole_at _ _ _ _ _ n d).trans ?_
    have e0 := funext fun e => V_x m c n e
    have e1 := funext fun e => V_g m c e
    have e2 := funext fun k => funext fun e => V_w m c k e
    have e3 := funext fun l => V_c m c n l
    have e4 := funext fun l => V_s1 m c n l
    have e5 := funext fun l => V_s2 m c n l
    have e6 := funext fun l => V_a m c n l
    refine Eq.trans (Eq.symm ?_) (result_at m c n d).symm
    refine (congrArg (fun f => f d) (congr (congr (congr (congr (congr (congr (congrArg row e0) e1) e2) e6) e3) e4) e5)).trans ?_
    refine (congrArg (fun y => Cert.KvMath.byTables y _ _ _ _ d) (funext fun e => Cert.KvMath.sum_col _ _ e)).trans ?_
    exact Cert.KvMath.tables _ _ _ _ d

theorem algebraic : Cert.algebraic_Kernel7Ideal_Reference7Ideal (hKernel7Ideal := Cert.Kernel7Ideal.Gen.facts) (hReference7Ideal := Cert.Reference7Ideal.Gen.facts) := by
  intro m ρ m' ρ' _ hagree
  refine ⟨fun c => result m c, ?_, ?_⟩
  · exact θ_run_mono (Cert.Kernel7Ideal.Value.run_blocks (F := Ideal) m ρ) fun r h c => ⟨(h c).1.trans (final m c), (h c).2⟩
  · refine θ_run_mono (Cert.Reference7Ideal.Value.run (F := Ideal) m' ρ') fun r h c => ⟨(h c).1.trans ?_, (h c).2⟩
    obtain ⟨h0, h1, h2, h3, h4⟩ := hagree c
    rw [Cert.Reference7Ideal.At.result_eq, h0, h1, h2, h3, h4]
    exact result_eq m c

end Cert.Proof.Kv
-- ==== Proof.CombRef.lean ====
module

public import proofs.«01_k».proof.Proof.Gen.Reference8Ideal.Run
public import Idealize.ShloMosaic.Lib.Claim
public import Idealize.ShloMosaic.Lib.WordCmp
public import Idealize.ShloMosaic.Lib.Pointwise
@[expose] public section

set_option maxRecDepth 16384
set_option maxHeartbeats 1000000
noncomputable section

/-! The result of the reference of the gated sum of the three branches, element by element. -/

namespace Cert.Reference8Ideal.At

open Cert.Reference8Ideal Cert.Reference8Ideal.Gen
open Idealize.ShloMosaic Idealize.ShloMosaic.TcCoe Idealize.ShloMosaic.Tactic
open Idealize.SL.Sem

/-- The gates. -/
def gates (Y : FVec Ideal S32768x1152 .f32) (b : FVec Ideal S24 .f32) : FVec Ideal S32768x24 .f32 :=
  Host.divf (broadcastInDim S32768x24 ![] bcast_S_S32768x24 (constant S_ .f32 0x3F800000#32)) (addf (broadcastInDim S32768x24 ![] bcast_S_S32768x24 (constant S_ .f32 0x3F800000#32))
    (Host.exp (Host.negf (addf (extractStridedSlice S32768x24 ![0, 896] Y slices_S32768x1152_S32768x24_0_896)
      (broadcastInDim S32768x24 ![0, 1] bcast_S1x24_S32768x24_0_1 (broadcastInDim S1x24 ![1] bcast_S24_S1x24_1 b))))))
/-- The sum of the branches under their gates. -/
def sum (G : FVec Ideal S32768x24 .f32) (A B C : FVec Ideal S32768x512 .f32) : FVec Ideal S32768x512 .bf16 :=
  truncf .bf16 (shapeCast S32768x512 (addf (addf
    (mulf (broadcastInDim S32768x8x64 ![0, 1, 2] bcast_S32768x8x1_S32768x8x64_0_1_2 (extractStridedSlice S32768x8x1 ![0, 0, 0] (shapeCast S32768x8x3 G shapeCasts_S32768x24_S32768x8x3) slices_S32768x8x3_S32768x8x1_0_0_0)) (shapeCast S32768x8x64 A shapeCasts_S32768x512_S32768x8x64))
    (mulf (broadcastInDim S32768x8x64 ![0, 1, 2] bcast_S32768x8x1_S32768x8x64_0_1_2 (extractStridedSlice S32768x8x1 ![0, 0, 1] (shapeCast S32768x8x3 G shapeCasts_S32768x24_S32768x8x3) slices_S32768x8x3_S32768x8x1_0_0_1)) (shapeCast S32768x8x64 B shapeCasts_S32768x512_S32768x8x64)))
    (mulf (broadcastInDim S32768x8x64 ![0, 1, 2] bcast_S32768x8x1_S32768x8x64_0_1_2 (extractStridedSlice S32768x8x1 ![0, 0, 2] (shapeCast S32768x8x3 G shapeCasts_S32768x24_S32768x8x3) slices_S32768x8x3_S32768x8x1_0_0_2)) (shapeCast S32768x8x64 C shapeCasts_S32768x512_S32768x8x64)))
    shapeCasts_S32768x8x64_S32768x512) bitsLt_bf16_f32
def whole (A B C : FVec Ideal S32768x512 .f32) (Y : FVec Ideal S32768x1152 .f32) (b : FVec Ideal S24 .f32) : FVec Ideal S32768x512 .bf16 :=
  sum (gates Y b) A B C

theorem gates_at (Y : FVec Ideal S32768x1152 .f32) (b : FVec Ideal S24 .f32) (n : Fin 32768) (k : Fin 24) :
    (gates Y b : S32768x24.Idx → EReal) (ix2 n k) = Ideal.logistic ((Y : S32768x1152.Idx → EReal) (ix2 n ⟨896 + k.val, by omega⟩) + (b : S24.Idx → EReal) (ix1 k)) := by
  pointwise [gates]
  rfl

theorem sum_at (G : FVec Ideal S32768x24 .f32) (A B C : FVec Ideal S32768x512 .f32) (n : Fin 32768) (d : Fin 512) :
    (sum G A B C : S32768x512.Idx → EReal) (ix2 n d)
      = (G : S32768x24.Idx → EReal) (ix2 n ⟨d.val / 64 * 3 + 0, by omega⟩) * (A : S32768x512.Idx → EReal) (ix2 n d)
        + (G : S32768x24.Idx → EReal) (ix2 n ⟨d.val / 64 * 3 + 1, by omega⟩) * (B : S32768x512.Idx → EReal) (ix2 n d)
        + (G : S32768x24.Idx → EReal) (ix2 n ⟨d.val / 64 * 3 + 2, by omega⟩) * (C : S32768x512.Idx → EReal) (ix2 n d) := by
  pointwise [sum]

theorem whole_at (A B C : FVec Ideal S32768x512 .f32) (Y : FVec Ideal S32768x1152 .f32) (b : FVec Ideal S24 .f32) (n : Fin 32768) (d : Fin 512) :
    (whole A B C Y b : S32768x512.Idx → EReal) (ix2 n d)
      = Ideal.logistic ((Y : S32768x1152.Idx → EReal) (ix2 n ⟨896 + (d.val / 64 * 3 + 0), by omega⟩) + (b : S24.Idx → EReal) (ix1 ⟨d.val / 64 * 3 + 0, by omega⟩)) * (A : S32768x512.Idx → EReal) (ix2 n d)
        + Ideal.logistic ((Y : S32768x1152.Idx → EReal) (ix2 n ⟨896 + (d.val / 64 * 3 + 1), by omega⟩) + (b : S24.Idx → EReal) (ix1 ⟨d.val / 64 * 3 + 1, by omega⟩)) * (B : S32768x512.Idx → EReal) (ix2 n d)
        + Ideal.logistic ((Y : S32768x1152.Idx → EReal) (ix2 n ⟨896 + (d.val / 64 * 3 + 2), by omega⟩) + (b : S24.Idx → EReal) (ix1 ⟨d.val / 64 * 3 + 2, by omega⟩)) * (C : S32768x512.Idx → EReal) (ix2 n d) := by
  unfold whole
  rw [sum_at, gates_at, gates_at, gates_at]

end Cert.Reference8Ideal.At
-- ==== Proof.CombMath.lean ====
module

public import Idealize.ShloMosaic.Lib.Claim
public import Idealize.ShloMosaic.Lib.Pointwise
@[expose] public section

set_option maxRecDepth 16384
set_option maxHeartbeats 1000000
noncomputable section

/-! The gated sum of the three branches: the sigmoid is finite, and a sum against a column with a single one is one summand. -/

namespace Cert.CombMath

open Idealize.ShloMosaic

/-- A gate spread by a column of the 0/1 matrix, with the rounding error's product the kernel adds. -/
def spread (g e : Fin 128 → EReal) : EReal := (∑ r, g r * e r) + ∑ r, (g r - g r) * e r

theorem logistic_sub (x : EReal) : Ideal.logistic x - Ideal.logistic x = 0 := by
  induction x using EReal.rec with
  | bot => rw [Ideal.logistic_bot, sub_zero]
  | coe r => rw [Ideal.logistic_coe, ← EReal.coe_sub, sub_self, EReal.coe_zero]
  | top => rw [Ideal.logistic_top, ← EReal.coe_one, ← EReal.coe_sub, sub_self, EReal.coe_zero]

theorem spread_eq (g e : Fin 128 → EReal) (k : Fin 128) (hg : ∀ r, g r - g r = 0) (he : ∀ r, e r = if r = k then 1 else 0) : spread g e = g k := by
  unfold spread
  simp only [hg, he, zero_mul, Finset.sum_const_zero, add_zero, mul_ite, mul_one, mul_zero, Finset.sum_ite_eq', Finset.mem_univ, if_true]

end Cert.CombMath
-- ==== Proof.CombBlock.lean ====
module

public import proofs.«01_k».proof.Proof.Gen.Kernel8Ideal.Value
public import proofs.«01_k».proof.Proof.CombMath
public import Idealize.ShloMosaic.Lib.StableHlo.ReadAt
public import Idealize.ShloMosaic.Lib.WordCmp
public import Idealize.ShloMosaic.Lib.Pointwise
public import Idealize.ShloMosaic.Lib.Pipeline.ValueKit
@[expose] public section

set_option maxRecDepth 16384
set_option maxHeartbeats 1000000
noncomputable section

/-! The gated sum of the three branches: its block at an element, and the array its launch leaves. -/

namespace Cert.Kernel8Ideal.Block

open Cert.Kernel8Ideal Cert.Kernel8Ideal.Gen
open Idealize.ShloMosaic Idealize.ShloMosaic.TcCoe Idealize.ShloMosaic.Tactic
open Idealize.SL.Sem

/-! ## The payloads -/

/-- The gates of a block's row. -/
def gate (y b : Fin 128 → EReal) (r : Fin 128) : EReal := Ideal.logistic (y r + b r)

theorem hi_at (y : Vec Ideal S512x128 .f32) (b : Vec Ideal S1x128 .f32) (r : Fin 512) (k : Fin 128) :
    (k0_pay3 (F := Ideal) y b : S512x128.Idx → EReal) (ix2 r k) = gate (fun e => y (ix2 r e)) (fun e => b (ix2 0 e)) k := by
  pointwise [k0_pay3, k0_pay2]
  rfl
theorem lo_at (y : Vec Ideal S512x128 .f32) (b : Vec Ideal S1x128 .f32) (r : Fin 512) (k : Fin 128) :
    (k0_pay4 (F := Ideal) y b : S512x128.Idx → EReal) (ix2 r k) = gate (fun e => y (ix2 r e)) (fun e => b (ix2 0 e)) k - gate (fun e => y (ix2 r e)) (fun e => b (ix2 0 e)) k := by
  pointwise [k0_pay4, k0_pay3, k0_pay2]
  rfl
theorem two_at (y : Vec Ideal S512x128 .f32) (b : Vec Ideal S1x128 .f32) (e0 e0' : Vec Ideal S1x128x512 .bf16) (oc : Vec Ideal S512x512 .f32)
    (e1 e1' : Vec Ideal S1x128x512 .bf16) (os : Vec Ideal S512x512 .f32) (r d : Fin 512) (E0 E1 : Fin 128 → EReal)
    (h0 : ∀ k, (e0 : S1x128x512.Idx → EReal) (ix3 0 k d) = E0 k) (h0' : ∀ k, (e0' : S1x128x512.Idx → EReal) (ix3 0 k d) = E0 k)
    (h1 : ∀ k, (e1 : S1x128x512.Idx → EReal) (ix3 0 k d) = E1 k) (h1' : ∀ k, (e1' : S1x128x512.Idx → EReal) (ix3 0 k d) = E1 k) :
    (k0_pay5 (F := Ideal) y b e0 e0' oc e1 e1' os : S512x512.Idx → EReal) (ix2 r d)
      = CombMath.spread (gate (fun e => y (ix2 r e)) (fun e => b (ix2 0 e))) E0 * (oc : S512x512.Idx → EReal) (ix2 r d)
        + CombMath.spread (gate (fun e => y (ix2 r e)) (fun e => b (ix2 0 e))) E1 * (os : S512x512.Idx → EReal) (ix2 r d) := by
  pointwise [k0_pay5]
  simp only [hi_at, lo_at, h0, h0', h1, h1']
  rfl
theorem last_at (y : Vec Ideal S512x128 .f32) (b : Vec Ideal S1x128 .f32) (v : Vec Ideal S512x512 .f32) (e2 e2' : Vec Ideal S1x128x512 .bf16) (ow : Vec Ideal S512x512 .f32) (r d : Fin 512)
    (E2 : Fin 128 → EReal) (h2 : ∀ k, (e2 : S1x128x512.Idx → EReal) (ix3 0 k d) = E2 k) (h2' : ∀ k, (e2' : S1x128x512.Idx → EReal) (ix3 0 k d) = E2 k) :
    (k0_pay1 (F := Ideal) (k0_pay3 y b) (k0_pay4 y b) v (k0_pay6 e2) (constant S512x512 .f32 0x00000000#32) e2' ow : S512x512.Idx → EReal) (ix2 r d)
      = (v : S512x512.Idx → EReal) (ix2 r d)
        + CombMath.spread (gate (fun e => y (ix2 r e)) (fun e => b (ix2 0 e))) E2 * (ow : S512x512.Idx → EReal) (ix2 r d) := by
  pointwise [k0_pay1, k0_pay6]
  simp only [hi_at, lo_at, h2, h2']
  rfl

/-! ## The block -/

theorem e0_at (X : Vec Ideal S3x128x512 .bf16) (k : Fin 128) (d : Fin 512) :
    (View.ld X r0_2 : S1x128x512.Idx → EReal) (ix3 0 k d) = X (ix3 0 k d) := by
  rw [View.ld_unit]
  pointwise
theorem e1_at (X : Vec Ideal S3x128x512 .bf16) (k : Fin 128) (d : Fin 512) :
    (View.ld X r0_4 : S1x128x512.Idx → EReal) (ix3 0 k d) = X (ix3 1 k d) := by
  rw [View.ld_unit]
  pointwise
theorem e2_at (X : Vec Ideal S3x128x512 .bf16) (k : Fin 128) (d : Fin 512) :
    (View.ld X r0_5 : S1x128x512.Idx → EReal) (ix3 0 k d) = X (ix3 2 k d) := by
  rw [View.ld_unit]
  pointwise

theorem zz : (![0, 0] : Fin 2 → ℕ) = fun _ => 0 := by decide

/-- An element of the result, of the row's gates and the columns of the three 0/1 matrices. -/
def elt (y b : Fin 128 → EReal) (E : Fin 3 → Fin 128 → EReal) (oc os ow : EReal) : EReal :=
  CombMath.spread (gate y b) (E 0) * oc + CombMath.spread (gate y b) (E 1) * os + CombMath.spread (gate y b) (E 2) * ow

theorem out_at (x0 x1 x2 : Vec Ideal S512x512 .f32) (x3 : Vec Ideal S512x128 .f32) (x4 : Vec Ideal S1x128 .f32) (x5 : Vec Ideal S3x128x512 .bf16) (r d : Fin 512) :
    (out0_6 (F := Ideal) x0 x1 x2 x3 x4 x5 : S512x512.Idx → EReal) (ix2 r d)
      = elt (fun e => x3 (ix2 r e)) (fun e => x4 (ix2 0 e)) (fun i k => x5 (ix3 i k d)) (x0 (ix2 r d)) (x1 (ix2 r d)) (x2 (ix2 r d)) := by
  unfold out0_6
  rw [View.canon_cons_unit_zero zz]
  rw [View.ld_unit_zero zz _ x0, View.ld_unit_zero zz _ x1, View.ld_unit_zero zz _ x2, View.ld_unit_zero zz _ x3, View.ld_unit_zero zz _ x4]
  rw [last_at _ _ _ _ _ _ r d (fun k => x5 (ix3 2 k d)) (fun k => e2_at x5 k d) (fun k => e2_at x5 k d),
    two_at _ _ _ _ _ _ _ _ r d (fun k => x5 (ix3 0 k d)) (fun k => x5 (ix3 1 k d)) (fun k => e0_at x5 k d) (fun k => e0_at x5 k d) (fun k => e1_at x5 k d) (fun k => e1_at x5 k d)]
  rfl

/-! ## The launch -/

theorem t_lt (t : Fin cfg0.N) : t.val < 64 := lt_of_lt_of_eq t.isLt N_0

/-- The windows' index maps. -/
theorem idx : ∀ t : Fin cfg0.N, win0_0.index t = ![t.val, 0] ∧ win0_1.index t = ![t.val, 0] ∧ win0_2.index t = ![t.val, 0]
    ∧ win0_3.index t = ![t.val, 7] ∧ win0_4.index t = ![0, 0] ∧ win0_5.index t = ![0, 0, 0] ∧ win0_6.index t = ![t.val, 0] :=
  (by decide +kernel : ∀ t : Fin grid0.N, _)

theorem rd0 (t : Fin cfg0.N) (X : S32768x512.Idx → EReal) (r : Fin 512) (d : Fin 512) :
    ((cfg0.win 0).blk t).view.read (Elt Ideal) X (ix2 r d) = X (ix2 ⟨512 * t.val + r.val, by have := t_lt t; omega⟩ d) := by
  have ht := t_lt t
  blk_ext [idx t]
theorem rd1 (t : Fin cfg0.N) (X : S32768x512.Idx → EReal) (r : Fin 512) (d : Fin 512) :
    ((cfg0.win 1).blk t).view.read (Elt Ideal) X (ix2 r d) = X (ix2 ⟨512 * t.val + r.val, by have := t_lt t; omega⟩ d) := by
  have ht := t_lt t
  blk_ext [idx t]
theorem rd2 (t : Fin cfg0.N) (X : S32768x512.Idx → EReal) (r : Fin 512) (d : Fin 512) :
    ((cfg0.win 2).blk t).view.read (Elt Ideal) X (ix2 r d) = X (ix2 ⟨512 * t.val + r.val, by have := t_lt t; omega⟩ d) := by
  have ht := t_lt t
  blk_ext [idx t]
theorem rd3 (t : Fin cfg0.N) (X : S32768x1152.Idx → EReal) (r : Fin 512) (d : Fin 128) :
    ((cfg0.win 3).blk t).view.read (Elt Ideal) X (ix2 r d) = X (ix2 ⟨512 * t.val + r.val, by have := t_lt t; omega⟩ ⟨896 + d.val, by omega⟩) := by
  have ht := t_lt t
  blk_ext [idx t]
theorem rd4 (t : Fin cfg0.N) (X : S1x128.Idx → EReal) (r : Fin 1) (d : Fin 128) :
    ((cfg0.win 4).blk t).view.read (Elt Ideal) X (ix2 r d) = X (ix2 r d) := by
  blk_ext [idx t]
theorem rd5 (t : Fin cfg0.N) (X : S3x128x512.Idx → EReal) (i : Fin 3) (k : Fin 128) (d : Fin 512) :
    ((cfg0.win 5).blk t).view.read (Elt Ideal) X (ix3 i k d) = X (ix3 i k d) := by
  blk_ext [idx t]
theorem rd6 (t : Fin cfg0.N) (X : S32768x512.Idx → EReal) (r : Fin 512) (d : Fin 512) :
    ((cfg0.win 6).blk t).view.read (Elt Ideal) X (ix2 r d) = X (ix2 ⟨512 * t.val + r.val, by have := t_lt t; omega⟩ d) := by
  have ht := t_lt t
  blk_ext [idx t]

theorem ext2 {a n : ℕ} {α : Type} {f g : (⟨2, ![a, n]⟩ : Shape).Idx → α} (h : ∀ (x : Fin a) (b : Fin n), f (ix2 x b) = g (ix2 x b)) : f = g := by
  funext j
  have e : j = ix2 (⟨(j 0).val, (j 0).isLt⟩ : Fin a) (⟨(j 1).val, (j 1).isLt⟩ : Fin n) := by
    funext b
    fin_cases b <;> rfl
  rw [e]; exact h _ _

/-- The whole result, element by element, of the arrays at the call. -/
def OUT (X0 X1 X2 : S32768x512.Idx → EReal) (X3 : S32768x1152.Idx → EReal) (X4 : S1x128.Idx → EReal) (X5 : S3x128x512.Idx → EReal) : S32768x512.Idx → EReal := fun j =>
  elt (fun e => X3 (ix2 (j 0) ⟨896 + e.val, by omega⟩)) (fun e => X4 (ix2 0 e)) (fun i k => X5 (ix3 i k (j 1))) (X0 (ix2 (j 0) (j 1))) (X1 (ix2 (j 0) (j 1))) (X2 (ix2 (j 0) (j 1)))

theorem block_eq (t : Fin cfg0.N) (X0 X1 X2 : S32768x512.Idx → EReal) (X3 : S32768x1152.Idx → EReal) (X4 : S1x128.Idx → EReal) (X5 : S3x128x512.Idx → EReal) :
    (out0_6 (F := Ideal) (((cfg0.win 0).blk t).view.read (Elt Ideal) X0) (((cfg0.win 1).blk t).view.read (Elt Ideal) X1) (((cfg0.win 2).blk t).view.read (Elt Ideal) X2)
      (((cfg0.win 3).blk t).view.read (Elt Ideal) X3) (((cfg0.win 4).blk t).view.read (Elt Ideal) X4) (((cfg0.win 5).blk t).view.read (Elt Ideal) X5) : S512x512.Idx → EReal)
      = ((cfg0.win 6).blk t).view.read (Elt Ideal) (OUT X0 X1 X2 X3 X4 X5) :=
  ext2 (a := 512) (n := 512) fun r d => by
    refine (out_at _ _ _ _ _ _ r d).trans (Eq.trans ?_ (rd6 t (OUT X0 X1 X2 X3 X4 X5) r d).symm)
    have e3 := funext fun e => rd3 t X3 r e
    have e4 := funext fun e => rd4 t X4 0 e
    have e5 := funext fun i => funext fun k => rd5 t X5 i k d
    exact congr (congr (congr (congr (congr (congrArg elt e3) e4) e5) (rd0 t X0 r d)) (rd1 t X1 r d)) (rd2 t X2 r d)

variable (m : (ℓ : Loc nD τ sig) → Buf (Elt Ideal) ℓ)

/-- The result of the call. -/
def result (c : Dev nD) : S32768x512.Idx → EReal :=
  OUT (V m c main_arg0) (V m c main_arg1) (V m c main_arg2) (V m c main_arg3) (V m c main_v1) (V m c main_v32)

theorem result_at (c : Dev nD) (n : Fin 32768) (d : Fin 512) : result m c (ix2 n d)
    = elt (fun e => (V m c main_arg3 : S32768x1152.Idx → EReal) (ix2 n ⟨896 + e.val, by omega⟩)) (fun e => (V m c main_v1 : S1x128.Idx → EReal) (ix2 0 e))
      (fun i k => (V m c main_v32 : S3x128x512.Idx → EReal) (ix3 i k d)) ((V m c main_arg0 : S32768x512.Idx → EReal) (ix2 n d))
      ((V m c main_arg1 : S32768x512.Idx → EReal) (ix2 n d)) ((V m c main_arg2 : S32768x512.Idx → EReal) (ix2 n d)) := rfl

/-- The array the call leaves. -/
theorem final (c : Dev nD) : (dats m 0 c).arrAt 6 cfg0.N = result m c := by
  refine (dats m 0 c).arrAt_eq_of_covers 6 _ (by decide +kernel) fun t hf y => ?_
  blk_simp
  rw [after0_6]
  exact congrFun (block_eq t (V m c main_arg0) (V m c main_arg1) (V m c main_arg2) (V m c main_arg3) (V m c main_v1) (V m c main_v32)) y

end Cert.Kernel8Ideal.Block
-- ==== Proof.CombHost.lean ====
module

public import proofs.«01_k».proof.Proof.Gen.Kernel8Ideal.Value
public import Idealize.ShloMosaic.Lib.StableHlo.ReadAt
public import Idealize.ShloMosaic.Lib.WordCmp
public import Idealize.ShloMosaic.Lib.Pointwise
public import Idealize.ShloMosaic.Lib.Pipeline.ValueKit
@[expose] public section

set_option maxRecDepth 16384
set_option maxHeartbeats 1000000
noncomputable section

/-! What the host hands the gated sum of the three branches. -/

namespace Cert.Kernel8Ideal.Block

open Cert.Kernel8Ideal Cert.Kernel8Ideal.Gen
open Idealize.ShloMosaic Idealize.ShloMosaic.TcCoe Idealize.ShloMosaic.Tactic
open Idealize.SL.Sem

variable (m : (ℓ : Loc nD τ sig) → Buf (Elt Ideal) ℓ)

/-- The floor division of a column's number by a head's width, as the host spells it out. -/
def head (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb (64#32) = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem head_eq : ∀ n : Fin 512, head (BitVec.ofNat 32 n.val) = BitVec.ofNat 32 (n.val / 64) := by decide +kernel

theorem eq0 : ∀ (r : Fin 128) (q : Fin 8), IntOp.cmpi CmpIPredicate.eq (BitVec.ofNat 32 r.val) (IntOp.addi (IntOp.muli (BitVec.ofNat 32 q.val) 3#32) 0#32)
    = if r.val = q.val * 3 + 0 then 1#1 else 0#1 := by decide +kernel
theorem m0 (c : Dev nD) (r : Fin 128) (n : Fin 512) :
    (StableHlo.upto [hostOps0, hostOps0_1, hostOps0_2, hostOps0_3, hostOps0_4].flatten (fun b => m (c, b)) 56 (Proc.tc.devRef main_v28) : S1x128x512.Idx → BitVec 1) (ix3 0 r n)
      = if r.val = n.val / 64 * 3 + 0 then 1#1 else 0#1 := by
  after_reads_at
  have hw : (id (constantI S_ 32 64#32) ix0 : BitVec 32) = 64#32 := rfl
  rw [hw]
  refine Eq.trans ?_ (eq0 r ⟨n.val / 64, by omega⟩)
  exact congrArg (fun x => IntOp.cmpi CmpIPredicate.eq (BitVec.ofNat 32 r.val) (IntOp.addi (IntOp.muli x 3#32) 0#32)) (head_eq n)
theorem V_e0 (c : Dev nD) (r : Fin 128) (n : Fin 512) : (show S3x128x512.Idx → EReal from V m c main_v32) (ix3 0 r n)
    = if r.val = n.val / 64 * 3 then 1 else 0 := by
  have key := congrArg (fun x : BitVec 1 => (FloatOps.uitofp (F := Ideal) FTy.bf16 x : EReal)) (m0 m c r n)
  have one : (FloatOps.uitofp (F := Ideal) FTy.bf16 (1#1) : EReal) = 1 := by simp [FloatOps.uitofp]
  have zero : (FloatOps.uitofp (F := Ideal) FTy.bf16 (0#1) : EReal) = 0 := by simp [FloatOps.uitofp]
  unfold V
  after_reads_at
  rw [Nat.add_zero] at key
  refine key.trans ?_
  · by_cases h : r.val = n.val / 64 * 3
    · simp only [if_pos h, one]
    · simp only [if_neg h, zero]

theorem eq1 : ∀ (r : Fin 128) (q : Fin 8), IntOp.cmpi CmpIPredicate.eq (BitVec.ofNat 32 r.val) (IntOp.addi (IntOp.muli (BitVec.ofNat 32 q.val) 3#32) 1#32)
    = if r.val = q.val * 3 + 1 then 1#1 else 0#1 := by decide +kernel
theorem m1 (c : Dev nD) (r : Fin 128) (n : Fin 512) :
    (StableHlo.upto [hostOps0, hostOps0_1, hostOps0_2, hostOps0_3, hostOps0_4].flatten (fun b => m (c, b)) 56 (Proc.tc.devRef main_v29) : S1x128x512.Idx → BitVec 1) (ix3 0 r n)
      = if r.val = n.val / 64 * 3 + 1 then 1#1 else 0#1 := by
  after_reads_at
  have hw : (id (constantI S_ 32 64#32) ix0 : BitVec 32) = 64#32 := rfl
  rw [hw]
  refine Eq.trans ?_ (eq1 r ⟨n.val / 64, by omega⟩)
  exact congrArg (fun x => IntOp.cmpi CmpIPredicate.eq (BitVec.ofNat 32 r.val) (IntOp.addi (IntOp.muli x 3#32) 1#32)) (head_eq n)
theorem V_e1 (c : Dev nD) (r : Fin 128) (n : Fin 512) : (show S3x128x512.Idx → EReal from V m c main_v32) (ix3 1 r n)
    = if r.val = n.val / 64 * 3 + 1 then 1 else 0 := by
  have key := congrArg (fun x : BitVec 1 => (FloatOps.uitofp (F := Ideal) FTy.bf16 x : EReal)) (m1 m c r n)
  have one : (FloatOps.uitofp (F := Ideal) FTy.bf16 (1#1) : EReal) = 1 := by simp [FloatOps.uitofp]
  have zero : (FloatOps.uitofp (F := Ideal) FTy.bf16 (0#1) : EReal) = 0 := by simp [FloatOps.uitofp]
  unfold V
  after_reads_at
  refine key.trans ?_
  · by_cases h : r.val = n.val / 64 * 3 + 1
    · simp only [if_pos h, one]
    · simp only [if_neg h, zero]

theorem eq2 : ∀ (r : Fin 128) (q : Fin 8), IntOp.cmpi CmpIPredicate.eq (BitVec.ofNat 32 r.val) (IntOp.addi (IntOp.muli (BitVec.ofNat 32 q.val) 3#32) 2#32)
    = if r.val = q.val * 3 + 2 then 1#1 else 0#1 := by decide +kernel
theorem m2 (c : Dev nD) (r : Fin 128) (n : Fin 512) :
    (StableHlo.upto [hostOps0, hostOps0_1, hostOps0_2, hostOps0_3, hostOps0_4].flatten (fun b => m (c, b)) 56 (Proc.tc.devRef main_v30) : S1x128x512.Idx → BitVec 1) (ix3 0 r n)
      = if r.val = n.val / 64 * 3 + 2 then 1#1 else 0#1 := by
  after_reads_at
  have hw : (id (constantI S_ 32 64#32) ix0 : BitVec 32) = 64#32 := rfl
  rw [hw]
  refine Eq.trans ?_ (eq2 r ⟨n.val / 64, by omega⟩)
  exact congrArg (fun x => IntOp.cmpi CmpIPredicate.eq (BitVec.ofNat 32 r.val) (IntOp.addi (IntOp.muli x 3#32) 2#32)) (head_eq n)
theorem V_e2 (c : Dev nD) (r : Fin 128) (n : Fin 512) : (show S3x128x512.Idx → EReal from V m c main_v32) (ix3 2 r n)
    = if r.val = n.val / 64 * 3 + 2 then 1 else 0 := by
  have key := congrArg (fun x : BitVec 1 => (FloatOps.uitofp (F := Ideal) FTy.bf16 x : EReal)) (m2 m c r n)
  have one : (FloatOps.uitofp (F := Ideal) FTy.bf16 (1#1) : EReal) = 1 := by simp [FloatOps.uitofp]
  have zero : (FloatOps.uitofp (F := Ideal) FTy.bf16 (0#1) : EReal) = 0 := by simp [FloatOps.uitofp]
  unfold V
  after_reads_at
  refine key.trans ?_
  · by_cases h : r.val = n.val / 64 * 3 + 2
    · simp only [if_pos h, one]
    · simp only [if_neg h, zero]
theorem V_b (c : Dev nD) (d : Fin 128) (h : d.val < 24) : (show S1x128.Idx → EReal from V m c main_v1) (ix2 0 d)
    = (show S24.Idx → EReal from m ((c : Thread nD τ).loc main_arg4)) (ix1 ⟨d.val, h⟩) := by
  unfold V
  after_reads_at
  exact dif_pos h
theorem V_0 (c : Dev nD) : V m c main_arg0 = m ((c : Thread nD τ).loc main_arg0) := by
  unfold V
  after_reads_simp
theorem V_1 (c : Dev nD) : V m c main_arg1 = m ((c : Thread nD τ).loc main_arg1) := by
  unfold V
  after_reads_simp
theorem V_2 (c : Dev nD) : V m c main_arg2 = m ((c : Thread nD τ).loc main_arg2) := by
  unfold V
  after_reads_simp
theorem V_3 (c : Dev nD) : V m c main_arg3 = m ((c : Thread nD τ).loc main_arg3) := by
  unfold V
  after_reads_simp

end Cert.Kernel8Ideal.Block
-- ==== Proof.CombClaims.lean ====
module

public import proofs.«01_k».proof.Defs
public import proofs.«01_k».proof.Proof.Gen.Kernel8.Frame
public import proofs.«01_k».proof.Proof.Gen.Kernel8Ideal.Frame
public import proofs.«01_k».proof.Proof.CombRef
public import proofs.«01_k».proof.Proof.CombBlock
public import proofs.«01_k».proof.Proof.CombHost
@[expose] public section

set_option maxRecDepth 16384
noncomputable section

/-! The claims about the gated sum of the three branches. -/

namespace Cert.Proof.Comb

open Cert.Kernel8Ideal.Block Cert.Kernel8Ideal.Gen
open Idealize.ShloMosaic Idealize.ShloMosaic.TcCoe Idealize.SL.Sem

theorem frame_p : Cert.quiescent_Kernel8 (hKernel8 := Cert.Kernel8.Gen.facts) := fun m ρ _ =>
  Cert.Kernel8.Gen.frame (F := Bits) m ρ

theorem frame_pi : Cert.quiescent_Kernel8Ideal (hKernel8Ideal := Cert.Kernel8Ideal.Gen.facts) := fun m ρ _ =>
  Cert.Kernel8Ideal.Gen.frame (F := Ideal) m ρ

theorem frame_ri : Cert.quiescent_Reference8Ideal (hReference8Ideal := Cert.Reference8Ideal.Gen.facts) := fun m ρ _ =>
  θ_run_mono (Cert.Reference8Ideal.Value.run (F := Ideal) m ρ) fun r h => ⟨fun c => (h c).2, sem_eq_zero_of_no_sems (by decide) r.2⟩

/-- A gate spread over its head's lanes is the gate of that head and branch. -/
theorem spread_at (y b e : Fin 128 → EReal) (k : ℕ) (hk : k < 128) (he : ∀ r : Fin 128, e r = if r.val = k then 1 else 0) :
    Cert.CombMath.spread (gate y b) e = Ideal.logistic (y ⟨k, hk⟩ + b ⟨k, hk⟩) :=
  Cert.CombMath.spread_eq _ _ ⟨k, hk⟩ (fun r => Cert.CombMath.logistic_sub _) fun r =>
    (he r).trans (if_congr (Fin.ext_iff (a := r) (b := ⟨k, hk⟩)).symm rfl rfl)

theorem result_eq (m : (ℓ : Loc Cert.Kernel8Ideal.nD Cert.Kernel8Ideal.τ Cert.Kernel8Ideal.sig) → Buf (Elt Ideal) ℓ)
    (c : Dev Cert.Kernel8Ideal.nD) :
    Cert.Reference8Ideal.At.whole (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) = result m c :=
  ext2 (a := 32768) (n := 512) fun n d => by
    have hd := d.isLt
    refine (Cert.Reference8Ideal.At.whole_at _ _ _ _ _ n d).trans (Eq.trans (Eq.symm ?_) (result_at m c n d).symm)
    unfold elt
    rw [spread_at _ _ _ (d.val / 64 * 3 + 0) (by omega) (fun r => V_e0 m c r d), spread_at _ _ _ (d.val / 64 * 3 + 1) (by omega) (fun r => V_e1 m c r d),
      spread_at _ _ _ (d.val / 64 * 3 + 2) (by omega) (fun r => V_e2 m c r d)]
    have b0 := V_b m c ⟨d.val / 64 * 3 + 0, by omega⟩ (by simp only; omega)
    have b1 := V_b m c ⟨d.val / 64 * 3 + 1, by omega⟩ (by simp only; omega)
    have b2 := V_b m c ⟨d.val / 64 * 3 + 2, by omega⟩ (by simp only; omega)
    refine congr (congrArg (fun x y : EReal => x + y) (congr (congrArg (fun x y : EReal => x + y) ?_) ?_)) ?_
    · refine congr (congrArg (fun x y : EReal => x * y) (congrArg Ideal.logistic (congr (congrArg (fun x y : EReal => x + y) ?_) b0))) ?_
      · exact congrFun (V_3 m c) _
      · exact congrFun (V_0 m c) _
    · refine congr (congrArg (fun x y : EReal => x * y) (congrArg Ideal.logistic (congr (congrArg (fun x y : EReal => x + y) ?_) b1))) ?_
      · exact congrFun (V_3 m c) _
      · exact congrFun (V_1 m c) _
    · refine congr (congrArg (fun x y : EReal => x * y) (congrArg Ideal.logistic (congr (congrArg (fun x y : EReal => x + y) ?_) b2))) ?_
      · exact congrFun (V_3 m c) _
      · exact congrFun (V_2 m c) _

theorem algebraic : Cert.algebraic_Kernel8Ideal_Reference8Ideal (hKernel8Ideal := Cert.Kernel8Ideal.Gen.facts) (hReference8Ideal := Cert.Reference8Ideal.Gen.facts) := by
  intro m ρ m' ρ' _ hagree
  refine ⟨fun c => result m c, ?_, ?_⟩
  · exact θ_run_mono (Cert.Kernel8Ideal.Value.run_blocks (F := Ideal) m ρ) fun r h c => ⟨(h c).1.trans (final m c), (h c).2⟩
  · refine θ_run_mono (Cert.Reference8Ideal.Value.run (F := Ideal) m' ρ') fun r h c => ⟨(h c).1.trans ?_, (h c).2⟩
    obtain ⟨h0, h1, h2, h3, h4⟩ := hagree c
    rw [h0, h1, h2, h3, h4]
    exact result_eq m c

end Cert.Proof.Comb
-- ==== Proof.lean ====
module

public import proofs.«01_k».proof.Defs
public import proofs.«01_k».proof.Proof.Claims
public import proofs.«01_k».proof.Proof.KLaunch
public import proofs.«01_k».proof.Proof.FfnClaims
public import proofs.«01_k».proof.Proof.Ffn3Claims
public import proofs.«01_k».proof.Proof.EvenClaims
public import proofs.«01_k».proof.Proof.OddClaims
public import proofs.«01_k».proof.Proof.LatClaims
public import proofs.«01_k».proof.Proof.KvClaims
public import proofs.«01_k».proof.Proof.CombClaims
public import Idealize.ShloMosaic.Adequacy
public import Idealize.ShloMosaic.Init

@[expose] public section

noncomputable section

/-! The claims together: the attention of the latent-attention layer, and the feed-forward part with and without the final norm, that gives the layer's
result, the input projections of the even and of the odd layers, the projections of the latent queries and of the latent keys and values, and the gated sum of the sparse attention's branches, each run and leave their arguments, as printed and at the ideal instance, and their results there are the
reference's: the plain masked softmax, the plain projection, norms and gated product, and the plain products with the first
sixteen entries of every head of queries and keys, or the last 32 entries of every latent head, rotated, or the shared part of the keys rotated and put beside
every head's own, and the plain sum of the branches times the sigmoids of their gates. -/

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel.Run.frame_p, Attention.frame_pi, Attention.frame_ri, Ffn.frame_p, Ffn.frame_pi, Ffn.frame_ri, Ffn3.frame_p, Ffn3.frame_pi, Ffn3.frame_ri,
    Even.frame_p, Even.frame_pi, Even.frame_ri, Odd.frame_p, Odd.frame_pi, Odd.frame_ri, Lat.frame_p, Lat.frame_pi, Lat.frame_ri,
    Kv.frame_p, Kv.frame_pi, Kv.frame_ri, Comb.frame_p, Comb.frame_pi, Comb.frame_ri,
    Attention.preserves, Attention.algebraic, trivial, Ffn.algebraic, trivial, Ffn3.algebraic, trivial, Even.algebraic, trivial, Odd.algebraic, trivial, Lat.algebraic, trivial, Kv.algebraic, trivial, Comb.algebraic⟩

end Cert.Proof

end
